-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 4096, 512]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 4096, 4, 64]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 4096, 4, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 4096, 512]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x4x64 : S_.BroadcastsInDim S2x128x4x64 (![] : Fin 0 → Fin S2x128x4x64.rank)
  reducesTo_S2x128x4x64_S_d0_1_2_3 : S2x128x4x64.ReducesTo [0, 1, 2, 3] S_

variable [Facts]

def fn {F : FTy → Type} [FloatOps F] (main_arg0 : FVec F S2x128x512 .bf16) (main_arg1 : FVec F S512x256 .bf16) (main_arg2 : FVec F S2x128x4x64 .bf16) (main_arg3 : FVec F S2x128x4x64 .bf16) (main_arg4 : FVec F S256x512 .bf16) : IVec S_ 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x128x4x64 .bf16 := Host.absf main_arg2
  let main_cst_2 : FVec F S_ .bf16 := constant S_ .bf16 0x7F80#16
  let main_v10 : FVec F S2x128x4x64 .bf16 := broadcastInDim S2x128x4x64 ![] bcast_S_S2x128x4x64 main_cst_2
  let main_v11 : IVec S2x128x4x64 1 := cmpf .olt main_v9 main_v10
  let main_c_3 : IVec S_ 1 := constantI S_ 1 1#1
  let main_v12 : IVec S_ 1 := (fun x v => Host.reduce IntOp.andi x v reducesTo_S2x128x4x64_S_d0_1_2_3 h_S_) main_v11 main_c_3
  let main_v13 : IVec S_ 1 := andi main_v8 main_v12
  main_v13
-- ==== Pre_finite_ReferenceIdeal.lean ====
abbrev S2x4096x512 : Shape := ⟨3, ![2, 4096, 512]⟩
abbrev S512x256 : Shape := ⟨2, ![512, 256]⟩
abbrev S2x4096x4x64 : Shape := ⟨4, ![2, 4096, 4, 64]⟩
abbrev S256x512 : Shape := ⟨2, ![256, 512]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x4096x4x64 : S_.BroadcastsInDim S2x4096x4x64 (![] : Fin 0 → Fin S2x4096x4x64.rank)
  reducesTo_S2x4096x4x64_S_d0_1_2_3 : S2x4096x4x64.ReducesTo [0, 1, 2, 3] S_

variable [Facts]

def fn {F : FTy → Type} [FloatOps F] (main_arg0 : FVec F S2x4096x512 .bf16) (main_arg1 : FVec F S512x256 .bf16) (main_arg2 : FVec F S2x4096x4x64 .bf16) (main_arg3 : FVec F S2x4096x4x64 .bf16) (main_arg4 : FVec F S256x512 .bf16) : IVec S_ 1 :=
  let main_v0 : FVec F S2x4096x512 .bf16 := Host.absf main_arg0
  let main_cst : FVec F S_ .bf16 := constant S_ .bf16 0x7F80#16
  let main_v1 : FVec F S2x4096x512 .bf16 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x4096x4x64 .bf16 := Host.absf main_arg2
  let main_cst_2 : FVec F S_ .bf16 := constant S_ .bf16 0x7F80#16
  let main_v10 : FVec F S2x4096x4x64 .bf16 := broadcastInDim S2x4096x4x64 ![] bcast_S_S2x4096x4x64 main_cst_2
  let main_v11 : IVec S2x4096x4x64 1 := cmpf .olt main_v9 main_v10
  let main_c_3 : IVec S_ 1 := constantI S_ 1 1#1
  let main_v12 : IVec S_ 1 := (fun x v => Host.reduce IntOp.andi x v reducesTo_S2x4096x4x64_S_d0_1_2_3 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S2x2x128x256 : Shape := ⟨4, ![2, 2, 128, 256]⟩
abbrev S2x2x2x128x256 : Shape := ⟨5, ![2, 2, 2, 128, 256]⟩
abbrev S3x2x32x256 : Shape := ⟨4, ![3, 2, 32, 256]⟩
abbrev S2x3x32x256 : Shape := ⟨4, ![2, 3, 32, 256]⟩
abbrev S5x2x3x32x256 : Shape := ⟨5, ![5, 2, 3, 32, 256]⟩
abbrev S2x128x256 : Shape := ⟨3, ![2, 128, 256]⟩
abbrev S2 : Shape := ⟨1, ![2]⟩
abbrev S32 : Shape := ⟨1, ![32]⟩
abbrev S1 : Shape := ⟨1, ![1]⟩
abbrev S5 : Shape := ⟨1, ![5]⟩
abbrev S_ : Shape := ⟨0, ![]⟩
abbrev S1x128x512 : Shape := ⟨3, ![1, 128, 512]⟩
abbrev S128x512 : Shape := ⟨2, ![128, 512]⟩
abbrev S128x256 : Shape := ⟨2, ![128, 256]⟩
abbrev S1x128x256 : Shape := ⟨3, ![1, 128, 256]⟩
abbrev S1x128x1x64 : Shape := ⟨4, ![1, 128, 1, 64]⟩
abbrev S128x64 : Shape := ⟨2, ![128, 64]⟩
abbrev S1x1x128x64 : Shape := ⟨4, ![1, 1, 128, 64]⟩
abbrev S1x2x2x128x256 : Shape := ⟨5, ![1, 2, 2, 128, 256]⟩
abbrev S1x2x128x256 : Shape := ⟨4, ![1, 2, 128, 256]⟩
abbrev S2x32x256 : Shape := ⟨3, ![2, 32, 256]⟩
abbrev S1x2x32x256 : Shape := ⟨4, ![1, 2, 32, 256]⟩
abbrev S1x32x64 : Shape := ⟨3, ![1, 32, 64]⟩
abbrev S32x64 : Shape := ⟨2, ![32, 64]⟩
abbrev S1x128x64 : Shape := ⟨3, ![1, 128, 64]⟩
abbrev S32x128 : Shape := ⟨2, ![32, 128]⟩
abbrev S32x1 : Shape := ⟨2, ![32, 1]⟩
abbrev S1x1x32x64 : Shape := ⟨4, ![1, 1, 32, 64]⟩
abbrev S1x2x3x32x256 : Shape := ⟨5, ![1, 2, 3, 32, 256]⟩
abbrev S1x1x2x128x256 : Shape := ⟨5, ![1, 1, 2, 128, 256]⟩
abbrev S2x416x256 : Shape := ⟨3, ![2, 416, 256]⟩
abbrev S128x416 : Shape := ⟨2, ![128, 416]⟩
abbrev S1x416x64 : Shape := ⟨3, ![1, 416, 64]⟩
abbrev S416x64 : Shape := ⟨2, ![416, 64]⟩
abbrev S128 : Shape := ⟨1, ![128]⟩
abbrev S128x1 : Shape := ⟨2, ![128, 1]⟩
abbrev S2x1x32x256 : Shape := ⟨4, ![2, 1, 32, 256]⟩
abbrev S1x2x1x32x256 : Shape := ⟨5, ![1, 2, 1, 32, 256]⟩

abbrev nBuf : Space → Nat
  | .hbm => 6
  | .vmem => 12
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x4x64, .bf16⟩
  | .hbm, ⟨3, _⟩ => ⟨S2x128x4x64, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x4x64, .bf16⟩
  | .local _ .vmem, ⟨3, _⟩ => ⟨S2x128x4x64, .bf16⟩
  | .local _ .vmem, ⟨4, _⟩ => ⟨S256x512, .bf16⟩
  | .local _ .vmem, ⟨5, _⟩ => ⟨S2x128x512, .f32⟩
  | .local _ .vmem, ⟨6, _⟩ => ⟨S2x2x128x256, .bf16⟩
  | .local _ .vmem, ⟨7, _⟩ => ⟨S2x2x2x128x256, .bf16⟩
  | .local _ .vmem, ⟨8, _⟩ => ⟨S3x2x32x256, .bf16⟩
  | .local _ .vmem, ⟨9, _⟩ => ⟨S2x3x32x256, .f32⟩
  | .local _ .vmem, ⟨10, _⟩ => ⟨S5x2x3x32x256, .f32⟩
  | .local _ .vmem, ⟨11, _⟩ => ⟨S2x128x256, .f32⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 2 → Bool
  | ⟨0, _⟩ => false
  | ⟨1, _⟩ => true
  | _ => false

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  (ofTc nBuf bufTy 2 49 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v9 : BitVec 32 := Scalar.addi v2 c1_i32_5
  let c32_i32_6 : BitVec 32 := 32#32
  let v10 : BitVec 32 := Scalar.remsi v9 c32_i32_6
  let c1_i32_8 : BitVec 32 := 1#32
  let v11 : BitVec 32 := Scalar.muli v10 c1_i32_8
  let v12 : BitVec 32 := Scalar.addi c0_i32 v11
  v12.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v13 : BitVec 32 := Scalar.addi v2 c2_i32
  let c32_i32_9 : BitVec 32 := 32#32
  let v14 : BitVec 32 := Scalar.remsi v13 c32_i32_9
  let c1_i32_11 : BitVec 32 := 1#32
  let v15 : BitVec 32 := Scalar.muli v14 c1_i32_11
  let v16 : BitVec 32 := Scalar.addi c0_i32_12 v15
  v16.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v17 : BitVec 32 := Scalar.addi v2 c3_i32
  let c32_i32_13 : BitVec 32 := 32#32
  let v18 : BitVec 32 := Scalar.remsi v17 c32_i32_13
  let c1_i32_15 : BitVec 32 := 1#32
  let v19 : BitVec 32 := Scalar.muli v18 c1_i32_15
  let v20 : BitVec 32 := Scalar.addi c0_i32_16 v19
  v20.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v21 : BitVec 32 := Scalar.addi v2 c4_i32
  let c32_i32_17 : BitVec 32 := 32#32
  let v22 : BitVec 32 := Scalar.remsi v21 c32_i32_17
  let c1_i32_19 : BitVec 32 := 1#32
  let v23 : BitVec 32 := Scalar.muli v22 c1_i32_19
  let v24 : BitVec 32 := Scalar.addi c0_i32_20 v23
  v24.toNat
def k0_dev5 (d0 : Dev nD) : Nat :=
  let c0_i32_24 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v25 : BitVec 32 := Scalar.addi v2 c5_i32
  let c32_i32_21 : BitVec 32 := 32#32
  let v26 : BitVec 32 := Scalar.remsi v25 c32_i32_21
  let c1_i32_23 : BitVec 32 := 1#32
  let v27 : BitVec 32 := Scalar.muli v26 c1_i32_23
  let v28 : BitVec 32 := Scalar.addi c0_i32_24 v27
  v28.toNat
def k0_dev6 (d0 : Dev nD) : Nat :=
  let c0_i32_28 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v29 : BitVec 32 := Scalar.addi v2 c6_i32
  let c32_i32_25 : BitVec 32 := 32#32
  let v30 : BitVec 32 := Scalar.remsi v29 c32_i32_25
  let c1_i32_27 : BitVec 32 := 1#32
  let v31 : BitVec 32 := Scalar.muli v30 c1_i32_27
  let v32 : BitVec 32 := Scalar.addi c0_i32_28 v31
  v32.toNat
def k0_dev7 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v33 : BitVec 32 := Scalar.addi v2 c7_i32
  let c32_i32_29 : BitVec 32 := 32#32
  let v34 : BitVec 32 := Scalar.remsi v33 c32_i32_29
  let c1_i32_31 : BitVec 32 := 1#32
  let v35 : BitVec 32 := Scalar.muli v34 c1_i32_31
  let v36 : BitVec 32 := Scalar.addi c0_i32_32 v35
  v36.toNat
def k0_dev8 (d0 : Dev nD) : Nat :=
  let c0_i32_36 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v37 : BitVec 32 := Scalar.addi v2 c8_i32
  let c32_i32_33 : BitVec 32 := 32#32
  let v38 : BitVec 32 := Scalar.remsi v37 c32_i32_33
  let c1_i32_35 : BitVec 32 := 1#32
  let v39 : BitVec 32 := Scalar.muli v38 c1_i32_35
  let v40 : BitVec 32 := Scalar.addi c0_i32_36 v39
  v40.toNat
def k0_dev9 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v41 : BitVec 32 := Scalar.addi v2 c9_i32
  let c32_i32_37 : BitVec 32 := 32#32
  let v42 : BitVec 32 := Scalar.remsi v41 c32_i32_37
  let c1_i32_39 : BitVec 32 := 1#32
  let v43 : BitVec 32 := Scalar.muli v42 c1_i32_39
  let v44 : BitVec 32 := Scalar.addi c0_i32_40 v43
  v44.toNat
def k0_dev10 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v45 : BitVec 32 := Scalar.addi v2 c10_i32
  let c32_i32_41 : BitVec 32 := 32#32
  let v46 : BitVec 32 := Scalar.remsi v45 c32_i32_41
  let c1_i32_43 : BitVec 32 := 1#32
  let v47 : BitVec 32 := Scalar.muli v46 c1_i32_43
  let v48 : BitVec 32 := Scalar.addi c0_i32_44 v47
  v48.toNat
def k0_dev11 (d0 : Dev nD) : Nat :=
  let c0_i32_48 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v49 : BitVec 32 := Scalar.addi v2 c11_i32
  let c32_i32_45 : BitVec 32 := 32#32
  let v50 : BitVec 32 := Scalar.remsi v49 c32_i32_45
  let c1_i32_47 : BitVec 32 := 1#32
  let v51 : BitVec 32 := Scalar.muli v50 c1_i32_47
  let v52 : BitVec 32 := Scalar.addi c0_i32_48 v51
  v52.toNat
def k0_dev12 (d0 : Dev nD) : Nat :=
  let c0_i32_52 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v53 : BitVec 32 := Scalar.addi v2 c12_i32
  let c32_i32_49 : BitVec 32 := 32#32
  let v54 : BitVec 32 := Scalar.remsi v53 c32_i32_49
  let c1_i32_51 : BitVec 32 := 1#32
  let v55 : BitVec 32 := Scalar.muli v54 c1_i32_51
  let v56 : BitVec 32 := Scalar.addi c0_i32_52 v55
  v56.toNat
def k0_dev13 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v57 : BitVec 32 := Scalar.addi v2 c13_i32
  let c32_i32_53 : BitVec 32 := 32#32
  let v58 : BitVec 32 := Scalar.remsi v57 c32_i32_53
  let c1_i32_55 : BitVec 32 := 1#32
  let v59 : BitVec 32 := Scalar.muli v58 c1_i32_55
  let v60 : BitVec 32 := Scalar.addi c0_i32_56 v59
  v60.toNat
def k0_dev14 (d0 : Dev nD) : Nat :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v61 : BitVec 32 := Scalar.addi v2 c14_i32
  let c32_i32_57 : BitVec 32 := 32#32
  let v62 : BitVec 32 := Scalar.remsi v61 c32_i32_57
  let c1_i32_59 : BitVec 32 := 1#32
  let v63 : BitVec 32 := Scalar.muli v62 c1_i32_59
  let v64 : BitVec 32 := Scalar.addi c0_i32_60 v63
  v64.toNat
def k0_dev15 (d0 : Dev nD) : Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v65 : BitVec 32 := Scalar.addi v2 c15_i32
  let c32_i32_61 : BitVec 32 := 32#32
  let v66 : BitVec 32 := Scalar.remsi v65 c32_i32_61
  let c1_i32_63 : BitVec 32 := 1#32
  let v67 : BitVec 32 := Scalar.muli v66 c1_i32_63
  let v68 : BitVec 32 := Scalar.addi c0_i32_64 v67
  v68.toNat
def k0_dev16 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v69 : BitVec 32 := Scalar.addi v2 c16_i32
  let c32_i32_65 : BitVec 32 := 32#32
  let v70 : BitVec 32 := Scalar.remsi v69 c32_i32_65
  let c1_i32_67 : BitVec 32 := 1#32
  let v71 : BitVec 32 := Scalar.muli v70 c1_i32_67
  let v72 : BitVec 32 := Scalar.addi c0_i32_68 v71
  v72.toNat
def k0_dev17 (d0 : Dev nD) : Nat :=
  let c0_i32_72 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v73 : BitVec 32 := Scalar.addi v2 c17_i32
  let c32_i32_69 : BitVec 32 := 32#32
  let v74 : BitVec 32 := Scalar.remsi v73 c32_i32_69
  let c1_i32_71 : BitVec 32 := 1#32
  let v75 : BitVec 32 := Scalar.muli v74 c1_i32_71
  let v76 : BitVec 32 := Scalar.addi c0_i32_72 v75
  v76.toNat
def k0_dev18 (d0 : Dev nD) : Nat :=
  let c0_i32_76 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v77 : BitVec 32 := Scalar.addi v2 c18_i32
  let c32_i32_73 : BitVec 32 := 32#32
  let v78 : BitVec 32 := Scalar.remsi v77 c32_i32_73
  let c1_i32_75 : BitVec 32 := 1#32
  let v79 : BitVec 32 := Scalar.muli v78 c1_i32_75
  let v80 : BitVec 32 := Scalar.addi c0_i32_76 v79
  v80.toNat
def k0_dev19 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v81 : BitVec 32 := Scalar.addi v2 c19_i32
  let c32_i32_77 : BitVec 32 := 32#32
  let v82 : BitVec 32 := Scalar.remsi v81 c32_i32_77
  let c1_i32_79 : BitVec 32 := 1#32
  let v83 : BitVec 32 := Scalar.muli v82 c1_i32_79
  let v84 : BitVec 32 := Scalar.addi c0_i32_80 v83
  v84.toNat
def k0_dev20 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v85 : BitVec 32 := Scalar.addi v2 c20_i32
  let c32_i32_81 : BitVec 32 := 32#32
  let v86 : BitVec 32 := Scalar.remsi v85 c32_i32_81
  let c1_i32_83 : BitVec 32 := 1#32
  let v87 : BitVec 32 := Scalar.muli v86 c1_i32_83
  let v88 : BitVec 32 := Scalar.addi c0_i32_84 v87
  v88.toNat
def k0_dev21 (d0 : Dev nD) : Nat :=
  let c0_i32_88 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v89 : BitVec 32 := Scalar.addi v2 c21_i32
  let c32_i32_85 : BitVec 32 := 32#32
  let v90 : BitVec 32 := Scalar.remsi v89 c32_i32_85
  let c1_i32_87 : BitVec 32 := 1#32
  let v91 : BitVec 32 := Scalar.muli v90 c1_i32_87
  let v92 : BitVec 32 := Scalar.addi c0_i32_88 v91
  v92.toNat
def k0_dev22 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v93 : BitVec 32 := Scalar.addi v2 c22_i32
  let c32_i32_89 : BitVec 32 := 32#32
  let v94 : BitVec 32 := Scalar.remsi v93 c32_i32_89
  let c1_i32_91 : BitVec 32 := 1#32
  let v95 : BitVec 32 := Scalar.muli v94 c1_i32_91
  let v96 : BitVec 32 := Scalar.addi c0_i32_92 v95
  v96.toNat
def k0_dev23 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v97 : BitVec 32 := Scalar.addi v2 c23_i32
  let c32_i32_93 : BitVec 32 := 32#32
  let v98 : BitVec 32 := Scalar.remsi v97 c32_i32_93
  let c1_i32_95 : BitVec 32 := 1#32
  let v99 : BitVec 32 := Scalar.muli v98 c1_i32_95
  let v100 : BitVec 32 := Scalar.addi c0_i32_96 v99
  v100.toNat
def k0_dev24 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v101 : BitVec 32 := Scalar.addi v2 c24_i32
  let c32_i32_97 : BitVec 32 := 32#32
  let v102 : BitVec 32 := Scalar.remsi v101 c32_i32_97
  let c1_i32_99 : BitVec 32 := 1#32
  let v103 : BitVec 32 := Scalar.muli v102 c1_i32_99
  let v104 : BitVec 32 := Scalar.addi c0_i32_100 v103
  v104.toNat
def k0_dev25 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v105 : BitVec 32 := Scalar.addi v2 c25_i32
  let c32_i32_101 : BitVec 32 := 32#32
  let v106 : BitVec 32 := Scalar.remsi v105 c32_i32_101
  let c1_i32_103 : BitVec 32 := 1#32
  let v107 : BitVec 32 := Scalar.muli v106 c1_i32_103
  let v108 : BitVec 32 := Scalar.addi c0_i32_104 v107
  v108.toNat
def k0_dev26 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v109 : BitVec 32 := Scalar.addi v2 c26_i32
  let c32_i32_105 : BitVec 32 := 32#32
  let v110 : BitVec 32 := Scalar.remsi v109 c32_i32_105
  let c1_i32_107 : BitVec 32 := 1#32
  let v111 : BitVec 32 := Scalar.muli v110 c1_i32_107
  let v112 : BitVec 32 := Scalar.addi c0_i32_108 v111
  v112.toNat
def k0_dev27 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v113 : BitVec 32 := Scalar.addi v2 c27_i32
  let c32_i32_109 : BitVec 32 := 32#32
  let v114 : BitVec 32 := Scalar.remsi v113 c32_i32_109
  let c1_i32_111 : BitVec 32 := 1#32
  let v115 : BitVec 32 := Scalar.muli v114 c1_i32_111
  let v116 : BitVec 32 := Scalar.addi c0_i32_112 v115
  v116.toNat
def k0_dev28 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v117 : BitVec 32 := Scalar.addi v2 c28_i32
  let c32_i32_113 : BitVec 32 := 32#32
  let v118 : BitVec 32 := Scalar.remsi v117 c32_i32_113
  let c1_i32_115 : BitVec 32 := 1#32
  let v119 : BitVec 32 := Scalar.muli v118 c1_i32_115
  let v120 : BitVec 32 := Scalar.addi c0_i32_116 v119
  v120.toNat
def k0_dev29 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v121 : BitVec 32 := Scalar.addi v2 c29_i32
  let c32_i32_117 : BitVec 32 := 32#32
  let v122 : BitVec 32 := Scalar.remsi v121 c32_i32_117
  let c1_i32_119 : BitVec 32 := 1#32
  let v123 : BitVec 32 := Scalar.muli v122 c1_i32_119
  let v124 : BitVec 32 := Scalar.addi c0_i32_120 v123
  v124.toNat
def k0_dev30 (d0 : Dev nD) : Nat :=
  let c0_i32_124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v125 : BitVec 32 := Scalar.addi v2 c30_i32
  let c32_i32_121 : BitVec 32 := 32#32
  let v126 : BitVec 32 := Scalar.remsi v125 c32_i32_121
  let c1_i32_123 : BitVec 32 := 1#32
  let v127 : BitVec 32 := Scalar.muli v126 c1_i32_123
  let v128 : BitVec 32 := Scalar.addi c0_i32_124 v127
  v128.toNat
def k0_dev31 (d0 : Dev nD) : Nat :=
  let c0_i32_128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v129 : BitVec 32 := Scalar.addi v2 c31_i32
  let c32_i32_125 : BitVec 32 := 32#32
  let v130 : BitVec 32 := Scalar.remsi v129 c32_i32_125
  let c1_i32_127 : BitVec 32 := 1#32
  let v131 : BitVec 32 := Scalar.muli v130 c1_i32_127
  let v132 : BitVec 32 := Scalar.addi c0_i32_128 v131
  v132.toNat
def k0_dev32 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_263 : BitVec 32 := 1#32
  let v226 : BitVec 32 := Scalar.muli v7 c1_i32_263
  let v227 : BitVec 32 := Scalar.addi c0_i32_264 v226
  v227.toNat
def k0_dev33 (d0 : Dev nD) : Nat :=
  let c0_i32_273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_272 : BitVec 32 := 1#32
  let v234 : BitVec 32 := Scalar.muli v5 c1_i32_272
  let v235 : BitVec 32 := Scalar.addi c0_i32_273 v234
  v235.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_278 : BitVec 32 := 0#32
  let v242 : BitVec 1 := Scalar.cmpi .eq v2 c0_i32_278
  let v243 : BitVec 32 := Scalar.extui v242
  let c0_i32_279 : BitVec 32 := 0#32
  let v244 : BitVec 1 := Scalar.cmpi .ne v243 c0_i32_279
  v244

def k0_dev34 : Nat :=
  let c0_i32_745 : BitVec 32 := 0#32
  let c1_i32_743 : BitVec 32 := 1#32
  let c1_i32_744 : BitVec 32 := 1#32
  let v908 : BitVec 32 := Scalar.muli c1_i32_743 c1_i32_744
  let v909 : BitVec 32 := Scalar.addi c0_i32_745 v908
  v909.toNat
def k0_dev35 : Nat :=
  let c0_i32_750 : BitVec 32 := 0#32
  let c2_i32_748 : BitVec 32 := 2#32
  let c1_i32_749 : BitVec 32 := 1#32
  let v914 : BitVec 32 := Scalar.muli c2_i32_748 c1_i32_749
  let v915 : BitVec 32 := Scalar.addi c0_i32_750 v914
  v915.toNat
def k0_dev36 : Nat :=
  let c0_i32_755 : BitVec 32 := 0#32
  let c3_i32_753 : BitVec 32 := 3#32
  let c1_i32_754 : BitVec 32 := 1#32
  let v920 : BitVec 32 := Scalar.muli c3_i32_753 c1_i32_754
  let v921 : BitVec 32 := Scalar.addi c0_i32_755 v920
  v921.toNat
def k0_dev37 : Nat :=
  let c0_i32_760 : BitVec 32 := 0#32
  let c4_i32_758 : BitVec 32 := 4#32
  let c1_i32_759 : BitVec 32 := 1#32
  let v926 : BitVec 32 := Scalar.muli c4_i32_758 c1_i32_759
  let v927 : BitVec 32 := Scalar.addi c0_i32_760 v926
  v927.toNat
def k0_dev38 : Nat :=
  let c0_i32_765 : BitVec 32 := 0#32
  let c5_i32_763 : BitVec 32 := 5#32
  let c1_i32_764 : BitVec 32 := 1#32
  let v932 : BitVec 32 := Scalar.muli c5_i32_763 c1_i32_764
  let v933 : BitVec 32 := Scalar.addi c0_i32_765 v932
  v933.toNat
def k0_dev39 : Nat :=
  let c0_i32_770 : BitVec 32 := 0#32
  let c6_i32_768 : BitVec 32 := 6#32
  let c1_i32_769 : BitVec 32 := 1#32
  let v938 : BitVec 32 := Scalar.muli c6_i32_768 c1_i32_769
  let v939 : BitVec 32 := Scalar.addi c0_i32_770 v938
  v939.toNat
def k0_dev40 : Nat :=
  let c0_i32_775 : BitVec 32 := 0#32
  let c7_i32_773 : BitVec 32 := 7#32
  let c1_i32_774 : BitVec 32 := 1#32
  let v944 : BitVec 32 := Scalar.muli c7_i32_773 c1_i32_774
  let v945 : BitVec 32 := Scalar.addi c0_i32_775 v944
  v945.toNat
def k0_dev41 : Nat :=
  let c0_i32_780 : BitVec 32 := 0#32
  let c8_i32_778 : BitVec 32 := 8#32
  let c1_i32_779 : BitVec 32 := 1#32
  let v950 : BitVec 32 := Scalar.muli c8_i32_778 c1_i32_779
  let v951 : BitVec 32 := Scalar.addi c0_i32_780 v950
  v951.toNat
def k0_dev42 : Nat :=
  let c0_i32_785 : BitVec 32 := 0#32
  let c9_i32_783 : BitVec 32 := 9#32
  let c1_i32_784 : BitVec 32 := 1#32
  let v956 : BitVec 32 := Scalar.muli c9_i32_783 c1_i32_784
  let v957 : BitVec 32 := Scalar.addi c0_i32_785 v956
  v957.toNat
def k0_dev43 : Nat :=
  let c0_i32_790 : BitVec 32 := 0#32
  let c10_i32_788 : BitVec 32 := 10#32
  let c1_i32_789 : BitVec 32 := 1#32
  let v962 : BitVec 32 := Scalar.muli c10_i32_788 c1_i32_789
  let v963 : BitVec 32 := Scalar.addi c0_i32_790 v962
  v963.toNat
def k0_dev44 : Nat :=
  let c0_i32_795 : BitVec 32 := 0#32
  let c11_i32_793 : BitVec 32 := 11#32
  let c1_i32_794 : BitVec 32 := 1#32
  let v968 : BitVec 32 := Scalar.muli c11_i32_793 c1_i32_794
  let v969 : BitVec 32 := Scalar.addi c0_i32_795 v968
  v969.toNat
def k0_dev45 : Nat :=
  let c0_i32_800 : BitVec 32 := 0#32
  let c12_i32_798 : BitVec 32 := 12#32
  let c1_i32_799 : BitVec 32 := 1#32
  let v974 : BitVec 32 := Scalar.muli c12_i32_798 c1_i32_799
  let v975 : BitVec 32 := Scalar.addi c0_i32_800 v974
  v975.toNat
def k0_dev46 : Nat :=
  let c0_i32_805 : BitVec 32 := 0#32
  let c13_i32_803 : BitVec 32 := 13#32
  let c1_i32_804 : BitVec 32 := 1#32
  let v980 : BitVec 32 := Scalar.muli c13_i32_803 c1_i32_804
  let v981 : BitVec 32 := Scalar.addi c0_i32_805 v980
  v981.toNat
def k0_dev47 : Nat :=
  let c0_i32_810 : BitVec 32 := 0#32
  let c14_i32_808 : BitVec 32 := 14#32
  let c1_i32_809 : BitVec 32 := 1#32
  let v986 : BitVec 32 := Scalar.muli c14_i32_808 c1_i32_809
  let v987 : BitVec 32 := Scalar.addi c0_i32_810 v986
  v987.toNat
def k0_dev48 : Nat :=
  let c0_i32_815 : BitVec 32 := 0#32
  let c15_i32_813 : BitVec 32 := 15#32
  let c1_i32_814 : BitVec 32 := 1#32
  let v992 : BitVec 32 := Scalar.muli c15_i32_813 c1_i32_814
  let v993 : BitVec 32 := Scalar.addi c0_i32_815 v992
  v993.toNat
def k0_dev49 : Nat :=
  let c0_i32_820 : BitVec 32 := 0#32
  let c16_i32_818 : BitVec 32 := 16#32
  let c1_i32_819 : BitVec 32 := 1#32
  let v998 : BitVec 32 := Scalar.muli c16_i32_818 c1_i32_819
  let v999 : BitVec 32 := Scalar.addi c0_i32_820 v998
  v999.toNat
def k0_dev50 : Nat :=
  let c0_i32_825 : BitVec 32 := 0#32
  let c17_i32_823 : BitVec 32 := 17#32
  let c1_i32_824 : BitVec 32 := 1#32
  let v1004 : BitVec 32 := Scalar.muli c17_i32_823 c1_i32_824
  let v1005 : BitVec 32 := Scalar.addi c0_i32_825 v1004
  v1005.toNat
def k0_dev51 : Nat :=
  let c0_i32_830 : BitVec 32 := 0#32
  let c18_i32_828 : BitVec 32 := 18#32
  let c1_i32_829 : BitVec 32 := 1#32
  let v1010 : BitVec 32 := Scalar.muli c18_i32_828 c1_i32_829
  let v1011 : BitVec 32 := Scalar.addi c0_i32_830 v1010
  v1011.toNat
def k0_dev52 : Nat :=
  let c0_i32_835 : BitVec 32 := 0#32
  let c19_i32_833 : BitVec 32 := 19#32
  let c1_i32_834 : BitVec 32 := 1#32
  let v1016 : BitVec 32 := Scalar.muli c19_i32_833 c1_i32_834
  let v1017 : BitVec 32 := Scalar.addi c0_i32_835 v1016
  v1017.toNat
def k0_dev53 : Nat :=
  let c0_i32_840 : BitVec 32 := 0#32
  let c20_i32_838 : BitVec 32 := 20#32
  let c1_i32_839 : BitVec 32 := 1#32
  let v1022 : BitVec 32 := Scalar.muli c20_i32_838 c1_i32_839
  let v1023 : BitVec 32 := Scalar.addi c0_i32_840 v1022
  v1023.toNat
def k0_dev54 : Nat :=
  let c0_i32_845 : BitVec 32 := 0#32
  let c21_i32_843 : BitVec 32 := 21#32
  let c1_i32_844 : BitVec 32 := 1#32
  let v1028 : BitVec 32 := Scalar.muli c21_i32_843 c1_i32_844
  let v1029 : BitVec 32 := Scalar.addi c0_i32_845 v1028
  v1029.toNat
def k0_dev55 : Nat :=
  let c0_i32_850 : BitVec 32 := 0#32
  let c22_i32_848 : BitVec 32 := 22#32
  let c1_i32_849 : BitVec 32 := 1#32
  let v1034 : BitVec 32 := Scalar.muli c22_i32_848 c1_i32_849
  let v1035 : BitVec 32 := Scalar.addi c0_i32_850 v1034
  v1035.toNat
def k0_dev56 : Nat :=
  let c0_i32_855 : BitVec 32 := 0#32
  let c23_i32_853 : BitVec 32 := 23#32
  let c1_i32_854 : BitVec 32 := 1#32
  let v1040 : BitVec 32 := Scalar.muli c23_i32_853 c1_i32_854
  let v1041 : BitVec 32 := Scalar.addi c0_i32_855 v1040
  v1041.toNat
def k0_dev57 : Nat :=
  let c0_i32_860 : BitVec 32 := 0#32
  let c24_i32_858 : BitVec 32 := 24#32
  let c1_i32_859 : BitVec 32 := 1#32
  let v1046 : BitVec 32 := Scalar.muli c24_i32_858 c1_i32_859
  let v1047 : BitVec 32 := Scalar.addi c0_i32_860 v1046
  v1047.toNat
def k0_dev58 : Nat :=
  let c0_i32_865 : BitVec 32 := 0#32
  let c25_i32_863 : BitVec 32 := 25#32
  let c1_i32_864 : BitVec 32 := 1#32
  let v1052 : BitVec 32 := Scalar.muli c25_i32_863 c1_i32_864
  let v1053 : BitVec 32 := Scalar.addi c0_i32_865 v1052
  v1053.toNat
def k0_dev59 : Nat :=
  let c0_i32_870 : BitVec 32 := 0#32
  let c26_i32_868 : BitVec 32 := 26#32
  let c1_i32_869 : BitVec 32 := 1#32
  let v1058 : BitVec 32 := Scalar.muli c26_i32_868 c1_i32_869
  let v1059 : BitVec 32 := Scalar.addi c0_i32_870 v1058
  v1059.toNat
def k0_dev60 : Nat :=
  let c0_i32_875 : BitVec 32 := 0#32
  let c27_i32_873 : BitVec 32 := 27#32
  let c1_i32_874 : BitVec 32 := 1#32
  let v1064 : BitVec 32 := Scalar.muli c27_i32_873 c1_i32_874
  let v1065 : BitVec 32 := Scalar.addi c0_i32_875 v1064
  v1065.toNat
def k0_dev61 : Nat :=
  let c0_i32_880 : BitVec 32 := 0#32
  let c28_i32_878 : BitVec 32 := 28#32
  let c1_i32_879 : BitVec 32 := 1#32
  let v1070 : BitVec 32 := Scalar.muli c28_i32_878 c1_i32_879
  let v1071 : BitVec 32 := Scalar.addi c0_i32_880 v1070
  v1071.toNat
def k0_dev62 : Nat :=
  let c0_i32_885 : BitVec 32 := 0#32
  let c29_i32_883 : BitVec 32 := 29#32
  let c1_i32_884 : BitVec 32 := 1#32
  let v1076 : BitVec 32 := Scalar.muli c29_i32_883 c1_i32_884
  let v1077 : BitVec 32 := Scalar.addi c0_i32_885 v1076
  v1077.toNat
def k0_dev63 : Nat :=
  let c0_i32_890 : BitVec 32 := 0#32
  let c30_i32_888 : BitVec 32 := 30#32
  let c1_i32_889 : BitVec 32 := 1#32
  let v1082 : BitVec 32 := Scalar.muli c30_i32_888 c1_i32_889
  let v1083 : BitVec 32 := Scalar.addi c0_i32_890 v1082
  v1083.toNat
def k0_dev64 : Nat :=
  let c0_i32_895 : BitVec 32 := 0#32
  let c31_i32_893 : BitVec 32 := 31#32
  let c1_i32_894 : BitVec 32 := 1#32
  let v1088 : BitVec 32 := Scalar.muli c31_i32_893 c1_i32_894
  let v1089 : BitVec 32 := Scalar.addi c0_i32_895 v1088
  v1089.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_514 : BitVec 32 := 1#32
  let v544 : BitVec 32 := Scalar.andi v2 c1_i32_514
  let c1_i32_515 : BitVec 32 := 1#32
  let v545 : BitVec 1 := Scalar.cmpi .eq v544 c1_i32_515
  let v546 : BitVec 32 := Scalar.extui v545
  let c0_i32_516 : BitVec 32 := 0#32
  let v547 : BitVec 1 := Scalar.cmpi .ne v546 c0_i32_516
  v547

def k0_dev65 (d0 : Dev nD) : Nat :=
  let c0_i32_726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_721 : BitVec 32 := 1#32
  let v892 : BitVec 32 := Scalar.subi v2 c1_i32_721
  let c1_i32_725 : BitVec 32 := 1#32
  let v893 : BitVec 32 := Scalar.muli v892 c1_i32_725
  let v894 : BitVec 32 := Scalar.addi c0_i32_726 v893
  v894.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_662 : BitVec 32 := 3#32
  let v831 : BitVec 32 := Scalar.andi v2 c3_i32_662
  let c2_i32_663 : BitVec 32 := 2#32
  let v832 : BitVec 1 := Scalar.cmpi .eq v831 c2_i32_663
  let v833 : BitVec 32 := Scalar.extui v832
  let c0_i32_664 : BitVec 32 := 0#32
  let v834 : BitVec 1 := Scalar.cmpi .ne v833 c0_i32_664
  v834

def k0_dev66 (d0 : Dev nD) : Nat :=
  let c0_i32_726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_721 : BitVec 32 := 2#32
  let v892 : BitVec 32 := Scalar.subi v2 c2_i32_721
  let c1_i32_725 : BitVec 32 := 1#32
  let v893 : BitVec 32 := Scalar.muli v892 c1_i32_725
  let v894 : BitVec 32 := Scalar.addi c0_i32_726 v893
  v894.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_668 : BitVec 32 := 7#32
  let v839 : BitVec 32 := Scalar.andi v2 c7_i32_668
  let c4_i32_669 : BitVec 32 := 4#32
  let v840 : BitVec 1 := Scalar.cmpi .eq v839 c4_i32_669
  let v841 : BitVec 32 := Scalar.extui v840
  let c0_i32_670 : BitVec 32 := 0#32
  let v842 : BitVec 1 := Scalar.cmpi .ne v841 c0_i32_670
  v842

def k0_dev67 (d0 : Dev nD) : Nat :=
  let c0_i32_726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_721 : BitVec 32 := 4#32
  let v892 : BitVec 32 := Scalar.subi v2 c4_i32_721
  let c1_i32_725 : BitVec 32 := 1#32
  let v893 : BitVec 32 := Scalar.muli v892 c1_i32_725
  let v894 : BitVec 32 := Scalar.addi c0_i32_726 v893
  v894.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_674 : BitVec 32 := 15#32
  let v847 : BitVec 32 := Scalar.andi v2 c15_i32_674
  let c8_i32_675 : BitVec 32 := 8#32
  let v848 : BitVec 1 := Scalar.cmpi .eq v847 c8_i32_675
  let v849 : BitVec 32 := Scalar.extui v848
  let c0_i32_676 : BitVec 32 := 0#32
  let v850 : BitVec 1 := Scalar.cmpi .ne v849 c0_i32_676
  v850

def k0_dev68 (d0 : Dev nD) : Nat :=
  let c0_i32_726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_721 : BitVec 32 := 8#32
  let v892 : BitVec 32 := Scalar.subi v2 c8_i32_721
  let c1_i32_725 : BitVec 32 := 1#32
  let v893 : BitVec 32 := Scalar.muli v892 c1_i32_725
  let v894 : BitVec 32 := Scalar.addi c0_i32_726 v893
  v894.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_680 : BitVec 32 := 31#32
  let v855 : BitVec 32 := Scalar.andi v2 c31_i32_680
  let c16_i32_681 : BitVec 32 := 16#32
  let v856 : BitVec 1 := Scalar.cmpi .eq v855 c16_i32_681
  let v857 : BitVec 32 := Scalar.extui v856
  let c0_i32_682 : BitVec 32 := 0#32
  let v858 : BitVec 1 := Scalar.cmpi .ne v857 c0_i32_682
  v858

def k0_dev69 (d0 : Dev nD) : Nat :=
  let c0_i32_726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_721 : BitVec 32 := 16#32
  let v892 : BitVec 32 := Scalar.subi v2 c16_i32_721
  let c1_i32_725 : BitVec 32 := 1#32
  let v893 : BitVec 32 := Scalar.muli v892 c1_i32_725
  let v894 : BitVec 32 := Scalar.addi c0_i32_726 v893
  v894.toNat
def k0_dev70 (d0 : Dev nD) : Nat :=
  let c0_i32_725_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_721_r0 : BitVec 32 := 1#32
  let v893_r0 : BitVec 32 := Scalar.addi v2 c1_i32_721_r0
  let c32_i32_722_r0 : BitVec 32 := 32#32
  let v894_r0 : BitVec 32 := Scalar.remsi v893_r0 c32_i32_722_r0
  let c1_i32_724_r0 : BitVec 32 := 1#32
  let v895_r0 : BitVec 32 := Scalar.muli v894_r0 c1_i32_724_r0
  let v896_r0 : BitVec 32 := Scalar.addi c0_i32_725_r0 v895_r0
  v896_r0.toNat
def k0_dev71 (d0 : Dev nD) : Nat :=
  let c0_i32_730_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_726_r0 : BitVec 32 := 2#32
  let v897_r0 : BitVec 32 := Scalar.addi v2 c2_i32_726_r0
  let c32_i32_727_r0 : BitVec 32 := 32#32
  let v898_r0 : BitVec 32 := Scalar.remsi v897_r0 c32_i32_727_r0
  let c1_i32_729_r0 : BitVec 32 := 1#32
  let v899_r0 : BitVec 32 := Scalar.muli v898_r0 c1_i32_729_r0
  let v900_r0 : BitVec 32 := Scalar.addi c0_i32_730_r0 v899_r0
  v900_r0.toNat
def k0_dev72 (d0 : Dev nD) : Nat :=
  let c0_i32_735_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_731_r0 : BitVec 32 := 3#32
  let v901_r0 : BitVec 32 := Scalar.addi v2 c3_i32_731_r0
  let c32_i32_732_r0 : BitVec 32 := 32#32
  let v902_r0 : BitVec 32 := Scalar.remsi v901_r0 c32_i32_732_r0
  let c1_i32_734_r0 : BitVec 32 := 1#32
  let v903_r0 : BitVec 32 := Scalar.muli v902_r0 c1_i32_734_r0
  let v904_r0 : BitVec 32 := Scalar.addi c0_i32_735_r0 v903_r0
  v904_r0.toNat
def k0_dev73 (d0 : Dev nD) : Nat :=
  let c0_i32_740_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_736_r0 : BitVec 32 := 4#32
  let v905_r0 : BitVec 32 := Scalar.addi v2 c4_i32_736_r0
  let c32_i32_737_r0 : BitVec 32 := 32#32
  let v906_r0 : BitVec 32 := Scalar.remsi v905_r0 c32_i32_737_r0
  let c1_i32_739_r0 : BitVec 32 := 1#32
  let v907_r0 : BitVec 32 := Scalar.muli v906_r0 c1_i32_739_r0
  let v908_r0 : BitVec 32 := Scalar.addi c0_i32_740_r0 v907_r0
  v908_r0.toNat
def k0_dev74 (d0 : Dev nD) : Nat :=
  let c0_i32_745_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_741_r0 : BitVec 32 := 5#32
  let v909_r0 : BitVec 32 := Scalar.addi v2 c5_i32_741_r0
  let c32_i32_742_r0 : BitVec 32 := 32#32
  let v910_r0 : BitVec 32 := Scalar.remsi v909_r0 c32_i32_742_r0
  let c1_i32_744_r0 : BitVec 32 := 1#32
  let v911_r0 : BitVec 32 := Scalar.muli v910_r0 c1_i32_744_r0
  let v912_r0 : BitVec 32 := Scalar.addi c0_i32_745_r0 v911_r0
  v912_r0.toNat
def k0_dev75 (d0 : Dev nD) : Nat :=
  let c0_i32_750_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_746_r0 : BitVec 32 := 6#32
  let v913_r0 : BitVec 32 := Scalar.addi v2 c6_i32_746_r0
  let c32_i32_747_r0 : BitVec 32 := 32#32
  let v914_r0 : BitVec 32 := Scalar.remsi v913_r0 c32_i32_747_r0
  let c1_i32_749_r0 : BitVec 32 := 1#32
  let v915_r0 : BitVec 32 := Scalar.muli v914_r0 c1_i32_749_r0
  let v916_r0 : BitVec 32 := Scalar.addi c0_i32_750_r0 v915_r0
  v916_r0.toNat
def k0_dev76 (d0 : Dev nD) : Nat :=
  let c0_i32_755_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_751_r0 : BitVec 32 := 7#32
  let v917_r0 : BitVec 32 := Scalar.addi v2 c7_i32_751_r0
  let c32_i32_752_r0 : BitVec 32 := 32#32
  let v918_r0 : BitVec 32 := Scalar.remsi v917_r0 c32_i32_752_r0
  let c1_i32_754_r0 : BitVec 32 := 1#32
  let v919_r0 : BitVec 32 := Scalar.muli v918_r0 c1_i32_754_r0
  let v920_r0 : BitVec 32 := Scalar.addi c0_i32_755_r0 v919_r0
  v920_r0.toNat
def k0_dev77 (d0 : Dev nD) : Nat :=
  let c0_i32_760_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_756_r0 : BitVec 32 := 8#32
  let v921_r0 : BitVec 32 := Scalar.addi v2 c8_i32_756_r0
  let c32_i32_757_r0 : BitVec 32 := 32#32
  let v922_r0 : BitVec 32 := Scalar.remsi v921_r0 c32_i32_757_r0
  let c1_i32_759_r0 : BitVec 32 := 1#32
  let v923_r0 : BitVec 32 := Scalar.muli v922_r0 c1_i32_759_r0
  let v924_r0 : BitVec 32 := Scalar.addi c0_i32_760_r0 v923_r0
  v924_r0.toNat
def k0_dev78 (d0 : Dev nD) : Nat :=
  let c0_i32_765_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_761_r0 : BitVec 32 := 9#32
  let v925_r0 : BitVec 32 := Scalar.addi v2 c9_i32_761_r0
  let c32_i32_762_r0 : BitVec 32 := 32#32
  let v926_r0 : BitVec 32 := Scalar.remsi v925_r0 c32_i32_762_r0
  let c1_i32_764_r0 : BitVec 32 := 1#32
  let v927_r0 : BitVec 32 := Scalar.muli v926_r0 c1_i32_764_r0
  let v928_r0 : BitVec 32 := Scalar.addi c0_i32_765_r0 v927_r0
  v928_r0.toNat
def k0_dev79 (d0 : Dev nD) : Nat :=
  let c0_i32_770_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_766_r0 : BitVec 32 := 10#32
  let v929_r0 : BitVec 32 := Scalar.addi v2 c10_i32_766_r0
  let c32_i32_767_r0 : BitVec 32 := 32#32
  let v930_r0 : BitVec 32 := Scalar.remsi v929_r0 c32_i32_767_r0
  let c1_i32_769_r0 : BitVec 32 := 1#32
  let v931_r0 : BitVec 32 := Scalar.muli v930_r0 c1_i32_769_r0
  let v932_r0 : BitVec 32 := Scalar.addi c0_i32_770_r0 v931_r0
  v932_r0.toNat
def k0_dev80 (d0 : Dev nD) : Nat :=
  let c0_i32_775_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_771_r0 : BitVec 32 := 11#32
  let v933_r0 : BitVec 32 := Scalar.addi v2 c11_i32_771_r0
  let c32_i32_772_r0 : BitVec 32 := 32#32
  let v934_r0 : BitVec 32 := Scalar.remsi v933_r0 c32_i32_772_r0
  let c1_i32_774_r0 : BitVec 32 := 1#32
  let v935_r0 : BitVec 32 := Scalar.muli v934_r0 c1_i32_774_r0
  let v936_r0 : BitVec 32 := Scalar.addi c0_i32_775_r0 v935_r0
  v936_r0.toNat
def k0_dev81 (d0 : Dev nD) : Nat :=
  let c0_i32_780_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_776_r0 : BitVec 32 := 12#32
  let v937_r0 : BitVec 32 := Scalar.addi v2 c12_i32_776_r0
  let c32_i32_777_r0 : BitVec 32 := 32#32
  let v938_r0 : BitVec 32 := Scalar.remsi v937_r0 c32_i32_777_r0
  let c1_i32_779_r0 : BitVec 32 := 1#32
  let v939_r0 : BitVec 32 := Scalar.muli v938_r0 c1_i32_779_r0
  let v940_r0 : BitVec 32 := Scalar.addi c0_i32_780_r0 v939_r0
  v940_r0.toNat
def k0_dev82 (d0 : Dev nD) : Nat :=
  let c0_i32_785_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_781_r0 : BitVec 32 := 13#32
  let v941_r0 : BitVec 32 := Scalar.addi v2 c13_i32_781_r0
  let c32_i32_782_r0 : BitVec 32 := 32#32
  let v942_r0 : BitVec 32 := Scalar.remsi v941_r0 c32_i32_782_r0
  let c1_i32_784_r0 : BitVec 32 := 1#32
  let v943_r0 : BitVec 32 := Scalar.muli v942_r0 c1_i32_784_r0
  let v944_r0 : BitVec 32 := Scalar.addi c0_i32_785_r0 v943_r0
  v944_r0.toNat
def k0_dev83 (d0 : Dev nD) : Nat :=
  let c0_i32_790_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_786_r0 : BitVec 32 := 14#32
  let v945_r0 : BitVec 32 := Scalar.addi v2 c14_i32_786_r0
  let c32_i32_787_r0 : BitVec 32 := 32#32
  let v946_r0 : BitVec 32 := Scalar.remsi v945_r0 c32_i32_787_r0
  let c1_i32_789_r0 : BitVec 32 := 1#32
  let v947_r0 : BitVec 32 := Scalar.muli v946_r0 c1_i32_789_r0
  let v948_r0 : BitVec 32 := Scalar.addi c0_i32_790_r0 v947_r0
  v948_r0.toNat
def k0_dev84 (d0 : Dev nD) : Nat :=
  let c0_i32_795_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_791_r0 : BitVec 32 := 15#32
  let v949_r0 : BitVec 32 := Scalar.addi v2 c15_i32_791_r0
  let c32_i32_792_r0 : BitVec 32 := 32#32
  let v950_r0 : BitVec 32 := Scalar.remsi v949_r0 c32_i32_792_r0
  let c1_i32_794_r0 : BitVec 32 := 1#32
  let v951_r0 : BitVec 32 := Scalar.muli v950_r0 c1_i32_794_r0
  let v952_r0 : BitVec 32 := Scalar.addi c0_i32_795_r0 v951_r0
  v952_r0.toNat
def k0_dev85 (d0 : Dev nD) : Nat :=
  let c0_i32_800_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_796_r0 : BitVec 32 := 16#32
  let v953_r0 : BitVec 32 := Scalar.addi v2 c16_i32_796_r0
  let c32_i32_797_r0 : BitVec 32 := 32#32
  let v954_r0 : BitVec 32 := Scalar.remsi v953_r0 c32_i32_797_r0
  let c1_i32_799_r0 : BitVec 32 := 1#32
  let v955_r0 : BitVec 32 := Scalar.muli v954_r0 c1_i32_799_r0
  let v956_r0 : BitVec 32 := Scalar.addi c0_i32_800_r0 v955_r0
  v956_r0.toNat
def k0_dev86 (d0 : Dev nD) : Nat :=
  let c0_i32_805_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_801_r0 : BitVec 32 := 17#32
  let v957_r0 : BitVec 32 := Scalar.addi v2 c17_i32_801_r0
  let c32_i32_802_r0 : BitVec 32 := 32#32
  let v958_r0 : BitVec 32 := Scalar.remsi v957_r0 c32_i32_802_r0
  let c1_i32_804_r0 : BitVec 32 := 1#32
  let v959_r0 : BitVec 32 := Scalar.muli v958_r0 c1_i32_804_r0
  let v960_r0 : BitVec 32 := Scalar.addi c0_i32_805_r0 v959_r0
  v960_r0.toNat
def k0_dev87 (d0 : Dev nD) : Nat :=
  let c0_i32_810_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_806_r0 : BitVec 32 := 18#32
  let v961_r0 : BitVec 32 := Scalar.addi v2 c18_i32_806_r0
  let c32_i32_807_r0 : BitVec 32 := 32#32
  let v962_r0 : BitVec 32 := Scalar.remsi v961_r0 c32_i32_807_r0
  let c1_i32_809_r0 : BitVec 32 := 1#32
  let v963_r0 : BitVec 32 := Scalar.muli v962_r0 c1_i32_809_r0
  let v964_r0 : BitVec 32 := Scalar.addi c0_i32_810_r0 v963_r0
  v964_r0.toNat
def k0_dev88 (d0 : Dev nD) : Nat :=
  let c0_i32_815_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_811_r0 : BitVec 32 := 19#32
  let v965_r0 : BitVec 32 := Scalar.addi v2 c19_i32_811_r0
  let c32_i32_812_r0 : BitVec 32 := 32#32
  let v966_r0 : BitVec 32 := Scalar.remsi v965_r0 c32_i32_812_r0
  let c1_i32_814_r0 : BitVec 32 := 1#32
  let v967_r0 : BitVec 32 := Scalar.muli v966_r0 c1_i32_814_r0
  let v968_r0 : BitVec 32 := Scalar.addi c0_i32_815_r0 v967_r0
  v968_r0.toNat
def k0_dev89 (d0 : Dev nD) : Nat :=
  let c0_i32_820_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_816_r0 : BitVec 32 := 20#32
  let v969_r0 : BitVec 32 := Scalar.addi v2 c20_i32_816_r0
  let c32_i32_817_r0 : BitVec 32 := 32#32
  let v970_r0 : BitVec 32 := Scalar.remsi v969_r0 c32_i32_817_r0
  let c1_i32_819_r0 : BitVec 32 := 1#32
  let v971_r0 : BitVec 32 := Scalar.muli v970_r0 c1_i32_819_r0
  let v972_r0 : BitVec 32 := Scalar.addi c0_i32_820_r0 v971_r0
  v972_r0.toNat
def k0_dev90 (d0 : Dev nD) : Nat :=
  let c0_i32_825_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_821_r0 : BitVec 32 := 21#32
  let v973_r0 : BitVec 32 := Scalar.addi v2 c21_i32_821_r0
  let c32_i32_822_r0 : BitVec 32 := 32#32
  let v974_r0 : BitVec 32 := Scalar.remsi v973_r0 c32_i32_822_r0
  let c1_i32_824_r0 : BitVec 32 := 1#32
  let v975_r0 : BitVec 32 := Scalar.muli v974_r0 c1_i32_824_r0
  let v976_r0 : BitVec 32 := Scalar.addi c0_i32_825_r0 v975_r0
  v976_r0.toNat
def k0_dev91 (d0 : Dev nD) : Nat :=
  let c0_i32_830_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_826_r0 : BitVec 32 := 22#32
  let v977_r0 : BitVec 32 := Scalar.addi v2 c22_i32_826_r0
  let c32_i32_827_r0 : BitVec 32 := 32#32
  let v978_r0 : BitVec 32 := Scalar.remsi v977_r0 c32_i32_827_r0
  let c1_i32_829_r0 : BitVec 32 := 1#32
  let v979_r0 : BitVec 32 := Scalar.muli v978_r0 c1_i32_829_r0
  let v980_r0 : BitVec 32 := Scalar.addi c0_i32_830_r0 v979_r0
  v980_r0.toNat
def k0_dev92 (d0 : Dev nD) : Nat :=
  let c0_i32_835_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_831_r0 : BitVec 32 := 23#32
  let v981_r0 : BitVec 32 := Scalar.addi v2 c23_i32_831_r0
  let c32_i32_832_r0 : BitVec 32 := 32#32
  let v982_r0 : BitVec 32 := Scalar.remsi v981_r0 c32_i32_832_r0
  let c1_i32_834_r0 : BitVec 32 := 1#32
  let v983_r0 : BitVec 32 := Scalar.muli v982_r0 c1_i32_834_r0
  let v984_r0 : BitVec 32 := Scalar.addi c0_i32_835_r0 v983_r0
  v984_r0.toNat
def k0_dev93 (d0 : Dev nD) : Nat :=
  let c0_i32_840_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_836_r0 : BitVec 32 := 24#32
  let v985_r0 : BitVec 32 := Scalar.addi v2 c24_i32_836_r0
  let c32_i32_837_r0 : BitVec 32 := 32#32
  let v986_r0 : BitVec 32 := Scalar.remsi v985_r0 c32_i32_837_r0
  let c1_i32_839_r0 : BitVec 32 := 1#32
  let v987_r0 : BitVec 32 := Scalar.muli v986_r0 c1_i32_839_r0
  let v988_r0 : BitVec 32 := Scalar.addi c0_i32_840_r0 v987_r0
  v988_r0.toNat
def k0_dev94 (d0 : Dev nD) : Nat :=
  let c0_i32_845_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_841_r0 : BitVec 32 := 25#32
  let v989_r0 : BitVec 32 := Scalar.addi v2 c25_i32_841_r0
  let c32_i32_842_r0 : BitVec 32 := 32#32
  let v990_r0 : BitVec 32 := Scalar.remsi v989_r0 c32_i32_842_r0
  let c1_i32_844_r0 : BitVec 32 := 1#32
  let v991_r0 : BitVec 32 := Scalar.muli v990_r0 c1_i32_844_r0
  let v992_r0 : BitVec 32 := Scalar.addi c0_i32_845_r0 v991_r0
  v992_r0.toNat
def k0_dev95 (d0 : Dev nD) : Nat :=
  let c0_i32_850_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_846_r0 : BitVec 32 := 26#32
  let v993_r0 : BitVec 32 := Scalar.addi v2 c26_i32_846_r0
  let c32_i32_847_r0 : BitVec 32 := 32#32
  let v994_r0 : BitVec 32 := Scalar.remsi v993_r0 c32_i32_847_r0
  let c1_i32_849_r0 : BitVec 32 := 1#32
  let v995_r0 : BitVec 32 := Scalar.muli v994_r0 c1_i32_849_r0
  let v996_r0 : BitVec 32 := Scalar.addi c0_i32_850_r0 v995_r0
  v996_r0.toNat
def k0_dev96 (d0 : Dev nD) : Nat :=
  let c0_i32_855_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_851_r0 : BitVec 32 := 27#32
  let v997_r0 : BitVec 32 := Scalar.addi v2 c27_i32_851_r0
  let c32_i32_852_r0 : BitVec 32 := 32#32
  let v998_r0 : BitVec 32 := Scalar.remsi v997_r0 c32_i32_852_r0
  let c1_i32_854_r0 : BitVec 32 := 1#32
  let v999_r0 : BitVec 32 := Scalar.muli v998_r0 c1_i32_854_r0
  let v1000_r0 : BitVec 32 := Scalar.addi c0_i32_855_r0 v999_r0
  v1000_r0.toNat
def k0_dev97 (d0 : Dev nD) : Nat :=
  let c0_i32_860_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_856_r0 : BitVec 32 := 28#32
  let v1001_r0 : BitVec 32 := Scalar.addi v2 c28_i32_856_r0
  let c32_i32_857_r0 : BitVec 32 := 32#32
  let v1002_r0 : BitVec 32 := Scalar.remsi v1001_r0 c32_i32_857_r0
  let c1_i32_859_r0 : BitVec 32 := 1#32
  let v1003_r0 : BitVec 32 := Scalar.muli v1002_r0 c1_i32_859_r0
  let v1004_r0 : BitVec 32 := Scalar.addi c0_i32_860_r0 v1003_r0
  v1004_r0.toNat
def k0_dev98 (d0 : Dev nD) : Nat :=
  let c0_i32_865_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_861_r0 : BitVec 32 := 29#32
  let v1005_r0 : BitVec 32 := Scalar.addi v2 c29_i32_861_r0
  let c32_i32_862_r0 : BitVec 32 := 32#32
  let v1006_r0 : BitVec 32 := Scalar.remsi v1005_r0 c32_i32_862_r0
  let c1_i32_864_r0 : BitVec 32 := 1#32
  let v1007_r0 : BitVec 32 := Scalar.muli v1006_r0 c1_i32_864_r0
  let v1008_r0 : BitVec 32 := Scalar.addi c0_i32_865_r0 v1007_r0
  v1008_r0.toNat
def k0_dev99 (d0 : Dev nD) : Nat :=
  let c0_i32_870_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_866_r0 : BitVec 32 := 30#32
  let v1009_r0 : BitVec 32 := Scalar.addi v2 c30_i32_866_r0
  let c32_i32_867_r0 : BitVec 32 := 32#32
  let v1010_r0 : BitVec 32 := Scalar.remsi v1009_r0 c32_i32_867_r0
  let c1_i32_869_r0 : BitVec 32 := 1#32
  let v1011_r0 : BitVec 32 := Scalar.muli v1010_r0 c1_i32_869_r0
  let v1012_r0 : BitVec 32 := Scalar.addi c0_i32_870_r0 v1011_r0
  v1012_r0.toNat
def k0_dev100 (d0 : Dev nD) : Nat :=
  let c0_i32_875_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_871_r0 : BitVec 32 := 31#32
  let v1013_r0 : BitVec 32 := Scalar.addi v2 c31_i32_871_r0
  let c32_i32_872_r0 : BitVec 32 := 32#32
  let v1014_r0 : BitVec 32 := Scalar.remsi v1013_r0 c32_i32_872_r0
  let c1_i32_874_r0 : BitVec 32 := 1#32
  let v1015_r0 : BitVec 32 := Scalar.muli v1014_r0 c1_i32_874_r0
  let v1016_r0 : BitVec 32 := Scalar.addi c0_i32_875_r0 v1015_r0
  v1016_r0.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x4096x512 : Shape := ⟨3, ![2, 4096, 512]⟩
abbrev S512x256 : Shape := ⟨2, ![512, 256]⟩
abbrev S2x4096x4x64 : Shape := ⟨4, ![2, 4096, 4, 64]⟩
abbrev S256x512 : Shape := ⟨2, ![256, 512]⟩
abbrev S2x4096x256 : Shape := ⟨3, ![2, 4096, 256]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S2x4x4096x4096 : Shape := ⟨4, ![2, 4, 4096, 4096]⟩
abbrev S1x1x4096x4096 : Shape := ⟨4, ![1, 1, 4096, 4096]⟩
abbrev S2x4x4096 : Shape := ⟨3, ![2, 4, 4096]⟩
abbrev S2x4x4096x1 : Shape := ⟨4, ![2, 4, 4096, 1]⟩
abbrev S1x1x4096x1 : Shape := ⟨4, ![1, 1, 4096, 1]⟩
abbrev S2x4x64x4096 : Shape := ⟨4, ![2, 4, 64, 4096]⟩

abbrev nBuf : Space → Nat
  | .hbm => 70
  | .vmem => 0
  | .smem => 0
  | _ => 0

abbrev bufTy : (tb : Table) → Fin (tcTables nBuf tb) → BufTy
  | .hbm, ⟨0, _⟩ => ⟨S2x4096x512, .bf16⟩
  | .hbm, ⟨1, _⟩ => ⟨S512x256, .bf16⟩
  | .hbm, ⟨2, _⟩ => ⟨S2x4096x4x64, .bf16⟩
  | .hbm, ⟨3, _⟩ => ⟨S2x4096x4x64, .bf16⟩
  | .hbm, ⟨4, _⟩ => ⟨S256x512, .bf16⟩
  | .hbm, ⟨5, _⟩ => ⟨S2x4096x256, .f32⟩
  | .hbm, ⟨6, _⟩ => ⟨S2x4096x256, .bf16⟩
  | .hbm, ⟨7, _⟩ => ⟨S2x4096x4x64, .bf16⟩
  | .hbm, ⟨8, _⟩ => ⟨S4096, .i32⟩
  | .hbm, ⟨9, _⟩ => ⟨S4096x1, .i32⟩
  | .hbm, ⟨10, _⟩ => ⟨S4096, .i32⟩
  | .hbm, ⟨11, _⟩ => ⟨S1x4096, .i32⟩
  | .hbm, ⟨12, _⟩ => ⟨S4096x4096, .i32⟩
  | .hbm, ⟨13, _⟩ => ⟨S4096x4096, .i32⟩
  | .hbm, ⟨14, _⟩ => ⟨S4096x4096, .i32⟩
  | .hbm, ⟨15, _⟩ => ⟨S4096x4096, .i32⟩
  | .hbm, ⟨16, _⟩ => ⟨S_, .i32⟩
  | .hbm, ⟨17, _⟩ => ⟨S4096x4096, .i32⟩
  | .hbm, ⟨18, _⟩ => ⟨S4096x4096, .i1⟩
  | .hbm, ⟨19, _⟩ => ⟨S_, .i32⟩
  | .hbm, ⟨20, _⟩ => ⟨S1x4096, .i32⟩
  | .hbm, ⟨21, _⟩ => ⟨S1x4096, .i1⟩
  | .hbm, ⟨22, _⟩ => ⟨S_, .i32⟩
  | .hbm, ⟨23, _⟩ => ⟨S4096x1, .i32⟩
  | .hbm, ⟨24, _⟩ => ⟨S4096x1, .i1⟩
  | .hbm, ⟨25, _⟩ => ⟨S4096x4096, .i1⟩
  | .hbm, ⟨26, _⟩ => ⟨S4096x4096, .i1⟩
  | .hbm, ⟨27, _⟩ => ⟨S4096x4096, .i1⟩
  | .hbm, ⟨28, _⟩ => ⟨S4096x4096, .i1⟩
  | .hbm, ⟨29, _⟩ => ⟨S2x4x4096x4096, .f32⟩
  | .hbm, ⟨30, _⟩ => ⟨S2x4x4096x4096, .bf16⟩
  | .hbm, ⟨31, _⟩ => ⟨S2x4x4096x4096, .f32⟩
  | .hbm, ⟨32, _⟩ => ⟨S_, .f32⟩
  | .hbm, ⟨33, _⟩ => ⟨S2x4x4096x4096, .f32⟩
  | .hbm, ⟨34, _⟩ => ⟨S2x4x4096x4096, .f32⟩
  | .hbm, ⟨35, _⟩ => ⟨S1x1x4096x4096, .i1⟩
  | .hbm, ⟨36, _⟩ => ⟨S_, .f32⟩
  | .hbm, ⟨37, _⟩ => ⟨S_, .f32⟩
  | .hbm, ⟨38, _⟩ => ⟨S2x4x4096x4096, .i1⟩
  | .hbm, ⟨39, _⟩ => ⟨S2x4x4096x4096, .f32⟩
  | .hbm, ⟨40, _⟩ => ⟨S2x4x4096x4096, .f32⟩
  | .hbm, ⟨41, _⟩ => ⟨S_, .f32⟩
  | .hbm, ⟨42, _⟩ => ⟨S2x4x4096, .f32⟩
  | .hbm, ⟨43, _⟩ => ⟨S2x4x4096x1, .f32⟩
  | .hbm, ⟨44, _⟩ => ⟨S2x4x4096x4096, .f32⟩
  | .hbm, ⟨45, _⟩ => ⟨S2x4x4096x4096, .f32⟩
  | .hbm, ⟨46, _⟩ => ⟨S2x4x4096x4096, .f32⟩
  | .hbm, ⟨47, _⟩ => ⟨S_, .i1⟩
  | .hbm, ⟨48, _⟩ => ⟨S4096, .i1⟩
  | .hbm, ⟨49, _⟩ => ⟨S1x1x4096x1, .i1⟩
  | .hbm, ⟨50, _⟩ => ⟨S_, .f32⟩
  | .hbm, ⟨51, _⟩ => ⟨S2x4x4096, .f32⟩
  | .hbm, ⟨52, _⟩ => ⟨S2x4x4096x1, .f32⟩
  | .hbm, ⟨53, _⟩ => ⟨S_, .f32⟩
  | .hbm, ⟨54, _⟩ => ⟨S_, .f32⟩
  | .hbm, ⟨55, _⟩ => ⟨S2x4x4096x1, .i1⟩
  | .hbm, ⟨56, _⟩ => ⟨S2x4x4096x1, .f32⟩
  | .hbm, ⟨57, _⟩ => ⟨S2x4x4096x1, .f32⟩
  | .hbm, ⟨58, _⟩ => ⟨S2x4x4096x4096, .f32⟩
  | .hbm, ⟨59, _⟩ => ⟨S2x4x4096x4096, .f32⟩
  | .hbm, ⟨60, _⟩ => ⟨S1x1x4096x1, .i1⟩
  | .hbm, ⟨61, _⟩ => ⟨S_, .f32⟩
  | .hbm, ⟨62, _⟩ => ⟨S_, .f32⟩
  | .hbm, ⟨63, _⟩ => ⟨S2x4x4096x4096, .i1⟩
  | .hbm, ⟨64, _⟩ => ⟨S2x4x4096x4096, .f32⟩
  | .hbm, ⟨65, _⟩ => ⟨S2x4x4096x4096, .f32⟩
  | .hbm, ⟨66, _⟩ => ⟨S2x4x64x4096, .f32⟩
  | .hbm, ⟨67, _⟩ => ⟨S2x4096x4x64, .f32⟩
  | .hbm, ⟨68, _⟩ => ⟨S2x4096x256, .f32⟩
  | .hbm, ⟨69, _⟩ => ⟨S2x4096x512, .f32⟩
  | _, _ => ⟨S2x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩

abbrev nD : Nat := 1
abbrev τ : Topo := Topo.v7x

variable {F : FTy → Type} [FloatOps F]
-- ==== Proof.KernelIdeal.Sched.lean ====
/- The protocol of the kernel: its cells, who pays which duty of which cell, what each landing hands over,
   what each device owes at launch, and the levels of the cells. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## Devices -/

/-- The device `j` places further round the ring of 32. -/
def sh (c : Dev nD) (j : ℕ) : Dev nD := ⟨(c.val + j) % 32, Nat.mod_lt _ (by decide)⟩

/-- How many halvings of the tree a device takes part in as the receiver (device 0: all five). -/
def tz (c : Dev nD) : ℕ :=
  if c.val = 0 then 5 else if c.val % 2 ≠ 0 then 0 else if c.val % 4 ≠ 0 then 1 else if c.val % 8 ≠ 0 then 2
  else if c.val % 16 ≠ 0 then 3 else 4

/-- The device that `c` sends its partial result to. -/
def parent (c : Dev nD) : Dev nD := sh c (32 - 2 ^ tz c)

/-! ## Buffers and views -/

abbrev kvM : Memref sig .tc .vmem S2x2x128x256 .bf16 := Memref.whole cc0_scratch0
abbrev rcM : Memref sig .tc .vmem S2x2x2x128x256 .bf16 := Memref.whole cc0_scratch1
abbrev glM : Memref sig .tc .vmem S3x2x32x256 .bf16 := Memref.whole cc0_scratch2
abbrev acM : Memref sig .tc .vmem S2x3x32x256 .f32 := Memref.whole cc0_scratch3
abbrev rdM : Memref sig .tc .vmem S5x2x3x32x256 .f32 := Memref.whole cc0_scratch4
abbrev cxM : Memref sig .tc .vmem S2x128x256 .f32 := Memref.whole cc0_scratch5

/-- The two halves of the receive buffer of the neighbour exchange. -/
abbrev rcS0 : Memref sig .tc .vmem S2x2x128x256 .bf16 :=
  (rcM.slice (Rect.unit (s := S2x2x2x128x256) ![0, 0, 0, 0, 0] S1x2x2x128x256.size inb_S2x2x2x128x256_S1x2x2x128x256_0_0_0_0_0) (fun _ => rfl)).squeeze S2x2x128x256 squeezes_S1x2x2x128x256_S2x2x128x256
abbrev rcS1 : Memref sig .tc .vmem S2x2x128x256 .bf16 :=
  (rcM.slice (Rect.unit (s := S2x2x2x128x256) ![1, 0, 0, 0, 0] S1x2x2x128x256.size inb_S2x2x2x128x256_S1x2x2x128x256_1_0_0_0_0) (fun _ => rfl)).squeeze S2x2x128x256 squeezes_S1x2x2x128x256_S2x2x128x256
/-- The five slots of the receive buffer of the tree. -/
abbrev rdS0 : Memref sig .tc .vmem S2x3x32x256 .f32 :=
  (rdM.slice (Rect.unit (s := S5x2x3x32x256) ![0, 0, 0, 0, 0] S1x2x3x32x256.size inb_S5x2x3x32x256_S1x2x3x32x256_0_0_0_0_0) (fun _ => rfl)).squeeze S2x3x32x256 squeezes_S1x2x3x32x256_S2x3x32x256
abbrev rdS1 : Memref sig .tc .vmem S2x3x32x256 .f32 :=
  (rdM.slice (Rect.unit (s := S5x2x3x32x256) ![1, 0, 0, 0, 0] S1x2x3x32x256.size inb_S5x2x3x32x256_S1x2x3x32x256_1_0_0_0_0) (fun _ => rfl)).squeeze S2x3x32x256 squeezes_S1x2x3x32x256_S2x3x32x256
abbrev rdS2 : Memref sig .tc .vmem S2x3x32x256 .f32 :=
  (rdM.slice (Rect.unit (s := S5x2x3x32x256) ![2, 0, 0, 0, 0] S1x2x3x32x256.size inb_S5x2x3x32x256_S1x2x3x32x256_2_0_0_0_0) (fun _ => rfl)).squeeze S2x3x32x256 squeezes_S1x2x3x32x256_S2x3x32x256
abbrev rdS3 : Memref sig .tc .vmem S2x3x32x256 .f32 :=
  (rdM.slice (Rect.unit (s := S5x2x3x32x256) ![3, 0, 0, 0, 0] S1x2x3x32x256.size inb_S5x2x3x32x256_S1x2x3x32x256_3_0_0_0_0) (fun _ => rfl)).squeeze S2x3x32x256 squeezes_S1x2x3x32x256_S2x3x32x256
abbrev rdS4 : Memref sig .tc .vmem S2x3x32x256 .f32 :=
  (rdM.slice (Rect.unit (s := S5x2x3x32x256) ![4, 0, 0, 0, 0] S1x2x3x32x256.size inb_S5x2x3x32x256_S1x2x3x32x256_4_0_0_0_0) (fun _ => rfl)).squeeze S2x3x32x256 squeezes_S1x2x3x32x256_S2x3x32x256

abbrev CKv (F : FTy → Type) : Type := (cc0_scratch0 : Ref sig .tc).ty.Contents (Elt F)
abbrev CRc (F : FTy → Type) : Type := (cc0_scratch1 : Ref sig .tc).ty.Contents (Elt F)
abbrev CGl (F : FTy → Type) : Type := (cc0_scratch2 : Ref sig .tc).ty.Contents (Elt F)
abbrev CAc (F : FTy → Type) : Type := (cc0_scratch3 : Ref sig .tc).ty.Contents (Elt F)
abbrev CRd (F : FTy → Type) : Type := (cc0_scratch4 : Ref sig .tc).ty.Contents (Elt F)
abbrev CCx (F : FTy → Type) : Type := (cc0_scratch5 : Ref sig .tc).ty.Contents (Elt F)

/-- The contents the transfers carry: each device's K/V block, device 0's global rows, each device's partial
    attention as sent; and contents the two receive buffers may start from. -/
structure Conts (F : FTy → Type) where
  kv : Dev nD → CKv F
  gl : CGl F
  ac : Dev nD → CAc F
  rc0 : CRc F
  rd0 : CRd F

/-- The set of one slot of the tree's receive buffer: the indices whose first coordinate is `k`. -/
def rdSet (k : ℕ) : Finset (Shape.Idx S5x2x3x32x256) := Finset.univ.filter fun i => (i 0).val = k
def rcSet (k : ℕ) : Finset (Shape.Idx S2x2x2x128x256) := Finset.univ.filter fun i => (i 0).val = k

/-- A receive buffer after a landing in slot `k`. -/
def rcLand (C : Conts F) (c : Dev nD) : ℕ → CRc F
  | 0 => rcS0.view.write (Elt F) C.rc0 (C.kv (sh c 31)) Finset.univ
  | _ => rcS1.view.write (Elt F) C.rc0 (C.kv (sh c 1)) Finset.univ
def rdLand (C : Conts F) (c : Dev nD) : ℕ → CRd F
  | 0 => rdS0.view.write (Elt F) C.rd0 (C.ac (sh c 1)) Finset.univ
  | 1 => rdS1.view.write (Elt F) C.rd0 (C.ac (sh c 2)) Finset.univ
  | 2 => rdS2.view.write (Elt F) C.rd0 (C.ac (sh c 4)) Finset.univ
  | 3 => rdS3.view.write (Elt F) C.rd0 (C.ac (sh c 8)) Finset.univ
  | _ => rdS4.view.write (Elt F) C.rd0 (C.ac (sh c 16)) Finset.univ

def kvPts (c : Dev nD) (q : PosShare TreeShare) (f : CKv F) : sProp 𝕄 := ((c : Thread nD τ).loc cc0_scratch0) ↦{q} f
def glPts (c : Dev nD) (q : PosShare TreeShare) (f : CGl F) : sProp 𝕄 := ((c : Thread nD τ).loc cc0_scratch2) ↦{q} f
def acPts (c : Dev nD) (f : CAc F) : sProp 𝕄 := ((c : Thread nD τ).loc cc0_scratch3) ↦{fullShare} f
def cxPts (c : Dev nD) (f : CCx F) : sProp 𝕄 := ((c : Thread nD τ).loc cc0_scratch5) ↦{fullShare} f
def rcPts (c : Dev nD) (k : ℕ) (f : CRc F) : sProp 𝕄 := ((c : Thread nD τ).loc cc0_scratch1) ↦[rcSet k]{fullShare} f
def rdPts (c : Dev nD) (k : ℕ) (f : CRd F) : sProp 𝕄 := ((c : Thread nD τ).loc cc0_scratch4) ↦[rdSet k]{fullShare} f

omit [FloatOps F] [Named F] in
instance (c : Dev nD) (q) (f : CKv F) : BI.Storable (upEmb : UEmb _ 𝕄) (kvPts c q f) := by unfold kvPts; infer_instance
omit [FloatOps F] [Named F] in
instance (c : Dev nD) (q) (f : CGl F) : BI.Storable (upEmb : UEmb _ 𝕄) (glPts c q f) := by unfold glPts; infer_instance
omit [FloatOps F] [Named F] in
instance (c : Dev nD) (f : CAc F) : BI.Storable (upEmb : UEmb _ 𝕄) (acPts c f) := by unfold acPts; infer_instance
omit [FloatOps F] [Named F] in
instance (c : Dev nD) (k) (f : CRc F) : BI.Storable (upEmb : UEmb _ 𝕄) (rcPts c k f) := by unfold rcPts; infer_instance
omit [FloatOps F] [Named F] in
instance (c : Dev nD) (k) (f : CRd F) : BI.Storable (upEmb : UEmb _ 𝕄) (rdPts c k f) := by unfold rdPts; infer_instance

/-! ## Cells -/

/-- The semaphores of the protocol: 0, 1 the neighbour sends; 2, 3 the neighbour receives; 4 + t the global send to
    device t; 36 the global receive; 37 the tree send; 38 + j the tree receive of level j; 43 the exit barrier; 44 the
    entry barrier. -/
def csem (k : Fin 45) : SemLoc sig :=
  if h : k.val < 43 then .dma ⟨6 + k.val, by show 6 + k.val < 49; omega⟩ else if k.val = 43 then .reg (1 : Fin 2) else .reg (0 : Fin 2)
/-- The protocol's index of a semaphore. -/
def cidx : SemLoc sig → Option (Fin 45)
  | .dma q => if h : 6 ≤ q.val ∧ q.val < 49 then some ⟨q.val - 6, by omega⟩ else none
  | .reg s => if s.val = 1 then some 43 else some 44

theorem cidx_csem : ∀ k : Fin 45, cidx (csem k) = some k := by decide

abbrev kcell (x : Dev nD × Fin 45) : GSem nD τ sig := ((x.1 : Thread nD τ), csem x.2)

def rrk (j : ℕ) : Fin 45 := ⟨38 + j % 5, by omega⟩

/-- Who pays the duties of cell `k` of device `c`. -/
def payers (c : Dev nD) (k : Fin 45) : Finset (Dev nD) :=
  if k.val < 2 then {c}
  else if k.val = 2 then {sh c 31}
  else if k.val = 3 then {sh c 1}
  else if k.val < 36 then (if c = 0 ∧ 5 ≤ k.val then {c} else ∅)
  else if k.val = 36 then (if c = 0 then ∅ else {0})
  else if k.val = 37 then (if c = 0 then ∅ else {c})
  else if k.val < 43 then (if k.val - 38 < tz c then {sh c (2 ^ (k.val - 38))} else ∅)
  else Finset.univ.erase c

abbrev Nkv : ℕ := (kvM : Memref sig .tc .vmem S2x2x128x256 .bf16).view.dmaCredit
abbrev Ngl : ℕ := (glM : Memref sig .tc .vmem S3x2x32x256 .bf16).view.dmaCredit
abbrev Nac : ℕ := (acM : Memref sig .tc .vmem S2x3x32x256 .f32).view.dmaCredit
theorem Nkv_pos : 0 < Nkv := View.dmaCredit_pos _ (by decide)
theorem Ngl_pos : 0 < Ngl := View.dmaCredit_pos _ (by decide)
theorem Nac_pos : 0 < Nac := View.dmaCredit_pos _ (by decide)

/-- How much one duty of cell `k` pays. -/
def amt (k : Fin 45) : ℕ := if k.val < 4 then Nkv else if k.val < 37 then Ngl else if k.val < 43 then Nac else 1
theorem amt_pos (k : Fin 45) : 0 < amt k := by
  unfold amt; split_ifs
  · exact Nkv_pos
  · exact Ngl_pos
  · exact Nac_pos
  · exact Nat.one_pos

/-- What device `p`'s entry signal hands to device `d`: the buffers of `p` that `d` will write. -/
def giveTo (p d : Dev nD) : sProp 𝕄 :=
  iprop((if d = sh p 31 then iprop(∃ f, rcPts (F := F) p 0 f) else iprop(emp))
    ∗ (if d = sh p 1 then iprop(∃ f, rcPts (F := F) p 1 f) else iprop(emp))
    ∗ (if d = 0 ∧ p ≠ 0 then iprop(∃ f, glPts (F := F) p fullShare f) else iprop(emp))
    ∗ bigSep (Finset.range 5) fun j => if j < tz p ∧ d = sh p (2 ^ j) then iprop(∃ f, rdPts (F := F) p j f) else iprop(emp))

instance bigSepStorable {s : Finset ℕ} {Φ : ℕ → sProp 𝕄} [∀ i, BI.Storable (upEmb : UEmb _ 𝕄) (Φ i)] : BI.Storable (upEmb : UEmb _ 𝕄) (bigSep s Φ) := by
  infer_instance

instance (p d : Dev nD) : BI.Storable (upEmb : UEmb _ 𝕄) (giveTo (F := F) p d) := by
  unfold giveTo
  have h1 : BI.Storable (upEmb : UEmb _ 𝕄) (if d = sh p 31 then iprop(∃ f, rcPts (F := F) p 0 f) else iprop(emp)) := by split_ifs <;> infer_instance
  have h2 : BI.Storable (upEmb : UEmb _ 𝕄) (if d = sh p 1 then iprop(∃ f, rcPts (F := F) p 1 f) else iprop(emp)) := by split_ifs <;> infer_instance
  have h3 : BI.Storable (upEmb : UEmb _ 𝕄) (if d = 0 ∧ p ≠ 0 then iprop(∃ f, glPts (F := F) p fullShare f) else iprop(emp)) := by split_ifs <;> infer_instance
  have h4 : ∀ j : ℕ, BI.Storable (upEmb : UEmb _ 𝕄) (if j < tz p ∧ d = sh p (2 ^ j) then iprop(∃ f, rdPts (F := F) p j f) else iprop(emp)) := fun j => by split_ifs <;> infer_instance
  infer_instance

variable (C : Conts F)

/-- Half of the K/V block's share flies right, a quarter left, a quarter stays for the loads. -/
abbrev q1 : PosShare TreeShare := fullShare.left
abbrev q2 : PosShare TreeShare := fullShare.right.left
abbrev q3 : PosShare TreeShare := fullShare.right.right

/-- What a paid duty of cell `k` of device `c`, payer `p`, hands over. -/
def pay (c : Dev nD) (k : Fin 45) (p : Dev nD) : sProp 𝕄 :=
  if k.val = 0 then kvPts c q1 (C.kv c)
  else if k.val = 1 then kvPts c q2 (C.kv c)
  else if k.val = 2 then rcPts c 0 (rcLand C c 0)
  else if k.val = 3 then rcPts c 1 (rcLand C c 1)
  else if k.val < 36 then glPts c (Transfers.shareTokN fullShare (k.val - 5)) C.gl
  else if k.val = 36 then glPts c fullShare C.gl
  else if k.val = 37 then acPts c (C.ac c)
  else if k.val < 43 then rdPts c (k.val - 38) (rdLand C c (k.val - 38))
  else if k.val = 43 then iprop(emp)
  else giveTo p c

instance (c : Dev nD) (k) (p) : BI.Storable (upEmb : UEmb _ 𝕄) (pay C c k p) := by
  unfold pay; split_ifs <;> infer_instance

/-- The schedule: everything in round 0. -/
def sched : Rounds.Schedule (GSem nD τ sig) (Dev nD) 𝕄 where
  duties g r := if r = 0 ∧ g.1.2 = .tc then (match cidx g.2 with | some k => payers g.1.1 k | none => ∅) else ∅
  unitless _ := False
  amount g _ _ := match cidx g.2 with | some k => amt k | none => 1
  payload g _ p := match cidx g.2 with | some k => pay C g.1.1 k p | none => iprop(emp)
  amount_pos g _ _ _ := by
    split
    · exact amt_pos _
    · exact Nat.one_pos

instance sched_storable (g : GSem nD τ sig) (r : ℕ) (d : Dev nD) : BI.Storable (upEmb : UEmb _ 𝕄) ((sched C).payload g r d) := by
  show BI.Storable upEmb (match cidx g.2 with | some k => pay C g.1.1 k d | none => iprop(emp))
  split <;> infer_instance

theorem duties_at (c : Dev nD) (k : Fin 45) : (sched C).duties (kcell (c, k)) 0 = payers c k := by
  show (if (0 : ℕ) = 0 ∧ (kcell (c, k)).1.2 = .tc then (match cidx (csem k) with | some k => payers c k | none => ∅) else ∅) = _
  rw [cidx_csem, if_pos ⟨rfl, rfl⟩]
theorem duties_later (g : GSem nD τ sig) : ∀ r, 1 ≤ r → (sched C).duties g r = ∅ := fun r hr => by
  dsimp only [sched]; rw [if_neg fun h => by omega]
theorem amount_at (c : Dev nD) (k : Fin 45) (d) : (sched C).amount (kcell (c, k)) 0 d = amt k := by
  show (match cidx (csem k) with | some k => amt k | none => 1) = _
  rw [cidx_csem]
theorem payload_at (c : Dev nD) (k : Fin 45) (d) : (sched C).payload (kcell (c, k)) 0 d = pay C c k d := by
  show (match cidx (csem k) with | some k => pay C c k d | none => iprop(emp)) = _
  rw [cidx_csem]
theorem expect_at (c : Dev nD) (k : Fin 45) : (sched C).expect (kcell (c, k)) 0 = (payers c k).card * amt k := by
  unfold Schedule.expect Schedule.amountOf
  rw [duties_at, Finset.sum_congr rfl fun d _ => amount_at C c k d, Finset.sum_const, smul_eq_mul]

/-! ## Dues and levels -/

/-- The cell device `c`'s payment number `i` goes to: 1–31 the entry signals, 32 and 33 the neighbour sends, 34–64 device
    0's global sends, 65 the tree send, 66–96 the exit signals. -/
def dst (c : Dev nD) (i : ℕ) : Option (Dev nD × Fin 45) :=
  if i = 0 then none else if i < 32 then some (sh c i, 44) else if i = 32 then some (sh c 1, 2) else if i = 33 then some (sh c 31, 3)
  else if i < 65 then (if c = 0 then some (sh c (i - 33), 36) else none)
  else if i = 65 then (if c = 0 then none else some (parent c, rrk (tz c)))
  else if i < 97 then some (sh c (i - 65), 43) else none

/-- Payment number `i` as a tally. -/
def due (c : Dev nD) (i : ℕ) : CellTallies nD τ sig Unit := match dst c i with | some x => tallyAt (kcell x) () (amt x.2) | none => 0

/-- What device `c` owes before payment `n`. -/
def OS (c : Dev nD) (n : ℕ) : CellTallies nD τ sig Unit := ∑ i ∈ Finset.Ico n 97, due c i

theorem OS_step (c : Dev nD) {n : ℕ} (h : n < 97) : OS c n = OS c (n + 1) + due c n := by
  unfold OS; rw [Finset.sum_eq_sum_Ico_succ_bot h, add_comm]
theorem OS_pay (c : Dev nD) {n : ℕ} {x} (h : n < 97) (hd : dst c n = some x) : OS c n = OS c (n + 1) + tallyAt (kcell x) () (amt x.2) := by
  rw [OS_step c h]; unfold due; rw [hd]
theorem OS_skip (c : Dev nD) {n : ℕ} (hd : dst c n = none) : OS c n = OS c (n + 1) := by
  by_cases h : n < 97
  · rw [OS_step c h]; unfold due; rw [hd]; exact add_zero _
  · unfold OS; rw [Finset.Ico_eq_empty (by omega), Finset.Ico_eq_empty (by omega)]
theorem OS_end (c : Dev nD) : OS c 97 = 0 := by unfold OS; rw [Finset.Ico_self]; rfl

def L (g : GSem nD τ sig) : Finset Unit := if g.1.2 = .tc then {()} else ∅
/-- The level of a cell. -/
def lvl (k : Fin 45) : ℕ :=
  if k.val < 2 then 0 else if k.val < 4 then 3 else if k.val < 36 then 0 else if k.val = 36 then 2 else if k.val = 37 then 0
  else if k.val < 43 then k.val - 34 else if k.val = 43 then 9 else 1
def lv (g : GSem nD τ sig) (_ : Unit) : ℕ := match cidx g.2 with | some k => lvl k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (x : Dev nD × Fin 45) (u) : lv (kcell x) u = lvl x.2 := by
  show (match cidx (csem x.2) with | some k => lvl k | none => 0) = _
  rw [cidx_csem]

theorem due_pos {c : Dev nD} {i : ℕ} {g : GSem nD τ sig} {u : Unit} (h : 0 < due c i g u) : ∃ x, dst c i = some x ∧ g = kcell x := by
  unfold due at h
  rcases hx : dst c i with _ | x
  · rw [hx] at h; exact absurd h (Nat.lt_irrefl 0)
  · rw [hx] at h
    refine ⟨x, rfl, ?_⟩
    replace h : 0 < tallyAt (kcell x) () (amt x.2) g u := h
    rw [tallyAt_apply] at h
    by_contra hn
    rw [if_neg (fun h' => hn h'.1)] at h
    exact Nat.lt_irrefl 0 h

theorem OS_pos {c : Dev nD} {n : ℕ} {g : GSem nD τ sig} {u : Unit} (h : 0 < OS c n g u) : ∃ i, n ≤ i ∧ i < 97 ∧ ∃ x, dst c i = some x ∧ g = kcell x := by
  by_contra hn
  have : ∀ i ∈ Finset.Ico n 97, due c i g u = 0 := fun i hi => by
    rw [Finset.mem_Ico] at hi
    by_contra h0
    exact hn ⟨i, hi.1, hi.2, due_pos (Nat.pos_of_ne_zero h0)⟩
  have h2 : OS c n g u = ∑ i ∈ Finset.Ico n 97, due c i g u := by
    unfold OS; rw [Finset.sum_apply, Finsupp.finset_sum_apply]
  rw [h2, Finset.sum_eq_zero this] at h
  exact Nat.lt_irrefl 0 h

/-- A wait on a semaphore of level `l` is allowed when every later due lies above. -/
theorem mayWait (c : Dev nD) (sm : SemLoc sig) (n l : ℕ) (hl : lv ((c : Thread nD τ), sm) () = l)
    (h : ∀ i, n ≤ i → i < 97 → ∀ x, dst c i = some x → l < lvl x.2) :
    (levAts L lv : sProp 𝕄) ⊢ MayWait (c : Thread nD τ) sm () (OS c n) :=
  MayOwe.of_cut (L := L) (lev := lv) l (fun p hp => by rw [Finset.mem_singleton.mp hp, L_tc]; exact Finset.mem_singleton_self _)
    (fun g u hg => by obtain ⟨i, _, _, x, _, rfl⟩ := OS_pos hg; exact Finset.mem_singleton_self _)
    (fun p hp => by rw [Finset.mem_singleton.mp hp]; exact le_of_eq hl)
    (fun g u hg => by obtain ⟨i, h1, h2, x, hx, rfl⟩ := OS_pos hg; rw [lv_kcell]; exact h i h1 h2 x hx)

theorem tz_lt : ∀ c : Dev nD, c ≠ 0 → tz c < 5 := by decide

theorem lvl_rrk : ∀ j < 5, lvl (rrk j) = 4 + j := by decide

/-- The level of payment `i`. -/
theorem lvl_dst {c : Dev nD} {i : ℕ} {x} (h : dst c i = some x) :
    lvl x.2 = if i < 32 then 1 else if i < 34 then 3 else if i < 65 then 2 else if i = 65 then 4 + tz c else 9 := by
  unfold dst at h
  have ht := tz_lt c
  split_ifs at h <;> first | (exact absurd h.symm (Option.some_ne_none _)) | skip
  all_goals (obtain rfl := Option.some.inj h)
  · rw [if_pos (by omega)]; rfl
  · rw [if_neg (by omega), if_pos (by omega)]; rfl
  · rw [if_neg (by omega), if_pos (by omega)]; rfl
  · rw [if_neg (by omega), if_neg (by omega), if_pos (by omega)]; rfl
  · rw [if_neg (by omega), if_neg (by omega), if_neg (by omega), if_pos (by omega)]; exact lvl_rrk _ (ht ‹_›)
  · rw [if_neg (by omega), if_neg (by omega), if_neg (by omega), if_neg (by omega)]; rfl

end Cert.KernelIdealProof

end
-- ==== Proof.KernelIdeal.Rules.lean ====
/- The rules of the body's proof: one wait, one signal, one transfer, one closing, each stated at the protocol's cells. -/
module

public import proofs.«01_k».proof.Proof.KernelIdeal.Sched

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (C : Conts F) (K : Dev nD × Fin 45 → ℕ)

/-- A whole buffer is whole. -/
theorem isW {κ} (b : Ref sig κ) : (Memref.whole b).IsWhole := Memref.isWhole_whole b

/-- Everything known to everybody: each cell's invariant and that its round 0 is open. -/
def records : sProp 𝕄 :=
  iprop((bigSep Finset.univ fun x : Dev nD × Fin 45 => cellInv ER (sched C) (K x) (kcell x))
    ∗ bigSep Finset.univ fun x : Dev nD × Fin 45 => reached ER (kcell x) 0)

instance records_persistent : Persistent (records C K) := by unfold records; infer_instance

theorem inv_at (x : Dev nD × Fin 45) : records C K ⊢ cellInv ER (sched C) (K x) (kcell x) := by
  refine sep_elim_left.trans ?_
  exact bigSep_elim (Finset.mem_univ x) (Φ := fun x => cellInv ER (sched C) (K x) (kcell x))
theorem reached_at (x : Dev nD × Fin 45) : records C K ⊢ (reached ER (kcell x) 0 : sProp 𝕄) := by
  refine sep_elim_right.trans ?_
  exact bigSep_elim (Finset.mem_univ x) (Φ := fun x => (reached ER (kcell x) 0 : sProp 𝕄))

/-- What device `c` owes before its payment `n`, some waits behind it. -/
def OWs (c : Dev nD) (n : ℕ) : sProp 𝕄 := iprop(∃ W, owes (c : Thread nD τ) (OS c n) W)
abbrev tok (x : Dev nD × Fin 45) (p : Dev nD) : sProp 𝕄 := dutyTok ER (kcell x) 0 p
abbrev crd (x : Dev nD × Fin 45) (n : ℕ) : sProp 𝕄 := cred (tallyAt (kcell x) () n)
abbrev pos (x : Dev nD × Fin 45) (r : ℕ) : sProp 𝕄 := atPos ER (kcell x) r ∅ 0

/-- Waiting on cell `k` while the dues from `n` on lie above it is allowed. -/
abbrev Above (c : Dev nD) (k : Fin 45) (n : ℕ) : Prop := ∀ i, n ≤ i → i < 97 → ∀ x, dst c i = some x → lvl k < lvl x.2

theorem above_zero (c : Dev nD) (k : Fin 45) (n : ℕ) (h : lvl k = 0) : Above c k n := fun i _ _ x hx => by
  rw [lvl_dst hx, h]; split_ifs <;> omega
theorem above_bar (c : Dev nD) : Above c 44 32 := fun i h _ x hx => by
  rw [lvl_dst hx, show lvl 44 = 1 from rfl]; split_ifs <;> omega
theorem dst_gl {c : Dev nD} (hc : c ≠ 0) {i : ℕ} (h1 : 34 ≤ i) (h2 : i < 65) : dst c i = none := by
  unfold dst; rw [if_neg (by omega), if_neg (by omega), if_neg (by omega), if_neg (by omega), if_pos h2, if_neg hc]
theorem above_gr {c : Dev nD} (hc : c ≠ 0) : Above c 36 34 := fun i h _ x hx => by
  rw [lvl_dst hx, show lvl 36 = 2 from rfl]
  split_ifs with h1 h2 h3 h4 <;> first | omega | skip
  rw [dst_gl hc h h3] at hx; exact absurd hx.symm (Option.some_ne_none _)
theorem above_hr (c : Dev nD) (k : Fin 45) (hk : lvl k = 3) (n : ℕ) (hn : 65 ≤ n) : Above c k n := fun i h _ x hx => by
  rw [lvl_dst hx, hk]; split_ifs <;> omega
theorem above_rr (c : Dev nD) (j : ℕ) (hj : j < tz c) (hj5 : j < 5) : Above c (rrk j) 65 := fun i h _ x hx => by
  rw [lvl_dst hx, lvl_rrk j hj5]; split_ifs <;> omega

/-- The wait for all of a cell that one device pays: its payload comes back. -/
theorem wait_one (c : Dev nD) (k : Fin 45) (p : Dev nD) (n : ℕ) {w : TpuEff nD τ sig (Elt F) Λ₀ .tc PUnit} {sm : SemLoc sig} {k' : ℕ}
    (hw : ∀ Kt : PUnit → sProp 𝕄, wpE (defs₀ (F := F)) 𝒱₀ (c : Thread nD τ) none Set.univ w Kt = waitSpec (c : Thread nD τ) Set.univ sm k' Kt)
    (hsm : sm = csem k) (hp : payers c k = {p}) (hk' : k' = amt k) (hab : Above c k n)
    {α : Type} {Q : α → sProp 𝕄} {kk : PUnit → Prog (TpuEff nD τ sig (Elt F) Λ₀ .tc) α} :
    iprop(records C K ∗ levAts L lv ∗ crd (c, k) (amt k) ∗ OWs c n ∗ pos (c, k) 0)
      ⊢ iprop(((OWs c n ∗ pos (c, k) 1 ∗ pay C c k p) -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hsm
  subst hk'
  unfold OWs
  iintro ⟨#HR, #HL, Hc, ⟨%W, HO⟩, Hat⟩ Hk
  iapply (Rounds.wp_wait_rest_token 𝒱₀ ER (sched C) (c : Thread nD τ) none (κ := K (c, k)) hw (Set.mem_univ _) () (O := OS c n) (W := W) (R := 0) (m := 0)
    (T := ∅) (by rw [Nat.zero_add, expect_at, hp, Finset.card_singleton, Nat.one_mul])) $$ [Hc HO Hat]
  · isplitr; · iapply (inv_at C K (c, k)); iexact HR
    isplitl [Hc]; · iexact Hc
    isplitl [HO]; · iexact HO
    isplitr; · iapply (mayWait c (csem k) n (lvl k) (lv_kcell (c, k) ()) hab); iexact HL
    iexact Hat
  iintro ⟨HO, Hat, -, Hpay⟩
  iapply Hk
  isplitl [HO]; · iexists _; iexact HO
  isplitl [Hat]; · iexact Hat
  ihave Hp := (Entails.of_eq (show bigSep ((sched C).duties (kcell (c, k)) 0 \ ∅) (fun d => (sched C).payload (kcell (c, k)) 0 d) = pay C c k p by
    rw [Finset.sdiff_empty, duties_at, hp, bigSep_singleton, payload_at])) $$ Hpay
  iexact Hp

/-- The wait on a barrier: what every other device hands over comes back. -/
theorem wait_bar (c : Dev nD) (k : Fin 45) (n : ℕ) {w : TpuEff nD τ sig (Elt F) Λ₀ .tc PUnit} {sm : SemLoc sig} {k' : ℕ}
    (hw : ∀ Kt : PUnit → sProp 𝕄, wpE (defs₀ (F := F)) 𝒱₀ (c : Thread nD τ) none Set.univ w Kt = waitSpec (c : Thread nD τ) Set.univ sm k' Kt)
    (hsm : sm = csem k) (hp : payers c k = Finset.univ.erase c) (hk' : k' = 31 * amt k) (hab : Above c k n)
    {α : Type} {Q : α → sProp 𝕄} {kk : PUnit → Prog (TpuEff nD τ sig (Elt F) Λ₀ .tc) α} :
    iprop(records C K ∗ levAts L lv ∗ crd (c, k) (31 * amt k) ∗ OWs c n ∗ pos (c, k) 0)
      ⊢ iprop(((OWs c n ∗ pos (c, k) 1 ∗ bigSep (Finset.univ.erase c) (pay C c k)) -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hsm
  subst hk'
  unfold OWs
  iintro ⟨#HR, #HL, Hc, ⟨%W, HO⟩, Hat⟩ Hk
  iapply (Rounds.wp_wait_rest_token 𝒱₀ ER (sched C) (c : Thread nD τ) none (κ := K (c, k)) hw (Set.mem_univ _) () (O := OS c n) (W := W) (R := 0) (m := 0)
    (T := ∅) (by rw [Nat.zero_add, expect_at, hp, Finset.card_erase_of_mem (Finset.mem_univ _)]; rfl)) $$ [Hc HO Hat]
  · isplitr; · iapply (inv_at C K (c, k)); iexact HR
    isplitl [Hc]; · iexact Hc
    isplitl [HO]; · iexact HO
    isplitr; · iapply (mayWait c (csem k) n (lvl k) (lv_kcell (c, k) ()) hab); iexact HL
    iexact Hat
  iintro ⟨HO, Hat, -, Hpay⟩
  iapply Hk
  isplitl [HO]; · iexists _; iexact HO
  isplitl [Hat]; · iexact Hat
  ihave Hp := (Entails.of_eq (show bigSep ((sched C).duties (kcell (c, k)) 0 \ ∅) (fun d => (sched C).payload (kcell (c, k)) 0 d) = bigSep (Finset.univ.erase c) (pay C c k) by
    rw [Finset.sdiff_empty, duties_at, hp]; exact bigSep_congr fun d _ => payload_at C c k d)) $$ Hpay
  iexact Hp

/-- Payment `i` is a signal to device `d`'s cell `k`. -/
theorem signal_to (c : Dev nD) (i : ℕ) (d d' : Dev nD) (hd' : d' = d) (k : Fin 45) {s : Sem sig} {k' : ℕ} (hsm : .reg s = csem k) (hi : i < 97)
    (hd : dst c i = some (d, k)) (hp : c ∈ payers d k) (hk' : amt k = k')
    {α : Type} {Q : α → sProp 𝕄} {kk : PUnit → Prog (TpuEff nD τ sig (Elt F) Λ₀ .tc) α} :
    iprop(records C K ∗ OWs c i ∗ tok (d, k) c ∗ pay C d k c)
      ⊢ iprop((OWs c (i + 1) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (d' : Thread nD τ) s k') kk) Q) := by
  subst hd'
  subst hk'
  unfold OWs
  iintro ⟨#HR, ⟨%W, HO⟩, Ht, Hp⟩ Hk
  iapply (Rounds.wp_signal 𝒱₀ ER (sched C) (c : Thread nD τ) none (dst := (d' : Thread nD τ)) (sem := s) (κ := K (d', k)) (r := 0)
      (d := c) (O₀ := OS c i) (by rw [hsm, duties_at]; exact hp) (by rw [hsm, amount_at]) () (OS c (i + 1)) (by rw [hsm]; exact OS_pay c hi hd)) $$ [HO Ht Hp]
  · rw [hsm]
    isplitr; · iapply (inv_at C K (d', k)); iexact HR
    isplitl [HO]; · iexact HO
    isplitl [Ht]; · iexact Ht
    isplitl [Hp]; · rw [payload_at]; iexact Hp
    iapply (reached_at C K (d', k)); iexact HR
  iintro HO
  iapply Hk
  iexists _; iexact HO

/-- Payment `i` is a transfer to device `d`'s cell `kr`, completing on the issuer's cell `ks`. -/
theorem send_to (c : Dev nD) (i : ℕ) (d d' : Dev nD) (hd' : d' = d) (ks kr : Fin 45) {sp sp' : Space} {s : Shape} {e : EltTy}
    {src : Memref sig .tc sp s e} {dt : Memref sig .tc sp' s e} {hsc : dt.view.ref.isScScratch = false} {sS sem : SemLoc sig}
    {hsrc : src.view.WordExact} {hdst : dt.view.WordExact} {hsem : DmaTarget.Typed sp sem (.remote (Dev.tc d' : Thread nD τ) dt sS hsc)}
    {α : Type} {Q : α → sProp 𝕄} {kk : PUnit → Prog (TpuEff nD τ sig (Elt F) Λ₀ .tc) α} {q : PosShare TreeShare}
    (fs : Buf (Elt F) (src.view.loc (c : Thread nD τ))) (fd : Buf (Elt F) (dt.view.loc (Dev.tc d : Thread nD τ)))
    (hsS : sS = csem ks) (hsR : sem = csem kr) (hi : i < 97) (hd : dst c i = some (d, kr)) (hps : c ∈ payers c ks) (hpr : c ∈ payers d kr)
    (hN : dt.view.amount sem = amt kr) (hN' : amt ks = amt kr)
    (hpay₁ : (src.view.loc (c : Thread nD τ) ↦[src.view.set]{q} fs) ⊢ pay C c ks c)
    (hpay₂ : (dt.view.loc (Dev.tc d : Thread nD τ) ↦[dt.view.set]{fullShare} (dt.view.write (Elt F) fd (src.view.read (Elt F) fs) Finset.univ)) ⊢ pay C d kr c) :
    iprop(records C K ∗ (src.view.loc (c : Thread nD τ) ↦[src.view.set]{q} fs) ∗ (dt.view.loc (Dev.tc d : Thread nD τ) ↦[dt.view.set]{fullShare} fd)
        ∗ OWs c i ∗ tok (c, ks) c ∗ tok (d, kr) c)
      ⊢ iprop(((crd (c, ks) (amt ks) ∗ OWs c (i + 1)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc d' : Thread nD τ) dt sS hsc) sem hsrc hdst hsem) kk) Q) := by
  subst hd'
  subst hsS
  subst hsR
  unfold OWs
  iintro ⟨#HR, Hs, Hd, ⟨%W, HO⟩, Ht1, Ht2⟩ Hk
  iapply (Rounds.wp_send_pointsTo 𝒱₀ ER (sched C) (c : Thread nD τ) none (κ₁ := K (c, ks)) (κ₂ := K (d', kr)) (r₁ := 0) (r₂ := 0) (d₁ := c) (d₂ := c)
      (fs := fs) (fd := fd) (q := q) (by rw [duties_at]; exact hps) (by rw [duties_at]; exact hpr) () () (amt kr) hN
      ((amount_at C c ks c).trans hN') (amount_at C d' kr c) (OS c (i + 1)) (OS_pay c hi hd) (W := W)
      (by rw [payload_at]; exact hpay₁) (by rw [payload_at]; exact hpay₂)) $$ [Hs Hd HO Ht1 Ht2]
  · isplitr; · iapply (inv_at C K (c, ks)); iexact HR
    isplitr; · iapply (inv_at C K (d', kr)); iexact HR
    isplitl [Hs]; · iexact Hs
    isplitl [Hd]; · iexact Hd
    isplitl [HO]; · iexact HO
    isplitl [Ht1]; · iexact Ht1
    isplitr; · iapply (reached_at C K (c, ks)); iexact HR
    isplitl [Ht2]; · iexact Ht2
    iapply (reached_at C K (d', kr)); iexact HR
  iintro ⟨Hc, HO⟩
  iapply Hk
  isplitl [Hc]; · rw [hN']; iexact Hc
  iexists _; iexact HO

/-- A cell all of whose duties are collected closes with its counter at zero. -/
theorem close_at (c : Dev nD) (k : Fin 45) (r : ℕ) (h : payers c k = ∅ ∨ 1 ≤ r) :
    iprop(records C K ∗ pos (c, k) r) ⊢ (|={Set.univ}=> semVal (kcell (c, k)) 0 : sProp 𝕄) := by
  iintro ⟨#HR, Hat⟩
  imod (Rounds.cell_close ER (sched C) (Set.mem_univ (K (c, k))) (fun h => h) (g := kcell (c, k)) (R := r) (fun r' hr' => by
    rcases h with h | h
    · rcases Nat.eq_zero_or_pos r' with rfl | h0
      · rw [duties_at]; exact h
      · exact duties_later C _ r' h0
    · exact duties_later C _ r' (le_trans h hr'))) $$ [Hat] with Hz
  · isplitr; · iapply (inv_at C K (c, k)); iexact HR
    iexact Hat
  imodintro; iexact Hz

/-! ## The slots of the receive buffers -/

theorem set_rdS0 : (rdS0).view.set = rdSet 0 := by
  refine (View.set_reshape _ _).trans ((View.set_slice_whole _ _).trans (Finset.ext fun i => ?_))
  rw [Rect.mem_set_unit]; unfold rdSet; rw [Finset.mem_filter]
  have h1 : (i 1 : ℕ) < 2 := (i 1).isLt
  have h2 : (i 2 : ℕ) < 3 := (i 2).isLt
  have h3 : (i 3 : ℕ) < 32 := (i 3).isLt
  have h4 : (i 4 : ℕ) < 256 := (i 4).isLt
  constructor
  · intro h; exact ⟨Finset.mem_univ _, by have h0 : 0 ≤ (i 0 : ℕ) ∧ (i 0 : ℕ) < 0 + 1 := h 0; omega⟩
  · rintro ⟨-, h⟩ a
    fin_cases a
    · exact ⟨le_of_eq h.symm, by show (i 0 : ℕ) < 0 + 1; omega⟩
    · exact ⟨Nat.zero_le _, by show (i 1 : ℕ) < 0 + 2; omega⟩
    · exact ⟨Nat.zero_le _, by show (i 2 : ℕ) < 0 + 3; omega⟩
    · exact ⟨Nat.zero_le _, by show (i 3 : ℕ) < 0 + 32; omega⟩
    · exact ⟨Nat.zero_le _, by show (i 4 : ℕ) < 0 + 256; omega⟩

theorem set_rdS1 : (rdS1).view.set = rdSet 1 := by
  refine (View.set_reshape _ _).trans ((View.set_slice_whole _ _).trans (Finset.ext fun i => ?_))
  rw [Rect.mem_set_unit]; unfold rdSet; rw [Finset.mem_filter]
  have h1 : (i 1 : ℕ) < 2 := (i 1).isLt
  have h2 : (i 2 : ℕ) < 3 := (i 2).isLt
  have h3 : (i 3 : ℕ) < 32 := (i 3).isLt
  have h4 : (i 4 : ℕ) < 256 := (i 4).isLt
  constructor
  · intro h; exact ⟨Finset.mem_univ _, by have h0 : 1 ≤ (i 0 : ℕ) ∧ (i 0 : ℕ) < 1 + 1 := h 0; omega⟩
  · rintro ⟨-, h⟩ a
    fin_cases a
    · exact ⟨le_of_eq h.symm, by show (i 0 : ℕ) < 1 + 1; omega⟩
    · exact ⟨Nat.zero_le _, by show (i 1 : ℕ) < 0 + 2; omega⟩
    · exact ⟨Nat.zero_le _, by show (i 2 : ℕ) < 0 + 3; omega⟩
    · exact ⟨Nat.zero_le _, by show (i 3 : ℕ) < 0 + 32; omega⟩
    · exact ⟨Nat.zero_le _, by show (i 4 : ℕ) < 0 + 256; omega⟩

theorem set_rdS2 : (rdS2).view.set = rdSet 2 := by
  refine (View.set_reshape _ _).trans ((View.set_slice_whole _ _).trans (Finset.ext fun i => ?_))
  rw [Rect.mem_set_unit]; unfold rdSet; rw [Finset.mem_filter]
  have h1 : (i 1 : ℕ) < 2 := (i 1).isLt
  have h2 : (i 2 : ℕ) < 3 := (i 2).isLt
  have h3 : (i 3 : ℕ) < 32 := (i 3).isLt
  have h4 : (i 4 : ℕ) < 256 := (i 4).isLt
  constructor
  · intro h; exact ⟨Finset.mem_univ _, by have h0 : 2 ≤ (i 0 : ℕ) ∧ (i 0 : ℕ) < 2 + 1 := h 0; omega⟩
  · rintro ⟨-, h⟩ a
    fin_cases a
    · exact ⟨le_of_eq h.symm, by show (i 0 : ℕ) < 2 + 1; omega⟩
    · exact ⟨Nat.zero_le _, by show (i 1 : ℕ) < 0 + 2; omega⟩
    · exact ⟨Nat.zero_le _, by show (i 2 : ℕ) < 0 + 3; omega⟩
    · exact ⟨Nat.zero_le _, by show (i 3 : ℕ) < 0 + 32; omega⟩
    · exact ⟨Nat.zero_le _, by show (i 4 : ℕ) < 0 + 256; omega⟩

theorem set_rdS3 : (rdS3).view.set = rdSet 3 := by
  refine (View.set_reshape _ _).trans ((View.set_slice_whole _ _).trans (Finset.ext fun i => ?_))
  rw [Rect.mem_set_unit]; unfold rdSet; rw [Finset.mem_filter]
  have h1 : (i 1 : ℕ) < 2 := (i 1).isLt
  have h2 : (i 2 : ℕ) < 3 := (i 2).isLt
  have h3 : (i 3 : ℕ) < 32 := (i 3).isLt
  have h4 : (i 4 : ℕ) < 256 := (i 4).isLt
  constructor
  · intro h; exact ⟨Finset.mem_univ _, by have h0 : 3 ≤ (i 0 : ℕ) ∧ (i 0 : ℕ) < 3 + 1 := h 0; omega⟩
  · rintro ⟨-, h⟩ a
    fin_cases a
    · exact ⟨le_of_eq h.symm, by show (i 0 : ℕ) < 3 + 1; omega⟩
    · exact ⟨Nat.zero_le _, by show (i 1 : ℕ) < 0 + 2; omega⟩
    · exact ⟨Nat.zero_le _, by show (i 2 : ℕ) < 0 + 3; omega⟩
    · exact ⟨Nat.zero_le _, by show (i 3 : ℕ) < 0 + 32; omega⟩
    · exact ⟨Nat.zero_le _, by show (i 4 : ℕ) < 0 + 256; omega⟩

theorem set_rdS4 : (rdS4).view.set = rdSet 4 := by
  refine (View.set_reshape _ _).trans ((View.set_slice_whole _ _).trans (Finset.ext fun i => ?_))
  rw [Rect.mem_set_unit]; unfold rdSet; rw [Finset.mem_filter]
  have h1 : (i 1 : ℕ) < 2 := (i 1).isLt
  have h2 : (i 2 : ℕ) < 3 := (i 2).isLt
  have h3 : (i 3 : ℕ) < 32 := (i 3).isLt
  have h4 : (i 4 : ℕ) < 256 := (i 4).isLt
  constructor
  · intro h; exact ⟨Finset.mem_univ _, by have h0 : 4 ≤ (i 0 : ℕ) ∧ (i 0 : ℕ) < 4 + 1 := h 0; omega⟩
  · rintro ⟨-, h⟩ a
    fin_cases a
    · exact ⟨le_of_eq h.symm, by show (i 0 : ℕ) < 4 + 1; omega⟩
    · exact ⟨Nat.zero_le _, by show (i 1 : ℕ) < 0 + 2; omega⟩
    · exact ⟨Nat.zero_le _, by show (i 2 : ℕ) < 0 + 3; omega⟩
    · exact ⟨Nat.zero_le _, by show (i 3 : ℕ) < 0 + 32; omega⟩
    · exact ⟨Nat.zero_le _, by show (i 4 : ℕ) < 0 + 256; omega⟩

theorem set_rcS0 : (rcS0).view.set = rcSet 0 := by
  refine (View.set_reshape _ _).trans ((View.set_slice_whole _ _).trans (Finset.ext fun i => ?_))
  rw [Rect.mem_set_unit]; unfold rcSet; rw [Finset.mem_filter]
  have h1 : (i 1 : ℕ) < 2 := (i 1).isLt
  have h2 : (i 2 : ℕ) < 2 := (i 2).isLt
  have h3 : (i 3 : ℕ) < 128 := (i 3).isLt
  have h4 : (i 4 : ℕ) < 256 := (i 4).isLt
  constructor
  · intro h; exact ⟨Finset.mem_univ _, by have h0 : 0 ≤ (i 0 : ℕ) ∧ (i 0 : ℕ) < 0 + 1 := h 0; omega⟩
  · rintro ⟨-, h⟩ a
    fin_cases a
    · exact ⟨le_of_eq h.symm, by show (i 0 : ℕ) < 0 + 1; omega⟩
    · exact ⟨Nat.zero_le _, by show (i 1 : ℕ) < 0 + 2; omega⟩
    · exact ⟨Nat.zero_le _, by show (i 2 : ℕ) < 0 + 2; omega⟩
    · exact ⟨Nat.zero_le _, by show (i 3 : ℕ) < 0 + 128; omega⟩
    · exact ⟨Nat.zero_le _, by show (i 4 : ℕ) < 0 + 256; omega⟩

theorem set_rcS1 : (rcS1).view.set = rcSet 1 := by
  refine (View.set_reshape _ _).trans ((View.set_slice_whole _ _).trans (Finset.ext fun i => ?_))
  rw [Rect.mem_set_unit]; unfold rcSet; rw [Finset.mem_filter]
  have h1 : (i 1 : ℕ) < 2 := (i 1).isLt
  have h2 : (i 2 : ℕ) < 2 := (i 2).isLt
  have h3 : (i 3 : ℕ) < 128 := (i 3).isLt
  have h4 : (i 4 : ℕ) < 256 := (i 4).isLt
  constructor
  · intro h; exact ⟨Finset.mem_univ _, by have h0 : 1 ≤ (i 0 : ℕ) ∧ (i 0 : ℕ) < 1 + 1 := h 0; omega⟩
  · rintro ⟨-, h⟩ a
    fin_cases a
    · exact ⟨le_of_eq h.symm, by show (i 0 : ℕ) < 1 + 1; omega⟩
    · exact ⟨Nat.zero_le _, by show (i 1 : ℕ) < 0 + 2; omega⟩
    · exact ⟨Nat.zero_le _, by show (i 2 : ℕ) < 0 + 2; omega⟩
    · exact ⟨Nat.zero_le _, by show (i 3 : ℕ) < 0 + 128; omega⟩
    · exact ⟨Nat.zero_le _, by show (i 4 : ℕ) < 0 + 256; omega⟩

/-- What lands in a slot is, on the slot, the same from any contents before. -/
theorem land_congr {sp : Space} {s : Shape} {e : EltTy} (v : View sig .tc sp s e) (f g : v.ty.Contents (Elt F)) (w : s.Idx → Elt F e) :
    ∀ i ∈ v.set, v.write (Elt F) f w Finset.univ i = v.write (Elt F) g w Finset.univ i := fun i hi =>
  View.write_congr (fun _ _ _ => rfl) fun h => absurd hi h

end Cert.KernelIdealProof

end
-- ==== Proof.KernelIdeal.Vals.lean ====
/- The values a device computes, part by part: its loads, the payloads of its stores, the contents of its buffers. -/
module

public import proofs.«01_k».proof.Proof.KernelIdeal.Rules

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

abbrev x0M : Memref sig .tc .vmem S2x128x512 .bf16 := Memref.whole cc0_stg0_0
abbrev x1M : Memref sig .tc .vmem S512x256 .bf16 := Memref.whole cc0_stg1_0
abbrev x2M : Memref sig .tc .vmem S2x128x4x64 .bf16 := Memref.whole cc0_stg2_0
abbrev x3M : Memref sig .tc .vmem S2x128x4x64 .bf16 := Memref.whole cc0_stg3_0
abbrev x4M : Memref sig .tc .vmem S256x512 .bf16 := Memref.whole cc0_stg4_0
abbrev ouM : Memref sig .tc .vmem S2x128x512 .f32 := Memref.whole cc0_stg5_0
abbrev CX0 (F : FTy → Type) : Type := (cc0_stg0_0 : Ref sig .tc).ty.Contents (Elt F)
abbrev CX1 (F : FTy → Type) : Type := (cc0_stg1_0 : Ref sig .tc).ty.Contents (Elt F)
abbrev CX2 (F : FTy → Type) : Type := (cc0_stg2_0 : Ref sig .tc).ty.Contents (Elt F)
abbrev CX3 (F : FTy → Type) : Type := (cc0_stg3_0 : Ref sig .tc).ty.Contents (Elt F)
abbrev CX4 (F : FTy → Type) : Type := (cc0_stg4_0 : Ref sig .tc).ty.Contents (Elt F)
abbrev COu (F : FTy → Type) : Type := (cc0_stg5_0 : Ref sig .tc).ty.Contents (Elt F)

/-- What a device works from: its staged inputs, its K/V block, the global rows, its neighbours' blocks as landed. -/
structure Env (F : FTy → Type) where
  c : Dev nD
  x0 : CX0 F
  x1 : CX1 F
  x2 : CX2 F
  x3 : CX3 F
  x4 : CX4 F
  kv : CKv F
  gl : CGl F
  r0 : CRc F
  r1 : CRc F

def x0Pts (E : Env F) : sProp 𝕄 := ((E.c : Thread nD τ).loc cc0_stg0_0) ↦{fullShare} E.x0
def x1Pts (E : Env F) : sProp 𝕄 := ((E.c : Thread nD τ).loc cc0_stg1_0) ↦{fullShare} E.x1
def x2Pts (E : Env F) : sProp 𝕄 := ((E.c : Thread nD τ).loc cc0_stg2_0) ↦{fullShare} E.x2
def x3Pts (E : Env F) : sProp 𝕄 := ((E.c : Thread nD τ).loc cc0_stg3_0) ↦{fullShare} E.x3
def x4Pts (E : Env F) : sProp 𝕄 := ((E.c : Thread nD τ).loc cc0_stg4_0) ↦{fullShare} E.x4
def ouPts (c : Dev nD) (f : COu F) : sProp 𝕄 := ((c : Thread nD τ).loc cc0_stg5_0) ↦{fullShare} f

/-- The device's index in the ring, and its left and right neighbours', as the kernel computes them. -/
def wv2 (c : Dev nD) : BitVec 32 := Scalar.remsi (Scalar.divsi (Dev.word c) 1#32) 32#32
def wv5 (c : Dev nD) : BitVec 32 := Scalar.remsi (Scalar.subi (Scalar.addi (wv2 c) 32#32) 1#32) 32#32
def wv7 (c : Dev nD) : BitVec 32 := Scalar.remsi (Scalar.addi (wv2 c) 1#32) 32#32

def v133 (E : Env F) : Vec F S512x256 .bf16 := x1M.view.readAt (Elt F) (Rect.unit (s := S512x256) ![0, 0] S512x256.size inb_S512x256_S512x256_0_0).toLoadRect E.x1
def v135 (E : Env F) : Vec F S1x128x512 .bf16 := x0M.view.readAt (Elt F) (Rect.unit (s := S2x128x512) ![0, 0, 0] S1x128x512.size inb_S2x128x512_S1x128x512_0_0_0).toLoadRect E.x0
def v139 (E : Env F) : Vec F S1x128x512 .bf16 := x0M.view.readAt (Elt F) (Rect.unit (s := S2x128x512) ![1, 0, 0] S1x128x512.size inb_S2x128x512_S1x128x512_1_0_0).toLoadRect E.x0
def v146 (E : Env F) : Vec F S1x128x1x64 .bf16 := x2M.view.readAt (Elt F) (Rect.unit (s := S2x128x4x64) ![0, 0, 0, 0] S1x128x1x64.size inb_S2x128x4x64_S1x128x1x64_0_0_0_0).toLoadRect E.x2
def v145 (E : Env F) : FVec F S2x128x256 .bf16 := k0_pay44 (v133 E) (v135 E) (v139 E)
def v147 (E : Env F) : FVec F S128x64 .bf16 := k0_pay45 (v146 E)
def v151 (E : Env F) : Vec F S1x128x1x64 .bf16 := x3M.view.readAt (Elt F) (Rect.unit (s := S2x128x4x64) ![0, 0, 0, 0] S1x128x1x64.size inb_S2x128x4x64_S1x128x1x64_0_0_0_0).toLoadRect E.x3
def v156 (E : Env F) : Vec F S1x128x1x64 .bf16 := x2M.view.readAt (Elt F) (Rect.unit (s := S2x128x4x64) ![0, 0, 1, 0] S1x128x1x64.size inb_S2x128x4x64_S1x128x1x64_0_0_1_0).toLoadRect E.x2
def v161 (E : Env F) : Vec F S1x128x1x64 .bf16 := x3M.view.readAt (Elt F) (Rect.unit (s := S2x128x4x64) ![0, 0, 1, 0] S1x128x1x64.size inb_S2x128x4x64_S1x128x1x64_0_0_1_0).toLoadRect E.x3
def v166 (E : Env F) : Vec F S1x128x1x64 .bf16 := x2M.view.readAt (Elt F) (Rect.unit (s := S2x128x4x64) ![0, 0, 2, 0] S1x128x1x64.size inb_S2x128x4x64_S1x128x1x64_0_0_2_0).toLoadRect E.x2
def v167 (E : Env F) : FVec F S128x64 .bf16 := k0_pay50 (v166 E)
def kv21 (E : Env F) (f : CKv F) : CKv F :=
  ((kvM : Memref sig .tc .vmem _ _).access (Rect.unit (s := S2x2x128x256) ![1, 0, 0, 64] S1x1x128x64.size inb_S2x2x128x256_S1x1x128x64_1_0_0_64) : View sig .tc _ _ _).write (Elt F)
    (((kvM : Memref sig .tc .vmem _ _).access (Rect.unit (s := S2x2x128x256) ![0, 0, 0, 64] S1x1x128x64.size inb_S2x2x128x256_S1x1x128x64_0_0_0_64) : View sig .tc _ _ _).write (Elt F)
    (((kvM : Memref sig .tc .vmem _ _).access (Rect.unit (s := S2x2x128x256) ![1, 0, 0, 0] S1x1x128x64.size inb_S2x2x128x256_S1x1x128x64_1_0_0_0) : View sig .tc _ _ _).write (Elt F)
    (((kvM : Memref sig .tc .vmem _ _).access (Rect.unit (s := S2x2x128x256) ![0, 0, 0, 0] S1x1x128x64.size inb_S2x2x128x256_S1x1x128x64_0_0_0_0) : View sig .tc _ _ _).write (Elt F)
    (f) (k0_pay46 (v147 E)) Finset.univ) (k0_pay47 (v151 E)) Finset.univ) (k0_pay48 (v156 E)) Finset.univ) (k0_pay49 (v161 E)) Finset.univ
def v171 (E : Env F) : Vec F S1x128x1x64 .bf16 := x3M.view.readAt (Elt F) (Rect.unit (s := S2x128x4x64) ![0, 0, 2, 0] S1x128x1x64.size inb_S2x128x4x64_S1x128x1x64_0_0_2_0).toLoadRect E.x3
def v176 (E : Env F) : Vec F S1x128x1x64 .bf16 := x2M.view.readAt (Elt F) (Rect.unit (s := S2x128x4x64) ![0, 0, 3, 0] S1x128x1x64.size inb_S2x128x4x64_S1x128x1x64_0_0_3_0).toLoadRect E.x2
def v181 (E : Env F) : Vec F S1x128x1x64 .bf16 := x3M.view.readAt (Elt F) (Rect.unit (s := S2x128x4x64) ![0, 0, 3, 0] S1x128x1x64.size inb_S2x128x4x64_S1x128x1x64_0_0_3_0).toLoadRect E.x3
def v186 (E : Env F) : Vec F S1x128x1x64 .bf16 := x2M.view.readAt (Elt F) (Rect.unit (s := S2x128x4x64) ![1, 0, 0, 0] S1x128x1x64.size inb_S2x128x4x64_S1x128x1x64_1_0_0_0).toLoadRect E.x2
def kv22 (E : Env F) (f : CKv F) : CKv F :=
  ((kvM : Memref sig .tc .vmem _ _).access (Rect.unit (s := S2x2x128x256) ![0, 1, 0, 0] S1x1x128x64.size inb_S2x2x128x256_S1x1x128x64_0_1_0_0) : View sig .tc _ _ _).write (Elt F)
    (((kvM : Memref sig .tc .vmem _ _).access (Rect.unit (s := S2x2x128x256) ![1, 0, 0, 192] S1x1x128x64.size inb_S2x2x128x256_S1x1x128x64_1_0_0_192) : View sig .tc _ _ _).write (Elt F)
    (((kvM : Memref sig .tc .vmem _ _).access (Rect.unit (s := S2x2x128x256) ![0, 0, 0, 192] S1x1x128x64.size inb_S2x2x128x256_S1x1x128x64_0_0_0_192) : View sig .tc _ _ _).write (Elt F)
    (((kvM : Memref sig .tc .vmem _ _).access (Rect.unit (s := S2x2x128x256) ![1, 0, 0, 128] S1x1x128x64.size inb_S2x2x128x256_S1x1x128x64_1_0_0_128) : View sig .tc _ _ _).write (Elt F)
    (((kvM : Memref sig .tc .vmem _ _).access (Rect.unit (s := S2x2x128x256) ![0, 0, 0, 128] S1x1x128x64.size inb_S2x2x128x256_S1x1x128x64_0_0_0_128) : View sig .tc _ _ _).write (Elt F)
    (f) (k0_pay51 (v167 E)) Finset.univ) (k0_pay52 (v171 E)) Finset.univ) (k0_pay53 (v176 E)) Finset.univ) (k0_pay54 (v181 E)) Finset.univ) (k0_pay55 (v186 E)) Finset.univ
def v191 (E : Env F) : Vec F S1x128x1x64 .bf16 := x3M.view.readAt (Elt F) (Rect.unit (s := S2x128x4x64) ![1, 0, 0, 0] S1x128x1x64.size inb_S2x128x4x64_S1x128x1x64_1_0_0_0).toLoadRect E.x3
def v196 (E : Env F) : Vec F S1x128x1x64 .bf16 := x2M.view.readAt (Elt F) (Rect.unit (s := S2x128x4x64) ![1, 0, 1, 0] S1x128x1x64.size inb_S2x128x4x64_S1x128x1x64_1_0_1_0).toLoadRect E.x2
def v201 (E : Env F) : Vec F S1x128x1x64 .bf16 := x3M.view.readAt (Elt F) (Rect.unit (s := S2x128x4x64) ![1, 0, 1, 0] S1x128x1x64.size inb_S2x128x4x64_S1x128x1x64_1_0_1_0).toLoadRect E.x3
def v206 (E : Env F) : Vec F S1x128x1x64 .bf16 := x2M.view.readAt (Elt F) (Rect.unit (s := S2x128x4x64) ![1, 0, 2, 0] S1x128x1x64.size inb_S2x128x4x64_S1x128x1x64_1_0_2_0).toLoadRect E.x2
def v211 (E : Env F) : Vec F S1x128x1x64 .bf16 := x3M.view.readAt (Elt F) (Rect.unit (s := S2x128x4x64) ![1, 0, 2, 0] S1x128x1x64.size inb_S2x128x4x64_S1x128x1x64_1_0_2_0).toLoadRect E.x3
def kv23 (E : Env F) (f : CKv F) : CKv F :=
  ((kvM : Memref sig .tc .vmem _ _).access (Rect.unit (s := S2x2x128x256) ![0, 1, 0, 128] S1x1x128x64.size inb_S2x2x128x256_S1x1x128x64_0_1_0_128) : View sig .tc _ _ _).write (Elt F)
    (((kvM : Memref sig .tc .vmem _ _).access (Rect.unit (s := S2x2x128x256) ![1, 1, 0, 64] S1x1x128x64.size inb_S2x2x128x256_S1x1x128x64_1_1_0_64) : View sig .tc _ _ _).write (Elt F)
    (((kvM : Memref sig .tc .vmem _ _).access (Rect.unit (s := S2x2x128x256) ![0, 1, 0, 64] S1x1x128x64.size inb_S2x2x128x256_S1x1x128x64_0_1_0_64) : View sig .tc _ _ _).write (Elt F)
    (((kvM : Memref sig .tc .vmem _ _).access (Rect.unit (s := S2x2x128x256) ![1, 1, 0, 0] S1x1x128x64.size inb_S2x2x128x256_S1x1x128x64_1_1_0_0) : View sig .tc _ _ _).write (Elt F)
    (f) (k0_pay56 (v191 E)) Finset.univ) (k0_pay57 (v196 E)) Finset.univ) (k0_pay58 (v201 E)) Finset.univ) (k0_pay59 (v206 E)) Finset.univ
def v216 (E : Env F) : Vec F S1x128x1x64 .bf16 := x2M.view.readAt (Elt F) (Rect.unit (s := S2x128x4x64) ![1, 0, 3, 0] S1x128x1x64.size inb_S2x128x4x64_S1x128x1x64_1_0_3_0).toLoadRect E.x2
def v221 (E : Env F) : Vec F S1x128x1x64 .bf16 := x3M.view.readAt (Elt F) (Rect.unit (s := S2x128x4x64) ![1, 0, 3, 0] S1x128x1x64.size inb_S2x128x4x64_S1x128x1x64_1_0_3_0).toLoadRect E.x3
def kv24 (E : Env F) (f : CKv F) : CKv F :=
  ((kvM : Memref sig .tc .vmem _ _).access (Rect.unit (s := S2x2x128x256) ![1, 1, 0, 192] S1x1x128x64.size inb_S2x2x128x256_S1x1x128x64_1_1_0_192) : View sig .tc _ _ _).write (Elt F)
    (((kvM : Memref sig .tc .vmem _ _).access (Rect.unit (s := S2x2x128x256) ![0, 1, 0, 192] S1x1x128x64.size inb_S2x2x128x256_S1x1x128x64_0_1_0_192) : View sig .tc _ _ _).write (Elt F)
    (((kvM : Memref sig .tc .vmem _ _).access (Rect.unit (s := S2x2x128x256) ![1, 1, 0, 128] S1x1x128x64.size inb_S2x2x128x256_S1x1x128x64_1_1_0_128) : View sig .tc _ _ _).write (Elt F)
    (f) (k0_pay60 (v211 E)) Finset.univ) (k0_pay61 (v216 E)) Finset.univ) (k0_pay62 (v221 E)) Finset.univ
def v892 (E : Env F) : Vec F S1x2x128x256 .bf16 := kvM.view.readAt (Elt F) (Rect.unit (s := S2x2x128x256) ![0, 0, 0, 0] S1x2x128x256.size inb_S2x2x128x256_S1x2x128x256_0_0_0_0).toLoadRect E.kv
def v898 (E : Env F) : Vec F S1x2x128x256 .bf16 := kvM.view.readAt (Elt F) (Rect.unit (s := S2x2x128x256) ![1, 0, 0, 0] S1x2x128x256.size inb_S2x2x128x256_S1x2x128x256_1_0_0_0).toLoadRect E.kv
def gl1 (E : Env F) (f : CGl F) : CGl F :=
  ((glM : Memref sig .tc .vmem _ _).access (Rect.unit (s := S3x2x32x256) ![2, 0, 0, 0] S1x2x32x256.size inb_S3x2x32x256_S1x2x32x256_2_0_0_0) : View sig .tc _ _ _).write (Elt F)
    (((glM : Memref sig .tc .vmem _ _).access (Rect.unit (s := S3x2x32x256) ![1, 0, 0, 0] S1x2x32x256.size inb_S3x2x32x256_S1x2x32x256_1_0_0_0) : View sig .tc _ _ _).write (Elt F)
    (((glM : Memref sig .tc .vmem _ _).access (Rect.unit (s := S3x2x32x256) ![0, 0, 0, 0] S1x2x32x256.size inb_S3x2x32x256_S1x2x32x256_0_0_0_0) : View sig .tc _ _ _).write (Elt F)
    (f) (k0_pay1 (v892 E)) Finset.univ) (k0_pay2 (v898 E)) Finset.univ) (k0_pay3 (v145 E)) Finset.univ
def v248 (E : Env F) : Vec F S1x2x32x256 .bf16 := glM.view.readAt (Elt F) (Rect.unit (s := S3x2x32x256) ![2, 0, 0, 0] S1x2x32x256.size inb_S3x2x32x256_S1x2x32x256_2_0_0_0).toLoadRect E.gl
def v252 (E : Env F) : Vec F S1x2x128x256 .bf16 := kvM.view.readAt (Elt F) (Rect.unit (s := S2x2x128x256) ![0, 0, 0, 0] S1x2x128x256.size inb_S2x2x128x256_S1x2x128x256_0_0_0_0).toLoadRect E.kv
def v256 (E : Env F) : Vec F S1x2x128x256 .bf16 := kvM.view.readAt (Elt F) (Rect.unit (s := S2x2x128x256) ![1, 0, 0, 0] S1x2x128x256.size inb_S2x2x128x256_S1x2x128x256_1_0_0_0).toLoadRect E.kv
def v259 (E : Env F) : FVec F S128x64 .bf16 := k0_pay63 (v256 E)
def v264 (E : Env F) : FVec F S32x1 .f32 := k0_pay65 (v248 E) (v252 E)
def v267 (E : Env F) : FVec F S32x128 .f32 := k0_pay66 (v248 E) (v252 E)
def v285 (E : Env F) : Vec F S1x2x32x256 .bf16 := glM.view.readAt (Elt F) (Rect.unit (s := S3x2x32x256) ![2, 0, 0, 0] S1x2x32x256.size inb_S3x2x32x256_S1x2x32x256_2_0_0_0).toLoadRect E.gl
def v289 (E : Env F) : Vec F S1x2x128x256 .bf16 := kvM.view.readAt (Elt F) (Rect.unit (s := S2x2x128x256) ![0, 0, 0, 0] S1x2x128x256.size inb_S2x2x128x256_S1x2x128x256_0_0_0_0).toLoadRect E.kv
def v293 (E : Env F) : Vec F S1x2x128x256 .bf16 := kvM.view.readAt (Elt F) (Rect.unit (s := S2x2x128x256) ![1, 0, 0, 0] S1x2x128x256.size inb_S2x2x128x256_S1x2x128x256_1_0_0_0).toLoadRect E.kv
def v296 (E : Env F) : FVec F S128x64 .bf16 := k0_pay70 (v293 E)
def v297 (E : Env F) : FVec F S32x128 .f32 := k0_pay71 (v285 E) (v289 E)
def ac26 (E : Env F) (f : CAc F) : CAc F :=
  ((acM : Memref sig .tc .vmem _ _).access (Rect.unit (s := S2x3x32x256) ![0, 2, 0, 0] S1x1x32x64.size inb_S2x3x32x256_S1x1x32x64_0_2_0_0) : View sig .tc _ _ _).write (Elt F)
    (((acM : Memref sig .tc .vmem _ _).access (Rect.unit (s := S2x3x32x256) ![0, 1, 0, 0] S1x1x32x64.size inb_S2x3x32x256_S1x1x32x64_0_1_0_0) : View sig .tc _ _ _).write (Elt F)
    (((acM : Memref sig .tc .vmem _ _).access (Rect.unit (s := S2x3x32x256) ![0, 0, 0, 0] S1x1x32x64.size inb_S2x3x32x256_S1x1x32x64_0_0_0_0) : View sig .tc _ _ _).write (Elt F)
    (f) (k0_pay67 (v259 E) (v267 E)) Finset.univ) (k0_pay68 (v264 E)) Finset.univ) (k0_pay69 (v267 E)) Finset.univ
def v322 (E : Env F) : Vec F S1x2x32x256 .bf16 := glM.view.readAt (Elt F) (Rect.unit (s := S3x2x32x256) ![2, 0, 0, 0] S1x2x32x256.size inb_S3x2x32x256_S1x2x32x256_2_0_0_0).toLoadRect E.gl
def v326 (E : Env F) : Vec F S1x2x128x256 .bf16 := kvM.view.readAt (Elt F) (Rect.unit (s := S2x2x128x256) ![0, 0, 0, 0] S1x2x128x256.size inb_S2x2x128x256_S1x2x128x256_0_0_0_0).toLoadRect E.kv
def v325 (E : Env F) : FVec F S32x64 .bf16 := k0_pay78 (v322 E)
def v329 (E : Env F) : FVec F S128x64 .bf16 := k0_pay79 (v326 E)
def ac27 (E : Env F) (f : CAc F) : CAc F :=
  ((acM : Memref sig .tc .vmem _ _).access (Rect.unit (s := S2x3x32x256) ![0, 2, 0, 64] S1x1x32x64.size inb_S2x3x32x256_S1x1x32x64_0_2_0_64) : View sig .tc _ _ _).write (Elt F)
    (((acM : Memref sig .tc .vmem _ _).access (Rect.unit (s := S2x3x32x256) ![0, 1, 0, 64] S1x1x32x64.size inb_S2x3x32x256_S1x1x32x64_0_1_0_64) : View sig .tc _ _ _).write (Elt F)
    (((acM : Memref sig .tc .vmem _ _).access (Rect.unit (s := S2x3x32x256) ![0, 0, 0, 64] S1x1x32x64.size inb_S2x3x32x256_S1x1x32x64_0_0_0_64) : View sig .tc _ _ _).write (Elt F)
    (f) (k0_pay75 (v296 E) (v297 E)) Finset.univ) (k0_pay76 (v297 E)) Finset.univ) (k0_pay77 (v297 E)) Finset.univ
def v330 (E : Env F) : Vec F S1x2x128x256 .bf16 := kvM.view.readAt (Elt F) (Rect.unit (s := S2x2x128x256) ![1, 0, 0, 0] S1x2x128x256.size inb_S2x2x128x256_S1x2x128x256_1_0_0_0).toLoadRect E.kv
def v359 (E : Env F) : Vec F S1x2x32x256 .bf16 := glM.view.readAt (Elt F) (Rect.unit (s := S3x2x32x256) ![2, 0, 0, 0] S1x2x32x256.size inb_S3x2x32x256_S1x2x32x256_2_0_0_0).toLoadRect E.gl
def v362 (E : Env F) : FVec F S32x64 .bf16 := (k0_pay86 (v359 E))
def ac28 (E : Env F) (f : CAc F) : CAc F :=
  ((acM : Memref sig .tc .vmem _ _).access (Rect.unit (s := S2x3x32x256) ![0, 2, 0, 128] S1x1x32x64.size inb_S2x3x32x256_S1x1x32x64_0_2_0_128) : View sig .tc _ _ _).write (Elt F)
    (((acM : Memref sig .tc .vmem _ _).access (Rect.unit (s := S2x3x32x256) ![0, 1, 0, 128] S1x1x32x64.size inb_S2x3x32x256_S1x1x32x64_0_1_0_128) : View sig .tc _ _ _).write (Elt F)
    (((acM : Memref sig .tc .vmem _ _).access (Rect.unit (s := S2x3x32x256) ![0, 0, 0, 128] S1x1x32x64.size inb_S2x3x32x256_S1x1x32x64_0_0_0_128) : View sig .tc _ _ _).write (Elt F)
    (f) (k0_pay83 (v325 E) (v329 E) (v330 E)) Finset.univ) (k0_pay84 (v325 E) (v329 E)) Finset.univ) (k0_pay85 (v325 E) (v329 E)) Finset.univ
def v363 (E : Env F) : Vec F S1x2x128x256 .bf16 := kvM.view.readAt (Elt F) (Rect.unit (s := S2x2x128x256) ![0, 0, 0, 0] S1x2x128x256.size inb_S2x2x128x256_S1x2x128x256_0_0_0_0).toLoadRect E.kv
def v367 (E : Env F) : Vec F S1x2x128x256 .bf16 := kvM.view.readAt (Elt F) (Rect.unit (s := S2x2x128x256) ![1, 0, 0, 0] S1x2x128x256.size inb_S2x2x128x256_S1x2x128x256_1_0_0_0).toLoadRect E.kv
def v395 (E : Env F) : FVec F S1x1x32x64 .f32 := (k0_pay92 (v362 E) (v363 E))
def ac29 (E : Env F) (f : CAc F) : CAc F :=
  ((acM : Memref sig .tc .vmem _ _).access (Rect.unit (s := S2x3x32x256) ![0, 1, 0, 192] S1x1x32x64.size inb_S2x3x32x256_S1x1x32x64_0_1_0_192) : View sig .tc _ _ _).write (Elt F)
    (((acM : Memref sig .tc .vmem _ _).access (Rect.unit (s := S2x3x32x256) ![0, 0, 0, 192] S1x1x32x64.size inb_S2x3x32x256_S1x1x32x64_0_0_0_192) : View sig .tc _ _ _).write (Elt F)
    (f) (k0_pay90 (v362 E) (v363 E) (v367 E)) Finset.univ) (k0_pay91 (v362 E) (v363 E)) Finset.univ
def v396 (E : Env F) : Vec F S1x2x32x256 .bf16 := glM.view.readAt (Elt F) (Rect.unit (s := S3x2x32x256) ![2, 0, 0, 0] S1x2x32x256.size inb_S3x2x32x256_S1x2x32x256_2_0_0_0).toLoadRect E.gl
def v400 (E : Env F) : Vec F S1x2x128x256 .bf16 := kvM.view.readAt (Elt F) (Rect.unit (s := S2x2x128x256) ![0, 0, 0, 0] S1x2x128x256.size inb_S2x2x128x256_S1x2x128x256_0_0_0_0).toLoadRect E.kv
def v404 (E : Env F) : Vec F S1x2x128x256 .bf16 := kvM.view.readAt (Elt F) (Rect.unit (s := S2x2x128x256) ![1, 0, 0, 0] S1x2x128x256.size inb_S2x2x128x256_S1x2x128x256_1_0_0_0).toLoadRect E.kv
def v417 (E : Env F) : FVec F S32x1 .f32 := (k0_pay96 (v396 E) (v400 E))
def ac30 (E : Env F) (f : CAc F) : CAc F :=
  ((acM : Memref sig .tc .vmem _ _).access (Rect.unit (s := S2x3x32x256) ![1, 1, 0, 0] S1x1x32x64.size inb_S2x3x32x256_S1x1x32x64_1_1_0_0) : View sig .tc _ _ _).write (Elt F)
    (((acM : Memref sig .tc .vmem _ _).access (Rect.unit (s := S2x3x32x256) ![1, 0, 0, 0] S1x1x32x64.size inb_S2x3x32x256_S1x1x32x64_1_0_0_0) : View sig .tc _ _ _).write (Elt F)
    (((acM : Memref sig .tc .vmem _ _).access (Rect.unit (s := S2x3x32x256) ![0, 2, 0, 192] S1x1x32x64.size inb_S2x3x32x256_S1x1x32x64_0_2_0_192) : View sig .tc _ _ _).write (Elt F)
    (f) (v395 E) Finset.univ) (k0_pay97 (v396 E) (v400 E) (v404 E)) Finset.univ) (k0_pay98 (v396 E) (v400 E)) Finset.univ
def v433 (E : Env F) : Vec F S1x2x32x256 .bf16 := glM.view.readAt (Elt F) (Rect.unit (s := S3x2x32x256) ![2, 0, 0, 0] S1x2x32x256.size inb_S3x2x32x256_S1x2x32x256_2_0_0_0).toLoadRect E.gl
def v437 (E : Env F) : Vec F S1x2x128x256 .bf16 := kvM.view.readAt (Elt F) (Rect.unit (s := S2x2x128x256) ![0, 0, 0, 0] S1x2x128x256.size inb_S2x2x128x256_S1x2x128x256_0_0_0_0).toLoadRect E.kv
def v441 (E : Env F) : Vec F S1x2x128x256 .bf16 := kvM.view.readAt (Elt F) (Rect.unit (s := S2x2x128x256) ![1, 0, 0, 0] S1x2x128x256.size inb_S2x2x128x256_S1x2x128x256_1_0_0_0).toLoadRect E.kv
def v454 (E : Env F) : FVec F S32x1 .f32 := k0_pay103 (v433 E) (v437 E)
def v460 (E : Env F) : FVec F S32x1 .f32 := k0_pay105 (v433 E) (v437 E)
def ac31 (E : Env F) (f : CAc F) : CAc F :=
  ((acM : Memref sig .tc .vmem _ _).access (Rect.unit (s := S2x3x32x256) ![1, 0, 0, 64] S1x1x32x64.size inb_S2x3x32x256_S1x1x32x64_1_0_0_64) : View sig .tc _ _ _).write (Elt F)
    (((acM : Memref sig .tc .vmem _ _).access (Rect.unit (s := S2x3x32x256) ![1, 2, 0, 0] S1x1x32x64.size inb_S2x3x32x256_S1x1x32x64_1_2_0_0) : View sig .tc _ _ _).write (Elt F)
    (f) (k0_pay99 (v417 E)) Finset.univ) (k0_pay104 (v433 E) (v437 E) (v441 E)) Finset.univ
def v470 (E : Env F) : Vec F S1x2x32x256 .bf16 := glM.view.readAt (Elt F) (Rect.unit (s := S3x2x32x256) ![2, 0, 0, 0] S1x2x32x256.size inb_S3x2x32x256_S1x2x32x256_2_0_0_0).toLoadRect E.gl
def v474 (E : Env F) : Vec F S1x2x128x256 .bf16 := kvM.view.readAt (Elt F) (Rect.unit (s := S2x2x128x256) ![0, 0, 0, 0] S1x2x128x256.size inb_S2x2x128x256_S1x2x128x256_0_0_0_0).toLoadRect E.kv
def v478 (E : Env F) : Vec F S1x2x128x256 .bf16 := kvM.view.readAt (Elt F) (Rect.unit (s := S2x2x128x256) ![1, 0, 0, 0] S1x2x128x256.size inb_S2x2x128x256_S1x2x128x256_1_0_0_0).toLoadRect E.kv
def v486 (E : Env F) : FVec F S32x1 .f32 := k0_pay109 (v470 E) (v474 E)
def v491 (E : Env F) : FVec F S32x1 .f32 := k0_pay111 (v470 E) (v474 E)
def v493 (E : Env F) : FVec F S32x64 .f32 := k0_pay112 (v470 E) (v474 E) (v478 E)
def ac32 (E : Env F) (f : CAc F) : CAc F :=
  ((acM : Memref sig .tc .vmem _ _).access (Rect.unit (s := S2x3x32x256) ![1, 2, 0, 64] S1x1x32x64.size inb_S2x3x32x256_S1x1x32x64_1_2_0_64) : View sig .tc _ _ _).write (Elt F)
    (((acM : Memref sig .tc .vmem _ _).access (Rect.unit (s := S2x3x32x256) ![1, 1, 0, 64] S1x1x32x64.size inb_S2x3x32x256_S1x1x32x64_1_1_0_64) : View sig .tc _ _ _).write (Elt F)
    (f) (k0_pay106 (v460 E)) Finset.univ) (k0_pay107 (v454 E)) Finset.univ
def v507 (E : Env F) : Vec F S1x2x32x256 .bf16 := glM.view.readAt (Elt F) (Rect.unit (s := S3x2x32x256) ![2, 0, 0, 0] S1x2x32x256.size inb_S3x2x32x256_S1x2x32x256_2_0_0_0).toLoadRect E.gl
def v511 (E : Env F) : Vec F S1x2x128x256 .bf16 := kvM.view.readAt (Elt F) (Rect.unit (s := S2x2x128x256) ![0, 0, 0, 0] S1x2x128x256.size inb_S2x2x128x256_S1x2x128x256_0_0_0_0).toLoadRect E.kv
def v515 (E : Env F) : Vec F S1x2x128x256 .bf16 := kvM.view.readAt (Elt F) (Rect.unit (s := S2x2x128x256) ![1, 0, 0, 0] S1x2x128x256.size inb_S2x2x128x256_S1x2x128x256_1_0_0_0).toLoadRect E.kv
def v518 (E : Env F) : FVec F S128x64 .bf16 := k0_pay116 (v515 E)
def v521 (E : Env F) : FVec F S32x128 .f32 := k0_pay117 (v507 E) (v511 E)
def v523 (E : Env F) : FVec F S32x1 .f32 := k0_pay118 (v507 E) (v511 E)
def ac33 (E : Env F) (f : CAc F) : CAc F :=
  ((acM : Memref sig .tc .vmem _ _).access (Rect.unit (s := S2x3x32x256) ![1, 2, 0, 128] S1x1x32x64.size inb_S2x3x32x256_S1x1x32x64_1_2_0_128) : View sig .tc _ _ _).write (Elt F)
    (((acM : Memref sig .tc .vmem _ _).access (Rect.unit (s := S2x3x32x256) ![1, 1, 0, 128] S1x1x32x64.size inb_S2x3x32x256_S1x1x32x64_1_1_0_128) : View sig .tc _ _ _).write (Elt F)
    (((acM : Memref sig .tc .vmem _ _).access (Rect.unit (s := S2x3x32x256) ![1, 0, 0, 128] S1x1x32x64.size inb_S2x3x32x256_S1x1x32x64_1_0_0_128) : View sig .tc _ _ _).write (Elt F)
    (f) (k0_pay113 (v493 E)) Finset.univ) (k0_pay114 (v486 E)) Finset.univ) (k0_pay115 (v491 E)) Finset.univ
def ac34 (E : Env F) (f : CAc F) : CAc F :=
  ((acM : Memref sig .tc .vmem _ _).access (Rect.unit (s := S2x3x32x256) ![1, 2, 0, 192] S1x1x32x64.size inb_S2x3x32x256_S1x1x32x64_1_2_0_192) : View sig .tc _ _ _).write (Elt F)
    (((acM : Memref sig .tc .vmem _ _).access (Rect.unit (s := S2x3x32x256) ![1, 1, 0, 192] S1x1x32x64.size inb_S2x3x32x256_S1x1x32x64_1_1_0_192) : View sig .tc _ _ _).write (Elt F)
    (((acM : Memref sig .tc .vmem _ _).access (Rect.unit (s := S2x3x32x256) ![1, 0, 0, 192] S1x1x32x64.size inb_S2x3x32x256_S1x1x32x64_1_0_0_192) : View sig .tc _ _ _).write (Elt F)
    (f) (k0_pay120 (v518 E) (v521 E) (v523 E)) Finset.univ) (k0_pay121 (v523 E)) Finset.univ) (k0_pay122 (v521 E) (v523 E)) Finset.univ
def v560 (E : Env F) : Vec F S1x1x2x128x256 .bf16 := rcM.view.readAt (Elt F) (Rect.unit (s := S2x2x2x128x256) ![0, 0, 0, 0, 0] S1x1x2x128x256.size inb_S2x2x2x128x256_S1x1x2x128x256_0_0_0_0_0).toLoadRect E.r0
def v562 (E : Env F) : Vec F S1x2x128x256 .bf16 := kvM.view.readAt (Elt F) (Rect.unit (s := S2x2x128x256) ![0, 0, 0, 0] S1x2x128x256.size inb_S2x2x128x256_S1x2x128x256_0_0_0_0).toLoadRect E.kv
def v564 (E : Env F) : Vec F S1x1x2x128x256 .bf16 := rcM.view.readAt (Elt F) (Rect.unit (s := S2x2x2x128x256) ![1, 0, 0, 0, 0] S1x1x2x128x256.size inb_S2x2x2x128x256_S1x1x2x128x256_1_0_0_0_0).toLoadRect E.r1
def v566 (E : Env F) : Vec F S1x2x32x256 .bf16 := glM.view.readAt (Elt F) (Rect.unit (s := S3x2x32x256) ![0, 0, 0, 0] S1x2x32x256.size inb_S3x2x32x256_S1x2x32x256_0_0_0_0).toLoadRect E.gl
def v569 (E : Env F) : Vec F S1x1x2x128x256 .bf16 := rcM.view.readAt (Elt F) (Rect.unit (s := S2x2x2x128x256) ![0, 1, 0, 0, 0] S1x1x2x128x256.size inb_S2x2x2x128x256_S1x1x2x128x256_0_1_0_0_0).toLoadRect E.r0
def v571 (E : Env F) : Vec F S1x2x128x256 .bf16 := kvM.view.readAt (Elt F) (Rect.unit (s := S2x2x128x256) ![1, 0, 0, 0] S1x2x128x256.size inb_S2x2x128x256_S1x2x128x256_1_0_0_0).toLoadRect E.kv
def v568 (E : Env F) : FVec F S2x416x256 .bf16 := k0_pay123 (v560 E) (v562 E) (v564 E) (v566 E)
def v570 (E : Env F) : FVec F S2x128x256 .bf16 := k0_pay124 (v569 E)
def v572 (E : Env F) : FVec F S2x128x256 .bf16 := k0_pay125 (v571 E)
def v573 (E : Env F) : Vec F S1x1x2x128x256 .bf16 := rcM.view.readAt (Elt F) (Rect.unit (s := S2x2x2x128x256) ![1, 1, 0, 0, 0] S1x1x2x128x256.size inb_S2x2x2x128x256_S1x1x2x128x256_1_1_0_0_0).toLoadRect E.r1
def v575 (E : Env F) : Vec F S1x2x32x256 .bf16 := glM.view.readAt (Elt F) (Rect.unit (s := S3x2x32x256) ![1, 0, 0, 0] S1x2x32x256.size inb_S3x2x32x256_S1x2x32x256_1_0_0_0).toLoadRect E.gl
def v579 (E : Env F) : IVec S128x416 32 := iota .tc S128x416 32 [1] iota_S128x416_d1_w32
def v613 (E : Env F) : BitVec 1 := Scalar.cmpi .sle (wv2 E.c) 1#32
def v577 (E : Env F) : FVec F S2x416x256 .bf16 := k0_pay126 (v570 E) (v572 E) (v573 E) (v575 E)
def v610 (E : Env F) : IVec S128x416 1 := k0_pay128 (wv2 E.c) (wv5 E.c) (wv7 E.c)
def v612 (E : Env F) : IVec S128x416 1 := k0_pay129 (wv2 E.c) (wv5 E.c) (wv7 E.c)
def v622 (E : Env F) : IVec S128x416 1 := k0_pay130 (wv2 E.c) (v579 E) (v610 E) (v612 E) (v613 E)
def v656 (E : Env F) : FVec F S128x416 .f32 := k0_pay132 (wv2 E.c) (v145 E) (v568 E) (v579 E) (v610 E) (v612 E) (v613 E)
def cx37 (E : Env F) (f : CCx F) : CCx F :=
  ((cxM : Memref sig .tc .vmem _ _).access (Rect.unit (s := S2x128x256) ![0, 0, 0] S1x128x64.size inb_S2x128x256_S1x128x64_0_0_0) : View sig .tc _ _ _).write (Elt F)
    (f) (k0_pay131 (wv2 E.c) (v145 E) (v568 E) (v577 E) (v579 E) (v610 E) (v612 E) (v613 E)) Finset.univ
def v699 (E : Env F) : FVec F S128x64 .bf16 := k0_pay135 (v145 E)
def v700 (E : Env F) : FVec F S1x416x64 .bf16 := k0_pay136 (v568 E)
def cx38 (E : Env F) (f : CCx F) : CCx F :=
  ((cxM : Memref sig .tc .vmem _ _).access (Rect.unit (s := S2x128x256) ![0, 0, 128] S1x128x64.size inb_S2x128x256_S1x128x64_0_0_128) : View sig .tc _ _ _).write (Elt F)
    (((cxM : Memref sig .tc .vmem _ _).access (Rect.unit (s := S2x128x256) ![0, 0, 64] S1x128x64.size inb_S2x128x256_S1x128x64_0_0_64) : View sig .tc _ _ _).write (Elt F)
    (f) (k0_pay133 (v577 E) (v656 E)) Finset.univ) (k0_pay134 (v145 E) (v568 E) (v577 E) (v622 E)) Finset.univ
def v744 (E : Env F) : FVec F S128x64 .f32 := (k0_pay138 (v145 E) (v568 E) (v577 E) (v622 E))
def cx39 (E : Env F) (f : CCx F) : CCx F :=
  ((cxM : Memref sig .tc .vmem _ _).access (Rect.unit (s := S2x128x256) ![0, 0, 192] S1x128x64.size inb_S2x128x256_S1x128x64_0_0_192) : View sig .tc _ _ _).write (Elt F)
    (f) (k0_pay137 (v577 E) (v622 E) (v699 E) (v700 E)) Finset.univ
def v786 (E : Env F) : FVec F S128x416 .f32 := (k0_pay141 (v145 E) (v568 E) (v622 E))
def cx40 (E : Env F) (f : CCx F) : CCx F :=
  ((cxM : Memref sig .tc .vmem _ _).access (Rect.unit (s := S2x128x256) ![1, 0, 64] S1x128x64.size inb_S2x128x256_S1x128x64_1_0_64) : View sig .tc _ _ _).write (Elt F)
    (((cxM : Memref sig .tc .vmem _ _).access (Rect.unit (s := S2x128x256) ![1, 0, 0] S1x128x64.size inb_S2x128x256_S1x128x64_1_0_0) : View sig .tc _ _ _).write (Elt F)
    (f) (k0_pay139 (v744 E)) Finset.univ) (k0_pay140 (v145 E) (v568 E) (v577 E) (v622 E)) Finset.univ
def cx41 (E : Env F) (f : CCx F) : CCx F :=
  ((cxM : Memref sig .tc .vmem _ _).access (Rect.unit (s := S2x128x256) ![1, 0, 192] S1x128x64.size inb_S2x128x256_S1x128x64_1_0_192) : View sig .tc _ _ _).write (Elt F)
    (((cxM : Memref sig .tc .vmem _ _).access (Rect.unit (s := S2x128x256) ![1, 0, 128] S1x128x64.size inb_S2x128x256_S1x128x64_1_0_128) : View sig .tc _ _ _).write (Elt F)
    (f) (k0_pay142 (v577 E) (v786 E)) Finset.univ) (k0_pay143 (v145 E) (v568 E) (v577 E) (v622 E)) Finset.univ
def v862 (E : Env F) : Vec F S256x512 .bf16 := x4M.view.readAt (Elt F) (Rect.unit (s := S256x512) ![0, 0] S256x512.size inb_S256x512_S256x512_0_0).toLoadRect E.x4

/-! ## The merges of the tree -/

def mg0_v900 (a : CAc F) (r : CRd F) : FVec F S2x32x256 .f32 := k0_pay4 (acM.view.readAt (Elt F) (Rect.unit (s := S2x3x32x256) ![0, 0, 0, 0] S2x1x32x256.size inb_S2x3x32x256_S2x1x32x256_0_0_0_0).toLoadRect a)
def mg0_v904 (a : CAc F) (r : CRd F) : FVec F S2x32x256 .f32 := k0_pay6 (acM.view.readAt (Elt F) (Rect.unit (s := S2x3x32x256) ![0, 2, 0, 0] S2x1x32x256.size inb_S2x3x32x256_S2x1x32x256_0_2_0_0).toLoadRect a)
def mg0_v906 (a : CAc F) (r : CRd F) : FVec F S2x32x256 .f32 := k0_pay7 (rdM.view.readAt (Elt F) (Rect.unit (s := S5x2x3x32x256) ![0, 0, 0, 0, 0] S1x2x1x32x256.size inb_S5x2x3x32x256_S1x2x1x32x256_0_0_0_0_0).toLoadRect r)
def mg0_v908 (a : CAc F) (r : CRd F) : FVec F S2x32x256 .f32 := k0_pay8 (rdM.view.readAt (Elt F) (Rect.unit (s := S5x2x3x32x256) ![0, 0, 1, 0, 0] S1x2x1x32x256.size inb_S5x2x3x32x256_S1x2x1x32x256_0_0_1_0_0).toLoadRect r)
def mg0_v910 (a : CAc F) (r : CRd F) : FVec F S2x32x256 .f32 := k0_pay9 (rdM.view.readAt (Elt F) (Rect.unit (s := S5x2x3x32x256) ![0, 0, 2, 0, 0] S1x2x1x32x256.size inb_S5x2x3x32x256_S1x2x1x32x256_0_0_2_0_0).toLoadRect r)
def mg0_v911 (a : CAc F) (r : CRd F) : FVec F S2x32x256 .f32 := k0_pay10 (acM.view.readAt (Elt F) (Rect.unit (s := S2x3x32x256) ![0, 1, 0, 0] S2x1x32x256.size inb_S2x3x32x256_S2x1x32x256_0_1_0_0).toLoadRect a) (rdM.view.readAt (Elt F) (Rect.unit (s := S5x2x3x32x256) ![0, 0, 1, 0, 0] S1x2x1x32x256.size inb_S5x2x3x32x256_S1x2x1x32x256_0_0_1_0_0).toLoadRect r)
def mg0_v913 (a : CAc F) (r : CRd F) : FVec F S2x32x256 .f32 := k0_pay11 (acM.view.readAt (Elt F) (Rect.unit (s := S2x3x32x256) ![0, 1, 0, 0] S2x1x32x256.size inb_S2x3x32x256_S2x1x32x256_0_1_0_0).toLoadRect a) (rdM.view.readAt (Elt F) (Rect.unit (s := S5x2x3x32x256) ![0, 0, 1, 0, 0] S1x2x1x32x256.size inb_S5x2x3x32x256_S1x2x1x32x256_0_0_1_0_0).toLoadRect r)
/-- The partial result after the merge of level 0. -/
def mg0 (a : CAc F) (r : CRd F) : CAc F :=
  ((acM : Memref sig .tc .vmem _ _).access (Rect.unit (s := S2x3x32x256) ![0, 2, 0, 0] S2x1x32x256.size inb_S2x3x32x256_S2x1x32x256_0_2_0_0) : View sig .tc _ _ _).write (Elt F)
    (((acM : Memref sig .tc .vmem _ _).access (Rect.unit (s := S2x3x32x256) ![0, 1, 0, 0] S2x1x32x256.size inb_S2x3x32x256_S2x1x32x256_0_1_0_0) : View sig .tc _ _ _).write (Elt F)
    (((acM : Memref sig .tc .vmem _ _).access (Rect.unit (s := S2x3x32x256) ![0, 0, 0, 0] S2x1x32x256.size inb_S2x3x32x256_S2x1x32x256_0_0_0_0) : View sig .tc _ _ _).write (Elt F)
    (a) (k0_pay145 (mg0_v900 a r) (mg0_v906 a r) (mg0_v908 a r) (mg0_v911 a r) (mg0_v913 a r)) Finset.univ) (k0_pay146 (mg0_v911 a r)) Finset.univ) (k0_pay147 (mg0_v904 a r) (mg0_v908 a r) (mg0_v910 a r) (mg0_v911 a r) (mg0_v913 a r)) Finset.univ
def mg1_v900 (a : CAc F) (r : CRd F) : FVec F S2x32x256 .f32 := k0_pay12 (acM.view.readAt (Elt F) (Rect.unit (s := S2x3x32x256) ![0, 0, 0, 0] S2x1x32x256.size inb_S2x3x32x256_S2x1x32x256_0_0_0_0).toLoadRect a)
def mg1_v904 (a : CAc F) (r : CRd F) : FVec F S2x32x256 .f32 := k0_pay14 (acM.view.readAt (Elt F) (Rect.unit (s := S2x3x32x256) ![0, 2, 0, 0] S2x1x32x256.size inb_S2x3x32x256_S2x1x32x256_0_2_0_0).toLoadRect a)
def mg1_v906 (a : CAc F) (r : CRd F) : FVec F S2x32x256 .f32 := k0_pay15 (rdM.view.readAt (Elt F) (Rect.unit (s := S5x2x3x32x256) ![1, 0, 0, 0, 0] S1x2x1x32x256.size inb_S5x2x3x32x256_S1x2x1x32x256_1_0_0_0_0).toLoadRect r)
def mg1_v908 (a : CAc F) (r : CRd F) : FVec F S2x32x256 .f32 := k0_pay16 (rdM.view.readAt (Elt F) (Rect.unit (s := S5x2x3x32x256) ![1, 0, 1, 0, 0] S1x2x1x32x256.size inb_S5x2x3x32x256_S1x2x1x32x256_1_0_1_0_0).toLoadRect r)
def mg1_v910 (a : CAc F) (r : CRd F) : FVec F S2x32x256 .f32 := k0_pay17 (rdM.view.readAt (Elt F) (Rect.unit (s := S5x2x3x32x256) ![1, 0, 2, 0, 0] S1x2x1x32x256.size inb_S5x2x3x32x256_S1x2x1x32x256_1_0_2_0_0).toLoadRect r)
def mg1_v911 (a : CAc F) (r : CRd F) : FVec F S2x32x256 .f32 := k0_pay18 (acM.view.readAt (Elt F) (Rect.unit (s := S2x3x32x256) ![0, 1, 0, 0] S2x1x32x256.size inb_S2x3x32x256_S2x1x32x256_0_1_0_0).toLoadRect a) (rdM.view.readAt (Elt F) (Rect.unit (s := S5x2x3x32x256) ![1, 0, 1, 0, 0] S1x2x1x32x256.size inb_S5x2x3x32x256_S1x2x1x32x256_1_0_1_0_0).toLoadRect r)
def mg1_v913 (a : CAc F) (r : CRd F) : FVec F S2x32x256 .f32 := k0_pay19 (acM.view.readAt (Elt F) (Rect.unit (s := S2x3x32x256) ![0, 1, 0, 0] S2x1x32x256.size inb_S2x3x32x256_S2x1x32x256_0_1_0_0).toLoadRect a) (rdM.view.readAt (Elt F) (Rect.unit (s := S5x2x3x32x256) ![1, 0, 1, 0, 0] S1x2x1x32x256.size inb_S5x2x3x32x256_S1x2x1x32x256_1_0_1_0_0).toLoadRect r)
/-- The partial result after the merge of level 1. -/
def mg1 (a : CAc F) (r : CRd F) : CAc F :=
  ((acM : Memref sig .tc .vmem _ _).access (Rect.unit (s := S2x3x32x256) ![0, 2, 0, 0] S2x1x32x256.size inb_S2x3x32x256_S2x1x32x256_0_2_0_0) : View sig .tc _ _ _).write (Elt F)
    (((acM : Memref sig .tc .vmem _ _).access (Rect.unit (s := S2x3x32x256) ![0, 1, 0, 0] S2x1x32x256.size inb_S2x3x32x256_S2x1x32x256_0_1_0_0) : View sig .tc _ _ _).write (Elt F)
    (((acM : Memref sig .tc .vmem _ _).access (Rect.unit (s := S2x3x32x256) ![0, 0, 0, 0] S2x1x32x256.size inb_S2x3x32x256_S2x1x32x256_0_0_0_0) : View sig .tc _ _ _).write (Elt F)
    (a) (k0_pay149 (mg1_v900 a r) (mg1_v906 a r) (mg1_v908 a r) (mg1_v911 a r) (mg1_v913 a r)) Finset.univ) (k0_pay150 (mg1_v911 a r)) Finset.univ) (k0_pay151 (mg1_v904 a r) (mg1_v908 a r) (mg1_v910 a r) (mg1_v911 a r) (mg1_v913 a r)) Finset.univ
def mg2_v900 (a : CAc F) (r : CRd F) : FVec F S2x32x256 .f32 := k0_pay20 (acM.view.readAt (Elt F) (Rect.unit (s := S2x3x32x256) ![0, 0, 0, 0] S2x1x32x256.size inb_S2x3x32x256_S2x1x32x256_0_0_0_0).toLoadRect a)
def mg2_v904 (a : CAc F) (r : CRd F) : FVec F S2x32x256 .f32 := k0_pay22 (acM.view.readAt (Elt F) (Rect.unit (s := S2x3x32x256) ![0, 2, 0, 0] S2x1x32x256.size inb_S2x3x32x256_S2x1x32x256_0_2_0_0).toLoadRect a)
def mg2_v906 (a : CAc F) (r : CRd F) : FVec F S2x32x256 .f32 := k0_pay23 (rdM.view.readAt (Elt F) (Rect.unit (s := S5x2x3x32x256) ![2, 0, 0, 0, 0] S1x2x1x32x256.size inb_S5x2x3x32x256_S1x2x1x32x256_2_0_0_0_0).toLoadRect r)
def mg2_v908 (a : CAc F) (r : CRd F) : FVec F S2x32x256 .f32 := k0_pay24 (rdM.view.readAt (Elt F) (Rect.unit (s := S5x2x3x32x256) ![2, 0, 1, 0, 0] S1x2x1x32x256.size inb_S5x2x3x32x256_S1x2x1x32x256_2_0_1_0_0).toLoadRect r)
def mg2_v910 (a : CAc F) (r : CRd F) : FVec F S2x32x256 .f32 := k0_pay25 (rdM.view.readAt (Elt F) (Rect.unit (s := S5x2x3x32x256) ![2, 0, 2, 0, 0] S1x2x1x32x256.size inb_S5x2x3x32x256_S1x2x1x32x256_2_0_2_0_0).toLoadRect r)
def mg2_v911 (a : CAc F) (r : CRd F) : FVec F S2x32x256 .f32 := k0_pay26 (acM.view.readAt (Elt F) (Rect.unit (s := S2x3x32x256) ![0, 1, 0, 0] S2x1x32x256.size inb_S2x3x32x256_S2x1x32x256_0_1_0_0).toLoadRect a) (rdM.view.readAt (Elt F) (Rect.unit (s := S5x2x3x32x256) ![2, 0, 1, 0, 0] S1x2x1x32x256.size inb_S5x2x3x32x256_S1x2x1x32x256_2_0_1_0_0).toLoadRect r)
def mg2_v913 (a : CAc F) (r : CRd F) : FVec F S2x32x256 .f32 := k0_pay27 (acM.view.readAt (Elt F) (Rect.unit (s := S2x3x32x256) ![0, 1, 0, 0] S2x1x32x256.size inb_S2x3x32x256_S2x1x32x256_0_1_0_0).toLoadRect a) (rdM.view.readAt (Elt F) (Rect.unit (s := S5x2x3x32x256) ![2, 0, 1, 0, 0] S1x2x1x32x256.size inb_S5x2x3x32x256_S1x2x1x32x256_2_0_1_0_0).toLoadRect r)
/-- The partial result after the merge of level 2. -/
def mg2 (a : CAc F) (r : CRd F) : CAc F :=
  ((acM : Memref sig .tc .vmem _ _).access (Rect.unit (s := S2x3x32x256) ![0, 2, 0, 0] S2x1x32x256.size inb_S2x3x32x256_S2x1x32x256_0_2_0_0) : View sig .tc _ _ _).write (Elt F)
    (((acM : Memref sig .tc .vmem _ _).access (Rect.unit (s := S2x3x32x256) ![0, 1, 0, 0] S2x1x32x256.size inb_S2x3x32x256_S2x1x32x256_0_1_0_0) : View sig .tc _ _ _).write (Elt F)
    (((acM : Memref sig .tc .vmem _ _).access (Rect.unit (s := S2x3x32x256) ![0, 0, 0, 0] S2x1x32x256.size inb_S2x3x32x256_S2x1x32x256_0_0_0_0) : View sig .tc _ _ _).write (Elt F)
    (a) (k0_pay153 (mg2_v900 a r) (mg2_v906 a r) (mg2_v908 a r) (mg2_v911 a r) (mg2_v913 a r)) Finset.univ) (k0_pay154 (mg2_v911 a r)) Finset.univ) (k0_pay155 (mg2_v904 a r) (mg2_v908 a r) (mg2_v910 a r) (mg2_v911 a r) (mg2_v913 a r)) Finset.univ
def mg3_v900 (a : CAc F) (r : CRd F) : FVec F S2x32x256 .f32 := k0_pay28 (acM.view.readAt (Elt F) (Rect.unit (s := S2x3x32x256) ![0, 0, 0, 0] S2x1x32x256.size inb_S2x3x32x256_S2x1x32x256_0_0_0_0).toLoadRect a)
def mg3_v904 (a : CAc F) (r : CRd F) : FVec F S2x32x256 .f32 := k0_pay30 (acM.view.readAt (Elt F) (Rect.unit (s := S2x3x32x256) ![0, 2, 0, 0] S2x1x32x256.size inb_S2x3x32x256_S2x1x32x256_0_2_0_0).toLoadRect a)
def mg3_v906 (a : CAc F) (r : CRd F) : FVec F S2x32x256 .f32 := k0_pay31 (rdM.view.readAt (Elt F) (Rect.unit (s := S5x2x3x32x256) ![3, 0, 0, 0, 0] S1x2x1x32x256.size inb_S5x2x3x32x256_S1x2x1x32x256_3_0_0_0_0).toLoadRect r)
def mg3_v908 (a : CAc F) (r : CRd F) : FVec F S2x32x256 .f32 := k0_pay32 (rdM.view.readAt (Elt F) (Rect.unit (s := S5x2x3x32x256) ![3, 0, 1, 0, 0] S1x2x1x32x256.size inb_S5x2x3x32x256_S1x2x1x32x256_3_0_1_0_0).toLoadRect r)
def mg3_v910 (a : CAc F) (r : CRd F) : FVec F S2x32x256 .f32 := k0_pay33 (rdM.view.readAt (Elt F) (Rect.unit (s := S5x2x3x32x256) ![3, 0, 2, 0, 0] S1x2x1x32x256.size inb_S5x2x3x32x256_S1x2x1x32x256_3_0_2_0_0).toLoadRect r)
def mg3_v911 (a : CAc F) (r : CRd F) : FVec F S2x32x256 .f32 := k0_pay34 (acM.view.readAt (Elt F) (Rect.unit (s := S2x3x32x256) ![0, 1, 0, 0] S2x1x32x256.size inb_S2x3x32x256_S2x1x32x256_0_1_0_0).toLoadRect a) (rdM.view.readAt (Elt F) (Rect.unit (s := S5x2x3x32x256) ![3, 0, 1, 0, 0] S1x2x1x32x256.size inb_S5x2x3x32x256_S1x2x1x32x256_3_0_1_0_0).toLoadRect r)
def mg3_v913 (a : CAc F) (r : CRd F) : FVec F S2x32x256 .f32 := k0_pay35 (acM.view.readAt (Elt F) (Rect.unit (s := S2x3x32x256) ![0, 1, 0, 0] S2x1x32x256.size inb_S2x3x32x256_S2x1x32x256_0_1_0_0).toLoadRect a) (rdM.view.readAt (Elt F) (Rect.unit (s := S5x2x3x32x256) ![3, 0, 1, 0, 0] S1x2x1x32x256.size inb_S5x2x3x32x256_S1x2x1x32x256_3_0_1_0_0).toLoadRect r)
/-- The partial result after the merge of level 3. -/
def mg3 (a : CAc F) (r : CRd F) : CAc F :=
  ((acM : Memref sig .tc .vmem _ _).access (Rect.unit (s := S2x3x32x256) ![0, 2, 0, 0] S2x1x32x256.size inb_S2x3x32x256_S2x1x32x256_0_2_0_0) : View sig .tc _ _ _).write (Elt F)
    (((acM : Memref sig .tc .vmem _ _).access (Rect.unit (s := S2x3x32x256) ![0, 1, 0, 0] S2x1x32x256.size inb_S2x3x32x256_S2x1x32x256_0_1_0_0) : View sig .tc _ _ _).write (Elt F)
    (((acM : Memref sig .tc .vmem _ _).access (Rect.unit (s := S2x3x32x256) ![0, 0, 0, 0] S2x1x32x256.size inb_S2x3x32x256_S2x1x32x256_0_0_0_0) : View sig .tc _ _ _).write (Elt F)
    (a) (k0_pay157 (mg3_v900 a r) (mg3_v906 a r) (mg3_v908 a r) (mg3_v911 a r) (mg3_v913 a r)) Finset.univ) (k0_pay158 (mg3_v911 a r)) Finset.univ) (k0_pay159 (mg3_v904 a r) (mg3_v908 a r) (mg3_v910 a r) (mg3_v911 a r) (mg3_v913 a r)) Finset.univ
def mg4_v900 (a : CAc F) (r : CRd F) : FVec F S2x32x256 .f32 := k0_pay36 (acM.view.readAt (Elt F) (Rect.unit (s := S2x3x32x256) ![0, 0, 0, 0] S2x1x32x256.size inb_S2x3x32x256_S2x1x32x256_0_0_0_0).toLoadRect a)
def mg4_v904 (a : CAc F) (r : CRd F) : FVec F S2x32x256 .f32 := k0_pay38 (acM.view.readAt (Elt F) (Rect.unit (s := S2x3x32x256) ![0, 2, 0, 0] S2x1x32x256.size inb_S2x3x32x256_S2x1x32x256_0_2_0_0).toLoadRect a)
def mg4_v906 (a : CAc F) (r : CRd F) : FVec F S2x32x256 .f32 := k0_pay39 (rdM.view.readAt (Elt F) (Rect.unit (s := S5x2x3x32x256) ![4, 0, 0, 0, 0] S1x2x1x32x256.size inb_S5x2x3x32x256_S1x2x1x32x256_4_0_0_0_0).toLoadRect r)
def mg4_v908 (a : CAc F) (r : CRd F) : FVec F S2x32x256 .f32 := k0_pay40 (rdM.view.readAt (Elt F) (Rect.unit (s := S5x2x3x32x256) ![4, 0, 1, 0, 0] S1x2x1x32x256.size inb_S5x2x3x32x256_S1x2x1x32x256_4_0_1_0_0).toLoadRect r)
def mg4_v910 (a : CAc F) (r : CRd F) : FVec F S2x32x256 .f32 := k0_pay41 (rdM.view.readAt (Elt F) (Rect.unit (s := S5x2x3x32x256) ![4, 0, 2, 0, 0] S1x2x1x32x256.size inb_S5x2x3x32x256_S1x2x1x32x256_4_0_2_0_0).toLoadRect r)
def mg4_v911 (a : CAc F) (r : CRd F) : FVec F S2x32x256 .f32 := k0_pay42 (acM.view.readAt (Elt F) (Rect.unit (s := S2x3x32x256) ![0, 1, 0, 0] S2x1x32x256.size inb_S2x3x32x256_S2x1x32x256_0_1_0_0).toLoadRect a) (rdM.view.readAt (Elt F) (Rect.unit (s := S5x2x3x32x256) ![4, 0, 1, 0, 0] S1x2x1x32x256.size inb_S5x2x3x32x256_S1x2x1x32x256_4_0_1_0_0).toLoadRect r)
def mg4_v913 (a : CAc F) (r : CRd F) : FVec F S2x32x256 .f32 := k0_pay43 (acM.view.readAt (Elt F) (Rect.unit (s := S2x3x32x256) ![0, 1, 0, 0] S2x1x32x256.size inb_S2x3x32x256_S2x1x32x256_0_1_0_0).toLoadRect a) (rdM.view.readAt (Elt F) (Rect.unit (s := S5x2x3x32x256) ![4, 0, 1, 0, 0] S1x2x1x32x256.size inb_S5x2x3x32x256_S1x2x1x32x256_4_0_1_0_0).toLoadRect r)
/-- The partial result after the merge of level 4. -/
def mg4 (a : CAc F) (r : CRd F) : CAc F :=
  ((acM : Memref sig .tc .vmem _ _).access (Rect.unit (s := S2x3x32x256) ![0, 2, 0, 0] S2x1x32x256.size inb_S2x3x32x256_S2x1x32x256_0_2_0_0) : View sig .tc _ _ _).write (Elt F)
    (((acM : Memref sig .tc .vmem _ _).access (Rect.unit (s := S2x3x32x256) ![0, 1, 0, 0] S2x1x32x256.size inb_S2x3x32x256_S2x1x32x256_0_1_0_0) : View sig .tc _ _ _).write (Elt F)
    (((acM : Memref sig .tc .vmem _ _).access (Rect.unit (s := S2x3x32x256) ![0, 0, 0, 0] S2x1x32x256.size inb_S2x3x32x256_S2x1x32x256_0_0_0_0) : View sig .tc _ _ _).write (Elt F)
    (a) (k0_pay161 (mg4_v900 a r) (mg4_v906 a r) (mg4_v908 a r) (mg4_v911 a r) (mg4_v913 a r)) Finset.univ) (k0_pay162 (mg4_v911 a r)) Finset.univ) (k0_pay163 (mg4_v904 a r) (mg4_v908 a r) (mg4_v910 a r) (mg4_v911 a r) (mg4_v913 a r)) Finset.univ

/-- Device 0 overwrites its first 32 rows with the tree's result. -/
def cxFin (a : CAc F) (f : CCx F) : CCx F :=
  ((cxM : Memref sig .tc .vmem _ _).access (Rect.unit (s := S2x128x256) ![0, 0, 0] S2x32x256.size inb_S2x128x256_S2x32x256_0_0_0) : View sig .tc _ _ _).write (Elt F)
    (f) (k0_pay164 (acM.view.readAt (Elt F) (Rect.unit (s := S2x3x32x256) ![0, 0, 0, 0] S2x1x32x256.size inb_S2x3x32x256_S2x1x32x256_0_0_0_0).toLoadRect a) (acM.view.readAt (Elt F) (Rect.unit (s := S2x3x32x256) ![0, 2, 0, 0] S2x1x32x256.size inb_S2x3x32x256_S2x1x32x256_0_2_0_0).toLoadRect a)) Finset.univ
/-- The output block. -/
def ou43 (E : Env F) (x : CCx F) (f : COu F) : COu F :=
  ((ouM : Memref sig .tc .vmem _ _).access (Rect.unit (s := S2x128x512) ![1, 0, 0] S1x128x512.size inb_S2x128x512_S1x128x512_1_0_0) : View sig .tc _ _ _).write (Elt F)
    (((ouM : Memref sig .tc .vmem _ _).access (Rect.unit (s := S2x128x512) ![0, 0, 0] S1x128x512.size inb_S2x128x512_S1x128x512_0_0_0) : View sig .tc _ _ _).write (Elt F)
    (f) (k0_pay166 (v862 E) (cxM.view.readAt (Elt F) (Rect.unit (s := S2x128x256) ![0, 0, 0] S1x128x256.size inb_S2x128x256_S1x128x256_0_0_0).toLoadRect x)) Finset.univ) (k0_pay167 (v862 E) (cxM.view.readAt (Elt F) (Rect.unit (s := S2x128x256) ![1, 0, 0] S1x128x256.size inb_S2x128x256_S1x128x256_1_0_0).toLoadRect x)) Finset.univ

end Cert.KernelIdealProof
-- ==== Proof.KernelIdeal.Geo.lean ====
/- Which elements the loads of the receive buffers touch, and where each signal and transfer goes. -/
module

public import proofs.«01_k».proof.Proof.KernelIdeal.Vals

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A load of the receive buffer inside one slot. -/
theorem rc_sub (r : Rect S2x2x2x128x256) (k : ℕ) (h : r.set ⊆ rcSet k) : rcM.view.setOn r.toLoadRect.set ⊆ rcSet k := by
  intro i hi
  obtain ⟨j, hj, rfl⟩ := Finset.mem_map.mp hi
  exact h hj
theorem rd_sub (r : Rect S5x2x3x32x256) (k : ℕ) (h : r.set ⊆ rdSet k) : rdM.view.setOn r.toLoadRect.set ⊆ rdSet k := by
  intro i hi
  obtain ⟨j, hj, rfl⟩ := Finset.mem_map.mp hi
  exact h hj

theorem rc_sub0_0 : rcM.view.setOn (Rect.unit (s := S2x2x2x128x256) ![0, 0, 0, 0, 0] S1x1x2x128x256.size inb_S2x2x2x128x256_S1x1x2x128x256_0_0_0_0_0).toLoadRect.set ⊆ rcSet 0 :=
  rc_sub _ _ fun i hi => by
    rw [Rect.mem_set_unit] at hi
    have h0 : 0 ≤ (i 0 : ℕ) ∧ (i 0 : ℕ) < 0 + 1 := hi 0
    unfold rcSet; rw [Finset.mem_filter]; exact ⟨Finset.mem_univ _, by omega⟩
theorem rc_sub0_1 : rcM.view.setOn (Rect.unit (s := S2x2x2x128x256) ![0, 1, 0, 0, 0] S1x1x2x128x256.size inb_S2x2x2x128x256_S1x1x2x128x256_0_1_0_0_0).toLoadRect.set ⊆ rcSet 0 :=
  rc_sub _ _ fun i hi => by
    rw [Rect.mem_set_unit] at hi
    have h0 : 0 ≤ (i 0 : ℕ) ∧ (i 0 : ℕ) < 0 + 1 := hi 0
    unfold rcSet; rw [Finset.mem_filter]; exact ⟨Finset.mem_univ _, by omega⟩
theorem rc_sub1_0 : rcM.view.setOn (Rect.unit (s := S2x2x2x128x256) ![1, 0, 0, 0, 0] S1x1x2x128x256.size inb_S2x2x2x128x256_S1x1x2x128x256_1_0_0_0_0).toLoadRect.set ⊆ rcSet 1 :=
  rc_sub _ _ fun i hi => by
    rw [Rect.mem_set_unit] at hi
    have h0 : 1 ≤ (i 0 : ℕ) ∧ (i 0 : ℕ) < 1 + 1 := hi 0
    unfold rcSet; rw [Finset.mem_filter]; exact ⟨Finset.mem_univ _, by omega⟩
theorem rc_sub1_1 : rcM.view.setOn (Rect.unit (s := S2x2x2x128x256) ![1, 1, 0, 0, 0] S1x1x2x128x256.size inb_S2x2x2x128x256_S1x1x2x128x256_1_1_0_0_0).toLoadRect.set ⊆ rcSet 1 :=
  rc_sub _ _ fun i hi => by
    rw [Rect.mem_set_unit] at hi
    have h0 : 1 ≤ (i 0 : ℕ) ∧ (i 0 : ℕ) < 1 + 1 := hi 0
    unfold rcSet; rw [Finset.mem_filter]; exact ⟨Finset.mem_univ _, by omega⟩
theorem rd_sub0_0 : rdM.view.setOn (Rect.unit (s := S5x2x3x32x256) ![0, 0, 0, 0, 0] S1x2x1x32x256.size inb_S5x2x3x32x256_S1x2x1x32x256_0_0_0_0_0).toLoadRect.set ⊆ rdSet 0 :=
  rd_sub _ _ fun i hi => by
    rw [Rect.mem_set_unit] at hi
    have h0 : 0 ≤ (i 0 : ℕ) ∧ (i 0 : ℕ) < 0 + 1 := hi 0
    unfold rdSet; rw [Finset.mem_filter]; exact ⟨Finset.mem_univ _, by omega⟩
theorem rd_sub0_1 : rdM.view.setOn (Rect.unit (s := S5x2x3x32x256) ![0, 0, 1, 0, 0] S1x2x1x32x256.size inb_S5x2x3x32x256_S1x2x1x32x256_0_0_1_0_0).toLoadRect.set ⊆ rdSet 0 :=
  rd_sub _ _ fun i hi => by
    rw [Rect.mem_set_unit] at hi
    have h0 : 0 ≤ (i 0 : ℕ) ∧ (i 0 : ℕ) < 0 + 1 := hi 0
    unfold rdSet; rw [Finset.mem_filter]; exact ⟨Finset.mem_univ _, by omega⟩
theorem rd_sub0_2 : rdM.view.setOn (Rect.unit (s := S5x2x3x32x256) ![0, 0, 2, 0, 0] S1x2x1x32x256.size inb_S5x2x3x32x256_S1x2x1x32x256_0_0_2_0_0).toLoadRect.set ⊆ rdSet 0 :=
  rd_sub _ _ fun i hi => by
    rw [Rect.mem_set_unit] at hi
    have h0 : 0 ≤ (i 0 : ℕ) ∧ (i 0 : ℕ) < 0 + 1 := hi 0
    unfold rdSet; rw [Finset.mem_filter]; exact ⟨Finset.mem_univ _, by omega⟩
theorem rd_sub1_0 : rdM.view.setOn (Rect.unit (s := S5x2x3x32x256) ![1, 0, 0, 0, 0] S1x2x1x32x256.size inb_S5x2x3x32x256_S1x2x1x32x256_1_0_0_0_0).toLoadRect.set ⊆ rdSet 1 :=
  rd_sub _ _ fun i hi => by
    rw [Rect.mem_set_unit] at hi
    have h0 : 1 ≤ (i 0 : ℕ) ∧ (i 0 : ℕ) < 1 + 1 := hi 0
    unfold rdSet; rw [Finset.mem_filter]; exact ⟨Finset.mem_univ _, by omega⟩
theorem rd_sub1_1 : rdM.view.setOn (Rect.unit (s := S5x2x3x32x256) ![1, 0, 1, 0, 0] S1x2x1x32x256.size inb_S5x2x3x32x256_S1x2x1x32x256_1_0_1_0_0).toLoadRect.set ⊆ rdSet 1 :=
  rd_sub _ _ fun i hi => by
    rw [Rect.mem_set_unit] at hi
    have h0 : 1 ≤ (i 0 : ℕ) ∧ (i 0 : ℕ) < 1 + 1 := hi 0
    unfold rdSet; rw [Finset.mem_filter]; exact ⟨Finset.mem_univ _, by omega⟩
theorem rd_sub1_2 : rdM.view.setOn (Rect.unit (s := S5x2x3x32x256) ![1, 0, 2, 0, 0] S1x2x1x32x256.size inb_S5x2x3x32x256_S1x2x1x32x256_1_0_2_0_0).toLoadRect.set ⊆ rdSet 1 :=
  rd_sub _ _ fun i hi => by
    rw [Rect.mem_set_unit] at hi
    have h0 : 1 ≤ (i 0 : ℕ) ∧ (i 0 : ℕ) < 1 + 1 := hi 0
    unfold rdSet; rw [Finset.mem_filter]; exact ⟨Finset.mem_univ _, by omega⟩
theorem rd_sub2_0 : rdM.view.setOn (Rect.unit (s := S5x2x3x32x256) ![2, 0, 0, 0, 0] S1x2x1x32x256.size inb_S5x2x3x32x256_S1x2x1x32x256_2_0_0_0_0).toLoadRect.set ⊆ rdSet 2 :=
  rd_sub _ _ fun i hi => by
    rw [Rect.mem_set_unit] at hi
    have h0 : 2 ≤ (i 0 : ℕ) ∧ (i 0 : ℕ) < 2 + 1 := hi 0
    unfold rdSet; rw [Finset.mem_filter]; exact ⟨Finset.mem_univ _, by omega⟩
theorem rd_sub2_1 : rdM.view.setOn (Rect.unit (s := S5x2x3x32x256) ![2, 0, 1, 0, 0] S1x2x1x32x256.size inb_S5x2x3x32x256_S1x2x1x32x256_2_0_1_0_0).toLoadRect.set ⊆ rdSet 2 :=
  rd_sub _ _ fun i hi => by
    rw [Rect.mem_set_unit] at hi
    have h0 : 2 ≤ (i 0 : ℕ) ∧ (i 0 : ℕ) < 2 + 1 := hi 0
    unfold rdSet; rw [Finset.mem_filter]; exact ⟨Finset.mem_univ _, by omega⟩
theorem rd_sub2_2 : rdM.view.setOn (Rect.unit (s := S5x2x3x32x256) ![2, 0, 2, 0, 0] S1x2x1x32x256.size inb_S5x2x3x32x256_S1x2x1x32x256_2_0_2_0_0).toLoadRect.set ⊆ rdSet 2 :=
  rd_sub _ _ fun i hi => by
    rw [Rect.mem_set_unit] at hi
    have h0 : 2 ≤ (i 0 : ℕ) ∧ (i 0 : ℕ) < 2 + 1 := hi 0
    unfold rdSet; rw [Finset.mem_filter]; exact ⟨Finset.mem_univ _, by omega⟩
theorem rd_sub3_0 : rdM.view.setOn (Rect.unit (s := S5x2x3x32x256) ![3, 0, 0, 0, 0] S1x2x1x32x256.size inb_S5x2x3x32x256_S1x2x1x32x256_3_0_0_0_0).toLoadRect.set ⊆ rdSet 3 :=
  rd_sub _ _ fun i hi => by
    rw [Rect.mem_set_unit] at hi
    have h0 : 3 ≤ (i 0 : ℕ) ∧ (i 0 : ℕ) < 3 + 1 := hi 0
    unfold rdSet; rw [Finset.mem_filter]; exact ⟨Finset.mem_univ _, by omega⟩
theorem rd_sub3_1 : rdM.view.setOn (Rect.unit (s := S5x2x3x32x256) ![3, 0, 1, 0, 0] S1x2x1x32x256.size inb_S5x2x3x32x256_S1x2x1x32x256_3_0_1_0_0).toLoadRect.set ⊆ rdSet 3 :=
  rd_sub _ _ fun i hi => by
    rw [Rect.mem_set_unit] at hi
    have h0 : 3 ≤ (i 0 : ℕ) ∧ (i 0 : ℕ) < 3 + 1 := hi 0
    unfold rdSet; rw [Finset.mem_filter]; exact ⟨Finset.mem_univ _, by omega⟩
theorem rd_sub3_2 : rdM.view.setOn (Rect.unit (s := S5x2x3x32x256) ![3, 0, 2, 0, 0] S1x2x1x32x256.size inb_S5x2x3x32x256_S1x2x1x32x256_3_0_2_0_0).toLoadRect.set ⊆ rdSet 3 :=
  rd_sub _ _ fun i hi => by
    rw [Rect.mem_set_unit] at hi
    have h0 : 3 ≤ (i 0 : ℕ) ∧ (i 0 : ℕ) < 3 + 1 := hi 0
    unfold rdSet; rw [Finset.mem_filter]; exact ⟨Finset.mem_univ _, by omega⟩
theorem rd_sub4_0 : rdM.view.setOn (Rect.unit (s := S5x2x3x32x256) ![4, 0, 0, 0, 0] S1x2x1x32x256.size inb_S5x2x3x32x256_S1x2x1x32x256_4_0_0_0_0).toLoadRect.set ⊆ rdSet 4 :=
  rd_sub _ _ fun i hi => by
    rw [Rect.mem_set_unit] at hi
    have h0 : 4 ≤ (i 0 : ℕ) ∧ (i 0 : ℕ) < 4 + 1 := hi 0
    unfold rdSet; rw [Finset.mem_filter]; exact ⟨Finset.mem_univ _, by omega⟩
theorem rd_sub4_1 : rdM.view.setOn (Rect.unit (s := S5x2x3x32x256) ![4, 0, 1, 0, 0] S1x2x1x32x256.size inb_S5x2x3x32x256_S1x2x1x32x256_4_0_1_0_0).toLoadRect.set ⊆ rdSet 4 :=
  rd_sub _ _ fun i hi => by
    rw [Rect.mem_set_unit] at hi
    have h0 : 4 ≤ (i 0 : ℕ) ∧ (i 0 : ℕ) < 4 + 1 := hi 0
    unfold rdSet; rw [Finset.mem_filter]; exact ⟨Finset.mem_univ _, by omega⟩
theorem rd_sub4_2 : rdM.view.setOn (Rect.unit (s := S5x2x3x32x256) ![4, 0, 2, 0, 0] S1x2x1x32x256.size inb_S5x2x3x32x256_S1x2x1x32x256_4_0_2_0_0).toLoadRect.set ⊆ rdSet 4 :=
  rd_sub _ _ fun i hi => by
    rw [Rect.mem_set_unit] at hi
    have h0 : 4 ≤ (i 0 : ℕ) ∧ (i 0 : ℕ) < 4 + 1 := hi 0
    unfold rdSet; rw [Finset.mem_filter]; exact ⟨Finset.mem_univ _, by omega⟩

/-! ## Targets -/

theorem devN1 (c : Dev nD) (h : k0_dev1 c < nD) : (⟨k0_dev1 c, h⟩ : Dev nD) = sh c 1 := Fin.ext (k0_dev1_eq c)
theorem devN2 (c : Dev nD) (h : k0_dev2 c < nD) : (⟨k0_dev2 c, h⟩ : Dev nD) = sh c 2 := Fin.ext (k0_dev2_eq c)
theorem devN3 (c : Dev nD) (h : k0_dev3 c < nD) : (⟨k0_dev3 c, h⟩ : Dev nD) = sh c 3 := Fin.ext (k0_dev3_eq c)
theorem devN4 (c : Dev nD) (h : k0_dev4 c < nD) : (⟨k0_dev4 c, h⟩ : Dev nD) = sh c 4 := Fin.ext (k0_dev4_eq c)
theorem devN5 (c : Dev nD) (h : k0_dev5 c < nD) : (⟨k0_dev5 c, h⟩ : Dev nD) = sh c 5 := Fin.ext (k0_dev5_eq c)
theorem devN6 (c : Dev nD) (h : k0_dev6 c < nD) : (⟨k0_dev6 c, h⟩ : Dev nD) = sh c 6 := Fin.ext (k0_dev6_eq c)
theorem devN7 (c : Dev nD) (h : k0_dev7 c < nD) : (⟨k0_dev7 c, h⟩ : Dev nD) = sh c 7 := Fin.ext (k0_dev7_eq c)
theorem devN8 (c : Dev nD) (h : k0_dev8 c < nD) : (⟨k0_dev8 c, h⟩ : Dev nD) = sh c 8 := Fin.ext (k0_dev8_eq c)
theorem devN9 (c : Dev nD) (h : k0_dev9 c < nD) : (⟨k0_dev9 c, h⟩ : Dev nD) = sh c 9 := Fin.ext (k0_dev9_eq c)
theorem devN10 (c : Dev nD) (h : k0_dev10 c < nD) : (⟨k0_dev10 c, h⟩ : Dev nD) = sh c 10 := Fin.ext (k0_dev10_eq c)
theorem devN11 (c : Dev nD) (h : k0_dev11 c < nD) : (⟨k0_dev11 c, h⟩ : Dev nD) = sh c 11 := Fin.ext (k0_dev11_eq c)
theorem devN12 (c : Dev nD) (h : k0_dev12 c < nD) : (⟨k0_dev12 c, h⟩ : Dev nD) = sh c 12 := Fin.ext (k0_dev12_eq c)
theorem devN13 (c : Dev nD) (h : k0_dev13 c < nD) : (⟨k0_dev13 c, h⟩ : Dev nD) = sh c 13 := Fin.ext (k0_dev13_eq c)
theorem devN14 (c : Dev nD) (h : k0_dev14 c < nD) : (⟨k0_dev14 c, h⟩ : Dev nD) = sh c 14 := Fin.ext (k0_dev14_eq c)
theorem devN15 (c : Dev nD) (h : k0_dev15 c < nD) : (⟨k0_dev15 c, h⟩ : Dev nD) = sh c 15 := Fin.ext (k0_dev15_eq c)
theorem devN16 (c : Dev nD) (h : k0_dev16 c < nD) : (⟨k0_dev16 c, h⟩ : Dev nD) = sh c 16 := Fin.ext (k0_dev16_eq c)
theorem devN17 (c : Dev nD) (h : k0_dev17 c < nD) : (⟨k0_dev17 c, h⟩ : Dev nD) = sh c 17 := Fin.ext (k0_dev17_eq c)
theorem devN18 (c : Dev nD) (h : k0_dev18 c < nD) : (⟨k0_dev18 c, h⟩ : Dev nD) = sh c 18 := Fin.ext (k0_dev18_eq c)
theorem devN19 (c : Dev nD) (h : k0_dev19 c < nD) : (⟨k0_dev19 c, h⟩ : Dev nD) = sh c 19 := Fin.ext (k0_dev19_eq c)
theorem devN20 (c : Dev nD) (h : k0_dev20 c < nD) : (⟨k0_dev20 c, h⟩ : Dev nD) = sh c 20 := Fin.ext (k0_dev20_eq c)
theorem devN21 (c : Dev nD) (h : k0_dev21 c < nD) : (⟨k0_dev21 c, h⟩ : Dev nD) = sh c 21 := Fin.ext (k0_dev21_eq c)
theorem devN22 (c : Dev nD) (h : k0_dev22 c < nD) : (⟨k0_dev22 c, h⟩ : Dev nD) = sh c 22 := Fin.ext (k0_dev22_eq c)
theorem devN23 (c : Dev nD) (h : k0_dev23 c < nD) : (⟨k0_dev23 c, h⟩ : Dev nD) = sh c 23 := Fin.ext (k0_dev23_eq c)
theorem devN24 (c : Dev nD) (h : k0_dev24 c < nD) : (⟨k0_dev24 c, h⟩ : Dev nD) = sh c 24 := Fin.ext (k0_dev24_eq c)
theorem devN25 (c : Dev nD) (h : k0_dev25 c < nD) : (⟨k0_dev25 c, h⟩ : Dev nD) = sh c 25 := Fin.ext (k0_dev25_eq c)
theorem devN26 (c : Dev nD) (h : k0_dev26 c < nD) : (⟨k0_dev26 c, h⟩ : Dev nD) = sh c 26 := Fin.ext (k0_dev26_eq c)
theorem devN27 (c : Dev nD) (h : k0_dev27 c < nD) : (⟨k0_dev27 c, h⟩ : Dev nD) = sh c 27 := Fin.ext (k0_dev27_eq c)
theorem devN28 (c : Dev nD) (h : k0_dev28 c < nD) : (⟨k0_dev28 c, h⟩ : Dev nD) = sh c 28 := Fin.ext (k0_dev28_eq c)
theorem devN29 (c : Dev nD) (h : k0_dev29 c < nD) : (⟨k0_dev29 c, h⟩ : Dev nD) = sh c 29 := Fin.ext (k0_dev29_eq c)
theorem devN30 (c : Dev nD) (h : k0_dev30 c < nD) : (⟨k0_dev30 c, h⟩ : Dev nD) = sh c 30 := Fin.ext (k0_dev30_eq c)
theorem devN31 (c : Dev nD) (h : k0_dev31 c < nD) : (⟨k0_dev31 c, h⟩ : Dev nD) = sh c 31 := Fin.ext (k0_dev31_eq c)
theorem devN32 (c : Dev nD) (h : k0_dev32 c < nD) : (⟨k0_dev32 c, h⟩ : Dev nD) = sh c 1 := Fin.ext (k0_dev32_eq c)
theorem devN33 (c : Dev nD) (h : k0_dev33 c < nD) : (⟨k0_dev33 c, h⟩ : Dev nD) = sh c 31 := Fin.ext (k0_dev33_eq c)
theorem devN70 (c : Dev nD) (h : k0_dev70 c < nD) : (⟨k0_dev70 c, h⟩ : Dev nD) = sh c 1 := Fin.ext (k0_dev70_eq c)
theorem devN71 (c : Dev nD) (h : k0_dev71 c < nD) : (⟨k0_dev71 c, h⟩ : Dev nD) = sh c 2 := Fin.ext (k0_dev71_eq c)
theorem devN72 (c : Dev nD) (h : k0_dev72 c < nD) : (⟨k0_dev72 c, h⟩ : Dev nD) = sh c 3 := Fin.ext (k0_dev72_eq c)
theorem devN73 (c : Dev nD) (h : k0_dev73 c < nD) : (⟨k0_dev73 c, h⟩ : Dev nD) = sh c 4 := Fin.ext (k0_dev73_eq c)
theorem devN74 (c : Dev nD) (h : k0_dev74 c < nD) : (⟨k0_dev74 c, h⟩ : Dev nD) = sh c 5 := Fin.ext (k0_dev74_eq c)
theorem devN75 (c : Dev nD) (h : k0_dev75 c < nD) : (⟨k0_dev75 c, h⟩ : Dev nD) = sh c 6 := Fin.ext (k0_dev75_eq c)
theorem devN76 (c : Dev nD) (h : k0_dev76 c < nD) : (⟨k0_dev76 c, h⟩ : Dev nD) = sh c 7 := Fin.ext (k0_dev76_eq c)
theorem devN77 (c : Dev nD) (h : k0_dev77 c < nD) : (⟨k0_dev77 c, h⟩ : Dev nD) = sh c 8 := Fin.ext (k0_dev77_eq c)
theorem devN78 (c : Dev nD) (h : k0_dev78 c < nD) : (⟨k0_dev78 c, h⟩ : Dev nD) = sh c 9 := Fin.ext (k0_dev78_eq c)
theorem devN79 (c : Dev nD) (h : k0_dev79 c < nD) : (⟨k0_dev79 c, h⟩ : Dev nD) = sh c 10 := Fin.ext (k0_dev79_eq c)
theorem devN80 (c : Dev nD) (h : k0_dev80 c < nD) : (⟨k0_dev80 c, h⟩ : Dev nD) = sh c 11 := Fin.ext (k0_dev80_eq c)
theorem devN81 (c : Dev nD) (h : k0_dev81 c < nD) : (⟨k0_dev81 c, h⟩ : Dev nD) = sh c 12 := Fin.ext (k0_dev81_eq c)
theorem devN82 (c : Dev nD) (h : k0_dev82 c < nD) : (⟨k0_dev82 c, h⟩ : Dev nD) = sh c 13 := Fin.ext (k0_dev82_eq c)
theorem devN83 (c : Dev nD) (h : k0_dev83 c < nD) : (⟨k0_dev83 c, h⟩ : Dev nD) = sh c 14 := Fin.ext (k0_dev83_eq c)
theorem devN84 (c : Dev nD) (h : k0_dev84 c < nD) : (⟨k0_dev84 c, h⟩ : Dev nD) = sh c 15 := Fin.ext (k0_dev84_eq c)
theorem devN85 (c : Dev nD) (h : k0_dev85 c < nD) : (⟨k0_dev85 c, h⟩ : Dev nD) = sh c 16 := Fin.ext (k0_dev85_eq c)
theorem devN86 (c : Dev nD) (h : k0_dev86 c < nD) : (⟨k0_dev86 c, h⟩ : Dev nD) = sh c 17 := Fin.ext (k0_dev86_eq c)
theorem devN87 (c : Dev nD) (h : k0_dev87 c < nD) : (⟨k0_dev87 c, h⟩ : Dev nD) = sh c 18 := Fin.ext (k0_dev87_eq c)
theorem devN88 (c : Dev nD) (h : k0_dev88 c < nD) : (⟨k0_dev88 c, h⟩ : Dev nD) = sh c 19 := Fin.ext (k0_dev88_eq c)
theorem devN89 (c : Dev nD) (h : k0_dev89 c < nD) : (⟨k0_dev89 c, h⟩ : Dev nD) = sh c 20 := Fin.ext (k0_dev89_eq c)
theorem devN90 (c : Dev nD) (h : k0_dev90 c < nD) : (⟨k0_dev90 c, h⟩ : Dev nD) = sh c 21 := Fin.ext (k0_dev90_eq c)
theorem devN91 (c : Dev nD) (h : k0_dev91 c < nD) : (⟨k0_dev91 c, h⟩ : Dev nD) = sh c 22 := Fin.ext (k0_dev91_eq c)
theorem devN92 (c : Dev nD) (h : k0_dev92 c < nD) : (⟨k0_dev92 c, h⟩ : Dev nD) = sh c 23 := Fin.ext (k0_dev92_eq c)
theorem devN93 (c : Dev nD) (h : k0_dev93 c < nD) : (⟨k0_dev93 c, h⟩ : Dev nD) = sh c 24 := Fin.ext (k0_dev93_eq c)
theorem devN94 (c : Dev nD) (h : k0_dev94 c < nD) : (⟨k0_dev94 c, h⟩ : Dev nD) = sh c 25 := Fin.ext (k0_dev94_eq c)
theorem devN95 (c : Dev nD) (h : k0_dev95 c < nD) : (⟨k0_dev95 c, h⟩ : Dev nD) = sh c 26 := Fin.ext (k0_dev95_eq c)
theorem devN96 (c : Dev nD) (h : k0_dev96 c < nD) : (⟨k0_dev96 c, h⟩ : Dev nD) = sh c 27 := Fin.ext (k0_dev96_eq c)
theorem devN97 (c : Dev nD) (h : k0_dev97 c < nD) : (⟨k0_dev97 c, h⟩ : Dev nD) = sh c 28 := Fin.ext (k0_dev97_eq c)
theorem devN98 (c : Dev nD) (h : k0_dev98 c < nD) : (⟨k0_dev98 c, h⟩ : Dev nD) = sh c 29 := Fin.ext (k0_dev98_eq c)
theorem devN99 (c : Dev nD) (h : k0_dev99 c < nD) : (⟨k0_dev99 c, h⟩ : Dev nD) = sh c 30 := Fin.ext (k0_dev99_eq c)
theorem devN100 (c : Dev nD) (h : k0_dev100 c < nD) : (⟨k0_dev100 c, h⟩ : Dev nD) = sh c 31 := Fin.ext (k0_dev100_eq c)
theorem devN34 (h : k0_dev34 < nD) : (⟨k0_dev34, h⟩ : Dev nD) = sh 0 (34 - 33) := Fin.ext k0_dev34_eq
theorem devN35 (h : k0_dev35 < nD) : (⟨k0_dev35, h⟩ : Dev nD) = sh 0 (35 - 33) := Fin.ext k0_dev35_eq
theorem devN36 (h : k0_dev36 < nD) : (⟨k0_dev36, h⟩ : Dev nD) = sh 0 (36 - 33) := Fin.ext k0_dev36_eq
theorem devN37 (h : k0_dev37 < nD) : (⟨k0_dev37, h⟩ : Dev nD) = sh 0 (37 - 33) := Fin.ext k0_dev37_eq
theorem devN38 (h : k0_dev38 < nD) : (⟨k0_dev38, h⟩ : Dev nD) = sh 0 (38 - 33) := Fin.ext k0_dev38_eq
theorem devN39 (h : k0_dev39 < nD) : (⟨k0_dev39, h⟩ : Dev nD) = sh 0 (39 - 33) := Fin.ext k0_dev39_eq
theorem devN40 (h : k0_dev40 < nD) : (⟨k0_dev40, h⟩ : Dev nD) = sh 0 (40 - 33) := Fin.ext k0_dev40_eq
theorem devN41 (h : k0_dev41 < nD) : (⟨k0_dev41, h⟩ : Dev nD) = sh 0 (41 - 33) := Fin.ext k0_dev41_eq
theorem devN42 (h : k0_dev42 < nD) : (⟨k0_dev42, h⟩ : Dev nD) = sh 0 (42 - 33) := Fin.ext k0_dev42_eq
theorem devN43 (h : k0_dev43 < nD) : (⟨k0_dev43, h⟩ : Dev nD) = sh 0 (43 - 33) := Fin.ext k0_dev43_eq
theorem devN44 (h : k0_dev44 < nD) : (⟨k0_dev44, h⟩ : Dev nD) = sh 0 (44 - 33) := Fin.ext k0_dev44_eq
theorem devN45 (h : k0_dev45 < nD) : (⟨k0_dev45, h⟩ : Dev nD) = sh 0 (45 - 33) := Fin.ext k0_dev45_eq
theorem devN46 (h : k0_dev46 < nD) : (⟨k0_dev46, h⟩ : Dev nD) = sh 0 (46 - 33) := Fin.ext k0_dev46_eq
theorem devN47 (h : k0_dev47 < nD) : (⟨k0_dev47, h⟩ : Dev nD) = sh 0 (47 - 33) := Fin.ext k0_dev47_eq
theorem devN48 (h : k0_dev48 < nD) : (⟨k0_dev48, h⟩ : Dev nD) = sh 0 (48 - 33) := Fin.ext k0_dev48_eq
theorem devN49 (h : k0_dev49 < nD) : (⟨k0_dev49, h⟩ : Dev nD) = sh 0 (49 - 33) := Fin.ext k0_dev49_eq
theorem devN50 (h : k0_dev50 < nD) : (⟨k0_dev50, h⟩ : Dev nD) = sh 0 (50 - 33) := Fin.ext k0_dev50_eq
theorem devN51 (h : k0_dev51 < nD) : (⟨k0_dev51, h⟩ : Dev nD) = sh 0 (51 - 33) := Fin.ext k0_dev51_eq
theorem devN52 (h : k0_dev52 < nD) : (⟨k0_dev52, h⟩ : Dev nD) = sh 0 (52 - 33) := Fin.ext k0_dev52_eq
theorem devN53 (h : k0_dev53 < nD) : (⟨k0_dev53, h⟩ : Dev nD) = sh 0 (53 - 33) := Fin.ext k0_dev53_eq
theorem devN54 (h : k0_dev54 < nD) : (⟨k0_dev54, h⟩ : Dev nD) = sh 0 (54 - 33) := Fin.ext k0_dev54_eq
theorem devN55 (h : k0_dev55 < nD) : (⟨k0_dev55, h⟩ : Dev nD) = sh 0 (55 - 33) := Fin.ext k0_dev55_eq
theorem devN56 (h : k0_dev56 < nD) : (⟨k0_dev56, h⟩ : Dev nD) = sh 0 (56 - 33) := Fin.ext k0_dev56_eq
theorem devN57 (h : k0_dev57 < nD) : (⟨k0_dev57, h⟩ : Dev nD) = sh 0 (57 - 33) := Fin.ext k0_dev57_eq
theorem devN58 (h : k0_dev58 < nD) : (⟨k0_dev58, h⟩ : Dev nD) = sh 0 (58 - 33) := Fin.ext k0_dev58_eq
theorem devN59 (h : k0_dev59 < nD) : (⟨k0_dev59, h⟩ : Dev nD) = sh 0 (59 - 33) := Fin.ext k0_dev59_eq
theorem devN60 (h : k0_dev60 < nD) : (⟨k0_dev60, h⟩ : Dev nD) = sh 0 (60 - 33) := Fin.ext k0_dev60_eq
theorem devN61 (h : k0_dev61 < nD) : (⟨k0_dev61, h⟩ : Dev nD) = sh 0 (61 - 33) := Fin.ext k0_dev61_eq
theorem devN62 (h : k0_dev62 < nD) : (⟨k0_dev62, h⟩ : Dev nD) = sh 0 (62 - 33) := Fin.ext k0_dev62_eq
theorem devN63 (h : k0_dev63 < nD) : (⟨k0_dev63, h⟩ : Dev nD) = sh 0 (63 - 33) := Fin.ext k0_dev63_eq
theorem devN64 (h : k0_dev64 < nD) : (⟨k0_dev64, h⟩ : Dev nD) = sh 0 (64 - 33) := Fin.ext k0_dev64_eq
theorem bar_sem : SemLoc.reg ((SemArray.scalar (sig.barrier 0 rfl) : Sems sig S_)).sem = csem 44 := rfl
theorem exit_sem : SemLoc.reg ((cc0_scoped0 : Sems sig S_)).sem = csem 43 := rfl

end Cert.KernelIdealProof
-- ==== Proof.KernelIdeal.Ops.lean ====
/- The repeated steps of the body: one entry signal, one exit signal, one global send, one wait for a global send. -/
module

public import proofs.«01_k».proof.Proof.KernelIdeal.Geo
public import Idealize.SL.BI.BigOpNat

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (C : Conts F) (K : Dev nD × Fin 45 → ℕ)

/-- The entry signals still to send, with what each hands over. -/
def SigA (c : Dev nD) (n : ℕ) : sProp 𝕄 := bigSep (Finset.Ico n 32) fun i => iprop(tok (sh c i, 44) c ∗ giveTo c (sh c i))
/-- The exit signals still to send. -/
def SigX (c : Dev nD) (n : ℕ) : sProp 𝕄 := bigSep (Finset.Ico n 97) fun i => tok (sh c (i - 65), 43) c

theorem dst_A (c : Dev nD) {i : ℕ} (h1 : 1 ≤ i) (h2 : i < 32) : dst c i = some (sh c i, 44) := by
  unfold dst; rw [if_neg (by omega), if_pos h2]
theorem dst_X (c : Dev nD) {i : ℕ} (h1 : 66 ≤ i) (h2 : i < 97) : dst c i = some (sh c (i - 65), 43) := by
  unfold dst; rw [if_neg (by omega), if_neg (by omega), if_neg (by omega), if_neg (by omega), if_neg (by omega), if_neg (by omega), if_pos h2]
theorem sh_ne (c : Dev nD) {j : ℕ} (h1 : 1 ≤ j) (h2 : j < 32) : c ≠ sh c j := fun h => by
  have h3 : c.val = (c.val + j) % 32 := congrArg Fin.val h
  have h4 : c.val < 32 := c.isLt
  omega
theorem pay_bar (d p : Dev nD) : pay C d 44 p = giveTo p d := rfl
theorem pay_exit (d p : Dev nD) : pay C d 43 p = iprop(emp) := rfl
theorem pay_gr (d p : Dev nD) : pay C d 36 p = glPts d fullShare C.gl := rfl
theorem payers_bar (c : Dev nD) : payers c 44 = Finset.univ.erase c := rfl
theorem payers_exit (c : Dev nD) : payers c 43 = Finset.univ.erase c := rfl

theorem sig_A (c : Dev nD) (i : ℕ) (h1 : 1 ≤ i) (h2 : i < 32) (d' : Dev nD) (hd' : d' = sh c i) {s : Sem sig} {k' : ℕ} (hsm : .reg s = csem 44) (hk : k' = 1)
    {α : Type} {Q : α → sProp 𝕄} {kk : PUnit → Prog (TpuEff nD τ sig (Elt F) Λ₀ .tc) α} :
    iprop(records C K ∗ OWs c i ∗ SigA c i)
      ⊢ iprop(((OWs c (i + 1) ∗ SigA c (i + 1)) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (d' : Thread nD τ) s k') kk) Q) := by
  have hs : SigA (F := F) c i ⊢ iprop((tok (sh c i, 44) c ∗ giveTo c (sh c i)) ∗ SigA c (i + 1)) := by
    unfold SigA; exact Entails.of_eq (bigSep_Ico_succ_bot h2 _)
  iintro ⟨#HR, HO, HS⟩ Hk
  ihave HS2 := hs $$ HS
  icases HS2 with ⟨⟨Ht, Hg⟩, HS⟩
  iapply (signal_to C K c i (sh c i) d' hd' 44 hsm (by omega) (dst_A c h1 h2)
    (by rw [payers_bar]; exact Finset.mem_erase.mpr ⟨sh_ne c h1 h2, Finset.mem_univ _⟩) (show amt 44 = k' by rw [hk]; rfl)) $$ [HO Ht Hg]
  · isplitr; · iexact HR
    isplitl [HO]; · iexact HO
    isplitl [Ht]; · iexact Ht
    rw [pay_bar]; iexact Hg
  iintro HO
  iapply Hk
  isplitl [HO]; · iexact HO
  iexact HS

theorem sig_X (c : Dev nD) (i : ℕ) (h1 : 66 ≤ i) (h2 : i < 97) (d' : Dev nD) (hd' : d' = sh c (i - 65)) {s : Sem sig} {k' : ℕ} (hsm : .reg s = csem 43) (hk : k' = 1)
    {α : Type} {Q : α → sProp 𝕄} {kk : PUnit → Prog (TpuEff nD τ sig (Elt F) Λ₀ .tc) α} :
    iprop(records C K ∗ OWs c i ∗ SigX c i)
      ⊢ iprop(((OWs c (i + 1) ∗ SigX c (i + 1)) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (d' : Thread nD τ) s k') kk) Q) := by
  have hs : SigX (F := F) c i ⊢ iprop(tok (sh c (i - 65), 43) c ∗ SigX c (i + 1)) := by
    unfold SigX; exact Entails.of_eq (bigSep_Ico_succ_bot h2 _)
  iintro ⟨#HR, HO, HS⟩ Hk
  ihave HS2 := hs $$ HS
  icases HS2 with ⟨Ht, HS⟩
  iapply (signal_to C K c i (sh c (i - 65)) d' hd' 43 hsm h2 (dst_X c h1 h2)
    (by rw [payers_exit]; exact Finset.mem_erase.mpr ⟨sh_ne c (by omega) (by omega), Finset.mem_univ _⟩) (show amt 43 = k' by rw [hk]; rfl)) $$ [HO Ht]
  · isplitr; · iexact HR
    isplitl [HO]; · iexact HO
    isplitl [Ht]; · iexact Ht
    rw [pay_exit]; iempintro
  iintro HO
  iapply Hk
  isplitl [HO]; · iexact HO
  iexact HS

/-! ## Device 0's global sends -/

/-- The send semaphore of payment `i`, device 0's send to device `i - 33`. -/
def gk (i : ℕ) : Fin 45 := ⟨(i - 29) % 45, Nat.mod_lt _ (by decide)⟩

/-- Device 0's global sends still to start. -/
def SndG (n : ℕ) : sProp 𝕄 := bigSep (Finset.Ico n 65) fun i =>
  iprop(tok (0, gk i) 0 ∗ tok (sh 0 (i - 33), 36) 0 ∗ glPts 0 (Transfers.shareTokN fullShare (i - 34)) C.gl ∗ ∃ f, glPts (F := F) (sh 0 (i - 33)) fullShare f)
/-- Those in flight. -/
def FlyG (n : ℕ) : sProp 𝕄 := bigSep (Finset.Ico 34 n) fun i => crd (0, gk i) Ngl

theorem payers_gk : ∀ i : Fin 31, (0 : Dev nD) ∈ payers 0 (gk (i.val + 34)) ∧ (0 : Dev nD) ∈ payers (sh 0 (i.val + 1)) 36 ∧ amt (gk (i.val + 34)) = amt 36
    ∧ payers 0 (gk (i.val + 34)) = {0} := by
  intro i
  have h0 : i.val < 31 := i.isLt
  have hk : (gk (i.val + 34)).val = i.val + 5 := by show (i.val + 34 - 29) % 45 = _; omega
  have hs : sh 0 (i.val + 1) ≠ 0 := fun h => by
    have h3 : ((0 : Dev nD).val + (i.val + 1)) % 32 = 0 := congrArg Fin.val h
    have h4 : (0 : Dev nD).val = 0 := rfl
    omega
  have hp : payers 0 (gk (i.val + 34)) = {0} := by
    unfold payers; rw [if_neg (by omega), if_neg (by omega), if_neg (by omega), if_pos (by omega), if_pos ⟨rfl, by omega⟩]
  refine ⟨by rw [hp]; exact Finset.mem_singleton_self _, ?_, ?_, hp⟩
  · have : payers (sh 0 (i.val + 1)) 36 = (if sh 0 (i.val + 1) = 0 then ∅ else {0}) := rfl
    rw [this, if_neg hs]; exact Finset.mem_singleton_self _
  · unfold amt; rw [if_neg (by omega), if_pos (by omega)]; rfl

theorem pay_gk (i : ℕ) (h1 : 34 ≤ i) (h2 : i < 65) (p : Dev nD) : pay C 0 (gk i) p = glPts 0 (Transfers.shareTokN fullShare (i - 34)) C.gl := by
  have hk : (gk i).val = i - 29 := by show (i - 29) % 45 = _; omega
  unfold pay
  rw [if_neg (by omega), if_neg (by omega), if_neg (by omega), if_neg (by omega), if_pos (by omega), hk, show i - 29 - 5 = i - 34 by omega]

theorem gk_of (i : ℕ) (h1 : 34 ≤ i) (h2 : i < 65) : (0 : Dev nD) ∈ payers 0 (gk i) ∧ (0 : Dev nD) ∈ payers (sh 0 (i - 33)) 36 ∧ amt (gk i) = amt 36
    ∧ payers 0 (gk i) = {0} := by
  have h := payers_gk ⟨i - 34, by omega⟩
  simp only [show i - 34 + 34 = i by omega, show i - 34 + 1 = i - 33 by omega] at h
  exact h

theorem gl_write (v w : CGl F) : (glM : Memref sig .tc .vmem _ _).view.write (Elt F) v ((glM : Memref sig .tc .vmem _ _).view.read (Elt F) w) Finset.univ = w := by
  rw [View.read_whole]; exact View.write_whole_univ _ _ _
theorem gl_set (c : Dev nD) (q) (f : CGl F) : ((glM : Memref sig .tc .vmem _ _).view.loc (c : Thread nD τ) ↦[(glM : Memref sig .tc .vmem _ _).view.set]{q} f : sProp 𝕄) = glPts c q f := by
  unfold glPts; rw [View.set_whole]

/-- Device 0's global send of payment `i`. -/
theorem snd_G (c : Dev nD) (hc : c = 0) (i : ℕ) (h1 : 34 ≤ i) (h2 : i < 65) (d' : Dev nD) (hd' : d' = sh 0 (i - 33)) {hsc : (glM : Memref sig .tc .vmem _ _).view.ref.isScScratch = false} {sS sem : SemLoc sig}
    {hsrc : (glM : Memref sig .tc .vmem _ _).view.WordExact} {hdst : (glM : Memref sig .tc .vmem _ _).view.WordExact} {hsem : DmaTarget.Typed .vmem sem (.remote (Dev.tc d' : Thread nD τ) (glM : Memref sig .tc .vmem _ _) sS hsc)}
    {α : Type} {Q : α → sProp 𝕄} {kk : PUnit → Prog (TpuEff nD τ sig (Elt F) Λ₀ .tc) α}
    (hsS : sS = csem (gk i)) (hsR : sem = csem 36) :
    iprop(records C K ∗ OWs c i ∗ SndG C i ∗ FlyG (F := F) i)
      ⊢ iprop(((OWs c (i + 1) ∗ SndG C (i + 1) ∗ FlyG (F := F) (i + 1)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (glM : Memref sig .tc .vmem _ _) (.remote (Dev.tc d' : Thread nD τ) (glM : Memref sig .tc .vmem _ _) sS hsc) sem hsrc hdst hsem) kk) Q) := by
  subst hc
  obtain ⟨hp1, hp2, ha, -⟩ := gk_of i h1 h2
  have hs : SndG C i ⊢ iprop((tok (0, gk i) 0 ∗ tok (sh 0 (i - 33), 36) 0 ∗ glPts 0 (Transfers.shareTokN fullShare (i - 34)) C.gl
      ∗ ∃ f, glPts (F := F) (sh 0 (i - 33)) fullShare f) ∗ SndG C (i + 1)) := by
    unfold SndG; exact Entails.of_eq (bigSep_Ico_succ_bot h2 _)
  have hf : iprop(FlyG (F := F) i ∗ crd (0, gk i) Ngl) ⊢ FlyG (F := F) (i + 1) := by
    unfold FlyG; refine sep_comm.1.trans ?_; rw [bigSep_Ico_succ_top h1]
  have hd : dst 0 i = some (sh 0 (i - 33), 36) := by
    unfold dst; rw [if_neg (by omega), if_neg (by omega), if_neg (by omega), if_neg (by omega), if_pos h2, if_pos rfl]
  iintro ⟨#HR, HO, HS, HF⟩ Hk
  ihave HS2 := hs $$ HS
  icases HS2 with ⟨⟨Ht1, Ht2, Hg, ⟨%f, Hd⟩⟩, HS⟩
  iapply (send_to C K 0 i (sh 0 (i - 33)) d' hd' (gk i) 36 (fs := C.gl) (fd := f) (q := Transfers.shareTokN fullShare (i - 34)) hsS hsR (by omega) hd hp1 hp2
    (by subst hsR; rfl) ha
    (by rw [pay_gk C i h1 h2, gl_set])
    (by rw [gl_write, gl_set, pay_gr])) $$ [HO Ht1 Ht2 Hg Hd]
  · isplitr; · iexact HR
    isplitl [Hg]; · rw [gl_set]; iexact Hg
    isplitl [Hd]; · rw [gl_set]; iexact Hd
    isplitl [HO]; · iexact HO
    isplitl [Ht1]; · iexact Ht1
    iexact Ht2
  iintro ⟨Hc, HO⟩
  iapply Hk
  isplitl [HO]; · iexact HO
  isplitl [HS]; · iexact HS
  iapply hf
  isplitl [HF]; · iexact HF
  rw [ha]; iexact Hc

/-- Device 0's waits for its global sends still to come. -/
def WG (n : ℕ) : sProp 𝕄 := bigSep (Finset.Ico n 65) fun i => iprop(crd (F := F) (0, gk i) Ngl ∗ pos (0, gk i) 0)
/-- Those done. -/
def DG (n : ℕ) : sProp 𝕄 := bigSep (Finset.Ico 34 n) fun i => iprop(pos (0, gk i) 1 ∗ glPts 0 (Transfers.shareTokN fullShare (i - 34)) C.gl)

theorem wait_G (c : Dev nD) (hc : c = 0) (i : ℕ) (h1 : 34 ≤ i) (h2 : i < 65) {w : TpuEff nD τ sig (Elt F) Λ₀ .tc PUnit} {sm : SemLoc sig} {k' : ℕ} (n : ℕ)
    (hw : ∀ Kt : PUnit → sProp 𝕄, wpE (defs₀ (F := F)) 𝒱₀ (c : Thread nD τ) none Set.univ w Kt = waitSpec (c : Thread nD τ) Set.univ sm k' Kt)
    (hsm : sm = csem (gk i)) (hk' : k' = Ngl)
    {α : Type} {Q : α → sProp 𝕄} {kk : PUnit → Prog (TpuEff nD τ sig (Elt F) Λ₀ .tc) α} :
    iprop(records C K ∗ levAts L lv ∗ OWs c n ∗ WG (F := F) i ∗ DG C i)
      ⊢ iprop(((OWs c n ∗ WG (F := F) (i + 1) ∗ DG C (i + 1)) -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hc
  obtain ⟨-, -, ha, hp⟩ := gk_of i h1 h2
  have hl : lvl (gk i) = 0 := by
    have hk : (gk i).val = i - 29 := by show (i - 29) % 45 = _; omega
    unfold lvl; rw [if_neg (by omega), if_neg (by omega), if_pos (by omega)]
  have hs : WG (F := F) i ⊢ iprop((crd (F := F) (0, gk i) Ngl ∗ pos (0, gk i) 0) ∗ WG (F := F) (i + 1)) := by
    unfold WG; exact Entails.of_eq (bigSep_Ico_succ_bot h2 _)
  have hf : iprop(DG C i ∗ (pos (0, gk i) 1 ∗ glPts 0 (Transfers.shareTokN fullShare (i - 34)) C.gl)) ⊢ DG C (i + 1) := by
    unfold DG; refine sep_comm.1.trans ?_; rw [bigSep_Ico_succ_top h1]
  iintro ⟨#HR, #HL, HO, HS, HD⟩ Hk
  ihave HS2 := hs $$ HS
  icases HS2 with ⟨⟨Hc, Hp⟩, HS⟩
  iapply (wait_one C K 0 (gk i) 0 n hw hsm hp (hk'.trans (show Ngl = amt (gk i) by rw [ha]; rfl)) (above_zero 0 _ n hl)) $$ [Hc HO Hp]
  · isplitr; · iexact HR
    isplitr; · iexact HL
    isplitl [Hc]; · rw [ha]; iexact Hc
    isplitl [HO]; · iexact HO
    iexact Hp
  iintro ⟨HO, Hp, Hg⟩
  iapply Hk
  isplitl [HO]; · iexact HO
  isplitl [HS]; · iexact HS
  iapply hf
  isplitl [HD]; · iexact HD
  isplitl [Hp]; · iexact Hp
  ihave Hg2 := (Entails.of_eq (pay_gk C i h1 h2 0)) $$ Hg
  iexact Hg2

end Cert.KernelIdealProof
-- ==== Proof.KernelIdeal.Sends.lean ====
/- The transfers of the body: the K/V block right and left, the partial result up the tree. -/
module

public import proofs.«01_k».proof.Proof.KernelIdeal.Ops

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (C : Conts F) (K : Dev nD × Fin 45 → ℕ)

theorem sh_sh (c : Dev nD) (i j : ℕ) : sh (sh c i) j = sh c (i + j) := Fin.ext (by show ((c.val + i) % 32 + j) % 32 = (c.val + (i + j)) % 32; omega)
theorem sh_32 (c : Dev nD) : sh c 32 = c := Fin.ext (by have h : c.val < 32 := c.isLt; show (c.val + 32) % 32 = c.val; omega)
theorem sh_1_31 (c : Dev nD) : sh (sh c 1) 31 = c := (sh_sh c 1 31).trans (sh_32 c)
theorem sh_31_1 (c : Dev nD) : sh (sh c 31) 1 = c := (sh_sh c 31 1).trans (sh_32 c)
theorem kv_set (c : Dev nD) (q) (f : CKv F) : ((kvM : Memref sig .tc .vmem _ _).view.loc (c : Thread nD τ) ↦[(kvM : Memref sig .tc .vmem _ _).view.set]{q} f : sProp 𝕄) = kvPts c q f := by
  unfold kvPts; rw [View.set_whole]
theorem ac_set (c : Dev nD) (f : CAc F) : ((acM : Memref sig .tc .vmem _ _).view.loc (c : Thread nD τ) ↦[(acM : Memref sig .tc .vmem _ _).view.set]{fullShare} f : sProp 𝕄) = acPts c f := by
  unfold acPts; rw [View.set_whole]

theorem rc_set0 (c : Dev nD) (f : CRc F) : ((rcS0 : Memref sig .tc .vmem _ _).view.loc (c : Thread nD τ) ↦[(rcS0 : Memref sig .tc .vmem _ _).view.set]{fullShare} f : sProp 𝕄) = rcPts c 0 f := by
  rw [set_rcS0]; rfl
theorem dst_32 (c : Dev nD) : dst c 32 = some (sh c 1, 2) := rfl
theorem payers_0 (c : Dev nD) : payers c 0 = {c} := rfl
theorem payers_2 (c : Dev nD) : payers c 2 = {sh c 31} := rfl
theorem pay_0 (c p : Dev nD) : pay C c 0 p = kvPts c q1 (C.kv c) := rfl
theorem pay_2 (c p : Dev nD) : pay C c 2 p = rcPts c 0 (rcLand C c 0) := rfl
theorem rc_land0 (c : Dev nD) (f : CRc F) :
    rcPts (sh c 1) 0 ((rcS0 : Memref sig .tc .vmem _ _).view.write (Elt F) f ((kvM : Memref sig .tc .vmem _ _).view.read (Elt F) (C.kv c)) Finset.univ)
      = rcPts (sh c 1) 0 (rcLand C (sh c 1) 0) := by
  have h : rcLand C (sh c 1) 0 = (rcS0 : Memref sig .tc .vmem _ _).view.write (Elt F) C.rc0 (C.kv (sh (sh c 1) 31)) Finset.univ := rfl
  rw [h, sh_1_31, View.read_whole]
  unfold rcPts
  exact pointsTo_congr fun i hi => land_congr (rcS0 : Memref sig .tc .vmem _ _).view f C.rc0 (C.kv c) i (by rw [set_rcS0]; exact hi)

/-- The K/V block flies right. -/
theorem snd_right (c : Dev nD) (d' : Dev nD) (hd' : d' = sh c 1) {hsc : (rcS0 : Memref sig .tc .vmem _ _).view.ref.isScScratch = false} {sS sem : SemLoc sig}
    {hsrc : (kvM : Memref sig .tc .vmem _ _).view.WordExact} {hdst : (rcS0 : Memref sig .tc .vmem _ _).view.WordExact} {hsem : DmaTarget.Typed .vmem sem (.remote (Dev.tc d' : Thread nD τ) (rcS0 : Memref sig .tc .vmem _ _) sS hsc)}
    {α : Type} {Q : α → sProp 𝕄} {kk : PUnit → Prog (TpuEff nD τ sig (Elt F) Λ₀ .tc) α}
    (hsS : sS = csem 0) (hsR : sem = csem 2) :
    iprop(records C K ∗ kvPts c q1 (C.kv c) ∗ (∃ f, rcPts (F := F) (sh c 1) 0 f) ∗ OWs c 32 ∗ tok (c, 0) c ∗ tok (sh c 1, 2) c)
      ⊢ iprop(((crd (c, 0) Nkv ∗ OWs c 33) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (kvM : Memref sig .tc .vmem _ _) (.remote (Dev.tc d' : Thread nD τ) (rcS0 : Memref sig .tc .vmem _ _) sS hsc) sem hsrc hdst hsem) kk) Q) := by
  iintro ⟨#HR, Hk, ⟨%f, Hd⟩, HO, Ht1, Ht2⟩ Hkk
  iapply (send_to C K c 32 (sh c 1) d' hd' 0 2 (fs := C.kv c) (fd := f) (q := q1) hsS hsR (by omega) (dst_32 c)
    (by rw [payers_0]; exact Finset.mem_singleton_self _) (by rw [payers_2, sh_1_31]; exact Finset.mem_singleton_self _)
    (by subst hsR; rfl) rfl (by rw [kv_set, pay_0]) (by rw [rc_set0, pay_2, rc_land0])) $$ [HO Ht1 Ht2 Hk Hd]
  · isplitr; · iexact HR
    isplitl [Hk]; · rw [kv_set]; iexact Hk
    isplitl [Hd]; · rw [rc_set0]; iexact Hd
    isplitl [HO]; · iexact HO
    isplitl [Ht1]; · iexact Ht1
    iexact Ht2
  iintro ⟨Hc, HO⟩
  iapply Hkk
  isplitl [Hc]; · iexact Hc
  iexact HO

theorem rc_set1 (c : Dev nD) (f : CRc F) : ((rcS1 : Memref sig .tc .vmem _ _).view.loc (c : Thread nD τ) ↦[(rcS1 : Memref sig .tc .vmem _ _).view.set]{fullShare} f : sProp 𝕄) = rcPts c 1 f := by
  rw [set_rcS1]; rfl
theorem dst_33 (c : Dev nD) : dst c 33 = some (sh c 31, 3) := rfl
theorem payers_1 (c : Dev nD) : payers c 1 = {c} := rfl
theorem payers_3 (c : Dev nD) : payers c 3 = {sh c 1} := rfl
theorem pay_1 (c p : Dev nD) : pay C c 1 p = kvPts c q2 (C.kv c) := rfl
theorem pay_3 (c p : Dev nD) : pay C c 3 p = rcPts c 1 (rcLand C c 1) := rfl
theorem rc_land1 (c : Dev nD) (f : CRc F) :
    rcPts (sh c 31) 1 ((rcS1 : Memref sig .tc .vmem _ _).view.write (Elt F) f ((kvM : Memref sig .tc .vmem _ _).view.read (Elt F) (C.kv c)) Finset.univ)
      = rcPts (sh c 31) 1 (rcLand C (sh c 31) 1) := by
  have h : rcLand C (sh c 31) 1 = (rcS1 : Memref sig .tc .vmem _ _).view.write (Elt F) C.rc0 (C.kv (sh (sh c 31) 1)) Finset.univ := rfl
  rw [h, sh_31_1, View.read_whole]
  unfold rcPts
  exact pointsTo_congr fun i hi => land_congr (rcS1 : Memref sig .tc .vmem _ _).view f C.rc0 (C.kv c) i (by rw [set_rcS1]; exact hi)

/-- The K/V block flies left. -/
theorem snd_left (c : Dev nD) (d' : Dev nD) (hd' : d' = sh c 31) {hsc : (rcS1 : Memref sig .tc .vmem _ _).view.ref.isScScratch = false} {sS sem : SemLoc sig}
    {hsrc : (kvM : Memref sig .tc .vmem _ _).view.WordExact} {hdst : (rcS1 : Memref sig .tc .vmem _ _).view.WordExact} {hsem : DmaTarget.Typed .vmem sem (.remote (Dev.tc d' : Thread nD τ) (rcS1 : Memref sig .tc .vmem _ _) sS hsc)}
    {α : Type} {Q : α → sProp 𝕄} {kk : PUnit → Prog (TpuEff nD τ sig (Elt F) Λ₀ .tc) α}
    (hsS : sS = csem 1) (hsR : sem = csem 3) :
    iprop(records C K ∗ kvPts c q2 (C.kv c) ∗ (∃ f, rcPts (F := F) (sh c 31) 1 f) ∗ OWs c 33 ∗ tok (c, 1) c ∗ tok (sh c 31, 3) c)
      ⊢ iprop(((crd (c, 1) Nkv ∗ OWs c 34) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (kvM : Memref sig .tc .vmem _ _) (.remote (Dev.tc d' : Thread nD τ) (rcS1 : Memref sig .tc .vmem _ _) sS hsc) sem hsrc hdst hsem) kk) Q) := by
  iintro ⟨#HR, Hk, ⟨%f, Hd⟩, HO, Ht1, Ht2⟩ Hkk
  iapply (send_to C K c 33 (sh c 31) d' hd' 1 3 (fs := C.kv c) (fd := f) (q := q2) hsS hsR (by omega) (dst_33 c)
    (by rw [payers_1]; exact Finset.mem_singleton_self _) (by rw [payers_3, sh_31_1]; exact Finset.mem_singleton_self _)
    (by subst hsR; rfl) rfl (by rw [kv_set, pay_1]) (by rw [rc_set1, pay_3, rc_land1])) $$ [HO Ht1 Ht2 Hk Hd]
  · isplitr; · iexact HR
    isplitl [Hk]; · rw [kv_set]; iexact Hk
    isplitl [Hd]; · rw [rc_set1]; iexact Hd
    isplitl [HO]; · iexact HO
    isplitl [Ht1]; · iexact Ht1
    iexact Ht2
  iintro ⟨Hc, HO⟩
  iapply Hkk
  isplitl [Hc]; · iexact Hc
  iexact HO

theorem payers_37 : ∀ c : Dev nD, c ≠ 0 → payers c 37 = {c} := fun c h => by
  have : payers c 37 = (if c = 0 then ∅ else {c}) := rfl
  rw [this, if_neg h]
theorem pay_37 (c p : Dev nD) : pay C c 37 p = acPts c (C.ac c) := rfl
theorem tree_facts : ∀ c : Dev nD, c ≠ 0 → tz c < tz (parent c) ∧ sh (parent c) (2 ^ tz c) = c := by decide
theorem payers_rr : ∀ j < 5, ∀ d : Dev nD, payers d (rrk j) = (if j < tz d then {sh d (2 ^ j)} else ∅) := by
  intro j hj d
  have hk : (rrk j).val = 38 + j := by show 38 + j % 5 = _; omega
  unfold payers
  rw [if_neg (by omega), if_neg (by omega), if_neg (by omega), if_neg (by omega), if_neg (by omega), if_neg (by omega), if_pos (by omega), hk,
    show 38 + j - 38 = j by omega]
theorem pay_rr : ∀ j < 5, ∀ d p : Dev nD, pay C d (rrk j) p = rdPts d j (rdLand C d j) := by
  intro j hj d p
  have hk : (rrk j).val = 38 + j := by show 38 + j % 5 = _; omega
  unfold pay
  rw [if_neg (by omega), if_neg (by omega), if_neg (by omega), if_neg (by omega), if_neg (by omega), if_neg (by omega), if_neg (by omega), if_pos (by omega), hk,
    show 38 + j - 38 = j by omega]
theorem amt_rr : ∀ j < 5, amt (rrk j) = Nac := by
  intro j hj
  have hk : (rrk j).val = 38 + j := by show 38 + j % 5 = _; omega
  unfold amt; rw [if_neg (by omega), if_neg (by omega), if_pos (by omega)]
theorem dst_65 (c : Dev nD) (h : c ≠ 0) : dst c 65 = some (parent c, rrk (tz c)) := by
  unfold dst; rw [if_neg (by omega), if_neg (by omega), if_neg (by omega), if_neg (by omega), if_neg (by omega), if_pos rfl, if_neg h]

theorem rd_set0 (c : Dev nD) (f : CRd F) : ((rdS0 : Memref sig .tc .vmem _ _).view.loc (c : Thread nD τ) ↦[(rdS0 : Memref sig .tc .vmem _ _).view.set]{fullShare} f : sProp 𝕄) = rdPts c 0 f := by
  rw [set_rdS0]; rfl
theorem rd_land0 (c : Dev nD) (hc : c ≠ 0) (hk : tz c = 0) (f : CRd F) :
    rdPts (parent c) 0 ((rdS0 : Memref sig .tc .vmem _ _).view.write (Elt F) f ((acM : Memref sig .tc .vmem _ _).view.read (Elt F) (C.ac c)) Finset.univ)
      = rdPts (parent c) 0 (rdLand C (parent c) 0) := by
  have h : rdLand C (parent c) 0 = (rdS0 : Memref sig .tc .vmem _ _).view.write (Elt F) C.rd0 (C.ac (sh (parent c) 1)) Finset.univ := rfl
  have hb := (tree_facts c hc).2
  rw [hk] at hb
  rw [h, show (1 : ℕ) = 2 ^ 0 from rfl, hb, View.read_whole]
  unfold rdPts
  exact pointsTo_congr fun i hi => land_congr (rdS0 : Memref sig .tc .vmem _ _).view f C.rd0 (C.ac c) i (by rw [set_rdS0]; exact hi)

/-- A device of level 0 sends its partial result up the tree. -/
theorem snd_red0 (c : Dev nD) (hc : c ≠ 0) (hk : tz c = 0) (d' : Dev nD) (hd' : d' = parent c) {hsc : (rdS0 : Memref sig .tc .vmem _ _).view.ref.isScScratch = false} {sS sem : SemLoc sig}
    {hsrc : (acM : Memref sig .tc .vmem _ _).view.WordExact} {hdst : (rdS0 : Memref sig .tc .vmem _ _).view.WordExact} {hsem : DmaTarget.Typed .vmem sem (.remote (Dev.tc d' : Thread nD τ) (rdS0 : Memref sig .tc .vmem _ _) sS hsc)}
    {α : Type} {Q : α → sProp 𝕄} {kk : PUnit → Prog (TpuEff nD τ sig (Elt F) Λ₀ .tc) α}
    (hsS : sS = csem 37) (hsR : sem = csem (rrk 0)) :
    iprop(records C K ∗ acPts c (C.ac c) ∗ (∃ f, rdPts (F := F) (parent c) 0 f) ∗ OWs c 65 ∗ tok (c, 37) c ∗ tok (parent c, rrk (tz c)) c)
      ⊢ iprop(((crd (c, 37) Nac ∗ OWs c 66) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (acM : Memref sig .tc .vmem _ _) (.remote (Dev.tc d' : Thread nD τ) (rdS0 : Memref sig .tc .vmem _ _) sS hsc) sem hsrc hdst hsem) kk) Q) := by
  have htf := tree_facts c hc
  rw [hk] at htf
  have hd := dst_65 c hc
  rw [hk] at hd ⊢
  iintro ⟨#HR, Hk, ⟨%f, Hd⟩, HO, Ht1, Ht2⟩ Hkk
  iapply (send_to C K c 65 (parent c) d' hd' 37 (rrk 0) (fs := C.ac c) (fd := f) (q := fullShare) hsS hsR (by omega) hd
    (by rw [payers_37 c hc]; exact Finset.mem_singleton_self _) (by rw [payers_rr 0 (by omega), if_pos htf.1, htf.2]; exact Finset.mem_singleton_self _)
    (by subst hsR; rfl) rfl (by rw [ac_set, pay_37]) (by rw [rd_set0, pay_rr C 0 (by omega), rd_land0 C c hc hk])) $$ [HO Ht1 Ht2 Hk Hd]
  · isplitr; · iexact HR
    isplitl [Hk]; · rw [ac_set]; iexact Hk
    isplitl [Hd]; · rw [rd_set0]; iexact Hd
    isplitl [HO]; · iexact HO
    isplitl [Ht1]; · iexact Ht1
    iexact Ht2
  iintro ⟨Hc, HO⟩
  iapply Hkk
  isplitl [Hc]; · iexact Hc
  iexact HO

theorem rd_set1 (c : Dev nD) (f : CRd F) : ((rdS1 : Memref sig .tc .vmem _ _).view.loc (c : Thread nD τ) ↦[(rdS1 : Memref sig .tc .vmem _ _).view.set]{fullShare} f : sProp 𝕄) = rdPts c 1 f := by
  rw [set_rdS1]; rfl
theorem rd_land1 (c : Dev nD) (hc : c ≠ 0) (hk : tz c = 1) (f : CRd F) :
    rdPts (parent c) 1 ((rdS1 : Memref sig .tc .vmem _ _).view.write (Elt F) f ((acM : Memref sig .tc .vmem _ _).view.read (Elt F) (C.ac c)) Finset.univ)
      = rdPts (parent c) 1 (rdLand C (parent c) 1) := by
  have h : rdLand C (parent c) 1 = (rdS1 : Memref sig .tc .vmem _ _).view.write (Elt F) C.rd0 (C.ac (sh (parent c) 2)) Finset.univ := rfl
  have hb := (tree_facts c hc).2
  rw [hk] at hb
  rw [h, show (2 : ℕ) = 2 ^ 1 from rfl, hb, View.read_whole]
  unfold rdPts
  exact pointsTo_congr fun i hi => land_congr (rdS1 : Memref sig .tc .vmem _ _).view f C.rd0 (C.ac c) i (by rw [set_rdS1]; exact hi)

/-- A device of level 1 sends its partial result up the tree. -/
theorem snd_red1 (c : Dev nD) (hc : c ≠ 0) (hk : tz c = 1) (d' : Dev nD) (hd' : d' = parent c) {hsc : (rdS1 : Memref sig .tc .vmem _ _).view.ref.isScScratch = false} {sS sem : SemLoc sig}
    {hsrc : (acM : Memref sig .tc .vmem _ _).view.WordExact} {hdst : (rdS1 : Memref sig .tc .vmem _ _).view.WordExact} {hsem : DmaTarget.Typed .vmem sem (.remote (Dev.tc d' : Thread nD τ) (rdS1 : Memref sig .tc .vmem _ _) sS hsc)}
    {α : Type} {Q : α → sProp 𝕄} {kk : PUnit → Prog (TpuEff nD τ sig (Elt F) Λ₀ .tc) α}
    (hsS : sS = csem 37) (hsR : sem = csem (rrk 1)) :
    iprop(records C K ∗ acPts c (C.ac c) ∗ (∃ f, rdPts (F := F) (parent c) 1 f) ∗ OWs c 65 ∗ tok (c, 37) c ∗ tok (parent c, rrk (tz c)) c)
      ⊢ iprop(((crd (c, 37) Nac ∗ OWs c 66) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (acM : Memref sig .tc .vmem _ _) (.remote (Dev.tc d' : Thread nD τ) (rdS1 : Memref sig .tc .vmem _ _) sS hsc) sem hsrc hdst hsem) kk) Q) := by
  have htf := tree_facts c hc
  rw [hk] at htf
  have hd := dst_65 c hc
  rw [hk] at hd ⊢
  iintro ⟨#HR, Hk, ⟨%f, Hd⟩, HO, Ht1, Ht2⟩ Hkk
  iapply (send_to C K c 65 (parent c) d' hd' 37 (rrk 1) (fs := C.ac c) (fd := f) (q := fullShare) hsS hsR (by omega) hd
    (by rw [payers_37 c hc]; exact Finset.mem_singleton_self _) (by rw [payers_rr 1 (by omega), if_pos htf.1, htf.2]; exact Finset.mem_singleton_self _)
    (by subst hsR; rfl) rfl (by rw [ac_set, pay_37]) (by rw [rd_set1, pay_rr C 1 (by omega), rd_land1 C c hc hk])) $$ [HO Ht1 Ht2 Hk Hd]
  · isplitr; · iexact HR
    isplitl [Hk]; · rw [ac_set]; iexact Hk
    isplitl [Hd]; · rw [rd_set1]; iexact Hd
    isplitl [HO]; · iexact HO
    isplitl [Ht1]; · iexact Ht1
    iexact Ht2
  iintro ⟨Hc, HO⟩
  iapply Hkk
  isplitl [Hc]; · iexact Hc
  iexact HO

theorem rd_set2 (c : Dev nD) (f : CRd F) : ((rdS2 : Memref sig .tc .vmem _ _).view.loc (c : Thread nD τ) ↦[(rdS2 : Memref sig .tc .vmem _ _).view.set]{fullShare} f : sProp 𝕄) = rdPts c 2 f := by
  rw [set_rdS2]; rfl
theorem rd_land2 (c : Dev nD) (hc : c ≠ 0) (hk : tz c = 2) (f : CRd F) :
    rdPts (parent c) 2 ((rdS2 : Memref sig .tc .vmem _ _).view.write (Elt F) f ((acM : Memref sig .tc .vmem _ _).view.read (Elt F) (C.ac c)) Finset.univ)
      = rdPts (parent c) 2 (rdLand C (parent c) 2) := by
  have h : rdLand C (parent c) 2 = (rdS2 : Memref sig .tc .vmem _ _).view.write (Elt F) C.rd0 (C.ac (sh (parent c) 4)) Finset.univ := rfl
  have hb := (tree_facts c hc).2
  rw [hk] at hb
  rw [h, show (4 : ℕ) = 2 ^ 2 from rfl, hb, View.read_whole]
  unfold rdPts
  exact pointsTo_congr fun i hi => land_congr (rdS2 : Memref sig .tc .vmem _ _).view f C.rd0 (C.ac c) i (by rw [set_rdS2]; exact hi)

/-- A device of level 2 sends its partial result up the tree. -/
theorem snd_red2 (c : Dev nD) (hc : c ≠ 0) (hk : tz c = 2) (d' : Dev nD) (hd' : d' = parent c) {hsc : (rdS2 : Memref sig .tc .vmem _ _).view.ref.isScScratch = false} {sS sem : SemLoc sig}
    {hsrc : (acM : Memref sig .tc .vmem _ _).view.WordExact} {hdst : (rdS2 : Memref sig .tc .vmem _ _).view.WordExact} {hsem : DmaTarget.Typed .vmem sem (.remote (Dev.tc d' : Thread nD τ) (rdS2 : Memref sig .tc .vmem _ _) sS hsc)}
    {α : Type} {Q : α → sProp 𝕄} {kk : PUnit → Prog (TpuEff nD τ sig (Elt F) Λ₀ .tc) α}
    (hsS : sS = csem 37) (hsR : sem = csem (rrk 2)) :
    iprop(records C K ∗ acPts c (C.ac c) ∗ (∃ f, rdPts (F := F) (parent c) 2 f) ∗ OWs c 65 ∗ tok (c, 37) c ∗ tok (parent c, rrk (tz c)) c)
      ⊢ iprop(((crd (c, 37) Nac ∗ OWs c 66) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (acM : Memref sig .tc .vmem _ _) (.remote (Dev.tc d' : Thread nD τ) (rdS2 : Memref sig .tc .vmem _ _) sS hsc) sem hsrc hdst hsem) kk) Q) := by
  have htf := tree_facts c hc
  rw [hk] at htf
  have hd := dst_65 c hc
  rw [hk] at hd ⊢
  iintro ⟨#HR, Hk, ⟨%f, Hd⟩, HO, Ht1, Ht2⟩ Hkk
  iapply (send_to C K c 65 (parent c) d' hd' 37 (rrk 2) (fs := C.ac c) (fd := f) (q := fullShare) hsS hsR (by omega) hd
    (by rw [payers_37 c hc]; exact Finset.mem_singleton_self _) (by rw [payers_rr 2 (by omega), if_pos htf.1, htf.2]; exact Finset.mem_singleton_self _)
    (by subst hsR; rfl) rfl (by rw [ac_set, pay_37]) (by rw [rd_set2, pay_rr C 2 (by omega), rd_land2 C c hc hk])) $$ [HO Ht1 Ht2 Hk Hd]
  · isplitr; · iexact HR
    isplitl [Hk]; · rw [ac_set]; iexact Hk
    isplitl [Hd]; · rw [rd_set2]; iexact Hd
    isplitl [HO]; · iexact HO
    isplitl [Ht1]; · iexact Ht1
    iexact Ht2
  iintro ⟨Hc, HO⟩
  iapply Hkk
  isplitl [Hc]; · iexact Hc
  iexact HO

theorem rd_set3 (c : Dev nD) (f : CRd F) : ((rdS3 : Memref sig .tc .vmem _ _).view.loc (c : Thread nD τ) ↦[(rdS3 : Memref sig .tc .vmem _ _).view.set]{fullShare} f : sProp 𝕄) = rdPts c 3 f := by
  rw [set_rdS3]; rfl
theorem rd_land3 (c : Dev nD) (hc : c ≠ 0) (hk : tz c = 3) (f : CRd F) :
    rdPts (parent c) 3 ((rdS3 : Memref sig .tc .vmem _ _).view.write (Elt F) f ((acM : Memref sig .tc .vmem _ _).view.read (Elt F) (C.ac c)) Finset.univ)
      = rdPts (parent c) 3 (rdLand C (parent c) 3) := by
  have h : rdLand C (parent c) 3 = (rdS3 : Memref sig .tc .vmem _ _).view.write (Elt F) C.rd0 (C.ac (sh (parent c) 8)) Finset.univ := rfl
  have hb := (tree_facts c hc).2
  rw [hk] at hb
  rw [h, show (8 : ℕ) = 2 ^ 3 from rfl, hb, View.read_whole]
  unfold rdPts
  exact pointsTo_congr fun i hi => land_congr (rdS3 : Memref sig .tc .vmem _ _).view f C.rd0 (C.ac c) i (by rw [set_rdS3]; exact hi)

/-- A device of level 3 sends its partial result up the tree. -/
theorem snd_red3 (c : Dev nD) (hc : c ≠ 0) (hk : tz c = 3) (d' : Dev nD) (hd' : d' = parent c) {hsc : (rdS3 : Memref sig .tc .vmem _ _).view.ref.isScScratch = false} {sS sem : SemLoc sig}
    {hsrc : (acM : Memref sig .tc .vmem _ _).view.WordExact} {hdst : (rdS3 : Memref sig .tc .vmem _ _).view.WordExact} {hsem : DmaTarget.Typed .vmem sem (.remote (Dev.tc d' : Thread nD τ) (rdS3 : Memref sig .tc .vmem _ _) sS hsc)}
    {α : Type} {Q : α → sProp 𝕄} {kk : PUnit → Prog (TpuEff nD τ sig (Elt F) Λ₀ .tc) α}
    (hsS : sS = csem 37) (hsR : sem = csem (rrk 3)) :
    iprop(records C K ∗ acPts c (C.ac c) ∗ (∃ f, rdPts (F := F) (parent c) 3 f) ∗ OWs c 65 ∗ tok (c, 37) c ∗ tok (parent c, rrk (tz c)) c)
      ⊢ iprop(((crd (c, 37) Nac ∗ OWs c 66) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (acM : Memref sig .tc .vmem _ _) (.remote (Dev.tc d' : Thread nD τ) (rdS3 : Memref sig .tc .vmem _ _) sS hsc) sem hsrc hdst hsem) kk) Q) := by
  have htf := tree_facts c hc
  rw [hk] at htf
  have hd := dst_65 c hc
  rw [hk] at hd ⊢
  iintro ⟨#HR, Hk, ⟨%f, Hd⟩, HO, Ht1, Ht2⟩ Hkk
  iapply (send_to C K c 65 (parent c) d' hd' 37 (rrk 3) (fs := C.ac c) (fd := f) (q := fullShare) hsS hsR (by omega) hd
    (by rw [payers_37 c hc]; exact Finset.mem_singleton_self _) (by rw [payers_rr 3 (by omega), if_pos htf.1, htf.2]; exact Finset.mem_singleton_self _)
    (by subst hsR; rfl) rfl (by rw [ac_set, pay_37]) (by rw [rd_set3, pay_rr C 3 (by omega), rd_land3 C c hc hk])) $$ [HO Ht1 Ht2 Hk Hd]
  · isplitr; · iexact HR
    isplitl [Hk]; · rw [ac_set]; iexact Hk
    isplitl [Hd]; · rw [rd_set3]; iexact Hd
    isplitl [HO]; · iexact HO
    isplitl [Ht1]; · iexact Ht1
    iexact Ht2
  iintro ⟨Hc, HO⟩
  iapply Hkk
  isplitl [Hc]; · iexact Hc
  iexact HO

theorem rd_set4 (c : Dev nD) (f : CRd F) : ((rdS4 : Memref sig .tc .vmem _ _).view.loc (c : Thread nD τ) ↦[(rdS4 : Memref sig .tc .vmem _ _).view.set]{fullShare} f : sProp 𝕄) = rdPts c 4 f := by
  rw [set_rdS4]; rfl
theorem rd_land4 (c : Dev nD) (hc : c ≠ 0) (hk : tz c = 4) (f : CRd F) :
    rdPts (parent c) 4 ((rdS4 : Memref sig .tc .vmem _ _).view.write (Elt F) f ((acM : Memref sig .tc .vmem _ _).view.read (Elt F) (C.ac c)) Finset.univ)
      = rdPts (parent c) 4 (rdLand C (parent c) 4) := by
  have h : rdLand C (parent c) 4 = (rdS4 : Memref sig .tc .vmem _ _).view.write (Elt F) C.rd0 (C.ac (sh (parent c) 16)) Finset.univ := rfl
  have hb := (tree_facts c hc).2
  rw [hk] at hb
  rw [h, show (16 : ℕ) = 2 ^ 4 from rfl, hb, View.read_whole]
  unfold rdPts
  exact pointsTo_congr fun i hi => land_congr (rdS4 : Memref sig .tc .vmem _ _).view f C.rd0 (C.ac c) i (by rw [set_rdS4]; exact hi)

/-- A device of level 4 sends its partial result up the tree. -/
theorem snd_red4 (c : Dev nD) (hc : c ≠ 0) (hk : tz c = 4) (d' : Dev nD) (hd' : d' = parent c) {hsc : (rdS4 : Memref sig .tc .vmem _ _).view.ref.isScScratch = false} {sS sem : SemLoc sig}
    {hsrc : (acM : Memref sig .tc .vmem _ _).view.WordExact} {hdst : (rdS4 : Memref sig .tc .vmem _ _).view.WordExact} {hsem : DmaTarget.Typed .vmem sem (.remote (Dev.tc d' : Thread nD τ) (rdS4 : Memref sig .tc .vmem _ _) sS hsc)}
    {α : Type} {Q : α → sProp 𝕄} {kk : PUnit → Prog (TpuEff nD τ sig (Elt F) Λ₀ .tc) α}
    (hsS : sS = csem 37) (hsR : sem = csem (rrk 4)) :
    iprop(records C K ∗ acPts c (C.ac c) ∗ (∃ f, rdPts (F := F) (parent c) 4 f) ∗ OWs c 65 ∗ tok (c, 37) c ∗ tok (parent c, rrk (tz c)) c)
      ⊢ iprop(((crd (c, 37) Nac ∗ OWs c 66) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (acM : Memref sig .tc .vmem _ _) (.remote (Dev.tc d' : Thread nD τ) (rdS4 : Memref sig .tc .vmem _ _) sS hsc) sem hsrc hdst hsem) kk) Q) := by
  have htf := tree_facts c hc
  rw [hk] at htf
  have hd := dst_65 c hc
  rw [hk] at hd ⊢
  iintro ⟨#HR, Hk, ⟨%f, Hd⟩, HO, Ht1, Ht2⟩ Hkk
  iapply (send_to C K c 65 (parent c) d' hd' 37 (rrk 4) (fs := C.ac c) (fd := f) (q := fullShare) hsS hsR (by omega) hd
    (by rw [payers_37 c hc]; exact Finset.mem_singleton_self _) (by rw [payers_rr 4 (by omega), if_pos htf.1, htf.2]; exact Finset.mem_singleton_self _)
    (by subst hsR; rfl) rfl (by rw [ac_set, pay_37]) (by rw [rd_set4, pay_rr C 4 (by omega), rd_land4 C c hc hk])) $$ [HO Ht1 Ht2 Hk Hd]
  · isplitr; · iexact HR
    isplitl [Hk]; · rw [ac_set]; iexact Hk
    isplitl [Hd]; · rw [rd_set4]; iexact Hd
    isplitl [HO]; · iexact HO
    isplitl [Ht1]; · iexact Ht1
    iexact Ht2
  iintro ⟨Hc, HO⟩
  iapply Hkk
  isplitl [Hc]; · iexact Hc
  iexact HO

end Cert.KernelIdealProof
-- ==== Proof.KernelIdeal.Tree.lean ====
/- The tree: the sends up it and the merges on the way. -/
module

public import proofs.«01_k».proof.Proof.KernelIdeal.Sends

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (C : Conts F) (K : Dev nD × Fin 45 → ℕ)

/-- Part 0 of the accumulator. -/
abbrev acR0 : Rect S2x3x32x256 := Rect.unit (s := S2x3x32x256) ![0, 0, 0, 0] S2x1x32x256.size inb_S2x3x32x256_S2x1x32x256_0_0_0_0
/-- Part 1 of the accumulator. -/
abbrev acR1 : Rect S2x3x32x256 := Rect.unit (s := S2x3x32x256) ![0, 1, 0, 0] S2x1x32x256.size inb_S2x3x32x256_S2x1x32x256_0_1_0_0
/-- Part 2 of the accumulator. -/
abbrev acR2 : Rect S2x3x32x256 := Rect.unit (s := S2x3x32x256) ![0, 2, 0, 0] S2x1x32x256.size inb_S2x3x32x256_S2x1x32x256_0_2_0_0

theorem wp_seq {t : Thread nD τ} {R pre post rest : sProp 𝕄} [BI.Persistent R] {m : Prog (TpuEff nD τ sig (Elt F) Λ₀ t.2) PUnit} {G : PUnit → sProp 𝕄}
    (h1 : ∀ Q : PUnit → sProp 𝕄, iprop(R ∗ pre ∗ (post -∗ Q ⟨⟩)) ⊢ wp frame (wpE (defs₀ (F := F)) 𝒱₀ t none) Set.univ m Q)
    (h2 : iprop(R ∗ post ∗ rest) ⊢ G ⟨⟩) : iprop(R ∗ pre ∗ rest) ⊢ wp frame (wpE (defs₀ (F := F)) 𝒱₀ t none) Set.univ m G := by
  iintro ⟨#HR, Hp, Hr⟩
  iapply (h1 G)
  isplitr; · iexact HR
  isplitl [Hp]; · iexact Hp
  iintro Hq
  iapply h2
  isplitr; · iexact HR
  isplitl [Hq]; · iexact Hq
  iexact Hr

/-! ## Conditions -/

theorem condS0 : ∀ c : Dev nD, Iff (k0_cond3 c = 1#1) (tz c = 0) := by decide +kernel
theorem condS1 : ∀ c : Dev nD, Iff (k0_cond6 c = 1#1) (tz c = 1) := by decide +kernel
theorem condS2 : ∀ c : Dev nD, Iff (k0_cond8 c = 1#1) (tz c = 2) := by decide +kernel
theorem condS3 : ∀ c : Dev nD, Iff (k0_cond10 c = 1#1) (tz c = 3) := by decide +kernel
theorem condS4 : ∀ c : Dev nD, Iff (k0_cond12 c = 1#1) (tz c = 4) := by decide +kernel

theorem devS0 : ∀ (c : Dev nD) (h : k0_dev65 c < nD), tz c = 0 → (⟨k0_dev65 c, h⟩ : Dev nD) = parent c := by decide +kernel
theorem devS1 : ∀ (c : Dev nD) (h : k0_dev66 c < nD), tz c = 1 → (⟨k0_dev66 c, h⟩ : Dev nD) = parent c := by decide +kernel
theorem devS2 : ∀ (c : Dev nD) (h : k0_dev67 c < nD), tz c = 2 → (⟨k0_dev67 c, h⟩ : Dev nD) = parent c := by decide +kernel
theorem devS3 : ∀ (c : Dev nD) (h : k0_dev68 c < nD), tz c = 3 → (⟨k0_dev68 c, h⟩ : Dev nD) = parent c := by decide +kernel
theorem devS4 : ∀ (c : Dev nD) (h : k0_dev69 c < nD), tz c = 4 → (⟨k0_dev69 c, h⟩ : Dev nD) = parent c := by decide +kernel
theorem condM0 : ∀ c : Dev nD, Iff (Scalar.cmpi .ne (Scalar.extui (Scalar.cmpi .eq (Scalar.andi (wv2 c) 1#32) 0#32) : BitVec 32) 0#32 = 1#1) (0 < tz c) := by decide +kernel
theorem condM1 : ∀ c : Dev nD, Iff (Scalar.cmpi .ne (Scalar.extui (Scalar.cmpi .eq (Scalar.andi (wv2 c) 3#32) 0#32) : BitVec 32) 0#32 = 1#1) (1 < tz c) := by decide +kernel
theorem condM2 : ∀ c : Dev nD, Iff (Scalar.cmpi .ne (Scalar.extui (Scalar.cmpi .eq (Scalar.andi (wv2 c) 7#32) 0#32) : BitVec 32) 0#32 = 1#1) (2 < tz c) := by decide +kernel
theorem condM3 : ∀ c : Dev nD, Iff (Scalar.cmpi .ne (Scalar.extui (Scalar.cmpi .eq (Scalar.andi (wv2 c) 15#32) 0#32) : BitVec 32) 0#32 = 1#1) (3 < tz c) := by decide +kernel
theorem condM4 : ∀ c : Dev nD, Iff (Scalar.cmpi .ne (Scalar.extui (Scalar.cmpi .eq (Scalar.andi (wv2 c) 31#32) 0#32) : BitVec 32) 0#32 = 1#1) (4 < tz c) := by decide +kernel
theorem cond0 : ∀ c : Dev nD, Iff (Scalar.cmpi .ne (Scalar.extui (Scalar.cmpi .eq (wv2 c) 0#32) : BitVec 32) 0#32 = 1#1) (c = 0) := by decide +kernel
theorem tz_cases : ∀ c : Dev nD, tz c = 0 ∨ tz c = 1 ∨ tz c = 2 ∨ tz c = 3 ∨ tz c = 4 ∨ tz c = 5 := by decide
theorem tz_ne0 : ∀ (c : Dev nD), tz c < 5 → c ≠ 0 := by decide

/-! ## The state of the tree on one device -/

/-- One merge of the tree. -/
def mgS : ℕ → CAc F → CRd F → CAc F
  | 0 => mg0 | 1 => mg1 | 2 => mg2 | 3 => mg3 | _ => mg4
/-- The partial result after level `k`, from the one before it. -/
def mst (c : Dev nD) (k : ℕ) (a : CAc F) : CAc F := if k < tz c then mgS k a (rdLand C c k) else a
/-- What a sender needs for its one send up the tree. -/
def RT (c : Dev nD) : sProp 𝕄 := if c = 0 then iprop(emp) else iprop((∃ f, rdPts (F := F) (parent c) (tz c) f) ∗ tok (c, 37) c ∗ tok (parent c, rrk (tz c)) c)
/-- Before the send of level `m`: the partial result is still here, or it was sent at a lower level. -/
def TreeSt (m : ℕ) (c : Dev nD) (a : CAc F) : sProp 𝕄 := if tz c < m then iprop(crd (c, 37) Nac ∗ OWs c 66) else iprop(acPts c a ∗ OWs c 65 ∗ RT (F := F) c)
/-- What a receiver needs for the merge of level `k`. -/
def MgIn (k : ℕ) (c : Dev nD) : sProp 𝕄 := if k < tz c then iprop(crd (F := F) (c, rrk k) Nac ∗ pos (c, rrk k) 0) else iprop(emp)
def MgOut (k : ℕ) (c : Dev nD) : sProp 𝕄 := if k < tz c then iprop(pos (c, rrk k) 1 ∗ rdPts c k (rdLand C c k)) else iprop(emp)

theorem TreeSt_here {m : ℕ} {c : Dev nD} (h : ¬ tz c < m) (a : CAc F) : TreeSt m c a = iprop(acPts c a ∗ OWs c 65 ∗ RT (F := F) c) := by unfold TreeSt; rw [if_neg h]
theorem TreeSt_sent {m : ℕ} {c : Dev nD} (h : tz c < m) (a : CAc F) : TreeSt m c a = iprop(crd (c, 37) Nac ∗ OWs c 66) := by unfold TreeSt; rw [if_pos h]
theorem TreeSt_skip {m : ℕ} {c : Dev nD} (h : tz c ≠ m) (a : CAc F) : TreeSt (m + 1) c a = TreeSt m c a := by
  by_cases h' : tz c < m
  · rw [TreeSt_sent h', TreeSt_sent (by omega)]
  · rw [TreeSt_here h', TreeSt_here (by omega)]
theorem RT_n {c : Dev nD} (h : c ≠ 0) : RT (F := F) c = iprop((∃ f, rdPts (F := F) (parent c) (tz c) f) ∗ tok (c, 37) c ∗ tok (parent c, rrk (tz c)) c) := by unfold RT; rw [if_neg h]

theorem mst_skip {k : ℕ} {c : Dev nD} (h : ¬ k < tz c) (a : CAc F) : mst C c k a = a := by unfold mst; rw [if_neg h]
theorem mst_do {k : ℕ} {c : Dev nD} (h : k < tz c) (a : CAc F) : mst C c k a = mgS k a (rdLand C c k) := by unfold mst; rw [if_pos h]
theorem MgIn_do {k : ℕ} {c : Dev nD} (h : k < tz c) : MgIn (F := F) k c = iprop(crd (F := F) (c, rrk k) Nac ∗ pos (c, rrk k) 0) := by unfold MgIn; rw [if_pos h]
theorem MgOut_do {k : ℕ} {c : Dev nD} (h : k < tz c) : MgOut C k c = iprop(pos (c, rrk k) 1 ∗ rdPts c k (rdLand C c k)) := by unfold MgOut; rw [if_pos h]
theorem MgOut_skip {k : ℕ} {c : Dev nD} (h : ¬ k < tz c) : MgOut C k c = iprop(emp) := by unfold MgOut; rw [if_neg h]

theorem cr_rd0 : (rdS0 : Memref sig .tc .vmem _ _).view.dmaCredit = amt (rrk 0) := by rw [amt_rr 0 (by omega)]
theorem cr_rd1 : (rdS1 : Memref sig .tc .vmem _ _).view.dmaCredit = amt (rrk 1) := by rw [amt_rr 1 (by omega)]
theorem cr_rd2 : (rdS2 : Memref sig .tc .vmem _ _).view.dmaCredit = amt (rrk 2) := by rw [amt_rr 2 (by omega)]
theorem cr_rd3 : (rdS3 : Memref sig .tc .vmem _ _).view.dmaCredit = amt (rrk 3) := by rw [amt_rr 3 (by omega)]
theorem cr_rd4 : (rdS4 : Memref sig .tc .vmem _ _).view.dmaCredit = amt (rrk 4) := by rw [amt_rr 4 (by omega)]
theorem cr_rc0 : (rcS0 : Memref sig .tc .vmem _ _).view.dmaCredit = Nkv := rfl
theorem cr_rc1 : (rcS1 : Memref sig .tc .vmem _ _).view.dmaCredit = Nkv := rfl
abbrev RL : sProp 𝕄 := iprop(records C K ∗ levAts L lv)

/-- Reading a part of the accumulator and storing into it. -/
theorem ac_upd {α : Type} (c : Dev nD) (r : Rect S2x3x32x256) {hl : acM.view.LoadsAt r.toLoadRect} {w : r.shape.Idx → Elt F .f32} {hx : (acM.access r).Stores Finset.univ} {hm : (Finset.univ : Finset r.shape.Idx) = Finset.univ ∨ ∀ a, r.stride a = 1}
    {k : PUnit → Prog (TpuEff nD τ sig (Elt F) Λ₀ (c : Thread nD τ).2) α} {Q : α → sProp 𝕄} {f : CAc F} :
    (acM.view.loc (c : Thread nD τ) ↦[Finset.univ]{fullShare} f)
      ⊢ iprop(((acM.view.loc (c : Thread nD τ) ↦[Finset.univ]{fullShare} (acM.access r).write (Elt F) f w Finset.univ) -∗ wp frame (wpE (defs₀ (F := F)) 𝒱₀ (c : Thread nD τ) none) Set.univ (k ⟨⟩) Q)
        -∗ wp frame (wpE (defs₀ (F := F)) 𝒱₀ (c : Thread nD τ) none) Set.univ (.op (.load acM r.toLoadRect hl) fun _ => .op (.store acM r w Finset.univ hx hm) k) Q) := by
  iintro Hac HQ
  iapply (wp_load 𝒱₀ (c : Thread nD τ) none Set.univ (m := acM) (Finset.subset_univ _)) $$ Hac; iintro Hac
  iapply (wp_store 𝒱₀ (c : Thread nD τ) none Set.univ (m := acM) (r := r) (Mk := Finset.univ) (Finset.subset_univ _)) $$ Hac; iintro Hac
  iapply HQ; iexact Hac

theorem spec7 (c : Dev nD) (hk : 0 < tz c) (a : CAc F) (w : BitVec 32) {Q : _ → sProp 𝕄} :
    iprop(RL C K ∗ acPts c a ∗ OWs c 65 ∗ crd (c, rrk 0) Nac ∗ pos (c, rrk 0) 0
        ∗ ((acPts c a ∗ OWs c 65 ∗ pos (c, rrk 0) 1 ∗ rdPts c 0 (rdLand C c 0)) -∗ Q ⟨mg0_v900 a (rdLand C c 0), mg0_v904 a (rdLand C c 0), mg0_v906 a (rdLand C c 0), mg0_v908 a (rdLand C c 0), mg0_v910 a (rdLand C c 0), mg0_v911 a (rdLand C c 0), mg0_v913 a (rdLand C c 0)⟩))
      ⊢ wp frame (wpE (defs₀ (F := F)) 𝒱₀ (c : Thread nD τ) none) Set.univ (k0_part7 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 w) Q := by
  rw [k0_part7_eq_skeleton]; unfold k0_part7_skel
  simp only [semSignalWord, semWaitWord, Prog.lift, Prog.bind_op, Prog.bind_ret, Prog.pure_eq_ret, wp_deviceId]
  simp only [mg0_v900, mg0_v904, mg0_v906, mg0_v908, mg0_v910, mg0_v911, mg0_v913]
  iintro ⟨⟨#HR, #HL⟩, Hac, HO, Hc, Hp, HQ⟩
  iapply (wait_one C K c (rrk 0) (sh c (2 ^ 0)) 65 (wpE_waitDma2_eq 𝒱₀ (c : Thread nD τ) none Set.univ) rfl (by rw [payers_rr 0 (by omega), if_pos hk]) cr_rd0 (above_rr c 0 hk (by omega))) $$ [HO Hc Hp]
  · isplitr; · iexact HR
    isplitr; · iexact HL
    isplitl [Hc]; · rw [amt_rr 0 (by omega)]; iexact Hc
    isplitl [HO]; · iexact HO
    iexact Hp
  rw [pay_rr C 0 (by omega)]
  unfold acPts rdPts
  iintro ⟨HO, Hp, Hrd⟩
  iapply (wp_load 𝒱₀ (c : Thread nD τ) none Set.univ (m := acM) (Finset.subset_univ _)) $$ Hac; iintro Hac
  iapply (wp_load 𝒱₀ (c : Thread nD τ) none Set.univ (m := acM) (Finset.subset_univ _)) $$ Hac; iintro Hac
  iapply (wp_load 𝒱₀ (c : Thread nD τ) none Set.univ (m := acM) (Finset.subset_univ _)) $$ Hac; iintro Hac
  iapply (wp_load 𝒱₀ (c : Thread nD τ) none Set.univ (m := rdM) (by exact rd_sub0_0)) $$ Hrd; iintro Hrd
  iapply (wp_load 𝒱₀ (c : Thread nD τ) none Set.univ (m := rdM) (by exact rd_sub0_1)) $$ Hrd; iintro Hrd
  iapply (wp_load 𝒱₀ (c : Thread nD τ) none Set.univ (m := rdM) (by exact rd_sub0_2)) $$ Hrd; iintro Hrd
  rw [wp_ret]; imodintro
  iapply HQ
  isplitl [Hac]; · iexact Hac
  isplitl [HO]; · iexact HO
  isplitl [Hp]; · iexact Hp
  iexact Hrd

theorem spec8 (c : Dev nD) (hk : 1 < tz c) (a : CAc F) (w : BitVec 32) {Q : _ → sProp 𝕄} :
    iprop(RL C K ∗ acPts c a ∗ OWs c 65 ∗ crd (c, rrk 1) Nac ∗ pos (c, rrk 1) 0
        ∗ ((acPts c a ∗ OWs c 65 ∗ pos (c, rrk 1) 1 ∗ rdPts c 1 (rdLand C c 1)) -∗ Q ⟨mg1_v900 a (rdLand C c 1), mg1_v904 a (rdLand C c 1), mg1_v906 a (rdLand C c 1), mg1_v908 a (rdLand C c 1), mg1_v910 a (rdLand C c 1), mg1_v911 a (rdLand C c 1), mg1_v913 a (rdLand C c 1)⟩))
      ⊢ wp frame (wpE (defs₀ (F := F)) 𝒱₀ (c : Thread nD τ) none) Set.univ (k0_part8 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 w) Q := by
  rw [k0_part8_eq_skeleton]; unfold k0_part8_skel
  simp only [semSignalWord, semWaitWord, Prog.lift, Prog.bind_op, Prog.bind_ret, Prog.pure_eq_ret, wp_deviceId]
  simp only [mg1_v900, mg1_v904, mg1_v906, mg1_v908, mg1_v910, mg1_v911, mg1_v913]
  iintro ⟨⟨#HR, #HL⟩, Hac, HO, Hc, Hp, HQ⟩
  iapply (wait_one C K c (rrk 1) (sh c (2 ^ 1)) 65 (wpE_waitDma2_eq 𝒱₀ (c : Thread nD τ) none Set.univ) rfl (by rw [payers_rr 1 (by omega), if_pos hk]) cr_rd1 (above_rr c 1 hk (by omega))) $$ [HO Hc Hp]
  · isplitr; · iexact HR
    isplitr; · iexact HL
    isplitl [Hc]; · rw [amt_rr 1 (by omega)]; iexact Hc
    isplitl [HO]; · iexact HO
    iexact Hp
  rw [pay_rr C 1 (by omega)]
  unfold acPts rdPts
  iintro ⟨HO, Hp, Hrd⟩
  iapply (wp_load 𝒱₀ (c : Thread nD τ) none Set.univ (m := acM) (Finset.subset_univ _)) $$ Hac; iintro Hac
  iapply (wp_load 𝒱₀ (c : Thread nD τ) none Set.univ (m := acM) (Finset.subset_univ _)) $$ Hac; iintro Hac
  iapply (wp_load 𝒱₀ (c : Thread nD τ) none Set.univ (m := acM) (Finset.subset_univ _)) $$ Hac; iintro Hac
  iapply (wp_load 𝒱₀ (c : Thread nD τ) none Set.univ (m := rdM) (by exact rd_sub1_0)) $$ Hrd; iintro Hrd
  iapply (wp_load 𝒱₀ (c : Thread nD τ) none Set.univ (m := rdM) (by exact rd_sub1_1)) $$ Hrd; iintro Hrd
  iapply (wp_load 𝒱₀ (c : Thread nD τ) none Set.univ (m := rdM) (by exact rd_sub1_2)) $$ Hrd; iintro Hrd
  rw [wp_ret]; imodintro
  iapply HQ
  isplitl [Hac]; · iexact Hac
  isplitl [HO]; · iexact HO
  isplitl [Hp]; · iexact Hp
  iexact Hrd

theorem spec9 (c : Dev nD) (hk : 2 < tz c) (a : CAc F) (w : BitVec 32) {Q : _ → sProp 𝕄} :
    iprop(RL C K ∗ acPts c a ∗ OWs c 65 ∗ crd (c, rrk 2) Nac ∗ pos (c, rrk 2) 0
        ∗ ((acPts c a ∗ OWs c 65 ∗ pos (c, rrk 2) 1 ∗ rdPts c 2 (rdLand C c 2)) -∗ Q ⟨mg2_v900 a (rdLand C c 2), mg2_v904 a (rdLand C c 2), mg2_v906 a (rdLand C c 2), mg2_v908 a (rdLand C c 2), mg2_v910 a (rdLand C c 2), mg2_v911 a (rdLand C c 2), mg2_v913 a (rdLand C c 2)⟩))
      ⊢ wp frame (wpE (defs₀ (F := F)) 𝒱₀ (c : Thread nD τ) none) Set.univ (k0_part9 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 w) Q := by
  rw [k0_part9_eq_skeleton]; unfold k0_part9_skel
  simp only [semSignalWord, semWaitWord, Prog.lift, Prog.bind_op, Prog.bind_ret, Prog.pure_eq_ret, wp_deviceId]
  simp only [mg2_v900, mg2_v904, mg2_v906, mg2_v908, mg2_v910, mg2_v911, mg2_v913]
  iintro ⟨⟨#HR, #HL⟩, Hac, HO, Hc, Hp, HQ⟩
  iapply (wait_one C K c (rrk 2) (sh c (2 ^ 2)) 65 (wpE_waitDma2_eq 𝒱₀ (c : Thread nD τ) none Set.univ) rfl (by rw [payers_rr 2 (by omega), if_pos hk]) cr_rd2 (above_rr c 2 hk (by omega))) $$ [HO Hc Hp]
  · isplitr; · iexact HR
    isplitr; · iexact HL
    isplitl [Hc]; · rw [amt_rr 2 (by omega)]; iexact Hc
    isplitl [HO]; · iexact HO
    iexact Hp
  rw [pay_rr C 2 (by omega)]
  unfold acPts rdPts
  iintro ⟨HO, Hp, Hrd⟩
  iapply (wp_load 𝒱₀ (c : Thread nD τ) none Set.univ (m := acM) (Finset.subset_univ _)) $$ Hac; iintro Hac
  iapply (wp_load 𝒱₀ (c : Thread nD τ) none Set.univ (m := acM) (Finset.subset_univ _)) $$ Hac; iintro Hac
  iapply (wp_load 𝒱₀ (c : Thread nD τ) none Set.univ (m := acM) (Finset.subset_univ _)) $$ Hac; iintro Hac
  iapply (wp_load 𝒱₀ (c : Thread nD τ) none Set.univ (m := rdM) (by exact rd_sub2_0)) $$ Hrd; iintro Hrd
  iapply (wp_load 𝒱₀ (c : Thread nD τ) none Set.univ (m := rdM) (by exact rd_sub2_1)) $$ Hrd; iintro Hrd
  iapply (wp_load 𝒱₀ (c : Thread nD τ) none Set.univ (m := rdM) (by exact rd_sub2_2)) $$ Hrd; iintro Hrd
  rw [wp_ret]; imodintro
  iapply HQ
  isplitl [Hac]; · iexact Hac
  isplitl [HO]; · iexact HO
  isplitl [Hp]; · iexact Hp
  iexact Hrd

theorem spec10 (c : Dev nD) (hk : 3 < tz c) (a : CAc F) (w : BitVec 32) {Q : _ → sProp 𝕄} :
    iprop(RL C K ∗ acPts c a ∗ OWs c 65 ∗ crd (c, rrk 3) Nac ∗ pos (c, rrk 3) 0
        ∗ ((acPts c a ∗ OWs c 65 ∗ pos (c, rrk 3) 1 ∗ rdPts c 3 (rdLand C c 3)) -∗ Q ⟨mg3_v900 a (rdLand C c 3), mg3_v904 a (rdLand C c 3), mg3_v906 a (rdLand C c 3), mg3_v908 a (rdLand C c 3), mg3_v910 a (rdLand C c 3), mg3_v911 a (rdLand C c 3), mg3_v913 a (rdLand C c 3)⟩))
      ⊢ wp frame (wpE (defs₀ (F := F)) 𝒱₀ (c : Thread nD τ) none) Set.univ (k0_part10 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 w) Q := by
  rw [k0_part10_eq_skeleton]; unfold k0_part10_skel
  simp only [semSignalWord, semWaitWord, Prog.lift, Prog.bind_op, Prog.bind_ret, Prog.pure_eq_ret, wp_deviceId]
  simp only [mg3_v900, mg3_v904, mg3_v906, mg3_v908, mg3_v910, mg3_v911, mg3_v913]
  iintro ⟨⟨#HR, #HL⟩, Hac, HO, Hc, Hp, HQ⟩
  iapply (wait_one C K c (rrk 3) (sh c (2 ^ 3)) 65 (wpE_waitDma2_eq 𝒱₀ (c : Thread nD τ) none Set.univ) rfl (by rw [payers_rr 3 (by omega), if_pos hk]) cr_rd3 (above_rr c 3 hk (by omega))) $$ [HO Hc Hp]
  · isplitr; · iexact HR
    isplitr; · iexact HL
    isplitl [Hc]; · rw [amt_rr 3 (by omega)]; iexact Hc
    isplitl [HO]; · iexact HO
    iexact Hp
  rw [pay_rr C 3 (by omega)]
  unfold acPts rdPts
  iintro ⟨HO, Hp, Hrd⟩
  iapply (wp_load 𝒱₀ (c : Thread nD τ) none Set.univ (m := acM) (Finset.subset_univ _)) $$ Hac; iintro Hac
  iapply (wp_load 𝒱₀ (c : Thread nD τ) none Set.univ (m := acM) (Finset.subset_univ _)) $$ Hac; iintro Hac
  iapply (wp_load 𝒱₀ (c : Thread nD τ) none Set.univ (m := acM) (Finset.subset_univ _)) $$ Hac; iintro Hac
  iapply (wp_load 𝒱₀ (c : Thread nD τ) none Set.univ (m := rdM) (by exact rd_sub3_0)) $$ Hrd; iintro Hrd
  iapply (wp_load 𝒱₀ (c : Thread nD τ) none Set.univ (m := rdM) (by exact rd_sub3_1)) $$ Hrd; iintro Hrd
  iapply (wp_load 𝒱₀ (c : Thread nD τ) none Set.univ (m := rdM) (by exact rd_sub3_2)) $$ Hrd; iintro Hrd
  rw [wp_ret]; imodintro
  iapply HQ
  isplitl [Hac]; · iexact Hac
  isplitl [HO]; · iexact HO
  isplitl [Hp]; · iexact Hp
  iexact Hrd

theorem spec11 (c : Dev nD) (hk : 4 < tz c) (a : CAc F) (w : BitVec 32) {Q : _ → sProp 𝕄} :
    iprop(RL C K ∗ acPts c a ∗ OWs c 65 ∗ crd (c, rrk 4) Nac ∗ pos (c, rrk 4) 0
        ∗ ((acPts c a ∗ OWs c 65 ∗ pos (c, rrk 4) 1 ∗ rdPts c 4 (rdLand C c 4)) -∗ Q ⟨mg4_v900 a (rdLand C c 4), mg4_v904 a (rdLand C c 4), mg4_v906 a (rdLand C c 4), mg4_v908 a (rdLand C c 4), mg4_v910 a (rdLand C c 4), mg4_v911 a (rdLand C c 4), mg4_v913 a (rdLand C c 4)⟩))
      ⊢ wp frame (wpE (defs₀ (F := F)) 𝒱₀ (c : Thread nD τ) none) Set.univ (k0_part11 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 w) Q := by
  rw [k0_part11_eq_skeleton]; unfold k0_part11_skel
  simp only [semSignalWord, semWaitWord, Prog.lift, Prog.bind_op, Prog.bind_ret, Prog.pure_eq_ret, wp_deviceId]
  simp only [mg4_v900, mg4_v904, mg4_v906, mg4_v908, mg4_v910, mg4_v911, mg4_v913]
  iintro ⟨⟨#HR, #HL⟩, Hac, HO, Hc, Hp, HQ⟩
  iapply (wait_one C K c (rrk 4) (sh c (2 ^ 4)) 65 (wpE_waitDma2_eq 𝒱₀ (c : Thread nD τ) none Set.univ) rfl (by rw [payers_rr 4 (by omega), if_pos hk]) cr_rd4 (above_rr c 4 hk (by omega))) $$ [HO Hc Hp]
  · isplitr; · iexact HR
    isplitr; · iexact HL
    isplitl [Hc]; · rw [amt_rr 4 (by omega)]; iexact Hc
    isplitl [HO]; · iexact HO
    iexact Hp
  rw [pay_rr C 4 (by omega)]
  unfold acPts rdPts
  iintro ⟨HO, Hp, Hrd⟩
  iapply (wp_load 𝒱₀ (c : Thread nD τ) none Set.univ (m := acM) (Finset.subset_univ _)) $$ Hac; iintro Hac
  iapply (wp_load 𝒱₀ (c : Thread nD τ) none Set.univ (m := acM) (Finset.subset_univ _)) $$ Hac; iintro Hac
  iapply (wp_load 𝒱₀ (c : Thread nD τ) none Set.univ (m := acM) (Finset.subset_univ _)) $$ Hac; iintro Hac
  iapply (wp_load 𝒱₀ (c : Thread nD τ) none Set.univ (m := rdM) (by exact rd_sub4_0)) $$ Hrd; iintro Hrd
  iapply (wp_load 𝒱₀ (c : Thread nD τ) none Set.univ (m := rdM) (by exact rd_sub4_1)) $$ Hrd; iintro Hrd
  iapply (wp_load 𝒱₀ (c : Thread nD τ) none Set.univ (m := rdM) (by exact rd_sub4_2)) $$ Hrd; iintro Hrd
  rw [wp_ret]; imodintro
  iapply HQ
  isplitl [Hac]; · iexact Hac
  isplitl [HO]; · iexact HO
  isplitl [Hp]; · iexact Hp
  iexact Hrd

theorem spec34 (E : Env F) (f : CAc F) (hac : tz E.c = 0 → ac34 E f = C.ac E.c) {Q : _ → sProp 𝕄} :
    iprop(RL C K ∗ acPts E.c f ∗ OWs E.c 65 ∗ RT (F := F) E.c ∗ (TreeSt 1 E.c (ac34 E f) -∗ Q ⟨⟩))
      ⊢ wp frame (wpE (defs₀ (F := F)) 𝒱₀ (E.c : Thread nD τ) none) Set.univ (k0_part34 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 E.c (wv2 E.c) (wv7 E.c) (v518 E) (v521 E) (v523 E)) Q := by
  rw [k0_part34_eq_skeleton]; unfold k0_part34_skel
  by_cases hk : tz E.c = 0
  · simp only [dif_pos ((condS0 E.c).2 hk)]
    have hc0 : E.c ≠ 0 := tz_ne0 _ (by omega)
    rw [TreeSt_sent (by omega), RT_n hc0]
    have hsw : acPts E.c (ac34 E f) ⊢ acPts E.c (C.ac E.c) := by rw [hac hk]
    generalize hT0 : acPts E.c (C.ac E.c) = T0 at hsw
    unfold ac34 acPts at hsw
    simp only [semSignalWord, semWaitWord, Prog.lift, Prog.bind_op, Prog.bind_ret, Prog.pure_eq_ret, wp_deviceId]
    unfold acPts
    iintro ⟨⟨#HR, #HL⟩, Hac, HO, ⟨Hd, Ht1, Ht2⟩, HQ⟩
    iapply (wp_load 𝒱₀ (E.c : Thread nD τ) none Set.univ (m := acM) (Finset.subset_univ _)) $$ Hac; iintro Hac
    iapply (wp_store 𝒱₀ (E.c : Thread nD τ) none Set.univ (m := acM) (r := (Rect.unit (s := S2x3x32x256) ![1, 0, 0, 192] S1x1x32x64.size inb_S2x3x32x256_S1x1x32x64_1_0_0_192)) (Mk := Finset.univ) (Finset.subset_univ _)) $$ Hac; iintro Hac
    iapply (wp_load 𝒱₀ (E.c : Thread nD τ) none Set.univ (m := acM) (Finset.subset_univ _)) $$ Hac; iintro Hac
    iapply (wp_store 𝒱₀ (E.c : Thread nD τ) none Set.univ (m := acM) (r := (Rect.unit (s := S2x3x32x256) ![1, 1, 0, 192] S1x1x32x64.size inb_S2x3x32x256_S1x1x32x64_1_1_0_192)) (Mk := Finset.univ) (Finset.subset_univ _)) $$ Hac; iintro Hac
    iapply (wp_load 𝒱₀ (E.c : Thread nD τ) none Set.univ (m := acM) (Finset.subset_univ _)) $$ Hac; iintro Hac
    iapply (wp_store 𝒱₀ (E.c : Thread nD τ) none Set.univ (m := acM) (r := (Rect.unit (s := S2x3x32x256) ![1, 2, 0, 192] S1x1x32x64.size inb_S2x3x32x256_S1x1x32x64_1_2_0_192)) (Mk := Finset.univ) (Finset.subset_univ _)) $$ Hac; iintro Hac
    ihave Hac := hsw $$ Hac
    iapply (snd_red0 C K E.c hc0 hk _ (devS0 _ _ hk) rfl rfl) $$ [Hac HO Hd Ht1 Ht2]
    · isplitr; · iexact HR
      isplitl [Hac]; · rw [hT0]; iexact Hac
      isplitl [Hd]; · rw [hk]; iexact Hd
      isplitl [HO]; · iexact HO
      isplitl [Ht1]; · iexact Ht1
      iexact Ht2
    iintro ⟨Hc, HO⟩
    rw [wp_ret]; imodintro
    iapply HQ
    isplitl [Hc]; · iexact Hc
    iexact HO
  · simp only [dif_neg (fun h => hk ((condS0 E.c).1 h))]
    rw [TreeSt_here (by omega)]
    simp only [semSignalWord, semWaitWord, Prog.lift, Prog.bind_op, Prog.bind_ret, Prog.pure_eq_ret, wp_deviceId]
    unfold acPts
    iintro ⟨⟨#HR, #HL⟩, Hac, HO, HT, HQ⟩
    iapply (wp_load 𝒱₀ (E.c : Thread nD τ) none Set.univ (m := acM) (Finset.subset_univ _)) $$ Hac; iintro Hac
    iapply (wp_store 𝒱₀ (E.c : Thread nD τ) none Set.univ (m := acM) (r := (Rect.unit (s := S2x3x32x256) ![1, 0, 0, 192] S1x1x32x64.size inb_S2x3x32x256_S1x1x32x64_1_0_0_192)) (Mk := Finset.univ) (Finset.subset_univ _)) $$ Hac; iintro Hac
    iapply (wp_load 𝒱₀ (E.c : Thread nD τ) none Set.univ (m := acM) (Finset.subset_univ _)) $$ Hac; iintro Hac
    iapply (wp_store 𝒱₀ (E.c : Thread nD τ) none Set.univ (m := acM) (r := (Rect.unit (s := S2x3x32x256) ![1, 1, 0, 192] S1x1x32x64.size inb_S2x3x32x256_S1x1x32x64_1_1_0_192)) (Mk := Finset.univ) (Finset.subset_univ _)) $$ Hac; iintro Hac
    iapply (wp_load 𝒱₀ (E.c : Thread nD τ) none Set.univ (m := acM) (Finset.subset_univ _)) $$ Hac; iintro Hac
    iapply (wp_store 𝒱₀ (E.c : Thread nD τ) none Set.univ (m := acM) (r := (Rect.unit (s := S2x3x32x256) ![1, 2, 0, 192] S1x1x32x64.size inb_S2x3x32x256_S1x1x32x64_1_2_0_192)) (Mk := Finset.univ) (Finset.subset_univ _)) $$ Hac; iintro Hac
    rw [wp_ret]; imodintro
    iapply HQ
    isplitl [Hac]; · iexact Hac
    isplitl [HO]; · iexact HO
    iexact HT

theorem spec35 (E : Env F) (hr0 : E.r0 = rcLand C E.c 0) (hr1 : E.r1 = rcLand C E.c 1) (q q' : PosShare TreeShare) (n : ℕ) (hn : 65 ≤ n) (w : BitVec 32) {Q : _ → sProp 𝕄} :
    iprop(RL C K ∗ OWs E.c n ∗ crd (E.c, 2) Nkv ∗ pos (E.c, 2) 0 ∗ crd (E.c, 3) Nkv ∗ pos (E.c, 3) 0 ∗ kvPts E.c q' E.kv ∗ glPts E.c q E.gl
        ∗ ((OWs E.c n ∗ pos (E.c, 2) 1 ∗ pos (E.c, 3) 1 ∗ rcPts E.c 0 E.r0 ∗ rcPts E.c 1 E.r1 ∗ kvPts E.c q' E.kv ∗ glPts E.c q E.gl) -∗ Q ⟨v568 E, v570 E, v572 E⟩))
      ⊢ wp frame (wpE (defs₀ (F := F)) 𝒱₀ (E.c : Thread nD τ) none) Set.univ (k0_part35 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 w) Q := by
  rw [k0_part35_eq_skeleton]; unfold k0_part35_skel
  simp only [semSignalWord, semWaitWord, Prog.lift, Prog.bind_op, Prog.bind_ret, Prog.pure_eq_ret, wp_deviceId]
  simp only [v568, v570, v572, v560, v562, v564, v566, v569, v571]
  have h0 : ∀ p, pay C E.c 2 p = rcPts E.c 0 E.r0 := fun p => by rw [pay_2, hr0]
  have h1 : ∀ p, pay C E.c 3 p = rcPts E.c 1 E.r1 := fun p => by rw [pay_3, hr1]
  unfold kvPts glPts rcPts
  unfold rcPts at h0 h1
  iintro ⟨⟨#HR, #HL⟩, HO, Hc2, Hp2, Hc3, Hp3, Hkv, Hgl, HQ⟩
  iapply (wait_one C K E.c 2 (sh E.c 31) n (wpE_waitDma2_eq 𝒱₀ (E.c : Thread nD τ) none Set.univ) rfl (payers_2 _) cr_rc0 (above_hr E.c 2 rfl n hn)) $$ [Hc2 HO Hp2]
  · isplitr; · iexact HR
    isplitr; · iexact HL
    isplitl [Hc2]; · iexact Hc2
    isplitl [HO]; · iexact HO
    iexact Hp2
  iintro ⟨HO, Hp2, Hr0⟩
  iapply (wait_one C K E.c 3 (sh E.c 1) n (wpE_waitDma2_eq 𝒱₀ (E.c : Thread nD τ) none Set.univ) rfl (payers_3 _) cr_rc1 (above_hr E.c 3 rfl n hn)) $$ [Hc3 HO Hp3]
  · isplitr; · iexact HR
    isplitr; · iexact HL
    isplitl [Hc3]; · iexact Hc3
    isplitl [HO]; · iexact HO
    iexact Hp3
  iintro ⟨HO, Hp3, Hr1⟩
  ihave Hr0 := (BIBase.Entails.of_eq (h0 _)) $$ Hr0
  ihave Hr1 := (BIBase.Entails.of_eq (h1 _)) $$ Hr1
  iapply (wp_load 𝒱₀ (E.c : Thread nD τ) none Set.univ (m := rcM) (by exact rc_sub0_0)) $$ Hr0; iintro Hr0
  iapply (wp_load 𝒱₀ (E.c : Thread nD τ) none Set.univ (m := kvM) (Finset.subset_univ _)) $$ Hkv; iintro Hkv
  iapply (wp_load 𝒱₀ (E.c : Thread nD τ) none Set.univ (m := rcM) (by exact rc_sub1_0)) $$ Hr1; iintro Hr1
  iapply (wp_load 𝒱₀ (E.c : Thread nD τ) none Set.univ (m := glM) (Finset.subset_univ _)) $$ Hgl; iintro Hgl
  iapply (wp_load 𝒱₀ (E.c : Thread nD τ) none Set.univ (m := rcM) (by exact rc_sub0_1)) $$ Hr0; iintro Hr0
  iapply (wp_load 𝒱₀ (E.c : Thread nD τ) none Set.univ (m := kvM) (Finset.subset_univ _)) $$ Hkv; iintro Hkv
  rw [wp_ret]; imodintro
  iapply HQ
  isplitl [HO]; · iexact HO
  isplitl [Hp2]; · iexact Hp2
  isplitl [Hp3]; · iexact Hp3
  isplitl [Hr0]; · iexact Hr0
  isplitl [Hr1]; · iexact Hr1
  isplitl [Hkv]; · iexact Hkv
  iexact Hgl

theorem spec41 (E : Env F) (f : CCx F) (a : CAc F) {Q : _ → sProp 𝕄} :
    iprop(RL C K ∗ cxPts E.c f ∗ TreeSt 1 E.c a ∗ MgIn (F := F) 0 E.c ∗ ((cxPts E.c (cx41 E f) ∗ TreeSt 1 E.c (mst C E.c 0 a) ∗ MgOut C 0 E.c) -∗ Q ⟨⟩))
      ⊢ wp frame (wpE (defs₀ (F := F)) 𝒱₀ (E.c : Thread nD τ) none) Set.univ (k0_part41 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 (wv2 E.c) (v145 E) (v568 E) (v577 E) (v622 E) (v786 E)) Q := by
  rw [k0_part41_eq_skeleton]; unfold k0_part41_skel
  by_cases hk : 0 < tz E.c
  · simp only [dif_pos ((condM0 E.c).2 hk)]
    rw [TreeSt_here (by omega), TreeSt_here (by omega), MgIn_do hk, MgOut_do C hk, mst_do C hk]
    simp only [semSignalWord, semWaitWord, Prog.lift, Prog.bind_op, Prog.bind_ret, Prog.pure_eq_ret, wp_deviceId]
    unfold cxPts
    iintro ⟨⟨#HR, #HL⟩, Hcx, ⟨Hac, HO, HT⟩, ⟨Hc, Hp⟩, HQ⟩
    iapply (wp_load 𝒱₀ (E.c : Thread nD τ) none Set.univ (m := cxM) (Finset.subset_univ _)) $$ Hcx; iintro Hcx
    iapply (wp_store 𝒱₀ (E.c : Thread nD τ) none Set.univ (m := cxM) (r := (Rect.unit (s := S2x128x256) ![1, 0, 128] S1x128x64.size inb_S2x128x256_S1x128x64_1_0_128)) (Mk := Finset.univ) (Finset.subset_univ _)) $$ Hcx; iintro Hcx
    iapply (wp_load 𝒱₀ (E.c : Thread nD τ) none Set.univ (m := cxM) (Finset.subset_univ _)) $$ Hcx; iintro Hcx
    iapply (wp_store 𝒱₀ (E.c : Thread nD τ) none Set.univ (m := cxM) (r := (Rect.unit (s := S2x128x256) ![1, 0, 192] S1x128x64.size inb_S2x128x256_S1x128x64_1_0_192)) (Mk := Finset.univ) (Finset.subset_univ _)) $$ Hcx; iintro Hcx
    rw [wp_bind]
    iapply (spec7 C K E.c hk _ _) $$ [-]
    isplitr
    · isplitr; · iexact HR
      iexact HL
    isplitl [Hac]; · iexact Hac
    isplitl [HO]; · iexact HO
    isplitl [Hc]; · iexact Hc
    isplitl [Hp]; · iexact Hp
    unfold acPts
    iintro ⟨Hac, HO, Hp, Hrd⟩
    dsimp only
    iapply (wp_load 𝒱₀ (E.c : Thread nD τ) none Set.univ (m := acM) (Finset.subset_univ _)) $$ Hac; iintro Hac
    iapply (wp_store 𝒱₀ (E.c : Thread nD τ) none Set.univ (m := acM) (r := acR0) (Mk := Finset.univ) (Finset.subset_univ _)) $$ Hac; iintro Hac
    iapply (wp_load 𝒱₀ (E.c : Thread nD τ) none Set.univ (m := acM) (Finset.subset_univ _)) $$ Hac; iintro Hac
    iapply (wp_store 𝒱₀ (E.c : Thread nD τ) none Set.univ (m := acM) (r := acR1) (Mk := Finset.univ) (Finset.subset_univ _)) $$ Hac; iintro Hac
    iapply (wp_load 𝒱₀ (E.c : Thread nD τ) none Set.univ (m := acM) (Finset.subset_univ _)) $$ Hac; iintro Hac
    iapply (wp_store 𝒱₀ (E.c : Thread nD τ) none Set.univ (m := acM) (r := acR2) (Mk := Finset.univ) (Finset.subset_univ _)) $$ Hac; iintro Hac
    rw [wp_ret]; imodintro
    iapply HQ
    isplitl [Hcx]; · iexact Hcx
    isplitl [Hac HO HT]
    · isplitl [Hac]; · iexact Hac
      isplitl [HO]; · iexact HO
      iexact HT
    isplitl [Hp]; · iexact Hp
    iexact Hrd
  · simp only [dif_neg (fun h => hk ((condM0 E.c).1 h))]
    rw [MgOut_skip C hk, mst_skip C hk]
    simp only [semSignalWord, semWaitWord, Prog.lift, Prog.bind_op, Prog.bind_ret, Prog.pure_eq_ret, wp_deviceId]
    unfold cxPts
    iintro ⟨⟨#HR, #HL⟩, Hcx, HT, Hm, HQ⟩
    iapply (wp_load 𝒱₀ (E.c : Thread nD τ) none Set.univ (m := cxM) (Finset.subset_univ _)) $$ Hcx; iintro Hcx
    iapply (wp_store 𝒱₀ (E.c : Thread nD τ) none Set.univ (m := cxM) (r := (Rect.unit (s := S2x128x256) ![1, 0, 128] S1x128x64.size inb_S2x128x256_S1x128x64_1_0_128)) (Mk := Finset.univ) (Finset.subset_univ _)) $$ Hcx; iintro Hcx
    iapply (wp_load 𝒱₀ (E.c : Thread nD τ) none Set.univ (m := cxM) (Finset.subset_univ _)) $$ Hcx; iintro Hcx
    iapply (wp_store 𝒱₀ (E.c : Thread nD τ) none Set.univ (m := cxM) (r := (Rect.unit (s := S2x128x256) ![1, 0, 192] S1x128x64.size inb_S2x128x256_S1x128x64_1_0_192)) (Mk := Finset.univ) (Finset.subset_univ _)) $$ Hcx; iintro Hcx
    rw [wp_ret]; imodintro
    iapply HQ
    isplitl [Hcx]; · iexact Hcx
    isplitl [HT]; · iexact HT
    iempintro

/-- The part of the body that merges and sends at the levels 1 to 4, at its buffers. -/
abbrev p42 (c : Dev nD) := k0_part42 (F := F) (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 c (wv2 c)

set_option maxHeartbeats 2000000 in
theorem spec42_0 (c : Dev nD) (hT : tz c = 0) (a : CAc F) {Q : _ → sProp 𝕄} :
    iprop(RL C K ∗ TreeSt 1 c a ∗ MgIn (F := F) 1 c ∗ MgIn (F := F) 2 c ∗ MgIn (F := F) 3 c ∗ MgIn (F := F) 4 c ∗ ((TreeSt 4 c (mst C c 4 (mst C c 3 (mst C c 2 (mst C c 1 (a))))) ∗ MgOut C 1 c ∗ MgOut C 2 c ∗ MgOut C 3 c ∗ MgOut C 4 c) -∗ ∀ w, Q w))
      ⊢ wp frame (wpE (defs₀ (F := F)) 𝒱₀ (c : Thread nD τ) none) Set.univ (p42 (F := F) c) Q := by
  rw [p42, k0_part42_eq_skeleton]; unfold k0_part42_skel
  skip
  simp only [↓dif_neg (fun h => absurd ((condM1 c).1 h) (by omega)), ↓dif_neg (fun h => absurd ((condM2 c).1 h) (by omega)), ↓dif_neg (fun h => absurd ((condM3 c).1 h) (by omega)), ↓dif_neg (fun h => absurd ((condM4 c).1 h) (by omega)), ↓dif_neg (fun h => absurd ((condS1 c).1 h) (by omega)), ↓dif_neg (fun h => absurd ((condS2 c).1 h) (by omega)), ↓dif_neg (fun h => absurd ((condS3 c).1 h) (by omega))]
  rw [MgOut_skip C (k := 1) (by omega), MgOut_skip C (k := 2) (by omega), MgOut_skip C (k := 3) (by omega), MgOut_skip C (k := 4) (by omega), TreeSt_sent (m := 1) (by omega), TreeSt_sent (m := 4) (by omega)]
  simp only [semSignalWord, semWaitWord, Prog.lift, Prog.bind_op, Prog.bind_ret, Prog.pure_eq_ret, wp_deviceId]
  iintro ⟨⟨#HR, #HL⟩, HS, I1, I2, I3, I4, HQ⟩
  rw [wp_ret]; imodintro
  ihave HQ2 := HQ $$ [HS ]
  · isplitl [HS]; · iexact HS
    isplitr; · iempintro
    isplitr; · iempintro
    isplitr; · iempintro
    iempintro
  iapply HQ2

set_option maxHeartbeats 2000000 in
theorem spec42_1 (c : Dev nD) (hT : tz c = 1) (a : CAc F) (hac1 : tz c = 1 → mst C c 1 (a) = C.ac c) {Q : _ → sProp 𝕄} :
    iprop(RL C K ∗ TreeSt 1 c a ∗ MgIn (F := F) 1 c ∗ MgIn (F := F) 2 c ∗ MgIn (F := F) 3 c ∗ MgIn (F := F) 4 c ∗ ((TreeSt 4 c (mst C c 4 (mst C c 3 (mst C c 2 (mst C c 1 (a))))) ∗ MgOut C 1 c ∗ MgOut C 2 c ∗ MgOut C 3 c ∗ MgOut C 4 c) -∗ ∀ w, Q w))
      ⊢ wp frame (wpE (defs₀ (F := F)) 𝒱₀ (c : Thread nD τ) none) Set.univ (p42 (F := F) c) Q := by
  rw [p42, k0_part42_eq_skeleton]; unfold k0_part42_skel
  skip
  simp only [↓dif_neg (fun h => absurd ((condM1 c).1 h) (by omega)), ↓dif_neg (fun h => absurd ((condM2 c).1 h) (by omega)), ↓dif_neg (fun h => absurd ((condM3 c).1 h) (by omega)), ↓dif_neg (fun h => absurd ((condM4 c).1 h) (by omega)), ↓dif_pos ((condS1 c).2 hT), ↓dif_neg (fun h => absurd ((condS2 c).1 h) (by omega)), ↓dif_neg (fun h => absurd ((condS3 c).1 h) (by omega))]
  rw [MgOut_skip C (k := 1) (by omega), MgOut_skip C (k := 2) (by omega), MgOut_skip C (k := 3) (by omega), MgOut_skip C (k := 4) (by omega), TreeSt_here (m := 1) (by omega), TreeSt_sent (m := 4) (by omega), RT_n (tz_ne0 c (by omega))]
  have hfin : a = C.ac c := by rw [← hac1 hT]; rw [mst_skip C (k := 1) (by omega)]
  simp only [semSignalWord, semWaitWord, Prog.lift, Prog.bind_op, Prog.bind_ret, Prog.pure_eq_ret, wp_deviceId]
  iintro ⟨⟨#HR, #HL⟩, ⟨Hac, HO, Hd, Ht1, Ht2⟩, I1, I2, I3, I4, HQ⟩
  iapply (snd_red1 C K c (tz_ne0 c (by omega)) hT _ (devS1 _ _ hT) rfl rfl) $$ [Hac HO Hd Ht1 Ht2]
  · isplitr; · iexact HR
    isplitl [Hac]; · rw [← hfin]; unfold acPts; iexact Hac
    isplitl [Hd]; · rw [hT]; iexact Hd
    isplitl [HO]; · iexact HO
    isplitl [Ht1]; · iexact Ht1
    iexact Ht2
  iintro ⟨Hc, HO⟩
  rw [wp_ret]; imodintro
  ihave HQ2 := HQ $$ [Hc HO ]
  · isplitl [Hc HO]
    · isplitl [Hc]; · iexact Hc
      iexact HO
    isplitr; · iempintro
    isplitr; · iempintro
    isplitr; · iempintro
    iempintro
  iapply HQ2

set_option maxHeartbeats 2000000 in
theorem spec42_2 (c : Dev nD) (hT : tz c = 2) (a : CAc F) (hac2 : tz c = 2 → mst C c 2 (mst C c 1 (a)) = C.ac c) {Q : _ → sProp 𝕄} :
    iprop(RL C K ∗ TreeSt 1 c a ∗ MgIn (F := F) 1 c ∗ MgIn (F := F) 2 c ∗ MgIn (F := F) 3 c ∗ MgIn (F := F) 4 c ∗ ((TreeSt 4 c (mst C c 4 (mst C c 3 (mst C c 2 (mst C c 1 (a))))) ∗ MgOut C 1 c ∗ MgOut C 2 c ∗ MgOut C 3 c ∗ MgOut C 4 c) -∗ ∀ w, Q w))
      ⊢ wp frame (wpE (defs₀ (F := F)) 𝒱₀ (c : Thread nD τ) none) Set.univ (p42 (F := F) c) Q := by
  rw [p42, k0_part42_eq_skeleton]; unfold k0_part42_skel
  skip
  simp only [↓dif_pos ((condM1 c).2 (by omega)), ↓dif_neg (fun h => absurd ((condM2 c).1 h) (by omega)), ↓dif_neg (fun h => absurd ((condM3 c).1 h) (by omega)), ↓dif_neg (fun h => absurd ((condM4 c).1 h) (by omega)), ↓dif_neg (fun h => absurd ((condS1 c).1 h) (by omega)), ↓dif_pos ((condS2 c).2 hT), ↓dif_neg (fun h => absurd ((condS3 c).1 h) (by omega))]
  rw [MgIn_do (k := 1) (by omega), MgOut_do C (k := 1) (by omega), MgOut_skip C (k := 2) (by omega), MgOut_skip C (k := 3) (by omega), MgOut_skip C (k := 4) (by omega), TreeSt_here (m := 1) (by omega), TreeSt_sent (m := 4) (by omega), RT_n (tz_ne0 c (by omega))]
  unfold acPts
  have hfin : (mgS 1 a (rdLand C c 1)) = C.ac c := by rw [← hac2 hT]; rw [mst_do C (k := 1) (by omega)]; rw [mst_skip C (k := 2) (by omega)]
  simp only [semSignalWord, semWaitWord, Prog.lift, Prog.bind_op, Prog.bind_ret, Prog.pure_eq_ret, wp_deviceId]
  iintro ⟨⟨#HR, #HL⟩, ⟨Hac, HO, Hd, Ht1, Ht2⟩, ⟨Hc1, Hp1⟩, I2, I3, I4, HQ⟩
  rw [wp_bind]
  iapply (spec8 C K c (by omega) a _) $$ [-]
  isplitr
  · isplitr; · iexact HR
    iexact HL
  isplitl [Hac]; · unfold acPts; iexact Hac
  isplitl [HO]; · iexact HO
  isplitl [Hc1]; · iexact Hc1
  isplitl [Hp1]; · iexact Hp1
  unfold acPts
  iintro ⟨Hac, HO, Hp1, Hrd1⟩
  dsimp only
  iapply (ac_upd c acR0) $$ Hac; iintro Hac
  iapply (ac_upd c acR1) $$ Hac; iintro Hac
  iapply (ac_upd c acR2) $$ Hac; iintro Hac
  iapply (snd_red2 C K c (tz_ne0 c (by omega)) hT _ (devS2 _ _ hT) rfl rfl) $$ [Hac HO Hd Ht1 Ht2]
  · isplitr; · iexact HR
    isplitl [Hac]; · rw [← hfin]; unfold acPts; iexact Hac
    isplitl [Hd]; · rw [hT]; iexact Hd
    isplitl [HO]; · iexact HO
    isplitl [Ht1]; · iexact Ht1
    iexact Ht2
  iintro ⟨Hc, HO⟩
  rw [wp_ret]; imodintro
  ihave HQ2 := HQ $$ [Hc HO Hp1 Hrd1]
  · isplitl [Hc HO]
    · isplitl [Hc]; · iexact Hc
      iexact HO
    isplitl [Hp1 Hrd1]
    · isplitl [Hp1]; · iexact Hp1
      iexact Hrd1
    isplitr; · iempintro
    isplitr; · iempintro
    iempintro
  iapply HQ2

set_option maxHeartbeats 2000000 in
theorem spec42_3 (c : Dev nD) (hT : tz c = 3) (a : CAc F) (hac3 : tz c = 3 → mst C c 3 (mst C c 2 (mst C c 1 (a))) = C.ac c) {Q : _ → sProp 𝕄} :
    iprop(RL C K ∗ TreeSt 1 c a ∗ MgIn (F := F) 1 c ∗ MgIn (F := F) 2 c ∗ MgIn (F := F) 3 c ∗ MgIn (F := F) 4 c ∗ ((TreeSt 4 c (mst C c 4 (mst C c 3 (mst C c 2 (mst C c 1 (a))))) ∗ MgOut C 1 c ∗ MgOut C 2 c ∗ MgOut C 3 c ∗ MgOut C 4 c) -∗ ∀ w, Q w))
      ⊢ wp frame (wpE (defs₀ (F := F)) 𝒱₀ (c : Thread nD τ) none) Set.univ (p42 (F := F) c) Q := by
  rw [p42, k0_part42_eq_skeleton]; unfold k0_part42_skel
  skip
  simp only [↓dif_pos ((condM1 c).2 (by omega)), ↓dif_pos ((condM2 c).2 (by omega)), ↓dif_neg (fun h => absurd ((condM3 c).1 h) (by omega)), ↓dif_neg (fun h => absurd ((condM4 c).1 h) (by omega)), ↓dif_neg (fun h => absurd ((condS1 c).1 h) (by omega)), ↓dif_neg (fun h => absurd ((condS2 c).1 h) (by omega)), ↓dif_pos ((condS3 c).2 hT)]
  rw [MgIn_do (k := 1) (by omega), MgOut_do C (k := 1) (by omega), MgIn_do (k := 2) (by omega), MgOut_do C (k := 2) (by omega), MgOut_skip C (k := 3) (by omega), MgOut_skip C (k := 4) (by omega), TreeSt_here (m := 1) (by omega), TreeSt_sent (m := 4) (by omega), RT_n (tz_ne0 c (by omega))]
  unfold acPts
  have hfin : (mgS 2 (mgS 1 a (rdLand C c 1)) (rdLand C c 2)) = C.ac c := by rw [← hac3 hT]; rw [mst_do C (k := 2) (by omega)]; rw [mst_do C (k := 1) (by omega)]; rw [mst_skip C (k := 3) (by omega)]
  simp only [semSignalWord, semWaitWord, Prog.lift, Prog.bind_op, Prog.bind_ret, Prog.pure_eq_ret, wp_deviceId]
  iintro ⟨⟨#HR, #HL⟩, ⟨Hac, HO, Hd, Ht1, Ht2⟩, ⟨Hc1, Hp1⟩, ⟨Hc2, Hp2⟩, I3, I4, HQ⟩
  rw [wp_bind]
  iapply (spec8 C K c (by omega) a _) $$ [-]
  isplitr
  · isplitr; · iexact HR
    iexact HL
  isplitl [Hac]; · unfold acPts; iexact Hac
  isplitl [HO]; · iexact HO
  isplitl [Hc1]; · iexact Hc1
  isplitl [Hp1]; · iexact Hp1
  unfold acPts
  iintro ⟨Hac, HO, Hp1, Hrd1⟩
  dsimp only
  iapply (ac_upd c acR0) $$ Hac; iintro Hac
  iapply (ac_upd c acR1) $$ Hac; iintro Hac
  iapply (ac_upd c acR2) $$ Hac; iintro Hac
  rw [wp_bind]
  iapply (spec9 C K c (by omega) (mgS 1 a (rdLand C c 1)) _) $$ [-]
  isplitr
  · isplitr; · iexact HR
    iexact HL
  isplitl [Hac]; · unfold acPts; iexact Hac
  isplitl [HO]; · iexact HO
  isplitl [Hc2]; · iexact Hc2
  isplitl [Hp2]; · iexact Hp2
  unfold acPts
  iintro ⟨Hac, HO, Hp2, Hrd2⟩
  dsimp only
  iapply (ac_upd c acR0) $$ Hac; iintro Hac
  iapply (ac_upd c acR1) $$ Hac; iintro Hac
  iapply (ac_upd c acR2) $$ Hac; iintro Hac
  iapply (snd_red3 C K c (tz_ne0 c (by omega)) hT _ (devS3 _ _ hT) rfl rfl) $$ [Hac HO Hd Ht1 Ht2]
  · isplitr; · iexact HR
    isplitl [Hac]; · rw [← hfin]; unfold acPts; iexact Hac
    isplitl [Hd]; · rw [hT]; iexact Hd
    isplitl [HO]; · iexact HO
    isplitl [Ht1]; · iexact Ht1
    iexact Ht2
  iintro ⟨Hc, HO⟩
  rw [wp_ret]; imodintro
  ihave HQ2 := HQ $$ [Hc HO Hp1 Hrd1 Hp2 Hrd2]
  · isplitl [Hc HO]
    · isplitl [Hc]; · iexact Hc
      iexact HO
    isplitl [Hp1 Hrd1]
    · isplitl [Hp1]; · iexact Hp1
      iexact Hrd1
    isplitl [Hp2 Hrd2]
    · isplitl [Hp2]; · iexact Hp2
      iexact Hrd2
    isplitr; · iempintro
    iempintro
  iapply HQ2

set_option maxHeartbeats 2000000 in
theorem spec42_4 (c : Dev nD) (hT : tz c = 4) (a : CAc F) {Q : _ → sProp 𝕄} :
    iprop(RL C K ∗ TreeSt 1 c a ∗ MgIn (F := F) 1 c ∗ MgIn (F := F) 2 c ∗ MgIn (F := F) 3 c ∗ MgIn (F := F) 4 c ∗ ((TreeSt 4 c (mst C c 4 (mst C c 3 (mst C c 2 (mst C c 1 (a))))) ∗ MgOut C 1 c ∗ MgOut C 2 c ∗ MgOut C 3 c ∗ MgOut C 4 c) -∗ ∀ w, Q w))
      ⊢ wp frame (wpE (defs₀ (F := F)) 𝒱₀ (c : Thread nD τ) none) Set.univ (p42 (F := F) c) Q := by
  rw [p42, k0_part42_eq_skeleton]; unfold k0_part42_skel
  have hfin2 : mst C c 4 (mst C c 3 (mst C c 2 (mst C c 1 (a)))) = (mgS 3 (mgS 2 (mgS 1 a (rdLand C c 1)) (rdLand C c 2)) (rdLand C c 3)) := by rw [mst_skip C (k := 4) (by omega)]; rw [mst_do C (k := 3) (by omega)]; rw [mst_do C (k := 2) (by omega)]; rw [mst_do C (k := 1) (by omega)]
  simp only [↓dif_pos ((condM1 c).2 (by omega)), ↓dif_pos ((condM2 c).2 (by omega)), ↓dif_pos ((condM3 c).2 (by omega)), ↓dif_neg (fun h => absurd ((condM4 c).1 h) (by omega)), ↓dif_neg (fun h => absurd ((condS1 c).1 h) (by omega)), ↓dif_neg (fun h => absurd ((condS2 c).1 h) (by omega)), ↓dif_neg (fun h => absurd ((condS3 c).1 h) (by omega))]
  rw [MgIn_do (k := 1) (by omega), MgOut_do C (k := 1) (by omega), MgIn_do (k := 2) (by omega), MgOut_do C (k := 2) (by omega), MgIn_do (k := 3) (by omega), MgOut_do C (k := 3) (by omega), MgOut_skip C (k := 4) (by omega), TreeSt_here (m := 1) (by omega), TreeSt_here (m := 4) (by omega)]
  unfold acPts
  simp only [semSignalWord, semWaitWord, Prog.lift, Prog.bind_op, Prog.bind_ret, Prog.pure_eq_ret, wp_deviceId]
  iintro ⟨⟨#HR, #HL⟩, ⟨Hac, HO, HT⟩, ⟨Hc1, Hp1⟩, ⟨Hc2, Hp2⟩, ⟨Hc3, Hp3⟩, I4, HQ⟩
  rw [wp_bind]
  iapply (spec8 C K c (by omega) a _) $$ [-]
  isplitr
  · isplitr; · iexact HR
    iexact HL
  isplitl [Hac]; · unfold acPts; iexact Hac
  isplitl [HO]; · iexact HO
  isplitl [Hc1]; · iexact Hc1
  isplitl [Hp1]; · iexact Hp1
  unfold acPts
  iintro ⟨Hac, HO, Hp1, Hrd1⟩
  dsimp only
  iapply (ac_upd c acR0) $$ Hac; iintro Hac
  iapply (ac_upd c acR1) $$ Hac; iintro Hac
  iapply (ac_upd c acR2) $$ Hac; iintro Hac
  rw [wp_bind]
  iapply (spec9 C K c (by omega) (mgS 1 a (rdLand C c 1)) _) $$ [-]
  isplitr
  · isplitr; · iexact HR
    iexact HL
  isplitl [Hac]; · unfold acPts; iexact Hac
  isplitl [HO]; · iexact HO
  isplitl [Hc2]; · iexact Hc2
  isplitl [Hp2]; · iexact Hp2
  unfold acPts
  iintro ⟨Hac, HO, Hp2, Hrd2⟩
  dsimp only
  iapply (ac_upd c acR0) $$ Hac; iintro Hac
  iapply (ac_upd c acR1) $$ Hac; iintro Hac
  iapply (ac_upd c acR2) $$ Hac; iintro Hac
  rw [wp_bind]
  iapply (spec10 C K c (by omega) (mgS 2 (mgS 1 a (rdLand C c 1)) (rdLand C c 2)) _) $$ [-]
  isplitr
  · isplitr; · iexact HR
    iexact HL
  isplitl [Hac]; · unfold acPts; iexact Hac
  isplitl [HO]; · iexact HO
  isplitl [Hc3]; · iexact Hc3
  isplitl [Hp3]; · iexact Hp3
  unfold acPts
  iintro ⟨Hac, HO, Hp3, Hrd3⟩
  dsimp only
  iapply (ac_upd c acR0) $$ Hac; iintro Hac
  iapply (ac_upd c acR1) $$ Hac; iintro Hac
  iapply (ac_upd c acR2) $$ Hac; iintro Hac
  rw [wp_ret]; imodintro
  ihave HQ2 := HQ $$ [Hac HO HT Hp1 Hrd1 Hp2 Hrd2 Hp3 Hrd3]
  · isplitl [Hac HO HT]
    · isplitl [Hac]; · rw [hfin2]; iexact Hac
      isplitl [HO]; · iexact HO
      iexact HT
    isplitl [Hp1 Hrd1]
    · isplitl [Hp1]; · iexact Hp1
      iexact Hrd1
    isplitl [Hp2 Hrd2]
    · isplitl [Hp2]; · iexact Hp2
      iexact Hrd2
    isplitl [Hp3 Hrd3]
    · isplitl [Hp3]; · iexact Hp3
      iexact Hrd3
    iempintro
  iapply HQ2

set_option maxHeartbeats 2000000 in
theorem spec42_5 (c : Dev nD) (hT : tz c = 5) (a : CAc F) {Q : _ → sProp 𝕄} :
    iprop(RL C K ∗ TreeSt 1 c a ∗ MgIn (F := F) 1 c ∗ MgIn (F := F) 2 c ∗ MgIn (F := F) 3 c ∗ MgIn (F := F) 4 c ∗ ((TreeSt 4 c (mst C c 4 (mst C c 3 (mst C c 2 (mst C c 1 (a))))) ∗ MgOut C 1 c ∗ MgOut C 2 c ∗ MgOut C 3 c ∗ MgOut C 4 c) -∗ ∀ w, Q w))
      ⊢ wp frame (wpE (defs₀ (F := F)) 𝒱₀ (c : Thread nD τ) none) Set.univ (p42 (F := F) c) Q := by
  rw [p42, k0_part42_eq_skeleton]; unfold k0_part42_skel
  have hfin2 : mst C c 4 (mst C c 3 (mst C c 2 (mst C c 1 (a)))) = (mgS 4 (mgS 3 (mgS 2 (mgS 1 a (rdLand C c 1)) (rdLand C c 2)) (rdLand C c 3)) (rdLand C c 4)) := by rw [mst_do C (k := 4) (by omega)]; rw [mst_do C (k := 3) (by omega)]; rw [mst_do C (k := 2) (by omega)]; rw [mst_do C (k := 1) (by omega)]
  simp only [↓dif_pos ((condM1 c).2 (by omega)), ↓dif_pos ((condM2 c).2 (by omega)), ↓dif_pos ((condM3 c).2 (by omega)), ↓dif_pos ((condM4 c).2 (by omega)), ↓dif_neg (fun h => absurd ((condS1 c).1 h) (by omega)), ↓dif_neg (fun h => absurd ((condS2 c).1 h) (by omega)), ↓dif_neg (fun h => absurd ((condS3 c).1 h) (by omega))]
  rw [MgIn_do (k := 1) (by omega), MgOut_do C (k := 1) (by omega), MgIn_do (k := 2) (by omega), MgOut_do C (k := 2) (by omega), MgIn_do (k := 3) (by omega), MgOut_do C (k := 3) (by omega), MgIn_do (k := 4) (by omega), MgOut_do C (k := 4) (by omega), TreeSt_here (m := 1) (by omega), TreeSt_here (m := 4) (by omega)]
  unfold acPts
  simp only [semSignalWord, semWaitWord, Prog.lift, Prog.bind_op, Prog.bind_ret, Prog.pure_eq_ret, wp_deviceId]
  iintro ⟨⟨#HR, #HL⟩, ⟨Hac, HO, HT⟩, ⟨Hc1, Hp1⟩, ⟨Hc2, Hp2⟩, ⟨Hc3, Hp3⟩, ⟨Hc4, Hp4⟩, HQ⟩
  rw [wp_bind]
  iapply (spec8 C K c (by omega) a _) $$ [-]
  isplitr
  · isplitr; · iexact HR
    iexact HL
  isplitl [Hac]; · unfold acPts; iexact Hac
  isplitl [HO]; · iexact HO
  isplitl [Hc1]; · iexact Hc1
  isplitl [Hp1]; · iexact Hp1
  unfold acPts
  iintro ⟨Hac, HO, Hp1, Hrd1⟩
  dsimp only
  iapply (ac_upd c acR0) $$ Hac; iintro Hac
  iapply (ac_upd c acR1) $$ Hac; iintro Hac
  iapply (ac_upd c acR2) $$ Hac; iintro Hac
  rw [wp_bind]
  iapply (spec9 C K c (by omega) (mgS 1 a (rdLand C c 1)) _) $$ [-]
  isplitr
  · isplitr; · iexact HR
    iexact HL
  isplitl [Hac]; · unfold acPts; iexact Hac
  isplitl [HO]; · iexact HO
  isplitl [Hc2]; · iexact Hc2
  isplitl [Hp2]; · iexact Hp2
  unfold acPts
  iintro ⟨Hac, HO, Hp2, Hrd2⟩
  dsimp only
  iapply (ac_upd c acR0) $$ Hac; iintro Hac
  iapply (ac_upd c acR1) $$ Hac; iintro Hac
  iapply (ac_upd c acR2) $$ Hac; iintro Hac
  rw [wp_bind]
  iapply (spec10 C K c (by omega) (mgS 2 (mgS 1 a (rdLand C c 1)) (rdLand C c 2)) _) $$ [-]
  isplitr
  · isplitr; · iexact HR
    iexact HL
  isplitl [Hac]; · unfold acPts; iexact Hac
  isplitl [HO]; · iexact HO
  isplitl [Hc3]; · iexact Hc3
  isplitl [Hp3]; · iexact Hp3
  unfold acPts
  iintro ⟨Hac, HO, Hp3, Hrd3⟩
  dsimp only
  iapply (ac_upd c acR0) $$ Hac; iintro Hac
  iapply (ac_upd c acR1) $$ Hac; iintro Hac
  iapply (ac_upd c acR2) $$ Hac; iintro Hac
  rw [wp_bind]
  iapply (spec11 C K c (by omega) (mgS 3 (mgS 2 (mgS 1 a (rdLand C c 1)) (rdLand C c 2)) (rdLand C c 3)) _) $$ [-]
  isplitr
  · isplitr; · iexact HR
    iexact HL
  isplitl [Hac]; · unfold acPts; iexact Hac
  isplitl [HO]; · iexact HO
  isplitl [Hc4]; · iexact Hc4
  isplitl [Hp4]; · iexact Hp4
  unfold acPts
  iintro ⟨Hac, HO, Hp4, Hrd4⟩
  dsimp only
  iapply (ac_upd c acR0) $$ Hac; iintro Hac
  iapply (ac_upd c acR1) $$ Hac; iintro Hac
  iapply (ac_upd c acR2) $$ Hac; iintro Hac
  rw [wp_ret]; imodintro
  ihave HQ2 := HQ $$ [Hac HO HT Hp1 Hrd1 Hp2 Hrd2 Hp3 Hrd3 Hp4 Hrd4]
  · isplitl [Hac HO HT]
    · isplitl [Hac]; · rw [hfin2]; iexact Hac
      isplitl [HO]; · iexact HO
      iexact HT
    isplitl [Hp1 Hrd1]
    · isplitl [Hp1]; · iexact Hp1
      iexact Hrd1
    isplitl [Hp2 Hrd2]
    · isplitl [Hp2]; · iexact Hp2
      iexact Hrd2
    isplitl [Hp3 Hrd3]
    · isplitl [Hp3]; · iexact Hp3
      iexact Hrd3
    isplitl [Hp4]; · iexact Hp4
    iexact Hrd4
  iapply HQ2

theorem spec42 (c : Dev nD) (a : CAc F) (hac1 : tz c = 1 → mst C c 1 (a) = C.ac c) (hac2 : tz c = 2 → mst C c 2 (mst C c 1 (a)) = C.ac c) (hac3 : tz c = 3 → mst C c 3 (mst C c 2 (mst C c 1 (a))) = C.ac c) {Q : _ → sProp 𝕄} :
    iprop(RL C K ∗ TreeSt 1 c a ∗ MgIn (F := F) 1 c ∗ MgIn (F := F) 2 c ∗ MgIn (F := F) 3 c ∗ MgIn (F := F) 4 c ∗ ((TreeSt 4 c (mst C c 4 (mst C c 3 (mst C c 2 (mst C c 1 (a))))) ∗ MgOut C 1 c ∗ MgOut C 2 c ∗ MgOut C 3 c ∗ MgOut C 4 c) -∗ ∀ w, Q w))
      ⊢ wp frame (wpE (defs₀ (F := F)) 𝒱₀ (c : Thread nD τ) none) Set.univ (k0_part42 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 c (wv2 c)) Q := by
  rcases tz_cases c with hT | hT | hT | hT | hT | hT
  · exact spec42_0 C K c hT a
  · exact spec42_1 C K c hT a hac1
  · exact spec42_2 C K c hT a hac2
  · exact spec42_3 C K c hT a hac3
  · exact spec42_4 C K c hT a
  · exact spec42_5 C K c hT a

end Cert.KernelIdealProof
-- ==== Proof.KernelIdeal.Glob.lean ====
/- Device 0's global rows: cut, and sent to every other device. -/
module

public import proofs.«01_k».proof.Proof.KernelIdeal.Sends

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (C : Conts F) (K : Dev nD × Fin 45 → ℕ)

/-! ## Conditions -/

theorem cond1_iff : ∀ c : Dev nD, Iff (k0_cond1 c = 1#1) (c = 0) := by decide +kernel
theorem condN_iff : ∀ c : Dev nD, Iff (Scalar.cmpi .ne (Scalar.extui (Scalar.cmpi .ne (wv2 c) 0#32) : BitVec 32) 0#32 = 1#1) (c ≠ 0) := by decide +kernel

/-- Device 0's global sends before their shares are cut. -/
def SndG0 : sProp 𝕄 := bigSep (Finset.Ico 34 65) fun i =>
  iprop(tok (F := F) (0, gk i) 0 ∗ tok (sh 0 (i - 33), 36) 0 ∗ ∃ f, glPts (F := F) (sh 0 (i - 33)) fullShare f)

theorem gl_toks (c : Dev nD) (f : CGl F) : glPts c fullShare f ⊣⊢ iprop(glPts c (Transfers.shareDrop fullShare 31) f
    ∗ bigSep (Finset.Ico 34 65) fun i => glPts c (Transfers.shareTokN fullShare (i - 34)) f) := by
  have h : bigSep (Finset.Ico 34 65) (fun i => glPts (F := F) c (Transfers.shareTokN fullShare (i - 34)) f) = bigSep (Finset.range 31) (fun i => glPts (F := F) c (Transfers.shareTokN fullShare i) f) := by
    rw [Finset.range_eq_Ico, show Finset.Ico 34 65 = (Finset.Ico 0 31).map (addRightEmbedding 34) from (Finset.map_add_right_Ico 0 31 34).symm, bigSep_map]
    refine bigSep_congr fun i _ => ?_
    rw [addRightEmbedding_apply, Nat.add_sub_cancel]
  rw [h]
  unfold glPts
  exact Transfers.pointsTo_toks_range fullShare 31

theorem mkSndG : iprop(glPts 0 fullShare C.gl ∗ SndG0 (F := F)) ⊢ iprop(glPts 0 (Transfers.shareDrop fullShare 31) C.gl ∗ SndG C 34) := by
  refine (sep_mono_left (gl_toks 0 C.gl).1).trans ?_
  refine sep_assoc.1.trans (sep_mono_right ?_)
  unfold SndG0 SndG
  rw [← bigSep_sep']
  refine bigSep_mono fun i _ => ?_
  show iprop(glPts (F := F) 0 (Transfers.shareTokN fullShare (i - 34)) C.gl ∗ tok (F := F) (0, gk i) 0 ∗ tok (sh 0 (i - 33), 36) 0 ∗ ∃ f, glPts (F := F) (sh 0 (i - 33)) fullShare f)
    ⊢ iprop(tok (F := F) (0, gk i) 0 ∗ tok (sh 0 (i - 33), 36) 0 ∗ glPts (F := F) 0 (Transfers.shareTokN fullShare (i - 34)) C.gl ∗ ∃ f, glPts (F := F) (sh 0 (i - 33)) fullShare f)
  iintro ⟨H1, H2, H3, H4⟩
  isplitl [H2]; · iexact H2
  isplitl [H3]; · iexact H3
  isplitl [H1]; · iexact H1
  iexact H4

theorem OWs_gl (c : Dev nD) (hc : c ≠ 0) : OWs (F := F) c 34 ⊢ OWs c 65 := by
  have h : ∀ n, n ≤ 31 → OS c (65 - n) = OS c 65 := by
    intro n hn
    induction n with
    | zero => rfl
    | succ n ih => rw [OS_skip c (dst_gl hc (by omega) (by omega)), show 65 - (n + 1) + 1 = 65 - n by omega]; exact ih (by omega)
  unfold OWs; rw [show OS c 34 = OS c 65 from h 31 (le_refl _)]
theorem OWs_root : OWs (F := F) 0 65 ⊢ OWs 0 66 := by
  unfold OWs; rw [show OS 0 65 = OS 0 66 from OS_skip 0 rfl]

/-! ## Device 0's global rows -/

theorem spec1 (E : Env F) (hE : E.c = 0) (q' : PosShare TreeShare) (f : CGl F) (hgl : gl1 E f = C.gl) (h1 : k0_cond1 E.c = 1#1) {Q : _ → sProp 𝕄} :
    iprop(records C K ∗ kvPts E.c q' E.kv ∗ glPts E.c fullShare f ∗ SndG0 (F := F) ∗ OWs E.c 34
        ∗ ((kvPts E.c q' E.kv ∗ glPts E.c (Transfers.shareDrop fullShare 31) C.gl ∗ OWs E.c 35 ∗ SndG C 35 ∗ FlyG (F := F) 35) -∗ Q ⟨⟩))
      ⊢ wp frame (wpE (defs₀ (F := F)) 𝒱₀ (E.c : Thread nD τ) none) Set.univ (k0_part1 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 E.c (v145 E) h1) Q := by
  have hmk : iprop(glPts E.c fullShare (gl1 E f) ∗ SndG0 (F := F)) ⊢ iprop(glPts E.c (Transfers.shareDrop fullShare 31) C.gl ∗ SndG C 34) := by rw [hgl, hE]; exact mkSndG C
  have hf0 : (iprop(emp) : sProp 𝕄) ⊢ FlyG (F := F) 34 := by unfold FlyG; rw [Finset.Ico_self, bigSep_empty]; exact Entails.of_eq rfl
  rw [k0_part1_eq_skeleton]; unfold k0_part1_skel
  simp only [semSignalWord, semWaitWord, Prog.lift, Prog.bind_op, Prog.bind_ret, Prog.pure_eq_ret, wp_deviceId]
  unfold gl1 at hmk
  unfold kvPts
  unfold glPts at hmk ⊢
  iintro ⟨#HR, Hkv, Hgl, HS0, HO, HQ⟩
  iapply (wp_load 𝒱₀ (E.c : Thread nD τ) none Set.univ (m := kvM) (Finset.subset_univ _)) $$ Hkv; iintro Hkv
  iapply (wp_load 𝒱₀ (E.c : Thread nD τ) none Set.univ (m := glM) (Finset.subset_univ _)) $$ Hgl; iintro Hgl
  iapply (wp_store 𝒱₀ (E.c : Thread nD τ) none Set.univ (m := glM) (r := (Rect.unit (s := S3x2x32x256) ![0, 0, 0, 0] S1x2x32x256.size inb_S3x2x32x256_S1x2x32x256_0_0_0_0)) (Mk := Finset.univ) (Finset.subset_univ _)) $$ Hgl; iintro Hgl
  iapply (wp_load 𝒱₀ (E.c : Thread nD τ) none Set.univ (m := kvM) (Finset.subset_univ _)) $$ Hkv; iintro Hkv
  iapply (wp_load 𝒱₀ (E.c : Thread nD τ) none Set.univ (m := glM) (Finset.subset_univ _)) $$ Hgl; iintro Hgl
  iapply (wp_store 𝒱₀ (E.c : Thread nD τ) none Set.univ (m := glM) (r := (Rect.unit (s := S3x2x32x256) ![1, 0, 0, 0] S1x2x32x256.size inb_S3x2x32x256_S1x2x32x256_1_0_0_0)) (Mk := Finset.univ) (Finset.subset_univ _)) $$ Hgl; iintro Hgl
  iapply (wp_load 𝒱₀ (E.c : Thread nD τ) none Set.univ (m := glM) (Finset.subset_univ _)) $$ Hgl; iintro Hgl
  iapply (wp_store 𝒱₀ (E.c : Thread nD τ) none Set.univ (m := glM) (r := (Rect.unit (s := S3x2x32x256) ![2, 0, 0, 0] S1x2x32x256.size inb_S3x2x32x256_S1x2x32x256_2_0_0_0)) (Mk := Finset.univ) (Finset.subset_univ _)) $$ Hgl; iintro Hgl
  ihave HGS := hmk $$ [Hgl HS0]
  · isplitl [Hgl]; · iexact Hgl
    iexact HS0
  icases HGS with ⟨Hgl, HS⟩
  iapply (snd_G C K E.c hE 34 (by omega) (by omega) _ (devN34 _) rfl rfl) $$ [HO HS]
  · isplitr; · iexact HR
    isplitl [HO]; · iexact HO
    isplitl [HS]; · iexact HS
    iapply hf0; iempintro
  iintro ⟨HO, HS, HF⟩
  rw [wp_ret]; imodintro
  iapply HQ
  isplitl [Hkv]; · iexact Hkv
  isplitl [Hgl]; · iexact Hgl
  isplitl [HO]; · iexact HO
  isplitl [HS]; · iexact HS
  iexact HF

theorem spec2 (E : Env F) (hE : E.c = 0) (h1 : k0_cond1 E.c = 1#1) {Q : _ → sProp 𝕄} :
    iprop(records C K ∗ OWs E.c 35 ∗ SndG C 35 ∗ FlyG (F := F) 35
        ∗ ((OWs E.c 40 ∗ SndG C 40 ∗ FlyG (F := F) 40) -∗ Q ⟨⟩))
      ⊢ wp frame (wpE (defs₀ (F := F)) 𝒱₀ (E.c : Thread nD τ) none) Set.univ (k0_part2 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 E.c h1) Q := by
  rw [k0_part2_eq_skeleton]; unfold k0_part2_skel
  simp only [semSignalWord, semWaitWord, Prog.lift, Prog.bind_op, Prog.bind_ret, Prog.pure_eq_ret, wp_deviceId]
  iintro ⟨#HR, HO, HS, HF, HQ⟩
  iapply (snd_G C K E.c hE 35 (by omega) (by omega) _ (devN35 _) rfl rfl) $$ [HO HS HF]
  · isplitr; · iexact HR
    isplitl [HO]; · iexact HO
    isplitl [HS]; · iexact HS
    iexact HF
  iintro ⟨HO, HS, HF⟩
  iapply (snd_G C K E.c hE 36 (by omega) (by omega) _ (devN36 _) rfl rfl) $$ [HO HS HF]
  · isplitr; · iexact HR
    isplitl [HO]; · iexact HO
    isplitl [HS]; · iexact HS
    iexact HF
  iintro ⟨HO, HS, HF⟩
  iapply (snd_G C K E.c hE 37 (by omega) (by omega) _ (devN37 _) rfl rfl) $$ [HO HS HF]
  · isplitr; · iexact HR
    isplitl [HO]; · iexact HO
    isplitl [HS]; · iexact HS
    iexact HF
  iintro ⟨HO, HS, HF⟩
  iapply (snd_G C K E.c hE 38 (by omega) (by omega) _ (devN38 _) rfl rfl) $$ [HO HS HF]
  · isplitr; · iexact HR
    isplitl [HO]; · iexact HO
    isplitl [HS]; · iexact HS
    iexact HF
  iintro ⟨HO, HS, HF⟩
  iapply (snd_G C K E.c hE 39 (by omega) (by omega) _ (devN39 _) rfl rfl) $$ [HO HS HF]
  · isplitr; · iexact HR
    isplitl [HO]; · iexact HO
    isplitl [HS]; · iexact HS
    iexact HF
  iintro ⟨HO, HS, HF⟩
  rw [wp_ret]; imodintro
  iapply HQ
  isplitl [HO]; · iexact HO
  isplitl [HS]; · iexact HS
  iexact HF

theorem spec3 (E : Env F) (hE : E.c = 0) (h1 : k0_cond1 E.c = 1#1) {Q : _ → sProp 𝕄} :
    iprop(records C K ∗ OWs E.c 40 ∗ SndG C 40 ∗ FlyG (F := F) 40
        ∗ ((OWs E.c 45 ∗ SndG C 45 ∗ FlyG (F := F) 45) -∗ Q ⟨⟩))
      ⊢ wp frame (wpE (defs₀ (F := F)) 𝒱₀ (E.c : Thread nD τ) none) Set.univ (k0_part3 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 E.c h1) Q := by
  rw [k0_part3_eq_skeleton]; unfold k0_part3_skel
  simp only [semSignalWord, semWaitWord, Prog.lift, Prog.bind_op, Prog.bind_ret, Prog.pure_eq_ret, wp_deviceId]
  iintro ⟨#HR, HO, HS, HF, HQ⟩
  iapply (snd_G C K E.c hE 40 (by omega) (by omega) _ (devN40 _) rfl rfl) $$ [HO HS HF]
  · isplitr; · iexact HR
    isplitl [HO]; · iexact HO
    isplitl [HS]; · iexact HS
    iexact HF
  iintro ⟨HO, HS, HF⟩
  iapply (snd_G C K E.c hE 41 (by omega) (by omega) _ (devN41 _) rfl rfl) $$ [HO HS HF]
  · isplitr; · iexact HR
    isplitl [HO]; · iexact HO
    isplitl [HS]; · iexact HS
    iexact HF
  iintro ⟨HO, HS, HF⟩
  iapply (snd_G C K E.c hE 42 (by omega) (by omega) _ (devN42 _) rfl rfl) $$ [HO HS HF]
  · isplitr; · iexact HR
    isplitl [HO]; · iexact HO
    isplitl [HS]; · iexact HS
    iexact HF
  iintro ⟨HO, HS, HF⟩
  iapply (snd_G C K E.c hE 43 (by omega) (by omega) _ (devN43 _) rfl rfl) $$ [HO HS HF]
  · isplitr; · iexact HR
    isplitl [HO]; · iexact HO
    isplitl [HS]; · iexact HS
    iexact HF
  iintro ⟨HO, HS, HF⟩
  iapply (snd_G C K E.c hE 44 (by omega) (by omega) _ (devN44 _) rfl rfl) $$ [HO HS HF]
  · isplitr; · iexact HR
    isplitl [HO]; · iexact HO
    isplitl [HS]; · iexact HS
    iexact HF
  iintro ⟨HO, HS, HF⟩
  rw [wp_ret]; imodintro
  iapply HQ
  isplitl [HO]; · iexact HO
  isplitl [HS]; · iexact HS
  iexact HF

theorem spec4 (E : Env F) (hE : E.c = 0) (h1 : k0_cond1 E.c = 1#1) {Q : _ → sProp 𝕄} :
    iprop(records C K ∗ OWs E.c 45 ∗ SndG C 45 ∗ FlyG (F := F) 45
        ∗ ((OWs E.c 50 ∗ SndG C 50 ∗ FlyG (F := F) 50) -∗ Q ⟨⟩))
      ⊢ wp frame (wpE (defs₀ (F := F)) 𝒱₀ (E.c : Thread nD τ) none) Set.univ (k0_part4 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 E.c h1) Q := by
  rw [k0_part4_eq_skeleton]; unfold k0_part4_skel
  simp only [semSignalWord, semWaitWord, Prog.lift, Prog.bind_op, Prog.bind_ret, Prog.pure_eq_ret, wp_deviceId]
  iintro ⟨#HR, HO, HS, HF, HQ⟩
  iapply (snd_G C K E.c hE 45 (by omega) (by omega) _ (devN45 _) rfl rfl) $$ [HO HS HF]
  · isplitr; · iexact HR
    isplitl [HO]; · iexact HO
    isplitl [HS]; · iexact HS
    iexact HF
  iintro ⟨HO, HS, HF⟩
  iapply (snd_G C K E.c hE 46 (by omega) (by omega) _ (devN46 _) rfl rfl) $$ [HO HS HF]
  · isplitr; · iexact HR
    isplitl [HO]; · iexact HO
    isplitl [HS]; · iexact HS
    iexact HF
  iintro ⟨HO, HS, HF⟩
  iapply (snd_G C K E.c hE 47 (by omega) (by omega) _ (devN47 _) rfl rfl) $$ [HO HS HF]
  · isplitr; · iexact HR
    isplitl [HO]; · iexact HO
    isplitl [HS]; · iexact HS
    iexact HF
  iintro ⟨HO, HS, HF⟩
  iapply (snd_G C K E.c hE 48 (by omega) (by omega) _ (devN48 _) rfl rfl) $$ [HO HS HF]
  · isplitr; · iexact HR
    isplitl [HO]; · iexact HO
    isplitl [HS]; · iexact HS
    iexact HF
  iintro ⟨HO, HS, HF⟩
  iapply (snd_G C K E.c hE 49 (by omega) (by omega) _ (devN49 _) rfl rfl) $$ [HO HS HF]
  · isplitr; · iexact HR
    isplitl [HO]; · iexact HO
    isplitl [HS]; · iexact HS
    iexact HF
  iintro ⟨HO, HS, HF⟩
  rw [wp_ret]; imodintro
  iapply HQ
  isplitl [HO]; · iexact HO
  isplitl [HS]; · iexact HS
  iexact HF

theorem spec5 (E : Env F) (hE : E.c = 0) (h1 : k0_cond1 E.c = 1#1) {Q : _ → sProp 𝕄} :
    iprop(records C K ∗ OWs E.c 50 ∗ SndG C 50 ∗ FlyG (F := F) 50
        ∗ ((OWs E.c 55 ∗ SndG C 55 ∗ FlyG (F := F) 55) -∗ Q ⟨⟩))
      ⊢ wp frame (wpE (defs₀ (F := F)) 𝒱₀ (E.c : Thread nD τ) none) Set.univ (k0_part5 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 E.c h1) Q := by
  rw [k0_part5_eq_skeleton]; unfold k0_part5_skel
  simp only [semSignalWord, semWaitWord, Prog.lift, Prog.bind_op, Prog.bind_ret, Prog.pure_eq_ret, wp_deviceId]
  iintro ⟨#HR, HO, HS, HF, HQ⟩
  iapply (snd_G C K E.c hE 50 (by omega) (by omega) _ (devN50 _) rfl rfl) $$ [HO HS HF]
  · isplitr; · iexact HR
    isplitl [HO]; · iexact HO
    isplitl [HS]; · iexact HS
    iexact HF
  iintro ⟨HO, HS, HF⟩
  iapply (snd_G C K E.c hE 51 (by omega) (by omega) _ (devN51 _) rfl rfl) $$ [HO HS HF]
  · isplitr; · iexact HR
    isplitl [HO]; · iexact HO
    isplitl [HS]; · iexact HS
    iexact HF
  iintro ⟨HO, HS, HF⟩
  iapply (snd_G C K E.c hE 52 (by omega) (by omega) _ (devN52 _) rfl rfl) $$ [HO HS HF]
  · isplitr; · iexact HR
    isplitl [HO]; · iexact HO
    isplitl [HS]; · iexact HS
    iexact HF
  iintro ⟨HO, HS, HF⟩
  iapply (snd_G C K E.c hE 53 (by omega) (by omega) _ (devN53 _) rfl rfl) $$ [HO HS HF]
  · isplitr; · iexact HR
    isplitl [HO]; · iexact HO
    isplitl [HS]; · iexact HS
    iexact HF
  iintro ⟨HO, HS, HF⟩
  iapply (snd_G C K E.c hE 54 (by omega) (by omega) _ (devN54 _) rfl rfl) $$ [HO HS HF]
  · isplitr; · iexact HR
    isplitl [HO]; · iexact HO
    isplitl [HS]; · iexact HS
    iexact HF
  iintro ⟨HO, HS, HF⟩
  rw [wp_ret]; imodintro
  iapply HQ
  isplitl [HO]; · iexact HO
  isplitl [HS]; · iexact HS
  iexact HF

theorem spec6 (E : Env F) (hE : E.c = 0) (h1 : k0_cond1 E.c = 1#1) {Q : _ → sProp 𝕄} :
    iprop(records C K ∗ OWs E.c 55 ∗ SndG C 55 ∗ FlyG (F := F) 55
        ∗ ((OWs E.c 60 ∗ SndG C 60 ∗ FlyG (F := F) 60) -∗ Q ⟨⟩))
      ⊢ wp frame (wpE (defs₀ (F := F)) 𝒱₀ (E.c : Thread nD τ) none) Set.univ (k0_part6 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 E.c h1) Q := by
  rw [k0_part6_eq_skeleton]; unfold k0_part6_skel
  simp only [semSignalWord, semWaitWord, Prog.lift, Prog.bind_op, Prog.bind_ret, Prog.pure_eq_ret, wp_deviceId]
  iintro ⟨#HR, HO, HS, HF, HQ⟩
  iapply (snd_G C K E.c hE 55 (by omega) (by omega) _ (devN55 _) rfl rfl) $$ [HO HS HF]
  · isplitr; · iexact HR
    isplitl [HO]; · iexact HO
    isplitl [HS]; · iexact HS
    iexact HF
  iintro ⟨HO, HS, HF⟩
  iapply (snd_G C K E.c hE 56 (by omega) (by omega) _ (devN56 _) rfl rfl) $$ [HO HS HF]
  · isplitr; · iexact HR
    isplitl [HO]; · iexact HO
    isplitl [HS]; · iexact HS
    iexact HF
  iintro ⟨HO, HS, HF⟩
  iapply (snd_G C K E.c hE 57 (by omega) (by omega) _ (devN57 _) rfl rfl) $$ [HO HS HF]
  · isplitr; · iexact HR
    isplitl [HO]; · iexact HO
    isplitl [HS]; · iexact HS
    iexact HF
  iintro ⟨HO, HS, HF⟩
  iapply (snd_G C K E.c hE 58 (by omega) (by omega) _ (devN58 _) rfl rfl) $$ [HO HS HF]
  · isplitr; · iexact HR
    isplitl [HO]; · iexact HO
    isplitl [HS]; · iexact HS
    iexact HF
  iintro ⟨HO, HS, HF⟩
  iapply (snd_G C K E.c hE 59 (by omega) (by omega) _ (devN59 _) rfl rfl) $$ [HO HS HF]
  · isplitr; · iexact HR
    isplitl [HO]; · iexact HO
    isplitl [HS]; · iexact HS
    iexact HF
  iintro ⟨HO, HS, HF⟩
  rw [wp_ret]; imodintro
  iapply HQ
  isplitl [HO]; · iexact HO
  isplitl [HS]; · iexact HS
  iexact HF

theorem spec24 (E : Env F) (f : CKv F) (hkv : kv24 E f = C.kv E.c) {Q : _ → sProp 𝕄} :
    iprop(records C K ∗ x2Pts E ∗ x3Pts E ∗ kvPts E.c fullShare f ∗ (∃ f, rcPts (F := F) (sh E.c 1) 0 f) ∗ OWs E.c 32 ∗ tok (E.c, 0) E.c ∗ tok (sh E.c 1, 2) E.c
        ∗ ((x2Pts E ∗ x3Pts E ∗ kvPts E.c q2 (C.kv E.c) ∗ kvPts E.c q3 (C.kv E.c) ∗ crd (E.c, 0) Nkv ∗ OWs E.c 33) -∗ ∀ w, Q w))
      ⊢ wp frame (wpE (defs₀ (F := F)) 𝒱₀ (E.c : Thread nD τ) none) Set.univ (k0_part24 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 E.c (wv5 E.c) (wv7 E.c) (v211 E)) Q := by
  have hsp : kvPts E.c fullShare (kv24 E f) ⊢ iprop(kvPts E.c q1 (C.kv E.c) ∗ kvPts E.c q2 (C.kv E.c) ∗ kvPts E.c q3 (C.kv E.c)) := by
    rw [hkv]
    unfold kvPts
    refine (BIBase.Entails.trans (pointsTo_share (PosShare.mem_left_op_right _)).1 (sep_mono_right (pointsTo_share (PosShare.mem_left_op_right _)).1))
  rw [k0_part24_eq_skeleton]; unfold k0_part24_skel
  simp only [semSignalWord, semWaitWord, Prog.lift, Prog.bind_op, Prog.bind_ret, Prog.pure_eq_ret, wp_deviceId]
  unfold kv24 at hsp
  simp only [v216, v221] at hsp
  generalize hP1 : kvPts E.c q1 (C.kv E.c) = P1 at hsp ⊢
  generalize hP2 : kvPts E.c q2 (C.kv E.c) = P2 at hsp ⊢
  generalize hP3 : kvPts E.c q3 (C.kv E.c) = P3 at hsp ⊢
  unfold x2Pts x3Pts kvPts
  unfold kvPts at hsp
  iintro ⟨#HR, Hx2, Hx3, Hkv, Hd, HO, Ht1, Ht2, HQ⟩
  iapply (wp_load 𝒱₀ (E.c : Thread nD τ) none Set.univ (m := kvM) (Finset.subset_univ _)) $$ Hkv; iintro Hkv
  iapply (wp_store 𝒱₀ (E.c : Thread nD τ) none Set.univ (m := kvM) (r := (Rect.unit (s := S2x2x128x256) ![1, 1, 0, 128] S1x1x128x64.size inb_S2x2x128x256_S1x1x128x64_1_1_0_128)) (Mk := Finset.univ) (Finset.subset_univ _)) $$ Hkv; iintro Hkv
  iapply (wp_load 𝒱₀ (E.c : Thread nD τ) none Set.univ (m := x2M) (Finset.subset_univ _)) $$ Hx2; iintro Hx2
  iapply (wp_load 𝒱₀ (E.c : Thread nD τ) none Set.univ (m := kvM) (Finset.subset_univ _)) $$ Hkv; iintro Hkv
  iapply (wp_store 𝒱₀ (E.c : Thread nD τ) none Set.univ (m := kvM) (r := (Rect.unit (s := S2x2x128x256) ![0, 1, 0, 192] S1x1x128x64.size inb_S2x2x128x256_S1x1x128x64_0_1_0_192)) (Mk := Finset.univ) (Finset.subset_univ _)) $$ Hkv; iintro Hkv
  iapply (wp_load 𝒱₀ (E.c : Thread nD τ) none Set.univ (m := x3M) (Finset.subset_univ _)) $$ Hx3; iintro Hx3
  iapply (wp_load 𝒱₀ (E.c : Thread nD τ) none Set.univ (m := kvM) (Finset.subset_univ _)) $$ Hkv; iintro Hkv
  iapply (wp_store 𝒱₀ (E.c : Thread nD τ) none Set.univ (m := kvM) (r := (Rect.unit (s := S2x2x128x256) ![1, 1, 0, 192] S1x1x128x64.size inb_S2x2x128x256_S1x1x128x64_1_1_0_192)) (Mk := Finset.univ) (Finset.subset_univ _)) $$ Hkv; iintro Hkv
  ihave Hsp := hsp $$ Hkv
  icases Hsp with ⟨H1, H2, H3⟩
  iapply (snd_right C K E.c _ (devN32 E.c _) rfl rfl) $$ [H1 Hd HO Ht1 Ht2]
  · isplitr; · iexact HR
    isplitl [H1]; · rw [hP1]; iexact H1
    isplitl [Hd]; · iexact Hd
    isplitl [HO]; · iexact HO
    isplitl [Ht1]; · iexact Ht1
    iexact Ht2
  iintro ⟨Hc, HO⟩
  rw [wp_ret]; imodintro
  ihave HQ2 := HQ $$ [Hx2 Hx3 H2 H3 Hc HO]
  · isplitl [Hx2]; · iexact Hx2
    isplitl [Hx3]; · iexact Hx3
    isplitl [H2]; · iexact H2
    isplitl [H3]; · iexact H3
    isplitl [Hc]; · iexact Hc
    iexact HO
  iapply HQ2

/-- What the global exchange needs: on device 0 the sends, elsewhere the wait. -/
def GPre (c : Dev nD) : sProp 𝕄 := if c = 0 then iprop(SndG0 (F := F) ∗ ∃ f, glPts (F := F) c fullShare f) else iprop(crd (c, 36) Ngl ∗ pos (c, 36) 0)
/-- What it leaves. -/
def FG (c : Dev nD) : sProp 𝕄 := if c = 0 then FlyG 65 else pos (c, 36) 1
/-- The share of the global rows a device keeps. -/
def gq (c : Dev nD) : PosShare TreeShare := if c = 0 then Transfers.shareDrop fullShare 31 else fullShare
theorem FG_0 (c : Dev nD) (h : c = 0) : FlyG (F := F) 65 ⊢ FG c := by unfold FG; rw [if_pos h]
theorem FG_n (c : Dev nD) (h : c ≠ 0) : pos (F := F) (c, 36) 1 ⊢ FG c := by unfold FG; rw [if_neg h]
theorem GPre_0 (c : Dev nD) (h : c = 0) : GPre c ⊢ iprop(SndG0 (F := F) ∗ ∃ f, glPts (F := F) c fullShare f) := by unfold GPre; rw [if_pos h]
theorem GPre_n (c : Dev nD) (h : c ≠ 0) : GPre c ⊢ iprop(crd (F := F) (c, 36) Ngl ∗ pos (c, 36) 0) := by unfold GPre; rw [if_neg h]
theorem gq_0 (c : Dev nD) (h : c = 0) (f : CGl F) : glPts c (Transfers.shareDrop fullShare 31) f ⊢ glPts c (gq c) f := by unfold gq; rw [if_pos h]
theorem gq_n (c : Dev nD) (h : c ≠ 0) (f : CGl F) : glPts c fullShare f ⊢ glPts c (gq c) f := by unfold gq; rw [if_neg h]
theorem payers_36 (c : Dev nD) (h : c ≠ 0) : payers c 36 = {0} := by
  have : payers c 36 = (if c = 0 then ∅ else {0}) := rfl
  rw [this, if_neg h]

theorem spec25 (E : Env F) (hkv : E.kv = C.kv E.c) (hgl : E.gl = C.gl) (hg : E.c = 0 → ∀ f, gl1 E f = C.gl) (w : BitVec 32) {Q : _ → sProp 𝕄} :
    iprop(records C K ∗ levAts L lv ∗ kvPts E.c q2 (C.kv E.c) ∗ kvPts E.c q3 (C.kv E.c) ∗ (∃ f, rcPts (F := F) (sh E.c 31) 1 f) ∗ OWs E.c 33 ∗ tok (E.c, 1) E.c ∗ tok (sh E.c 31, 3) E.c
        ∗ GPre E.c
        ∗ ((kvPts E.c q3 E.kv ∗ glPts E.c (gq E.c) E.gl ∗ crd (E.c, 1) Nkv ∗ OWs E.c 65 ∗ FG E.c) -∗ Q ⟨v259 E, v264 E, v267 E⟩))
      ⊢ wp frame (wpE (defs₀ (F := F)) 𝒱₀ (E.c : Thread nD τ) none) Set.univ (k0_part25 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 E.c (wv2 E.c) (v145 E) w) Q := by
  rw [k0_part25_eq_skeleton]; unfold k0_part25_skel
  simp only [condN_iff]
  iintro ⟨#HR, #HL, H2, Hkv, Hd, HO, Ht1, Ht2, HG, HQ⟩
  simp only [semSignalWord, semWaitWord, Prog.lift, Prog.bind_op, Prog.bind_ret, Prog.pure_eq_ret, wp_deviceId]
  iapply (snd_left C K E.c _ (devN33 E.c _) rfl rfl) $$ [H2 Hd HO Ht1 Ht2]
  · isplitr; · iexact HR
    isplitl [H2]; · iexact H2
    isplitl [Hd]; · iexact Hd
    isplitl [HO]; · iexact HO
    isplitl [Ht1]; · iexact Ht1
    iexact Ht2
  iintro ⟨Hc, HO⟩
  by_cases hE : E.c = 0
  · have h1 : k0_cond1 E.c = 1#1 := (cond1_iff _).2 hE
    rw [dif_pos h1, dif_neg (not_not.2 hE)]
    simp only [semSignalWord, semWaitWord, Prog.lift, Prog.bind_op, Prog.bind_ret, Prog.pure_eq_ret, wp_deviceId]
    ihave HG := (GPre_0 E.c hE) $$ HG
    icases HG with ⟨HS, ⟨%f0, Hgl⟩⟩
    rw [← hkv]
    rw [wp_bind]
    iapply (spec1 C K E hE q3 f0 (hg hE f0) h1) $$ [-]
    isplitr; · iexact HR
    isplitl [Hkv]; · iexact Hkv
    isplitl [Hgl]; · iexact Hgl
    isplitl [HS]; · iexact HS
    isplitl [HO]; · iexact HO
    iintro ⟨Hkv, Hgl, HO, HS, HF⟩
    rw [wp_bind]
    iapply (spec2 C K E hE h1) $$ [-]
    isplitr; · iexact HR
    isplitl [HO]; · iexact HO
    isplitl [HS]; · iexact HS
    isplitl [HF]; · iexact HF
    iintro ⟨HO, HS, HF⟩
    rw [wp_bind]
    iapply (spec3 C K E hE h1) $$ [-]
    isplitr; · iexact HR
    isplitl [HO]; · iexact HO
    isplitl [HS]; · iexact HS
    isplitl [HF]; · iexact HF
    iintro ⟨HO, HS, HF⟩
    rw [wp_bind]
    iapply (spec4 C K E hE h1) $$ [-]
    isplitr; · iexact HR
    isplitl [HO]; · iexact HO
    isplitl [HS]; · iexact HS
    isplitl [HF]; · iexact HF
    iintro ⟨HO, HS, HF⟩
    rw [wp_bind]
    iapply (spec5 C K E hE h1) $$ [-]
    isplitr; · iexact HR
    isplitl [HO]; · iexact HO
    isplitl [HS]; · iexact HS
    isplitl [HF]; · iexact HF
    iintro ⟨HO, HS, HF⟩
    rw [wp_bind]
    iapply (spec6 C K E hE h1) $$ [-]
    isplitr; · iexact HR
    isplitl [HO]; · iexact HO
    isplitl [HS]; · iexact HS
    isplitl [HF]; · iexact HF
    iintro ⟨HO, HS, HF⟩

    iapply (snd_G C K E.c hE 60 (by omega) (by omega) _ (devN60 _) rfl rfl) $$ [HO HS HF]
    · isplitr; · iexact HR
      isplitl [HO]; · iexact HO
      isplitl [HS]; · iexact HS
      iexact HF
    iintro ⟨HO, HS, HF⟩
    iapply (snd_G C K E.c hE 61 (by omega) (by omega) _ (devN61 _) rfl rfl) $$ [HO HS HF]
    · isplitr; · iexact HR
      isplitl [HO]; · iexact HO
      isplitl [HS]; · iexact HS
      iexact HF
    iintro ⟨HO, HS, HF⟩
    iapply (snd_G C K E.c hE 62 (by omega) (by omega) _ (devN62 _) rfl rfl) $$ [HO HS HF]
    · isplitr; · iexact HR
      isplitl [HO]; · iexact HO
      isplitl [HS]; · iexact HS
      iexact HF
    iintro ⟨HO, HS, HF⟩
    iapply (snd_G C K E.c hE 63 (by omega) (by omega) _ (devN63 _) rfl rfl) $$ [HO HS HF]
    · isplitr; · iexact HR
      isplitl [HO]; · iexact HO
      isplitl [HS]; · iexact HS
      iexact HF
    iintro ⟨HO, HS, HF⟩
    iapply (snd_G C K E.c hE 64 (by omega) (by omega) _ (devN64 _) rfl rfl) $$ [HO HS HF]
    · isplitr; · iexact HR
      isplitl [HO]; · iexact HO
      isplitl [HS]; · iexact HS
      iexact HF
    iintro ⟨HO, HS, HF⟩
    ihave Hgl := (gq_0 E.c hE C.gl) $$ Hgl
    rw [← hgl]
    simp only [v259, v264, v267, v248, v252, v256]
    unfold kvPts glPts
    iapply (wp_load 𝒱₀ (E.c : Thread nD τ) none Set.univ (m := glM) (Finset.subset_univ _)) $$ Hgl; iintro Hgl
    iapply (wp_load 𝒱₀ (E.c : Thread nD τ) none Set.univ (m := kvM) (Finset.subset_univ _)) $$ Hkv; iintro Hkv
    iapply (wp_load 𝒱₀ (E.c : Thread nD τ) none Set.univ (m := kvM) (Finset.subset_univ _)) $$ Hkv; iintro Hkv
    rw [wp_ret]; imodintro
    iapply HQ
    isplitl [Hkv]; · iexact Hkv
    isplitl [Hgl]; · iexact Hgl
    isplitl [Hc]; · iexact Hc
    isplitl [HO]; · iexact HO
    iapply (FG_0 E.c hE); iexact HF
  · have h1 : ¬ k0_cond1 E.c = 1#1 := fun h => hE ((cond1_iff _).1 h)
    rw [dif_neg h1, dif_pos hE]
    simp only [semSignalWord, semWaitWord, Prog.lift, Prog.bind_op, Prog.bind_ret, Prog.pure_eq_ret, wp_deviceId]
    ihave HG := (GPre_n E.c hE) $$ HG
    icases HG with ⟨Hcr, Hpo⟩
    iapply (wait_one C K E.c 36 0 34 (wpE_waitDma2_eq 𝒱₀ (E.c : Thread nD τ) none Set.univ) rfl (payers_36 E.c hE) rfl (above_gr hE)) $$ [Hcr HO Hpo]
    · isplitr; · iexact HR
      isplitr; · iexact HL
      isplitl [Hcr]; · iexact Hcr
      isplitl [HO]; · iexact HO
      iexact Hpo
    iintro ⟨HO, Hpo, Hgl⟩
    ihave HO := (OWs_gl E.c hE) $$ HO
    ihave Hgl := (show pay C E.c 36 0 ⊢ glPts E.c (gq E.c) C.gl from gq_n E.c hE C.gl) $$ Hgl
    rw [← hgl, ← hkv]
    simp only [v259, v264, v267, v248, v252, v256]
    unfold kvPts glPts
    iapply (wp_load 𝒱₀ (E.c : Thread nD τ) none Set.univ (m := glM) (Finset.subset_univ _)) $$ Hgl; iintro Hgl
    iapply (wp_load 𝒱₀ (E.c : Thread nD τ) none Set.univ (m := kvM) (Finset.subset_univ _)) $$ Hkv; iintro Hkv
    iapply (wp_load 𝒱₀ (E.c : Thread nD τ) none Set.univ (m := kvM) (Finset.subset_univ _)) $$ Hkv; iintro Hkv
    rw [wp_ret]; imodintro
    iapply HQ
    isplitl [Hkv]; · iexact Hkv
    isplitl [Hgl]; · iexact Hgl
    isplitl [Hc]; · iexact Hc
    isplitl [HO]; · iexact HO
    iapply (FG_n E.c hE); iexact Hpo

end Cert.KernelIdealProof
-- ==== Proof.KernelIdeal.Exit.lean ====
/- The end of the body: the output block, the last waits, the exit signals. -/
module

public import proofs.«01_k».proof.Proof.KernelIdeal.Tree
public import proofs.«01_k».proof.Proof.KernelIdeal.Glob

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (C : Conts F) (K : Dev nD × Fin 45 → ℕ)

/-- The tree's cell of the send on the way out: device 0 keeps its result, the others wait for their send. -/
def FinSt (c : Dev nD) : sProp 𝕄 := if c = 0 then iprop(∃ a, acPts (F := F) c a) else crd (c, 37) Nac
/-- The context rows after device 0 has written its global rows. -/
def cxE (c : Dev nD) (a : CAc F) (f : CCx F) : CCx F := if c = 0 then cxFin a f else f
/-- The last waits: device 0's for its global sends, the others' for their tree send. -/
def GW (c : Dev nD) : sProp 𝕄 := if c = 0 then WG (F := F) 34 else iprop(pos (F := F) (c, 36) 1 ∗ pos (c, 37) 0)
def posG (c : Dev nD) : sProp 𝕄 := if c = 0 then (bigSep (Finset.Ico 34 65) fun i => pos (F := F) (0, gk i) 1) else iprop(pos (F := F) (c, 36) 1 ∗ pos (c, 37) 1)
theorem FinSt_0 {c : Dev nD} (h : c = 0) : FinSt (F := F) c = iprop(∃ a, acPts (F := F) c a) := by unfold FinSt; rw [if_pos h]
theorem FinSt_n {c : Dev nD} (h : c ≠ 0) : FinSt (F := F) c = crd (c, 37) Nac := by unfold FinSt; rw [if_neg h]
theorem cxE_0 {c : Dev nD} (h : c = 0) (a : CAc F) (f : CCx F) : cxE c a f = cxFin a f := by unfold cxE; rw [if_pos h]
theorem cxE_n {c : Dev nD} (h : c ≠ 0) (a : CAc F) (f : CCx F) : cxE c a f = f := by unfold cxE; rw [if_neg h]
theorem GW_0 {c : Dev nD} (h : c = 0) : GW (F := F) c = WG (F := F) 34 := by unfold GW; rw [if_pos h]
theorem GW_n {c : Dev nD} (h : c ≠ 0) : GW (F := F) c = iprop(pos (F := F) (c, 36) 1 ∗ pos (c, 37) 0) := by unfold GW; rw [if_neg h]
theorem posG_0 {c : Dev nD} (h : c = 0) : posG (F := F) c = (bigSep (Finset.Ico 34 65) fun i => pos (F := F) (0, gk i) 1) := by unfold posG; rw [if_pos h]
theorem posG_n {c : Dev nD} (h : c ≠ 0) : posG (F := F) c = iprop(pos (F := F) (c, 36) 1 ∗ pos (c, 37) 1) := by unfold posG; rw [if_neg h]
theorem tz_0 {c : Dev nD} (h : c = 0) : tz c = 5 := by subst h; rfl
theorem cr_ac : (acM : Memref sig .tc .vmem _ _).view.dmaCredit = Nac := rfl

/-- The global rows whole again. -/
theorem gl_back (c : Dev nD) (hc : c = 0) : iprop(glPts c (gq c) C.gl ∗ DG C 65) ⊢ iprop(glPts c fullShare C.gl ∗ posG (F := F) c) := by
  subst hc
  rw [posG_0 rfl]
  unfold DG gq
  rw [if_pos rfl, bigSep_sep']
  refine BIBase.Entails.trans ?_ (sep_mono_left (gl_toks 0 C.gl).2)
  iintro ⟨H1, H2, H3⟩
  isplitl [H1 H3]
  · isplitl [H1]; · iexact H1
    iexact H3
  iexact H2

theorem spec43_0 (E : Env F) (a : CAc F) (f : CCx F) (fo : COu F) (h0 : E.c = 0) (hT : tz E.c ≠ 4) (w : BitVec 1) {Q : _ → sProp 𝕄} :
    iprop(RL C K ∗ TreeSt 4 E.c a ∗ cxPts E.c f ∗ x4Pts E ∗ ouPts E.c fo ∗ crd (E.c, 0) Nkv ∗ pos (E.c, 0) 0 ∗ ((FinSt (F := F) E.c ∗ OWs E.c 66 ∗ cxPts E.c (cxE E.c a f) ∗ x4Pts E ∗ ouPts E.c (ou43 E (cxE E.c a f) fo) ∗ pos (E.c, 0) 1 ∗ kvPts E.c q1 (C.kv E.c)) -∗ Q ⟨⟩))
      ⊢ wp frame (wpE (defs₀ (F := F)) 𝒱₀ (E.c : Thread nD τ) none) Set.univ (k0_part43 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 E.c (wv2 E.c) w) Q := by
  rw [k0_part43_eq_skeleton]; unfold k0_part43_skel
  simp only [↓dif_neg (fun h => absurd ((condS4 E.c).1 h) hT), ↓dif_pos ((cond0 E.c).2 h0)]
  rw [TreeSt_here (by rw [tz_0 h0]; omega), FinSt_0 h0, cxE_0 h0]
  have hpay : ∀ p, pay C E.c 0 p = kvPts E.c q1 (C.kv E.c) := fun p => pay_0 C E.c p
  generalize hPk : kvPts E.c q1 (C.kv E.c) = Pk at hpay ⊢
  simp only [semSignalWord, semWaitWord, Prog.lift, Prog.bind_op, Prog.bind_ret, Prog.pure_eq_ret, wp_deviceId]
  unfold acPts cxPts x4Pts ouPts
  iintro ⟨⟨#HR, #HL⟩, ⟨Hac, HO, HT⟩, Hcx, Hx4, Hou, Hcr, Hpo, HQ⟩
  have hO : OWs (F := F) E.c 65 ⊢ OWs E.c 66 := by rw [h0]; exact OWs_root
  ihave HO := hO $$ HO
  iapply (wp_load 𝒱₀ (E.c : Thread nD τ) none Set.univ (m := acM) (Finset.subset_univ _)) $$ Hac; iintro Hac
  iapply (wp_load 𝒱₀ (E.c : Thread nD τ) none Set.univ (m := acM) (Finset.subset_univ _)) $$ Hac; iintro Hac
  iapply (wp_load 𝒱₀ (E.c : Thread nD τ) none Set.univ (m := cxM) (Finset.subset_univ _)) $$ Hcx; iintro Hcx
  iapply (wp_store 𝒱₀ (E.c : Thread nD τ) none Set.univ (m := cxM) (r := (Rect.unit (s := S2x128x256) ![0, 0, 0] S2x32x256.size inb_S2x128x256_S2x32x256_0_0_0)) (Mk := Finset.univ) (Finset.subset_univ _)) $$ Hcx; iintro Hcx
  iapply (wp_load 𝒱₀ (E.c : Thread nD τ) none Set.univ (m := x4M) (Finset.subset_univ _)) $$ Hx4; iintro Hx4
  iapply (wp_load 𝒱₀ (E.c : Thread nD τ) none Set.univ (m := cxM) (Finset.subset_univ _)) $$ Hcx; iintro Hcx
  iapply (wp_load 𝒱₀ (E.c : Thread nD τ) none Set.univ (m := ouM) (Finset.subset_univ _)) $$ Hou; iintro Hou
  iapply (wp_store 𝒱₀ (E.c : Thread nD τ) none Set.univ (m := ouM) (r := (Rect.unit (s := S2x128x512) ![0, 0, 0] S1x128x512.size inb_S2x128x512_S1x128x512_0_0_0)) (Mk := Finset.univ) (Finset.subset_univ _)) $$ Hou; iintro Hou
  iapply (wp_load 𝒱₀ (E.c : Thread nD τ) none Set.univ (m := cxM) (Finset.subset_univ _)) $$ Hcx; iintro Hcx
  iapply (wp_load 𝒱₀ (E.c : Thread nD τ) none Set.univ (m := ouM) (Finset.subset_univ _)) $$ Hou; iintro Hou
  iapply (wp_store 𝒱₀ (E.c : Thread nD τ) none Set.univ (m := ouM) (r := (Rect.unit (s := S2x128x512) ![1, 0, 0] S1x128x512.size inb_S2x128x512_S1x128x512_1_0_0)) (Mk := Finset.univ) (Finset.subset_univ _)) $$ Hou; iintro Hou
  iapply (wait_one C K E.c 0 E.c 66 (wpE_waitDma2_eq 𝒱₀ (E.c : Thread nD τ) none Set.univ) rfl (payers_0 _) rfl (above_zero E.c 0 66 rfl)) $$ [Hcr HO Hpo]
  · isplitr; · iexact HR
    isplitr; · iexact HL
    isplitl [Hcr]; · iexact Hcr
    isplitl [HO]; · iexact HO
    iexact Hpo
  iintro ⟨HO, Hpo, Hk⟩
  ihave Hk := (BIBase.Entails.of_eq (hpay E.c)) $$ Hk
  rw [wp_ret]; imodintro
  iapply HQ
  isplitl [Hac]; · iexists a; iexact Hac
  isplitl [HO]; · iexact HO
  isplitl [Hcx]; · iexact Hcx
  isplitl [Hx4]; · iexact Hx4
  isplitl [Hou]; · iexact Hou
  isplitl [Hpo]; · iexact Hpo
  iexact Hk

theorem spec43_S (E : Env F) (a : CAc F) (f : CCx F) (fo : COu F) (h0 : E.c ≠ 0) (hT : tz E.c = 4) (hac4 : tz E.c = 4 → a = C.ac E.c) (w : BitVec 1) {Q : _ → sProp 𝕄} :
    iprop(RL C K ∗ TreeSt 4 E.c a ∗ cxPts E.c f ∗ x4Pts E ∗ ouPts E.c fo ∗ crd (E.c, 0) Nkv ∗ pos (E.c, 0) 0 ∗ ((FinSt (F := F) E.c ∗ OWs E.c 66 ∗ cxPts E.c (cxE E.c a f) ∗ x4Pts E ∗ ouPts E.c (ou43 E (cxE E.c a f) fo) ∗ pos (E.c, 0) 1 ∗ kvPts E.c q1 (C.kv E.c)) -∗ Q ⟨⟩))
      ⊢ wp frame (wpE (defs₀ (F := F)) 𝒱₀ (E.c : Thread nD τ) none) Set.univ (k0_part43 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 E.c (wv2 E.c) w) Q := by
  rw [k0_part43_eq_skeleton]; unfold k0_part43_skel
  simp only [↓dif_pos ((condS4 E.c).2 hT), ↓dif_neg (fun h => absurd ((cond0 E.c).1 h) h0)]
  rw [TreeSt_here (by omega), FinSt_n h0, cxE_n h0, RT_n h0, hac4 hT]
  generalize hPa : acPts E.c (C.ac E.c) = Pa
  have hpay : ∀ p, pay C E.c 0 p = kvPts E.c q1 (C.kv E.c) := fun p => pay_0 C E.c p
  generalize hPk : kvPts E.c q1 (C.kv E.c) = Pk at hpay ⊢
  simp only [semSignalWord, semWaitWord, Prog.lift, Prog.bind_op, Prog.bind_ret, Prog.pure_eq_ret, wp_deviceId]
  unfold cxPts x4Pts ouPts
  iintro ⟨⟨#HR, #HL⟩, ⟨Hac, HO, Hd, Ht1, Ht2⟩, Hcx, Hx4, Hou, Hcr, Hpo, HQ⟩
  iapply (snd_red4 C K E.c h0 hT _ (devS4 _ _ hT) rfl rfl) $$ [Hac HO Hd Ht1 Ht2]
  · isplitr; · iexact HR
    isplitl [Hac]; · rw [hPa]; iexact Hac
    isplitl [Hd]; · rw [hT]; iexact Hd
    isplitl [HO]; · iexact HO
    isplitl [Ht1]; · iexact Ht1
    iexact Ht2
  iintro ⟨Hc37, HO⟩
  iapply (wp_load 𝒱₀ (E.c : Thread nD τ) none Set.univ (m := x4M) (Finset.subset_univ _)) $$ Hx4; iintro Hx4
  iapply (wp_load 𝒱₀ (E.c : Thread nD τ) none Set.univ (m := cxM) (Finset.subset_univ _)) $$ Hcx; iintro Hcx
  iapply (wp_load 𝒱₀ (E.c : Thread nD τ) none Set.univ (m := ouM) (Finset.subset_univ _)) $$ Hou; iintro Hou
  iapply (wp_store 𝒱₀ (E.c : Thread nD τ) none Set.univ (m := ouM) (r := (Rect.unit (s := S2x128x512) ![0, 0, 0] S1x128x512.size inb_S2x128x512_S1x128x512_0_0_0)) (Mk := Finset.univ) (Finset.subset_univ _)) $$ Hou; iintro Hou
  iapply (wp_load 𝒱₀ (E.c : Thread nD τ) none Set.univ (m := cxM) (Finset.subset_univ _)) $$ Hcx; iintro Hcx
  iapply (wp_load 𝒱₀ (E.c : Thread nD τ) none Set.univ (m := ouM) (Finset.subset_univ _)) $$ Hou; iintro Hou
  iapply (wp_store 𝒱₀ (E.c : Thread nD τ) none Set.univ (m := ouM) (r := (Rect.unit (s := S2x128x512) ![1, 0, 0] S1x128x512.size inb_S2x128x512_S1x128x512_1_0_0)) (Mk := Finset.univ) (Finset.subset_univ _)) $$ Hou; iintro Hou
  iapply (wait_one C K E.c 0 E.c 66 (wpE_waitDma2_eq 𝒱₀ (E.c : Thread nD τ) none Set.univ) rfl (payers_0 _) rfl (above_zero E.c 0 66 rfl)) $$ [Hcr HO Hpo]
  · isplitr; · iexact HR
    isplitr; · iexact HL
    isplitl [Hcr]; · iexact Hcr
    isplitl [HO]; · iexact HO
    iexact Hpo
  iintro ⟨HO, Hpo, Hk⟩
  ihave Hk := (BIBase.Entails.of_eq (hpay E.c)) $$ Hk
  rw [wp_ret]; imodintro
  iapply HQ
  isplitl [Hc37]; · iexact Hc37
  isplitl [HO]; · iexact HO
  isplitl [Hcx]; · iexact Hcx
  isplitl [Hx4]; · iexact Hx4
  isplitl [Hou]; · iexact Hou
  isplitl [Hpo]; · iexact Hpo
  iexact Hk

theorem spec43_N (E : Env F) (a : CAc F) (f : CCx F) (fo : COu F) (h0 : E.c ≠ 0) (hT : tz E.c ≠ 4) (w : BitVec 1) {Q : _ → sProp 𝕄} :
    iprop(RL C K ∗ TreeSt 4 E.c a ∗ cxPts E.c f ∗ x4Pts E ∗ ouPts E.c fo ∗ crd (E.c, 0) Nkv ∗ pos (E.c, 0) 0 ∗ ((FinSt (F := F) E.c ∗ OWs E.c 66 ∗ cxPts E.c (cxE E.c a f) ∗ x4Pts E ∗ ouPts E.c (ou43 E (cxE E.c a f) fo) ∗ pos (E.c, 0) 1 ∗ kvPts E.c q1 (C.kv E.c)) -∗ Q ⟨⟩))
      ⊢ wp frame (wpE (defs₀ (F := F)) 𝒱₀ (E.c : Thread nD τ) none) Set.univ (k0_part43 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 E.c (wv2 E.c) w) Q := by
  rw [k0_part43_eq_skeleton]; unfold k0_part43_skel
  simp only [↓dif_neg (fun h => absurd ((condS4 E.c).1 h) hT), ↓dif_neg (fun h => absurd ((cond0 E.c).1 h) h0)]
  rw [TreeSt_sent (by have := tz_lt E.c h0; omega), FinSt_n h0, cxE_n h0]
  have hpay : ∀ p, pay C E.c 0 p = kvPts E.c q1 (C.kv E.c) := fun p => pay_0 C E.c p
  generalize hPk : kvPts E.c q1 (C.kv E.c) = Pk at hpay ⊢
  simp only [semSignalWord, semWaitWord, Prog.lift, Prog.bind_op, Prog.bind_ret, Prog.pure_eq_ret, wp_deviceId]
  unfold cxPts x4Pts ouPts
  iintro ⟨⟨#HR, #HL⟩, ⟨Hc37, HO⟩, Hcx, Hx4, Hou, Hcr, Hpo, HQ⟩
  iapply (wp_load 𝒱₀ (E.c : Thread nD τ) none Set.univ (m := x4M) (Finset.subset_univ _)) $$ Hx4; iintro Hx4
  iapply (wp_load 𝒱₀ (E.c : Thread nD τ) none Set.univ (m := cxM) (Finset.subset_univ _)) $$ Hcx; iintro Hcx
  iapply (wp_load 𝒱₀ (E.c : Thread nD τ) none Set.univ (m := ouM) (Finset.subset_univ _)) $$ Hou; iintro Hou
  iapply (wp_store 𝒱₀ (E.c : Thread nD τ) none Set.univ (m := ouM) (r := (Rect.unit (s := S2x128x512) ![0, 0, 0] S1x128x512.size inb_S2x128x512_S1x128x512_0_0_0)) (Mk := Finset.univ) (Finset.subset_univ _)) $$ Hou; iintro Hou
  iapply (wp_load 𝒱₀ (E.c : Thread nD τ) none Set.univ (m := cxM) (Finset.subset_univ _)) $$ Hcx; iintro Hcx
  iapply (wp_load 𝒱₀ (E.c : Thread nD τ) none Set.univ (m := ouM) (Finset.subset_univ _)) $$ Hou; iintro Hou
  iapply (wp_store 𝒱₀ (E.c : Thread nD τ) none Set.univ (m := ouM) (r := (Rect.unit (s := S2x128x512) ![1, 0, 0] S1x128x512.size inb_S2x128x512_S1x128x512_1_0_0)) (Mk := Finset.univ) (Finset.subset_univ _)) $$ Hou; iintro Hou
  iapply (wait_one C K E.c 0 E.c 66 (wpE_waitDma2_eq 𝒱₀ (E.c : Thread nD τ) none Set.univ) rfl (payers_0 _) rfl (above_zero E.c 0 66 rfl)) $$ [Hcr HO Hpo]
  · isplitr; · iexact HR
    isplitr; · iexact HL
    isplitl [Hcr]; · iexact Hcr
    isplitl [HO]; · iexact HO
    iexact Hpo
  iintro ⟨HO, Hpo, Hk⟩
  ihave Hk := (BIBase.Entails.of_eq (hpay E.c)) $$ Hk
  rw [wp_ret]; imodintro
  iapply HQ
  isplitl [Hc37]; · iexact Hc37
  isplitl [HO]; · iexact HO
  isplitl [Hcx]; · iexact Hcx
  isplitl [Hx4]; · iexact Hx4
  isplitl [Hou]; · iexact Hou
  isplitl [Hpo]; · iexact Hpo
  iexact Hk

theorem spec43 (E : Env F) (a : CAc F) (f : CCx F) (fo : COu F) (hac4 : tz E.c = 4 → a = C.ac E.c) (w : BitVec 1) {Q : _ → sProp 𝕄} :
    iprop(RL C K ∗ TreeSt 4 E.c a ∗ cxPts E.c f ∗ x4Pts E ∗ ouPts E.c fo ∗ crd (E.c, 0) Nkv ∗ pos (E.c, 0) 0 ∗ ((FinSt (F := F) E.c ∗ OWs E.c 66 ∗ cxPts E.c (cxE E.c a f) ∗ x4Pts E ∗ ouPts E.c (ou43 E (cxE E.c a f) fo) ∗ pos (E.c, 0) 1 ∗ kvPts E.c q1 (C.kv E.c)) -∗ Q ⟨⟩))
      ⊢ wp frame (wpE (defs₀ (F := F)) 𝒱₀ (E.c : Thread nD τ) none) Set.univ (k0_part43 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 E.c (wv2 E.c) w) Q := by
  by_cases h0 : E.c = 0
  · exact spec43_0 C K E a f fo h0 (by rw [tz_0 h0]; omega) w
  · by_cases hT : tz E.c = 4
    · exact spec43_S C K E a f fo h0 hT hac4 w
    · exact spec43_N C K E a f fo h0 hT w

theorem spec12 (c : Dev nD) (hc : c = 0) {Q : _ → sProp 𝕄} :
    iprop(RL C K ∗ OWs c 66 ∗ WG (F := F) 34 ∗ DG C 34 ∗ ((OWs c 66 ∗ WG (F := F) 42 ∗ DG C 42) -∗ Q ⟨⟩))
      ⊢ wp frame (wpE (defs₀ (F := F)) 𝒱₀ (c : Thread nD τ) none) Set.univ (k0_part12 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0) Q := by
  rw [k0_part12_eq_skeleton]; unfold k0_part12_skel
  simp only [semSignalWord, semWaitWord, Prog.lift, Prog.bind_op, Prog.bind_ret, Prog.pure_eq_ret, wp_deviceId]
  iintro ⟨⟨#HR, #HL⟩, HO, HW, HD, HQ⟩
  iapply (wait_G C K c hc 34 (by omega) (by omega) 66 (wpE_waitDma2_eq 𝒱₀ (c : Thread nD τ) none Set.univ) rfl rfl) $$ [HO HW HD]
  · isplitr; · iexact HR
    isplitr; · iexact HL
    isplitl [HO]; · iexact HO
    isplitl [HW]; · iexact HW
    iexact HD
  iintro ⟨HO, HW, HD⟩
  iapply (wait_G C K c hc 35 (by omega) (by omega) 66 (wpE_waitDma2_eq 𝒱₀ (c : Thread nD τ) none Set.univ) rfl rfl) $$ [HO HW HD]
  · isplitr; · iexact HR
    isplitr; · iexact HL
    isplitl [HO]; · iexact HO
    isplitl [HW]; · iexact HW
    iexact HD
  iintro ⟨HO, HW, HD⟩
  iapply (wait_G C K c hc 36 (by omega) (by omega) 66 (wpE_waitDma2_eq 𝒱₀ (c : Thread nD τ) none Set.univ) rfl rfl) $$ [HO HW HD]
  · isplitr; · iexact HR
    isplitr; · iexact HL
    isplitl [HO]; · iexact HO
    isplitl [HW]; · iexact HW
    iexact HD
  iintro ⟨HO, HW, HD⟩
  iapply (wait_G C K c hc 37 (by omega) (by omega) 66 (wpE_waitDma2_eq 𝒱₀ (c : Thread nD τ) none Set.univ) rfl rfl) $$ [HO HW HD]
  · isplitr; · iexact HR
    isplitr; · iexact HL
    isplitl [HO]; · iexact HO
    isplitl [HW]; · iexact HW
    iexact HD
  iintro ⟨HO, HW, HD⟩
  iapply (wait_G C K c hc 38 (by omega) (by omega) 66 (wpE_waitDma2_eq 𝒱₀ (c : Thread nD τ) none Set.univ) rfl rfl) $$ [HO HW HD]
  · isplitr; · iexact HR
    isplitr; · iexact HL
    isplitl [HO]; · iexact HO
    isplitl [HW]; · iexact HW
    iexact HD
  iintro ⟨HO, HW, HD⟩
  iapply (wait_G C K c hc 39 (by omega) (by omega) 66 (wpE_waitDma2_eq 𝒱₀ (c : Thread nD τ) none Set.univ) rfl rfl) $$ [HO HW HD]
  · isplitr; · iexact HR
    isplitr; · iexact HL
    isplitl [HO]; · iexact HO
    isplitl [HW]; · iexact HW
    iexact HD
  iintro ⟨HO, HW, HD⟩
  iapply (wait_G C K c hc 40 (by omega) (by omega) 66 (wpE_waitDma2_eq 𝒱₀ (c : Thread nD τ) none Set.univ) rfl rfl) $$ [HO HW HD]
  · isplitr; · iexact HR
    isplitr; · iexact HL
    isplitl [HO]; · iexact HO
    isplitl [HW]; · iexact HW
    iexact HD
  iintro ⟨HO, HW, HD⟩
  iapply (wait_G C K c hc 41 (by omega) (by omega) 66 (wpE_waitDma2_eq 𝒱₀ (c : Thread nD τ) none Set.univ) rfl rfl) $$ [HO HW HD]
  · isplitr; · iexact HR
    isplitr; · iexact HL
    isplitl [HO]; · iexact HO
    isplitl [HW]; · iexact HW
    iexact HD
  iintro ⟨HO, HW, HD⟩
  rw [wp_ret]; imodintro
  iapply HQ
  isplitl [HO]; · iexact HO
  isplitl [HW]; · iexact HW
  iexact HD

theorem spec13 (c : Dev nD) (hc : c = 0) {Q : _ → sProp 𝕄} :
    iprop(RL C K ∗ OWs c 66 ∗ WG (F := F) 42 ∗ DG C 42 ∗ ((OWs c 66 ∗ WG (F := F) 51 ∗ DG C 51) -∗ Q ⟨⟩))
      ⊢ wp frame (wpE (defs₀ (F := F)) 𝒱₀ (c : Thread nD τ) none) Set.univ (k0_part13 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0) Q := by
  rw [k0_part13_eq_skeleton]; unfold k0_part13_skel
  simp only [semSignalWord, semWaitWord, Prog.lift, Prog.bind_op, Prog.bind_ret, Prog.pure_eq_ret, wp_deviceId]
  iintro ⟨⟨#HR, #HL⟩, HO, HW, HD, HQ⟩
  iapply (wait_G C K c hc 42 (by omega) (by omega) 66 (wpE_waitDma2_eq 𝒱₀ (c : Thread nD τ) none Set.univ) rfl rfl) $$ [HO HW HD]
  · isplitr; · iexact HR
    isplitr; · iexact HL
    isplitl [HO]; · iexact HO
    isplitl [HW]; · iexact HW
    iexact HD
  iintro ⟨HO, HW, HD⟩
  iapply (wait_G C K c hc 43 (by omega) (by omega) 66 (wpE_waitDma2_eq 𝒱₀ (c : Thread nD τ) none Set.univ) rfl rfl) $$ [HO HW HD]
  · isplitr; · iexact HR
    isplitr; · iexact HL
    isplitl [HO]; · iexact HO
    isplitl [HW]; · iexact HW
    iexact HD
  iintro ⟨HO, HW, HD⟩
  iapply (wait_G C K c hc 44 (by omega) (by omega) 66 (wpE_waitDma2_eq 𝒱₀ (c : Thread nD τ) none Set.univ) rfl rfl) $$ [HO HW HD]
  · isplitr; · iexact HR
    isplitr; · iexact HL
    isplitl [HO]; · iexact HO
    isplitl [HW]; · iexact HW
    iexact HD
  iintro ⟨HO, HW, HD⟩
  iapply (wait_G C K c hc 45 (by omega) (by omega) 66 (wpE_waitDma2_eq 𝒱₀ (c : Thread nD τ) none Set.univ) rfl rfl) $$ [HO HW HD]
  · isplitr; · iexact HR
    isplitr; · iexact HL
    isplitl [HO]; · iexact HO
    isplitl [HW]; · iexact HW
    iexact HD
  iintro ⟨HO, HW, HD⟩
  iapply (wait_G C K c hc 46 (by omega) (by omega) 66 (wpE_waitDma2_eq 𝒱₀ (c : Thread nD τ) none Set.univ) rfl rfl) $$ [HO HW HD]
  · isplitr; · iexact HR
    isplitr; · iexact HL
    isplitl [HO]; · iexact HO
    isplitl [HW]; · iexact HW
    iexact HD
  iintro ⟨HO, HW, HD⟩
  iapply (wait_G C K c hc 47 (by omega) (by omega) 66 (wpE_waitDma2_eq 𝒱₀ (c : Thread nD τ) none Set.univ) rfl rfl) $$ [HO HW HD]
  · isplitr; · iexact HR
    isplitr; · iexact HL
    isplitl [HO]; · iexact HO
    isplitl [HW]; · iexact HW
    iexact HD
  iintro ⟨HO, HW, HD⟩
  iapply (wait_G C K c hc 48 (by omega) (by omega) 66 (wpE_waitDma2_eq 𝒱₀ (c : Thread nD τ) none Set.univ) rfl rfl) $$ [HO HW HD]
  · isplitr; · iexact HR
    isplitr; · iexact HL
    isplitl [HO]; · iexact HO
    isplitl [HW]; · iexact HW
    iexact HD
  iintro ⟨HO, HW, HD⟩
  iapply (wait_G C K c hc 49 (by omega) (by omega) 66 (wpE_waitDma2_eq 𝒱₀ (c : Thread nD τ) none Set.univ) rfl rfl) $$ [HO HW HD]
  · isplitr; · iexact HR
    isplitr; · iexact HL
    isplitl [HO]; · iexact HO
    isplitl [HW]; · iexact HW
    iexact HD
  iintro ⟨HO, HW, HD⟩
  iapply (wait_G C K c hc 50 (by omega) (by omega) 66 (wpE_waitDma2_eq 𝒱₀ (c : Thread nD τ) none Set.univ) rfl rfl) $$ [HO HW HD]
  · isplitr; · iexact HR
    isplitr; · iexact HL
    isplitl [HO]; · iexact HO
    isplitl [HW]; · iexact HW
    iexact HD
  iintro ⟨HO, HW, HD⟩
  rw [wp_ret]; imodintro
  iapply HQ
  isplitl [HO]; · iexact HO
  isplitl [HW]; · iexact HW
  iexact HD

theorem spec14 (c : Dev nD) (hc : c = 0) {Q : _ → sProp 𝕄} :
    iprop(RL C K ∗ OWs c 66 ∗ WG (F := F) 51 ∗ DG C 51 ∗ ((OWs c 66 ∗ WG (F := F) 59 ∗ DG C 59) -∗ Q ⟨⟩))
      ⊢ wp frame (wpE (defs₀ (F := F)) 𝒱₀ (c : Thread nD τ) none) Set.univ (k0_part14 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0) Q := by
  rw [k0_part14_eq_skeleton]; unfold k0_part14_skel
  simp only [semSignalWord, semWaitWord, Prog.lift, Prog.bind_op, Prog.bind_ret, Prog.pure_eq_ret, wp_deviceId]
  iintro ⟨⟨#HR, #HL⟩, HO, HW, HD, HQ⟩
  iapply (wait_G C K c hc 51 (by omega) (by omega) 66 (wpE_waitDma2_eq 𝒱₀ (c : Thread nD τ) none Set.univ) rfl rfl) $$ [HO HW HD]
  · isplitr; · iexact HR
    isplitr; · iexact HL
    isplitl [HO]; · iexact HO
    isplitl [HW]; · iexact HW
    iexact HD
  iintro ⟨HO, HW, HD⟩
  iapply (wait_G C K c hc 52 (by omega) (by omega) 66 (wpE_waitDma2_eq 𝒱₀ (c : Thread nD τ) none Set.univ) rfl rfl) $$ [HO HW HD]
  · isplitr; · iexact HR
    isplitr; · iexact HL
    isplitl [HO]; · iexact HO
    isplitl [HW]; · iexact HW
    iexact HD
  iintro ⟨HO, HW, HD⟩
  iapply (wait_G C K c hc 53 (by omega) (by omega) 66 (wpE_waitDma2_eq 𝒱₀ (c : Thread nD τ) none Set.univ) rfl rfl) $$ [HO HW HD]
  · isplitr; · iexact HR
    isplitr; · iexact HL
    isplitl [HO]; · iexact HO
    isplitl [HW]; · iexact HW
    iexact HD
  iintro ⟨HO, HW, HD⟩
  iapply (wait_G C K c hc 54 (by omega) (by omega) 66 (wpE_waitDma2_eq 𝒱₀ (c : Thread nD τ) none Set.univ) rfl rfl) $$ [HO HW HD]
  · isplitr; · iexact HR
    isplitr; · iexact HL
    isplitl [HO]; · iexact HO
    isplitl [HW]; · iexact HW
    iexact HD
  iintro ⟨HO, HW, HD⟩
  iapply (wait_G C K c hc 55 (by omega) (by omega) 66 (wpE_waitDma2_eq 𝒱₀ (c : Thread nD τ) none Set.univ) rfl rfl) $$ [HO HW HD]
  · isplitr; · iexact HR
    isplitr; · iexact HL
    isplitl [HO]; · iexact HO
    isplitl [HW]; · iexact HW
    iexact HD
  iintro ⟨HO, HW, HD⟩
  iapply (wait_G C K c hc 56 (by omega) (by omega) 66 (wpE_waitDma2_eq 𝒱₀ (c : Thread nD τ) none Set.univ) rfl rfl) $$ [HO HW HD]
  · isplitr; · iexact HR
    isplitr; · iexact HL
    isplitl [HO]; · iexact HO
    isplitl [HW]; · iexact HW
    iexact HD
  iintro ⟨HO, HW, HD⟩
  iapply (wait_G C K c hc 57 (by omega) (by omega) 66 (wpE_waitDma2_eq 𝒱₀ (c : Thread nD τ) none Set.univ) rfl rfl) $$ [HO HW HD]
  · isplitr; · iexact HR
    isplitr; · iexact HL
    isplitl [HO]; · iexact HO
    isplitl [HW]; · iexact HW
    iexact HD
  iintro ⟨HO, HW, HD⟩
  iapply (wait_G C K c hc 58 (by omega) (by omega) 66 (wpE_waitDma2_eq 𝒱₀ (c : Thread nD τ) none Set.univ) rfl rfl) $$ [HO HW HD]
  · isplitr; · iexact HR
    isplitr; · iexact HL
    isplitl [HO]; · iexact HO
    isplitl [HW]; · iexact HW
    iexact HD
  iintro ⟨HO, HW, HD⟩
  rw [wp_ret]; imodintro
  iapply HQ
  isplitl [HO]; · iexact HO
  isplitl [HW]; · iexact HW
  iexact HD

set_option maxHeartbeats 1000000 in
theorem spec44 (c : Dev nD) {Q : _ → sProp 𝕄} :
    iprop(RL C K ∗ OWs c 66 ∗ SigX (F := F) c 66 ∗ crd (c, 1) Nkv ∗ pos (c, 1) 0 ∗ FinSt (F := F) c ∗ GW (F := F) c ∗ glPts c (gq c) C.gl
        ∗ ((OWs c 69 ∗ SigX (F := F) c 69 ∗ pos (c, 1) 1 ∗ kvPts c q2 (C.kv c) ∗ (∃ a, acPts (F := F) c a) ∗ glPts c fullShare C.gl ∗ posG (F := F) c) -∗ ∀ r, Q r))
      ⊢ wp frame (wpE (defs₀ (F := F)) 𝒱₀ (c : Thread nD τ) none) Set.univ (k0_part44 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 c (wv2 c)) Q := by
  rw [k0_part44_eq_skeleton]; unfold k0_part44_skel
  have hpay : ∀ p, pay C c 1 p = kvPts c q2 (C.kv c) := fun p => pay_1 C c p
  have hpa : ∀ p, pay C c 37 p = acPts c (C.ac c) := fun p => pay_37 C c p
  by_cases hc : c = 0
  · simp only [↓dif_pos ((cond0 c).2 hc), ↓dif_neg (fun h => absurd hc ((condN_iff c).1 h))]
    rw [FinSt_0 hc, GW_0 hc]
    simp only [semSignalWord, semWaitWord, Prog.lift, Prog.bind_op, Prog.bind_ret, Prog.pure_eq_ret, wp_deviceId]
    iintro ⟨⟨#HR, #HL⟩, HO, HS, Hcr, Hpo, Hac, HW, Hgl, HQ⟩
    iapply (wait_one C K c 1 c 66 (wpE_waitDma2_eq 𝒱₀ (c : Thread nD τ) none Set.univ) rfl (payers_1 _) rfl (above_zero c 1 66 rfl)) $$ [Hcr HO Hpo]
    · isplitr; · iexact HR
      isplitr; · iexact HL
      isplitl [Hcr]; · iexact Hcr
      isplitl [HO]; · iexact HO
      iexact Hpo
    iintro ⟨HO, Hpo, Hk⟩
    ihave Hk := (BIBase.Entails.of_eq (hpay c)) $$ Hk
    have hD0 : (iprop(emp) : sProp 𝕄) ⊢ DG C 34 := by unfold DG; rw [Finset.Ico_self, bigSep_empty]; exact BIBase.Entails.of_eq rfl
    rw [wp_bind]
    iapply (spec12 C K c hc) $$ [-]
    isplitr
    · isplitr; · iexact HR
      iexact HL
    isplitl [HO]; · iexact HO
    isplitl [HW]; · iexact HW
    isplitr; · iapply hD0; iempintro
    iintro ⟨HO, HW, HD⟩
    rw [wp_bind]
    iapply (spec13 C K c hc) $$ [-]
    isplitr
    · isplitr; · iexact HR
      iexact HL
    isplitl [HO]; · iexact HO
    isplitl [HW]; · iexact HW
    isplitl [HD]; · iexact HD
    iintro ⟨HO, HW, HD⟩
    rw [wp_bind]
    iapply (spec14 C K c hc) $$ [-]
    isplitr
    · isplitr; · iexact HR
      iexact HL
    isplitl [HO]; · iexact HO
    isplitl [HW]; · iexact HW
    isplitl [HD]; · iexact HD
    iintro ⟨HO, HW, HD⟩

    iapply (wait_G C K c hc 59 (by omega) (by omega) 66 (wpE_waitDma2_eq 𝒱₀ (c : Thread nD τ) none Set.univ) rfl rfl) $$ [HO HW HD]
    · isplitr; · iexact HR
      isplitr; · iexact HL
      isplitl [HO]; · iexact HO
      isplitl [HW]; · iexact HW
      iexact HD
    iintro ⟨HO, HW, HD⟩
    iapply (wait_G C K c hc 60 (by omega) (by omega) 66 (wpE_waitDma2_eq 𝒱₀ (c : Thread nD τ) none Set.univ) rfl rfl) $$ [HO HW HD]
    · isplitr; · iexact HR
      isplitr; · iexact HL
      isplitl [HO]; · iexact HO
      isplitl [HW]; · iexact HW
      iexact HD
    iintro ⟨HO, HW, HD⟩
    iapply (wait_G C K c hc 61 (by omega) (by omega) 66 (wpE_waitDma2_eq 𝒱₀ (c : Thread nD τ) none Set.univ) rfl rfl) $$ [HO HW HD]
    · isplitr; · iexact HR
      isplitr; · iexact HL
      isplitl [HO]; · iexact HO
      isplitl [HW]; · iexact HW
      iexact HD
    iintro ⟨HO, HW, HD⟩
    iapply (wait_G C K c hc 62 (by omega) (by omega) 66 (wpE_waitDma2_eq 𝒱₀ (c : Thread nD τ) none Set.univ) rfl rfl) $$ [HO HW HD]
    · isplitr; · iexact HR
      isplitr; · iexact HL
      isplitl [HO]; · iexact HO
      isplitl [HW]; · iexact HW
      iexact HD
    iintro ⟨HO, HW, HD⟩
    iapply (wait_G C K c hc 63 (by omega) (by omega) 66 (wpE_waitDma2_eq 𝒱₀ (c : Thread nD τ) none Set.univ) rfl rfl) $$ [HO HW HD]
    · isplitr; · iexact HR
      isplitr; · iexact HL
      isplitl [HO]; · iexact HO
      isplitl [HW]; · iexact HW
      iexact HD
    iintro ⟨HO, HW, HD⟩
    iapply (wait_G C K c hc 64 (by omega) (by omega) 66 (wpE_waitDma2_eq 𝒱₀ (c : Thread nD τ) none Set.univ) rfl rfl) $$ [HO HW HD]
    · isplitr; · iexact HR
      isplitr; · iexact HL
      isplitl [HO]; · iexact HO
      isplitl [HW]; · iexact HW
      iexact HD
    iintro ⟨HO, HW, HD⟩
    ihave HG := (gl_back C c hc) $$ [Hgl HD]
    · isplitl [Hgl]; · iexact Hgl
      iexact HD
    icases HG with ⟨Hgl, HP⟩
    iapply (sig_X C K c 66 (by omega) (by omega) _ (devN70 c _) exit_sem rfl) $$ [HO HS]
    · isplitr; · iexact HR
      isplitl [HO]; · iexact HO
      iexact HS
    iintro ⟨HO, HS⟩
    iapply (sig_X C K c 67 (by omega) (by omega) _ (devN71 c _) exit_sem rfl) $$ [HO HS]
    · isplitr; · iexact HR
      isplitl [HO]; · iexact HO
      iexact HS
    iintro ⟨HO, HS⟩
    iapply (sig_X C K c 68 (by omega) (by omega) _ (devN72 c _) exit_sem rfl) $$ [HO HS]
    · isplitr; · iexact HR
      isplitl [HO]; · iexact HO
      iexact HS
    iintro ⟨HO, HS⟩
    rw [wp_ret]; imodintro
    ihave HQ2 := HQ $$ [HO HS Hpo Hk Hac Hgl HP]
    · isplitl [HO]; · iexact HO
      isplitl [HS]; · iexact HS
      isplitl [Hpo]; · iexact Hpo
      isplitl [Hk]; · iexact Hk
      isplitl [Hac]; · iexact Hac
      isplitl [Hgl]; · iexact Hgl
      iexact HP
    iapply HQ2
  · simp only [↓dif_neg (fun h => hc ((cond0 c).1 h)), ↓dif_pos ((condN_iff c).2 hc)]
    rw [FinSt_n hc, GW_n hc]
    unfold gq
    rw [if_neg hc, posG_n hc]
    simp only [semSignalWord, semWaitWord, Prog.lift, Prog.bind_op, Prog.bind_ret, Prog.pure_eq_ret, wp_deviceId]
    iintro ⟨⟨#HR, #HL⟩, HO, HS, Hcr, Hpo, Hc37, ⟨Hp36, Hp37⟩, Hgl, HQ⟩
    iapply (wait_one C K c 1 c 66 (wpE_waitDma2_eq 𝒱₀ (c : Thread nD τ) none Set.univ) rfl (payers_1 _) rfl (above_zero c 1 66 rfl)) $$ [Hcr HO Hpo]
    · isplitr; · iexact HR
      isplitr; · iexact HL
      isplitl [Hcr]; · iexact Hcr
      isplitl [HO]; · iexact HO
      iexact Hpo
    iintro ⟨HO, Hpo, Hk⟩
    ihave Hk := (BIBase.Entails.of_eq (hpay c)) $$ Hk
    iapply (wait_one C K c 37 c 66 (wpE_waitDma2_eq 𝒱₀ (c : Thread nD τ) none Set.univ) rfl (payers_37 c hc) rfl (above_zero c 37 66 rfl)) $$ [Hc37 HO Hp37]
    · isplitr; · iexact HR
      isplitr; · iexact HL
      isplitl [Hc37]; · iexact Hc37
      isplitl [HO]; · iexact HO
      iexact Hp37
    iintro ⟨HO, Hp37, Hac⟩
    ihave Hac := (BIBase.Entails.of_eq (hpa c)) $$ Hac
    iapply (sig_X C K c 66 (by omega) (by omega) _ (devN70 c _) exit_sem rfl) $$ [HO HS]
    · isplitr; · iexact HR
      isplitl [HO]; · iexact HO
      iexact HS
    iintro ⟨HO, HS⟩
    iapply (sig_X C K c 67 (by omega) (by omega) _ (devN71 c _) exit_sem rfl) $$ [HO HS]
    · isplitr; · iexact HR
      isplitl [HO]; · iexact HO
      iexact HS
    iintro ⟨HO, HS⟩
    iapply (sig_X C K c 68 (by omega) (by omega) _ (devN72 c _) exit_sem rfl) $$ [HO HS]
    · isplitr; · iexact HR
      isplitl [HO]; · iexact HO
      iexact HS
    iintro ⟨HO, HS⟩
    rw [wp_ret]; imodintro
    ihave HQ2 := HQ $$ [HO HS Hpo Hk Hac Hgl Hp36 Hp37]
    · isplitl [HO]; · iexact HO
      isplitl [HS]; · iexact HS
      isplitl [Hpo]; · iexact Hpo
      isplitl [Hk]; · iexact Hk
      isplitl [Hac]; · iexists (C.ac c); iexact Hac
      isplitl [Hgl]; · iexact Hgl
      isplitl [Hp36]; · iexact Hp36
      iexact Hp37
    iapply HQ2

theorem spec45 (c : Dev nD) (v2 v w : BitVec 32) {Q : _ → sProp 𝕄} :
    iprop(records C K ∗ OWs c 69 ∗ SigX (F := F) c 69 ∗ ((OWs c 75 ∗ SigX (F := F) c 75) -∗ ∀ r, Q r))
      ⊢ wp frame (wpE (defs₀ (F := F)) 𝒱₀ (c : Thread nD τ) none) Set.univ (k0_part45 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 c v2 v w) Q := by
  rw [k0_part45_eq_skeleton]; unfold k0_part45_skel
  simp only [semSignalWord, semWaitWord, Prog.lift, Prog.bind_op, Prog.bind_ret, Prog.pure_eq_ret, wp_deviceId]
  iintro ⟨#HR, HO, HS, HQ⟩
  iapply (sig_X C K c 69 (by omega) (by omega) _ (devN73 c _) exit_sem rfl) $$ [HO HS]
  · isplitr; · iexact HR
    isplitl [HO]; · iexact HO
    iexact HS
  iintro ⟨HO, HS⟩
  iapply (sig_X C K c 70 (by omega) (by omega) _ (devN74 c _) exit_sem rfl) $$ [HO HS]
  · isplitr; · iexact HR
    isplitl [HO]; · iexact HO
    iexact HS
  iintro ⟨HO, HS⟩
  iapply (sig_X C K c 71 (by omega) (by omega) _ (devN75 c _) exit_sem rfl) $$ [HO HS]
  · isplitr; · iexact HR
    isplitl [HO]; · iexact HO
    iexact HS
  iintro ⟨HO, HS⟩
  iapply (sig_X C K c 72 (by omega) (by omega) _ (devN76 c _) exit_sem rfl) $$ [HO HS]
  · isplitr; · iexact HR
    isplitl [HO]; · iexact HO
    iexact HS
  iintro ⟨HO, HS⟩
  iapply (sig_X C K c 73 (by omega) (by omega) _ (devN77 c _) exit_sem rfl) $$ [HO HS]
  · isplitr; · iexact HR
    isplitl [HO]; · iexact HO
    iexact HS
  iintro ⟨HO, HS⟩
  iapply (sig_X C K c 74 (by omega) (by omega) _ (devN78 c _) exit_sem rfl) $$ [HO HS]
  · isplitr; · iexact HR
    isplitl [HO]; · iexact HO
    iexact HS
  iintro ⟨HO, HS⟩
  rw [wp_ret]; imodintro
  ihave HQ2 := HQ $$ [HO HS]
  · isplitl [HO]; · iexact HO
    iexact HS
  iapply HQ2

theorem spec46 (c : Dev nD) (v2 v w : BitVec 32) {Q : _ → sProp 𝕄} :
    iprop(records C K ∗ OWs c 75 ∗ SigX (F := F) c 75 ∗ ((OWs c 81 ∗ SigX (F := F) c 81) -∗ ∀ r, Q r))
      ⊢ wp frame (wpE (defs₀ (F := F)) 𝒱₀ (c : Thread nD τ) none) Set.univ (k0_part46 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 c v2 v w) Q := by
  rw [k0_part46_eq_skeleton]; unfold k0_part46_skel
  simp only [semSignalWord, semWaitWord, Prog.lift, Prog.bind_op, Prog.bind_ret, Prog.pure_eq_ret, wp_deviceId]
  iintro ⟨#HR, HO, HS, HQ⟩
  iapply (sig_X C K c 75 (by omega) (by omega) _ (devN79 c _) exit_sem rfl) $$ [HO HS]
  · isplitr; · iexact HR
    isplitl [HO]; · iexact HO
    iexact HS
  iintro ⟨HO, HS⟩
  iapply (sig_X C K c 76 (by omega) (by omega) _ (devN80 c _) exit_sem rfl) $$ [HO HS]
  · isplitr; · iexact HR
    isplitl [HO]; · iexact HO
    iexact HS
  iintro ⟨HO, HS⟩
  iapply (sig_X C K c 77 (by omega) (by omega) _ (devN81 c _) exit_sem rfl) $$ [HO HS]
  · isplitr; · iexact HR
    isplitl [HO]; · iexact HO
    iexact HS
  iintro ⟨HO, HS⟩
  iapply (sig_X C K c 78 (by omega) (by omega) _ (devN82 c _) exit_sem rfl) $$ [HO HS]
  · isplitr; · iexact HR
    isplitl [HO]; · iexact HO
    iexact HS
  iintro ⟨HO, HS⟩
  iapply (sig_X C K c 79 (by omega) (by omega) _ (devN83 c _) exit_sem rfl) $$ [HO HS]
  · isplitr; · iexact HR
    isplitl [HO]; · iexact HO
    iexact HS
  iintro ⟨HO, HS⟩
  iapply (sig_X C K c 80 (by omega) (by omega) _ (devN84 c _) exit_sem rfl) $$ [HO HS]
  · isplitr; · iexact HR
    isplitl [HO]; · iexact HO
    iexact HS
  iintro ⟨HO, HS⟩
  rw [wp_ret]; imodintro
  ihave HQ2 := HQ $$ [HO HS]
  · isplitl [HO]; · iexact HO
    iexact HS
  iapply HQ2

theorem spec47 (c : Dev nD) (v2 v w : BitVec 32) {Q : _ → sProp 𝕄} :
    iprop(records C K ∗ OWs c 81 ∗ SigX (F := F) c 81 ∗ ((OWs c 87 ∗ SigX (F := F) c 87) -∗ ∀ r, Q r))
      ⊢ wp frame (wpE (defs₀ (F := F)) 𝒱₀ (c : Thread nD τ) none) Set.univ (k0_part47 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 c v2 v w) Q := by
  rw [k0_part47_eq_skeleton]; unfold k0_part47_skel
  simp only [semSignalWord, semWaitWord, Prog.lift, Prog.bind_op, Prog.bind_ret, Prog.pure_eq_ret, wp_deviceId]
  iintro ⟨#HR, HO, HS, HQ⟩
  iapply (sig_X C K c 81 (by omega) (by omega) _ (devN85 c _) exit_sem rfl) $$ [HO HS]
  · isplitr; · iexact HR
    isplitl [HO]; · iexact HO
    iexact HS
  iintro ⟨HO, HS⟩
  iapply (sig_X C K c 82 (by omega) (by omega) _ (devN86 c _) exit_sem rfl) $$ [HO HS]
  · isplitr; · iexact HR
    isplitl [HO]; · iexact HO
    iexact HS
  iintro ⟨HO, HS⟩
  iapply (sig_X C K c 83 (by omega) (by omega) _ (devN87 c _) exit_sem rfl) $$ [HO HS]
  · isplitr; · iexact HR
    isplitl [HO]; · iexact HO
    iexact HS
  iintro ⟨HO, HS⟩
  iapply (sig_X C K c 84 (by omega) (by omega) _ (devN88 c _) exit_sem rfl) $$ [HO HS]
  · isplitr; · iexact HR
    isplitl [HO]; · iexact HO
    iexact HS
  iintro ⟨HO, HS⟩
  iapply (sig_X C K c 85 (by omega) (by omega) _ (devN89 c _) exit_sem rfl) $$ [HO HS]
  · isplitr; · iexact HR
    isplitl [HO]; · iexact HO
    iexact HS
  iintro ⟨HO, HS⟩
  iapply (sig_X C K c 86 (by omega) (by omega) _ (devN90 c _) exit_sem rfl) $$ [HO HS]
  · isplitr; · iexact HR
    isplitl [HO]; · iexact HO
    iexact HS
  iintro ⟨HO, HS⟩
  rw [wp_ret]; imodintro
  ihave HQ2 := HQ $$ [HO HS]
  · isplitl [HO]; · iexact HO
    iexact HS
  iapply HQ2

theorem spec48 (c : Dev nD) (v2 v w : BitVec 32) {Q : _ → sProp 𝕄} :
    iprop(records C K ∗ OWs c 87 ∗ SigX (F := F) c 87 ∗ ((OWs c 93 ∗ SigX (F := F) c 93) -∗ ∀ r, Q r))
      ⊢ wp frame (wpE (defs₀ (F := F)) 𝒱₀ (c : Thread nD τ) none) Set.univ (k0_part48 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 c v2 v w) Q := by
  rw [k0_part48_eq_skeleton]; unfold k0_part48_skel
  simp only [semSignalWord, semWaitWord, Prog.lift, Prog.bind_op, Prog.bind_ret, Prog.pure_eq_ret, wp_deviceId]
  iintro ⟨#HR, HO, HS, HQ⟩
  iapply (sig_X C K c 87 (by omega) (by omega) _ (devN91 c _) exit_sem rfl) $$ [HO HS]
  · isplitr; · iexact HR
    isplitl [HO]; · iexact HO
    iexact HS
  iintro ⟨HO, HS⟩
  iapply (sig_X C K c 88 (by omega) (by omega) _ (devN92 c _) exit_sem rfl) $$ [HO HS]
  · isplitr; · iexact HR
    isplitl [HO]; · iexact HO
    iexact HS
  iintro ⟨HO, HS⟩
  iapply (sig_X C K c 89 (by omega) (by omega) _ (devN93 c _) exit_sem rfl) $$ [HO HS]
  · isplitr; · iexact HR
    isplitl [HO]; · iexact HO
    iexact HS
  iintro ⟨HO, HS⟩
  iapply (sig_X C K c 90 (by omega) (by omega) _ (devN94 c _) exit_sem rfl) $$ [HO HS]
  · isplitr; · iexact HR
    isplitl [HO]; · iexact HO
    iexact HS
  iintro ⟨HO, HS⟩
  iapply (sig_X C K c 91 (by omega) (by omega) _ (devN95 c _) exit_sem rfl) $$ [HO HS]
  · isplitr; · iexact HR
    isplitl [HO]; · iexact HO
    iexact HS
  iintro ⟨HO, HS⟩
  iapply (sig_X C K c 92 (by omega) (by omega) _ (devN96 c _) exit_sem rfl) $$ [HO HS]
  · isplitr; · iexact HR
    isplitl [HO]; · iexact HO
    iexact HS
  iintro ⟨HO, HS⟩
  rw [wp_ret]; imodintro
  ihave HQ2 := HQ $$ [HO HS]
  · isplitl [HO]; · iexact HO
    iexact HS
  iapply HQ2

end Cert.KernelIdealProof
-- ==== Proof.KernelIdeal.Cover.lean ====
/- The stores of the body cover its buffers, so the contents they leave do not depend on what was there. -/
module

public import proofs.«01_k».proof.Proof.KernelIdeal.Vals

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

theorem kv_w {o sz : Fin 4 → ℕ} {h : ∀ a, o a + sz a ≤ S2x2x128x256.size a} {f g : CKv F} {w : _ → Elt F _} {i : Shape.Idx S2x2x128x256}
    (H : ¬ (o 0 ≤ (i 0 : ℕ) ∧ (i 0 : ℕ) < o 0 + sz 0 ∧ o 1 ≤ (i 1 : ℕ) ∧ (i 1 : ℕ) < o 1 + sz 1 ∧ o 2 ≤ (i 2 : ℕ) ∧ (i 2 : ℕ) < o 2 + sz 2 ∧ o 3 ≤ (i 3 : ℕ) ∧ (i 3 : ℕ) < o 3 + sz 3) → f i = g i) :
    ((kvM : Memref sig .tc .vmem _ _).access (Rect.unit (s := S2x2x128x256) o sz h) : View sig .tc _ _ _).write (Elt F) f w Finset.univ i
      = ((kvM : Memref sig .tc .vmem _ _).access (Rect.unit (s := S2x2x128x256) o sz h) : View sig .tc _ _ _).write (Elt F) g w Finset.univ i := by
  refine View.write_congr (fun _ _ _ => rfl) fun hi => H fun hc => hi ?_
  have hs : ((kvM : Memref sig .tc .vmem _ _).access (Rect.unit (s := S2x2x128x256) o sz h) : View sig .tc _ _ _).setOn Finset.univ = (Rect.unit (s := S2x2x128x256) o sz h).set := View.set_slice_whole _ _
  rw [hs, Rect.mem_set_unit]
  intro a
  fin_cases a
  · exact ⟨hc.1, hc.2.1⟩
  · exact ⟨hc.2.2.1, hc.2.2.2.1⟩
  · exact ⟨hc.2.2.2.2.1, hc.2.2.2.2.2.1⟩
  · exact ⟨hc.2.2.2.2.2.2.1, hc.2.2.2.2.2.2.2⟩

theorem gl_w {o sz : Fin 4 → ℕ} {h : ∀ a, o a + sz a ≤ S3x2x32x256.size a} {f g : CGl F} {w : _ → Elt F _} {i : Shape.Idx S3x2x32x256}
    (H : ¬ (o 0 ≤ (i 0 : ℕ) ∧ (i 0 : ℕ) < o 0 + sz 0 ∧ o 1 ≤ (i 1 : ℕ) ∧ (i 1 : ℕ) < o 1 + sz 1 ∧ o 2 ≤ (i 2 : ℕ) ∧ (i 2 : ℕ) < o 2 + sz 2 ∧ o 3 ≤ (i 3 : ℕ) ∧ (i 3 : ℕ) < o 3 + sz 3) → f i = g i) :
    ((glM : Memref sig .tc .vmem _ _).access (Rect.unit (s := S3x2x32x256) o sz h) : View sig .tc _ _ _).write (Elt F) f w Finset.univ i
      = ((glM : Memref sig .tc .vmem _ _).access (Rect.unit (s := S3x2x32x256) o sz h) : View sig .tc _ _ _).write (Elt F) g w Finset.univ i := by
  refine View.write_congr (fun _ _ _ => rfl) fun hi => H fun hc => hi ?_
  have hs : ((glM : Memref sig .tc .vmem _ _).access (Rect.unit (s := S3x2x32x256) o sz h) : View sig .tc _ _ _).setOn Finset.univ = (Rect.unit (s := S3x2x32x256) o sz h).set := View.set_slice_whole _ _
  rw [hs, Rect.mem_set_unit]
  intro a
  fin_cases a
  · exact ⟨hc.1, hc.2.1⟩
  · exact ⟨hc.2.2.1, hc.2.2.2.1⟩
  · exact ⟨hc.2.2.2.2.1, hc.2.2.2.2.2.1⟩
  · exact ⟨hc.2.2.2.2.2.2.1, hc.2.2.2.2.2.2.2⟩

theorem ac_w {o sz : Fin 4 → ℕ} {h : ∀ a, o a + sz a ≤ S2x3x32x256.size a} {f g : CAc F} {w : _ → Elt F _} {i : Shape.Idx S2x3x32x256}
    (H : ¬ (o 0 ≤ (i 0 : ℕ) ∧ (i 0 : ℕ) < o 0 + sz 0 ∧ o 1 ≤ (i 1 : ℕ) ∧ (i 1 : ℕ) < o 1 + sz 1 ∧ o 2 ≤ (i 2 : ℕ) ∧ (i 2 : ℕ) < o 2 + sz 2 ∧ o 3 ≤ (i 3 : ℕ) ∧ (i 3 : ℕ) < o 3 + sz 3) → f i = g i) :
    ((acM : Memref sig .tc .vmem _ _).access (Rect.unit (s := S2x3x32x256) o sz h) : View sig .tc _ _ _).write (Elt F) f w Finset.univ i
      = ((acM : Memref sig .tc .vmem _ _).access (Rect.unit (s := S2x3x32x256) o sz h) : View sig .tc _ _ _).write (Elt F) g w Finset.univ i := by
  refine View.write_congr (fun _ _ _ => rfl) fun hi => H fun hc => hi ?_
  have hs : ((acM : Memref sig .tc .vmem _ _).access (Rect.unit (s := S2x3x32x256) o sz h) : View sig .tc _ _ _).setOn Finset.univ = (Rect.unit (s := S2x3x32x256) o sz h).set := View.set_slice_whole _ _
  rw [hs, Rect.mem_set_unit]
  intro a
  fin_cases a
  · exact ⟨hc.1, hc.2.1⟩
  · exact ⟨hc.2.2.1, hc.2.2.2.1⟩
  · exact ⟨hc.2.2.2.2.1, hc.2.2.2.2.2.1⟩
  · exact ⟨hc.2.2.2.2.2.2.1, hc.2.2.2.2.2.2.2⟩

theorem cx_w {o sz : Fin 3 → ℕ} {h : ∀ a, o a + sz a ≤ S2x128x256.size a} {f g : CCx F} {w : _ → Elt F _} {i : Shape.Idx S2x128x256}
    (H : ¬ (o 0 ≤ (i 0 : ℕ) ∧ (i 0 : ℕ) < o 0 + sz 0 ∧ o 1 ≤ (i 1 : ℕ) ∧ (i 1 : ℕ) < o 1 + sz 1 ∧ o 2 ≤ (i 2 : ℕ) ∧ (i 2 : ℕ) < o 2 + sz 2) → f i = g i) :
    ((cxM : Memref sig .tc .vmem _ _).access (Rect.unit (s := S2x128x256) o sz h) : View sig .tc _ _ _).write (Elt F) f w Finset.univ i
      = ((cxM : Memref sig .tc .vmem _ _).access (Rect.unit (s := S2x128x256) o sz h) : View sig .tc _ _ _).write (Elt F) g w Finset.univ i := by
  refine View.write_congr (fun _ _ _ => rfl) fun hi => H fun hc => hi ?_
  have hs : ((cxM : Memref sig .tc .vmem _ _).access (Rect.unit (s := S2x128x256) o sz h) : View sig .tc _ _ _).setOn Finset.univ = (Rect.unit (s := S2x128x256) o sz h).set := View.set_slice_whole _ _
  rw [hs, Rect.mem_set_unit]
  intro a
  fin_cases a
  · exact ⟨hc.1, hc.2.1⟩
  · exact ⟨hc.2.2.1, hc.2.2.2.1⟩
  · exact ⟨hc.2.2.2.2.1, hc.2.2.2.2.2⟩

theorem ou_w {o sz : Fin 3 → ℕ} {h : ∀ a, o a + sz a ≤ S2x128x512.size a} {f g : COu F} {w : _ → Elt F _} {i : Shape.Idx S2x128x512}
    (H : ¬ (o 0 ≤ (i 0 : ℕ) ∧ (i 0 : ℕ) < o 0 + sz 0 ∧ o 1 ≤ (i 1 : ℕ) ∧ (i 1 : ℕ) < o 1 + sz 1 ∧ o 2 ≤ (i 2 : ℕ) ∧ (i 2 : ℕ) < o 2 + sz 2) → f i = g i) :
    ((ouM : Memref sig .tc .vmem _ _).access (Rect.unit (s := S2x128x512) o sz h) : View sig .tc _ _ _).write (Elt F) f w Finset.univ i
      = ((ouM : Memref sig .tc .vmem _ _).access (Rect.unit (s := S2x128x512) o sz h) : View sig .tc _ _ _).write (Elt F) g w Finset.univ i := by
  refine View.write_congr (fun _ _ _ => rfl) fun hi => H fun hc => hi ?_
  have hs : ((ouM : Memref sig .tc .vmem _ _).access (Rect.unit (s := S2x128x512) o sz h) : View sig .tc _ _ _).setOn Finset.univ = (Rect.unit (s := S2x128x512) o sz h).set := View.set_slice_whole _ _
  rw [hs, Rect.mem_set_unit]
  intro a
  fin_cases a
  · exact ⟨hc.1, hc.2.1⟩
  · exact ⟨hc.2.2.1, hc.2.2.2.1⟩
  · exact ⟨hc.2.2.2.2.1, hc.2.2.2.2.2⟩

def kvAll (E : Env F) (f : CKv F) : CKv F := kv24 E (kv23 E (kv22 E (kv21 E (f))))
def acAll (E : Env F) (f : CAc F) : CAc F := ac34 E (ac33 E (ac32 E (ac31 E (ac30 E (ac29 E (ac28 E (ac27 E (ac26 E (f)))))))))
def cxAll (E : Env F) (f : CCx F) : CCx F := cx41 E (cx40 E (cx39 E (cx38 E (cx37 E (f)))))
/-- The stores cover the buffer: what was in it before does not matter. -/
theorem kvAll_indep (E : Env F) (f g : CKv F) : kvAll E f = kvAll E g := by
  funext i
  unfold kvAll kv24 kv23 kv22 kv21
  change Shape.Idx S2x2x128x256 at i
  refine kv_w fun (h0 : ¬ (1 ≤ (i 0 : ℕ) ∧ (i 0 : ℕ) < 1 + 1 ∧ 1 ≤ (i 1 : ℕ) ∧ (i 1 : ℕ) < 1 + 1 ∧ 0 ≤ (i 2 : ℕ) ∧ (i 2 : ℕ) < 0 + 128 ∧ 192 ≤ (i 3 : ℕ) ∧ (i 3 : ℕ) < 192 + 64)) => ?_
  refine kv_w fun (h1 : ¬ (0 ≤ (i 0 : ℕ) ∧ (i 0 : ℕ) < 0 + 1 ∧ 1 ≤ (i 1 : ℕ) ∧ (i 1 : ℕ) < 1 + 1 ∧ 0 ≤ (i 2 : ℕ) ∧ (i 2 : ℕ) < 0 + 128 ∧ 192 ≤ (i 3 : ℕ) ∧ (i 3 : ℕ) < 192 + 64)) => ?_
  refine kv_w fun (h2 : ¬ (1 ≤ (i 0 : ℕ) ∧ (i 0 : ℕ) < 1 + 1 ∧ 1 ≤ (i 1 : ℕ) ∧ (i 1 : ℕ) < 1 + 1 ∧ 0 ≤ (i 2 : ℕ) ∧ (i 2 : ℕ) < 0 + 128 ∧ 128 ≤ (i 3 : ℕ) ∧ (i 3 : ℕ) < 128 + 64)) => ?_
  refine kv_w fun (h3 : ¬ (0 ≤ (i 0 : ℕ) ∧ (i 0 : ℕ) < 0 + 1 ∧ 1 ≤ (i 1 : ℕ) ∧ (i 1 : ℕ) < 1 + 1 ∧ 0 ≤ (i 2 : ℕ) ∧ (i 2 : ℕ) < 0 + 128 ∧ 128 ≤ (i 3 : ℕ) ∧ (i 3 : ℕ) < 128 + 64)) => ?_
  refine kv_w fun (h4 : ¬ (1 ≤ (i 0 : ℕ) ∧ (i 0 : ℕ) < 1 + 1 ∧ 1 ≤ (i 1 : ℕ) ∧ (i 1 : ℕ) < 1 + 1 ∧ 0 ≤ (i 2 : ℕ) ∧ (i 2 : ℕ) < 0 + 128 ∧ 64 ≤ (i 3 : ℕ) ∧ (i 3 : ℕ) < 64 + 64)) => ?_
  refine kv_w fun (h5 : ¬ (0 ≤ (i 0 : ℕ) ∧ (i 0 : ℕ) < 0 + 1 ∧ 1 ≤ (i 1 : ℕ) ∧ (i 1 : ℕ) < 1 + 1 ∧ 0 ≤ (i 2 : ℕ) ∧ (i 2 : ℕ) < 0 + 128 ∧ 64 ≤ (i 3 : ℕ) ∧ (i 3 : ℕ) < 64 + 64)) => ?_
  refine kv_w fun (h6 : ¬ (1 ≤ (i 0 : ℕ) ∧ (i 0 : ℕ) < 1 + 1 ∧ 1 ≤ (i 1 : ℕ) ∧ (i 1 : ℕ) < 1 + 1 ∧ 0 ≤ (i 2 : ℕ) ∧ (i 2 : ℕ) < 0 + 128 ∧ 0 ≤ (i 3 : ℕ) ∧ (i 3 : ℕ) < 0 + 64)) => ?_
  refine kv_w fun (h7 : ¬ (0 ≤ (i 0 : ℕ) ∧ (i 0 : ℕ) < 0 + 1 ∧ 1 ≤ (i 1 : ℕ) ∧ (i 1 : ℕ) < 1 + 1 ∧ 0 ≤ (i 2 : ℕ) ∧ (i 2 : ℕ) < 0 + 128 ∧ 0 ≤ (i 3 : ℕ) ∧ (i 3 : ℕ) < 0 + 64)) => ?_
  refine kv_w fun (h8 : ¬ (1 ≤ (i 0 : ℕ) ∧ (i 0 : ℕ) < 1 + 1 ∧ 0 ≤ (i 1 : ℕ) ∧ (i 1 : ℕ) < 0 + 1 ∧ 0 ≤ (i 2 : ℕ) ∧ (i 2 : ℕ) < 0 + 128 ∧ 192 ≤ (i 3 : ℕ) ∧ (i 3 : ℕ) < 192 + 64)) => ?_
  refine kv_w fun (h9 : ¬ (0 ≤ (i 0 : ℕ) ∧ (i 0 : ℕ) < 0 + 1 ∧ 0 ≤ (i 1 : ℕ) ∧ (i 1 : ℕ) < 0 + 1 ∧ 0 ≤ (i 2 : ℕ) ∧ (i 2 : ℕ) < 0 + 128 ∧ 192 ≤ (i 3 : ℕ) ∧ (i 3 : ℕ) < 192 + 64)) => ?_
  refine kv_w fun (h10 : ¬ (1 ≤ (i 0 : ℕ) ∧ (i 0 : ℕ) < 1 + 1 ∧ 0 ≤ (i 1 : ℕ) ∧ (i 1 : ℕ) < 0 + 1 ∧ 0 ≤ (i 2 : ℕ) ∧ (i 2 : ℕ) < 0 + 128 ∧ 128 ≤ (i 3 : ℕ) ∧ (i 3 : ℕ) < 128 + 64)) => ?_
  refine kv_w fun (h11 : ¬ (0 ≤ (i 0 : ℕ) ∧ (i 0 : ℕ) < 0 + 1 ∧ 0 ≤ (i 1 : ℕ) ∧ (i 1 : ℕ) < 0 + 1 ∧ 0 ≤ (i 2 : ℕ) ∧ (i 2 : ℕ) < 0 + 128 ∧ 128 ≤ (i 3 : ℕ) ∧ (i 3 : ℕ) < 128 + 64)) => ?_
  refine kv_w fun (h12 : ¬ (1 ≤ (i 0 : ℕ) ∧ (i 0 : ℕ) < 1 + 1 ∧ 0 ≤ (i 1 : ℕ) ∧ (i 1 : ℕ) < 0 + 1 ∧ 0 ≤ (i 2 : ℕ) ∧ (i 2 : ℕ) < 0 + 128 ∧ 64 ≤ (i 3 : ℕ) ∧ (i 3 : ℕ) < 64 + 64)) => ?_
  refine kv_w fun (h13 : ¬ (0 ≤ (i 0 : ℕ) ∧ (i 0 : ℕ) < 0 + 1 ∧ 0 ≤ (i 1 : ℕ) ∧ (i 1 : ℕ) < 0 + 1 ∧ 0 ≤ (i 2 : ℕ) ∧ (i 2 : ℕ) < 0 + 128 ∧ 64 ≤ (i 3 : ℕ) ∧ (i 3 : ℕ) < 64 + 64)) => ?_
  refine kv_w fun (h14 : ¬ (1 ≤ (i 0 : ℕ) ∧ (i 0 : ℕ) < 1 + 1 ∧ 0 ≤ (i 1 : ℕ) ∧ (i 1 : ℕ) < 0 + 1 ∧ 0 ≤ (i 2 : ℕ) ∧ (i 2 : ℕ) < 0 + 128 ∧ 0 ≤ (i 3 : ℕ) ∧ (i 3 : ℕ) < 0 + 64)) => ?_
  refine kv_w fun (h15 : ¬ (0 ≤ (i 0 : ℕ) ∧ (i 0 : ℕ) < 0 + 1 ∧ 0 ≤ (i 1 : ℕ) ∧ (i 1 : ℕ) < 0 + 1 ∧ 0 ≤ (i 2 : ℕ) ∧ (i 2 : ℕ) < 0 + 128 ∧ 0 ≤ (i 3 : ℕ) ∧ (i 3 : ℕ) < 0 + 64)) => ?_
  exfalso
  have b0 : (i 0 : ℕ) < 2 := (i 0).isLt
  have b1 : (i 1 : ℕ) < 2 := (i 1).isLt
  have b2 : (i 2 : ℕ) < 128 := (i 2).isLt
  have b3 : (i 3 : ℕ) < 256 := (i 3).isLt
  generalize (i 0 : ℕ) = j0 at *
  generalize (i 1 : ℕ) = j1 at *
  generalize (i 2 : ℕ) = j2 at *
  generalize (i 3 : ℕ) = j3 at *
  have hc : (j0 = 0 ∧ j1 = 0) ∨ (j0 = 0 ∧ j1 = 1) ∨ (j0 = 1 ∧ j1 = 0) ∨ (j0 = 1 ∧ j1 = 1) := by omega
  rcases hc with ⟨rfl, rfl⟩ | ⟨rfl, rfl⟩ | ⟨rfl, rfl⟩ | ⟨rfl, rfl⟩
  · clear h0 h1 h2 h3 h4 h5 h6 h7 h8 h10 h12 h14; omega
  · clear h0 h2 h4 h6 h8 h9 h10 h11 h12 h13 h14 h15; omega
  · clear h0 h1 h2 h3 h4 h5 h6 h7 h9 h11 h13 h15; omega
  · clear h1 h3 h5 h7 h8 h9 h10 h11 h12 h13 h14 h15; omega

/-- The stores cover the buffer: what was in it before does not matter. -/
theorem gl1_indep (E : Env F) (f g : CGl F) : gl1 E (f) = gl1 E (g) := by
  funext i
  unfold gl1
  change Shape.Idx S3x2x32x256 at i
  refine gl_w fun (h0 : ¬ (2 ≤ (i 0 : ℕ) ∧ (i 0 : ℕ) < 2 + 1 ∧ 0 ≤ (i 1 : ℕ) ∧ (i 1 : ℕ) < 0 + 2 ∧ 0 ≤ (i 2 : ℕ) ∧ (i 2 : ℕ) < 0 + 32 ∧ 0 ≤ (i 3 : ℕ) ∧ (i 3 : ℕ) < 0 + 256)) => ?_
  refine gl_w fun (h1 : ¬ (1 ≤ (i 0 : ℕ) ∧ (i 0 : ℕ) < 1 + 1 ∧ 0 ≤ (i 1 : ℕ) ∧ (i 1 : ℕ) < 0 + 2 ∧ 0 ≤ (i 2 : ℕ) ∧ (i 2 : ℕ) < 0 + 32 ∧ 0 ≤ (i 3 : ℕ) ∧ (i 3 : ℕ) < 0 + 256)) => ?_
  refine gl_w fun (h2 : ¬ (0 ≤ (i 0 : ℕ) ∧ (i 0 : ℕ) < 0 + 1 ∧ 0 ≤ (i 1 : ℕ) ∧ (i 1 : ℕ) < 0 + 2 ∧ 0 ≤ (i 2 : ℕ) ∧ (i 2 : ℕ) < 0 + 32 ∧ 0 ≤ (i 3 : ℕ) ∧ (i 3 : ℕ) < 0 + 256)) => ?_
  exfalso
  have b0 : (i 0 : ℕ) < 3 := (i 0).isLt
  have b1 : (i 1 : ℕ) < 2 := (i 1).isLt
  have b2 : (i 2 : ℕ) < 32 := (i 2).isLt
  have b3 : (i 3 : ℕ) < 256 := (i 3).isLt
  generalize (i 0 : ℕ) = j0 at *
  generalize (i 1 : ℕ) = j1 at *
  generalize (i 2 : ℕ) = j2 at *
  generalize (i 3 : ℕ) = j3 at *
  have hc : (j0 = 0 ∧ j1 = 0) ∨ (j0 = 0 ∧ j1 = 1) ∨ (j0 = 1 ∧ j1 = 0) ∨ (j0 = 1 ∧ j1 = 1) ∨ (j0 = 2 ∧ j1 = 0) ∨ (j0 = 2 ∧ j1 = 1) := by omega
  rcases hc with ⟨rfl, rfl⟩ | ⟨rfl, rfl⟩ | ⟨rfl, rfl⟩ | ⟨rfl, rfl⟩ | ⟨rfl, rfl⟩ | ⟨rfl, rfl⟩
  · clear h0 h1; omega
  · clear h0 h1; omega
  · clear h0 h2; omega
  · clear h0 h2; omega
  · clear h1 h2; omega
  · clear h1 h2; omega

/-- The stores cover the buffer: what was in it before does not matter. -/
theorem acAll_indep (E : Env F) (f g : CAc F) : acAll E f = acAll E g := by
  funext i
  unfold acAll ac34 ac33 ac32 ac31 ac30 ac29 ac28 ac27 ac26
  change Shape.Idx S2x3x32x256 at i
  refine ac_w fun (h0 : ¬ (1 ≤ (i 0 : ℕ) ∧ (i 0 : ℕ) < 1 + 1 ∧ 2 ≤ (i 1 : ℕ) ∧ (i 1 : ℕ) < 2 + 1 ∧ 0 ≤ (i 2 : ℕ) ∧ (i 2 : ℕ) < 0 + 32 ∧ 192 ≤ (i 3 : ℕ) ∧ (i 3 : ℕ) < 192 + 64)) => ?_
  refine ac_w fun (h1 : ¬ (1 ≤ (i 0 : ℕ) ∧ (i 0 : ℕ) < 1 + 1 ∧ 1 ≤ (i 1 : ℕ) ∧ (i 1 : ℕ) < 1 + 1 ∧ 0 ≤ (i 2 : ℕ) ∧ (i 2 : ℕ) < 0 + 32 ∧ 192 ≤ (i 3 : ℕ) ∧ (i 3 : ℕ) < 192 + 64)) => ?_
  refine ac_w fun (h2 : ¬ (1 ≤ (i 0 : ℕ) ∧ (i 0 : ℕ) < 1 + 1 ∧ 0 ≤ (i 1 : ℕ) ∧ (i 1 : ℕ) < 0 + 1 ∧ 0 ≤ (i 2 : ℕ) ∧ (i 2 : ℕ) < 0 + 32 ∧ 192 ≤ (i 3 : ℕ) ∧ (i 3 : ℕ) < 192 + 64)) => ?_
  refine ac_w fun (h3 : ¬ (1 ≤ (i 0 : ℕ) ∧ (i 0 : ℕ) < 1 + 1 ∧ 2 ≤ (i 1 : ℕ) ∧ (i 1 : ℕ) < 2 + 1 ∧ 0 ≤ (i 2 : ℕ) ∧ (i 2 : ℕ) < 0 + 32 ∧ 128 ≤ (i 3 : ℕ) ∧ (i 3 : ℕ) < 128 + 64)) => ?_
  refine ac_w fun (h4 : ¬ (1 ≤ (i 0 : ℕ) ∧ (i 0 : ℕ) < 1 + 1 ∧ 1 ≤ (i 1 : ℕ) ∧ (i 1 : ℕ) < 1 + 1 ∧ 0 ≤ (i 2 : ℕ) ∧ (i 2 : ℕ) < 0 + 32 ∧ 128 ≤ (i 3 : ℕ) ∧ (i 3 : ℕ) < 128 + 64)) => ?_
  refine ac_w fun (h5 : ¬ (1 ≤ (i 0 : ℕ) ∧ (i 0 : ℕ) < 1 + 1 ∧ 0 ≤ (i 1 : ℕ) ∧ (i 1 : ℕ) < 0 + 1 ∧ 0 ≤ (i 2 : ℕ) ∧ (i 2 : ℕ) < 0 + 32 ∧ 128 ≤ (i 3 : ℕ) ∧ (i 3 : ℕ) < 128 + 64)) => ?_
  refine ac_w fun (h6 : ¬ (1 ≤ (i 0 : ℕ) ∧ (i 0 : ℕ) < 1 + 1 ∧ 2 ≤ (i 1 : ℕ) ∧ (i 1 : ℕ) < 2 + 1 ∧ 0 ≤ (i 2 : ℕ) ∧ (i 2 : ℕ) < 0 + 32 ∧ 64 ≤ (i 3 : ℕ) ∧ (i 3 : ℕ) < 64 + 64)) => ?_
  refine ac_w fun (h7 : ¬ (1 ≤ (i 0 : ℕ) ∧ (i 0 : ℕ) < 1 + 1 ∧ 1 ≤ (i 1 : ℕ) ∧ (i 1 : ℕ) < 1 + 1 ∧ 0 ≤ (i 2 : ℕ) ∧ (i 2 : ℕ) < 0 + 32 ∧ 64 ≤ (i 3 : ℕ) ∧ (i 3 : ℕ) < 64 + 64)) => ?_
  refine ac_w fun (h8 : ¬ (1 ≤ (i 0 : ℕ) ∧ (i 0 : ℕ) < 1 + 1 ∧ 0 ≤ (i 1 : ℕ) ∧ (i 1 : ℕ) < 0 + 1 ∧ 0 ≤ (i 2 : ℕ) ∧ (i 2 : ℕ) < 0 + 32 ∧ 64 ≤ (i 3 : ℕ) ∧ (i 3 : ℕ) < 64 + 64)) => ?_
  refine ac_w fun (h9 : ¬ (1 ≤ (i 0 : ℕ) ∧ (i 0 : ℕ) < 1 + 1 ∧ 2 ≤ (i 1 : ℕ) ∧ (i 1 : ℕ) < 2 + 1 ∧ 0 ≤ (i 2 : ℕ) ∧ (i 2 : ℕ) < 0 + 32 ∧ 0 ≤ (i 3 : ℕ) ∧ (i 3 : ℕ) < 0 + 64)) => ?_
  refine ac_w fun (h10 : ¬ (1 ≤ (i 0 : ℕ) ∧ (i 0 : ℕ) < 1 + 1 ∧ 1 ≤ (i 1 : ℕ) ∧ (i 1 : ℕ) < 1 + 1 ∧ 0 ≤ (i 2 : ℕ) ∧ (i 2 : ℕ) < 0 + 32 ∧ 0 ≤ (i 3 : ℕ) ∧ (i 3 : ℕ) < 0 + 64)) => ?_
  refine ac_w fun (h11 : ¬ (1 ≤ (i 0 : ℕ) ∧ (i 0 : ℕ) < 1 + 1 ∧ 0 ≤ (i 1 : ℕ) ∧ (i 1 : ℕ) < 0 + 1 ∧ 0 ≤ (i 2 : ℕ) ∧ (i 2 : ℕ) < 0 + 32 ∧ 0 ≤ (i 3 : ℕ) ∧ (i 3 : ℕ) < 0 + 64)) => ?_
  refine ac_w fun (h12 : ¬ (0 ≤ (i 0 : ℕ) ∧ (i 0 : ℕ) < 0 + 1 ∧ 2 ≤ (i 1 : ℕ) ∧ (i 1 : ℕ) < 2 + 1 ∧ 0 ≤ (i 2 : ℕ) ∧ (i 2 : ℕ) < 0 + 32 ∧ 192 ≤ (i 3 : ℕ) ∧ (i 3 : ℕ) < 192 + 64)) => ?_
  refine ac_w fun (h13 : ¬ (0 ≤ (i 0 : ℕ) ∧ (i 0 : ℕ) < 0 + 1 ∧ 1 ≤ (i 1 : ℕ) ∧ (i 1 : ℕ) < 1 + 1 ∧ 0 ≤ (i 2 : ℕ) ∧ (i 2 : ℕ) < 0 + 32 ∧ 192 ≤ (i 3 : ℕ) ∧ (i 3 : ℕ) < 192 + 64)) => ?_
  refine ac_w fun (h14 : ¬ (0 ≤ (i 0 : ℕ) ∧ (i 0 : ℕ) < 0 + 1 ∧ 0 ≤ (i 1 : ℕ) ∧ (i 1 : ℕ) < 0 + 1 ∧ 0 ≤ (i 2 : ℕ) ∧ (i 2 : ℕ) < 0 + 32 ∧ 192 ≤ (i 3 : ℕ) ∧ (i 3 : ℕ) < 192 + 64)) => ?_
  refine ac_w fun (h15 : ¬ (0 ≤ (i 0 : ℕ) ∧ (i 0 : ℕ) < 0 + 1 ∧ 2 ≤ (i 1 : ℕ) ∧ (i 1 : ℕ) < 2 + 1 ∧ 0 ≤ (i 2 : ℕ) ∧ (i 2 : ℕ) < 0 + 32 ∧ 128 ≤ (i 3 : ℕ) ∧ (i 3 : ℕ) < 128 + 64)) => ?_
  refine ac_w fun (h16 : ¬ (0 ≤ (i 0 : ℕ) ∧ (i 0 : ℕ) < 0 + 1 ∧ 1 ≤ (i 1 : ℕ) ∧ (i 1 : ℕ) < 1 + 1 ∧ 0 ≤ (i 2 : ℕ) ∧ (i 2 : ℕ) < 0 + 32 ∧ 128 ≤ (i 3 : ℕ) ∧ (i 3 : ℕ) < 128 + 64)) => ?_
  refine ac_w fun (h17 : ¬ (0 ≤ (i 0 : ℕ) ∧ (i 0 : ℕ) < 0 + 1 ∧ 0 ≤ (i 1 : ℕ) ∧ (i 1 : ℕ) < 0 + 1 ∧ 0 ≤ (i 2 : ℕ) ∧ (i 2 : ℕ) < 0 + 32 ∧ 128 ≤ (i 3 : ℕ) ∧ (i 3 : ℕ) < 128 + 64)) => ?_
  refine ac_w fun (h18 : ¬ (0 ≤ (i 0 : ℕ) ∧ (i 0 : ℕ) < 0 + 1 ∧ 2 ≤ (i 1 : ℕ) ∧ (i 1 : ℕ) < 2 + 1 ∧ 0 ≤ (i 2 : ℕ) ∧ (i 2 : ℕ) < 0 + 32 ∧ 64 ≤ (i 3 : ℕ) ∧ (i 3 : ℕ) < 64 + 64)) => ?_
  refine ac_w fun (h19 : ¬ (0 ≤ (i 0 : ℕ) ∧ (i 0 : ℕ) < 0 + 1 ∧ 1 ≤ (i 1 : ℕ) ∧ (i 1 : ℕ) < 1 + 1 ∧ 0 ≤ (i 2 : ℕ) ∧ (i 2 : ℕ) < 0 + 32 ∧ 64 ≤ (i 3 : ℕ) ∧ (i 3 : ℕ) < 64 + 64)) => ?_
  refine ac_w fun (h20 : ¬ (0 ≤ (i 0 : ℕ) ∧ (i 0 : ℕ) < 0 + 1 ∧ 0 ≤ (i 1 : ℕ) ∧ (i 1 : ℕ) < 0 + 1 ∧ 0 ≤ (i 2 : ℕ) ∧ (i 2 : ℕ) < 0 + 32 ∧ 64 ≤ (i 3 : ℕ) ∧ (i 3 : ℕ) < 64 + 64)) => ?_
  refine ac_w fun (h21 : ¬ (0 ≤ (i 0 : ℕ) ∧ (i 0 : ℕ) < 0 + 1 ∧ 2 ≤ (i 1 : ℕ) ∧ (i 1 : ℕ) < 2 + 1 ∧ 0 ≤ (i 2 : ℕ) ∧ (i 2 : ℕ) < 0 + 32 ∧ 0 ≤ (i 3 : ℕ) ∧ (i 3 : ℕ) < 0 + 64)) => ?_
  refine ac_w fun (h22 : ¬ (0 ≤ (i 0 : ℕ) ∧ (i 0 : ℕ) < 0 + 1 ∧ 1 ≤ (i 1 : ℕ) ∧ (i 1 : ℕ) < 1 + 1 ∧ 0 ≤ (i 2 : ℕ) ∧ (i 2 : ℕ) < 0 + 32 ∧ 0 ≤ (i 3 : ℕ) ∧ (i 3 : ℕ) < 0 + 64)) => ?_
  refine ac_w fun (h23 : ¬ (0 ≤ (i 0 : ℕ) ∧ (i 0 : ℕ) < 0 + 1 ∧ 0 ≤ (i 1 : ℕ) ∧ (i 1 : ℕ) < 0 + 1 ∧ 0 ≤ (i 2 : ℕ) ∧ (i 2 : ℕ) < 0 + 32 ∧ 0 ≤ (i 3 : ℕ) ∧ (i 3 : ℕ) < 0 + 64)) => ?_
  exfalso
  have b0 : (i 0 : ℕ) < 2 := (i 0).isLt
  have b1 : (i 1 : ℕ) < 3 := (i 1).isLt
  have b2 : (i 2 : ℕ) < 32 := (i 2).isLt
  have b3 : (i 3 : ℕ) < 256 := (i 3).isLt
  generalize (i 0 : ℕ) = j0 at *
  generalize (i 1 : ℕ) = j1 at *
  generalize (i 2 : ℕ) = j2 at *
  generalize (i 3 : ℕ) = j3 at *
  have hc : (j0 = 0 ∧ j1 = 0) ∨ (j0 = 0 ∧ j1 = 1) ∨ (j0 = 0 ∧ j1 = 2) ∨ (j0 = 1 ∧ j1 = 0) ∨ (j0 = 1 ∧ j1 = 1) ∨ (j0 = 1 ∧ j1 = 2) := by omega
  rcases hc with ⟨rfl, rfl⟩ | ⟨rfl, rfl⟩ | ⟨rfl, rfl⟩ | ⟨rfl, rfl⟩ | ⟨rfl, rfl⟩ | ⟨rfl, rfl⟩
  · clear h0 h1 h2 h3 h4 h5 h6 h7 h8 h9 h10 h11 h12 h13 h15 h16 h18 h19 h21 h22; omega
  · clear h0 h1 h2 h3 h4 h5 h6 h7 h8 h9 h10 h11 h12 h14 h15 h17 h18 h20 h21 h23; omega
  · clear h0 h1 h2 h3 h4 h5 h6 h7 h8 h9 h10 h11 h13 h14 h16 h17 h19 h20 h22 h23; omega
  · clear h0 h1 h3 h4 h6 h7 h9 h10 h12 h13 h14 h15 h16 h17 h18 h19 h20 h21 h22 h23; omega
  · clear h0 h2 h3 h5 h6 h8 h9 h11 h12 h13 h14 h15 h16 h17 h18 h19 h20 h21 h22 h23; omega
  · clear h1 h2 h4 h5 h7 h8 h10 h11 h12 h13 h14 h15 h16 h17 h18 h19 h20 h21 h22 h23; omega

/-- The stores cover the buffer: what was in it before does not matter. -/
theorem cxAll_indep (E : Env F) (f g : CCx F) : cxAll E f = cxAll E g := by
  funext i
  unfold cxAll cx41 cx40 cx39 cx38 cx37
  change Shape.Idx S2x128x256 at i
  refine cx_w fun (h0 : ¬ (1 ≤ (i 0 : ℕ) ∧ (i 0 : ℕ) < 1 + 1 ∧ 0 ≤ (i 1 : ℕ) ∧ (i 1 : ℕ) < 0 + 128 ∧ 192 ≤ (i 2 : ℕ) ∧ (i 2 : ℕ) < 192 + 64)) => ?_
  refine cx_w fun (h1 : ¬ (1 ≤ (i 0 : ℕ) ∧ (i 0 : ℕ) < 1 + 1 ∧ 0 ≤ (i 1 : ℕ) ∧ (i 1 : ℕ) < 0 + 128 ∧ 128 ≤ (i 2 : ℕ) ∧ (i 2 : ℕ) < 128 + 64)) => ?_
  refine cx_w fun (h2 : ¬ (1 ≤ (i 0 : ℕ) ∧ (i 0 : ℕ) < 1 + 1 ∧ 0 ≤ (i 1 : ℕ) ∧ (i 1 : ℕ) < 0 + 128 ∧ 64 ≤ (i 2 : ℕ) ∧ (i 2 : ℕ) < 64 + 64)) => ?_
  refine cx_w fun (h3 : ¬ (1 ≤ (i 0 : ℕ) ∧ (i 0 : ℕ) < 1 + 1 ∧ 0 ≤ (i 1 : ℕ) ∧ (i 1 : ℕ) < 0 + 128 ∧ 0 ≤ (i 2 : ℕ) ∧ (i 2 : ℕ) < 0 + 64)) => ?_
  refine cx_w fun (h4 : ¬ (0 ≤ (i 0 : ℕ) ∧ (i 0 : ℕ) < 0 + 1 ∧ 0 ≤ (i 1 : ℕ) ∧ (i 1 : ℕ) < 0 + 128 ∧ 192 ≤ (i 2 : ℕ) ∧ (i 2 : ℕ) < 192 + 64)) => ?_
  refine cx_w fun (h5 : ¬ (0 ≤ (i 0 : ℕ) ∧ (i 0 : ℕ) < 0 + 1 ∧ 0 ≤ (i 1 : ℕ) ∧ (i 1 : ℕ) < 0 + 128 ∧ 128 ≤ (i 2 : ℕ) ∧ (i 2 : ℕ) < 128 + 64)) => ?_
  refine cx_w fun (h6 : ¬ (0 ≤ (i 0 : ℕ) ∧ (i 0 : ℕ) < 0 + 1 ∧ 0 ≤ (i 1 : ℕ) ∧ (i 1 : ℕ) < 0 + 128 ∧ 64 ≤ (i 2 : ℕ) ∧ (i 2 : ℕ) < 64 + 64)) => ?_
  refine cx_w fun (h7 : ¬ (0 ≤ (i 0 : ℕ) ∧ (i 0 : ℕ) < 0 + 1 ∧ 0 ≤ (i 1 : ℕ) ∧ (i 1 : ℕ) < 0 + 128 ∧ 0 ≤ (i 2 : ℕ) ∧ (i 2 : ℕ) < 0 + 64)) => ?_
  exfalso
  have b0 : (i 0 : ℕ) < 2 := (i 0).isLt
  have b1 : (i 1 : ℕ) < 128 := (i 1).isLt
  have b2 : (i 2 : ℕ) < 256 := (i 2).isLt
  generalize (i 0 : ℕ) = j0 at *
  generalize (i 1 : ℕ) = j1 at *
  generalize (i 2 : ℕ) = j2 at *
  have hc : j0 = 0 ∨ j0 = 1 := by omega
  rcases hc with rfl | rfl
  · clear h0 h1 h2 h3; omega
  · clear h4 h5 h6 h7; omega

/-- The stores cover the buffer: what was in it before does not matter. -/
theorem ou43_indep (E : Env F) (x : CCx F) (f g : COu F) : ou43 E x f = ou43 E x g := by
  funext i
  unfold ou43
  change Shape.Idx S2x128x512 at i
  refine ou_w fun (h0 : ¬ (1 ≤ (i 0 : ℕ) ∧ (i 0 : ℕ) < 1 + 1 ∧ 0 ≤ (i 1 : ℕ) ∧ (i 1 : ℕ) < 0 + 128 ∧ 0 ≤ (i 2 : ℕ) ∧ (i 2 : ℕ) < 0 + 512)) => ?_
  refine ou_w fun (h1 : ¬ (0 ≤ (i 0 : ℕ) ∧ (i 0 : ℕ) < 0 + 1 ∧ 0 ≤ (i 1 : ℕ) ∧ (i 1 : ℕ) < 0 + 128 ∧ 0 ≤ (i 2 : ℕ) ∧ (i 2 : ℕ) < 0 + 512)) => ?_
  exfalso
  have b0 : (i 0 : ℕ) < 2 := (i 0).isLt
  have b1 : (i 1 : ℕ) < 128 := (i 1).isLt
  have b2 : (i 2 : ℕ) < 512 := (i 2).isLt
  generalize (i 0 : ℕ) = j0 at *
  generalize (i 1 : ℕ) = j1 at *
  generalize (i 2 : ℕ) = j2 at *
  have hc : j0 = 0 ∨ j0 = 1 := by omega
  rcases hc with rfl | rfl
  · clear h0; omega
  · clear h1; omega

end Cert.KernelIdealProof
-- ==== Proof.KernelIdeal.Contents.lean ====
/- The contents the kernel computes, from the devices' staged inputs. -/
module

public import proofs.«01_k».proof.Proof.KernelIdeal.Exit
public import proofs.«01_k».proof.Proof.KernelIdeal.Cover

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- The staged inputs of every device, and contents the scratch buffers may start from. -/
structure Ins (F : FTy → Type) where
  x0 : Dev nD → CX0 F
  x1 : Dev nD → CX1 F
  x2 : Dev nD → CX2 F
  x3 : Dev nD → CX3 F
  x4 : Dev nD → CX4 F
  b0 : CKv F
  b1 : CRc F
  b2 : CGl F
  b3 : CAc F
  b4 : CRd F
  b5 : CCx F
  b6 : COu F

variable (I : Ins F)

def mkE (c : Dev nD) (kv : CKv F) (gl : CGl F) (r0 r1 : CRc F) : Env F := ⟨c, I.x0 c, I.x1 c, I.x2 c, I.x3 c, I.x4 c, kv, gl, r0, r1⟩
/-- A device's K/V block. -/
def kvOf (c : Dev nD) : CKv F := kvAll (mkE I c I.b0 I.b2 I.b1 I.b1) I.b0
/-- Device 0's global rows. -/
def glOf : CGl F := gl1 (mkE I 0 (kvOf I 0) I.b2 I.b1 I.b1) I.b2
/-- A device's partial attention for the global rows. -/
def acc0 (c : Dev nD) : CAc F := acAll (mkE I c (kvOf I c) (glOf I) I.b1 I.b1) I.b3
def mkC (ac : Dev nD → CAc F) : Conts F := ⟨kvOf I, glOf I, ac, I.b1, I.b4⟩
/-- The merges of one device, its children's results as `ac` says. -/
def accStep (ac : Dev nD → CAc F) (c : Dev nD) : CAc F :=
  mst (mkC I ac) c 4 (mst (mkC I ac) c 3 (mst (mkC I ac) c 2 (mst (mkC I ac) c 1 (mst (mkC I ac) c 0 (acc0 I c)))))
def accN : ℕ → Dev nD → CAc F
  | 0 => acc0 I
  | n + 1 => accStep I (accN n)
/-- What the transfers carry. -/
def CC : Conts F := mkC I (accN I 6)
/-- What a device works from. -/
def EE (c : Dev nD) : Env F := mkE I c (kvOf I c) (glOf I) (rcLand (CC I) c 0) (rcLand (CC I) c 1)
/-- The kernel's result on a device. -/
def outOf (c : Dev nD) : COu F := ou43 (EE I c) (cxE c (accN I 6 c) (cxAll (EE I c) I.b5)) I.b6

theorem tz_sh : ∀ (c : Dev nD), (0 < tz c → tz (sh c 1) = 0) ∧ (1 < tz c → tz (sh c 2) = 1) ∧ (2 < tz c → tz (sh c 4) = 2)
    ∧ (3 < tz c → tz (sh c 8) = 3) ∧ (4 < tz c → tz (sh c 16) = 4) := by decide

theorem mst_congr (C C' : Conts F) (h4 : C.rd0 = C'.rd0) (c : Dev nD) (n : ℕ) (hc : tz c < n + 1) (h : ∀ d, tz d < n → C.ac d = C'.ac d) (k : ℕ) (hk : k < 5) (a : CAc F) :
    mst C c k a = mst C' c k a := by
  obtain ⟨t0, t1, t2, t3, t4⟩ := tz_sh c
  unfold mst
  by_cases h' : k < tz c
  · rw [if_pos h', if_pos h']
    have : rdLand C c k = rdLand C' c k := by
      obtain rfl | rfl | rfl | rfl | rfl : k = 0 ∨ k = 1 ∨ k = 2 ∨ k = 3 ∨ k = 4 := by omega
      · show rdS0.view.write (Elt F) C.rd0 (C.ac (sh c 1)) Finset.univ = rdS0.view.write (Elt F) C'.rd0 (C'.ac (sh c 1)) Finset.univ
        rw [h4, h _ (by rw [t0 h']; omega)]
      · show rdS1.view.write (Elt F) C.rd0 (C.ac (sh c 2)) Finset.univ = rdS1.view.write (Elt F) C'.rd0 (C'.ac (sh c 2)) Finset.univ
        rw [h4, h _ (by rw [t1 h']; omega)]
      · show rdS2.view.write (Elt F) C.rd0 (C.ac (sh c 4)) Finset.univ = rdS2.view.write (Elt F) C'.rd0 (C'.ac (sh c 4)) Finset.univ
        rw [h4, h _ (by rw [t2 h']; omega)]
      · show rdS3.view.write (Elt F) C.rd0 (C.ac (sh c 8)) Finset.univ = rdS3.view.write (Elt F) C'.rd0 (C'.ac (sh c 8)) Finset.univ
        rw [h4, h _ (by rw [t3 h']; omega)]
      · show rdS4.view.write (Elt F) C.rd0 (C.ac (sh c 16)) Finset.univ = rdS4.view.write (Elt F) C'.rd0 (C'.ac (sh c 16)) Finset.univ
        rw [h4, h _ (by rw [t4 h']; omega)]
    rw [this]
  · rw [if_neg h', if_neg h']

theorem accStep_congr (a a' : Dev nD → CAc F) (c : Dev nD) (n : ℕ) (hc : tz c < n + 1) (h : ∀ d, tz d < n → a d = a' d) : accStep I a c = accStep I a' c := by
  have hm := fun k hk x => mst_congr (mkC I a) (mkC I a') rfl c n hc h k hk x
  unfold accStep
  rw [hm 0 (by omega), hm 1 (by omega), hm 2 (by omega), hm 3 (by omega), hm 4 (by omega)]

theorem accN_fix (n : ℕ) : ∀ c, tz c < n → accN I (n + 1) c = accN I n c := by
  induction n with
  | zero => intro c hc; omega
  | succ n ih => intro c hc; exact accStep_congr I _ _ c n hc ih

theorem tz_lt6 : ∀ c : Dev nD, tz c < 6 := by decide

/-- The merges settle: every device's result is its merges of its children's results. -/
theorem ac_eq (c : Dev nD) : (CC I).ac c = mst (CC I) c 4 (mst (CC I) c 3 (mst (CC I) c 2 (mst (CC I) c 1 (mst (CC I) c 0 (acc0 I c))))) :=
  (accN_fix I 6 c (tz_lt6 c)).symm

theorem EE_kv (c : Dev nD) (f : CKv F) : kv24 (EE I c) (kv23 (EE I c) (kv22 (EE I c) (kv21 (EE I c) f))) = (CC I).kv c :=
  kvAll_indep (mkE I c I.b0 I.b2 I.b1 I.b1) f I.b0
theorem EE_gl (c : Dev nD) (hc : c = 0) (f : CGl F) : gl1 (EE I c) f = (CC I).gl := by
  subst hc; exact gl1_indep (mkE I 0 (kvOf I 0) I.b2 I.b1 I.b1) f I.b2
theorem EE_ac (c : Dev nD) (f : CAc F) : acAll (EE I c) f = acc0 I c :=
  acAll_indep (mkE I c (kvOf I c) (glOf I) I.b1 I.b1) f I.b3
theorem EE_cx (c : Dev nD) (f : CCx F) : cxAll (EE I c) f = cxAll (EE I c) I.b5 := cxAll_indep _ _ _

end Cert.KernelIdealProof
-- ==== Proof.KernelIdeal.Math.lean ====
/- Softmax over a set of columns in the extended reals: over relabelled slots, over a union, and divided at the end. -/
module

public import Idealize.ShloMosaic.Lib.Pointwise

@[expose] public section

noncomputable section

namespace Cert.KernelIdealProof

open Idealize.ShloMosaic

/-- The value is a real number. -/
def IsR (x : EReal) : Prop := ∃ r : ℝ, x = (r : EReal)

theorem IsR.mul {x y : EReal} (hx : IsR x) (hy : IsR y) : IsR (x * y) := by
  obtain ⟨a, rfl⟩ := hx; obtain ⟨b, rfl⟩ := hy; exact ⟨a * b, (EReal.coe_mul a b).symm⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.zero : IsR 0 := ⟨0, rfl⟩
theorem IsR.sum {ι : Type} (A : Finset ι) {f : ι → EReal} (h : ∀ i ∈ A, IsR (f i)) : IsR (∑ i ∈ A, f i) := by
  classical
  induction A using Finset.induction_on with
  | empty => simpa using IsR.zero
  | insert a A ha ih =>
    rw [Finset.sum_insert ha]
    exact (h a (Finset.mem_insert_self a A)).add (ih fun i hi => h i (Finset.mem_insert_of_mem hi))

theorem coe_sum {ι : Type} (A : Finset ι) (f : ι → ℝ) : (∑ i ∈ A, ((f i : ℝ) : EReal)) = ((∑ i ∈ A, f i : ℝ) : EReal) := by
  classical
  induction A using Finset.induction_on with
  | empty => simp
  | insert a A ha ih => rw [Finset.sum_insert ha, Finset.sum_insert ha, ih, EReal.coe_add]

theorem sum_mul_r {ι : Type} (A : Finset ι) (f : ι → EReal) {a : ℝ} (ha : 0 ≤ a) : (∑ i ∈ A, f i) * (a : EReal) = ∑ i ∈ A, f i * (a : EReal) := by
  classical
  induction A using Finset.induction_on with
  | empty => simp
  | insert i A hi ih =>
    rw [Finset.sum_insert hi, Finset.sum_insert hi, ← ih]
    exact EReal.right_distrib_of_nonneg_of_ne_top (EReal.coe_nonneg.2 ha) (EReal.coe_ne_top a) _ _

section Softmax
variable {ι κ : Type}

/-- The largest score of a set of columns. -/
def smx (A : Finset ι) (s : ι → EReal) : EReal := A.sup s
/-- The sum of the exponentials of a set of columns, relative to the largest score. -/
def sml (A : Finset ι) (s : ι → EReal) : EReal := ∑ j ∈ A, Ideal.exp (s j - smx A s)
/-- The sum of the values weighted by those exponentials. -/
def smo (A : Finset ι) (s v : ι → EReal) : EReal := ∑ j ∈ A, Ideal.exp (s j - smx A s) * v j
/-- The softmax average of the values over a set of columns. -/
def sma (A : Finset ι) (s v : ι → EReal) : EReal := ∑ j ∈ A, Ideal.div (Ideal.exp (s j - smx A s)) (sml A s) * v j

variable {A B : Finset ι} {s v : ι → EReal}

theorem smx_real (hA : A.Nonempty) (hs : ∀ j ∈ A, IsR (s j)) : IsR (smx A s) := by
  obtain ⟨j, hj, e⟩ := Finset.exists_mem_eq_sup A hA s
  rw [smx, e]; exact hs j hj

theorem exp_real {x m : EReal} (hx : IsR x) (hm : IsR m) : ∃ r : ℝ, 0 < r ∧ Ideal.exp (x - m) = (r : EReal) := by
  obtain ⟨a, rfl⟩ := hx; obtain ⟨b, rfl⟩ := hm
  exact ⟨Real.exp (a - b), Real.exp_pos _, by rw [← EReal.coe_sub, Ideal.exp_coe]⟩

theorem exp_shift {x m k : EReal} (hx : IsR x) (hm : IsR m) (hk : IsR k) : Ideal.exp (x - m) * Ideal.exp (m - k) = Ideal.exp (x - k) := by
  obtain ⟨a, rfl⟩ := hx; obtain ⟨b, rfl⟩ := hm; obtain ⟨c, rfl⟩ := hk
  rw [← EReal.coe_sub, ← EReal.coe_sub, ← EReal.coe_sub, Ideal.exp_coe, Ideal.exp_coe, Ideal.exp_coe, ← EReal.coe_mul, ← Real.exp_add]
  congr 2; ring

theorem sml_real (hA : A.Nonempty) (hs : ∀ j ∈ A, IsR (s j)) : ∃ r : ℝ, 0 < r ∧ sml A s = (r : EReal) := by
  have hm := smx_real hA hs
  have h : ∀ j : ι, ∃ r : ℝ, j ∈ A → (0 < r ∧ Ideal.exp (s j - smx A s) = (r : EReal)) := fun j => by
    by_cases hj : j ∈ A
    · obtain ⟨r, h⟩ := exp_real (hs j hj) hm; exact ⟨r, fun _ => h⟩
    · exact ⟨0, fun h => absurd h hj⟩
  choose r hr using h
  refine ⟨∑ j ∈ A, r j, Finset.sum_pos (fun j hj => (hr j hj).1) hA, ?_⟩
  rw [← coe_sum]
  exact Finset.sum_congr rfl fun j hj => (hr j hj).2

/-- Dividing the weighted sum at the end is averaging with the divided weights. -/
theorem div_smo (hA : A.Nonempty) (hs : ∀ j ∈ A, IsR (s j)) : Ideal.div (smo A s v) (sml A s) = sma A s v := by
  obtain ⟨r, h0, e⟩ := sml_real hA hs
  rw [sma, e, Ideal.div_coe (ne_of_gt h0), smo, sum_mul_r _ _ (le_of_lt (one_div_pos.2 h0))]
  refine Finset.sum_congr rfl fun j _ => ?_
  rw [Ideal.div_coe (ne_of_gt h0), mul_right_comm]

variable [DecidableEq ι]

theorem smx_union : smx (A ∪ B) s = max (smx A s) (smx B s) := Finset.sup_union

theorem sml_union (hA : A.Nonempty) (hB : B.Nonempty) (hs : ∀ j ∈ A ∪ B, IsR (s j)) (hd : Disjoint A B) :
    sml (A ∪ B) s = sml A s * Ideal.exp (smx A s - smx (A ∪ B) s) + sml B s * Ideal.exp (smx B s - smx (A ∪ B) s) := by
  have hsA : ∀ j ∈ A, IsR (s j) := fun j h => hs j (Finset.mem_union_left _ h)
  have hsB : ∀ j ∈ B, IsR (s j) := fun j h => hs j (Finset.mem_union_right _ h)
  have mA := smx_real hA hsA
  have mB := smx_real hB hsB
  have mU := smx_real (hA.mono Finset.subset_union_left) hs
  obtain ⟨a, a0, ea⟩ := exp_real mA mU
  obtain ⟨b, b0, eb⟩ := exp_real mB mU
  rw [ea, eb, sml, Finset.sum_union hd, sml, sml, sum_mul_r _ _ (le_of_lt a0), sum_mul_r _ _ (le_of_lt b0), ← ea, ← eb]
  congr 1
  · exact Finset.sum_congr rfl fun j hj => (exp_shift (hsA j hj) mA mU).symm
  · exact Finset.sum_congr rfl fun j hj => (exp_shift (hsB j hj) mB mU).symm

theorem smo_union (hA : A.Nonempty) (hB : B.Nonempty) (hs : ∀ j ∈ A ∪ B, IsR (s j)) (hd : Disjoint A B) :
    smo (A ∪ B) s v = smo A s v * Ideal.exp (smx A s - smx (A ∪ B) s) + smo B s v * Ideal.exp (smx B s - smx (A ∪ B) s) := by
  have hsA : ∀ j ∈ A, IsR (s j) := fun j h => hs j (Finset.mem_union_left _ h)
  have hsB : ∀ j ∈ B, IsR (s j) := fun j h => hs j (Finset.mem_union_right _ h)
  have mA := smx_real hA hsA
  have mB := smx_real hB hsB
  have mU := smx_real (hA.mono Finset.subset_union_left) hs
  obtain ⟨a, a0, ea⟩ := exp_real mA mU
  obtain ⟨b, b0, eb⟩ := exp_real mB mU
  rw [ea, eb, smo, Finset.sum_union hd, smo, smo, sum_mul_r _ _ (le_of_lt a0), sum_mul_r _ _ (le_of_lt b0), ← ea, ← eb]
  congr 1
  · exact Finset.sum_congr rfl fun j hj => by rw [mul_right_comm, exp_shift (hsA j hj) mA mU]
  · exact Finset.sum_congr rfl fun j hj => by rw [mul_right_comm, exp_shift (hsB j hj) mB mU]

/-- The masked softmax as the kernels write it, over slots: unmasked slots hold the score, the others the bottom element. -/
def msk (p : κ → Prop) [DecidablePred p] (t : κ → EReal) (j : κ) : EReal := if p j then t j else ⊥

variable [Fintype κ] [DecidableEq κ] {p : κ → Prop} [DecidablePred p] {t w : κ → EReal} {g : κ → ι}

theorem fold_msk (hg : (Finset.univ.filter p).image g = A) (ht : ∀ j, p j → t j = s (g j)) :
    Finset.univ.fold max ⊥ (msk p t) = smx A s := by
  have h1 : Finset.univ.fold max ⊥ (msk p t) = Finset.univ.sup (msk p t) := rfl
  rw [h1, smx, ← hg, Finset.sup_image]
  apply le_antisymm
  · refine Finset.sup_le fun j _ => ?_
    rw [msk]; split
    · rename_i h
      rw [ht j h]; exact Finset.le_sup (f := s ∘ g) (Finset.mem_filter.2 ⟨Finset.mem_univ j, h⟩)
    · exact bot_le
  · refine Finset.sup_le fun j hj => ?_
    have h := (Finset.mem_filter.1 hj).2
    have : (s ∘ g) j = msk p t j := by rw [msk, if_pos h, ht j h]; rfl
    rw [this]; exact Finset.le_sup (f := msk p t) (Finset.mem_univ j)

theorem sum_msk (f : EReal → EReal) (hg : (Finset.univ.filter p).image g = A) (hi : ∀ i j, p i → p j → g i = g j → i = j) (ht : ∀ j, p j → t j = s (g j))
    {u : κ → EReal → EReal} {u' : ι → EReal → EReal} (h0 : ∀ j, ¬ p j → u j ⊥ = 0) (hu : ∀ j x, p j → u j x = u' (g j) x) :
    (∑ j, u j (msk p t j)) = ∑ j ∈ A, u' j (s j) := by
  rw [← hg, Finset.sum_image fun i hi' j hj h => hi i j (Finset.mem_filter.1 hi').2 (Finset.mem_filter.1 hj).2 h, Finset.sum_filter]
  refine Finset.sum_congr rfl fun j _ => ?_
  rw [msk]; split
  · rename_i h; rw [ht j h, hu j _ h]
  · rename_i h; exact h0 j h

theorem bot_sub_r {m : EReal} (hm : IsR m) : Ideal.exp (⊥ - m) = 0 := by
  obtain ⟨a, rfl⟩ := hm
  rw [EReal.bot_sub, Ideal.exp_bot]

/-- The masked softmax over slots is the softmax over the set of columns the unmasked slots name, each once. -/
theorem attn_msk (hA : A.Nonempty) (hs : ∀ j ∈ A, IsR (s j)) (hg : (Finset.univ.filter p).image g = A) (hi : ∀ i j, p i → p j → g i = g j → i = j)
    (ht : ∀ j, p j → t j = s (g j)) (hw : ∀ j, p j → w j = v (g j)) :
    (∑ j, Ideal.div (Ideal.exp (msk p t j - Finset.univ.fold max ⊥ (msk p t))) (∑ k, Ideal.exp (msk p t k - Finset.univ.fold max ⊥ (msk p t))) * w j) = sma A s v := by
  have hm := smx_real hA hs
  rw [fold_msk hg ht]
  have hl : (∑ k, Ideal.exp (msk p t k - smx A s)) = sml A s :=
    sum_msk id hg hi ht (u := fun _ x => Ideal.exp (x - smx A s)) (u' := fun _ x => Ideal.exp (x - smx A s)) (fun _ _ => bot_sub_r hm) (fun _ _ _ => rfl)
  rw [hl]
  obtain ⟨r, h0, e⟩ := sml_real hA hs
  exact sum_msk id hg hi ht (u := fun j x => Ideal.div (Ideal.exp (x - smx A s)) (sml A s) * w j) (u' := fun j x => Ideal.div (Ideal.exp (x - smx A s)) (sml A s) * v j)
    (fun j _ => by rw [bot_sub_r hm, e, Ideal.div_coe (ne_of_gt h0), zero_mul, zero_mul]) (fun j x h => by rw [hw j h])

end Softmax

end Cert.KernelIdealProof
-- ==== Proof.KernelIdeal.At.lean ====
/- Reading a load from a whole buffer, and a buffer after stores, at an index. -/
module

public import proofs.«01_k».proof.Proof.KernelIdeal.Contents
public import proofs.«01_k».proof.Proof.KernelIdeal.Math

@[expose] public section

set_option maxRecDepth 16384

noncomputable section

namespace Cert.KernelIdealProof

open Cert.KernelIdeal Cert.KernelIdeal.Gen
open Idealize.ShloMosaic
open Idealize.ShloMosaic.TcCoe

theorem rd_at {Val : EltTy → Type} {b : Ref sig .tc} (f : b.ty.Contents Val) {o sz : Fin b.ty.shape.rank → ℕ} {h : ∀ a, o a + sz a ≤ b.ty.shape.size a} {j : (Rect.unit (s := b.ty.shape) o sz h).toLoadRect.shape.Idx} {i : b.ty.shape.Idx}
    (e : ∀ a, (i a : ℕ) = o a + (j a : ℕ)) : (Memref.whole b).view.readAt Val (Rect.unit (s := b.ty.shape) o sz h).toLoadRect f j = f i := by
  have : i = (Rect.unit (s := b.ty.shape) o sz h).toLoadRect.idx j := by
    funext a
    apply Fin.ext
    rw [e a]
    exact (congrArg (fun z => o a + z) (Nat.one_mul (j a : ℕ))).symm
  subst this
  rfl

theorem wr_at {Val : EltTy → Type} {b : Ref sig .tc} {f G : b.ty.Contents Val} {o sz : Fin b.ty.shape.rank → ℕ} {h : ∀ a, o a + sz a ≤ b.ty.shape.size a} {w : (Rect.unit (s := b.ty.shape) o sz h).shape.Idx → Val b.ty.elt} {i : b.ty.shape.Idx}
    (H1 : ∀ (j : (Rect.unit (s := b.ty.shape) o sz h).shape.Idx) (i : b.ty.shape.Idx), (∀ a, (i a : ℕ) = o a + (j a : ℕ)) → w j = G i)
    (H2 : ¬ (∀ a, o a ≤ (i a : ℕ) ∧ (i a : ℕ) < o a + sz a) → f i = G i) :
    ((Memref.whole b).access (Rect.unit (s := b.ty.shape) o sz h) : View sig .tc _ _ _).write Val f w Finset.univ i = G i := by
  have hs : ((Memref.whole b).access (Rect.unit (s := b.ty.shape) o sz h) : View sig .tc _ _ _).setOn Finset.univ = (Rect.unit (s := b.ty.shape) o sz h).set := View.set_slice_whole _ _
  by_cases hi : i ∈ ((Memref.whole b).access (Rect.unit (s := b.ty.shape) o sz h) : View sig .tc _ _ _).setOn Finset.univ
  · obtain ⟨x, hx, rfl⟩ := Finset.mem_map.mp hi
    rw [View.write_emb_of_mem _ _ hx]
    refine Eq.trans ?_ (H1 x _ fun a => ?_)
    · rfl
    · exact (congrArg (fun z => o a + z) (Nat.one_mul (x a : ℕ)))
  · rw [View.write_of_not_mem _ _ _ hi]
    refine H2 fun hc => hi ?_
    rw [hs, Rect.mem_set_unit]
    exact hc

theorem kv_wr {o sz : Fin 4 → ℕ} {h : ∀ a, o a + sz a ≤ S2x2x128x256.size a} {f : CKv Ideal} {w : _ → Elt Ideal _} {i : Shape.Idx S2x2x128x256} (G : CKv Ideal)
    (H1 : ∀ (j : (Rect.unit (s := S2x2x128x256) o sz h).shape.Idx) (i : Shape.Idx S2x2x128x256), (∀ a, (i a : ℕ) = o a + (j a : ℕ)) → w j = G i)
    (H2 : ¬ (o 0 ≤ (i 0 : ℕ) ∧ (i 0 : ℕ) < o 0 + sz 0 ∧ o 1 ≤ (i 1 : ℕ) ∧ (i 1 : ℕ) < o 1 + sz 1 ∧ o 2 ≤ (i 2 : ℕ) ∧ (i 2 : ℕ) < o 2 + sz 2 ∧ o 3 ≤ (i 3 : ℕ) ∧ (i 3 : ℕ) < o 3 + sz 3) → f i = G i) :
    ((kvM : Memref sig .tc .vmem _ _).access (Rect.unit (s := S2x2x128x256) o sz h) : View sig .tc _ _ _).write (Elt Ideal) f w Finset.univ i = G i :=
  wr_at H1 fun hn => H2 fun hc => hn fun a => by
    fin_cases a
    · exact ⟨hc.1, hc.2.1⟩
    · exact ⟨hc.2.2.1, hc.2.2.2.1⟩
    · exact ⟨hc.2.2.2.2.1, hc.2.2.2.2.2.1⟩
    · exact ⟨hc.2.2.2.2.2.2.1, hc.2.2.2.2.2.2.2⟩

theorem gl_wr {o sz : Fin 4 → ℕ} {h : ∀ a, o a + sz a ≤ S3x2x32x256.size a} {f : CGl Ideal} {w : _ → Elt Ideal _} {i : Shape.Idx S3x2x32x256} (G : CGl Ideal)
    (H1 : ∀ (j : (Rect.unit (s := S3x2x32x256) o sz h).shape.Idx) (i : Shape.Idx S3x2x32x256), (∀ a, (i a : ℕ) = o a + (j a : ℕ)) → w j = G i)
    (H2 : ¬ (o 0 ≤ (i 0 : ℕ) ∧ (i 0 : ℕ) < o 0 + sz 0 ∧ o 1 ≤ (i 1 : ℕ) ∧ (i 1 : ℕ) < o 1 + sz 1 ∧ o 2 ≤ (i 2 : ℕ) ∧ (i 2 : ℕ) < o 2 + sz 2 ∧ o 3 ≤ (i 3 : ℕ) ∧ (i 3 : ℕ) < o 3 + sz 3) → f i = G i) :
    ((glM : Memref sig .tc .vmem _ _).access (Rect.unit (s := S3x2x32x256) o sz h) : View sig .tc _ _ _).write (Elt Ideal) f w Finset.univ i = G i :=
  wr_at H1 fun hn => H2 fun hc => hn fun a => by
    fin_cases a
    · exact ⟨hc.1, hc.2.1⟩
    · exact ⟨hc.2.2.1, hc.2.2.2.1⟩
    · exact ⟨hc.2.2.2.2.1, hc.2.2.2.2.2.1⟩
    · exact ⟨hc.2.2.2.2.2.2.1, hc.2.2.2.2.2.2.2⟩

theorem ac_wr {o sz : Fin 4 → ℕ} {h : ∀ a, o a + sz a ≤ S2x3x32x256.size a} {f : CAc Ideal} {w : _ → Elt Ideal _} {i : Shape.Idx S2x3x32x256} (G : CAc Ideal)
    (H1 : ∀ (j : (Rect.unit (s := S2x3x32x256) o sz h).shape.Idx) (i : Shape.Idx S2x3x32x256), (∀ a, (i a : ℕ) = o a + (j a : ℕ)) → w j = G i)
    (H2 : ¬ (o 0 ≤ (i 0 : ℕ) ∧ (i 0 : ℕ) < o 0 + sz 0 ∧ o 1 ≤ (i 1 : ℕ) ∧ (i 1 : ℕ) < o 1 + sz 1 ∧ o 2 ≤ (i 2 : ℕ) ∧ (i 2 : ℕ) < o 2 + sz 2 ∧ o 3 ≤ (i 3 : ℕ) ∧ (i 3 : ℕ) < o 3 + sz 3) → f i = G i) :
    ((acM : Memref sig .tc .vmem _ _).access (Rect.unit (s := S2x3x32x256) o sz h) : View sig .tc _ _ _).write (Elt Ideal) f w Finset.univ i = G i :=
  wr_at H1 fun hn => H2 fun hc => hn fun a => by
    fin_cases a
    · exact ⟨hc.1, hc.2.1⟩
    · exact ⟨hc.2.2.1, hc.2.2.2.1⟩
    · exact ⟨hc.2.2.2.2.1, hc.2.2.2.2.2.1⟩
    · exact ⟨hc.2.2.2.2.2.2.1, hc.2.2.2.2.2.2.2⟩

theorem cx_wr {o sz : Fin 3 → ℕ} {h : ∀ a, o a + sz a ≤ S2x128x256.size a} {f : CCx Ideal} {w : _ → Elt Ideal _} {i : Shape.Idx S2x128x256} (G : CCx Ideal)
    (H1 : ∀ (j : (Rect.unit (s := S2x128x256) o sz h).shape.Idx) (i : Shape.Idx S2x128x256), (∀ a, (i a : ℕ) = o a + (j a : ℕ)) → w j = G i)
    (H2 : ¬ (o 0 ≤ (i 0 : ℕ) ∧ (i 0 : ℕ) < o 0 + sz 0 ∧ o 1 ≤ (i 1 : ℕ) ∧ (i 1 : ℕ) < o 1 + sz 1 ∧ o 2 ≤ (i 2 : ℕ) ∧ (i 2 : ℕ) < o 2 + sz 2) → f i = G i) :
    ((cxM : Memref sig .tc .vmem _ _).access (Rect.unit (s := S2x128x256) o sz h) : View sig .tc _ _ _).write (Elt Ideal) f w Finset.univ i = G i :=
  wr_at H1 fun hn => H2 fun hc => hn fun a => by
    fin_cases a
    · exact ⟨hc.1, hc.2.1⟩
    · exact ⟨hc.2.2.1, hc.2.2.2.1⟩
    · exact ⟨hc.2.2.2.2.1, hc.2.2.2.2.2⟩

theorem ou_wr {o sz : Fin 3 → ℕ} {h : ∀ a, o a + sz a ≤ S2x128x512.size a} {f : COu Ideal} {w : _ → Elt Ideal _} {i : Shape.Idx S2x128x512} (G : COu Ideal)
    (H1 : ∀ (j : (Rect.unit (s := S2x128x512) o sz h).shape.Idx) (i : Shape.Idx S2x128x512), (∀ a, (i a : ℕ) = o a + (j a : ℕ)) → w j = G i)
    (H2 : ¬ (o 0 ≤ (i 0 : ℕ) ∧ (i 0 : ℕ) < o 0 + sz 0 ∧ o 1 ≤ (i 1 : ℕ) ∧ (i 1 : ℕ) < o 1 + sz 1 ∧ o 2 ≤ (i 2 : ℕ) ∧ (i 2 : ℕ) < o 2 + sz 2) → f i = G i) :
    ((ouM : Memref sig .tc .vmem _ _).access (Rect.unit (s := S2x128x512) o sz h) : View sig .tc _ _ _).write (Elt Ideal) f w Finset.univ i = G i :=
  wr_at H1 fun hn => H2 fun hc => hn fun a => by
    fin_cases a
    · exact ⟨hc.1, hc.2.1⟩
    · exact ⟨hc.2.2.1, hc.2.2.2.1⟩
    · exact ⟨hc.2.2.2.2.1, hc.2.2.2.2.2⟩

end Cert.KernelIdealProof
-- ==== Proof.KernelIdeal.KvAt.lean ====
/- A device's K and V block, as it lies in the buffer, at an index. -/
module

public import proofs.«01_k».proof.Proof.KernelIdeal.At

@[expose] public section

set_option maxRecDepth 16384

noncomputable section

namespace Cert.KernelIdealProof

open Cert.KernelIdeal Cert.KernelIdeal.Gen
open Idealize.ShloMosaic
open Idealize.ShloMosaic.TcCoe

/-- K and V side by side, heads side by side. -/
def kvG (E : Env Ideal) (t b : Fin 2) (r : Fin 128) (n : Fin 256) : EReal :=
  if (t : ℕ) = 0 then E.x2 (ix4 b r ⟨n / 64, by omega⟩ ⟨n % 64, by omega⟩) else E.x3 (ix4 b r ⟨n / 64, by omega⟩ ⟨n % 64, by omega⟩)
theorem kvG_0 (E : Env Ideal) (t b : Fin 2) (r : Fin 128) (n : Fin 256) (h : (t : ℕ) = 0) : kvG E t b r n = E.x2 (ix4 b r ⟨n / 64, by omega⟩ ⟨n % 64, by omega⟩) := if_pos h
theorem kvG_1 (E : Env Ideal) (t b : Fin 2) (r : Fin 128) (n : Fin 256) (h : ¬ (t : ℕ) = 0) : kvG E t b r n = E.x3 (ix4 b r ⟨n / 64, by omega⟩ ⟨n % 64, by omega⟩) := if_neg h

theorem kv21_k0_pay46 (E : Env Ideal) (j : S1x1x128x64.Idx) (i : S2x2x128x256.Idx) (e : ∀ a, (i a : ℕ) = (![0, 0, 0, 0] : Fin 4 → ℕ) a + (j a : ℕ)) :
    k0_pay46 (v147 E) j = kvG E (i 0) (i 1) (i 2) (i 3) := by
  have e0 : (i 0 : ℕ) = 0 + (j 0 : ℕ) := e 0
  have e1 : (i 1 : ℕ) = 0 + (j 1 : ℕ) := e 1
  have e2 : (i 2 : ℕ) = 0 + (j 2 : ℕ) := e 2
  have e3 : (i 3 : ℕ) = 0 + (j 3 : ℕ) := e 3
  clear e
  idx_vars j
  replace e0 : (i 0 : ℕ) = 0 + (j0 : ℕ) := e0
  replace e1 : (i 1 : ℕ) = 0 + (j1 : ℕ) := e1
  replace e2 : (i 2 : ℕ) = 0 + (j2 : ℕ) := e2
  replace e3 : (i 3 : ℕ) = 0 + (j3 : ℕ) := e3
  refine Eq.trans ?_ (kvG_0 E (i 0) (i 1) (i 2) (i 3) (by omega)).symm
  pointwise [k0_pay46, k0_pay45, v147, v146]
  refine rd_at (i := ix4 (i 1) (i 2) ⟨(i 3 : ℕ) / 64, by omega⟩ ⟨(i 3 : ℕ) % 64, by omega⟩) E.x2 fun a => ?_
  fin_cases a
  · show (i 1 : ℕ) = 0 + 0; omega
  · show (i 2 : ℕ) = 0 + (j2 : ℕ); omega
  · show (i 3 : ℕ) / 64 = 0 + 0; omega
  · show (i 3 : ℕ) % 64 = 0 + (j3 : ℕ); omega
theorem kv21_k0_pay47 (E : Env Ideal) (j : S1x1x128x64.Idx) (i : S2x2x128x256.Idx) (e : ∀ a, (i a : ℕ) = (![1, 0, 0, 0] : Fin 4 → ℕ) a + (j a : ℕ)) :
    k0_pay47 (v151 E) j = kvG E (i 0) (i 1) (i 2) (i 3) := by
  have e0 : (i 0 : ℕ) = 1 + (j 0 : ℕ) := e 0
  have e1 : (i 1 : ℕ) = 0 + (j 1 : ℕ) := e 1
  have e2 : (i 2 : ℕ) = 0 + (j 2 : ℕ) := e 2
  have e3 : (i 3 : ℕ) = 0 + (j 3 : ℕ) := e 3
  clear e
  idx_vars j
  replace e0 : (i 0 : ℕ) = 1 + (j0 : ℕ) := e0
  replace e1 : (i 1 : ℕ) = 0 + (j1 : ℕ) := e1
  replace e2 : (i 2 : ℕ) = 0 + (j2 : ℕ) := e2
  replace e3 : (i 3 : ℕ) = 0 + (j3 : ℕ) := e3
  refine Eq.trans ?_ (kvG_1 E (i 0) (i 1) (i 2) (i 3) (by omega)).symm
  pointwise [k0_pay47, v151]
  refine rd_at (i := ix4 (i 1) (i 2) ⟨(i 3 : ℕ) / 64, by omega⟩ ⟨(i 3 : ℕ) % 64, by omega⟩) E.x3 fun a => ?_
  fin_cases a
  · show (i 1 : ℕ) = 0 + 0; omega
  · show (i 2 : ℕ) = 0 + (j2 : ℕ); omega
  · show (i 3 : ℕ) / 64 = 0 + 0; omega
  · show (i 3 : ℕ) % 64 = 0 + (j3 : ℕ); omega
theorem kv21_k0_pay48 (E : Env Ideal) (j : S1x1x128x64.Idx) (i : S2x2x128x256.Idx) (e : ∀ a, (i a : ℕ) = (![0, 0, 0, 64] : Fin 4 → ℕ) a + (j a : ℕ)) :
    k0_pay48 (v156 E) j = kvG E (i 0) (i 1) (i 2) (i 3) := by
  have e0 : (i 0 : ℕ) = 0 + (j 0 : ℕ) := e 0
  have e1 : (i 1 : ℕ) = 0 + (j 1 : ℕ) := e 1
  have e2 : (i 2 : ℕ) = 0 + (j 2 : ℕ) := e 2
  have e3 : (i 3 : ℕ) = 64 + (j 3 : ℕ) := e 3
  clear e
  idx_vars j
  replace e0 : (i 0 : ℕ) = 0 + (j0 : ℕ) := e0
  replace e1 : (i 1 : ℕ) = 0 + (j1 : ℕ) := e1
  replace e2 : (i 2 : ℕ) = 0 + (j2 : ℕ) := e2
  replace e3 : (i 3 : ℕ) = 64 + (j3 : ℕ) := e3
  refine Eq.trans ?_ (kvG_0 E (i 0) (i 1) (i 2) (i 3) (by omega)).symm
  pointwise [k0_pay48, v156]
  refine rd_at (i := ix4 (i 1) (i 2) ⟨(i 3 : ℕ) / 64, by omega⟩ ⟨(i 3 : ℕ) % 64, by omega⟩) E.x2 fun a => ?_
  fin_cases a
  · show (i 1 : ℕ) = 0 + 0; omega
  · show (i 2 : ℕ) = 0 + (j2 : ℕ); omega
  · show (i 3 : ℕ) / 64 = 1 + 0; omega
  · show (i 3 : ℕ) % 64 = 0 + (j3 : ℕ); omega
theorem kv21_k0_pay49 (E : Env Ideal) (j : S1x1x128x64.Idx) (i : S2x2x128x256.Idx) (e : ∀ a, (i a : ℕ) = (![1, 0, 0, 64] : Fin 4 → ℕ) a + (j a : ℕ)) :
    k0_pay49 (v161 E) j = kvG E (i 0) (i 1) (i 2) (i 3) := by
  have e0 : (i 0 : ℕ) = 1 + (j 0 : ℕ) := e 0
  have e1 : (i 1 : ℕ) = 0 + (j 1 : ℕ) := e 1
  have e2 : (i 2 : ℕ) = 0 + (j 2 : ℕ) := e 2
  have e3 : (i 3 : ℕ) = 64 + (j 3 : ℕ) := e 3
  clear e
  idx_vars j
  replace e0 : (i 0 : ℕ) = 1 + (j0 : ℕ) := e0
  replace e1 : (i 1 : ℕ) = 0 + (j1 : ℕ) := e1
  replace e2 : (i 2 : ℕ) = 0 + (j2 : ℕ) := e2
  replace e3 : (i 3 : ℕ) = 64 + (j3 : ℕ) := e3
  refine Eq.trans ?_ (kvG_1 E (i 0) (i 1) (i 2) (i 3) (by omega)).symm
  pointwise [k0_pay49, v161]
  refine rd_at (i := ix4 (i 1) (i 2) ⟨(i 3 : ℕ) / 64, by omega⟩ ⟨(i 3 : ℕ) % 64, by omega⟩) E.x3 fun a => ?_
  fin_cases a
  · show (i 1 : ℕ) = 0 + 0; omega
  · show (i 2 : ℕ) = 0 + (j2 : ℕ); omega
  · show (i 3 : ℕ) / 64 = 1 + 0; omega
  · show (i 3 : ℕ) % 64 = 0 + (j3 : ℕ); omega
theorem kv22_k0_pay51 (E : Env Ideal) (j : S1x1x128x64.Idx) (i : S2x2x128x256.Idx) (e : ∀ a, (i a : ℕ) = (![0, 0, 0, 128] : Fin 4 → ℕ) a + (j a : ℕ)) :
    k0_pay51 (v167 E) j = kvG E (i 0) (i 1) (i 2) (i 3) := by
  have e0 : (i 0 : ℕ) = 0 + (j 0 : ℕ) := e 0
  have e1 : (i 1 : ℕ) = 0 + (j 1 : ℕ) := e 1
  have e2 : (i 2 : ℕ) = 0 + (j 2 : ℕ) := e 2
  have e3 : (i 3 : ℕ) = 128 + (j 3 : ℕ) := e 3
  clear e
  idx_vars j
  replace e0 : (i 0 : ℕ) = 0 + (j0 : ℕ) := e0
  replace e1 : (i 1 : ℕ) = 0 + (j1 : ℕ) := e1
  replace e2 : (i 2 : ℕ) = 0 + (j2 : ℕ) := e2
  replace e3 : (i 3 : ℕ) = 128 + (j3 : ℕ) := e3
  refine Eq.trans ?_ (kvG_0 E (i 0) (i 1) (i 2) (i 3) (by omega)).symm
  pointwise [k0_pay51, k0_pay50, v167, v166]
  refine rd_at (i := ix4 (i 1) (i 2) ⟨(i 3 : ℕ) / 64, by omega⟩ ⟨(i 3 : ℕ) % 64, by omega⟩) E.x2 fun a => ?_
  fin_cases a
  · show (i 1 : ℕ) = 0 + 0; omega
  · show (i 2 : ℕ) = 0 + (j2 : ℕ); omega
  · show (i 3 : ℕ) / 64 = 2 + 0; omega
  · show (i 3 : ℕ) % 64 = 0 + (j3 : ℕ); omega
theorem kv22_k0_pay52 (E : Env Ideal) (j : S1x1x128x64.Idx) (i : S2x2x128x256.Idx) (e : ∀ a, (i a : ℕ) = (![1, 0, 0, 128] : Fin 4 → ℕ) a + (j a : ℕ)) :
    k0_pay52 (v171 E) j = kvG E (i 0) (i 1) (i 2) (i 3) := by
  have e0 : (i 0 : ℕ) = 1 + (j 0 : ℕ) := e 0
  have e1 : (i 1 : ℕ) = 0 + (j 1 : ℕ) := e 1
  have e2 : (i 2 : ℕ) = 0 + (j 2 : ℕ) := e 2
  have e3 : (i 3 : ℕ) = 128 + (j 3 : ℕ) := e 3
  clear e
  idx_vars j
  replace e0 : (i 0 : ℕ) = 1 + (j0 : ℕ) := e0
  replace e1 : (i 1 : ℕ) = 0 + (j1 : ℕ) := e1
  replace e2 : (i 2 : ℕ) = 0 + (j2 : ℕ) := e2
  replace e3 : (i 3 : ℕ) = 128 + (j3 : ℕ) := e3
  refine Eq.trans ?_ (kvG_1 E (i 0) (i 1) (i 2) (i 3) (by omega)).symm
  pointwise [k0_pay52, v171]
  refine rd_at (i := ix4 (i 1) (i 2) ⟨(i 3 : ℕ) / 64, by omega⟩ ⟨(i 3 : ℕ) % 64, by omega⟩) E.x3 fun a => ?_
  fin_cases a
  · show (i 1 : ℕ) = 0 + 0; omega
  · show (i 2 : ℕ) = 0 + (j2 : ℕ); omega
  · show (i 3 : ℕ) / 64 = 2 + 0; omega
  · show (i 3 : ℕ) % 64 = 0 + (j3 : ℕ); omega
theorem kv22_k0_pay53 (E : Env Ideal) (j : S1x1x128x64.Idx) (i : S2x2x128x256.Idx) (e : ∀ a, (i a : ℕ) = (![0, 0, 0, 192] : Fin 4 → ℕ) a + (j a : ℕ)) :
    k0_pay53 (v176 E) j = kvG E (i 0) (i 1) (i 2) (i 3) := by
  have e0 : (i 0 : ℕ) = 0 + (j 0 : ℕ) := e 0
  have e1 : (i 1 : ℕ) = 0 + (j 1 : ℕ) := e 1
  have e2 : (i 2 : ℕ) = 0 + (j 2 : ℕ) := e 2
  have e3 : (i 3 : ℕ) = 192 + (j 3 : ℕ) := e 3
  clear e
  idx_vars j
  replace e0 : (i 0 : ℕ) = 0 + (j0 : ℕ) := e0
  replace e1 : (i 1 : ℕ) = 0 + (j1 : ℕ) := e1
  replace e2 : (i 2 : ℕ) = 0 + (j2 : ℕ) := e2
  replace e3 : (i 3 : ℕ) = 192 + (j3 : ℕ) := e3
  refine Eq.trans ?_ (kvG_0 E (i 0) (i 1) (i 2) (i 3) (by omega)).symm
  pointwise [k0_pay53, v176]
  refine rd_at (i := ix4 (i 1) (i 2) ⟨(i 3 : ℕ) / 64, by omega⟩ ⟨(i 3 : ℕ) % 64, by omega⟩) E.x2 fun a => ?_
  fin_cases a
  · show (i 1 : ℕ) = 0 + 0; omega
  · show (i 2 : ℕ) = 0 + (j2 : ℕ); omega
  · show (i 3 : ℕ) / 64 = 3 + 0; omega
  · show (i 3 : ℕ) % 64 = 0 + (j3 : ℕ); omega
theorem kv22_k0_pay54 (E : Env Ideal) (j : S1x1x128x64.Idx) (i : S2x2x128x256.Idx) (e : ∀ a, (i a : ℕ) = (![1, 0, 0, 192] : Fin 4 → ℕ) a + (j a : ℕ)) :
    k0_pay54 (v181 E) j = kvG E (i 0) (i 1) (i 2) (i 3) := by
  have e0 : (i 0 : ℕ) = 1 + (j 0 : ℕ) := e 0
  have e1 : (i 1 : ℕ) = 0 + (j 1 : ℕ) := e 1
  have e2 : (i 2 : ℕ) = 0 + (j 2 : ℕ) := e 2
  have e3 : (i 3 : ℕ) = 192 + (j 3 : ℕ) := e 3
  clear e
  idx_vars j
  replace e0 : (i 0 : ℕ) = 1 + (j0 : ℕ) := e0
  replace e1 : (i 1 : ℕ) = 0 + (j1 : ℕ) := e1
  replace e2 : (i 2 : ℕ) = 0 + (j2 : ℕ) := e2
  replace e3 : (i 3 : ℕ) = 192 + (j3 : ℕ) := e3
  refine Eq.trans ?_ (kvG_1 E (i 0) (i 1) (i 2) (i 3) (by omega)).symm
  pointwise [k0_pay54, v181]
  refine rd_at (i := ix4 (i 1) (i 2) ⟨(i 3 : ℕ) / 64, by omega⟩ ⟨(i 3 : ℕ) % 64, by omega⟩) E.x3 fun a => ?_
  fin_cases a
  · show (i 1 : ℕ) = 0 + 0; omega
  · show (i 2 : ℕ) = 0 + (j2 : ℕ); omega
  · show (i 3 : ℕ) / 64 = 3 + 0; omega
  · show (i 3 : ℕ) % 64 = 0 + (j3 : ℕ); omega
theorem kv22_k0_pay55 (E : Env Ideal) (j : S1x1x128x64.Idx) (i : S2x2x128x256.Idx) (e : ∀ a, (i a : ℕ) = (![0, 1, 0, 0] : Fin 4 → ℕ) a + (j a : ℕ)) :
    k0_pay55 (v186 E) j = kvG E (i 0) (i 1) (i 2) (i 3) := by
  have e0 : (i 0 : ℕ) = 0 + (j 0 : ℕ) := e 0
  have e1 : (i 1 : ℕ) = 1 + (j 1 : ℕ) := e 1
  have e2 : (i 2 : ℕ) = 0 + (j 2 : ℕ) := e 2
  have e3 : (i 3 : ℕ) = 0 + (j 3 : ℕ) := e 3
  clear e
  idx_vars j
  replace e0 : (i 0 : ℕ) = 0 + (j0 : ℕ) := e0
  replace e1 : (i 1 : ℕ) = 1 + (j1 : ℕ) := e1
  replace e2 : (i 2 : ℕ) = 0 + (j2 : ℕ) := e2
  replace e3 : (i 3 : ℕ) = 0 + (j3 : ℕ) := e3
  refine Eq.trans ?_ (kvG_0 E (i 0) (i 1) (i 2) (i 3) (by omega)).symm
  pointwise [k0_pay55, v186]
  refine rd_at (i := ix4 (i 1) (i 2) ⟨(i 3 : ℕ) / 64, by omega⟩ ⟨(i 3 : ℕ) % 64, by omega⟩) E.x2 fun a => ?_
  fin_cases a
  · show (i 1 : ℕ) = 1 + 0; omega
  · show (i 2 : ℕ) = 0 + (j2 : ℕ); omega
  · show (i 3 : ℕ) / 64 = 0 + 0; omega
  · show (i 3 : ℕ) % 64 = 0 + (j3 : ℕ); omega
theorem kv23_k0_pay56 (E : Env Ideal) (j : S1x1x128x64.Idx) (i : S2x2x128x256.Idx) (e : ∀ a, (i a : ℕ) = (![1, 1, 0, 0] : Fin 4 → ℕ) a + (j a : ℕ)) :
    k0_pay56 (v191 E) j = kvG E (i 0) (i 1) (i 2) (i 3) := by
  have e0 : (i 0 : ℕ) = 1 + (j 0 : ℕ) := e 0
  have e1 : (i 1 : ℕ) = 1 + (j 1 : ℕ) := e 1
  have e2 : (i 2 : ℕ) = 0 + (j 2 : ℕ) := e 2
  have e3 : (i 3 : ℕ) = 0 + (j 3 : ℕ) := e 3
  clear e
  idx_vars j
  replace e0 : (i 0 : ℕ) = 1 + (j0 : ℕ) := e0
  replace e1 : (i 1 : ℕ) = 1 + (j1 : ℕ) := e1
  replace e2 : (i 2 : ℕ) = 0 + (j2 : ℕ) := e2
  replace e3 : (i 3 : ℕ) = 0 + (j3 : ℕ) := e3
  refine Eq.trans ?_ (kvG_1 E (i 0) (i 1) (i 2) (i 3) (by omega)).symm
  pointwise [k0_pay56, v191]
  refine rd_at (i := ix4 (i 1) (i 2) ⟨(i 3 : ℕ) / 64, by omega⟩ ⟨(i 3 : ℕ) % 64, by omega⟩) E.x3 fun a => ?_
  fin_cases a
  · show (i 1 : ℕ) = 1 + 0; omega
  · show (i 2 : ℕ) = 0 + (j2 : ℕ); omega
  · show (i 3 : ℕ) / 64 = 0 + 0; omega
  · show (i 3 : ℕ) % 64 = 0 + (j3 : ℕ); omega
theorem kv23_k0_pay57 (E : Env Ideal) (j : S1x1x128x64.Idx) (i : S2x2x128x256.Idx) (e : ∀ a, (i a : ℕ) = (![0, 1, 0, 64] : Fin 4 → ℕ) a + (j a : ℕ)) :
    k0_pay57 (v196 E) j = kvG E (i 0) (i 1) (i 2) (i 3) := by
  have e0 : (i 0 : ℕ) = 0 + (j 0 : ℕ) := e 0
  have e1 : (i 1 : ℕ) = 1 + (j 1 : ℕ) := e 1
  have e2 : (i 2 : ℕ) = 0 + (j 2 : ℕ) := e 2
  have e3 : (i 3 : ℕ) = 64 + (j 3 : ℕ) := e 3
  clear e
  idx_vars j
  replace e0 : (i 0 : ℕ) = 0 + (j0 : ℕ) := e0
  replace e1 : (i 1 : ℕ) = 1 + (j1 : ℕ) := e1
  replace e2 : (i 2 : ℕ) = 0 + (j2 : ℕ) := e2
  replace e3 : (i 3 : ℕ) = 64 + (j3 : ℕ) := e3
  refine Eq.trans ?_ (kvG_0 E (i 0) (i 1) (i 2) (i 3) (by omega)).symm
  pointwise [k0_pay57, v196]
  refine rd_at (i := ix4 (i 1) (i 2) ⟨(i 3 : ℕ) / 64, by omega⟩ ⟨(i 3 : ℕ) % 64, by omega⟩) E.x2 fun a => ?_
  fin_cases a
  · show (i 1 : ℕ) = 1 + 0; omega
  · show (i 2 : ℕ) = 0 + (j2 : ℕ); omega
  · show (i 3 : ℕ) / 64 = 1 + 0; omega
  · show (i 3 : ℕ) % 64 = 0 + (j3 : ℕ); omega
theorem kv23_k0_pay58 (E : Env Ideal) (j : S1x1x128x64.Idx) (i : S2x2x128x256.Idx) (e : ∀ a, (i a : ℕ) = (![1, 1, 0, 64] : Fin 4 → ℕ) a + (j a : ℕ)) :
    k0_pay58 (v201 E) j = kvG E (i 0) (i 1) (i 2) (i 3) := by
  have e0 : (i 0 : ℕ) = 1 + (j 0 : ℕ) := e 0
  have e1 : (i 1 : ℕ) = 1 + (j 1 : ℕ) := e 1
  have e2 : (i 2 : ℕ) = 0 + (j 2 : ℕ) := e 2
  have e3 : (i 3 : ℕ) = 64 + (j 3 : ℕ) := e 3
  clear e
  idx_vars j
  replace e0 : (i 0 : ℕ) = 1 + (j0 : ℕ) := e0
  replace e1 : (i 1 : ℕ) = 1 + (j1 : ℕ) := e1
  replace e2 : (i 2 : ℕ) = 0 + (j2 : ℕ) := e2
  replace e3 : (i 3 : ℕ) = 64 + (j3 : ℕ) := e3
  refine Eq.trans ?_ (kvG_1 E (i 0) (i 1) (i 2) (i 3) (by omega)).symm
  pointwise [k0_pay58, v201]
  refine rd_at (i := ix4 (i 1) (i 2) ⟨(i 3 : ℕ) / 64, by omega⟩ ⟨(i 3 : ℕ) % 64, by omega⟩) E.x3 fun a => ?_
  fin_cases a
  · show (i 1 : ℕ) = 1 + 0; omega
  · show (i 2 : ℕ) = 0 + (j2 : ℕ); omega
  · show (i 3 : ℕ) / 64 = 1 + 0; omega
  · show (i 3 : ℕ) % 64 = 0 + (j3 : ℕ); omega
theorem kv23_k0_pay59 (E : Env Ideal) (j : S1x1x128x64.Idx) (i : S2x2x128x256.Idx) (e : ∀ a, (i a : ℕ) = (![0, 1, 0, 128] : Fin 4 → ℕ) a + (j a : ℕ)) :
    k0_pay59 (v206 E) j = kvG E (i 0) (i 1) (i 2) (i 3) := by
  have e0 : (i 0 : ℕ) = 0 + (j 0 : ℕ) := e 0
  have e1 : (i 1 : ℕ) = 1 + (j 1 : ℕ) := e 1
  have e2 : (i 2 : ℕ) = 0 + (j 2 : ℕ) := e 2
  have e3 : (i 3 : ℕ) = 128 + (j 3 : ℕ) := e 3
  clear e
  idx_vars j
  replace e0 : (i 0 : ℕ) = 0 + (j0 : ℕ) := e0
  replace e1 : (i 1 : ℕ) = 1 + (j1 : ℕ) := e1
  replace e2 : (i 2 : ℕ) = 0 + (j2 : ℕ) := e2
  replace e3 : (i 3 : ℕ) = 128 + (j3 : ℕ) := e3
  refine Eq.trans ?_ (kvG_0 E (i 0) (i 1) (i 2) (i 3) (by omega)).symm
  pointwise [k0_pay59, v206]
  refine rd_at (i := ix4 (i 1) (i 2) ⟨(i 3 : ℕ) / 64, by omega⟩ ⟨(i 3 : ℕ) % 64, by omega⟩) E.x2 fun a => ?_
  fin_cases a
  · show (i 1 : ℕ) = 1 + 0; omega
  · show (i 2 : ℕ) = 0 + (j2 : ℕ); omega
  · show (i 3 : ℕ) / 64 = 2 + 0; omega
  · show (i 3 : ℕ) % 64 = 0 + (j3 : ℕ); omega
theorem kv24_k0_pay60 (E : Env Ideal) (j : S1x1x128x64.Idx) (i : S2x2x128x256.Idx) (e : ∀ a, (i a : ℕ) = (![1, 1, 0, 128] : Fin 4 → ℕ) a + (j a : ℕ)) :
    k0_pay60 (v211 E) j = kvG E (i 0) (i 1) (i 2) (i 3) := by
  have e0 : (i 0 : ℕ) = 1 + (j 0 : ℕ) := e 0
  have e1 : (i 1 : ℕ) = 1 + (j 1 : ℕ) := e 1
  have e2 : (i 2 : ℕ) = 0 + (j 2 : ℕ) := e 2
  have e3 : (i 3 : ℕ) = 128 + (j 3 : ℕ) := e 3
  clear e
  idx_vars j
  replace e0 : (i 0 : ℕ) = 1 + (j0 : ℕ) := e0
  replace e1 : (i 1 : ℕ) = 1 + (j1 : ℕ) := e1
  replace e2 : (i 2 : ℕ) = 0 + (j2 : ℕ) := e2
  replace e3 : (i 3 : ℕ) = 128 + (j3 : ℕ) := e3
  refine Eq.trans ?_ (kvG_1 E (i 0) (i 1) (i 2) (i 3) (by omega)).symm
  pointwise [k0_pay60, v211]
  refine rd_at (i := ix4 (i 1) (i 2) ⟨(i 3 : ℕ) / 64, by omega⟩ ⟨(i 3 : ℕ) % 64, by omega⟩) E.x3 fun a => ?_
  fin_cases a
  · show (i 1 : ℕ) = 1 + 0; omega
  · show (i 2 : ℕ) = 0 + (j2 : ℕ); omega
  · show (i 3 : ℕ) / 64 = 2 + 0; omega
  · show (i 3 : ℕ) % 64 = 0 + (j3 : ℕ); omega
theorem kv24_k0_pay61 (E : Env Ideal) (j : S1x1x128x64.Idx) (i : S2x2x128x256.Idx) (e : ∀ a, (i a : ℕ) = (![0, 1, 0, 192] : Fin 4 → ℕ) a + (j a : ℕ)) :
    k0_pay61 (v216 E) j = kvG E (i 0) (i 1) (i 2) (i 3) := by
  have e0 : (i 0 : ℕ) = 0 + (j 0 : ℕ) := e 0
  have e1 : (i 1 : ℕ) = 1 + (j 1 : ℕ) := e 1
  have e2 : (i 2 : ℕ) = 0 + (j 2 : ℕ) := e 2
  have e3 : (i 3 : ℕ) = 192 + (j 3 : ℕ) := e 3
  clear e
  idx_vars j
  replace e0 : (i 0 : ℕ) = 0 + (j0 : ℕ) := e0
  replace e1 : (i 1 : ℕ) = 1 + (j1 : ℕ) := e1
  replace e2 : (i 2 : ℕ) = 0 + (j2 : ℕ) := e2
  replace e3 : (i 3 : ℕ) = 192 + (j3 : ℕ) := e3
  refine Eq.trans ?_ (kvG_0 E (i 0) (i 1) (i 2) (i 3) (by omega)).symm
  pointwise [k0_pay61, v216]
  refine rd_at (i := ix4 (i 1) (i 2) ⟨(i 3 : ℕ) / 64, by omega⟩ ⟨(i 3 : ℕ) % 64, by omega⟩) E.x2 fun a => ?_
  fin_cases a
  · show (i 1 : ℕ) = 1 + 0; omega
  · show (i 2 : ℕ) = 0 + (j2 : ℕ); omega
  · show (i 3 : ℕ) / 64 = 3 + 0; omega
  · show (i 3 : ℕ) % 64 = 0 + (j3 : ℕ); omega
theorem kv24_k0_pay62 (E : Env Ideal) (j : S1x1x128x64.Idx) (i : S2x2x128x256.Idx) (e : ∀ a, (i a : ℕ) = (![1, 1, 0, 192] : Fin 4 → ℕ) a + (j a : ℕ)) :
    k0_pay62 (v221 E) j = kvG E (i 0) (i 1) (i 2) (i 3) := by
  have e0 : (i 0 : ℕ) = 1 + (j 0 : ℕ) := e 0
  have e1 : (i 1 : ℕ) = 1 + (j 1 : ℕ) := e 1
  have e2 : (i 2 : ℕ) = 0 + (j 2 : ℕ) := e 2
  have e3 : (i 3 : ℕ) = 192 + (j 3 : ℕ) := e 3
  clear e
  idx_vars j
  replace e0 : (i 0 : ℕ) = 1 + (j0 : ℕ) := e0
  replace e1 : (i 1 : ℕ) = 1 + (j1 : ℕ) := e1
  replace e2 : (i 2 : ℕ) = 0 + (j2 : ℕ) := e2
  replace e3 : (i 3 : ℕ) = 192 + (j3 : ℕ) := e3
  refine Eq.trans ?_ (kvG_1 E (i 0) (i 1) (i 2) (i 3) (by omega)).symm
  pointwise [k0_pay62, v221]
  refine rd_at (i := ix4 (i 1) (i 2) ⟨(i 3 : ℕ) / 64, by omega⟩ ⟨(i 3 : ℕ) % 64, by omega⟩) E.x3 fun a => ?_
  fin_cases a
  · show (i 1 : ℕ) = 1 + 0; omega
  · show (i 2 : ℕ) = 0 + (j2 : ℕ); omega
  · show (i 3 : ℕ) / 64 = 3 + 0; omega
  · show (i 3 : ℕ) % 64 = 0 + (j3 : ℕ); omega

theorem kvAll_at (E : Env Ideal) (f : CKv Ideal) (i : S2x2x128x256.Idx) : kvAll E f i = kvG E (i 0) (i 1) (i 2) (i 3) := by
  unfold kvAll kv21 kv22 kv23 kv24
  refine kv_wr (fun i : S2x2x128x256.Idx => kvG E (i 0) (i 1) (i 2) (i 3)) ?_ fun h0 => ?_
  · exact kv24_k0_pay62 E
  refine kv_wr (fun i : S2x2x128x256.Idx => kvG E (i 0) (i 1) (i 2) (i 3)) ?_ fun h1 => ?_
  · exact kv24_k0_pay61 E
  refine kv_wr (fun i : S2x2x128x256.Idx => kvG E (i 0) (i 1) (i 2) (i 3)) ?_ fun h2 => ?_
  · exact kv24_k0_pay60 E
  refine kv_wr (fun i : S2x2x128x256.Idx => kvG E (i 0) (i 1) (i 2) (i 3)) ?_ fun h3 => ?_
  · exact kv23_k0_pay59 E
  refine kv_wr (fun i : S2x2x128x256.Idx => kvG E (i 0) (i 1) (i 2) (i 3)) ?_ fun h4 => ?_
  · exact kv23_k0_pay58 E
  refine kv_wr (fun i : S2x2x128x256.Idx => kvG E (i 0) (i 1) (i 2) (i 3)) ?_ fun h5 => ?_
  · exact kv23_k0_pay57 E
  refine kv_wr (fun i : S2x2x128x256.Idx => kvG E (i 0) (i 1) (i 2) (i 3)) ?_ fun h6 => ?_
  · exact kv23_k0_pay56 E
  refine kv_wr (fun i : S2x2x128x256.Idx => kvG E (i 0) (i 1) (i 2) (i 3)) ?_ fun h7 => ?_
  · exact kv22_k0_pay55 E
  refine kv_wr (fun i : S2x2x128x256.Idx => kvG E (i 0) (i 1) (i 2) (i 3)) ?_ fun h8 => ?_
  · exact kv22_k0_pay54 E
  refine kv_wr (fun i : S2x2x128x256.Idx => kvG E (i 0) (i 1) (i 2) (i 3)) ?_ fun h9 => ?_
  · exact kv22_k0_pay53 E
  refine kv_wr (fun i : S2x2x128x256.Idx => kvG E (i 0) (i 1) (i 2) (i 3)) ?_ fun h10 => ?_
  · exact kv22_k0_pay52 E
  refine kv_wr (fun i : S2x2x128x256.Idx => kvG E (i 0) (i 1) (i 2) (i 3)) ?_ fun h11 => ?_
  · exact kv22_k0_pay51 E
  refine kv_wr (fun i : S2x2x128x256.Idx => kvG E (i 0) (i 1) (i 2) (i 3)) ?_ fun h12 => ?_
  · exact kv21_k0_pay49 E
  refine kv_wr (fun i : S2x2x128x256.Idx => kvG E (i 0) (i 1) (i 2) (i 3)) ?_ fun h13 => ?_
  · exact kv21_k0_pay48 E
  refine kv_wr (fun i : S2x2x128x256.Idx => kvG E (i 0) (i 1) (i 2) (i 3)) ?_ fun h14 => ?_
  · exact kv21_k0_pay47 E
  refine kv_wr (fun i : S2x2x128x256.Idx => kvG E (i 0) (i 1) (i 2) (i 3)) ?_ fun h15 => ?_
  · exact kv21_k0_pay46 E
  exfalso
  have b0 : (i 0 : ℕ) < 2 := (i 0).isLt
  have b1 : (i 1 : ℕ) < 2 := (i 1).isLt
  have b3 : (i 3 : ℕ) < 256 := (i 3).isLt
  rcases (by omega : (i 0 : ℕ) = 0 ∨ (i 0 : ℕ) = 1) with c0 | c0 <;> rcases (by omega : (i 1 : ℕ) = 0 ∨ (i 1 : ℕ) = 1) with c1 | c1 <;> rcases (by omega : (0 ≤ (i 3 : ℕ) ∧ (i 3 : ℕ) < 0 + 64) ∨ (64 ≤ (i 3 : ℕ) ∧ (i 3 : ℕ) < 64 + 64) ∨ (128 ≤ (i 3 : ℕ) ∧ (i 3 : ℕ) < 128 + 64) ∨ (192 ≤ (i 3 : ℕ) ∧ (i 3 : ℕ) < 192 + 64)) with c3 | c3 | c3 | c3
  · exact h15 ⟨c0.ge, Nat.lt_of_le_of_lt c0.le (by decide), c1.ge, Nat.lt_of_le_of_lt c1.le (by decide), Nat.zero_le _, (i 2).isLt, c3.1, c3.2⟩
  · exact h13 ⟨c0.ge, Nat.lt_of_le_of_lt c0.le (by decide), c1.ge, Nat.lt_of_le_of_lt c1.le (by decide), Nat.zero_le _, (i 2).isLt, c3.1, c3.2⟩
  · exact h11 ⟨c0.ge, Nat.lt_of_le_of_lt c0.le (by decide), c1.ge, Nat.lt_of_le_of_lt c1.le (by decide), Nat.zero_le _, (i 2).isLt, c3.1, c3.2⟩
  · exact h9 ⟨c0.ge, Nat.lt_of_le_of_lt c0.le (by decide), c1.ge, Nat.lt_of_le_of_lt c1.le (by decide), Nat.zero_le _, (i 2).isLt, c3.1, c3.2⟩
  · exact h7 ⟨c0.ge, Nat.lt_of_le_of_lt c0.le (by decide), c1.ge, Nat.lt_of_le_of_lt c1.le (by decide), Nat.zero_le _, (i 2).isLt, c3.1, c3.2⟩
  · exact h5 ⟨c0.ge, Nat.lt_of_le_of_lt c0.le (by decide), c1.ge, Nat.lt_of_le_of_lt c1.le (by decide), Nat.zero_le _, (i 2).isLt, c3.1, c3.2⟩
  · exact h3 ⟨c0.ge, Nat.lt_of_le_of_lt c0.le (by decide), c1.ge, Nat.lt_of_le_of_lt c1.le (by decide), Nat.zero_le _, (i 2).isLt, c3.1, c3.2⟩
  · exact h1 ⟨c0.ge, Nat.lt_of_le_of_lt c0.le (by decide), c1.ge, Nat.lt_of_le_of_lt c1.le (by decide), Nat.zero_le _, (i 2).isLt, c3.1, c3.2⟩
  · exact h14 ⟨c0.ge, Nat.lt_of_le_of_lt c0.le (by decide), c1.ge, Nat.lt_of_le_of_lt c1.le (by decide), Nat.zero_le _, (i 2).isLt, c3.1, c3.2⟩
  · exact h12 ⟨c0.ge, Nat.lt_of_le_of_lt c0.le (by decide), c1.ge, Nat.lt_of_le_of_lt c1.le (by decide), Nat.zero_le _, (i 2).isLt, c3.1, c3.2⟩
  · exact h10 ⟨c0.ge, Nat.lt_of_le_of_lt c0.le (by decide), c1.ge, Nat.lt_of_le_of_lt c1.le (by decide), Nat.zero_le _, (i 2).isLt, c3.1, c3.2⟩
  · exact h8 ⟨c0.ge, Nat.lt_of_le_of_lt c0.le (by decide), c1.ge, Nat.lt_of_le_of_lt c1.le (by decide), Nat.zero_le _, (i 2).isLt, c3.1, c3.2⟩
  · exact h6 ⟨c0.ge, Nat.lt_of_le_of_lt c0.le (by decide), c1.ge, Nat.lt_of_le_of_lt c1.le (by decide), Nat.zero_le _, (i 2).isLt, c3.1, c3.2⟩
  · exact h4 ⟨c0.ge, Nat.lt_of_le_of_lt c0.le (by decide), c1.ge, Nat.lt_of_le_of_lt c1.le (by decide), Nat.zero_le _, (i 2).isLt, c3.1, c3.2⟩
  · exact h2 ⟨c0.ge, Nat.lt_of_le_of_lt c0.le (by decide), c1.ge, Nat.lt_of_le_of_lt c1.le (by decide), Nat.zero_le _, (i 2).isLt, c3.1, c3.2⟩
  · exact h0 ⟨c0.ge, Nat.lt_of_le_of_lt c0.le (by decide), c1.ge, Nat.lt_of_le_of_lt c1.le (by decide), Nat.zero_le _, (i 2).isLt, c3.1, c3.2⟩

end Cert.KernelIdealProof
-- ==== Proof.KernelIdeal.RefA.lean ====
/- The reference's result, staged: its composed term is the composition of small stages. -/
module

public import proofs.«01_k».proof.Proof.Gen.ReferenceIdeal.Run
public import proofs.«01_k».proof.Proof.KernelIdeal.Math
public import Idealize.ShloMosaic.Lib.WordCmp
public import Idealize.ShloMosaic.Lib.Affine
public import Idealize.ShloMosaic.Lib.Routing.OpsOrder

@[expose] public section

set_option maxRecDepth 16384

noncomputable section

namespace Cert.KernelIdealProof.RefV

open Idealize.ShloMosaic Cert.ReferenceIdeal Cert.ReferenceIdeal.Value
open Cert.ReferenceIdeal.Gen

/-- The mask: near the diagonal, a global column, or a global row. -/
def rmask : IVec S4096x4096 1 := ori (cmpi .sle (absi (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))) (broadcastInDim S4096x4096 ![] bcast_S_S4096x4096 (constantI S_ 32 128#32))) (ori (broadcastInDim S4096x4096 ![0, 1] bcast_S1x4096_S4096x4096_0_1 (cmpi .slt (broadcastInDim S1x4096 ![1] bcast_S4096_S1x4096_1 (iotaInDim S4096 32 0)) (broadcastInDim S1x4096 ![] bcast_S_S1x4096 (constantI S_ 32 32#32)))) (broadcastInDim S4096x4096 ![0, 1] bcast_S4096x1_S4096x4096_0_1 (cmpi .slt (broadcastInDim S4096x1 ![0] bcast_S4096_S4096x1_0 (iotaInDim S4096 32 0)) (broadcastInDim S4096x1 ![] bcast_S_S4096x1 (constantI S_ 32 32#32)))))
/-- Which rows keep a column. -/
def rkeep (k : IVec S4096x4096 1) : IVec S4096 1 := Host.reduce IntOp.ori k (constantI S_ 1 0#1) reducesTo_S4096x4096_S4096_d1 h_S_
/-- The masked scores. -/
def rsc (X : FVec Ideal S2x4096x512 .bf16) (W : FVec Ideal S512x256 .bf16) (K : FVec Ideal S2x4096x4x64 .bf16) (k : IVec S4096x4096 1) : FVec Ideal S2x4x4096x4096 .f32 :=
  select (broadcastInDim S2x4x4096x4096 ![0, 1, 2, 3] bcast_S1x1x4096x4096_S2x4x4096x4096_0_1_2_3 (broadcastInDim S1x1x4096x4096 ![2, 3] bcast_S4096x4096_S1x1x4096x4096_2_3 k)) (mulf (extf .f32 (truncf .bf16 (Host.dotGeneral dot_S2x4096x4x64_S2x4096x4x64_S2x4x4096x4096_3_3_1_1_02_02 none (shapeCast _ (truncf .bf16 (Host.dotGeneral dot_S2x4096x512_S512x256_S2x4096x256_2_0_01_1_n_n none X W : FVec Ideal S2x4096x256 .f32) bitsLt_bf16_f32) shapeCasts_S2x4096x256_S2x4096x4x64) K : FVec Ideal S2x4x4096x4096 .f32) bitsLt_bf16_f32) bitsLt_bf16_f32) (broadcastInDim S2x4x4096x4096 ![] bcast_S_S2x4x4096x4096 (constant S_ .f32 0x3E000000#32))) (broadcastInDim S2x4x4096x4096 ![] bcast_S_S2x4x4096x4096 (id (constant S_ .f32 0xFF800000#32)))
/-- The exponentials relative to the row's largest score. -/
def rex (s : FVec Ideal S2x4x4096x4096 .f32) : FVec Ideal S2x4x4096x4096 .f32 :=
  Host.exp (subf s (broadcastInDim S2x4x4096x4096 ![0, 1, 2, 3] bcast_S2x4x4096x1_S2x4x4096x4096_0_1_2_3 (broadcastInDim S2x4x4096x1 ![0, 1, 2] bcast_S2x4x4096_S2x4x4096x1_0_1_2 (Host.reduce FloatOps.maximumf s (constant S_ .f32 0xFF800000#32) reducesTo_S2x4x4096x4096_S2x4x4096_d3 h_S_))))
/-- The weights. -/
def rwt (k : IVec S4096 1) (e : FVec Ideal S2x4x4096x4096 .f32) : FVec Ideal S2x4x4096x4096 .f32 :=
  select (broadcastInDim S2x4x4096x4096 ![0, 1, 2, 3] bcast_S1x1x4096x1_S2x4x4096x4096_0_1_2_3 (broadcastInDim S1x1x4096x1 ![2] bcast_S4096_S1x1x4096x1_2 k)) (Host.divf e (broadcastInDim S2x4x4096x4096 ![0, 1, 2, 3] bcast_S2x4x4096x1_S2x4x4096x4096_0_1_2_3 (select (broadcastInDim S2x4x4096x1 ![0, 1, 2, 3] bcast_S1x1x4096x1_S2x4x4096x1_0_1_2_3 (broadcastInDim S1x1x4096x1 ![2] bcast_S4096_S1x1x4096x1_2 k)) (broadcastInDim S2x4x4096x1 ![0, 1, 2] bcast_S2x4x4096_S2x4x4096x1_0_1_2 (Host.reduceAdd e (constant S_ .f32 0x00000000#32) reducesTo_S2x4x4096x4096_S2x4x4096_d3 h_S_)) (broadcastInDim S2x4x4096x1 ![] bcast_S_S2x4x4096x1 (id (constant S_ .f32 0x3F800000#32)))))) (broadcastInDim S2x4x4096x4096 ![] bcast_S_S2x4x4096x4096 (id (constant S_ .f32 0x00000000#32)))
/-- The attention output, heads side by side, and its projection. -/
def rout (V : FVec Ideal S2x4096x4x64 .bf16) (w : FVec Ideal S2x4x4096x4096 .f32) (O : FVec Ideal S256x512 .bf16) : FVec Ideal S2x4096x512 .f32 :=
  Host.dotGeneral dot_S2x4096x256_S256x512_S2x4096x512_2_0_01_1_n_n none (shapeCast S2x4096x256 (transpose S2x4096x4x64 [0, 3, 1, 2] (Host.dotGeneral dot_S2x4096x4x64_S2x4x4096x4096_S2x4x64x4096_1_3_3_2_02_01 none V w : FVec Ideal S2x4x64x4096 .f32) transposes_S2x4x64x4096_S2x4096x4x64_0_3_1_2) shapeCasts_S2x4096x4x64_S2x4096x256 : FVec Ideal S2x4096x256 .f32) O

theorem res_eq (m : (ℓ : Loc nD τ sig) → Buf (Elt Ideal) ℓ) (c : Dev nD) :
    res_main_v45 (F := Ideal) m c = rout (m ((c.tc : Thread nD τ).loc main_arg3)) (rwt (rkeep rmask) (rex (rsc (m ((c.tc : Thread nD τ).loc main_arg0)) (m ((c.tc : Thread nD τ).loc main_arg1)) (m ((c.tc : Thread nD τ).loc main_arg2)) rmask))) (m ((c.tc : Thread nD τ).loc main_arg4)) := rfl

theorem absi_sub {a b : ℕ} (ha : a < 1048576) (hb : b < 1048576) : (IntOp.absi (IntOp.subi (BitVec.ofNat 32 a) (BitVec.ofNat 32 b))).toInt = max ((a : ℤ) - b) ((b : ℤ) - a) := by
  have hs : (IntOp.subi (BitVec.ofNat 32 a) (BitVec.ofNat 32 b)).toNat = (4294967296 - b + a) % 4294967296 := by
    rw [IntOp.subi, BitVec.toNat_sub, BitVec.toNat_ofNat, BitVec.toNat_ofNat, Nat.mod_eq_of_lt (by omega : b < 2 ^ 32), Nat.mod_eq_of_lt (by omega : a < 2 ^ 32)]
  rw [IntOp.absi, BitVec.msb_eq_decide]
  split
  · rename_i h
    rw [decide_eq_true_eq, hs] at h
    rw [BitVec.toInt_eq_toNat_cond, BitVec.toNat_neg, hs]
    split <;> omega
  · rename_i h
    rw [decide_eq_true_eq, hs] at h
    rw [BitVec.toInt_eq_toNat_cond, hs]
    split <;> omega

theorem rmask_at (i j : Fin 4096) : (rmask (ix2 i j) = 1#1) ↔ ((i : ℕ) ≤ j + 128 ∧ (j : ℕ) ≤ i + 128 ∨ (j : ℕ) < 32 ∨ (i : ℕ) < 32) := by
  unfold rmask
  pointwise
  have h1 : (128#32).toInt = 128 := by decide
  have h2 : (32#32).toInt = 32 := by decide
  rw [IntOp.ori_eq_one, IntOp.ori_eq_one, IntOp.cmpi_sle, IntOp.cmpi_slt, IntOp.cmpi_slt, h1, h2, absi_sub (by omega) (by omega), WordCmp.toInt_ofNat_of_lt (by omega), WordCmp.toInt_ofNat_of_lt (by omega)]
  omega
theorem rkeep_at (i : Fin 4096) : rkeep rmask (ix1 i) = 1#1 := by
  unfold rkeep
  pointwise
  rw [Routing.fold_ori]
  exact ⟨⟨0, by omega⟩, Finset.mem_univ _, (rmask_at _ _).2 (Or.inr (Or.inl (by show 0 < 32; omega)))⟩
/-- The factor the scores are scaled by. -/
def c8 : EReal := Ideal.ofBits .f32 0x3E000000#32
theorem c8_real : IsR c8 := by
  refine ⟨1 / 8, ?_⟩
  unfold c8
  simp [Ideal.ofBits, Ideal.ieee, -EReal.coe_mul]; norm_num
theorem ninf : Ideal.ofBits .f32 0xFF800000#32 = (⊥ : EReal) := by
  simp [Ideal.ofBits, Ideal.ieee]
theorem rsc_at (X : FVec Ideal S2x4096x512 .bf16) (W : FVec Ideal S512x256 .bf16) (K : FVec Ideal S2x4096x4x64 .bf16) (k : IVec S4096x4096 1) (b : Fin 2) (h : Fin 4) (i j : Fin 4096) :
    rsc X W K k (ix4 b h i j) = if k (ix2 i j) = 1#1 then (∑ d : Fin 64, (∑ t : Fin 512, X (ix3 b i t) * W (ix2 t ⟨h * 64 + d, by omega⟩)) * K (ix4 b j h d)) * c8 else ⊥ := by
  unfold rsc
  pointwise
  rw [Scalar.select]
  refine if_congr Iff.rfl rfl ninf
theorem rex_at (s : FVec Ideal S2x4x4096x4096 .f32) (b : Fin 2) (h : Fin 4) (i j : Fin 4096) :
    rex s (ix4 b h i j) = Ideal.exp (s (ix4 b h i j) - Finset.univ.fold max ⊥ fun t : Fin 4096 => s (ix4 b h i t)) := by
  unfold rex
  pointwise
  rw [ninf]
theorem rwt_at (k : IVec S4096 1) (e : FVec Ideal S2x4x4096x4096 .f32) (b : Fin 2) (h : Fin 4) (i j : Fin 4096) (hk : k (ix1 i) = 1#1) :
    rwt k e (ix4 b h i j) = Ideal.div (e (ix4 b h i j)) (∑ t : Fin 4096, e (ix4 b h i t)) := by
  unfold rwt
  pointwise
  rw [hk]
  rfl
theorem rout_at (V : FVec Ideal S2x4096x4x64 .bf16) (w : FVec Ideal S2x4x4096x4096 .f32) (O : FVec Ideal S256x512 .bf16) (b : Fin 2) (i : Fin 4096) (n : Fin 512) :
    rout V w O (ix3 b i n) = ∑ t : Fin 256, (∑ j : Fin 4096, w (ix4 b ⟨t / 64, by omega⟩ i j) * V (ix4 b j ⟨t / 64, by omega⟩ ⟨t % 64, by omega⟩)) * O (ix2 t n) := by
  unfold rout
  pointwise
  refine Finset.sum_congr rfl fun t _ => ?_
  congr 1
  exact Finset.sum_congr rfl fun j _ => mul_comm _ _

/-- The unscaled and scaled score of a row against a column. -/
def SC (X : FVec Ideal S2x4096x512 .bf16) (W : FVec Ideal S512x256 .bf16) (K : FVec Ideal S2x4096x4x64 .bf16) (b : Fin 2) (h : Fin 4) (i j : Fin 4096) : EReal :=
  (∑ d : Fin 64, (∑ t : Fin 512, X (ix3 b i t) * W (ix2 t ⟨h * 64 + d, by omega⟩)) * K (ix4 b j h d)) * c8
/-- Whether a row attends to a column. -/
def vis (i j : ℕ) : Prop := i ≤ j + 128 ∧ j ≤ i + 128 ∨ j < 32 ∨ i < 32
instance (i j : ℕ) : Decidable (vis i j) := by unfold vis; infer_instance
/-- The columns a row attends to. -/
def cols (i : ℕ) : Finset (Fin 4096) := Finset.univ.filter fun j : Fin 4096 => vis i j
theorem mem_cols {i : ℕ} {j : Fin 4096} : j ∈ cols i ↔ vis i j := by rw [cols, Finset.mem_filter]; exact and_iff_right (Finset.mem_univ j)
/-- The result at an index. -/
def OUT (X : FVec Ideal S2x4096x512 .bf16) (W : FVec Ideal S512x256 .bf16) (K V : FVec Ideal S2x4096x4x64 .bf16) (O : FVec Ideal S256x512 .bf16) (b : Fin 2) (i : Fin 4096) (n : Fin 512) : EReal :=
  ∑ t : Fin 256, sma (cols i) (SC X W K b ⟨t / 64, by omega⟩ i) (fun j => V (ix4 b j ⟨t / 64, by omega⟩ ⟨t % 64, by omega⟩)) * O (ix2 t n)

theorem SC_real {X : FVec Ideal S2x4096x512 .bf16} {W : FVec Ideal S512x256 .bf16} {K : FVec Ideal S2x4096x4x64 .bf16} (hX : ∀ i, IsR (X i)) (hW : ∀ i, IsR (W i)) (hK : ∀ i, IsR (K i)) (b : Fin 2) (h : Fin 4) (i j : Fin 4096) : IsR (SC X W K b h i j) :=
  (IsR.sum _ fun d _ => (IsR.sum _ fun t _ => (hX _).mul (hW _)).mul (hK _)).mul c8_real

theorem cols_ne (i : ℕ) : (cols i).Nonempty := ⟨⟨0, by omega⟩, mem_cols.2 (Or.inr (Or.inl (by show 0 < 32; omega)))⟩

theorem ref_at (X : FVec Ideal S2x4096x512 .bf16) (W : FVec Ideal S512x256 .bf16) (K V : FVec Ideal S2x4096x4x64 .bf16) (O : FVec Ideal S256x512 .bf16)
    (hX : ∀ i, IsR (X i)) (hW : ∀ i, IsR (W i)) (hK : ∀ i, IsR (K i)) (b : Fin 2) (i : Fin 4096) (n : Fin 512) :
    rout V (rwt (rkeep rmask) (rex (rsc X W K rmask))) O (ix3 b i n) = OUT X W K V O b i n := by
  rw [rout_at, OUT]
  refine Finset.sum_congr rfl fun t _ => ?_
  refine congrArg (· * O (ix2 t n)) ?_
  rw [← attn_msk (p := fun j : Fin 4096 => vis i j) (g := fun j => j) (t := SC X W K b ⟨t / 64, by omega⟩ i) (w := fun j => V (ix4 b j ⟨t / 64, by omega⟩ ⟨t % 64, by omega⟩))
    (A := cols i) (cols_ne i) (fun j _ => SC_real hX hW hK _ _ _ _) (by rw [Finset.image_id']; rfl) (fun _ _ _ _ h => h) (fun _ _ => rfl) (fun _ _ => rfl)]
  have hs : ∀ j, rsc X W K rmask (ix4 b ⟨t / 64, by omega⟩ i j) = msk (fun j : Fin 4096 => vis i j) (SC X W K b ⟨t / 64, by omega⟩ i) j := fun j => by
    rw [rsc_at, msk]
    exact if_congr (rmask_at i j) rfl rfl
  refine Finset.sum_congr rfl fun j _ => ?_
  rw [rwt_at _ _ _ _ _ _ (rkeep_at i)]
  simp only [rex_at, hs]

end Cert.KernelIdealProof.RefV
-- ==== Proof.KernelIdeal.AcAt.lean ====
/- A device's partial attention for the global rows at an index. -/
module

public import proofs.«01_k».proof.Proof.KernelIdeal.KvAt
public import proofs.«01_k».proof.Proof.KernelIdeal.RefA

@[expose] public section

set_option maxRecDepth 16384

noncomputable section

namespace Cert.KernelIdealProof

open Cert.KernelIdeal Cert.KernelIdeal.Gen
open Idealize.ShloMosaic
open Idealize.ShloMosaic.TcCoe

theorem kv_rd0 {h} (f : CKv Ideal) (a : Fin 1) (b : Fin 2) (r : Fin 128) (n : Fin 256) : (View.whole cc0_scratch0).readAt (Elt Ideal) (Rect.unit (s := S2x2x128x256) ![0, 0, 0, 0] ![1, 2, 128, 256] h).toLoadRect f (ix4 a b r n) = f (ix4 0 b r n) :=
  rd_at (b := cc0_scratch0) f fun x => by
    fin_cases x
    · show 0 = 0 + (a : ℕ); omega
    · show (b : ℕ) = 0 + (b : ℕ); omega
    · show (r : ℕ) = 0 + (r : ℕ); omega
    · show (n : ℕ) = 0 + (n : ℕ); omega
theorem kv_rd1 {h} (f : CKv Ideal) (a : Fin 1) (b : Fin 2) (r : Fin 128) (n : Fin 256) : (View.whole cc0_scratch0).readAt (Elt Ideal) (Rect.unit (s := S2x2x128x256) ![1, 0, 0, 0] ![1, 2, 128, 256] h).toLoadRect f (ix4 a b r n) = f (ix4 1 b r n) :=
  rd_at (b := cc0_scratch0) f fun x => by
    fin_cases x
    · show 1 = 1 + (a : ℕ); omega
    · show (b : ℕ) = 0 + (b : ℕ); omega
    · show (r : ℕ) = 0 + (r : ℕ); omega
    · show (n : ℕ) = 0 + (n : ℕ); omega
theorem gl_rd0 {h} (f : CGl Ideal) (a : Fin 1) (b : Fin 2) (r : Fin 32) (n : Fin 256) : (View.whole cc0_scratch2).readAt (Elt Ideal) (Rect.unit (s := S3x2x32x256) ![0, 0, 0, 0] ![1, 2, 32, 256] h).toLoadRect f (ix4 a b r n) = f (ix4 0 b r n) :=
  rd_at (b := cc0_scratch2) f fun x => by
    fin_cases x
    · show 0 = 0 + (a : ℕ); omega
    · show (b : ℕ) = 0 + (b : ℕ); omega
    · show (r : ℕ) = 0 + (r : ℕ); omega
    · show (n : ℕ) = 0 + (n : ℕ); omega
theorem gl_rd1 {h} (f : CGl Ideal) (a : Fin 1) (b : Fin 2) (r : Fin 32) (n : Fin 256) : (View.whole cc0_scratch2).readAt (Elt Ideal) (Rect.unit (s := S3x2x32x256) ![1, 0, 0, 0] ![1, 2, 32, 256] h).toLoadRect f (ix4 a b r n) = f (ix4 1 b r n) :=
  rd_at (b := cc0_scratch2) f fun x => by
    fin_cases x
    · show 1 = 1 + (a : ℕ); omega
    · show (b : ℕ) = 0 + (b : ℕ); omega
    · show (r : ℕ) = 0 + (r : ℕ); omega
    · show (n : ℕ) = 0 + (n : ℕ); omega
theorem gl_rd2 {h} (f : CGl Ideal) (a : Fin 1) (b : Fin 2) (r : Fin 32) (n : Fin 256) : (View.whole cc0_scratch2).readAt (Elt Ideal) (Rect.unit (s := S3x2x32x256) ![2, 0, 0, 0] ![1, 2, 32, 256] h).toLoadRect f (ix4 a b r n) = f (ix4 2 b r n) :=
  rd_at (b := cc0_scratch2) f fun x => by
    fin_cases x
    · show 2 = 2 + (a : ℕ); omega
    · show (b : ℕ) = 0 + (b : ℕ); omega
    · show (r : ℕ) = 0 + (r : ℕ); omega
    · show (n : ℕ) = 0 + (n : ℕ); omega
/-- A head's column in the row of all heads. -/
def hd (h : Fin 4) (e : Fin 64) : Fin 256 := ⟨h * 64 + e, by omega⟩
theorem hd0 (e : Fin 64) {p : (e : ℕ) < 256} : (⟨e, p⟩ : Fin 256) = hd 0 e := Fin.ext (by show (e : ℕ) = 0 * 64 + (e : ℕ); omega)
theorem hd1 (e : Fin 64) {p : 64 + (e : ℕ) < 256} : (⟨64 + e, p⟩ : Fin 256) = hd 1 e := Fin.ext (by show 64 + (e : ℕ) = 1 * 64 + (e : ℕ); omega)
theorem hd2 (e : Fin 64) {p : 128 + (e : ℕ) < 256} : (⟨128 + e, p⟩ : Fin 256) = hd 2 e := Fin.ext (by show 128 + (e : ℕ) = 2 * 64 + (e : ℕ); omega)
theorem hd3 (e : Fin 64) {p : 192 + (e : ℕ) < 256} : (⟨192 + e, p⟩ : Fin 256) = hd 3 e := Fin.ext (by show 192 + (e : ℕ) = 3 * 64 + (e : ℕ); omega)
def glv (E : Env Ideal) (t : Fin 3) (b : Fin 2) (r : Fin 32) (n : Fin 256) : EReal := E.gl (ix4 t b r n)
def kvv (E : Env Ideal) (t b : Fin 2) (r : Fin 128) (n : Fin 256) : EReal := E.kv (ix4 t b r n)
/-- The score of a global row against a column of the device's block. -/
def gsc (E : Env Ideal) (b : Fin 2) (h : Fin 4) (i : Fin 32) (j : Fin 128) : EReal := (∑ e : Fin 64, glv E 2 b i (hd h e) * kvv E 0 b j (hd h e)) * RefV.c8
def gmx (E : Env Ideal) (b : Fin 2) (h : Fin 4) (i : Fin 32) : EReal := Finset.univ.fold max ⊥ fun j => gsc E b h i j
/-- The weighted sum, the largest score, and the sum of the exponentials, of a global row over the device's block. -/
def acV (E : Env Ideal) (b : Fin 2) (t : Fin 3) (i : Fin 32) (h : Fin 4) (d : Fin 64) : EReal :=
  match t with
  | 0 => ∑ j : Fin 128, Ideal.exp (gsc E b h i j - gmx E b h i) * kvv E 1 b j (hd h d)
  | 1 => gmx E b h i
  | 2 => ∑ j : Fin 128, Ideal.exp (gsc E b h i j - gmx E b h i)
theorem ac26_k0_pay67 (E : Env Ideal) (j : S1x1x32x64.Idx) : k0_pay67 (v259 E) (v267 E) j = acV E 0 0 (j 2) 0 (j 3) := by
  idx_vars j
  show _ = acV E 0 0 j2 0 j3
  pointwise [k0_pay67, v259, v267, k0_pay63, v256, k0_pay66, v248, v252, k0_pay65, k0_pay64]
  simp only [kv_rd0, kv_rd1, gl_rd2, RefV.ninf, hd0]
  rfl
theorem ac26_k0_pay68 (E : Env Ideal) (j : S1x1x32x64.Idx) : k0_pay68 (v264 E) j = acV E 0 1 (j 2) 0 (j 3) := by
  idx_vars j
  show _ = acV E 0 1 j2 0 j3
  pointwise [k0_pay68, v264, k0_pay65, v248, v252, k0_pay64]
  simp only [kv_rd0, kv_rd1, gl_rd2, RefV.ninf, hd0]
  rfl
theorem ac26_k0_pay69 (E : Env Ideal) (j : S1x1x32x64.Idx) : k0_pay69 (v267 E) j = acV E 0 2 (j 2) 0 (j 3) := by
  idx_vars j
  show _ = acV E 0 2 j2 0 j3
  pointwise [k0_pay69, v267, k0_pay66, v248, v252, k0_pay65, k0_pay64]
  simp only [kv_rd0, kv_rd1, gl_rd2, RefV.ninf, hd0]
  rfl
theorem ac27_k0_pay75 (E : Env Ideal) (j : S1x1x32x64.Idx) : k0_pay75 (v296 E) (v297 E) j = acV E 0 0 (j 2) 1 (j 3) := by
  idx_vars j
  show _ = acV E 0 0 j2 1 j3
  pointwise [k0_pay75, v296, v297, k0_pay74, k0_pay70, v293, k0_pay71, v285, v289, k0_pay73, k0_pay72]
  simp only [kv_rd0, kv_rd1, gl_rd2, RefV.ninf, hd1]
  rfl
theorem ac27_k0_pay76 (E : Env Ideal) (j : S1x1x32x64.Idx) : k0_pay76 (v297 E) j = acV E 0 1 (j 2) 1 (j 3) := by
  idx_vars j
  show _ = acV E 0 1 j2 1 j3
  pointwise [k0_pay76, v297, k0_pay73, k0_pay71, v285, v289, k0_pay72]
  simp only [kv_rd0, kv_rd1, gl_rd2, RefV.ninf, hd1]
  rfl
theorem ac27_k0_pay77 (E : Env Ideal) (j : S1x1x32x64.Idx) : k0_pay77 (v297 E) j = acV E 0 2 (j 2) 1 (j 3) := by
  idx_vars j
  show _ = acV E 0 2 j2 1 j3
  pointwise [k0_pay77, v297, k0_pay74, k0_pay71, v285, v289, k0_pay73, k0_pay72]
  simp only [kv_rd0, kv_rd1, gl_rd2, RefV.ninf, hd1]
  rfl
theorem ac28_k0_pay83 (E : Env Ideal) (j : S1x1x32x64.Idx) : k0_pay83 (v325 E) (v329 E) (v330 E) j = acV E 0 0 (j 2) 2 (j 3) := by
  idx_vars j
  show _ = acV E 0 0 j2 2 j3
  pointwise [k0_pay83, v325, v329, v330, k0_pay82, k0_pay78, v322, k0_pay79, v326, k0_pay81, k0_pay80]
  simp only [kv_rd0, kv_rd1, gl_rd2, RefV.ninf, hd2]
  rfl
theorem ac28_k0_pay84 (E : Env Ideal) (j : S1x1x32x64.Idx) : k0_pay84 (v325 E) (v329 E) j = acV E 0 1 (j 2) 2 (j 3) := by
  idx_vars j
  show _ = acV E 0 1 j2 2 j3
  pointwise [k0_pay84, v325, v329, k0_pay81, k0_pay78, v322, k0_pay79, v326, k0_pay80]
  simp only [kv_rd0, kv_rd1, gl_rd2, RefV.ninf, hd2]
  rfl
theorem ac28_k0_pay85 (E : Env Ideal) (j : S1x1x32x64.Idx) : k0_pay85 (v325 E) (v329 E) j = acV E 0 2 (j 2) 2 (j 3) := by
  idx_vars j
  show _ = acV E 0 2 j2 2 j3
  pointwise [k0_pay85, v325, v329, k0_pay82, k0_pay78, v322, k0_pay79, v326, k0_pay81, k0_pay80]
  simp only [kv_rd0, kv_rd1, gl_rd2, RefV.ninf, hd2]
  rfl
theorem ac29_k0_pay90 (E : Env Ideal) (j : S1x1x32x64.Idx) : k0_pay90 (v362 E) (v363 E) (v367 E) j = acV E 0 0 (j 2) 3 (j 3) := by
  idx_vars j
  show _ = acV E 0 0 j2 3 j3
  pointwise [k0_pay90, v362, v363, v367, k0_pay89, k0_pay86, v359, k0_pay88, k0_pay87]
  simp only [kv_rd0, kv_rd1, gl_rd2, RefV.ninf, hd3]
  rfl
theorem ac29_k0_pay91 (E : Env Ideal) (j : S1x1x32x64.Idx) : k0_pay91 (v362 E) (v363 E) j = acV E 0 1 (j 2) 3 (j 3) := by
  idx_vars j
  show _ = acV E 0 1 j2 3 j3
  pointwise [k0_pay91, v362, v363, k0_pay88, k0_pay86, v359, k0_pay87]
  simp only [kv_rd0, kv_rd1, gl_rd2, RefV.ninf, hd3]
  rfl
theorem ac30_v395 (E : Env Ideal) (j : S1x1x32x64.Idx) : v395 E j = acV E 0 2 (j 2) 3 (j 3) := by
  idx_vars j
  show _ = acV E 0 2 j2 3 j3
  pointwise [v395, k0_pay92, v362, v363, k0_pay89, k0_pay86, v359, k0_pay88, k0_pay87]
  simp only [kv_rd0, kv_rd1, gl_rd2, RefV.ninf, hd3]
  rfl
theorem ac30_k0_pay97 (E : Env Ideal) (j : S1x1x32x64.Idx) : k0_pay97 (v396 E) (v400 E) (v404 E) j = acV E 1 0 (j 2) 0 (j 3) := by
  idx_vars j
  show _ = acV E 1 0 j2 0 j3
  pointwise [k0_pay97, v396, v400, v404, k0_pay95, k0_pay94, k0_pay93]
  simp only [kv_rd0, kv_rd1, gl_rd2, RefV.ninf, hd0]
  rfl
theorem ac30_k0_pay98 (E : Env Ideal) (j : S1x1x32x64.Idx) : k0_pay98 (v396 E) (v400 E) j = acV E 1 1 (j 2) 0 (j 3) := by
  idx_vars j
  show _ = acV E 1 1 j2 0 j3
  pointwise [k0_pay98, v396, v400, k0_pay94, k0_pay93]
  simp only [kv_rd0, kv_rd1, gl_rd2, RefV.ninf, hd0]
  rfl
theorem ac31_k0_pay99 (E : Env Ideal) (j : S1x1x32x64.Idx) : k0_pay99 (v417 E) j = acV E 1 2 (j 2) 0 (j 3) := by
  idx_vars j
  show _ = acV E 1 2 j2 0 j3
  pointwise [k0_pay99, v417, k0_pay96, v396, v400, k0_pay95, k0_pay94, k0_pay93]
  simp only [kv_rd0, kv_rd1, gl_rd2, RefV.ninf, hd0]
  rfl
theorem ac31_k0_pay104 (E : Env Ideal) (j : S1x1x32x64.Idx) : k0_pay104 (v433 E) (v437 E) (v441 E) j = acV E 1 0 (j 2) 1 (j 3) := by
  idx_vars j
  show _ = acV E 1 0 j2 1 j3
  pointwise [k0_pay104, v433, v437, v441, k0_pay102, k0_pay101, k0_pay100]
  simp only [kv_rd0, kv_rd1, gl_rd2, RefV.ninf, hd1]
  rfl
theorem ac32_k0_pay106 (E : Env Ideal) (j : S1x1x32x64.Idx) : k0_pay106 (v460 E) j = acV E 1 1 (j 2) 1 (j 3) := by
  idx_vars j
  show _ = acV E 1 1 j2 1 j3
  pointwise [k0_pay106, v460, k0_pay105, v433, v437, k0_pay101, k0_pay100]
  simp only [kv_rd0, kv_rd1, gl_rd2, RefV.ninf, hd1]
  rfl
theorem ac32_k0_pay107 (E : Env Ideal) (j : S1x1x32x64.Idx) : k0_pay107 (v454 E) j = acV E 1 2 (j 2) 1 (j 3) := by
  idx_vars j
  show _ = acV E 1 2 j2 1 j3
  pointwise [k0_pay107, v454, k0_pay103, v433, v437, k0_pay102, k0_pay101, k0_pay100]
  simp only [kv_rd0, kv_rd1, gl_rd2, RefV.ninf, hd1]
  rfl
theorem ac33_k0_pay113 (E : Env Ideal) (j : S1x1x32x64.Idx) : k0_pay113 (v493 E) j = acV E 1 0 (j 2) 2 (j 3) := by
  idx_vars j
  show _ = acV E 1 0 j2 2 j3
  pointwise [k0_pay113, v493, k0_pay112, v470, v474, v478, k0_pay110, k0_pay109, k0_pay108]
  simp only [kv_rd0, kv_rd1, gl_rd2, RefV.ninf, hd2]
  rfl
theorem ac33_k0_pay114 (E : Env Ideal) (j : S1x1x32x64.Idx) : k0_pay114 (v486 E) j = acV E 1 1 (j 2) 2 (j 3) := by
  idx_vars j
  show _ = acV E 1 1 j2 2 j3
  pointwise [k0_pay114, v486, k0_pay109, v470, v474, k0_pay108]
  simp only [kv_rd0, kv_rd1, gl_rd2, RefV.ninf, hd2]
  rfl
theorem ac33_k0_pay115 (E : Env Ideal) (j : S1x1x32x64.Idx) : k0_pay115 (v491 E) j = acV E 1 2 (j 2) 2 (j 3) := by
  idx_vars j
  show _ = acV E 1 2 j2 2 j3
  pointwise [k0_pay115, v491, k0_pay111, v470, v474, k0_pay110, k0_pay109, k0_pay108]
  simp only [kv_rd0, kv_rd1, gl_rd2, RefV.ninf, hd2]
  rfl
theorem ac34_k0_pay120 (E : Env Ideal) (j : S1x1x32x64.Idx) : k0_pay120 (v518 E) (v521 E) (v523 E) j = acV E 1 0 (j 2) 3 (j 3) := by
  idx_vars j
  show _ = acV E 1 0 j2 3 j3
  pointwise [k0_pay120, v518, v521, v523, k0_pay119, k0_pay116, v515, k0_pay117, v507, v511, k0_pay118]
  simp only [kv_rd0, kv_rd1, gl_rd2, RefV.ninf, hd3]
  rfl
theorem ac34_k0_pay121 (E : Env Ideal) (j : S1x1x32x64.Idx) : k0_pay121 (v523 E) j = acV E 1 1 (j 2) 3 (j 3) := by
  idx_vars j
  show _ = acV E 1 1 j2 3 j3
  pointwise [k0_pay121, v523, k0_pay118, v507, v511, k0_pay117]
  simp only [kv_rd0, kv_rd1, gl_rd2, RefV.ninf, hd3]
  rfl
theorem ac34_k0_pay122 (E : Env Ideal) (j : S1x1x32x64.Idx) : k0_pay122 (v521 E) (v523 E) j = acV E 1 2 (j 2) 3 (j 3) := by
  idx_vars j
  show _ = acV E 1 2 j2 3 j3
  pointwise [k0_pay122, v521, v523, k0_pay119, k0_pay117, v507, v511, k0_pay118]
  simp only [kv_rd0, kv_rd1, gl_rd2, RefV.ninf, hd3]
  rfl
theorem acV_congr (E : Env Ideal) {b b' : Fin 2} {t t' : Fin 3} {i i' : Fin 32} {h h' : Fin 4} {d d' : Fin 64} (e1 : (b : ℕ) = b') (e2 : (t : ℕ) = t') (e3 : (i : ℕ) = i') (e4 : (h : ℕ) = h') (e5 : (d : ℕ) = d') : acV E b t i h d = acV E b' t' i' h' d' := by
  rw [Fin.ext e1, Fin.ext e2, Fin.ext e3, Fin.ext e4, Fin.ext e5]
/-- The partial attention, heads side by side. -/
def acG (E : Env Ideal) (i : Shape.Idx S2x3x32x256) : EReal := acV E (i 0) (i 1) (i 2) ⟨(i 3 : ℕ) / 64, by have h : (i 3 : ℕ) < 256 := (i 3).isLt; omega⟩ ⟨(i 3 : ℕ) % 64, Nat.mod_lt _ (by decide)⟩
theorem ac_H (E : Env Ideal) {o0 o1 o3 : ℕ} {b : Fin 2} {t : Fin 3} {h : Fin 4} {w : S1x1x32x64.Idx → EReal} (hw : ∀ j, w j = acV E b t (j 2) h (j 3)) (hb : o0 = b) (ht : o1 = t) (hh : o3 = 64 * (h : ℕ))
    (j : S1x1x32x64.Idx) (i : Shape.Idx S2x3x32x256) (e : ∀ a, (i a : ℕ) = (![o0, o1, 0, o3] : Fin 4 → ℕ) a + (j a : ℕ)) : w j = acG E i := by
  have e0 : (i 0 : ℕ) = o0 + (j 0 : ℕ) := e 0
  have e1 : (i 1 : ℕ) = o1 + (j 1 : ℕ) := e 1
  have e2 : (i 2 : ℕ) = 0 + (j 2 : ℕ) := e 2
  have e3 : (i 3 : ℕ) = o3 + (j 3 : ℕ) := e 3
  have l0 : (j 0 : ℕ) < 1 := (j 0).isLt
  have l1 : (j 1 : ℕ) < 1 := (j 1).isLt
  have l3 : (j 3 : ℕ) < 64 := (j 3).isLt
  rw [hw j]
  refine acV_congr E ?_ ?_ ?_ ?_ ?_
  · omega
  · omega
  · omega
  · show (h : ℕ) = (i 3 : ℕ) / 64; omega
  · show (j 3 : ℕ) = (i 3 : ℕ) % 64; omega

theorem acAll_at (E : Env Ideal) (f : CAc Ideal) (i : Shape.Idx S2x3x32x256) : acAll E f i = acG E i := by
  unfold acAll ac26 ac27 ac28 ac29 ac30 ac31 ac32 ac33 ac34
  refine ac_wr (acG E) ?_ fun h0 => ?_
  · exact ac_H E (ac34_k0_pay122 E) rfl rfl rfl
  refine ac_wr (acG E) ?_ fun h1 => ?_
  · exact ac_H E (ac34_k0_pay121 E) rfl rfl rfl
  refine ac_wr (acG E) ?_ fun h2 => ?_
  · exact ac_H E (ac34_k0_pay120 E) rfl rfl rfl
  refine ac_wr (acG E) ?_ fun h3 => ?_
  · exact ac_H E (ac33_k0_pay115 E) rfl rfl rfl
  refine ac_wr (acG E) ?_ fun h4 => ?_
  · exact ac_H E (ac33_k0_pay114 E) rfl rfl rfl
  refine ac_wr (acG E) ?_ fun h5 => ?_
  · exact ac_H E (ac33_k0_pay113 E) rfl rfl rfl
  refine ac_wr (acG E) ?_ fun h6 => ?_
  · exact ac_H E (ac32_k0_pay107 E) rfl rfl rfl
  refine ac_wr (acG E) ?_ fun h7 => ?_
  · exact ac_H E (ac32_k0_pay106 E) rfl rfl rfl
  refine ac_wr (acG E) ?_ fun h8 => ?_
  · exact ac_H E (ac31_k0_pay104 E) rfl rfl rfl
  refine ac_wr (acG E) ?_ fun h9 => ?_
  · exact ac_H E (ac31_k0_pay99 E) rfl rfl rfl
  refine ac_wr (acG E) ?_ fun h10 => ?_
  · exact ac_H E (ac30_k0_pay98 E) rfl rfl rfl
  refine ac_wr (acG E) ?_ fun h11 => ?_
  · exact ac_H E (ac30_k0_pay97 E) rfl rfl rfl
  refine ac_wr (acG E) ?_ fun h12 => ?_
  · exact ac_H E (ac30_v395 E) rfl rfl rfl
  refine ac_wr (acG E) ?_ fun h13 => ?_
  · exact ac_H E (ac29_k0_pay91 E) rfl rfl rfl
  refine ac_wr (acG E) ?_ fun h14 => ?_
  · exact ac_H E (ac29_k0_pay90 E) rfl rfl rfl
  refine ac_wr (acG E) ?_ fun h15 => ?_
  · exact ac_H E (ac28_k0_pay85 E) rfl rfl rfl
  refine ac_wr (acG E) ?_ fun h16 => ?_
  · exact ac_H E (ac28_k0_pay84 E) rfl rfl rfl
  refine ac_wr (acG E) ?_ fun h17 => ?_
  · exact ac_H E (ac28_k0_pay83 E) rfl rfl rfl
  refine ac_wr (acG E) ?_ fun h18 => ?_
  · exact ac_H E (ac27_k0_pay77 E) rfl rfl rfl
  refine ac_wr (acG E) ?_ fun h19 => ?_
  · exact ac_H E (ac27_k0_pay76 E) rfl rfl rfl
  refine ac_wr (acG E) ?_ fun h20 => ?_
  · exact ac_H E (ac27_k0_pay75 E) rfl rfl rfl
  refine ac_wr (acG E) ?_ fun h21 => ?_
  · exact ac_H E (ac26_k0_pay69 E) rfl rfl rfl
  refine ac_wr (acG E) ?_ fun h22 => ?_
  · exact ac_H E (ac26_k0_pay68 E) rfl rfl rfl
  refine ac_wr (acG E) ?_ fun h23 => ?_
  · exact ac_H E (ac26_k0_pay67 E) rfl rfl rfl
  exfalso
  have b0 : (i 0 : ℕ) < 2 := (i 0).isLt
  have b1 : (i 1 : ℕ) < 3 := (i 1).isLt
  have b3 : (i 3 : ℕ) < 256 := (i 3).isLt
  rcases (by omega : (i 0 : ℕ) = 0 ∨ (i 0 : ℕ) = 1) with c0 | c0 <;> rcases (by omega : (i 1 : ℕ) = 0 ∨ (i 1 : ℕ) = 1 ∨ (i 1 : ℕ) = 2) with c1 | c1 | c1 <;> rcases (by omega : (0 ≤ (i 3 : ℕ) ∧ (i 3 : ℕ) < 0 + 64) ∨ (64 ≤ (i 3 : ℕ) ∧ (i 3 : ℕ) < 64 + 64) ∨ (128 ≤ (i 3 : ℕ) ∧ (i 3 : ℕ) < 128 + 64) ∨ (192 ≤ (i 3 : ℕ) ∧ (i 3 : ℕ) < 192 + 64)) with c3 | c3 | c3 | c3
  · exact h23 ⟨c0.ge, Nat.lt_of_le_of_lt c0.le (by decide), c1.ge, Nat.lt_of_le_of_lt c1.le (by decide), Nat.zero_le _, (i 2).isLt, c3.1, c3.2⟩
  · exact h20 ⟨c0.ge, Nat.lt_of_le_of_lt c0.le (by decide), c1.ge, Nat.lt_of_le_of_lt c1.le (by decide), Nat.zero_le _, (i 2).isLt, c3.1, c3.2⟩
  · exact h17 ⟨c0.ge, Nat.lt_of_le_of_lt c0.le (by decide), c1.ge, Nat.lt_of_le_of_lt c1.le (by decide), Nat.zero_le _, (i 2).isLt, c3.1, c3.2⟩
  · exact h14 ⟨c0.ge, Nat.lt_of_le_of_lt c0.le (by decide), c1.ge, Nat.lt_of_le_of_lt c1.le (by decide), Nat.zero_le _, (i 2).isLt, c3.1, c3.2⟩
  · exact h22 ⟨c0.ge, Nat.lt_of_le_of_lt c0.le (by decide), c1.ge, Nat.lt_of_le_of_lt c1.le (by decide), Nat.zero_le _, (i 2).isLt, c3.1, c3.2⟩
  · exact h19 ⟨c0.ge, Nat.lt_of_le_of_lt c0.le (by decide), c1.ge, Nat.lt_of_le_of_lt c1.le (by decide), Nat.zero_le _, (i 2).isLt, c3.1, c3.2⟩
  · exact h16 ⟨c0.ge, Nat.lt_of_le_of_lt c0.le (by decide), c1.ge, Nat.lt_of_le_of_lt c1.le (by decide), Nat.zero_le _, (i 2).isLt, c3.1, c3.2⟩
  · exact h13 ⟨c0.ge, Nat.lt_of_le_of_lt c0.le (by decide), c1.ge, Nat.lt_of_le_of_lt c1.le (by decide), Nat.zero_le _, (i 2).isLt, c3.1, c3.2⟩
  · exact h21 ⟨c0.ge, Nat.lt_of_le_of_lt c0.le (by decide), c1.ge, Nat.lt_of_le_of_lt c1.le (by decide), Nat.zero_le _, (i 2).isLt, c3.1, c3.2⟩
  · exact h18 ⟨c0.ge, Nat.lt_of_le_of_lt c0.le (by decide), c1.ge, Nat.lt_of_le_of_lt c1.le (by decide), Nat.zero_le _, (i 2).isLt, c3.1, c3.2⟩
  · exact h15 ⟨c0.ge, Nat.lt_of_le_of_lt c0.le (by decide), c1.ge, Nat.lt_of_le_of_lt c1.le (by decide), Nat.zero_le _, (i 2).isLt, c3.1, c3.2⟩
  · exact h12 ⟨c0.ge, Nat.lt_of_le_of_lt c0.le (by decide), c1.ge, Nat.lt_of_le_of_lt c1.le (by decide), Nat.zero_le _, (i 2).isLt, c3.1, c3.2⟩
  · exact h11 ⟨c0.ge, Nat.lt_of_le_of_lt c0.le (by decide), c1.ge, Nat.lt_of_le_of_lt c1.le (by decide), Nat.zero_le _, (i 2).isLt, c3.1, c3.2⟩
  · exact h8 ⟨c0.ge, Nat.lt_of_le_of_lt c0.le (by decide), c1.ge, Nat.lt_of_le_of_lt c1.le (by decide), Nat.zero_le _, (i 2).isLt, c3.1, c3.2⟩
  · exact h5 ⟨c0.ge, Nat.lt_of_le_of_lt c0.le (by decide), c1.ge, Nat.lt_of_le_of_lt c1.le (by decide), Nat.zero_le _, (i 2).isLt, c3.1, c3.2⟩
  · exact h2 ⟨c0.ge, Nat.lt_of_le_of_lt c0.le (by decide), c1.ge, Nat.lt_of_le_of_lt c1.le (by decide), Nat.zero_le _, (i 2).isLt, c3.1, c3.2⟩
  · exact h10 ⟨c0.ge, Nat.lt_of_le_of_lt c0.le (by decide), c1.ge, Nat.lt_of_le_of_lt c1.le (by decide), Nat.zero_le _, (i 2).isLt, c3.1, c3.2⟩
  · exact h7 ⟨c0.ge, Nat.lt_of_le_of_lt c0.le (by decide), c1.ge, Nat.lt_of_le_of_lt c1.le (by decide), Nat.zero_le _, (i 2).isLt, c3.1, c3.2⟩
  · exact h4 ⟨c0.ge, Nat.lt_of_le_of_lt c0.le (by decide), c1.ge, Nat.lt_of_le_of_lt c1.le (by decide), Nat.zero_le _, (i 2).isLt, c3.1, c3.2⟩
  · exact h1 ⟨c0.ge, Nat.lt_of_le_of_lt c0.le (by decide), c1.ge, Nat.lt_of_le_of_lt c1.le (by decide), Nat.zero_le _, (i 2).isLt, c3.1, c3.2⟩
  · exact h9 ⟨c0.ge, Nat.lt_of_le_of_lt c0.le (by decide), c1.ge, Nat.lt_of_le_of_lt c1.le (by decide), Nat.zero_le _, (i 2).isLt, c3.1, c3.2⟩
  · exact h6 ⟨c0.ge, Nat.lt_of_le_of_lt c0.le (by decide), c1.ge, Nat.lt_of_le_of_lt c1.le (by decide), Nat.zero_le _, (i 2).isLt, c3.1, c3.2⟩
  · exact h3 ⟨c0.ge, Nat.lt_of_le_of_lt c0.le (by decide), c1.ge, Nat.lt_of_le_of_lt c1.le (by decide), Nat.zero_le _, (i 2).isLt, c3.1, c3.2⟩
  · exact h0 ⟨c0.ge, Nat.lt_of_le_of_lt c0.le (by decide), c1.ge, Nat.lt_of_le_of_lt c1.le (by decide), Nat.zero_le _, (i 2).isLt, c3.1, c3.2⟩

end Cert.KernelIdealProof
-- ==== Proof.KernelIdeal.MgAt.lean ====
/- The global rows in their buffer, the landed partial results, and the merges, at an index. -/
module

public import proofs.«01_k».proof.Proof.KernelIdeal.AcAt

@[expose] public section

set_option maxRecDepth 16384

noncomputable section

namespace Cert.KernelIdealProof

open Cert.KernelIdeal Cert.KernelIdeal.Gen
open Idealize.ShloMosaic
open Idealize.ShloMosaic.TcCoe

/-- A row of Q. -/
def qv (E : Env Ideal) (b : Fin 2) (r : Fin 128) (n : Fin 256) : EReal := ∑ k : Fin 512, (show FVec Ideal S2x128x512 .bf16 from E.x0) (ix3 b r k) * (show FVec Ideal S512x256 .bf16 from E.x1) (ix2 k n)
theorem x0_rd0 {h} (f : CX0 Ideal) (a : Fin 1) (r : Fin 128) (n : Fin 512) : (View.whole cc0_stg0_0).readAt (Elt Ideal) (Rect.unit (s := S2x128x512) ![0, 0, 0] ![1, 128, 512] h).toLoadRect f (ix3 a r n) = f (ix3 0 r n) :=
  rd_at (b := cc0_stg0_0) f fun x => by
    fin_cases x
    · show 0 = 0 + (a : ℕ); omega
    · show (r : ℕ) = 0 + (r : ℕ); omega
    · show (n : ℕ) = 0 + (n : ℕ); omega
theorem x0_rd1 {h} (f : CX0 Ideal) (a : Fin 1) (r : Fin 128) (n : Fin 512) : (View.whole cc0_stg0_0).readAt (Elt Ideal) (Rect.unit (s := S2x128x512) ![1, 0, 0] ![1, 128, 512] h).toLoadRect f (ix3 a r n) = f (ix3 1 r n) :=
  rd_at (b := cc0_stg0_0) f fun x => by
    fin_cases x
    · show 1 = 1 + (a : ℕ); omega
    · show (r : ℕ) = 0 + (r : ℕ); omega
    · show (n : ℕ) = 0 + (n : ℕ); omega
theorem x1_rd {h} (f : CX1 Ideal) (r : Fin 512) (n : Fin 256) : (View.whole cc0_stg1_0).readAt (Elt Ideal) (Rect.unit (s := S512x256) ![0, 0] ![512, 256] h).toLoadRect f (ix2 r n) = f (ix2 r n) :=
  rd_at (b := cc0_stg1_0) f fun x => by
    fin_cases x
    · show (r : ℕ) = 0 + (r : ℕ); omega
    · show (n : ℕ) = 0 + (n : ℕ); omega
theorem v145_at (E : Env Ideal) (b : Fin 2) (r : Fin 128) (n : Fin 256) : v145 E (ix3 b r n) = qv E b r n := by
  pointwise [v145, k0_pay44, v133, v135, v139]
  simp only [x0_rd0, x0_rd1, x1_rd]
  split
  · next h => obtain rfl : b = 0 := Fin.ext (by show (b : ℕ) = 0; omega)
              rfl
  · next h => obtain rfl : b = 1 := Fin.ext (by show (b : ℕ) = 1; omega)
              rfl

/-- The global rows of K, V and Q. -/
def glG (E : Env Ideal) (t : Fin 3) (b : Fin 2) (r : Fin 32) (n : Fin 256) : EReal :=
  match t with
  | 0 => kvv E 0 b ⟨r, by omega⟩ n
  | 1 => kvv E 1 b ⟨r, by omega⟩ n
  | 2 => qv E b ⟨r, by omega⟩ n
theorem glG_congr (E : Env Ideal) {t t' : Fin 3} {b b' : Fin 2} {r r' : Fin 32} {n n' : Fin 256} (e0 : (t : ℕ) = t') (e1 : (b : ℕ) = b') (e2 : (r : ℕ) = r') (e3 : (n : ℕ) = n') : glG E t b r n = glG E t' b' r' n' := by
  rw [Fin.ext e0, Fin.ext e1, Fin.ext e2, Fin.ext e3]
theorem gl1_0 (E : Env Ideal) (j : S1x2x32x256.Idx) : k0_pay1 (v892 E) j = glG E 0 (j 1) (j 2) (j 3) := by
  idx_vars j
  show _ = glG E 0 j1 j2 j3
  pointwise [k0_pay1, v892]
  simp only [kv_rd0, kv_rd1, v145_at]
  rfl
theorem gl1_1 (E : Env Ideal) (j : S1x2x32x256.Idx) : k0_pay2 (v898 E) j = glG E 1 (j 1) (j 2) (j 3) := by
  idx_vars j
  show _ = glG E 1 j1 j2 j3
  pointwise [k0_pay2, v898]
  simp only [kv_rd0, kv_rd1, v145_at]
  rfl
theorem gl1_2 (E : Env Ideal) (j : S1x2x32x256.Idx) : k0_pay3 (v145 E) j = glG E 2 (j 1) (j 2) (j 3) := by
  idx_vars j
  show _ = glG E 2 j1 j2 j3
  pointwise [k0_pay3]
  simp only [kv_rd0, kv_rd1, v145_at]
  rfl
theorem gl_H (E : Env Ideal) {o0 : ℕ} {t : Fin 3} {w : S1x2x32x256.Idx → EReal} (hw : ∀ j, w j = glG E t (j 1) (j 2) (j 3)) (ht : o0 = t)
    (j : S1x2x32x256.Idx) (i : Shape.Idx S3x2x32x256) (e : ∀ a, (i a : ℕ) = (![o0, 0, 0, 0] : Fin 4 → ℕ) a + (j a : ℕ)) : w j = glG E (i 0) (i 1) (i 2) (i 3) := by
  have e0 : (i 0 : ℕ) = o0 + (j 0 : ℕ) := e 0
  have e1 : (i 1 : ℕ) = 0 + (j 1 : ℕ) := e 1
  have e2 : (i 2 : ℕ) = 0 + (j 2 : ℕ) := e 2
  have e3 : (i 3 : ℕ) = 0 + (j 3 : ℕ) := e 3
  have l0 : (j 0 : ℕ) < 1 := (j 0).isLt
  rw [hw j]
  refine glG_congr E ?_ ?_ ?_ ?_ <;> omega
theorem gl1_at (E : Env Ideal) (f : CGl Ideal) (i : Shape.Idx S3x2x32x256) : gl1 E f i = glG E (i 0) (i 1) (i 2) (i 3) := by
  unfold gl1
  refine gl_wr (fun i : Shape.Idx S3x2x32x256 => glG E (i 0) (i 1) (i 2) (i 3)) ?_ fun h2 => ?_
  · exact gl_H E (gl1_2 E) rfl
  refine gl_wr (fun i : Shape.Idx S3x2x32x256 => glG E (i 0) (i 1) (i 2) (i 3)) ?_ fun h1 => ?_
  · exact gl_H E (gl1_1 E) rfl
  refine gl_wr (fun i : Shape.Idx S3x2x32x256 => glG E (i 0) (i 1) (i 2) (i 3)) ?_ fun h0 => ?_
  · exact gl_H E (gl1_0 E) rfl
  exfalso
  have b0 : (i 0 : ℕ) < 3 := (i 0).isLt
  rcases (by omega : (i 0 : ℕ) = 0 ∨ (i 0 : ℕ) = 1 ∨ (i 0 : ℕ) = 2) with c0 | c0 | c0
  · exact h0 ⟨c0.ge, Nat.lt_of_le_of_lt c0.le (by decide), Nat.zero_le _, (i 1).isLt, Nat.zero_le _, (i 2).isLt, Nat.zero_le _, (i 3).isLt⟩
  · exact h1 ⟨c0.ge, Nat.lt_of_le_of_lt c0.le (by decide), Nat.zero_le _, (i 1).isLt, Nat.zero_le _, (i 2).isLt, Nat.zero_le _, (i 3).isLt⟩
  · exact h2 ⟨c0.ge, Nat.lt_of_le_of_lt c0.le (by decide), Nat.zero_le _, (i 1).isLt, Nat.zero_le _, (i 2).isLt, Nat.zero_le _, (i 3).isLt⟩

/-- An element of a partial result, and of a landed one. -/
def aa (a : CAc Ideal) (b : Fin 2) (t : Fin 3) (i : Fin 32) (n : Fin 256) : EReal := a (ix4 b t i n)
def rr (r : CRd Ideal) (k : Fin 5) (b : Fin 2) (t : Fin 3) (i : Fin 32) (n : Fin 256) : EReal := r (ix5 k b t i n)
/-- A partial result merged with another. -/
def mgV (a r : Fin 3 → EReal) (t : Fin 3) : EReal :=
  match t with
  | 0 => a 0 * Ideal.exp (a 1 - max (a 1) (r 1)) + r 0 * Ideal.exp (r 1 - max (a 1) (r 1))
  | 1 => max (a 1) (r 1)
  | 2 => a 2 * Ideal.exp (a 1 - max (a 1) (r 1)) + r 2 * Ideal.exp (r 1 - max (a 1) (r 1))
theorem ac_rd0 {h} (f : CAc Ideal) (b : Fin 2) (x : Fin 1) (r : Fin 32) (n : Fin 256) : (View.whole cc0_scratch3).readAt (Elt Ideal) (Rect.unit (s := S2x3x32x256) ![0, 0, 0, 0] ![2, 1, 32, 256] h).toLoadRect f (ix4 b x r n) = f (ix4 b 0 r n) :=
  rd_at (b := cc0_scratch3) f fun y => by
    fin_cases y
    · show (b : ℕ) = 0 + (b : ℕ); omega
    · show 0 = 0 + (x : ℕ); omega
    · show (r : ℕ) = 0 + (r : ℕ); omega
    · show (n : ℕ) = 0 + (n : ℕ); omega
theorem rd_rd00 {h} (f : CRd Ideal) (z : Fin 1) (b : Fin 2) (x : Fin 1) (r : Fin 32) (n : Fin 256) : (View.whole cc0_scratch4).readAt (Elt Ideal) (Rect.unit (s := S5x2x3x32x256) ![0, 0, 0, 0, 0] ![1, 2, 1, 32, 256] h).toLoadRect f (ix5 z b x r n) = f (ix5 0 b 0 r n) :=
  rd_at (b := cc0_scratch4) f fun y => by
    fin_cases y
    · show 0 = 0 + (z : ℕ); omega
    · show (b : ℕ) = 0 + (b : ℕ); omega
    · show 0 = 0 + (x : ℕ); omega
    · show (r : ℕ) = 0 + (r : ℕ); omega
    · show (n : ℕ) = 0 + (n : ℕ); omega
theorem rd_rd10 {h} (f : CRd Ideal) (z : Fin 1) (b : Fin 2) (x : Fin 1) (r : Fin 32) (n : Fin 256) : (View.whole cc0_scratch4).readAt (Elt Ideal) (Rect.unit (s := S5x2x3x32x256) ![1, 0, 0, 0, 0] ![1, 2, 1, 32, 256] h).toLoadRect f (ix5 z b x r n) = f (ix5 1 b 0 r n) :=
  rd_at (b := cc0_scratch4) f fun y => by
    fin_cases y
    · show 1 = 1 + (z : ℕ); omega
    · show (b : ℕ) = 0 + (b : ℕ); omega
    · show 0 = 0 + (x : ℕ); omega
    · show (r : ℕ) = 0 + (r : ℕ); omega
    · show (n : ℕ) = 0 + (n : ℕ); omega
theorem rd_rd20 {h} (f : CRd Ideal) (z : Fin 1) (b : Fin 2) (x : Fin 1) (r : Fin 32) (n : Fin 256) : (View.whole cc0_scratch4).readAt (Elt Ideal) (Rect.unit (s := S5x2x3x32x256) ![2, 0, 0, 0, 0] ![1, 2, 1, 32, 256] h).toLoadRect f (ix5 z b x r n) = f (ix5 2 b 0 r n) :=
  rd_at (b := cc0_scratch4) f fun y => by
    fin_cases y
    · show 2 = 2 + (z : ℕ); omega
    · show (b : ℕ) = 0 + (b : ℕ); omega
    · show 0 = 0 + (x : ℕ); omega
    · show (r : ℕ) = 0 + (r : ℕ); omega
    · show (n : ℕ) = 0 + (n : ℕ); omega
theorem rd_rd30 {h} (f : CRd Ideal) (z : Fin 1) (b : Fin 2) (x : Fin 1) (r : Fin 32) (n : Fin 256) : (View.whole cc0_scratch4).readAt (Elt Ideal) (Rect.unit (s := S5x2x3x32x256) ![3, 0, 0, 0, 0] ![1, 2, 1, 32, 256] h).toLoadRect f (ix5 z b x r n) = f (ix5 3 b 0 r n) :=
  rd_at (b := cc0_scratch4) f fun y => by
    fin_cases y
    · show 3 = 3 + (z : ℕ); omega
    · show (b : ℕ) = 0 + (b : ℕ); omega
    · show 0 = 0 + (x : ℕ); omega
    · show (r : ℕ) = 0 + (r : ℕ); omega
    · show (n : ℕ) = 0 + (n : ℕ); omega
theorem rd_rd40 {h} (f : CRd Ideal) (z : Fin 1) (b : Fin 2) (x : Fin 1) (r : Fin 32) (n : Fin 256) : (View.whole cc0_scratch4).readAt (Elt Ideal) (Rect.unit (s := S5x2x3x32x256) ![4, 0, 0, 0, 0] ![1, 2, 1, 32, 256] h).toLoadRect f (ix5 z b x r n) = f (ix5 4 b 0 r n) :=
  rd_at (b := cc0_scratch4) f fun y => by
    fin_cases y
    · show 4 = 4 + (z : ℕ); omega
    · show (b : ℕ) = 0 + (b : ℕ); omega
    · show 0 = 0 + (x : ℕ); omega
    · show (r : ℕ) = 0 + (r : ℕ); omega
    · show (n : ℕ) = 0 + (n : ℕ); omega
theorem ac_rd1 {h} (f : CAc Ideal) (b : Fin 2) (x : Fin 1) (r : Fin 32) (n : Fin 256) : (View.whole cc0_scratch3).readAt (Elt Ideal) (Rect.unit (s := S2x3x32x256) ![0, 1, 0, 0] ![2, 1, 32, 256] h).toLoadRect f (ix4 b x r n) = f (ix4 b 1 r n) :=
  rd_at (b := cc0_scratch3) f fun y => by
    fin_cases y
    · show (b : ℕ) = 0 + (b : ℕ); omega
    · show 1 = 1 + (x : ℕ); omega
    · show (r : ℕ) = 0 + (r : ℕ); omega
    · show (n : ℕ) = 0 + (n : ℕ); omega
theorem rd_rd01 {h} (f : CRd Ideal) (z : Fin 1) (b : Fin 2) (x : Fin 1) (r : Fin 32) (n : Fin 256) : (View.whole cc0_scratch4).readAt (Elt Ideal) (Rect.unit (s := S5x2x3x32x256) ![0, 0, 1, 0, 0] ![1, 2, 1, 32, 256] h).toLoadRect f (ix5 z b x r n) = f (ix5 0 b 1 r n) :=
  rd_at (b := cc0_scratch4) f fun y => by
    fin_cases y
    · show 0 = 0 + (z : ℕ); omega
    · show (b : ℕ) = 0 + (b : ℕ); omega
    · show 1 = 1 + (x : ℕ); omega
    · show (r : ℕ) = 0 + (r : ℕ); omega
    · show (n : ℕ) = 0 + (n : ℕ); omega
theorem rd_rd11 {h} (f : CRd Ideal) (z : Fin 1) (b : Fin 2) (x : Fin 1) (r : Fin 32) (n : Fin 256) : (View.whole cc0_scratch4).readAt (Elt Ideal) (Rect.unit (s := S5x2x3x32x256) ![1, 0, 1, 0, 0] ![1, 2, 1, 32, 256] h).toLoadRect f (ix5 z b x r n) = f (ix5 1 b 1 r n) :=
  rd_at (b := cc0_scratch4) f fun y => by
    fin_cases y
    · show 1 = 1 + (z : ℕ); omega
    · show (b : ℕ) = 0 + (b : ℕ); omega
    · show 1 = 1 + (x : ℕ); omega
    · show (r : ℕ) = 0 + (r : ℕ); omega
    · show (n : ℕ) = 0 + (n : ℕ); omega
theorem rd_rd21 {h} (f : CRd Ideal) (z : Fin 1) (b : Fin 2) (x : Fin 1) (r : Fin 32) (n : Fin 256) : (View.whole cc0_scratch4).readAt (Elt Ideal) (Rect.unit (s := S5x2x3x32x256) ![2, 0, 1, 0, 0] ![1, 2, 1, 32, 256] h).toLoadRect f (ix5 z b x r n) = f (ix5 2 b 1 r n) :=
  rd_at (b := cc0_scratch4) f fun y => by
    fin_cases y
    · show 2 = 2 + (z : ℕ); omega
    · show (b : ℕ) = 0 + (b : ℕ); omega
    · show 1 = 1 + (x : ℕ); omega
    · show (r : ℕ) = 0 + (r : ℕ); omega
    · show (n : ℕ) = 0 + (n : ℕ); omega
theorem rd_rd31 {h} (f : CRd Ideal) (z : Fin 1) (b : Fin 2) (x : Fin 1) (r : Fin 32) (n : Fin 256) : (View.whole cc0_scratch4).readAt (Elt Ideal) (Rect.unit (s := S5x2x3x32x256) ![3, 0, 1, 0, 0] ![1, 2, 1, 32, 256] h).toLoadRect f (ix5 z b x r n) = f (ix5 3 b 1 r n) :=
  rd_at (b := cc0_scratch4) f fun y => by
    fin_cases y
    · show 3 = 3 + (z : ℕ); omega
    · show (b : ℕ) = 0 + (b : ℕ); omega
    · show 1 = 1 + (x : ℕ); omega
    · show (r : ℕ) = 0 + (r : ℕ); omega
    · show (n : ℕ) = 0 + (n : ℕ); omega
theorem rd_rd41 {h} (f : CRd Ideal) (z : Fin 1) (b : Fin 2) (x : Fin 1) (r : Fin 32) (n : Fin 256) : (View.whole cc0_scratch4).readAt (Elt Ideal) (Rect.unit (s := S5x2x3x32x256) ![4, 0, 1, 0, 0] ![1, 2, 1, 32, 256] h).toLoadRect f (ix5 z b x r n) = f (ix5 4 b 1 r n) :=
  rd_at (b := cc0_scratch4) f fun y => by
    fin_cases y
    · show 4 = 4 + (z : ℕ); omega
    · show (b : ℕ) = 0 + (b : ℕ); omega
    · show 1 = 1 + (x : ℕ); omega
    · show (r : ℕ) = 0 + (r : ℕ); omega
    · show (n : ℕ) = 0 + (n : ℕ); omega
theorem ac_rd2 {h} (f : CAc Ideal) (b : Fin 2) (x : Fin 1) (r : Fin 32) (n : Fin 256) : (View.whole cc0_scratch3).readAt (Elt Ideal) (Rect.unit (s := S2x3x32x256) ![0, 2, 0, 0] ![2, 1, 32, 256] h).toLoadRect f (ix4 b x r n) = f (ix4 b 2 r n) :=
  rd_at (b := cc0_scratch3) f fun y => by
    fin_cases y
    · show (b : ℕ) = 0 + (b : ℕ); omega
    · show 2 = 2 + (x : ℕ); omega
    · show (r : ℕ) = 0 + (r : ℕ); omega
    · show (n : ℕ) = 0 + (n : ℕ); omega
theorem rd_rd02 {h} (f : CRd Ideal) (z : Fin 1) (b : Fin 2) (x : Fin 1) (r : Fin 32) (n : Fin 256) : (View.whole cc0_scratch4).readAt (Elt Ideal) (Rect.unit (s := S5x2x3x32x256) ![0, 0, 2, 0, 0] ![1, 2, 1, 32, 256] h).toLoadRect f (ix5 z b x r n) = f (ix5 0 b 2 r n) :=
  rd_at (b := cc0_scratch4) f fun y => by
    fin_cases y
    · show 0 = 0 + (z : ℕ); omega
    · show (b : ℕ) = 0 + (b : ℕ); omega
    · show 2 = 2 + (x : ℕ); omega
    · show (r : ℕ) = 0 + (r : ℕ); omega
    · show (n : ℕ) = 0 + (n : ℕ); omega
theorem rd_rd12 {h} (f : CRd Ideal) (z : Fin 1) (b : Fin 2) (x : Fin 1) (r : Fin 32) (n : Fin 256) : (View.whole cc0_scratch4).readAt (Elt Ideal) (Rect.unit (s := S5x2x3x32x256) ![1, 0, 2, 0, 0] ![1, 2, 1, 32, 256] h).toLoadRect f (ix5 z b x r n) = f (ix5 1 b 2 r n) :=
  rd_at (b := cc0_scratch4) f fun y => by
    fin_cases y
    · show 1 = 1 + (z : ℕ); omega
    · show (b : ℕ) = 0 + (b : ℕ); omega
    · show 2 = 2 + (x : ℕ); omega
    · show (r : ℕ) = 0 + (r : ℕ); omega
    · show (n : ℕ) = 0 + (n : ℕ); omega
theorem rd_rd22 {h} (f : CRd Ideal) (z : Fin 1) (b : Fin 2) (x : Fin 1) (r : Fin 32) (n : Fin 256) : (View.whole cc0_scratch4).readAt (Elt Ideal) (Rect.unit (s := S5x2x3x32x256) ![2, 0, 2, 0, 0] ![1, 2, 1, 32, 256] h).toLoadRect f (ix5 z b x r n) = f (ix5 2 b 2 r n) :=
  rd_at (b := cc0_scratch4) f fun y => by
    fin_cases y
    · show 2 = 2 + (z : ℕ); omega
    · show (b : ℕ) = 0 + (b : ℕ); omega
    · show 2 = 2 + (x : ℕ); omega
    · show (r : ℕ) = 0 + (r : ℕ); omega
    · show (n : ℕ) = 0 + (n : ℕ); omega
theorem rd_rd32 {h} (f : CRd Ideal) (z : Fin 1) (b : Fin 2) (x : Fin 1) (r : Fin 32) (n : Fin 256) : (View.whole cc0_scratch4).readAt (Elt Ideal) (Rect.unit (s := S5x2x3x32x256) ![3, 0, 2, 0, 0] ![1, 2, 1, 32, 256] h).toLoadRect f (ix5 z b x r n) = f (ix5 3 b 2 r n) :=
  rd_at (b := cc0_scratch4) f fun y => by
    fin_cases y
    · show 3 = 3 + (z : ℕ); omega
    · show (b : ℕ) = 0 + (b : ℕ); omega
    · show 2 = 2 + (x : ℕ); omega
    · show (r : ℕ) = 0 + (r : ℕ); omega
    · show (n : ℕ) = 0 + (n : ℕ); omega
theorem rd_rd42 {h} (f : CRd Ideal) (z : Fin 1) (b : Fin 2) (x : Fin 1) (r : Fin 32) (n : Fin 256) : (View.whole cc0_scratch4).readAt (Elt Ideal) (Rect.unit (s := S5x2x3x32x256) ![4, 0, 2, 0, 0] ![1, 2, 1, 32, 256] h).toLoadRect f (ix5 z b x r n) = f (ix5 4 b 2 r n) :=
  rd_at (b := cc0_scratch4) f fun y => by
    fin_cases y
    · show 4 = 4 + (z : ℕ); omega
    · show (b : ℕ) = 0 + (b : ℕ); omega
    · show 2 = 2 + (x : ℕ); omega
    · show (r : ℕ) = 0 + (r : ℕ); omega
    · show (n : ℕ) = 0 + (n : ℕ); omega
def mgG (a : CAc Ideal) (r : CRd Ideal) (k : Fin 5) (b : Fin 2) (t : Fin 3) (i : Fin 32) (n : Fin 256) : EReal := mgV (fun t => aa a b t i n) (fun t => rr r k b t i n) t
theorem mg_H (a : CAc Ideal) (r : CRd Ideal) (k : Fin 5) {o1 : ℕ} {t : Fin 3} {w : S2x1x32x256.Idx → EReal} (hw : ∀ j, w j = mgG a r k (j 0) t (j 2) (j 3)) (ht : o1 = t)
    (j : S2x1x32x256.Idx) (i : Shape.Idx S2x3x32x256) (e : ∀ a, (i a : ℕ) = (![0, o1, 0, 0] : Fin 4 → ℕ) a + (j a : ℕ)) : w j = mgG a r k (i 0) (i 1) (i 2) (i 3) := by
  have e0 : (i 0 : ℕ) = 0 + (j 0 : ℕ) := e 0
  have e1 : (i 1 : ℕ) = o1 + (j 1 : ℕ) := e 1
  have e2 : (i 2 : ℕ) = 0 + (j 2 : ℕ) := e 2
  have e3 : (i 3 : ℕ) = 0 + (j 3 : ℕ) := e 3
  have l1 : (j 1 : ℕ) < 1 := (j 1).isLt
  have g0 : j 0 = i 0 := Fin.ext (by omega)
  have g1 : t = i 1 := Fin.ext (by omega)
  have g2 : j 2 = i 2 := Fin.ext (by omega)
  have g3 : j 3 = i 3 := Fin.ext (by omega)
  rw [hw j, g0, g1, g2, g3]
theorem mg0_0 (a : CAc Ideal) (r : CRd Ideal) (j : S2x1x32x256.Idx) : k0_pay145 (mg0_v900 a r) (mg0_v906 a r) (mg0_v908 a r) (mg0_v911 a r) (mg0_v913 a r) j = mgG a r 0 (j 0) 0 (j 2) (j 3) := by
  idx_vars j
  show _ = mgG a r 0 j0 0 j2 j3
  pointwise [k0_pay145, k0_pay144, k0_pay4, k0_pay7, k0_pay8, k0_pay10, k0_pay5, k0_pay11, mg0_v900, mg0_v906, mg0_v908, mg0_v911, mg0_v913]
  simp only [ac_rd0, ac_rd1, ac_rd2, rd_rd00, rd_rd01, rd_rd02]
  rfl
theorem mg0_1 (a : CAc Ideal) (r : CRd Ideal) (j : S2x1x32x256.Idx) : k0_pay146 (mg0_v911 a r) j = mgG a r 0 (j 0) 1 (j 2) (j 3) := by
  idx_vars j
  show _ = mgG a r 0 j0 1 j2 j3
  pointwise [k0_pay146, k0_pay10, k0_pay5, k0_pay8, mg0_v911]
  simp only [ac_rd0, ac_rd1, ac_rd2, rd_rd00, rd_rd01, rd_rd02]
  rfl
theorem mg0_2 (a : CAc Ideal) (r : CRd Ideal) (j : S2x1x32x256.Idx) : k0_pay147 (mg0_v904 a r) (mg0_v908 a r) (mg0_v910 a r) (mg0_v911 a r) (mg0_v913 a r) j = mgG a r 0 (j 0) 2 (j 2) (j 3) := by
  idx_vars j
  show _ = mgG a r 0 j0 2 j2 j3
  pointwise [k0_pay147, k0_pay144, k0_pay6, k0_pay8, k0_pay9, k0_pay10, k0_pay5, k0_pay11, mg0_v904, mg0_v908, mg0_v910, mg0_v911, mg0_v913]
  simp only [ac_rd0, ac_rd1, ac_rd2, rd_rd00, rd_rd01, rd_rd02]
  rfl
theorem mg0_at (a : CAc Ideal) (r : CRd Ideal) (i : Shape.Idx S2x3x32x256) : mg0 a r i = mgG a r 0 (i 0) (i 1) (i 2) (i 3) := by
  unfold mg0
  refine ac_wr (fun i : Shape.Idx S2x3x32x256 => mgG a r 0 (i 0) (i 1) (i 2) (i 3)) ?_ fun h2 => ?_
  · exact mg_H a r 0 (mg0_2 a r) rfl
  refine ac_wr (fun i : Shape.Idx S2x3x32x256 => mgG a r 0 (i 0) (i 1) (i 2) (i 3)) ?_ fun h1 => ?_
  · exact mg_H a r 0 (mg0_1 a r) rfl
  refine ac_wr (fun i : Shape.Idx S2x3x32x256 => mgG a r 0 (i 0) (i 1) (i 2) (i 3)) ?_ fun h0 => ?_
  · exact mg_H a r 0 (mg0_0 a r) rfl
  exfalso
  have b1 : (i 1 : ℕ) < 3 := (i 1).isLt
  rcases (by omega : (i 1 : ℕ) = 0 ∨ (i 1 : ℕ) = 1 ∨ (i 1 : ℕ) = 2) with c0 | c0 | c0
  · exact h0 ⟨Nat.zero_le _, (i 0).isLt, c0.ge, Nat.lt_of_le_of_lt c0.le (by decide), Nat.zero_le _, (i 2).isLt, Nat.zero_le _, (i 3).isLt⟩
  · exact h1 ⟨Nat.zero_le _, (i 0).isLt, c0.ge, Nat.lt_of_le_of_lt c0.le (by decide), Nat.zero_le _, (i 2).isLt, Nat.zero_le _, (i 3).isLt⟩
  · exact h2 ⟨Nat.zero_le _, (i 0).isLt, c0.ge, Nat.lt_of_le_of_lt c0.le (by decide), Nat.zero_le _, (i 2).isLt, Nat.zero_le _, (i 3).isLt⟩
theorem rdLand0_at (C : Conts Ideal) (c : Dev nD) (b : Fin 2) (t : Fin 3) (i : Fin 32) (n : Fin 256) : rr (rdLand C c 0) 0 b t i n = aa (C.ac (sh c 1)) b t i n := by
  have e : rdS0.view.emb (ix4 b t i n) = (ix5 0 b t i n : Shape.Idx S5x2x3x32x256) := by
    refine (congrArg (rdM.slice (Rect.unit (s := S5x2x3x32x256) ![0, 0, 0, 0, 0] S1x2x3x32x256.size inb_S5x2x3x32x256_S1x2x3x32x256_0_0_0_0_0) (fun _ => rfl)).view.emb (Shape.reshapeEquiv_cons_one (d := ![2, 3, 32, 256]) (squeezes_S1x2x3x32x256_S2x3x32x256).numel_eq (ix4 b t i n))).trans ?_
    funext a
    fin_cases a <;> apply Fin.ext
    · show 0 + 1 * 0 = 0; omega
    · show 0 + 1 * (b : ℕ) = b; omega
    · show 0 + 1 * (t : ℕ) = t; omega
    · show 0 + 1 * (i : ℕ) = i; omega
    · show 0 + 1 * (n : ℕ) = n; omega
  show rdS0.view.write (Elt Ideal) C.rd0 (C.ac (sh c 1)) Finset.univ (ix5 0 b t i n : Shape.Idx S5x2x3x32x256) = _
  rw [← e, View.write_emb_of_mem _ _ (Finset.mem_univ _)]
  rfl
theorem mg1_0 (a : CAc Ideal) (r : CRd Ideal) (j : S2x1x32x256.Idx) : k0_pay149 (mg1_v900 a r) (mg1_v906 a r) (mg1_v908 a r) (mg1_v911 a r) (mg1_v913 a r) j = mgG a r 1 (j 0) 0 (j 2) (j 3) := by
  idx_vars j
  show _ = mgG a r 1 j0 0 j2 j3
  pointwise [k0_pay149, k0_pay148, k0_pay12, k0_pay15, k0_pay16, k0_pay18, k0_pay13, k0_pay19, mg1_v900, mg1_v906, mg1_v908, mg1_v911, mg1_v913]
  simp only [ac_rd0, ac_rd1, ac_rd2, rd_rd10, rd_rd11, rd_rd12]
  rfl
theorem mg1_1 (a : CAc Ideal) (r : CRd Ideal) (j : S2x1x32x256.Idx) : k0_pay150 (mg1_v911 a r) j = mgG a r 1 (j 0) 1 (j 2) (j 3) := by
  idx_vars j
  show _ = mgG a r 1 j0 1 j2 j3
  pointwise [k0_pay150, k0_pay18, k0_pay13, k0_pay16, mg1_v911]
  simp only [ac_rd0, ac_rd1, ac_rd2, rd_rd10, rd_rd11, rd_rd12]
  rfl
theorem mg1_2 (a : CAc Ideal) (r : CRd Ideal) (j : S2x1x32x256.Idx) : k0_pay151 (mg1_v904 a r) (mg1_v908 a r) (mg1_v910 a r) (mg1_v911 a r) (mg1_v913 a r) j = mgG a r 1 (j 0) 2 (j 2) (j 3) := by
  idx_vars j
  show _ = mgG a r 1 j0 2 j2 j3
  pointwise [k0_pay151, k0_pay148, k0_pay14, k0_pay16, k0_pay17, k0_pay18, k0_pay13, k0_pay19, mg1_v904, mg1_v908, mg1_v910, mg1_v911, mg1_v913]
  simp only [ac_rd0, ac_rd1, ac_rd2, rd_rd10, rd_rd11, rd_rd12]
  rfl
theorem mg1_at (a : CAc Ideal) (r : CRd Ideal) (i : Shape.Idx S2x3x32x256) : mg1 a r i = mgG a r 1 (i 0) (i 1) (i 2) (i 3) := by
  unfold mg1
  refine ac_wr (fun i : Shape.Idx S2x3x32x256 => mgG a r 1 (i 0) (i 1) (i 2) (i 3)) ?_ fun h2 => ?_
  · exact mg_H a r 1 (mg1_2 a r) rfl
  refine ac_wr (fun i : Shape.Idx S2x3x32x256 => mgG a r 1 (i 0) (i 1) (i 2) (i 3)) ?_ fun h1 => ?_
  · exact mg_H a r 1 (mg1_1 a r) rfl
  refine ac_wr (fun i : Shape.Idx S2x3x32x256 => mgG a r 1 (i 0) (i 1) (i 2) (i 3)) ?_ fun h0 => ?_
  · exact mg_H a r 1 (mg1_0 a r) rfl
  exfalso
  have b1 : (i 1 : ℕ) < 3 := (i 1).isLt
  rcases (by omega : (i 1 : ℕ) = 0 ∨ (i 1 : ℕ) = 1 ∨ (i 1 : ℕ) = 2) with c0 | c0 | c0
  · exact h0 ⟨Nat.zero_le _, (i 0).isLt, c0.ge, Nat.lt_of_le_of_lt c0.le (by decide), Nat.zero_le _, (i 2).isLt, Nat.zero_le _, (i 3).isLt⟩
  · exact h1 ⟨Nat.zero_le _, (i 0).isLt, c0.ge, Nat.lt_of_le_of_lt c0.le (by decide), Nat.zero_le _, (i 2).isLt, Nat.zero_le _, (i 3).isLt⟩
  · exact h2 ⟨Nat.zero_le _, (i 0).isLt, c0.ge, Nat.lt_of_le_of_lt c0.le (by decide), Nat.zero_le _, (i 2).isLt, Nat.zero_le _, (i 3).isLt⟩
theorem rdLand1_at (C : Conts Ideal) (c : Dev nD) (b : Fin 2) (t : Fin 3) (i : Fin 32) (n : Fin 256) : rr (rdLand C c 1) 1 b t i n = aa (C.ac (sh c 2)) b t i n := by
  have e : rdS1.view.emb (ix4 b t i n) = (ix5 1 b t i n : Shape.Idx S5x2x3x32x256) := by
    refine (congrArg (rdM.slice (Rect.unit (s := S5x2x3x32x256) ![1, 0, 0, 0, 0] S1x2x3x32x256.size inb_S5x2x3x32x256_S1x2x3x32x256_1_0_0_0_0) (fun _ => rfl)).view.emb (Shape.reshapeEquiv_cons_one (d := ![2, 3, 32, 256]) (squeezes_S1x2x3x32x256_S2x3x32x256).numel_eq (ix4 b t i n))).trans ?_
    funext a
    fin_cases a <;> apply Fin.ext
    · show 1 + 1 * 0 = 1; omega
    · show 0 + 1 * (b : ℕ) = b; omega
    · show 0 + 1 * (t : ℕ) = t; omega
    · show 0 + 1 * (i : ℕ) = i; omega
    · show 0 + 1 * (n : ℕ) = n; omega
  show rdS1.view.write (Elt Ideal) C.rd0 (C.ac (sh c 2)) Finset.univ (ix5 1 b t i n : Shape.Idx S5x2x3x32x256) = _
  rw [← e, View.write_emb_of_mem _ _ (Finset.mem_univ _)]
  rfl
theorem mg2_0 (a : CAc Ideal) (r : CRd Ideal) (j : S2x1x32x256.Idx) : k0_pay153 (mg2_v900 a r) (mg2_v906 a r) (mg2_v908 a r) (mg2_v911 a r) (mg2_v913 a r) j = mgG a r 2 (j 0) 0 (j 2) (j 3) := by
  idx_vars j
  show _ = mgG a r 2 j0 0 j2 j3
  pointwise [k0_pay153, k0_pay152, k0_pay20, k0_pay23, k0_pay24, k0_pay26, k0_pay21, k0_pay27, mg2_v900, mg2_v906, mg2_v908, mg2_v911, mg2_v913]
  simp only [ac_rd0, ac_rd1, ac_rd2, rd_rd20, rd_rd21, rd_rd22]
  rfl
theorem mg2_1 (a : CAc Ideal) (r : CRd Ideal) (j : S2x1x32x256.Idx) : k0_pay154 (mg2_v911 a r) j = mgG a r 2 (j 0) 1 (j 2) (j 3) := by
  idx_vars j
  show _ = mgG a r 2 j0 1 j2 j3
  pointwise [k0_pay154, k0_pay26, k0_pay21, k0_pay24, mg2_v911]
  simp only [ac_rd0, ac_rd1, ac_rd2, rd_rd20, rd_rd21, rd_rd22]
  rfl
theorem mg2_2 (a : CAc Ideal) (r : CRd Ideal) (j : S2x1x32x256.Idx) : k0_pay155 (mg2_v904 a r) (mg2_v908 a r) (mg2_v910 a r) (mg2_v911 a r) (mg2_v913 a r) j = mgG a r 2 (j 0) 2 (j 2) (j 3) := by
  idx_vars j
  show _ = mgG a r 2 j0 2 j2 j3
  pointwise [k0_pay155, k0_pay152, k0_pay22, k0_pay24, k0_pay25, k0_pay26, k0_pay21, k0_pay27, mg2_v904, mg2_v908, mg2_v910, mg2_v911, mg2_v913]
  simp only [ac_rd0, ac_rd1, ac_rd2, rd_rd20, rd_rd21, rd_rd22]
  rfl
theorem mg2_at (a : CAc Ideal) (r : CRd Ideal) (i : Shape.Idx S2x3x32x256) : mg2 a r i = mgG a r 2 (i 0) (i 1) (i 2) (i 3) := by
  unfold mg2
  refine ac_wr (fun i : Shape.Idx S2x3x32x256 => mgG a r 2 (i 0) (i 1) (i 2) (i 3)) ?_ fun h2 => ?_
  · exact mg_H a r 2 (mg2_2 a r) rfl
  refine ac_wr (fun i : Shape.Idx S2x3x32x256 => mgG a r 2 (i 0) (i 1) (i 2) (i 3)) ?_ fun h1 => ?_
  · exact mg_H a r 2 (mg2_1 a r) rfl
  refine ac_wr (fun i : Shape.Idx S2x3x32x256 => mgG a r 2 (i 0) (i 1) (i 2) (i 3)) ?_ fun h0 => ?_
  · exact mg_H a r 2 (mg2_0 a r) rfl
  exfalso
  have b1 : (i 1 : ℕ) < 3 := (i 1).isLt
  rcases (by omega : (i 1 : ℕ) = 0 ∨ (i 1 : ℕ) = 1 ∨ (i 1 : ℕ) = 2) with c0 | c0 | c0
  · exact h0 ⟨Nat.zero_le _, (i 0).isLt, c0.ge, Nat.lt_of_le_of_lt c0.le (by decide), Nat.zero_le _, (i 2).isLt, Nat.zero_le _, (i 3).isLt⟩
  · exact h1 ⟨Nat.zero_le _, (i 0).isLt, c0.ge, Nat.lt_of_le_of_lt c0.le (by decide), Nat.zero_le _, (i 2).isLt, Nat.zero_le _, (i 3).isLt⟩
  · exact h2 ⟨Nat.zero_le _, (i 0).isLt, c0.ge, Nat.lt_of_le_of_lt c0.le (by decide), Nat.zero_le _, (i 2).isLt, Nat.zero_le _, (i 3).isLt⟩
theorem rdLand2_at (C : Conts Ideal) (c : Dev nD) (b : Fin 2) (t : Fin 3) (i : Fin 32) (n : Fin 256) : rr (rdLand C c 2) 2 b t i n = aa (C.ac (sh c 4)) b t i n := by
  have e : rdS2.view.emb (ix4 b t i n) = (ix5 2 b t i n : Shape.Idx S5x2x3x32x256) := by
    refine (congrArg (rdM.slice (Rect.unit (s := S5x2x3x32x256) ![2, 0, 0, 0, 0] S1x2x3x32x256.size inb_S5x2x3x32x256_S1x2x3x32x256_2_0_0_0_0) (fun _ => rfl)).view.emb (Shape.reshapeEquiv_cons_one (d := ![2, 3, 32, 256]) (squeezes_S1x2x3x32x256_S2x3x32x256).numel_eq (ix4 b t i n))).trans ?_
    funext a
    fin_cases a <;> apply Fin.ext
    · show 2 + 1 * 0 = 2; omega
    · show 0 + 1 * (b : ℕ) = b; omega
    · show 0 + 1 * (t : ℕ) = t; omega
    · show 0 + 1 * (i : ℕ) = i; omega
    · show 0 + 1 * (n : ℕ) = n; omega
  show rdS2.view.write (Elt Ideal) C.rd0 (C.ac (sh c 4)) Finset.univ (ix5 2 b t i n : Shape.Idx S5x2x3x32x256) = _
  rw [← e, View.write_emb_of_mem _ _ (Finset.mem_univ _)]
  rfl
theorem mg3_0 (a : CAc Ideal) (r : CRd Ideal) (j : S2x1x32x256.Idx) : k0_pay157 (mg3_v900 a r) (mg3_v906 a r) (mg3_v908 a r) (mg3_v911 a r) (mg3_v913 a r) j = mgG a r 3 (j 0) 0 (j 2) (j 3) := by
  idx_vars j
  show _ = mgG a r 3 j0 0 j2 j3
  pointwise [k0_pay157, k0_pay156, k0_pay28, k0_pay31, k0_pay32, k0_pay34, k0_pay29, k0_pay35, mg3_v900, mg3_v906, mg3_v908, mg3_v911, mg3_v913]
  simp only [ac_rd0, ac_rd1, ac_rd2, rd_rd30, rd_rd31, rd_rd32]
  rfl
theorem mg3_1 (a : CAc Ideal) (r : CRd Ideal) (j : S2x1x32x256.Idx) : k0_pay158 (mg3_v911 a r) j = mgG a r 3 (j 0) 1 (j 2) (j 3) := by
  idx_vars j
  show _ = mgG a r 3 j0 1 j2 j3
  pointwise [k0_pay158, k0_pay34, k0_pay29, k0_pay32, mg3_v911]
  simp only [ac_rd0, ac_rd1, ac_rd2, rd_rd30, rd_rd31, rd_rd32]
  rfl
theorem mg3_2 (a : CAc Ideal) (r : CRd Ideal) (j : S2x1x32x256.Idx) : k0_pay159 (mg3_v904 a r) (mg3_v908 a r) (mg3_v910 a r) (mg3_v911 a r) (mg3_v913 a r) j = mgG a r 3 (j 0) 2 (j 2) (j 3) := by
  idx_vars j
  show _ = mgG a r 3 j0 2 j2 j3
  pointwise [k0_pay159, k0_pay156, k0_pay30, k0_pay32, k0_pay33, k0_pay34, k0_pay29, k0_pay35, mg3_v904, mg3_v908, mg3_v910, mg3_v911, mg3_v913]
  simp only [ac_rd0, ac_rd1, ac_rd2, rd_rd30, rd_rd31, rd_rd32]
  rfl
theorem mg3_at (a : CAc Ideal) (r : CRd Ideal) (i : Shape.Idx S2x3x32x256) : mg3 a r i = mgG a r 3 (i 0) (i 1) (i 2) (i 3) := by
  unfold mg3
  refine ac_wr (fun i : Shape.Idx S2x3x32x256 => mgG a r 3 (i 0) (i 1) (i 2) (i 3)) ?_ fun h2 => ?_
  · exact mg_H a r 3 (mg3_2 a r) rfl
  refine ac_wr (fun i : Shape.Idx S2x3x32x256 => mgG a r 3 (i 0) (i 1) (i 2) (i 3)) ?_ fun h1 => ?_
  · exact mg_H a r 3 (mg3_1 a r) rfl
  refine ac_wr (fun i : Shape.Idx S2x3x32x256 => mgG a r 3 (i 0) (i 1) (i 2) (i 3)) ?_ fun h0 => ?_
  · exact mg_H a r 3 (mg3_0 a r) rfl
  exfalso
  have b1 : (i 1 : ℕ) < 3 := (i 1).isLt
  rcases (by omega : (i 1 : ℕ) = 0 ∨ (i 1 : ℕ) = 1 ∨ (i 1 : ℕ) = 2) with c0 | c0 | c0
  · exact h0 ⟨Nat.zero_le _, (i 0).isLt, c0.ge, Nat.lt_of_le_of_lt c0.le (by decide), Nat.zero_le _, (i 2).isLt, Nat.zero_le _, (i 3).isLt⟩
  · exact h1 ⟨Nat.zero_le _, (i 0).isLt, c0.ge, Nat.lt_of_le_of_lt c0.le (by decide), Nat.zero_le _, (i 2).isLt, Nat.zero_le _, (i 3).isLt⟩
  · exact h2 ⟨Nat.zero_le _, (i 0).isLt, c0.ge, Nat.lt_of_le_of_lt c0.le (by decide), Nat.zero_le _, (i 2).isLt, Nat.zero_le _, (i 3).isLt⟩
theorem rdLand3_at (C : Conts Ideal) (c : Dev nD) (b : Fin 2) (t : Fin 3) (i : Fin 32) (n : Fin 256) : rr (rdLand C c 3) 3 b t i n = aa (C.ac (sh c 8)) b t i n := by
  have e : rdS3.view.emb (ix4 b t i n) = (ix5 3 b t i n : Shape.Idx S5x2x3x32x256) := by
    refine (congrArg (rdM.slice (Rect.unit (s := S5x2x3x32x256) ![3, 0, 0, 0, 0] S1x2x3x32x256.size inb_S5x2x3x32x256_S1x2x3x32x256_3_0_0_0_0) (fun _ => rfl)).view.emb (Shape.reshapeEquiv_cons_one (d := ![2, 3, 32, 256]) (squeezes_S1x2x3x32x256_S2x3x32x256).numel_eq (ix4 b t i n))).trans ?_
    funext a
    fin_cases a <;> apply Fin.ext
    · show 3 + 1 * 0 = 3; omega
    · show 0 + 1 * (b : ℕ) = b; omega
    · show 0 + 1 * (t : ℕ) = t; omega
    · show 0 + 1 * (i : ℕ) = i; omega
    · show 0 + 1 * (n : ℕ) = n; omega
  show rdS3.view.write (Elt Ideal) C.rd0 (C.ac (sh c 8)) Finset.univ (ix5 3 b t i n : Shape.Idx S5x2x3x32x256) = _
  rw [← e, View.write_emb_of_mem _ _ (Finset.mem_univ _)]
  rfl
theorem mg4_0 (a : CAc Ideal) (r : CRd Ideal) (j : S2x1x32x256.Idx) : k0_pay161 (mg4_v900 a r) (mg4_v906 a r) (mg4_v908 a r) (mg4_v911 a r) (mg4_v913 a r) j = mgG a r 4 (j 0) 0 (j 2) (j 3) := by
  idx_vars j
  show _ = mgG a r 4 j0 0 j2 j3
  pointwise [k0_pay161, k0_pay160, k0_pay36, k0_pay39, k0_pay40, k0_pay42, k0_pay37, k0_pay43, mg4_v900, mg4_v906, mg4_v908, mg4_v911, mg4_v913]
  simp only [ac_rd0, ac_rd1, ac_rd2, rd_rd40, rd_rd41, rd_rd42]
  rfl
theorem mg4_1 (a : CAc Ideal) (r : CRd Ideal) (j : S2x1x32x256.Idx) : k0_pay162 (mg4_v911 a r) j = mgG a r 4 (j 0) 1 (j 2) (j 3) := by
  idx_vars j
  show _ = mgG a r 4 j0 1 j2 j3
  pointwise [k0_pay162, k0_pay42, k0_pay37, k0_pay40, mg4_v911]
  simp only [ac_rd0, ac_rd1, ac_rd2, rd_rd40, rd_rd41, rd_rd42]
  rfl
theorem mg4_2 (a : CAc Ideal) (r : CRd Ideal) (j : S2x1x32x256.Idx) : k0_pay163 (mg4_v904 a r) (mg4_v908 a r) (mg4_v910 a r) (mg4_v911 a r) (mg4_v913 a r) j = mgG a r 4 (j 0) 2 (j 2) (j 3) := by
  idx_vars j
  show _ = mgG a r 4 j0 2 j2 j3
  pointwise [k0_pay163, k0_pay160, k0_pay38, k0_pay40, k0_pay41, k0_pay42, k0_pay37, k0_pay43, mg4_v904, mg4_v908, mg4_v910, mg4_v911, mg4_v913]
  simp only [ac_rd0, ac_rd1, ac_rd2, rd_rd40, rd_rd41, rd_rd42]
  rfl
theorem mg4_at (a : CAc Ideal) (r : CRd Ideal) (i : Shape.Idx S2x3x32x256) : mg4 a r i = mgG a r 4 (i 0) (i 1) (i 2) (i 3) := by
  unfold mg4
  refine ac_wr (fun i : Shape.Idx S2x3x32x256 => mgG a r 4 (i 0) (i 1) (i 2) (i 3)) ?_ fun h2 => ?_
  · exact mg_H a r 4 (mg4_2 a r) rfl
  refine ac_wr (fun i : Shape.Idx S2x3x32x256 => mgG a r 4 (i 0) (i 1) (i 2) (i 3)) ?_ fun h1 => ?_
  · exact mg_H a r 4 (mg4_1 a r) rfl
  refine ac_wr (fun i : Shape.Idx S2x3x32x256 => mgG a r 4 (i 0) (i 1) (i 2) (i 3)) ?_ fun h0 => ?_
  · exact mg_H a r 4 (mg4_0 a r) rfl
  exfalso
  have b1 : (i 1 : ℕ) < 3 := (i 1).isLt
  rcases (by omega : (i 1 : ℕ) = 0 ∨ (i 1 : ℕ) = 1 ∨ (i 1 : ℕ) = 2) with c0 | c0 | c0
  · exact h0 ⟨Nat.zero_le _, (i 0).isLt, c0.ge, Nat.lt_of_le_of_lt c0.le (by decide), Nat.zero_le _, (i 2).isLt, Nat.zero_le _, (i 3).isLt⟩
  · exact h1 ⟨Nat.zero_le _, (i 0).isLt, c0.ge, Nat.lt_of_le_of_lt c0.le (by decide), Nat.zero_le _, (i 2).isLt, Nat.zero_le _, (i 3).isLt⟩
  · exact h2 ⟨Nat.zero_le _, (i 0).isLt, c0.ge, Nat.lt_of_le_of_lt c0.le (by decide), Nat.zero_le _, (i 2).isLt, Nat.zero_le _, (i 3).isLt⟩
theorem rdLand4_at (C : Conts Ideal) (c : Dev nD) (b : Fin 2) (t : Fin 3) (i : Fin 32) (n : Fin 256) : rr (rdLand C c 4) 4 b t i n = aa (C.ac (sh c 16)) b t i n := by
  have e : rdS4.view.emb (ix4 b t i n) = (ix5 4 b t i n : Shape.Idx S5x2x3x32x256) := by
    refine (congrArg (rdM.slice (Rect.unit (s := S5x2x3x32x256) ![4, 0, 0, 0, 0] S1x2x3x32x256.size inb_S5x2x3x32x256_S1x2x3x32x256_4_0_0_0_0) (fun _ => rfl)).view.emb (Shape.reshapeEquiv_cons_one (d := ![2, 3, 32, 256]) (squeezes_S1x2x3x32x256_S2x3x32x256).numel_eq (ix4 b t i n))).trans ?_
    funext a
    fin_cases a <;> apply Fin.ext
    · show 4 + 1 * 0 = 4; omega
    · show 0 + 1 * (b : ℕ) = b; omega
    · show 0 + 1 * (t : ℕ) = t; omega
    · show 0 + 1 * (i : ℕ) = i; omega
    · show 0 + 1 * (n : ℕ) = n; omega
  show rdS4.view.write (Elt Ideal) C.rd0 (C.ac (sh c 16)) Finset.univ (ix5 4 b t i n : Shape.Idx S5x2x3x32x256) = _
  rw [← e, View.write_emb_of_mem _ _ (Finset.mem_univ _)]
  rfl

end Cert.KernelIdealProof
-- ==== Proof.KernelIdeal.LocAt.lean ====
/- The local attention of a device at an index. -/
module

public import proofs.«01_k».proof.Proof.KernelIdeal.MgAt

@[expose] public section

set_option maxRecDepth 16384

noncomputable section

namespace Cert.KernelIdealProof

open Cert.KernelIdeal Cert.KernelIdeal.Gen
open Idealize.ShloMosaic
open Idealize.ShloMosaic.TcCoe

theorem rc_rd00 {h} (f : CRc Ideal) (z a : Fin 1) (b : Fin 2) (r : Fin 128) (n : Fin 256) : (View.whole cc0_scratch1).readAt (Elt Ideal) (Rect.unit (s := S2x2x2x128x256) ![0, 0, 0, 0, 0] ![1, 1, 2, 128, 256] h).toLoadRect f (ix5 z a b r n) = f (ix5 0 0 b r n) :=
  rd_at (b := cc0_scratch1) f fun x => by
    fin_cases x
    · show 0 = 0 + (z : ℕ); omega
    · show 0 = 0 + (a : ℕ); omega
    · show (b : ℕ) = 0 + (b : ℕ); omega
    · show (r : ℕ) = 0 + (r : ℕ); omega
    · show (n : ℕ) = 0 + (n : ℕ); omega
theorem rc_rd01 {h} (f : CRc Ideal) (z a : Fin 1) (b : Fin 2) (r : Fin 128) (n : Fin 256) : (View.whole cc0_scratch1).readAt (Elt Ideal) (Rect.unit (s := S2x2x2x128x256) ![0, 1, 0, 0, 0] ![1, 1, 2, 128, 256] h).toLoadRect f (ix5 z a b r n) = f (ix5 0 1 b r n) :=
  rd_at (b := cc0_scratch1) f fun x => by
    fin_cases x
    · show 0 = 0 + (z : ℕ); omega
    · show 1 = 1 + (a : ℕ); omega
    · show (b : ℕ) = 0 + (b : ℕ); omega
    · show (r : ℕ) = 0 + (r : ℕ); omega
    · show (n : ℕ) = 0 + (n : ℕ); omega
theorem rc_rd10 {h} (f : CRc Ideal) (z a : Fin 1) (b : Fin 2) (r : Fin 128) (n : Fin 256) : (View.whole cc0_scratch1).readAt (Elt Ideal) (Rect.unit (s := S2x2x2x128x256) ![1, 0, 0, 0, 0] ![1, 1, 2, 128, 256] h).toLoadRect f (ix5 z a b r n) = f (ix5 1 0 b r n) :=
  rd_at (b := cc0_scratch1) f fun x => by
    fin_cases x
    · show 1 = 1 + (z : ℕ); omega
    · show 0 = 0 + (a : ℕ); omega
    · show (b : ℕ) = 0 + (b : ℕ); omega
    · show (r : ℕ) = 0 + (r : ℕ); omega
    · show (n : ℕ) = 0 + (n : ℕ); omega
theorem rc_rd11 {h} (f : CRc Ideal) (z a : Fin 1) (b : Fin 2) (r : Fin 128) (n : Fin 256) : (View.whole cc0_scratch1).readAt (Elt Ideal) (Rect.unit (s := S2x2x2x128x256) ![1, 1, 0, 0, 0] ![1, 1, 2, 128, 256] h).toLoadRect f (ix5 z a b r n) = f (ix5 1 1 b r n) :=
  rd_at (b := cc0_scratch1) f fun x => by
    fin_cases x
    · show 1 = 1 + (z : ℕ); omega
    · show 1 = 1 + (a : ℕ); omega
    · show (b : ℕ) = 0 + (b : ℕ); omega
    · show (r : ℕ) = 0 + (r : ℕ); omega
    · show (n : ℕ) = 0 + (n : ℕ); omega
/-- A landed neighbour block, an element. -/
def rcv (f : CRc Ideal) (L : Fin 2) (t : Fin 2) (b : Fin 2) (r : Fin 128) (n : Fin 256) : EReal := f (ix5 L t b r n)
/-- The 416 slots a row looks at: the left neighbour, the device's own block, the right neighbour, the global rows. -/
def lk (E : Env Ideal) (t : Fin 2) (b : Fin 2) (s : Fin 416) (n : Fin 256) : EReal :=
  if h0 : (s : ℕ) < 128 then rcv E.r0 0 t b ⟨s, h0⟩ n
  else if h1 : (s : ℕ) - 128 < 128 then kvv E t b ⟨(s : ℕ) - 128, h1⟩ n
  else if h2 : (s : ℕ) - 128 - 128 < 128 then rcv E.r1 1 t b ⟨(s : ℕ) - 128 - 128, h2⟩ n
  else glv E ⟨t, by omega⟩ b ⟨(s : ℕ) - 128 - 128 - 128, by omega⟩ n
theorem v568_at (E : Env Ideal) (b : Fin 2) (s : Fin 416) (n : Fin 256) : v568 E (ix3 b s n) = lk E 0 b s n := by
  pointwise [v568, k0_pay123, v560, v562, v564, v566]
  simp only [rc_rd00, rc_rd10, kv_rd0, gl_rd0]
  rw [lk]
  rfl
theorem v577_at (E : Env Ideal) (b : Fin 2) (s : Fin 416) (n : Fin 256) : v577 E (ix3 b s n) = lk E 1 b s n := by
  pointwise [v577, k0_pay126, k0_pay124, k0_pay125, v569, v570, v571, v572, v573, v575]
  simp only [rc_rd01, rc_rd11, kv_rd1, gl_rd1]
  rw [lk]
  rfl
def lp (E : Env Ideal) (r : Fin 128) (s : Fin 416) : Prop := v622 E (ix2 r s) = 1#1
instance (E : Env Ideal) (r : Fin 128) : DecidablePred (lp E r) := fun s => inferInstanceAs (Decidable (v622 E (ix2 r s) = 1#1))
def lt (E : Env Ideal) (b : Fin 2) (h : Fin 4) (r : Fin 128) (s : Fin 416) : EReal := (∑ e : Fin 64, qv E b r (hd h e) * lk E 0 b s (hd h e)) * RefV.c8
def lcV (E : Env Ideal) (b : Fin 2) (r : Fin 128) (h : Fin 4) (d : Fin 64) : EReal :=
  ∑ s : Fin 416, Ideal.div (Ideal.exp (msk (lp E r) (lt E b h r) s - Finset.univ.fold max ⊥ (msk (lp E r) (lt E b h r)))) (∑ k, Ideal.exp (msk (lp E r) (lt E b h r) k - Finset.univ.fold max ⊥ (msk (lp E r) (lt E b h r)))) * lk E 1 b s (hd h d)
theorem mask_bot : (Named.named κ "mask" (0xCE6E6B28#32 : BitVec (FTy.bits .f32)) : Ideal .f32) = (⊥ : EReal) := rfl

theorem cx_k0_pay131 (E : Env Ideal) (j : S1x128x64.Idx) : k0_pay131 (wv2 E.c) (v145 E) (v568 E) (v577 E) (v579 E) (v610 E) (v612 E) (v613 E) j = lcV E 0 (j 1) 0 (j 2) := by
  idx_vars j
  show _ = lcV E 0 j1 0 j2
  pointwise [k0_pay131]
  simp only [v145_at, v568_at, v577_at, RefV.ninf, hd0, mask_bot]
  rfl
theorem cx_k0_pay133 (E : Env Ideal) (j : S1x128x64.Idx) : k0_pay133 (v577 E) (v656 E) j = lcV E 0 (j 1) 1 (j 2) := by
  idx_vars j
  show _ = lcV E 0 j1 1 j2
  pointwise [k0_pay133, v656, k0_pay132]
  simp only [v145_at, v568_at, v577_at, RefV.ninf, hd1, mask_bot]
  rfl
theorem cx_k0_pay134 (E : Env Ideal) (j : S1x128x64.Idx) : k0_pay134 (v145 E) (v568 E) (v577 E) (v622 E) j = lcV E 0 (j 1) 2 (j 2) := by
  idx_vars j
  show _ = lcV E 0 j1 2 j2
  pointwise [k0_pay134]
  simp only [v145_at, v568_at, v577_at, RefV.ninf, hd2, mask_bot]
  rfl
theorem cx_k0_pay137 (E : Env Ideal) (j : S1x128x64.Idx) : k0_pay137 (v577 E) (v622 E) (v699 E) (v700 E) j = lcV E 0 (j 1) 3 (j 2) := by
  idx_vars j
  show _ = lcV E 0 j1 3 j2
  pointwise [k0_pay137, v699, v700, k0_pay135, k0_pay136]
  simp only [v145_at, v568_at, v577_at, RefV.ninf, hd3, mask_bot]
  rfl
theorem cx_k0_pay139 (E : Env Ideal) (j : S1x128x64.Idx) : k0_pay139 (v744 E) j = lcV E 1 (j 1) 0 (j 2) := by
  idx_vars j
  show _ = lcV E 1 j1 0 j2
  pointwise [k0_pay139, v744, k0_pay138]
  simp only [v145_at, v568_at, v577_at, RefV.ninf, hd0, mask_bot]
  rfl
theorem cx_k0_pay140 (E : Env Ideal) (j : S1x128x64.Idx) : k0_pay140 (v145 E) (v568 E) (v577 E) (v622 E) j = lcV E 1 (j 1) 1 (j 2) := by
  idx_vars j
  show _ = lcV E 1 j1 1 j2
  pointwise [k0_pay140]
  simp only [v145_at, v568_at, v577_at, RefV.ninf, hd1, mask_bot]
  rfl
theorem cx_k0_pay142 (E : Env Ideal) (j : S1x128x64.Idx) : k0_pay142 (v577 E) (v786 E) j = lcV E 1 (j 1) 2 (j 2) := by
  idx_vars j
  show _ = lcV E 1 j1 2 j2
  pointwise [k0_pay142, v786, k0_pay141]
  simp only [v145_at, v568_at, v577_at, RefV.ninf, hd2, mask_bot]
  rfl
theorem cx_k0_pay143 (E : Env Ideal) (j : S1x128x64.Idx) : k0_pay143 (v145 E) (v568 E) (v577 E) (v622 E) j = lcV E 1 (j 1) 3 (j 2) := by
  idx_vars j
  show _ = lcV E 1 j1 3 j2
  pointwise [k0_pay143]
  simp only [v145_at, v568_at, v577_at, RefV.ninf, hd3, mask_bot]
  rfl

def cxG (E : Env Ideal) (i : Shape.Idx S2x128x256) : EReal := lcV E (i 0) (i 1) ⟨(i 2 : ℕ) / 64, by have h : (i 2 : ℕ) < 256 := (i 2).isLt; omega⟩ ⟨(i 2 : ℕ) % 64, Nat.mod_lt _ (by decide)⟩
theorem lcV_congr (E : Env Ideal) {b b' : Fin 2} {i i' : Fin 128} {h h' : Fin 4} {d d' : Fin 64} (e1 : (b : ℕ) = b') (e3 : (i : ℕ) = i') (e4 : (h : ℕ) = h') (e5 : (d : ℕ) = d') : lcV E b i h d = lcV E b' i' h' d' := by
  rw [Fin.ext e1, Fin.ext e3, Fin.ext e4, Fin.ext e5]
theorem cx_H (E : Env Ideal) {o0 o2 : ℕ} {b : Fin 2} {h : Fin 4} {w : S1x128x64.Idx → EReal} (hw : ∀ j, w j = lcV E b (j 1) h (j 2)) (hb : o0 = b) (hh : o2 = 64 * (h : ℕ))
    (j : S1x128x64.Idx) (i : Shape.Idx S2x128x256) (e : ∀ a, (i a : ℕ) = (![o0, 0, o2] : Fin 3 → ℕ) a + (j a : ℕ)) : w j = cxG E i := by
  have e0 : (i 0 : ℕ) = o0 + (j 0 : ℕ) := e 0
  have e1 : (i 1 : ℕ) = 0 + (j 1 : ℕ) := e 1
  have e2 : (i 2 : ℕ) = o2 + (j 2 : ℕ) := e 2
  have l0 : (j 0 : ℕ) < 1 := (j 0).isLt
  have l2 : (j 2 : ℕ) < 64 := (j 2).isLt
  rw [hw j]
  refine lcV_congr E ?_ ?_ ?_ ?_
  · omega
  · omega
  · show (h : ℕ) = (i 2 : ℕ) / 64; omega
  · show (j 2 : ℕ) = (i 2 : ℕ) % 64; omega
theorem cxAll_at (E : Env Ideal) (f : CCx Ideal) (i : Shape.Idx S2x128x256) : cxAll E f i = cxG E i := by
  unfold cxAll cx37 cx38 cx39 cx40 cx41
  refine cx_wr (cxG E) ?_ fun h0 => ?_
  · exact cx_H E (cx_k0_pay143 E) rfl rfl
  refine cx_wr (cxG E) ?_ fun h1 => ?_
  · exact cx_H E (cx_k0_pay142 E) rfl rfl
  refine cx_wr (cxG E) ?_ fun h2 => ?_
  · exact cx_H E (cx_k0_pay140 E) rfl rfl
  refine cx_wr (cxG E) ?_ fun h3 => ?_
  · exact cx_H E (cx_k0_pay139 E) rfl rfl
  refine cx_wr (cxG E) ?_ fun h4 => ?_
  · exact cx_H E (cx_k0_pay137 E) rfl rfl
  refine cx_wr (cxG E) ?_ fun h5 => ?_
  · exact cx_H E (cx_k0_pay134 E) rfl rfl
  refine cx_wr (cxG E) ?_ fun h6 => ?_
  · exact cx_H E (cx_k0_pay133 E) rfl rfl
  refine cx_wr (cxG E) ?_ fun h7 => ?_
  · exact cx_H E (cx_k0_pay131 E) rfl rfl
  exfalso
  have b0 : (i 0 : ℕ) < 2 := (i 0).isLt
  have b2 : (i 2 : ℕ) < 256 := (i 2).isLt
  rcases (by omega : (i 0 : ℕ) = 0 ∨ (i 0 : ℕ) = 1) with c0 | c0 <;> rcases (by omega : (0 ≤ (i 2 : ℕ) ∧ (i 2 : ℕ) < 0 + 64) ∨ (64 ≤ (i 2 : ℕ) ∧ (i 2 : ℕ) < 64 + 64) ∨ (128 ≤ (i 2 : ℕ) ∧ (i 2 : ℕ) < 128 + 64) ∨ (192 ≤ (i 2 : ℕ) ∧ (i 2 : ℕ) < 192 + 64)) with c3 | c3 | c3 | c3
  · exact h7 ⟨c0.ge, Nat.lt_of_le_of_lt c0.le (by decide), Nat.zero_le _, (i 1).isLt, c3.1, c3.2⟩
  · exact h6 ⟨c0.ge, Nat.lt_of_le_of_lt c0.le (by decide), Nat.zero_le _, (i 1).isLt, c3.1, c3.2⟩
  · exact h5 ⟨c0.ge, Nat.lt_of_le_of_lt c0.le (by decide), Nat.zero_le _, (i 1).isLt, c3.1, c3.2⟩
  · exact h4 ⟨c0.ge, Nat.lt_of_le_of_lt c0.le (by decide), Nat.zero_le _, (i 1).isLt, c3.1, c3.2⟩
  · exact h3 ⟨c0.ge, Nat.lt_of_le_of_lt c0.le (by decide), Nat.zero_le _, (i 1).isLt, c3.1, c3.2⟩
  · exact h2 ⟨c0.ge, Nat.lt_of_le_of_lt c0.le (by decide), Nat.zero_le _, (i 1).isLt, c3.1, c3.2⟩
  · exact h1 ⟨c0.ge, Nat.lt_of_le_of_lt c0.le (by decide), Nat.zero_le _, (i 1).isLt, c3.1, c3.2⟩
  · exact h0 ⟨c0.ge, Nat.lt_of_le_of_lt c0.le (by decide), Nat.zero_le _, (i 1).isLt, c3.1, c3.2⟩
theorem rcLand0_at (C : Conts Ideal) (c : Dev nD) (t : Fin 2) (b : Fin 2) (r : Fin 128) (n : Fin 256) : rcv (rcLand C c 0) 0 t b r n = (show FVec Ideal S2x2x128x256 .bf16 from C.kv (sh c 31)) (ix4 t b r n) := by
  have e : rcS0.view.emb (ix4 t b r n) = (ix5 0 t b r n : Shape.Idx S2x2x2x128x256) := by
    refine (congrArg (rcM.slice (Rect.unit (s := S2x2x2x128x256) ![0, 0, 0, 0, 0] S1x2x2x128x256.size inb_S2x2x2x128x256_S1x2x2x128x256_0_0_0_0_0) (fun _ => rfl)).view.emb (Shape.reshapeEquiv_cons_one (d := ![2, 2, 128, 256]) (squeezes_S1x2x2x128x256_S2x2x128x256).numel_eq (ix4 t b r n))).trans ?_
    funext a
    fin_cases a <;> apply Fin.ext
    · show 0 + 1 * 0 = 0; omega
    · show 0 + 1 * (t : ℕ) = t; omega
    · show 0 + 1 * (b : ℕ) = b; omega
    · show 0 + 1 * (r : ℕ) = r; omega
    · show 0 + 1 * (n : ℕ) = n; omega
  show rcS0.view.write (Elt Ideal) C.rc0 (C.kv (sh c 31)) Finset.univ (ix5 0 t b r n : Shape.Idx S2x2x2x128x256) = _
  rw [← e, View.write_emb_of_mem _ _ (Finset.mem_univ _)]
  rfl
theorem rcLand1_at (C : Conts Ideal) (c : Dev nD) (t : Fin 2) (b : Fin 2) (r : Fin 128) (n : Fin 256) : rcv (rcLand C c 1) 1 t b r n = (show FVec Ideal S2x2x128x256 .bf16 from C.kv (sh c 1)) (ix4 t b r n) := by
  have e : rcS1.view.emb (ix4 t b r n) = (ix5 1 t b r n : Shape.Idx S2x2x2x128x256) := by
    refine (congrArg (rcM.slice (Rect.unit (s := S2x2x2x128x256) ![1, 0, 0, 0, 0] S1x2x2x128x256.size inb_S2x2x2x128x256_S1x2x2x128x256_1_0_0_0_0) (fun _ => rfl)).view.emb (Shape.reshapeEquiv_cons_one (d := ![2, 2, 128, 256]) (squeezes_S1x2x2x128x256_S2x2x128x256).numel_eq (ix4 t b r n))).trans ?_
    funext a
    fin_cases a <;> apply Fin.ext
    · show 1 + 1 * 0 = 1; omega
    · show 0 + 1 * (t : ℕ) = t; omega
    · show 0 + 1 * (b : ℕ) = b; omega
    · show 0 + 1 * (r : ℕ) = r; omega
    · show 0 + 1 * (n : ℕ) = n; omega
  show rcS1.view.write (Elt Ideal) C.rc0 (C.kv (sh c 1)) Finset.univ (ix5 1 t b r n : Shape.Idx S2x2x2x128x256) = _
  rw [← e, View.write_emb_of_mem _ _ (Finset.mem_univ _)]
  rfl

/-- The context once the finished global rows are put over device 0's own. -/
def cxFG (a : CAc Ideal) (f : CCx Ideal) (i : Shape.Idx S2x128x256) : EReal := if h : (i 1 : ℕ) < 32 then Ideal.div (aa a (i 0) 0 ⟨i 1, h⟩ (i 2)) (aa a (i 0) 2 ⟨i 1, h⟩ (i 2)) else f i
theorem cxFG_lo (a : CAc Ideal) (f : CCx Ideal) (i : Shape.Idx S2x128x256) (h : (i 1 : ℕ) < 32) : cxFG a f i = Ideal.div (aa a (i 0) 0 ⟨i 1, h⟩ (i 2)) (aa a (i 0) 2 ⟨i 1, h⟩ (i 2)) := dif_pos h
theorem cxFG_hi (a : CAc Ideal) (f : CCx Ideal) (i : Shape.Idx S2x128x256) (h : ¬ (i 1 : ℕ) < 32) : cxFG a f i = f i := dif_neg h
theorem fin_pay (a : CAc Ideal) (j : S2x32x256.Idx) {h1 h2} : k0_pay164 ((View.whole cc0_scratch3).readAt (Elt Ideal) (Rect.unit (s := S2x3x32x256) ![0, 0, 0, 0] S2x1x32x256.size h1).toLoadRect a) ((View.whole cc0_scratch3).readAt (Elt Ideal) (Rect.unit (s := S2x3x32x256) ![0, 2, 0, 0] S2x1x32x256.size h2).toLoadRect a) j = Ideal.div (aa a (j 0) 0 (j 1) (j 2)) (aa a (j 0) 2 (j 1) (j 2)) := by
  idx_vars j
  pointwise [k0_pay164]
  simp only [ac_rd0, ac_rd2]
  rfl
theorem aa_congr (a : CAc Ideal) {b b' : Fin 2} (t : Fin 3) {i i' : Fin 32} {n n' : Fin 256} (e0 : (b : ℕ) = b') (e1 : (i : ℕ) = i') (e2 : (n : ℕ) = n') : aa a b t i n = aa a b' t i' n' := by
  rw [Fin.ext e0, Fin.ext e1, Fin.ext e2]
theorem cxFin_at (a : CAc Ideal) (f : CCx Ideal) (i : Shape.Idx S2x128x256) : cxFin a f i = cxFG a f i := by
  unfold cxFin
  refine cx_wr (cxFG a f) ?_ (fun h => ?_)
  · intro j i e
    have e0 : (i 0 : ℕ) = 0 + (j 0 : ℕ) := e 0
    have e1 : (i 1 : ℕ) = 0 + (j 1 : ℕ) := e 1
    have e2 : (i 2 : ℕ) = 0 + (j 2 : ℕ) := e 2
    have l1 : (j 1 : ℕ) < 32 := (j 1).isLt
    have hi : (i 1 : ℕ) < 32 := by omega
    refine (fin_pay a j).trans (Eq.trans ?_ (cxFG_lo a f i hi).symm)
    exact congrArg₂ Ideal.div (aa_congr a 0 (by omega) (by show (j 1 : ℕ) = i 1; omega) (by omega)) (aa_congr a 2 (by omega) (by show (j 1 : ℕ) = i 1; omega) (by omega))
  · have hn : ¬ (i 1 : ℕ) < 32 := fun hr => h ⟨Nat.zero_le _, Nat.lt_of_lt_of_eq (i 0).isLt rfl, Nat.zero_le _, (by show (i 1 : ℕ) < 0 + 32; omega), Nat.zero_le _, Nat.lt_of_lt_of_eq (i 2).isLt rfl⟩
    exact (cxFG_hi a f i hn).symm

theorem cx_rd0 {h} (f : CCx Ideal) (a : Fin 1) (r : Fin 128) (n : Fin 256) : (View.whole cc0_scratch5).readAt (Elt Ideal) (Rect.unit (s := S2x128x256) ![0, 0, 0] ![1, 128, 256] h).toLoadRect f (ix3 a r n) = f (ix3 0 r n) :=
  rd_at (b := cc0_scratch5) f fun x => by
    fin_cases x
    · show 0 = 0 + (a : ℕ); omega
    · show (r : ℕ) = 0 + (r : ℕ); omega
    · show (n : ℕ) = 0 + (n : ℕ); omega
theorem cx_rd1 {h} (f : CCx Ideal) (a : Fin 1) (r : Fin 128) (n : Fin 256) : (View.whole cc0_scratch5).readAt (Elt Ideal) (Rect.unit (s := S2x128x256) ![1, 0, 0] ![1, 128, 256] h).toLoadRect f (ix3 a r n) = f (ix3 1 r n) :=
  rd_at (b := cc0_scratch5) f fun x => by
    fin_cases x
    · show 1 = 1 + (a : ℕ); omega
    · show (r : ℕ) = 0 + (r : ℕ); omega
    · show (n : ℕ) = 0 + (n : ℕ); omega
theorem x4_rd {h} (f : CX4 Ideal) (r : Fin 256) (n : Fin 512) : (View.whole cc0_stg4_0).readAt (Elt Ideal) (Rect.unit (s := S256x512) ![0, 0] ![256, 512] h).toLoadRect f (ix2 r n) = f (ix2 r n) :=
  rd_at (b := cc0_stg4_0) f fun x => by
    fin_cases x
    · show (r : ℕ) = 0 + (r : ℕ); omega
    · show (n : ℕ) = 0 + (n : ℕ); omega
def ouG (E : Env Ideal) (x : CCx Ideal) (b : Fin 2) (r : Fin 128) (n : Fin 512) : EReal := ∑ t : Fin 256, (show FVec Ideal S2x128x256 .f32 from x) (ix3 b r t) * (show FVec Ideal S256x512 .bf16 from E.x4) (ix2 t n)
theorem ou_0 (E : Env Ideal) (x : CCx Ideal) (j : S1x128x512.Idx) {h} : k0_pay166 (v862 E) ((View.whole cc0_scratch5).readAt (Elt Ideal) (Rect.unit (s := S2x128x256) ![0, 0, 0] S1x128x256.size h).toLoadRect x) j = ouG E x 0 (j 1) (j 2) := by
  idx_vars j
  show _ = ouG E x 0 j1 j2
  pointwise [k0_pay166, k0_pay165, v862]
  simp only [cx_rd0, cx_rd1, x4_rd]
  rfl
theorem ou_1 (E : Env Ideal) (x : CCx Ideal) (j : S1x128x512.Idx) {h} : k0_pay167 (v862 E) ((View.whole cc0_scratch5).readAt (Elt Ideal) (Rect.unit (s := S2x128x256) ![1, 0, 0] S1x128x256.size h).toLoadRect x) j = ouG E x 1 (j 1) (j 2) := by
  idx_vars j
  show _ = ouG E x 1 j1 j2
  pointwise [k0_pay167, k0_pay165, v862]
  simp only [cx_rd0, cx_rd1, x4_rd]
  rfl
theorem ou_H (E : Env Ideal) (x : CCx Ideal) {o0 : ℕ} {b : Fin 2} {w : S1x128x512.Idx → EReal} (hw : ∀ j, w j = ouG E x b (j 1) (j 2)) (hb : o0 = b)
    (j : S1x128x512.Idx) (i : Shape.Idx S2x128x512) (e : ∀ a, (i a : ℕ) = (![o0, 0, 0] : Fin 3 → ℕ) a + (j a : ℕ)) : w j = ouG E x (i 0) (i 1) (i 2) := by
  have e0 : (i 0 : ℕ) = o0 + (j 0 : ℕ) := e 0
  have e1 : (i 1 : ℕ) = 0 + (j 1 : ℕ) := e 1
  have e2 : (i 2 : ℕ) = 0 + (j 2 : ℕ) := e 2
  have l0 : (j 0 : ℕ) < 1 := (j 0).isLt
  have g0 : b = i 0 := Fin.ext (by omega)
  have g1 : j 1 = i 1 := Fin.ext (by omega)
  have g2 : j 2 = i 2 := Fin.ext (by omega)
  rw [hw j, g0, g1, g2]
theorem ou43_at (E : Env Ideal) (x : CCx Ideal) (f : COu Ideal) (i : Shape.Idx S2x128x512) : ou43 E x f i = ouG E x (i 0) (i 1) (i 2) := by
  unfold ou43
  refine ou_wr (fun i : Shape.Idx S2x128x512 => ouG E x (i 0) (i 1) (i 2)) ?_ fun h1 => ?_
  · exact ou_H E x (fun j => ou_1 E x j) rfl
  refine ou_wr (fun i : Shape.Idx S2x128x512 => ouG E x (i 0) (i 1) (i 2)) ?_ fun h0 => ?_
  · exact ou_H E x (fun j => ou_0 E x j) rfl
  exfalso
  have b0 : (i 0 : ℕ) < 2 := (i 0).isLt
  rcases (by omega : (i 0 : ℕ) = 0 ∨ (i 0 : ℕ) = 1) with c0 | c0
  · exact h0 ⟨c0.ge, Nat.lt_of_le_of_lt c0.le (by decide), Nat.zero_le _, (i 1).isLt, Nat.zero_le _, (i 2).isLt⟩
  · exact h1 ⟨c0.ge, Nat.lt_of_le_of_lt c0.le (by decide), Nat.zero_le _, (i 1).isLt, Nat.zero_le _, (i 2).isLt⟩

end Cert.KernelIdealProof
-- ==== Proof.KernelIdeal.MaskAt.lean ====
/- The mask of the local attention, in numbers. -/
module

public import proofs.«01_k».proof.Proof.KernelIdeal.LocAt

@[expose] public section

set_option maxRecDepth 16384

noncomputable section

namespace Cert.KernelIdealProof

open Cert.KernelIdeal Cert.KernelIdeal.Gen
open Idealize.ShloMosaic
open Idealize.ShloMosaic.TcCoe

theorem wv2_eq : ∀ c : Dev nD, wv2 c = BitVec.ofNat 32 c.val := by decide
theorem wv5_eq : ∀ c : Dev nD, wv5 c = BitVec.ofNat 32 ((c.val + 31) % 32) := by decide
theorem wv7_eq : ∀ c : Dev nD, wv7 c = BitVec.ofNat 32 ((c.val + 1) % 32) := by decide
/-- The global column of a slot. -/
def kx (c s : ℕ) : ℕ := if s < 128 then 128 * ((c + 31) % 32) + s else if s < 256 then 128 * c + (s - 128) else if s < 384 then 128 * ((c + 1) % 32) + (s - 256) else s - 384
theorem kx_lt (c : Dev nD) (s : Fin 416) : kx c s < 4096 := by
  have hc : c.val < 32 := c.isLt
  have hs := s.isLt
  unfold kx
  split
  · omega
  split
  · omega
  split <;> omega
/-- The devices whose neighbourhood already holds the global rows. -/
def dup (c : ℕ) : Prop := c ≤ 1 ∨ c = 31
theorem mulw (a : ℕ) : Scalar.muli (BitVec.ofNat 32 a) 128#32 = BitVec.ofNat 32 (128 * a) := by
  show BitVec.ofNat 32 a * BitVec.ofNat 32 128 = _
  rw [← BitVec.ofNat_mul, Nat.mul_comm]
theorem addw (a b : ℕ) : IntOp.addi (BitVec.ofNat 32 a) (BitVec.ofNat 32 b) = BitVec.ofNat 32 (a + b) := by
  show BitVec.ofNat 32 a + BitVec.ofNat 32 b = _
  rw [← BitVec.ofNat_add]
theorem subw {a b : ℕ} (h : b ≤ a) (ha : a < 4096) : IntOp.subi (BitVec.ofNat 32 a) (BitVec.ofNat 32 b) = BitVec.ofNat 32 (a - b) := by
  show BitVec.ofNat 32 a - BitVec.ofNat 32 b = _
  refine BitVec.eq_of_toNat_eq ?_
  rw [BitVec.toNat_sub, BitVec.toNat_ofNat, BitVec.toNat_ofNat, BitVec.toNat_ofNat]
  omega
theorem sltw {a b : ℕ} (ha : a < 4096) (hb : b < 4096) : IntOp.cmpi .slt (BitVec.ofNat 32 a) (BitVec.ofNat 32 b) = 1#1 ↔ a < b := by
  rw [IntOp.cmpi_slt, WordCmp.toInt_ofNat_of_lt (by omega), WordCmp.toInt_ofNat_of_lt (by omega)]
  omega
theorem selw {w : BitVec 1} {p : Prop} [Decidable p] (h : w = 1#1 ↔ p) (a b : BitVec 32) : Scalar.select w a b = if p then a else b := by
  unfold Scalar.select
  by_cases hp : p
  · rw [if_pos hp]; exact if_pos (h.2 hp)
  · rw [if_neg hp]; exact if_neg fun e => hp (h.1 e)
theorem pay127_at (c : Dev nD) (r : Fin 128) (s : Fin 416) : k0_pay127 (wv2 c) (wv5 c) (wv7 c) (ix2 r s) = BitVec.ofNat 32 (kx c s) := by
  have hs := s.isLt
  rw [wv2_eq, wv5_eq, wv7_eq]
  pointwise [k0_pay127]
  rw [kx, mulw, mulw, mulw, addw]
  rw [selw (sltw (by omega) (by omega)), selw (sltw (by omega) (by omega)), selw (sltw (by omega) (by omega))]
  by_cases h0 : (s : ℕ) < 128
  · rw [if_pos h0, if_pos h0]
  rw [if_neg h0, if_neg h0]
  by_cases h1 : (s : ℕ) < 256
  · rw [if_pos h1, if_pos h1, subw (by omega) (by omega), addw]
  rw [if_neg h1, if_neg h1]
  by_cases h2 : (s : ℕ) < 384
  · rw [if_pos h2, if_pos h2, subw (by omega) (by omega), addw]
  rw [if_neg h2, if_neg h2, subw (by omega) (by omega)]
theorem pay128_at (c : Dev nD) (r : Fin 128) (s : Fin 416) : k0_pay128 (wv2 c) (wv5 c) (wv7 c) (ix2 r s) = 1#1 ↔ (128 * c.val + r.val ≤ kx c s + 128 ∧ kx c s ≤ 128 * c.val + r.val + 128) := by
  have hc : c.val < 32 := c.isLt
  have hr := r.isLt
  have hk := kx_lt c s
  pointwise [k0_pay128]
  have h1 : (128#32).toInt = 128 := by decide
  rw [pay127_at, wv2_eq, mulw, addw, IntOp.cmpi_sle, h1, RefV.absi_sub (by omega) (by omega)]
  omega
theorem dup_iff : ∀ c : Dev nD, (Scalar.xori (Scalar.ori (Scalar.cmpi CmpIPredicate.sle (wv2 c) 1#32) (Scalar.cmpi CmpIPredicate.eq (wv2 c) 31#32)) 1#1 = 1#1) ↔ ¬ (c.val ≤ 1 ∨ c.val = 31) := by decide
theorem lp_iff (E : Env Ideal) (r : Fin 128) (s : Fin 416) : lp E r s ↔ ((128 * E.c.val + r.val ≤ kx E.c s + 128 ∧ kx E.c s ≤ 128 * E.c.val + r.val + 128) ∨ kx E.c s < 32) ∧ (s.val < 384 ∨ ¬ dup E.c.val) := by
  have hs := s.isLt
  unfold lp
  pointwise [v622, v610, v612, v613, v579, k0_pay129, k0_pay130]
  rw [IntOp.andi_eq_one, IntOp.ori_eq_one, IntOp.ori_eq_one, pay128_at, pay127_at, dup_iff, sltw (kx_lt _ _) (by omega), sltw (by omega) (by omega)]
  rfl

end Cert.KernelIdealProof
-- ==== Proof.KernelIdeal.LocVal.lean ====
/- The result of a device in terms of the whole arrays. -/
module

public import proofs.«01_k».proof.Proof.KernelIdeal.MaskAt

@[expose] public section

set_option maxRecDepth 16384

noncomputable section

namespace Cert.KernelIdealProof

open Cert.KernelIdeal Cert.KernelIdeal.Gen
open Idealize.ShloMosaic
open Idealize.ShloMosaic.TcCoe

open Cert.ReferenceIdeal (S2x4096x512 S2x4096x4x64)
open RefV (SC c8 cols vis mem_cols SC_real cols_ne OUT)

/-- The global row of a device's row. -/
def gr (c : Dev nD) (r : Fin 128) : Fin 4096 := ⟨128 * c.val + r.val, by have h : c.val < 32 := c.isLt; omega⟩

/-- The devices' inputs are the blocks of whole arrays, and the scores are real. -/
structure Whole (I : Ins Ideal) (X : FVec Ideal S2x4096x512 .bf16) (W : FVec Ideal S512x256 .bf16) (K V : FVec Ideal S2x4096x4x64 .bf16) (O : FVec Ideal S256x512 .bf16) : Prop where
  x0 : ∀ c b r k, (show FVec Ideal S2x128x512 .bf16 from I.x0 c) (ix3 b r k) = X (ix3 b (gr c r) k)
  x1 : ∀ c k n, (show FVec Ideal S512x256 .bf16 from I.x1 c) (ix2 k n) = W (ix2 k n)
  x2 : ∀ c b r h d, (show FVec Ideal S2x128x4x64 .bf16 from I.x2 c) (ix4 b r h d) = K (ix4 b (gr c r) h d)
  x3 : ∀ c b r h d, (show FVec Ideal S2x128x4x64 .bf16 from I.x3 c) (ix4 b r h d) = V (ix4 b (gr c r) h d)
  x4 : ∀ c k n, (show FVec Ideal S256x512 .bf16 from I.x4 c) (ix2 k n) = O (ix2 k n)
  hX : ∀ i, IsR (X i)
  hW : ∀ i, IsR (W i)
  hK : ∀ i, IsR (K i)

variable {I : Ins Ideal} {X : FVec Ideal S2x4096x512 .bf16} {W : FVec Ideal S512x256 .bf16} {K V : FVec Ideal S2x4096x4x64 .bf16} {O : FVec Ideal S256x512 .bf16}

theorem hd_div (h : Fin 4) (e : Fin 64) : (⟨(hd h e : ℕ) / 64, by have := (hd h e).isLt; omega⟩ : Fin 4) = h := Fin.ext (by show ((h : ℕ) * 64 + e) / 64 = h; omega)
theorem hd_mod (h : Fin 4) (e : Fin 64) : (⟨(hd h e : ℕ) % 64, Nat.mod_lt _ (by decide)⟩ : Fin 64) = e := Fin.ext (by show ((h : ℕ) * 64 + e) % 64 = e; omega)

def kvr (f : CKv Ideal) (t b : Fin 2) (r : Fin 128) (n : Fin 256) : EReal := f (ix4 t b r n)
def glr (f : CGl Ideal) (t : Fin 3) (b : Fin 2) (r : Fin 32) (n : Fin 256) : EReal := f (ix4 t b r n)
theorem kvr_all (E : Env Ideal) (f : CKv Ideal) (t b : Fin 2) (r : Fin 128) (n : Fin 256) : kvr (kvAll E f) t b r n = kvG E t b r n := kvAll_at E f (ix4 t b r n)
theorem glr_all (E : Env Ideal) (f : CGl Ideal) (t : Fin 3) (b : Fin 2) (r : Fin 32) (n : Fin 256) : glr (gl1 E f) t b r n = glG E t b r n := gl1_at E f (ix4 t b r n)
theorem kvv_mk (c : Dev nD) (kv : CKv Ideal) (gl : CGl Ideal) (r0 r1 : CRc Ideal) (t b : Fin 2) (r : Fin 128) (n : Fin 256) : kvv (mkE I c kv gl r0 r1) t b r n = kvr kv t b r n := rfl
theorem glv_mk (c : Dev nD) (kv : CKv Ideal) (gl : CGl Ideal) (r0 r1 : CRc Ideal) (t : Fin 3) (b : Fin 2) (r : Fin 32) (n : Fin 256) : glv (mkE I c kv gl r0 r1) t b r n = glr gl t b r n := rfl
theorem rcL0 (C : Conts Ideal) (c : Dev nD) (t b : Fin 2) (r : Fin 128) (n : Fin 256) : rcv (rcLand C c 0) 0 t b r n = kvr (C.kv (sh c 31)) t b r n := rcLand0_at C c t b r n
theorem rcL1 (C : Conts Ideal) (c : Dev nD) (t b : Fin 2) (r : Fin 128) (n : Fin 256) : rcv (rcLand C c 1) 1 t b r n = kvr (C.kv (sh c 1)) t b r n := rcLand1_at C c t b r n
theorem CC_kv (c : Dev nD) : (CC I).kv c = kvOf I c := rfl
theorem kv0_at (w : Whole I X W K V O) (c : Dev nD) (b : Fin 2) (r : Fin 128) (h : Fin 4) (e : Fin 64) : kvr (kvOf I c) 0 b r (hd h e) = K (ix4 b (gr c r) h e) := by
  rw [kvOf, kvr_all, kvG_0 _ _ _ _ _ rfl, hd_div, hd_mod]
  exact w.x2 c b r h e
theorem kv1_at (w : Whole I X W K V O) (c : Dev nD) (b : Fin 2) (r : Fin 128) (h : Fin 4) (e : Fin 64) : kvr (kvOf I c) 1 b r (hd h e) = V (ix4 b (gr c r) h e) := by
  rw [kvOf, kvr_all, kvG_1 _ _ _ _ _ (by decide), hd_div, hd_mod]
  exact w.x3 c b r h e
/-- A row of Q. -/
def Q (X : FVec Ideal S2x4096x512 .bf16) (W : FVec Ideal S512x256 .bf16) (b : Fin 2) (i : Fin 4096) (n : Fin 256) : EReal := ∑ t : Fin 512, X (ix3 b i t) * W (ix2 t n)
theorem q_at (w : Whole I X W K V O) (c : Dev nD) (kv : CKv Ideal) (gl : CGl Ideal) (r0 r1 : CRc Ideal) (b : Fin 2) (r : Fin 128) (n : Fin 256) : qv (mkE I c kv gl r0 r1) b r n = Q X W b (gr c r) n := by
  refine Finset.sum_congr rfl fun k _ => ?_
  exact congrArg₂ (· * ·) (w.x0 c b r k) (w.x1 c k n)
def up (r : Fin 32) : Fin 128 := ⟨r, by omega⟩
theorem glG_0 (E : Env Ideal) (b : Fin 2) (r : Fin 32) (n : Fin 256) : glG E 0 b r n = kvv E 0 b (up r) n := rfl
theorem glG_1 (E : Env Ideal) (b : Fin 2) (r : Fin 32) (n : Fin 256) : glG E 1 b r n = kvv E 1 b (up r) n := rfl
theorem glG_2 (E : Env Ideal) (b : Fin 2) (r : Fin 32) (n : Fin 256) : glG E 2 b r n = qv E b (up r) n := rfl
theorem gl0_at (w : Whole I X W K V O) (b : Fin 2) (r : Fin 32) (h : Fin 4) (e : Fin 64) : glr (glOf I) 0 b r (hd h e) = K (ix4 b (gr 0 (up r)) h e) := by
  rw [glOf, glr_all, glG_0, kvv_mk, kv0_at w]
theorem gl1_at' (w : Whole I X W K V O) (b : Fin 2) (r : Fin 32) (h : Fin 4) (e : Fin 64) : glr (glOf I) 1 b r (hd h e) = V (ix4 b (gr 0 (up r)) h e) := by
  rw [glOf, glr_all, glG_1, kvv_mk, kv1_at w]
theorem gl2_at (w : Whole I X W K V O) (b : Fin 2) (r : Fin 32) (n : Fin 256) : glr (glOf I) 2 b r n = Q X W b (gr 0 (up r)) n := by
  rw [glOf, glr_all, glG_2, q_at w]

/-! The local rows. -/

def kxF (c : Dev nD) (s : Fin 416) : Fin 4096 := ⟨kx c s, kx_lt c s⟩
theorem lk_0 (E : Env Ideal) (t b : Fin 2) (s : Fin 416) (n : Fin 256) (h : (s : ℕ) < 128) : lk E t b s n = rcv E.r0 0 t b ⟨s, h⟩ n := dif_pos h
theorem lk_1 (E : Env Ideal) (t b : Fin 2) (s : Fin 416) (n : Fin 256) (h0 : ¬ (s : ℕ) < 128) (h : (s : ℕ) - 128 < 128) : lk E t b s n = kvv E t b ⟨(s : ℕ) - 128, h⟩ n := (dif_neg h0).trans (dif_pos h)
theorem lk_2 (E : Env Ideal) (t b : Fin 2) (s : Fin 416) (n : Fin 256) (h0 : ¬ (s : ℕ) < 128) (h1 : ¬ (s : ℕ) - 128 < 128) (h : (s : ℕ) - 128 - 128 < 128) : lk E t b s n = rcv E.r1 1 t b ⟨(s : ℕ) - 128 - 128, h⟩ n := (dif_neg h0).trans ((dif_neg h1).trans (dif_pos h))
theorem lk_3 (E : Env Ideal) (t b : Fin 2) (s : Fin 416) (n : Fin 256) (h0 : ¬ (s : ℕ) < 128) (h1 : ¬ (s : ℕ) - 128 < 128) (h : ¬ (s : ℕ) - 128 - 128 < 128) : lk E t b s n = glv E ⟨t, by omega⟩ b ⟨(s : ℕ) - 128 - 128 - 128, by omega⟩ n := (dif_neg h0).trans ((dif_neg h1).trans (dif_neg h))
theorem EEkv (c : Dev nD) (t b : Fin 2) (r : Fin 128) (n : Fin 256) : kvv (EE I c) t b r n = kvr (kvOf I c) t b r n := kvv_mk c _ _ _ _ t b r n
theorem EEgl (c : Dev nD) (t : Fin 3) (b : Fin 2) (r : Fin 32) (n : Fin 256) : glv (EE I c) t b r n = glr (glOf I) t b r n := glv_mk c _ _ _ _ t b r n
theorem EE_r0 (c : Dev nD) (t b : Fin 2) (r : Fin 128) (n : Fin 256) : rcv (EE I c).r0 0 t b r n = kvr (kvOf I (sh c 31)) t b r n := rcL0 (CC I) c t b r n
theorem EE_r1 (c : Dev nD) (t b : Fin 2) (r : Fin 128) (n : Fin 256) : rcv (EE I c).r1 1 t b r n = kvr (kvOf I (sh c 1)) t b r n := rcL1 (CC I) c t b r n
theorem lk0_at (w : Whole I X W K V O) (c : Dev nD) (b : Fin 2) (s : Fin 416) (h : Fin 4) (e : Fin 64) : lk (EE I c) 0 b s (hd h e) = K (ix4 b (kxF c s) h e) := by
  have hc : c.val < 32 := c.isLt
  have key : ∀ j : Fin 4096, (j : ℕ) = kx c s → K (ix4 b j h e) = K (ix4 b (kxF c s) h e) := fun j hj => congrArg (fun j => K (ix4 b j h e)) (Fin.ext hj)
  by_cases h0 : (s : ℕ) < 128
  · rw [lk_0 _ _ _ _ _ h0, EE_r0, kv0_at w]
    refine key _ ?_
    show 128 * ((c.val + 31) % 32) + (s : ℕ) = kx c s
    rw [kx, if_pos h0]
  by_cases h1 : (s : ℕ) - 128 < 128
  · rw [lk_1 _ _ _ _ _ h0 h1, EEkv, kv0_at w]
    refine key _ ?_
    show 128 * c.val + ((s : ℕ) - 128) = kx c s
    rw [kx, if_neg h0, if_pos (by omega)]
  by_cases h2 : (s : ℕ) - 128 - 128 < 128
  · rw [lk_2 _ _ _ _ _ h0 h1 h2, EE_r1, kv0_at w]
    refine key _ ?_
    show 128 * ((c.val + 1) % 32) + ((s : ℕ) - 128 - 128) = kx c s
    rw [kx, if_neg h0, if_neg (by omega), if_pos (by omega)]
    omega
  · rw [lk_3 _ _ _ _ _ h0 h1 h2, EEgl]
    refine (gl0_at w b ⟨(s : ℕ) - 128 - 128 - 128, by omega⟩ h e).trans (key _ ?_)
    show 128 * 0 + ((s : ℕ) - 128 - 128 - 128) = kx c s
    rw [kx, if_neg h0, if_neg (by omega), if_neg (by omega)]
    omega
theorem lk1_at (w : Whole I X W K V O) (c : Dev nD) (b : Fin 2) (s : Fin 416) (h : Fin 4) (e : Fin 64) : lk (EE I c) 1 b s (hd h e) = V (ix4 b (kxF c s) h e) := by
  have hc : c.val < 32 := c.isLt
  have key : ∀ j : Fin 4096, (j : ℕ) = kx c s → V (ix4 b j h e) = V (ix4 b (kxF c s) h e) := fun j hj => congrArg (fun j => V (ix4 b j h e)) (Fin.ext hj)
  by_cases h0 : (s : ℕ) < 128
  · rw [lk_0 _ _ _ _ _ h0, EE_r0, kv1_at w]
    refine key _ ?_
    show 128 * ((c.val + 31) % 32) + (s : ℕ) = kx c s
    rw [kx, if_pos h0]
  by_cases h1 : (s : ℕ) - 128 < 128
  · rw [lk_1 _ _ _ _ _ h0 h1, EEkv, kv1_at w]
    refine key _ ?_
    show 128 * c.val + ((s : ℕ) - 128) = kx c s
    rw [kx, if_neg h0, if_pos (by omega)]
  by_cases h2 : (s : ℕ) - 128 - 128 < 128
  · rw [lk_2 _ _ _ _ _ h0 h1 h2, EE_r1, kv1_at w]
    refine key _ ?_
    show 128 * ((c.val + 1) % 32) + ((s : ℕ) - 128 - 128) = kx c s
    rw [kx, if_neg h0, if_neg (by omega), if_pos (by omega)]
    omega
  · rw [lk_3 _ _ _ _ _ h0 h1 h2, EEgl]
    refine (gl1_at' w b ⟨(s : ℕ) - 128 - 128 - 128, by omega⟩ h e).trans (key _ ?_)
    show 128 * 0 + ((s : ℕ) - 128 - 128 - 128) = kx c s
    rw [kx, if_neg h0, if_neg (by omega), if_neg (by omega)]
    omega
theorem lt_at (w : Whole I X W K V O) (c : Dev nD) (b : Fin 2) (h : Fin 4) (r : Fin 128) (s : Fin 416) : lt (EE I c) b h r s = SC X W K b h (gr c r) (kxF c s) := by
  unfold lt SC
  refine congrArg (· * c8) (Finset.sum_congr rfl fun e _ => ?_)
  exact congrArg₂ (· * ·) ((q_at w c _ _ _ _ b r (hd h e) : qv (EE I c) b r (hd h e) = _)) (lk0_at w c b s h e)

theorem lp_iff' (c : Dev nD) (r : Fin 128) (s : Fin 416) : lp (EE I c) r s ↔ ((128 * c.val + r.val ≤ kx c s + 128 ∧ kx c s ≤ 128 * c.val + r.val + 128) ∨ kx c s < 32) ∧ (s.val < 384 ∨ ¬ (c.val ≤ 1 ∨ c.val = 31)) := lp_iff (EE I c) r s

theorem slot_inj (c : Dev nD) (r : Fin 128) (s s' : Fin 416) (h : lp (EE I c) r s) (h' : lp (EE I c) r s') (e : kxF c s = kxF c s') : s = s' := by
  have hc : c.val < 32 := c.isLt
  rw [lp_iff'] at h h'
  have e' : kx c s = kx c s' := congrArg Fin.val e
  have hs := s.isLt
  have hs' := s'.isLt
  refine Fin.ext ?_
  unfold kx at e' h h'
  have hr := r.isLt
  split_ifs at e' h h' <;> omega

theorem slot_ex (c : Dev nD) (r : Fin 128) (j : Fin 4096) (hi : 32 ≤ (gr c r : ℕ)) (hv : vis (gr c r) j) : ∃ s : Fin 416, lp (EE I c) r s ∧ kxF c s = j := by
  have hc : c.val < 32 := c.isLt
  have hr := r.isLt
  have hj := j.isLt
  have hg : (gr c r : ℕ) = 128 * c.val + r.val := rfl
  unfold vis at hv
  rw [hg] at hv hi
  have key : ∀ (n : ℕ) (hn : n < 416), kx c n = j → (n < 384 ∨ ¬ (c.val ≤ 1 ∨ c.val = 31)) → ∃ s : Fin 416, lp (EE I c) r s ∧ kxF c s = j := by
    intro n hn hk hd
    refine ⟨⟨n, hn⟩, (lp_iff' c r _).2 ⟨?_, hd⟩, Fin.ext hk⟩
    show (_ ≤ kx c n + 128 ∧ kx c n ≤ _) ∨ kx c n < 32
    rw [hk]
    omega
  by_cases hn : 128 * c.val + r.val ≤ j + 128 ∧ (j : ℕ) ≤ 128 * c.val + r.val + 128
  · refine key (j + 128 - 128 * c.val) (by omega) ?_ (Or.inl (by omega))
    unfold kx
    split
    · omega
    split
    · omega
    split <;> omega
  · have hj32 : (j : ℕ) < 32 := by omega
    rcases (by omega : c.val = 0 ∨ c.val = 1 ∨ c.val = 31 ∨ (2 ≤ c.val ∧ c.val ≤ 30)) with h | h | h | h
    · refine key (j + 128) (by omega) ?_ (Or.inl (by omega))
      unfold kx
      rw [if_neg (by omega), if_pos (by omega)]
      omega
    · refine key j (by omega) ?_ (Or.inl (by omega))
      unfold kx
      rw [if_pos (by omega)]
      omega
    · refine key (j + 256) (by omega) ?_ (Or.inl (by omega))
      unfold kx
      rw [if_neg (by omega), if_neg (by omega), if_pos (by omega)]
      omega
    · refine key (j + 384) (by omega) ?_ (Or.inr (by omega))
      unfold kx
      rw [if_neg (by omega), if_neg (by omega), if_neg (by omega)]
      omega

theorem slot_vis (c : Dev nD) (r : Fin 128) (s : Fin 416) (h : lp (EE I c) r s) : vis (gr c r) (kxF c s) := by
  rw [lp_iff'] at h
  have hg : (gr c r : ℕ) = 128 * c.val + r.val := rfl
  have hk : (kxF c s : ℕ) = kx c s := rfl
  unfold vis
  rw [hg, hk]
  omega

/-- A local row's attention. -/
theorem loc_at (w : Whole I X W K V O) (c : Dev nD) (b : Fin 2) (r : Fin 128) (h : Fin 4) (d : Fin 64) (hi : 32 ≤ (gr c r : ℕ)) :
    lcV (EE I c) b r h d = sma (cols (gr c r)) (SC X W K b h (gr c r)) (fun j => V (ix4 b j h d)) := by
  unfold lcV
  refine attn_msk (g := kxF c) (cols_ne _) (fun j _ => SC_real w.hX w.hW w.hK b h _ j) ?_ (slot_inj c r) (fun s _ => lt_at w c b h r s) (fun s _ => lk1_at w c b s h d)
  ext j
  rw [Finset.mem_image, mem_cols]
  constructor
  · rintro ⟨s, hs, rfl⟩
    exact slot_vis c r s (Finset.mem_filter.1 hs).2
  · intro hv
    obtain ⟨s, hs, e⟩ := slot_ex (I := I) c r j hi hv
    exact ⟨s, Finset.mem_filter.2 ⟨Finset.mem_univ _, hs⟩, e⟩

end Cert.KernelIdealProof
-- ==== Proof.KernelIdeal.GloVal.lean ====
/- The global rows through the tree, and the result of a device. -/
module

public import proofs.«01_k».proof.Proof.KernelIdeal.LocVal

@[expose] public section

set_option maxRecDepth 16384

noncomputable section

namespace Cert.KernelIdealProof

open Cert.KernelIdeal Cert.KernelIdeal.Gen
open Idealize.ShloMosaic
open Idealize.ShloMosaic.TcCoe

open Cert.ReferenceIdeal (S2x4096x512 S2x4096x4x64)
open RefV (SC c8 cols vis mem_cols SC_real cols_ne OUT)

variable {I : Ins Ideal} {X : FVec Ideal S2x4096x512 .bf16} {W : FVec Ideal S512x256 .bf16} {K V : FVec Ideal S2x4096x4x64 .bf16} {O : FVec Ideal S256x512 .bf16}

/-- A partial result over a set of columns: the weighted sum, the largest score, the sum of the exponentials. -/
def S3 (A : Finset (Fin 4096)) (s v : Fin 4096 → EReal) (t : Fin 3) : EReal :=
  match t with
  | 0 => smo A s v
  | 1 => smx A s
  | 2 => sml A s
theorem mgV_S3 {A B : Finset (Fin 4096)} {s v : Fin 4096 → EReal} (hA : A.Nonempty) (hB : B.Nonempty) (hs : ∀ j, IsR (s j)) (hd : Disjoint A B) (t : Fin 3) :
    mgV (S3 A s v) (S3 B s v) t = S3 (A ∪ B) s v t := by
  match t with
  | 0 => exact ((smo_union hA hB (fun j _ => hs j) hd).trans (by rw [smx_union]; rfl)).symm
  | 1 => exact smx_union.symm
  | 2 => exact ((sml_union hA hB (fun j _ => hs j) hd).trans (by rw [smx_union]; rfl)).symm

/-- The columns of `n` blocks from the `c`-th on. -/
def blk (c n : ℕ) : Finset (Fin 4096) := Finset.univ.filter fun j : Fin 4096 => 128 * c ≤ (j : ℕ) ∧ (j : ℕ) < 128 * (c + n)
theorem mem_blk {c n : ℕ} {j : Fin 4096} : j ∈ blk c n ↔ 128 * c ≤ (j : ℕ) ∧ (j : ℕ) < 128 * (c + n) := by rw [blk, Finset.mem_filter]; exact and_iff_right (Finset.mem_univ j)
theorem blk_ne {c n : ℕ} (hn : 0 < n) (hc : c < 32) : (blk c n).Nonempty := ⟨⟨128 * c, by omega⟩, mem_blk.2 ⟨le_refl _, by show 128 * c < _; omega⟩⟩
theorem blk_union {c m n : ℕ} : blk c m ∪ blk (c + m) n = blk c (m + n) := by
  ext j
  rw [Finset.mem_union, mem_blk, mem_blk, mem_blk]
  omega
theorem blk_disj {c m n : ℕ} : Disjoint (blk c m) (blk (c + m) n) := by
  rw [Finset.disjoint_left]
  intro j h h'
  rw [mem_blk] at h h'
  omega
theorem gr_inj (c : Dev nD) : Function.Injective (gr c) := fun r r' e => Fin.ext (by have h := congrArg Fin.val e; change 128 * c.val + r.val = 128 * c.val + r'.val at h; omega)
theorem blk_one (c : Dev nD) : blk c 1 = Finset.univ.image (gr c) := by
  ext j
  rw [mem_blk, Finset.mem_image]
  constructor
  · intro h
    exact ⟨⟨j - 128 * c.val, by omega⟩, Finset.mem_univ _, Fin.ext (by show 128 * c.val + (j - 128 * c.val) = (j : ℕ); omega)⟩
  · rintro ⟨r, _, rfl⟩
    have hr := r.isLt
    show 128 * c.val ≤ 128 * c.val + r.val ∧ 128 * c.val + r.val < _
    omega

/-- A partial result that covers a set of columns. -/
def CV (X : FVec Ideal S2x4096x512 .bf16) (W : FVec Ideal S512x256 .bf16) (K V : FVec Ideal S2x4096x4x64 .bf16) (a : CAc Ideal) (A : Finset (Fin 4096)) : Prop :=
  ∀ (b : Fin 2) (t : Fin 3) (i : Fin 32) (h : Fin 4) (d : Fin 64), aa a b t i (hd h d) = S3 A (SC X W K b h (gr 0 (up i))) (fun j => V (ix4 b j h d)) t

theorem aa_all (E : Env Ideal) (f : CAc Ideal) (b : Fin 2) (t : Fin 3) (i : Fin 32) (h : Fin 4) (d : Fin 64) : aa (acAll E f) b t i (hd h d) = acV E b t i h d := by
  refine (acAll_at E f (ix4 b t i (hd h d))).trans ?_
  refine acV_congr E rfl rfl rfl ?_ ?_
  · show ((h : ℕ) * 64 + d) / 64 = h; omega
  · show ((h : ℕ) * 64 + d) % 64 = d; omega

theorem gsc_at (w : Whole I X W K V O) (c : Dev nD) (b : Fin 2) (h : Fin 4) (i : Fin 32) (r : Fin 128) : gsc (mkE I c (kvOf I c) (glOf I) I.b1 I.b1) b h i r = SC X W K b h (gr 0 (up i)) (gr c r) := by
  unfold gsc SC
  refine congrArg (· * c8) (Finset.sum_congr rfl fun e _ => ?_)
  rw [glv_mk, kvv_mk, gl2_at w, kv0_at w]
  rfl
theorem gmx_at (w : Whole I X W K V O) (c : Dev nD) (b : Fin 2) (h : Fin 4) (i : Fin 32) : gmx (mkE I c (kvOf I c) (glOf I) I.b1 I.b1) b h i = smx (blk c 1) (SC X W K b h (gr 0 (up i))) := by
  unfold gmx
  rw [blk_one, smx, Finset.sup_image]
  have e : (fun j => gsc (mkE I c (kvOf I c) (glOf I) I.b1 I.b1) b h i j) = SC X W K b h (gr 0 (up i)) ∘ gr c := funext fun j => gsc_at w c b h i j
  rw [e]
  rfl
theorem acc0_cv (w : Whole I X W K V O) (c : Dev nD) : CV X W K V (acc0 I c) (blk c 1) := by
  intro b t i h d
  rw [acc0, aa_all]
  match t with
  | 0 =>
    show ∑ j : Fin 128, Ideal.exp (gsc _ b h i j - gmx _ b h i) * kvv _ 1 b j (hd h d) = smo (blk c 1) (SC X W K b h (gr 0 (up i))) (fun j => V (ix4 b j h d))
    rw [smo, gmx_at w]
    conv => rhs; rw [blk_one, Finset.sum_image fun _ _ _ _ e => gr_inj c e]
    refine Finset.sum_congr rfl fun j _ => ?_
    rw [gsc_at w, kvv_mk, kv1_at w, blk_one]
  | 1 => exact gmx_at w c b h i
  | 2 =>
    show ∑ j : Fin 128, Ideal.exp (gsc _ b h i j - gmx _ b h i) = sml (blk c 1) (SC X W K b h (gr 0 (up i)))
    rw [sml, gmx_at w]
    conv => rhs; rw [blk_one, Finset.sum_image fun _ _ _ _ e => gr_inj c e]
    refine Finset.sum_congr rfl fun j _ => ?_
    rw [gsc_at w, blk_one]

theorem tz_bd : ∀ c : Dev nD, c.val + 2 ^ tz c ≤ 32 := by decide

theorem mg_cv {a : CAc Ideal} {r : CRd Ideal} {k : Fin 5} {f : CAc Ideal} {A B : Finset (Fin 4096)} (w : Whole I X W K V O) (hA : A.Nonempty) (hB : B.Nonempty) (hdj : Disjoint A B)
    (ha : CV X W K V a A) (hf : CV X W K V f B) (hr : ∀ b t i n, rr r k b t i n = aa f b t i n) (b : Fin 2) (t : Fin 3) (i : Fin 32) (h : Fin 4) (d : Fin 64) :
    mgG a r k b t i (hd h d) = S3 (A ∪ B) (SC X W K b h (gr 0 (up i))) (fun j => V (ix4 b j h d)) t := by
  have e1 : (fun t => aa a b t i (hd h d)) = S3 A (SC X W K b h (gr 0 (up i))) (fun j => V (ix4 b j h d)) := funext fun t => ha b t i h d
  have e2 : (fun t => rr r k b t i (hd h d)) = S3 B (SC X W K b h (gr 0 (up i))) (fun j => V (ix4 b j h d)) := funext fun t => (hr b t i _).trans (hf b t i h d)
  rw [mgG, e1, e2]
  exact mgV_S3 hA hB (fun j => SC_real w.hX w.hW w.hK b h _ j) hdj t

theorem mst_lt (C : Conts Ideal) (c : Dev nD) (k : ℕ) (a : CAc Ideal) (h : k < tz c) : mst C c k a = mgS k a (rdLand C c k) := if_pos h
theorem mst_ge (C : Conts Ideal) (c : Dev nD) (k : ℕ) (a : CAc Ideal) (h : ¬ k < tz c) : mst C c k a = a := if_neg h
theorem step0 (w : Whole I X W K V O) (C : Conts Ideal) (c : Dev nD) (a : CAc Ideal) (ha : CV X W K V a (blk c (2 ^ min 0 (tz c))))
    (hf : 0 < tz c → CV X W K V (C.ac (sh c 1)) (blk (sh c 1) 1)) : CV X W K V (mst C c 0 a) (blk c (2 ^ min 1 (tz c))) := by
  have hb := tz_bd c
  by_cases h : 0 < tz c
  · have hp : 2 ^ 1 ≤ 2 ^ tz c := Nat.pow_le_pow_right (by decide) h
    have hs : (sh c 1).val = c.val + 1 := by show (c.val + 1) % 32 = _; omega
    rw [mst_lt _ _ _ _ h]
    rw [Nat.min_eq_left (by omega)] at ha ⊢
    have hf := hf h
    rw [hs] at hf
    have hu : blk c (2 ^ 1) = blk c (2 ^ 0) ∪ blk (c.val + 1) 1 := (blk_union (c := c.val) (m := 1) (n := 1)).symm
    intro b t i h' d
    rw [hu]
    exact (mg0_at a (rdLand C c 0) (ix4 b t i (hd h' d))).trans (mg_cv w (blk_ne (by decide) (by omega)) (blk_ne (by decide) (by omega)) blk_disj ha hf (rdLand0_at C c) b t i h' d)
  · rw [mst_ge _ _ _ _ h]
    rw [Nat.min_eq_right (by omega)] at ha ⊢
    exact ha
theorem step1 (w : Whole I X W K V O) (C : Conts Ideal) (c : Dev nD) (a : CAc Ideal) (ha : CV X W K V a (blk c (2 ^ min 1 (tz c))))
    (hf : 1 < tz c → CV X W K V (C.ac (sh c 2)) (blk (sh c 2) 2)) : CV X W K V (mst C c 1 a) (blk c (2 ^ min 2 (tz c))) := by
  have hb := tz_bd c
  by_cases h : 1 < tz c
  · have hp : 2 ^ 2 ≤ 2 ^ tz c := Nat.pow_le_pow_right (by decide) h
    have hs : (sh c 2).val = c.val + 2 := by show (c.val + 2) % 32 = _; omega
    rw [mst_lt _ _ _ _ h]
    rw [Nat.min_eq_left (by omega)] at ha ⊢
    have hf := hf h
    rw [hs] at hf
    have hu : blk c (2 ^ 2) = blk c (2 ^ 1) ∪ blk (c.val + 2) 2 := (blk_union (c := c.val) (m := 2) (n := 2)).symm
    intro b t i h' d
    rw [hu]
    exact (mg1_at a (rdLand C c 1) (ix4 b t i (hd h' d))).trans (mg_cv w (blk_ne (by decide) (by omega)) (blk_ne (by decide) (by omega)) blk_disj ha hf (rdLand1_at C c) b t i h' d)
  · rw [mst_ge _ _ _ _ h]
    rw [Nat.min_eq_right (by omega)] at ha ⊢
    exact ha
theorem step2 (w : Whole I X W K V O) (C : Conts Ideal) (c : Dev nD) (a : CAc Ideal) (ha : CV X W K V a (blk c (2 ^ min 2 (tz c))))
    (hf : 2 < tz c → CV X W K V (C.ac (sh c 4)) (blk (sh c 4) 4)) : CV X W K V (mst C c 2 a) (blk c (2 ^ min 3 (tz c))) := by
  have hb := tz_bd c
  by_cases h : 2 < tz c
  · have hp : 2 ^ 3 ≤ 2 ^ tz c := Nat.pow_le_pow_right (by decide) h
    have hs : (sh c 4).val = c.val + 4 := by show (c.val + 4) % 32 = _; omega
    rw [mst_lt _ _ _ _ h]
    rw [Nat.min_eq_left (by omega)] at ha ⊢
    have hf := hf h
    rw [hs] at hf
    have hu : blk c (2 ^ 3) = blk c (2 ^ 2) ∪ blk (c.val + 4) 4 := (blk_union (c := c.val) (m := 4) (n := 4)).symm
    intro b t i h' d
    rw [hu]
    exact (mg2_at a (rdLand C c 2) (ix4 b t i (hd h' d))).trans (mg_cv w (blk_ne (by decide) (by omega)) (blk_ne (by decide) (by omega)) blk_disj ha hf (rdLand2_at C c) b t i h' d)
  · rw [mst_ge _ _ _ _ h]
    rw [Nat.min_eq_right (by omega)] at ha ⊢
    exact ha
theorem step3 (w : Whole I X W K V O) (C : Conts Ideal) (c : Dev nD) (a : CAc Ideal) (ha : CV X W K V a (blk c (2 ^ min 3 (tz c))))
    (hf : 3 < tz c → CV X W K V (C.ac (sh c 8)) (blk (sh c 8) 8)) : CV X W K V (mst C c 3 a) (blk c (2 ^ min 4 (tz c))) := by
  have hb := tz_bd c
  by_cases h : 3 < tz c
  · have hp : 2 ^ 4 ≤ 2 ^ tz c := Nat.pow_le_pow_right (by decide) h
    have hs : (sh c 8).val = c.val + 8 := by show (c.val + 8) % 32 = _; omega
    rw [mst_lt _ _ _ _ h]
    rw [Nat.min_eq_left (by omega)] at ha ⊢
    have hf := hf h
    rw [hs] at hf
    have hu : blk c (2 ^ 4) = blk c (2 ^ 3) ∪ blk (c.val + 8) 8 := (blk_union (c := c.val) (m := 8) (n := 8)).symm
    intro b t i h' d
    rw [hu]
    exact (mg3_at a (rdLand C c 3) (ix4 b t i (hd h' d))).trans (mg_cv w (blk_ne (by decide) (by omega)) (blk_ne (by decide) (by omega)) blk_disj ha hf (rdLand3_at C c) b t i h' d)
  · rw [mst_ge _ _ _ _ h]
    rw [Nat.min_eq_right (by omega)] at ha ⊢
    exact ha
theorem step4 (w : Whole I X W K V O) (C : Conts Ideal) (c : Dev nD) (a : CAc Ideal) (ha : CV X W K V a (blk c (2 ^ min 4 (tz c))))
    (hf : 4 < tz c → CV X W K V (C.ac (sh c 16)) (blk (sh c 16) 16)) : CV X W K V (mst C c 4 a) (blk c (2 ^ min 5 (tz c))) := by
  have hb := tz_bd c
  by_cases h : 4 < tz c
  · have hp : 2 ^ 5 ≤ 2 ^ tz c := Nat.pow_le_pow_right (by decide) h
    have hs : (sh c 16).val = c.val + 16 := by show (c.val + 16) % 32 = _; omega
    rw [mst_lt _ _ _ _ h]
    rw [Nat.min_eq_left (by omega)] at ha ⊢
    have hf := hf h
    rw [hs] at hf
    have hu : blk c (2 ^ 5) = blk c (2 ^ 4) ∪ blk (c.val + 16) 16 := (blk_union (c := c.val) (m := 16) (n := 16)).symm
    intro b t i h' d
    rw [hu]
    exact (mg4_at a (rdLand C c 4) (ix4 b t i (hd h' d))).trans (mg_cv w (blk_ne (by decide) (by omega)) (blk_ne (by decide) (by omega)) blk_disj ha hf (rdLand4_at C c) b t i h' d)
  · rw [mst_ge _ _ _ _ h]
    rw [Nat.min_eq_right (by omega)] at ha ⊢
    exact ha
theorem CC_ac (c : Dev nD) : (CC I).ac c = accN I 6 c := rfl
/-- Every device's merged result covers its subtree's columns. -/
theorem ac_cv (w : Whole I X W K V O) : ∀ (n : ℕ) (c : Dev nD), tz c < n → CV X W K V ((CC I).ac c) (blk c (2 ^ tz c)) := by
  intro n
  induction n with
  | zero => intro c h; omega
  | succ n ih =>
    intro c hc
    have h6 := tz_lt6 c
    rw [ac_eq]
    have hm : min 5 (tz c) = tz c := Nat.min_eq_right (by omega)
    have s0 := step0 w (CC I) c (acc0 I c) (by rw [Nat.min_eq_left (Nat.zero_le _)]; exact acc0_cv w c) (fun h => by have e := (tz_sh c).1 h; have := ih (sh c 1) (by omega); rw [e] at this; exact this)
    have s1 := step1 w (CC I) c _ s0 (fun h => by have e := (tz_sh c).2.1 h; have := ih (sh c 2) (by omega); rw [e] at this; exact this)
    have s2 := step2 w (CC I) c _ s1 (fun h => by have e := (tz_sh c).2.2.1 h; have := ih (sh c 4) (by omega); rw [e] at this; exact this)
    have s3 := step3 w (CC I) c _ s2 (fun h => by have e := (tz_sh c).2.2.2.1 h; have := ih (sh c 8) (by omega); rw [e] at this; exact this)
    have s4 := step4 w (CC I) c _ s3 (fun h => by have e := (tz_sh c).2.2.2.2 h; have := ih (sh c 16) (by omega); rw [e] at this; exact this)
    rw [hm] at s4
    exact s4

theorem blk_all {i : ℕ} (hi : i < 32) : blk 0 32 = cols i := by
  ext j
  have hj := j.isLt
  rw [mem_blk, mem_cols, vis]
  omega
/-- A finished global row. -/
theorem glo_at (w : Whole I X W K V O) (b : Fin 2) (i : Fin 32) (h : Fin 4) (d : Fin 64) :
    Ideal.div (aa (accN I 6 0) b 0 i (hd h d)) (aa (accN I 6 0) b 2 i (hd h d)) = sma (cols (gr 0 (up i))) (SC X W K b h (gr 0 (up i))) (fun j => V (ix4 b j h d)) := by
  have hc : CV X W K V (accN I 6 0) (blk 0 32) := ac_cv w 6 0 (tz_lt6 0)
  have hi : (gr 0 (up i) : ℕ) < 32 := by have := i.isLt; show 128 * 0 + (i : ℕ) < 32; omega
  rw [hc b 0 i h d, hc b 2 i h d, ← blk_all hi]
  exact div_smo (blk_ne (by decide) (by decide)) fun j _ => SC_real w.hX w.hW w.hK b h _ j

/-- The context of a row. -/
def ctxR (x : CCx Ideal) (b : Fin 2) (r : Fin 128) (n : Fin 256) : EReal := x (ix3 b r n)
theorem ctxR_all (E : Env Ideal) (f : CCx Ideal) (b : Fin 2) (r : Fin 128) (h : Fin 4) (d : Fin 64) : ctxR (cxAll E f) b r (hd h d) = lcV E b r h d := by
  refine (cxAll_at E f (ix3 b r (hd h d))).trans ?_
  refine lcV_congr E rfl rfl ?_ ?_
  · show ((h : ℕ) * 64 + d) / 64 = h; omega
  · show ((h : ℕ) * 64 + d) % 64 = d; omega
theorem ctxR_fin_lo (a : CAc Ideal) (f : CCx Ideal) (b : Fin 2) (r : Fin 128) (n : Fin 256) (hr : (r : ℕ) < 32) : ctxR (cxFin a f) b r n = Ideal.div (aa a b 0 ⟨r, hr⟩ n) (aa a b 2 ⟨r, hr⟩ n) := (cxFin_at a f (ix3 b r n)).trans (cxFG_lo a f (ix3 b r n) hr)
theorem ctxR_fin_hi (a : CAc Ideal) (f : CCx Ideal) (b : Fin 2) (r : Fin 128) (n : Fin 256) (hr : ¬ (r : ℕ) < 32) : ctxR (cxFin a f) b r n = ctxR f b r n := (cxFin_at a f (ix3 b r n)).trans (cxFG_hi a f (ix3 b r n) hr)
theorem cxE0 (a : CAc Ideal) (f : CCx Ideal) : cxE 0 a f = cxFin a f := if_pos rfl
theorem cxEn (c : Dev nD) (h : c ≠ 0) (a : CAc Ideal) (f : CCx Ideal) : cxE c a f = f := if_neg h
theorem ctx_at (w : Whole I X W K V O) (c : Dev nD) (b : Fin 2) (r : Fin 128) (h : Fin 4) (d : Fin 64) :
    ctxR (cxE c (accN I 6 c) (cxAll (EE I c) I.b5)) b r (hd h d) = sma (cols (gr c r)) (SC X W K b h (gr c r)) (fun j => V (ix4 b j h d)) := by
  by_cases hc : c = 0
  · subst hc
    rw [cxE0]
    by_cases hr : (r : ℕ) < 32
    · rw [ctxR_fin_lo _ _ _ _ _ hr]
      exact glo_at w b ⟨r, hr⟩ h d
    · rw [ctxR_fin_hi _ _ _ _ _ hr, ctxR_all]
      exact loc_at w 0 b r h d (by show 32 ≤ 128 * 0 + (r : ℕ); omega)
  · rw [cxEn c hc, ctxR_all]
    have h0 : c.val ≠ 0 := fun e => hc (Fin.ext e)
    exact loc_at w c b r h d (by show 32 ≤ 128 * c.val + (r : ℕ); omega)
theorem hd_eta (t : Fin 256) : hd ⟨(t : ℕ) / 64, by omega⟩ ⟨(t : ℕ) % 64, Nat.mod_lt _ (by decide)⟩ = t := Fin.ext (by show (t : ℕ) / 64 * 64 + (t : ℕ) % 64 = t; omega)
theorem ouG_ctxR (E : Env Ideal) (x : CCx Ideal) (b : Fin 2) (r : Fin 128) (n : Fin 512) : ouG E x b r n = ∑ t : Fin 256, ctxR x b r t * (show FVec Ideal S256x512 .bf16 from E.x4) (ix2 t n) := rfl
/-- The result of a device is its block of the specified one. -/
theorem out_at (w : Whole I X W K V O) (c : Dev nD) (b : Fin 2) (r : Fin 128) (n : Fin 512) : (show FVec Ideal S2x128x512 .f32 from outOf I c) (ix3 b r n) = OUT X W K V O b (gr c r) n := by
  refine (ou43_at (EE I c) (cxE c (accN I 6 c) (cxAll (EE I c) I.b5)) I.b6 (ix3 b r n)).trans ?_
  refine (ouG_ctxR _ _ b r n).trans ?_
  unfold OUT
  refine Finset.sum_congr rfl fun t _ => ?_
  refine congrArg₂ (· * ·) ?_ (w.x4 c t n)
  have e := ctx_at w c b r ⟨(t : ℕ) / 64, by omega⟩ ⟨(t : ℕ) % 64, Nat.mod_lt _ (by decide)⟩
  rw [hd_eta] at e
  exact e

end Cert.KernelIdealProof
-- ==== Proof.KernelIdeal.PreAt.lean ====
/- What the precondition says: the inputs the scores are made of are real. -/
module

public import proofs.«01_k».proof.Proof.KernelIdeal.Math
public import proofs.«01_k».proof.Pre_finite_KernelIdeal
public import Idealize.ShloMosaic.Lib.Affine
public import Idealize.ShloMosaic.Lib.Routing.OpsOrder

@[expose] public section

set_option maxRecDepth 16384

noncomputable section

namespace Cert.KernelIdealProof

open Idealize.ShloMosaic

open Cert.Pre_finite_KernelIdeal

variable [Cert.Pre_finite_KernelIdeal.Facts]

theorem fold_andi {ι : Type} (s : Finset ι) (p : ι → BitVec 1) (h : Finset.fold IntOp.andi (1#1) p s = 1#1) : ∀ x ∈ s, p x = 1#1 := by
  classical
  induction s using Finset.induction_on with
  | empty => intro x hx; exact absurd hx (Finset.notMem_empty x)
  | insert a s ha ih =>
    rw [Finset.fold_insert ha, IntOp.andi_eq_one] at h
    intro x hx
    rcases Finset.mem_insert.1 hx with rfl | hx
    · exact h.1
    · exact ih h.2 x hx
theorem inf16 : Ideal.ofBits .bf16 0x7F80#16 = (⊤ : EReal) := by
  simp [Ideal.ofBits, Ideal.ieee]
theorem fin_one (x : Ideal .bf16) (h : BitVec.ofBool (decide ((FloatOps.absf x : EReal) < Ideal.ofBits .bf16 0x7F80#16)) = 1#1) : IsR x := by
  rw [inf16] at h
  have h1 : (FloatOps.absf x : EReal) < ⊤ := by
    by_contra hn
    rw [decide_eq_false hn] at h
    exact absurd h (by decide)
  have h2 : max (x : EReal) (-x) < ⊤ := h1
  rw [max_lt_iff] at h2
  have hb : (x : EReal) ≠ ⊥ := fun e => by rw [e, EReal.neg_bot] at h2; exact absurd h2.2 (lt_irrefl _)
  exact ⟨EReal.toReal x, (EReal.coe_toReal (ne_of_lt h2.1) hb).symm⟩
theorem fin_x (x : FVec Ideal S2x128x512 .bf16) (wq : FVec Ideal S512x256 .bf16) (k v : FVec Ideal S2x128x4x64 .bf16) (wo : FVec Ideal S256x512 .bf16) (h : fn x wq k v wo ix0 = 1#1) :
    (∀ i, IsR (x i)) ∧ (∀ i, IsR (wq i)) ∧ (∀ i, IsR (k i)) := by
  pointwise [fn] at h
  rw [IntOp.andi_eq_one, IntOp.andi_eq_one] at h
  obtain ⟨⟨h1, h2⟩, h3⟩ := h
  refine ⟨fun i => ?_, fun i => ?_, fun i => ?_⟩
  · idx_vars i
    exact fin_one _ (fold_andi _ _ h1 (i0, i1, i2) (Finset.mem_univ _))
  · idx_vars i
    exact fin_one _ (fold_andi _ _ h2 (i0, i1) (Finset.mem_univ _))
  · exact fin_one _ (fold_andi _ _ h3 i (Finset.mem_filter.2 ⟨Finset.mem_univ _, funext fun a => a.elim0⟩))

end Cert.KernelIdealProof
-- ==== Proof.KernelIdeal.Give.lean ====
/- What the devices hand one another at the entry barrier, sorted by receiver. -/
module

public import proofs.«01_k».proof.Proof.KernelIdeal.Contents

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

theorem swap {I J : Type} (s : Finset I) (t : Finset J) (Φ : I → J → sProp 𝕄) :
    (bigSep s fun i => bigSep t fun j => Φ i j) = bigSep t fun j => bigSep s fun i => Φ i j := by
  classical
  induction s using Finset.induction_on with
  | empty => simp
  | insert a s ha ih =>
    rw [bigSep_insert ha, ih]
    refine (bigSep_sep' (s := t) (Φ := fun j => Φ a j) (Ψ := fun j => bigSep s fun i => Φ i j)).symm.trans ?_
    exact bigSep_congr fun j _ => (bigSep_insert ha (Φ := fun i => Φ i j)).symm
/-- One member of a conditional family. -/
theorem one_of {I : Type} [DecidableEq I] (s : Finset I) (a : I) (ha : a ∈ s) (P : I → Prop) [DecidablePred P] (hP : ∀ i ∈ s, P i → i = a) (Φ : sProp 𝕄) :
    Φ ⊢ bigSep s (fun i => if P i then Φ else iprop(emp)) := by
  rw [bigSep_erase ha]
  have h0 : bigSep (s.erase a) (fun i => if P i then Φ else iprop(emp)) = iprop(emp) := by
    refine (bigSep_congr (Ψ := fun _ => iprop(emp)) fun i hi => ?_).trans (bigSep_emp_const _)
    exact if_neg fun h => (Finset.mem_erase.1 hi).1 (hP i (Finset.mem_erase.1 hi).2 h)
  rw [h0]
  by_cases h : P a
  · show Φ ⊢ iprop((if P a then Φ else iprop(emp)) ∗ emp)
    rw [if_pos h]; iintro H; isplitl [H]; · iexact H
    iempintro
  · show Φ ⊢ iprop((if P a then Φ else iprop(emp)) ∗ emp)
    rw [if_neg h]; iintro H; isplitr <;> iempintro
theorem none_of {I : Type} [DecidableEq I] (s : Finset I) (P : I → Prop) [DecidablePred P] (hP : ∀ i ∈ s, ¬ P i) (Φ : sProp 𝕄) (Ψ : sProp 𝕄) :
    Ψ ⊢ bigSep s (fun i => if P i then Φ else iprop(emp)) := by
  have h0 : bigSep s (fun i => if P i then Φ else iprop(emp)) = iprop(emp) := by
    refine (bigSep_congr (Ψ := fun _ => iprop(emp)) fun i hi => ?_).trans (bigSep_emp_const _)
    exact if_neg (hP i hi)
  rw [h0]; iintro H; iempintro

def G0 (c : Dev nD) : sProp 𝕄 :=
  if c = 0 then iprop((bigSep (Finset.Ico 34 65) fun i => iprop(tok (F := F) (0, gk i) 0 ∗ tok (sh 0 (i - 33), 36) 0)) ∗ ∃ f, glPts (F := F) c fullShare f)
  else iprop(crd (c, 36) Ngl ∗ pos (c, 36) 0)
def Gb (c : Dev nD) : sProp 𝕄 :=
  if c = 0 then (bigSep (Finset.Ico 34 65) fun i => iprop(∃ f, glPts (F := F) (sh 0 (i - 33)) fullShare f)) else iprop(∃ f, rdPts (F := F) (parent c) (tz c) f)
def RT0 (c : Dev nD) : sProp 𝕄 := if c = 0 then iprop(emp) else iprop(tok (F := F) (c, 37) c ∗ tok (parent c, rrk (tz c)) c)
def W0 (c : Dev nD) : sProp 𝕄 := if c = 0 then (bigSep (Finset.Ico 34 65) fun i => pos (F := F) (0, gk i) 0) else pos (F := F) (c, 37) 0

theorem image0 : (Finset.univ.erase (0 : Dev nD)) = (Finset.Ico 34 65).image (fun i => sh 0 (i - 33)) := by decide
theorem inj0 : Set.InjOn (fun i => sh (0 : Dev nD) (i - 33)) (Finset.Ico 34 65 : Finset ℕ) := by
  intro i hi j hj h
  have hi' := Finset.mem_Ico.1 (Finset.mem_coe.1 hi); have hj' := Finset.mem_Ico.1 (Finset.mem_coe.1 hj)
  have h3 : (0 + (i - 33)) % 32 = (0 + (j - 33)) % 32 := congrArg Fin.val h
  omega
theorem sh0_ne {i : ℕ} (h1 : 34 ≤ i) (h2 : i < 65) : sh (0 : Dev nD) (i - 33) ≠ 0 := fun h => by
  have h3 : (0 + (i - 33)) % 32 = 0 := congrArg Fin.val h
  omega
theorem sh_facts : ∀ c : Dev nD, sh c 1 ≠ c ∧ sh c 31 ≠ c ∧ c = sh (sh c 1) 31 ∧ c = sh (sh c 31) 1 ∧ (c ≠ 0 → parent c ≠ c ∧ tz c < tz (parent c) ∧ c = sh (parent c) (2 ^ tz c) ∧ tz c < 5) := by decide

/-- What the entry barrier brings a device. -/
theorem given_by (c : Dev nD) : (bigSep (Finset.univ.erase c) fun p => giveTo (F := F) p c) ⊢ iprop((∃ f, rcPts (F := F) (sh c 1) 0 f) ∗ (∃ f, rcPts (F := F) (sh c 31) 1 f) ∗ Gb (F := F) c) := by
  obtain ⟨h1, h31, e1, e31, hp⟩ := sh_facts c
  unfold giveTo
  simp only [bigSep_sep']
  refine BIClass.sep_mono ?_ (BIClass.sep_mono ?_ ?_)
  · refine BIBase.Entails.trans (bigSep_elim (Finset.mem_erase.2 ⟨h1, Finset.mem_univ _⟩)) ?_
    show (if c = sh (sh c 1) 31 then iprop(∃ f, rcPts (F := F) (sh c 1) 0 f) else iprop(emp)) ⊢ _
    rw [if_pos e1]
    first | done | exact .refl _ | exact .refl
  · refine BIBase.Entails.trans (bigSep_elim (Finset.mem_erase.2 ⟨h31, Finset.mem_univ _⟩)) ?_
    show (if c = sh (sh c 31) 1 then iprop(∃ f, rcPts (F := F) (sh c 31) 1 f) else iprop(emp)) ⊢ _
    rw [if_pos e31]
    first | done | exact .refl _ | exact .refl
  · unfold Gb
    by_cases h : c = 0
    · subst h
      rw [if_pos rfl]
      refine BIBase.Entails.trans (sep_elim_left) ?_
      rw [image0, bigSep_image_of_injOn inj0]
      refine bigSep_mono fun i hi => ?_
      have hi' := Finset.mem_Ico.1 hi
      rw [if_pos ⟨rfl, sh0_ne hi'.1 hi'.2⟩]
      first | done | exact .refl _ | exact .refl
    · rw [if_neg h]
      obtain ⟨g1, g2, g3, g4⟩ := hp h
      refine BIBase.Entails.trans (sep_elim_right) ?_
      refine BIBase.Entails.trans (bigSep_elim (Finset.mem_erase.2 ⟨g1, Finset.mem_univ _⟩)) ?_
      refine BIBase.Entails.trans (bigSep_elim (Finset.mem_range.2 g4)) ?_
      rw [if_pos ⟨g2, g3⟩]
      first | done | exact .refl _ | exact .refl

theorem gpre (c : Dev nD) : iprop(G0 (F := F) c ∗ Gb (F := F) c ∗ RT0 (F := F) c) ⊢ iprop(GPre (F := F) c ∗ RT (F := F) c) := by
  unfold G0 Gb RT0 GPre RT SndG0
  by_cases h : c = 0
  · rw [if_pos h, if_pos h, if_pos h, if_pos h, if_pos h]
    simp only [bigSep_sep']
    iintro ⟨⟨⟨Ht, Ht2⟩, Hg⟩, Hb, -⟩
    isplitl [Ht Ht2 Hg Hb]
    · isplitl [Ht Ht2 Hb]
      · isplitl [Ht]; · iexact Ht
        isplitl [Ht2]; · iexact Ht2
        iexact Hb
      iexact Hg
    iempintro
  · rw [if_neg h, if_neg h, if_neg h, if_neg h, if_neg h]

theorem fgw (c : Dev nD) : iprop(FG (F := F) c ∗ W0 (F := F) c) ⊢ GW (F := F) c := by
  unfold FG W0 GW FlyG WG
  by_cases h : c = 0
  · rw [if_pos h, if_pos h, if_pos h]
    simp only [bigSep_sep']
    first | done | exact .refl _ | exact .refl
  · rw [if_neg h, if_neg h, if_neg h]
    first | done | exact .refl _ | exact .refl

theorem tree_ows (C : Conts F) (c : Dev nD) (a : CAc F) : TreeSt (F := F) 1 c a ⊢ iprop(∃ n, ⌜65 ≤ n⌝ ∗ OWs (F := F) c n ∗ (OWs (F := F) c n -∗ TreeSt (F := F) 1 c a)) := by
  by_cases h : tz c < 1
  · rw [TreeSt_sent h]
    iintro ⟨Hc, HO⟩
    iexists 66
    isplitr; · ipureintro; omega
    isplitl [HO]; · iexact HO
    iintro HO
    isplitl [Hc]; · iexact Hc
    iexact HO
  · rw [TreeSt_here h]
    iintro ⟨Hc, HO, HR⟩
    iexists 65
    isplitr; · ipureintro; omega
    isplitl [HO]; · iexact HO
    iintro HO
    isplitl [Hc]; · iexact Hc
    isplitl [HO]; · iexact HO
    iexact HR

/-- What the entry signals carry, from the buffers a device gives away. -/
theorem mkGive (c : Dev nD) : iprop((∃ f, rcPts (F := F) c 0 f) ∗ (∃ f, rcPts (F := F) c 1 f) ∗ (if c ≠ 0 then iprop(∃ f, glPts (F := F) c fullShare f) else iprop(emp))
      ∗ bigSep (Finset.range 5) fun j => if j < tz c then iprop(∃ f, rdPts (F := F) c j f) else iprop(emp))
    ⊢ bigSep (Finset.Ico 1 32) fun i => giveTo (F := F) c (sh c i) := by
  have hsh : ∀ i, i ∈ Finset.Ico 1 32 → ∀ a, a ∈ Finset.Ico 1 32 → sh c i = sh c a → i = a := fun i hi a ha h => by
    have hi' := Finset.mem_Ico.1 hi; have ha' := Finset.mem_Ico.1 ha
    have h3 : (c.val + i) % 32 = (c.val + a) % 32 := congrArg Fin.val h
    omega
  unfold giveTo
  simp only [bigSep_sep']
  refine BIClass.sep_mono ?_ (BIClass.sep_mono ?_ (BIClass.sep_mono ?_ ?_))
  · exact one_of _ 31 (by decide) (fun i => sh c i = sh c 31) (fun i hi h => hsh i hi 31 (by decide) h) _
  · exact one_of _ 1 (by decide) (fun i => sh c i = sh c 1) (fun i hi h => hsh i hi 1 (by decide) h) _
  · by_cases h : c = 0
    · exact none_of _ (fun i => sh c i = 0 ∧ c ≠ 0) (fun i hi h' => h'.2 h) _ _
    · rw [if_pos h]
      have h0 : 0 < c.val := Nat.pos_of_ne_zero fun h' => h (Fin.ext h')
      have h1 : c.val < 32 := c.isLt
      have hm : 32 - c.val ∈ Finset.Ico 1 32 := Finset.mem_Ico.2 (by omega)
      refine one_of _ (32 - c.val) hm (fun i => sh c i = 0 ∧ c ≠ 0) (fun i hi h' => hsh i hi _ hm ?_) _
      rw [h'.1]; apply Fin.ext; show 0 = (c.val + (32 - c.val)) % 32; omega
  · rw [swap]
    refine bigSep_mono fun j hj => ?_
    have hj' := Finset.mem_range.1 hj
    by_cases h : j < tz c
    · rw [if_pos h]
      have hm : 2 ^ j ∈ Finset.Ico 1 32 := by
        obtain rfl | rfl | rfl | rfl | rfl : j = 0 ∨ j = 1 ∨ j = 2 ∨ j = 3 ∨ j = 4 := by omega
        all_goals decide
      exact one_of _ (2 ^ j) hm (fun i => j < tz c ∧ sh c i = sh c (2 ^ j)) (fun i hi h' => hsh i hi _ hm h'.2) _
    · exact none_of _ (fun i => j < tz c ∧ sh c i = sh c (2 ^ j)) (fun i hi h' => h h'.1) _ _

end Cert.KernelIdealProof
-- ==== Proof.KernelIdeal.Entry.lean ====
/- The entry barrier: the parts of the body that signal every other device and wait for all of them. -/
module

public import proofs.«01_k».proof.Proof.KernelIdeal.Ops

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (C : Conts F) (K : Dev nD × Fin 45 → ℕ)

theorem spec15 (c : Dev nD) {Q : _ → sProp 𝕄} :
    iprop(records C K ∗ OWs c 1 ∗ SigA c 1 ∗ ((OWs c 5 ∗ SigA c 5) -∗ ∀ w, Q ⟨c, wv2 c, wv5 c, wv7 c, (SemArray.scalar (sig.barrier 0 rfl)), w, 32#32⟩))
      ⊢ wp frame (wpE (defs₀ (F := F)) 𝒱₀ (c : Thread nD τ) none) Set.univ (k0_part15 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0) Q := by
  rw [k0_part15_eq_skeleton]; unfold k0_part15_skel
  simp only [semSignalWord, semWaitWord, Prog.lift, Prog.bind_op, Prog.bind_ret, Prog.pure_eq_ret, wp_deviceId]
  unfold wv5 wv7 wv2
  iintro ⟨#HR, HO, HS, HQ⟩
  iapply (sig_A C K c 1 (by omega) (by omega) _ (devN1 c _) bar_sem rfl) $$ [HO HS]
  · isplitr; · iexact HR
    isplitl [HO]; · iexact HO
    iexact HS
  iintro ⟨HO, HS⟩
  iapply (sig_A C K c 2 (by omega) (by omega) _ (devN2 c _) bar_sem rfl) $$ [HO HS]
  · isplitr; · iexact HR
    isplitl [HO]; · iexact HO
    iexact HS
  iintro ⟨HO, HS⟩
  iapply (sig_A C K c 3 (by omega) (by omega) _ (devN3 c _) bar_sem rfl) $$ [HO HS]
  · isplitr; · iexact HR
    isplitl [HO]; · iexact HO
    iexact HS
  iintro ⟨HO, HS⟩
  iapply (sig_A C K c 4 (by omega) (by omega) _ (devN4 c _) bar_sem rfl) $$ [HO HS]
  · isplitr; · iexact HR
    isplitl [HO]; · iexact HO
    iexact HS
  iintro ⟨HO, HS⟩
  rw [wp_ret]; imodintro
  ihave HQ2 := HQ $$ [HO HS]
  · isplitl [HO]; · iexact HO
    iexact HS
  iapply HQ2

theorem spec16 (c : Dev nD) (v2 v25 w : BitVec 32) {Q : _ → sProp 𝕄} :
    iprop(records C K ∗ OWs c 5 ∗ SigA c 5 ∗ ((OWs c 11 ∗ SigA c 11) -∗ ∀ r, Q r))
      ⊢ wp frame (wpE (defs₀ (F := F)) 𝒱₀ (c : Thread nD τ) none) Set.univ (k0_part16 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 c v2 (SemArray.scalar (sig.barrier 0 rfl)) v25 w) Q := by
  rw [k0_part16_eq_skeleton]; unfold k0_part16_skel
  simp only [semSignalWord, semWaitWord, Prog.lift, Prog.bind_op, Prog.bind_ret, Prog.pure_eq_ret, wp_deviceId]
  iintro ⟨#HR, HO, HS, HQ⟩
  iapply (sig_A C K c 5 (by omega) (by omega) _ (devN5 c _) bar_sem rfl) $$ [HO HS]
  · isplitr; · iexact HR
    isplitl [HO]; · iexact HO
    iexact HS
  iintro ⟨HO, HS⟩
  iapply (sig_A C K c 6 (by omega) (by omega) _ (devN6 c _) bar_sem rfl) $$ [HO HS]
  · isplitr; · iexact HR
    isplitl [HO]; · iexact HO
    iexact HS
  iintro ⟨HO, HS⟩
  iapply (sig_A C K c 7 (by omega) (by omega) _ (devN7 c _) bar_sem rfl) $$ [HO HS]
  · isplitr; · iexact HR
    isplitl [HO]; · iexact HO
    iexact HS
  iintro ⟨HO, HS⟩
  iapply (sig_A C K c 8 (by omega) (by omega) _ (devN8 c _) bar_sem rfl) $$ [HO HS]
  · isplitr; · iexact HR
    isplitl [HO]; · iexact HO
    iexact HS
  iintro ⟨HO, HS⟩
  iapply (sig_A C K c 9 (by omega) (by omega) _ (devN9 c _) bar_sem rfl) $$ [HO HS]
  · isplitr; · iexact HR
    isplitl [HO]; · iexact HO
    iexact HS
  iintro ⟨HO, HS⟩
  iapply (sig_A C K c 10 (by omega) (by omega) _ (devN10 c _) bar_sem rfl) $$ [HO HS]
  · isplitr; · iexact HR
    isplitl [HO]; · iexact HO
    iexact HS
  iintro ⟨HO, HS⟩
  rw [wp_ret]; imodintro
  ihave HQ2 := HQ $$ [HO HS]
  · isplitl [HO]; · iexact HO
    iexact HS
  iapply HQ2

theorem spec17 (c : Dev nD) (v2 v25 w : BitVec 32) {Q : _ → sProp 𝕄} :
    iprop(records C K ∗ OWs c 11 ∗ SigA c 11 ∗ ((OWs c 17 ∗ SigA c 17) -∗ ∀ r, Q r))
      ⊢ wp frame (wpE (defs₀ (F := F)) 𝒱₀ (c : Thread nD τ) none) Set.univ (k0_part17 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 c v2 (SemArray.scalar (sig.barrier 0 rfl)) v25 w) Q := by
  rw [k0_part17_eq_skeleton]; unfold k0_part17_skel
  simp only [semSignalWord, semWaitWord, Prog.lift, Prog.bind_op, Prog.bind_ret, Prog.pure_eq_ret, wp_deviceId]
  iintro ⟨#HR, HO, HS, HQ⟩
  iapply (sig_A C K c 11 (by omega) (by omega) _ (devN11 c _) bar_sem rfl) $$ [HO HS]
  · isplitr; · iexact HR
    isplitl [HO]; · iexact HO
    iexact HS
  iintro ⟨HO, HS⟩
  iapply (sig_A C K c 12 (by omega) (by omega) _ (devN12 c _) bar_sem rfl) $$ [HO HS]
  · isplitr; · iexact HR
    isplitl [HO]; · iexact HO
    iexact HS
  iintro ⟨HO, HS⟩
  iapply (sig_A C K c 13 (by omega) (by omega) _ (devN13 c _) bar_sem rfl) $$ [HO HS]
  · isplitr; · iexact HR
    isplitl [HO]; · iexact HO
    iexact HS
  iintro ⟨HO, HS⟩
  iapply (sig_A C K c 14 (by omega) (by omega) _ (devN14 c _) bar_sem rfl) $$ [HO HS]
  · isplitr; · iexact HR
    isplitl [HO]; · iexact HO
    iexact HS
  iintro ⟨HO, HS⟩
  iapply (sig_A C K c 15 (by omega) (by omega) _ (devN15 c _) bar_sem rfl) $$ [HO HS]
  · isplitr; · iexact HR
    isplitl [HO]; · iexact HO
    iexact HS
  iintro ⟨HO, HS⟩
  iapply (sig_A C K c 16 (by omega) (by omega) _ (devN16 c _) bar_sem rfl) $$ [HO HS]
  · isplitr; · iexact HR
    isplitl [HO]; · iexact HO
    iexact HS
  iintro ⟨HO, HS⟩
  rw [wp_ret]; imodintro
  ihave HQ2 := HQ $$ [HO HS]
  · isplitl [HO]; · iexact HO
    iexact HS
  iapply HQ2

theorem spec18 (c : Dev nD) (v2 v25 w : BitVec 32) {Q : _ → sProp 𝕄} :
    iprop(records C K ∗ OWs c 17 ∗ SigA c 17 ∗ ((OWs c 23 ∗ SigA c 23) -∗ ∀ r, Q r))
      ⊢ wp frame (wpE (defs₀ (F := F)) 𝒱₀ (c : Thread nD τ) none) Set.univ (k0_part18 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 c v2 (SemArray.scalar (sig.barrier 0 rfl)) v25 w) Q := by
  rw [k0_part18_eq_skeleton]; unfold k0_part18_skel
  simp only [semSignalWord, semWaitWord, Prog.lift, Prog.bind_op, Prog.bind_ret, Prog.pure_eq_ret, wp_deviceId]
  iintro ⟨#HR, HO, HS, HQ⟩
  iapply (sig_A C K c 17 (by omega) (by omega) _ (devN17 c _) bar_sem rfl) $$ [HO HS]
  · isplitr; · iexact HR
    isplitl [HO]; · iexact HO
    iexact HS
  iintro ⟨HO, HS⟩
  iapply (sig_A C K c 18 (by omega) (by omega) _ (devN18 c _) bar_sem rfl) $$ [HO HS]
  · isplitr; · iexact HR
    isplitl [HO]; · iexact HO
    iexact HS
  iintro ⟨HO, HS⟩
  iapply (sig_A C K c 19 (by omega) (by omega) _ (devN19 c _) bar_sem rfl) $$ [HO HS]
  · isplitr; · iexact HR
    isplitl [HO]; · iexact HO
    iexact HS
  iintro ⟨HO, HS⟩
  iapply (sig_A C K c 20 (by omega) (by omega) _ (devN20 c _) bar_sem rfl) $$ [HO HS]
  · isplitr; · iexact HR
    isplitl [HO]; · iexact HO
    iexact HS
  iintro ⟨HO, HS⟩
  iapply (sig_A C K c 21 (by omega) (by omega) _ (devN21 c _) bar_sem rfl) $$ [HO HS]
  · isplitr; · iexact HR
    isplitl [HO]; · iexact HO
    iexact HS
  iintro ⟨HO, HS⟩
  iapply (sig_A C K c 22 (by omega) (by omega) _ (devN22 c _) bar_sem rfl) $$ [HO HS]
  · isplitr; · iexact HR
    isplitl [HO]; · iexact HO
    iexact HS
  iintro ⟨HO, HS⟩
  rw [wp_ret]; imodintro
  ihave HQ2 := HQ $$ [HO HS]
  · isplitl [HO]; · iexact HO
    iexact HS
  iapply HQ2

theorem spec19 (c : Dev nD) (v2 v25 w : BitVec 32) {Q : _ → sProp 𝕄} :
    iprop(records C K ∗ OWs c 23 ∗ SigA c 23 ∗ ((OWs c 29 ∗ SigA c 29) -∗ ∀ r, Q r))
      ⊢ wp frame (wpE (defs₀ (F := F)) 𝒱₀ (c : Thread nD τ) none) Set.univ (k0_part19 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 c v2 (SemArray.scalar (sig.barrier 0 rfl)) v25 w) Q := by
  rw [k0_part19_eq_skeleton]; unfold k0_part19_skel
  simp only [semSignalWord, semWaitWord, Prog.lift, Prog.bind_op, Prog.bind_ret, Prog.pure_eq_ret, wp_deviceId]
  iintro ⟨#HR, HO, HS, HQ⟩
  iapply (sig_A C K c 23 (by omega) (by omega) _ (devN23 c _) bar_sem rfl) $$ [HO HS]
  · isplitr; · iexact HR
    isplitl [HO]; · iexact HO
    iexact HS
  iintro ⟨HO, HS⟩
  iapply (sig_A C K c 24 (by omega) (by omega) _ (devN24 c _) bar_sem rfl) $$ [HO HS]
  · isplitr; · iexact HR
    isplitl [HO]; · iexact HO
    iexact HS
  iintro ⟨HO, HS⟩
  iapply (sig_A C K c 25 (by omega) (by omega) _ (devN25 c _) bar_sem rfl) $$ [HO HS]
  · isplitr; · iexact HR
    isplitl [HO]; · iexact HO
    iexact HS
  iintro ⟨HO, HS⟩
  iapply (sig_A C K c 26 (by omega) (by omega) _ (devN26 c _) bar_sem rfl) $$ [HO HS]
  · isplitr; · iexact HR
    isplitl [HO]; · iexact HO
    iexact HS
  iintro ⟨HO, HS⟩
  iapply (sig_A C K c 27 (by omega) (by omega) _ (devN27 c _) bar_sem rfl) $$ [HO HS]
  · isplitr; · iexact HR
    isplitl [HO]; · iexact HO
    iexact HS
  iintro ⟨HO, HS⟩
  iapply (sig_A C K c 28 (by omega) (by omega) _ (devN28 c _) bar_sem rfl) $$ [HO HS]
  · isplitr; · iexact HR
    isplitl [HO]; · iexact HO
    iexact HS
  iintro ⟨HO, HS⟩
  rw [wp_ret]; imodintro
  ihave HQ2 := HQ $$ [HO HS]
  · isplitl [HO]; · iexact HO
    iexact HS
  iapply HQ2

theorem spec20 (E : Env F) (v2 v25 w : BitVec 32) {Q : _ → sProp 𝕄} :
    iprop(records C K ∗ levAts L lv ∗ OWs E.c 29 ∗ SigA E.c 29 ∗ crd (E.c, 44) 31 ∗ pos (E.c, 44) 0 ∗ x0Pts E ∗ x1Pts E ∗ x2Pts E
        ∗ ((OWs E.c 32 ∗ pos (E.c, 44) 1 ∗ (bigSep (Finset.univ.erase E.c) fun p => giveTo p E.c) ∗ x0Pts E ∗ x1Pts E ∗ x2Pts E) -∗ Q ⟨v145 E, v147 E⟩))
      ⊢ wp frame (wpE (defs₀ (F := F)) 𝒱₀ (E.c : Thread nD τ) none) Set.univ (k0_part20 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 E.c v2 (SemArray.scalar (sig.barrier 0 rfl)) v25 w) Q := by
  rw [k0_part20_eq_skeleton]; unfold k0_part20_skel
  simp only [semSignalWord, semWaitWord, Prog.lift, Prog.bind_op, Prog.bind_ret, Prog.pure_eq_ret, wp_deviceId]
  simp only [v133, v135, v139, v145, v146, v147]
  unfold x0Pts x1Pts x2Pts
  iintro ⟨#HR, #HL, HO, HS, Hcr, Hpo, Hx0, Hx1, Hx2, HQ⟩
  iapply (sig_A C K E.c 29 (by omega) (by omega) _ (devN29 E.c _) bar_sem rfl) $$ [HO HS]
  · isplitr; · iexact HR
    isplitl [HO]; · iexact HO
    iexact HS
  iintro ⟨HO, HS⟩
  iapply (sig_A C K E.c 30 (by omega) (by omega) _ (devN30 E.c _) bar_sem rfl) $$ [HO HS]
  · isplitr; · iexact HR
    isplitl [HO]; · iexact HO
    iexact HS
  iintro ⟨HO, HS⟩
  iapply (sig_A C K E.c 31 (by omega) (by omega) _ (devN31 E.c _) bar_sem rfl) $$ [HO HS]
  · isplitr; · iexact HR
    isplitl [HO]; · iexact HO
    iexact HS
  iintro ⟨HO, HS⟩
  iapply (wait_bar C K E.c 44 32 (wpE_semWait_eq 𝒱₀ (E.c : Thread nD τ) none Set.univ) rfl rfl rfl (above_bar E.c)) $$ [Hcr HO Hpo]
  · isplitr; · iexact HR
    isplitr; · iexact HL
    isplitl [Hcr]; · iexact Hcr
    isplitl [HO]; · iexact HO
    iexact Hpo
  iintro ⟨HO, Hpo, Hp⟩
  iapply (wp_load 𝒱₀ (E.c : Thread nD τ) none Set.univ (m := x1M) (Finset.subset_univ _)) $$ Hx1; iintro Hx1
  iapply (wp_load 𝒱₀ (E.c : Thread nD τ) none Set.univ (m := x0M) (Finset.subset_univ _)) $$ Hx0; iintro Hx0
  iapply (wp_load 𝒱₀ (E.c : Thread nD τ) none Set.univ (m := x0M) (Finset.subset_univ _)) $$ Hx0; iintro Hx0
  iapply (wp_load 𝒱₀ (E.c : Thread nD τ) none Set.univ (m := x2M) (Finset.subset_univ _)) $$ Hx2; iintro Hx2
  rw [wp_ret]; imodintro
  iapply HQ
  isplitl [HO]; · iexact HO
  isplitl [Hpo]; · iexact Hpo
  isplitl [Hp]; · iexact Hp
  isplitl [Hx0]; · iexact Hx0
  isplitl [Hx1]; · iexact Hx1
  iexact Hx2

end Cert.KernelIdealProof
-- ==== Proof.KernelIdeal.Parts2.lean ====
/- The parts of the body that only load and store, each from the contents before to the contents after. -/
module

public import proofs.«01_k».proof.Proof.KernelIdeal.Geo

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

theorem spec36 (E : Env F) (q : PosShare TreeShare) {Q : _ → sProp 𝕄} :
    iprop(rcPts E.c 1 E.r1 ∗ glPts E.c q E.gl ∗ ((rcPts E.c 1 E.r1 ∗ glPts E.c q E.gl) -∗ Q ⟨v577 E, v579 E, v610 E, v612 E, v613 E⟩))
      ⊢ wp frame (wpE (defs₀ (F := F)) 𝒱₀ (E.c : Thread nD τ) none) Set.univ (k0_part36 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 (wv2 E.c) (wv5 E.c) (wv7 E.c) (v570 E) (v572 E)) Q := by
  rw [k0_part36_eq_skeleton]; unfold k0_part36_skel
  simp only [Prog.lift, Prog.bind_op, Prog.bind_ret, Prog.pure_eq_ret]
  unfold rcPts glPts
  simp only [v573, v575, v577, v579, v610, v612, v613]
  iintro ⟨Hr1, Hgl, HQ⟩
  iapply (wp_load 𝒱₀ (E.c : Thread nD τ) none Set.univ (m := rcM) (by exact rc_sub1_1)) $$ Hr1; iintro Hr1
  iapply (wp_load 𝒱₀ (E.c : Thread nD τ) none Set.univ (m := glM) (Finset.subset_univ _)) $$ Hgl; iintro Hgl
  rw [wp_ret]; imodintro
  iapply HQ; isplitl [Hr1]; · iexact Hr1
  iexact Hgl

theorem spec37 (E : Env F) (f : CCx F) {Q : _ → sProp 𝕄} :
    iprop(cxPts E.c f ∗ ((cxPts E.c (cx37 E f)) -∗ Q ⟨v622 E, v656 E⟩))
      ⊢ wp frame (wpE (defs₀ (F := F)) 𝒱₀ (E.c : Thread nD τ) none) Set.univ (k0_part37 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 (wv2 E.c) (v145 E) (v568 E) (v577 E) (v579 E) (v610 E) (v612 E) (v613 E)) Q := by
  rw [k0_part37_eq_skeleton]; unfold k0_part37_skel
  simp only [Prog.lift, Prog.bind_op, Prog.bind_ret, Prog.pure_eq_ret]
  unfold cxPts
  simp only [v622, v656]
  iintro ⟨Hcx, HQ⟩
  iapply (wp_load 𝒱₀ (E.c : Thread nD τ) none Set.univ (m := cxM) (Finset.subset_univ _)) $$ Hcx; iintro Hcx
  iapply (wp_store 𝒱₀ (E.c : Thread nD τ) none Set.univ (m := cxM) (r := (Rect.unit (s := S2x128x256) ![0, 0, 0] S1x128x64.size inb_S2x128x256_S1x128x64_0_0_0)) (Mk := Finset.univ) (Finset.subset_univ _)) $$ Hcx; iintro Hcx
  rw [wp_ret]; imodintro
  iapply HQ; iexact Hcx

theorem spec38 (E : Env F) (f : CCx F) {Q : _ → sProp 𝕄} :
    iprop(cxPts E.c f ∗ ((cxPts E.c (cx38 E f)) -∗ Q ⟨v699 E, v700 E⟩))
      ⊢ wp frame (wpE (defs₀ (F := F)) 𝒱₀ (E.c : Thread nD τ) none) Set.univ (k0_part38 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 (v145 E) (v568 E) (v577 E) (v622 E) (v656 E)) Q := by
  rw [k0_part38_eq_skeleton]; unfold k0_part38_skel
  simp only [Prog.lift, Prog.bind_op, Prog.bind_ret, Prog.pure_eq_ret]
  unfold cxPts
  simp only [v699, v700]
  iintro ⟨Hcx, HQ⟩
  iapply (wp_load 𝒱₀ (E.c : Thread nD τ) none Set.univ (m := cxM) (Finset.subset_univ _)) $$ Hcx; iintro Hcx
  iapply (wp_store 𝒱₀ (E.c : Thread nD τ) none Set.univ (m := cxM) (r := (Rect.unit (s := S2x128x256) ![0, 0, 64] S1x128x64.size inb_S2x128x256_S1x128x64_0_0_64)) (Mk := Finset.univ) (Finset.subset_univ _)) $$ Hcx; iintro Hcx
  iapply (wp_load 𝒱₀ (E.c : Thread nD τ) none Set.univ (m := cxM) (Finset.subset_univ _)) $$ Hcx; iintro Hcx
  iapply (wp_store 𝒱₀ (E.c : Thread nD τ) none Set.univ (m := cxM) (r := (Rect.unit (s := S2x128x256) ![0, 0, 128] S1x128x64.size inb_S2x128x256_S1x128x64_0_0_128)) (Mk := Finset.univ) (Finset.subset_univ _)) $$ Hcx; iintro Hcx
  rw [wp_ret]; imodintro
  iapply HQ; iexact Hcx

theorem spec39 (E : Env F) (f : CCx F) {Q : _ → sProp 𝕄} :
    iprop(cxPts E.c f ∗ ((cxPts E.c (cx39 E f)) -∗ Q (v744 E)))
      ⊢ wp frame (wpE (defs₀ (F := F)) 𝒱₀ (E.c : Thread nD τ) none) Set.univ (k0_part39 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 (v145 E) (v568 E) (v577 E) (v622 E) (v699 E) (v700 E)) Q := by
  rw [k0_part39_eq_skeleton]; unfold k0_part39_skel
  simp only [Prog.lift, Prog.bind_op, Prog.bind_ret, Prog.pure_eq_ret]
  unfold cxPts
  simp only [v744]
  iintro ⟨Hcx, HQ⟩
  iapply (wp_load 𝒱₀ (E.c : Thread nD τ) none Set.univ (m := cxM) (Finset.subset_univ _)) $$ Hcx; iintro Hcx
  iapply (wp_store 𝒱₀ (E.c : Thread nD τ) none Set.univ (m := cxM) (r := (Rect.unit (s := S2x128x256) ![0, 0, 192] S1x128x64.size inb_S2x128x256_S1x128x64_0_0_192)) (Mk := Finset.univ) (Finset.subset_univ _)) $$ Hcx; iintro Hcx
  rw [wp_ret]; imodintro
  iapply HQ; iexact Hcx

theorem spec40 (E : Env F) (f : CCx F) {Q : _ → sProp 𝕄} :
    iprop(cxPts E.c f ∗ ((cxPts E.c (cx40 E f)) -∗ Q (v786 E)))
      ⊢ wp frame (wpE (defs₀ (F := F)) 𝒱₀ (E.c : Thread nD τ) none) Set.univ (k0_part40 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 (v145 E) (v568 E) (v577 E) (v622 E) (v744 E)) Q := by
  rw [k0_part40_eq_skeleton]; unfold k0_part40_skel
  simp only [Prog.lift, Prog.bind_op, Prog.bind_ret, Prog.pure_eq_ret]
  unfold cxPts
  simp only [v786]
  iintro ⟨Hcx, HQ⟩
  iapply (wp_load 𝒱₀ (E.c : Thread nD τ) none Set.univ (m := cxM) (Finset.subset_univ _)) $$ Hcx; iintro Hcx
  iapply (wp_store 𝒱₀ (E.c : Thread nD τ) none Set.univ (m := cxM) (r := (Rect.unit (s := S2x128x256) ![1, 0, 0] S1x128x64.size inb_S2x128x256_S1x128x64_1_0_0)) (Mk := Finset.univ) (Finset.subset_univ _)) $$ Hcx; iintro Hcx
  iapply (wp_load 𝒱₀ (E.c : Thread nD τ) none Set.univ (m := cxM) (Finset.subset_univ _)) $$ Hcx; iintro Hcx
  iapply (wp_store 𝒱₀ (E.c : Thread nD τ) none Set.univ (m := cxM) (r := (Rect.unit (s := S2x128x256) ![1, 0, 64] S1x128x64.size inb_S2x128x256_S1x128x64_1_0_64)) (Mk := Finset.univ) (Finset.subset_univ _)) $$ Hcx; iintro Hcx
  rw [wp_ret]; imodintro
  iapply HQ; iexact Hcx

end Cert.KernelIdealProof
-- ==== Proof.KernelIdeal.Parts.lean ====
/- The parts of the body that only load and store, each from the contents before to the contents after. -/
module

public import proofs.«01_k».proof.Proof.KernelIdeal.Geo

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

theorem spec21 (E : Env F) (f : CKv F) {Q : _ → sProp 𝕄} :
    iprop(kvPts E.c fullShare f ∗ x3Pts E ∗ x2Pts E ∗ ((kvPts E.c fullShare (kv21 E f) ∗ x3Pts E ∗ x2Pts E) -∗ (∀ w, Q ⟨v167 E, w⟩)))
      ⊢ wp frame (wpE (defs₀ (F := F)) 𝒱₀ (E.c : Thread nD τ) none) Set.univ (k0_part21 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 (v147 E)) Q := by
  rw [k0_part21_eq_skeleton]; unfold k0_part21_skel
  simp only [Prog.lift, Prog.bind_op, Prog.bind_ret, Prog.pure_eq_ret]
  unfold kvPts x3Pts x2Pts
  simp only [v151, v156, v161, v166, v167]
  iintro ⟨Hkv, Hx3, Hx2, HQ⟩
  iapply (wp_load 𝒱₀ (E.c : Thread nD τ) none Set.univ (m := kvM) (Finset.subset_univ _)) $$ Hkv; iintro Hkv
  iapply (wp_store 𝒱₀ (E.c : Thread nD τ) none Set.univ (m := kvM) (r := (Rect.unit (s := S2x2x128x256) ![0, 0, 0, 0] S1x1x128x64.size inb_S2x2x128x256_S1x1x128x64_0_0_0_0)) (Mk := Finset.univ) (Finset.subset_univ _)) $$ Hkv; iintro Hkv
  iapply (wp_load 𝒱₀ (E.c : Thread nD τ) none Set.univ (m := x3M) (Finset.subset_univ _)) $$ Hx3; iintro Hx3
  iapply (wp_load 𝒱₀ (E.c : Thread nD τ) none Set.univ (m := kvM) (Finset.subset_univ _)) $$ Hkv; iintro Hkv
  iapply (wp_store 𝒱₀ (E.c : Thread nD τ) none Set.univ (m := kvM) (r := (Rect.unit (s := S2x2x128x256) ![1, 0, 0, 0] S1x1x128x64.size inb_S2x2x128x256_S1x1x128x64_1_0_0_0)) (Mk := Finset.univ) (Finset.subset_univ _)) $$ Hkv; iintro Hkv
  iapply (wp_load 𝒱₀ (E.c : Thread nD τ) none Set.univ (m := x2M) (Finset.subset_univ _)) $$ Hx2; iintro Hx2
  iapply (wp_load 𝒱₀ (E.c : Thread nD τ) none Set.univ (m := kvM) (Finset.subset_univ _)) $$ Hkv; iintro Hkv
  iapply (wp_store 𝒱₀ (E.c : Thread nD τ) none Set.univ (m := kvM) (r := (Rect.unit (s := S2x2x128x256) ![0, 0, 0, 64] S1x1x128x64.size inb_S2x2x128x256_S1x1x128x64_0_0_0_64)) (Mk := Finset.univ) (Finset.subset_univ _)) $$ Hkv; iintro Hkv
  iapply (wp_load 𝒱₀ (E.c : Thread nD τ) none Set.univ (m := x3M) (Finset.subset_univ _)) $$ Hx3; iintro Hx3
  iapply (wp_load 𝒱₀ (E.c : Thread nD τ) none Set.univ (m := kvM) (Finset.subset_univ _)) $$ Hkv; iintro Hkv
  iapply (wp_store 𝒱₀ (E.c : Thread nD τ) none Set.univ (m := kvM) (r := (Rect.unit (s := S2x2x128x256) ![1, 0, 0, 64] S1x1x128x64.size inb_S2x2x128x256_S1x1x128x64_1_0_0_64)) (Mk := Finset.univ) (Finset.subset_univ _)) $$ Hkv; iintro Hkv
  iapply (wp_load 𝒱₀ (E.c : Thread nD τ) none Set.univ (m := x2M) (Finset.subset_univ _)) $$ Hx2; iintro Hx2
  iapply (wp_load 𝒱₀ (E.c : Thread nD τ) none Set.univ (m := kvM) (Finset.subset_univ _)) $$ Hkv; iintro Hkv
  rw [wp_ret]; imodintro
  ihave HQ2 := HQ $$ [Hkv Hx3 Hx2]
  · isplitl [Hkv]; · iexact Hkv
    isplitl [Hx3]; · iexact Hx3
    iexact Hx2
  iapply HQ2

theorem spec22 (E : Env F) (f : CKv F) (w168 : Vec F S1x1x128x64 .bf16) {Q : _ → sProp 𝕄} :
    iprop(kvPts E.c fullShare f ∗ x3Pts E ∗ x2Pts E ∗ ((kvPts E.c fullShare (kv22 E f) ∗ x3Pts E ∗ x2Pts E) -∗ Q ⟨⟩))
      ⊢ wp frame (wpE (defs₀ (F := F)) 𝒱₀ (E.c : Thread nD τ) none) Set.univ (k0_part22 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 (v167 E) w168) Q := by
  rw [k0_part22_eq_skeleton]; unfold k0_part22_skel
  simp only [Prog.lift, Prog.bind_op, Prog.bind_ret, Prog.pure_eq_ret]
  unfold kvPts x3Pts x2Pts
  iintro ⟨Hkv, Hx3, Hx2, HQ⟩
  iapply (wp_store 𝒱₀ (E.c : Thread nD τ) none Set.univ (m := kvM) (r := (Rect.unit (s := S2x2x128x256) ![0, 0, 0, 128] S1x1x128x64.size inb_S2x2x128x256_S1x1x128x64_0_0_0_128)) (Mk := Finset.univ) (Finset.subset_univ _)) $$ Hkv; iintro Hkv
  iapply (wp_load 𝒱₀ (E.c : Thread nD τ) none Set.univ (m := x3M) (Finset.subset_univ _)) $$ Hx3; iintro Hx3
  iapply (wp_load 𝒱₀ (E.c : Thread nD τ) none Set.univ (m := kvM) (Finset.subset_univ _)) $$ Hkv; iintro Hkv
  iapply (wp_store 𝒱₀ (E.c : Thread nD τ) none Set.univ (m := kvM) (r := (Rect.unit (s := S2x2x128x256) ![1, 0, 0, 128] S1x1x128x64.size inb_S2x2x128x256_S1x1x128x64_1_0_0_128)) (Mk := Finset.univ) (Finset.subset_univ _)) $$ Hkv; iintro Hkv
  iapply (wp_load 𝒱₀ (E.c : Thread nD τ) none Set.univ (m := x2M) (Finset.subset_univ _)) $$ Hx2; iintro Hx2
  iapply (wp_load 𝒱₀ (E.c : Thread nD τ) none Set.univ (m := kvM) (Finset.subset_univ _)) $$ Hkv; iintro Hkv
  iapply (wp_store 𝒱₀ (E.c : Thread nD τ) none Set.univ (m := kvM) (r := (Rect.unit (s := S2x2x128x256) ![0, 0, 0, 192] S1x1x128x64.size inb_S2x2x128x256_S1x1x128x64_0_0_0_192)) (Mk := Finset.univ) (Finset.subset_univ _)) $$ Hkv; iintro Hkv
  iapply (wp_load 𝒱₀ (E.c : Thread nD τ) none Set.univ (m := x3M) (Finset.subset_univ _)) $$ Hx3; iintro Hx3
  iapply (wp_load 𝒱₀ (E.c : Thread nD τ) none Set.univ (m := kvM) (Finset.subset_univ _)) $$ Hkv; iintro Hkv
  iapply (wp_store 𝒱₀ (E.c : Thread nD τ) none Set.univ (m := kvM) (r := (Rect.unit (s := S2x2x128x256) ![1, 0, 0, 192] S1x1x128x64.size inb_S2x2x128x256_S1x1x128x64_1_0_0_192)) (Mk := Finset.univ) (Finset.subset_univ _)) $$ Hkv; iintro Hkv
  iapply (wp_load 𝒱₀ (E.c : Thread nD τ) none Set.univ (m := x2M) (Finset.subset_univ _)) $$ Hx2; iintro Hx2
  iapply (wp_load 𝒱₀ (E.c : Thread nD τ) none Set.univ (m := kvM) (Finset.subset_univ _)) $$ Hkv; iintro Hkv
  iapply (wp_store 𝒱₀ (E.c : Thread nD τ) none Set.univ (m := kvM) (r := (Rect.unit (s := S2x2x128x256) ![0, 1, 0, 0] S1x1x128x64.size inb_S2x2x128x256_S1x1x128x64_0_1_0_0)) (Mk := Finset.univ) (Finset.subset_univ _)) $$ Hkv; iintro Hkv
  rw [wp_ret]; imodintro
  iapply HQ; isplitl [Hkv]; · iexact Hkv
  isplitl [Hx3]; · iexact Hx3
  iexact Hx2

theorem spec23 (E : Env F) (f : CKv F) {Q : _ → sProp 𝕄} :
    iprop(x3Pts E ∗ kvPts E.c fullShare f ∗ x2Pts E ∗ ((x3Pts E ∗ kvPts E.c fullShare (kv23 E f) ∗ x2Pts E) -∗ Q (v211 E)))
      ⊢ wp frame (wpE (defs₀ (F := F)) 𝒱₀ (E.c : Thread nD τ) none) Set.univ (k0_part23 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 ) Q := by
  rw [k0_part23_eq_skeleton]; unfold k0_part23_skel
  simp only [Prog.lift, Prog.bind_op, Prog.bind_ret, Prog.pure_eq_ret]
  unfold x3Pts kvPts x2Pts
  simp only [v191, v196, v201, v206, v211]
  iintro ⟨Hx3, Hkv, Hx2, HQ⟩
  iapply (wp_load 𝒱₀ (E.c : Thread nD τ) none Set.univ (m := x3M) (Finset.subset_univ _)) $$ Hx3; iintro Hx3
  iapply (wp_load 𝒱₀ (E.c : Thread nD τ) none Set.univ (m := kvM) (Finset.subset_univ _)) $$ Hkv; iintro Hkv
  iapply (wp_store 𝒱₀ (E.c : Thread nD τ) none Set.univ (m := kvM) (r := (Rect.unit (s := S2x2x128x256) ![1, 1, 0, 0] S1x1x128x64.size inb_S2x2x128x256_S1x1x128x64_1_1_0_0)) (Mk := Finset.univ) (Finset.subset_univ _)) $$ Hkv; iintro Hkv
  iapply (wp_load 𝒱₀ (E.c : Thread nD τ) none Set.univ (m := x2M) (Finset.subset_univ _)) $$ Hx2; iintro Hx2
  iapply (wp_load 𝒱₀ (E.c : Thread nD τ) none Set.univ (m := kvM) (Finset.subset_univ _)) $$ Hkv; iintro Hkv
  iapply (wp_store 𝒱₀ (E.c : Thread nD τ) none Set.univ (m := kvM) (r := (Rect.unit (s := S2x2x128x256) ![0, 1, 0, 64] S1x1x128x64.size inb_S2x2x128x256_S1x1x128x64_0_1_0_64)) (Mk := Finset.univ) (Finset.subset_univ _)) $$ Hkv; iintro Hkv
  iapply (wp_load 𝒱₀ (E.c : Thread nD τ) none Set.univ (m := x3M) (Finset.subset_univ _)) $$ Hx3; iintro Hx3
  iapply (wp_load 𝒱₀ (E.c : Thread nD τ) none Set.univ (m := kvM) (Finset.subset_univ _)) $$ Hkv; iintro Hkv
  iapply (wp_store 𝒱₀ (E.c : Thread nD τ) none Set.univ (m := kvM) (r := (Rect.unit (s := S2x2x128x256) ![1, 1, 0, 64] S1x1x128x64.size inb_S2x2x128x256_S1x1x128x64_1_1_0_64)) (Mk := Finset.univ) (Finset.subset_univ _)) $$ Hkv; iintro Hkv
  iapply (wp_load 𝒱₀ (E.c : Thread nD τ) none Set.univ (m := x2M) (Finset.subset_univ _)) $$ Hx2; iintro Hx2
  iapply (wp_load 𝒱₀ (E.c : Thread nD τ) none Set.univ (m := kvM) (Finset.subset_univ _)) $$ Hkv; iintro Hkv
  iapply (wp_store 𝒱₀ (E.c : Thread nD τ) none Set.univ (m := kvM) (r := (Rect.unit (s := S2x2x128x256) ![0, 1, 0, 128] S1x1x128x64.size inb_S2x2x128x256_S1x1x128x64_0_1_0_128)) (Mk := Finset.univ) (Finset.subset_univ _)) $$ Hkv; iintro Hkv
  iapply (wp_load 𝒱₀ (E.c : Thread nD τ) none Set.univ (m := x3M) (Finset.subset_univ _)) $$ Hx3; iintro Hx3
  rw [wp_ret]; imodintro
  iapply HQ; isplitl [Hx3]; · iexact Hx3
  isplitl [Hkv]; · iexact Hkv
  iexact Hx2

theorem spec26 (E : Env F) (f : CAc F) (q : PosShare TreeShare) (q' : PosShare TreeShare) {Q : _ → sProp 𝕄} :
    iprop(acPts E.c f ∗ glPts E.c q E.gl ∗ kvPts E.c q' E.kv ∗ ((acPts E.c (ac26 E f) ∗ glPts E.c q E.gl ∗ kvPts E.c q' E.kv) -∗ Q ⟨v296 E, v297 E⟩))
      ⊢ wp frame (wpE (defs₀ (F := F)) 𝒱₀ (E.c : Thread nD τ) none) Set.univ (k0_part26 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 (v259 E) (v264 E) (v267 E)) Q := by
  rw [k0_part26_eq_skeleton]; unfold k0_part26_skel
  simp only [Prog.lift, Prog.bind_op, Prog.bind_ret, Prog.pure_eq_ret]
  unfold acPts glPts kvPts
  simp only [v285, v289, v293, v296, v297]
  iintro ⟨Hac, Hgl, Hkv, HQ⟩
  iapply (wp_load 𝒱₀ (E.c : Thread nD τ) none Set.univ (m := acM) (Finset.subset_univ _)) $$ Hac; iintro Hac
  iapply (wp_store 𝒱₀ (E.c : Thread nD τ) none Set.univ (m := acM) (r := (Rect.unit (s := S2x3x32x256) ![0, 0, 0, 0] S1x1x32x64.size inb_S2x3x32x256_S1x1x32x64_0_0_0_0)) (Mk := Finset.univ) (Finset.subset_univ _)) $$ Hac; iintro Hac
  iapply (wp_load 𝒱₀ (E.c : Thread nD τ) none Set.univ (m := acM) (Finset.subset_univ _)) $$ Hac; iintro Hac
  iapply (wp_store 𝒱₀ (E.c : Thread nD τ) none Set.univ (m := acM) (r := (Rect.unit (s := S2x3x32x256) ![0, 1, 0, 0] S1x1x32x64.size inb_S2x3x32x256_S1x1x32x64_0_1_0_0)) (Mk := Finset.univ) (Finset.subset_univ _)) $$ Hac; iintro Hac
  iapply (wp_load 𝒱₀ (E.c : Thread nD τ) none Set.univ (m := acM) (Finset.subset_univ _)) $$ Hac; iintro Hac
  iapply (wp_store 𝒱₀ (E.c : Thread nD τ) none Set.univ (m := acM) (r := (Rect.unit (s := S2x3x32x256) ![0, 2, 0, 0] S1x1x32x64.size inb_S2x3x32x256_S1x1x32x64_0_2_0_0)) (Mk := Finset.univ) (Finset.subset_univ _)) $$ Hac; iintro Hac
  iapply (wp_load 𝒱₀ (E.c : Thread nD τ) none Set.univ (m := glM) (Finset.subset_univ _)) $$ Hgl; iintro Hgl
  iapply (wp_load 𝒱₀ (E.c : Thread nD τ) none Set.univ (m := kvM) (Finset.subset_univ _)) $$ Hkv; iintro Hkv
  iapply (wp_load 𝒱₀ (E.c : Thread nD τ) none Set.univ (m := kvM) (Finset.subset_univ _)) $$ Hkv; iintro Hkv
  rw [wp_ret]; imodintro
  iapply HQ; isplitl [Hac]; · iexact Hac
  isplitl [Hgl]; · iexact Hgl
  iexact Hkv

theorem spec27 (E : Env F) (f : CAc F) (q : PosShare TreeShare) (q' : PosShare TreeShare) {Q : _ → sProp 𝕄} :
    iprop(acPts E.c f ∗ glPts E.c q E.gl ∗ kvPts E.c q' E.kv ∗ ((acPts E.c (ac27 E f) ∗ glPts E.c q E.gl ∗ kvPts E.c q' E.kv) -∗ Q ⟨v325 E, v329 E⟩))
      ⊢ wp frame (wpE (defs₀ (F := F)) 𝒱₀ (E.c : Thread nD τ) none) Set.univ (k0_part27 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 (v296 E) (v297 E)) Q := by
  rw [k0_part27_eq_skeleton]; unfold k0_part27_skel
  simp only [Prog.lift, Prog.bind_op, Prog.bind_ret, Prog.pure_eq_ret]
  unfold acPts glPts kvPts
  simp only [v322, v326, v325, v329]
  iintro ⟨Hac, Hgl, Hkv, HQ⟩
  iapply (wp_load 𝒱₀ (E.c : Thread nD τ) none Set.univ (m := acM) (Finset.subset_univ _)) $$ Hac; iintro Hac
  iapply (wp_store 𝒱₀ (E.c : Thread nD τ) none Set.univ (m := acM) (r := (Rect.unit (s := S2x3x32x256) ![0, 0, 0, 64] S1x1x32x64.size inb_S2x3x32x256_S1x1x32x64_0_0_0_64)) (Mk := Finset.univ) (Finset.subset_univ _)) $$ Hac; iintro Hac
  iapply (wp_load 𝒱₀ (E.c : Thread nD τ) none Set.univ (m := acM) (Finset.subset_univ _)) $$ Hac; iintro Hac
  iapply (wp_store 𝒱₀ (E.c : Thread nD τ) none Set.univ (m := acM) (r := (Rect.unit (s := S2x3x32x256) ![0, 1, 0, 64] S1x1x32x64.size inb_S2x3x32x256_S1x1x32x64_0_1_0_64)) (Mk := Finset.univ) (Finset.subset_univ _)) $$ Hac; iintro Hac
  iapply (wp_load 𝒱₀ (E.c : Thread nD τ) none Set.univ (m := acM) (Finset.subset_univ _)) $$ Hac; iintro Hac
  iapply (wp_store 𝒱₀ (E.c : Thread nD τ) none Set.univ (m := acM) (r := (Rect.unit (s := S2x3x32x256) ![0, 2, 0, 64] S1x1x32x64.size inb_S2x3x32x256_S1x1x32x64_0_2_0_64)) (Mk := Finset.univ) (Finset.subset_univ _)) $$ Hac; iintro Hac
  iapply (wp_load 𝒱₀ (E.c : Thread nD τ) none Set.univ (m := glM) (Finset.subset_univ _)) $$ Hgl; iintro Hgl
  iapply (wp_load 𝒱₀ (E.c : Thread nD τ) none Set.univ (m := kvM) (Finset.subset_univ _)) $$ Hkv; iintro Hkv
  rw [wp_ret]; imodintro
  iapply HQ; isplitl [Hac]; · iexact Hac
  isplitl [Hgl]; · iexact Hgl
  iexact Hkv

theorem spec28 (E : Env F) (f : CAc F) (q : PosShare TreeShare) (q' : PosShare TreeShare) {Q : _ → sProp 𝕄} :
    iprop(kvPts E.c q' E.kv ∗ acPts E.c f ∗ glPts E.c q E.gl ∗ ((kvPts E.c q' E.kv ∗ acPts E.c (ac28 E f) ∗ glPts E.c q E.gl) -∗ Q (v362 E)))
      ⊢ wp frame (wpE (defs₀ (F := F)) 𝒱₀ (E.c : Thread nD τ) none) Set.univ (k0_part28 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 (v325 E) (v329 E)) Q := by
  rw [k0_part28_eq_skeleton]; unfold k0_part28_skel
  simp only [Prog.lift, Prog.bind_op, Prog.bind_ret, Prog.pure_eq_ret]
  unfold kvPts acPts glPts
  simp only [v330, v359, v362]
  iintro ⟨Hkv, Hac, Hgl, HQ⟩
  iapply (wp_load 𝒱₀ (E.c : Thread nD τ) none Set.univ (m := kvM) (Finset.subset_univ _)) $$ Hkv; iintro Hkv
  iapply (wp_load 𝒱₀ (E.c : Thread nD τ) none Set.univ (m := acM) (Finset.subset_univ _)) $$ Hac; iintro Hac
  iapply (wp_store 𝒱₀ (E.c : Thread nD τ) none Set.univ (m := acM) (r := (Rect.unit (s := S2x3x32x256) ![0, 0, 0, 128] S1x1x32x64.size inb_S2x3x32x256_S1x1x32x64_0_0_0_128)) (Mk := Finset.univ) (Finset.subset_univ _)) $$ Hac; iintro Hac
  iapply (wp_load 𝒱₀ (E.c : Thread nD τ) none Set.univ (m := acM) (Finset.subset_univ _)) $$ Hac; iintro Hac
  iapply (wp_store 𝒱₀ (E.c : Thread nD τ) none Set.univ (m := acM) (r := (Rect.unit (s := S2x3x32x256) ![0, 1, 0, 128] S1x1x32x64.size inb_S2x3x32x256_S1x1x32x64_0_1_0_128)) (Mk := Finset.univ) (Finset.subset_univ _)) $$ Hac; iintro Hac
  iapply (wp_load 𝒱₀ (E.c : Thread nD τ) none Set.univ (m := acM) (Finset.subset_univ _)) $$ Hac; iintro Hac
  iapply (wp_store 𝒱₀ (E.c : Thread nD τ) none Set.univ (m := acM) (r := (Rect.unit (s := S2x3x32x256) ![0, 2, 0, 128] S1x1x32x64.size inb_S2x3x32x256_S1x1x32x64_0_2_0_128)) (Mk := Finset.univ) (Finset.subset_univ _)) $$ Hac; iintro Hac
  iapply (wp_load 𝒱₀ (E.c : Thread nD τ) none Set.univ (m := glM) (Finset.subset_univ _)) $$ Hgl; iintro Hgl
  rw [wp_ret]; imodintro
  iapply HQ; isplitl [Hkv]; · iexact Hkv
  isplitl [Hac]; · iexact Hac
  iexact Hgl

theorem spec29 (E : Env F) (f : CAc F) (q' : PosShare TreeShare) {Q : _ → sProp 𝕄} :
    iprop(kvPts E.c q' E.kv ∗ acPts E.c f ∗ ((kvPts E.c q' E.kv ∗ acPts E.c (ac29 E f)) -∗ Q (v395 E)))
      ⊢ wp frame (wpE (defs₀ (F := F)) 𝒱₀ (E.c : Thread nD τ) none) Set.univ (k0_part29 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 (v362 E)) Q := by
  rw [k0_part29_eq_skeleton]; unfold k0_part29_skel
  simp only [Prog.lift, Prog.bind_op, Prog.bind_ret, Prog.pure_eq_ret]
  unfold kvPts acPts
  simp only [v363, v367, v395]
  iintro ⟨Hkv, Hac, HQ⟩
  iapply (wp_load 𝒱₀ (E.c : Thread nD τ) none Set.univ (m := kvM) (Finset.subset_univ _)) $$ Hkv; iintro Hkv
  iapply (wp_load 𝒱₀ (E.c : Thread nD τ) none Set.univ (m := kvM) (Finset.subset_univ _)) $$ Hkv; iintro Hkv
  iapply (wp_load 𝒱₀ (E.c : Thread nD τ) none Set.univ (m := acM) (Finset.subset_univ _)) $$ Hac; iintro Hac
  iapply (wp_store 𝒱₀ (E.c : Thread nD τ) none Set.univ (m := acM) (r := (Rect.unit (s := S2x3x32x256) ![0, 0, 0, 192] S1x1x32x64.size inb_S2x3x32x256_S1x1x32x64_0_0_0_192)) (Mk := Finset.univ) (Finset.subset_univ _)) $$ Hac; iintro Hac
  iapply (wp_load 𝒱₀ (E.c : Thread nD τ) none Set.univ (m := acM) (Finset.subset_univ _)) $$ Hac; iintro Hac
  iapply (wp_store 𝒱₀ (E.c : Thread nD τ) none Set.univ (m := acM) (r := (Rect.unit (s := S2x3x32x256) ![0, 1, 0, 192] S1x1x32x64.size inb_S2x3x32x256_S1x1x32x64_0_1_0_192)) (Mk := Finset.univ) (Finset.subset_univ _)) $$ Hac; iintro Hac
  iapply (wp_load 𝒱₀ (E.c : Thread nD τ) none Set.univ (m := acM) (Finset.subset_univ _)) $$ Hac; iintro Hac
  rw [wp_ret]; imodintro
  iapply HQ; isplitl [Hkv]; · iexact Hkv
  iexact Hac

theorem spec30 (E : Env F) (f : CAc F) (q : PosShare TreeShare) (q' : PosShare TreeShare) {Q : _ → sProp 𝕄} :
    iprop(acPts E.c f ∗ glPts E.c q E.gl ∗ kvPts E.c q' E.kv ∗ ((acPts E.c (ac30 E f) ∗ glPts E.c q E.gl ∗ kvPts E.c q' E.kv) -∗ Q (v417 E)))
      ⊢ wp frame (wpE (defs₀ (F := F)) 𝒱₀ (E.c : Thread nD τ) none) Set.univ (k0_part30 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 (v395 E)) Q := by
  rw [k0_part30_eq_skeleton]; unfold k0_part30_skel
  simp only [Prog.lift, Prog.bind_op, Prog.bind_ret, Prog.pure_eq_ret]
  unfold acPts glPts kvPts
  simp only [v396, v400, v404, v417]
  iintro ⟨Hac, Hgl, Hkv, HQ⟩
  iapply (wp_store 𝒱₀ (E.c : Thread nD τ) none Set.univ (m := acM) (r := (Rect.unit (s := S2x3x32x256) ![0, 2, 0, 192] S1x1x32x64.size inb_S2x3x32x256_S1x1x32x64_0_2_0_192)) (Mk := Finset.univ) (Finset.subset_univ _)) $$ Hac; iintro Hac
  iapply (wp_load 𝒱₀ (E.c : Thread nD τ) none Set.univ (m := glM) (Finset.subset_univ _)) $$ Hgl; iintro Hgl
  iapply (wp_load 𝒱₀ (E.c : Thread nD τ) none Set.univ (m := kvM) (Finset.subset_univ _)) $$ Hkv; iintro Hkv
  iapply (wp_load 𝒱₀ (E.c : Thread nD τ) none Set.univ (m := kvM) (Finset.subset_univ _)) $$ Hkv; iintro Hkv
  iapply (wp_load 𝒱₀ (E.c : Thread nD τ) none Set.univ (m := acM) (Finset.subset_univ _)) $$ Hac; iintro Hac
  iapply (wp_store 𝒱₀ (E.c : Thread nD τ) none Set.univ (m := acM) (r := (Rect.unit (s := S2x3x32x256) ![1, 0, 0, 0] S1x1x32x64.size inb_S2x3x32x256_S1x1x32x64_1_0_0_0)) (Mk := Finset.univ) (Finset.subset_univ _)) $$ Hac; iintro Hac
  iapply (wp_load 𝒱₀ (E.c : Thread nD τ) none Set.univ (m := acM) (Finset.subset_univ _)) $$ Hac; iintro Hac
  iapply (wp_store 𝒱₀ (E.c : Thread nD τ) none Set.univ (m := acM) (r := (Rect.unit (s := S2x3x32x256) ![1, 1, 0, 0] S1x1x32x64.size inb_S2x3x32x256_S1x1x32x64_1_1_0_0)) (Mk := Finset.univ) (Finset.subset_univ _)) $$ Hac; iintro Hac
  rw [wp_ret]; imodintro
  iapply HQ; isplitl [Hac]; · iexact Hac
  isplitl [Hgl]; · iexact Hgl
  iexact Hkv

theorem spec31 (E : Env F) (f : CAc F) (q : PosShare TreeShare) (q' : PosShare TreeShare) {Q : _ → sProp 𝕄} :
    iprop(acPts E.c f ∗ glPts E.c q E.gl ∗ kvPts E.c q' E.kv ∗ ((acPts E.c (ac31 E f) ∗ glPts E.c q E.gl ∗ kvPts E.c q' E.kv) -∗ Q ⟨v454 E, v460 E⟩))
      ⊢ wp frame (wpE (defs₀ (F := F)) 𝒱₀ (E.c : Thread nD τ) none) Set.univ (k0_part31 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 (v417 E)) Q := by
  rw [k0_part31_eq_skeleton]; unfold k0_part31_skel
  simp only [Prog.lift, Prog.bind_op, Prog.bind_ret, Prog.pure_eq_ret]
  unfold acPts glPts kvPts
  simp only [v433, v437, v441, v454, v460]
  iintro ⟨Hac, Hgl, Hkv, HQ⟩
  iapply (wp_load 𝒱₀ (E.c : Thread nD τ) none Set.univ (m := acM) (Finset.subset_univ _)) $$ Hac; iintro Hac
  iapply (wp_store 𝒱₀ (E.c : Thread nD τ) none Set.univ (m := acM) (r := (Rect.unit (s := S2x3x32x256) ![1, 2, 0, 0] S1x1x32x64.size inb_S2x3x32x256_S1x1x32x64_1_2_0_0)) (Mk := Finset.univ) (Finset.subset_univ _)) $$ Hac; iintro Hac
  iapply (wp_load 𝒱₀ (E.c : Thread nD τ) none Set.univ (m := glM) (Finset.subset_univ _)) $$ Hgl; iintro Hgl
  iapply (wp_load 𝒱₀ (E.c : Thread nD τ) none Set.univ (m := kvM) (Finset.subset_univ _)) $$ Hkv; iintro Hkv
  iapply (wp_load 𝒱₀ (E.c : Thread nD τ) none Set.univ (m := kvM) (Finset.subset_univ _)) $$ Hkv; iintro Hkv
  iapply (wp_load 𝒱₀ (E.c : Thread nD τ) none Set.univ (m := acM) (Finset.subset_univ _)) $$ Hac; iintro Hac
  iapply (wp_store 𝒱₀ (E.c : Thread nD τ) none Set.univ (m := acM) (r := (Rect.unit (s := S2x3x32x256) ![1, 0, 0, 64] S1x1x32x64.size inb_S2x3x32x256_S1x1x32x64_1_0_0_64)) (Mk := Finset.univ) (Finset.subset_univ _)) $$ Hac; iintro Hac
  rw [wp_ret]; imodintro
  iapply HQ; isplitl [Hac]; · iexact Hac
  isplitl [Hgl]; · iexact Hgl
  iexact Hkv

theorem spec32 (E : Env F) (f : CAc F) (q : PosShare TreeShare) (q' : PosShare TreeShare) {Q : _ → sProp 𝕄} :
    iprop(acPts E.c f ∗ glPts E.c q E.gl ∗ kvPts E.c q' E.kv ∗ ((acPts E.c (ac32 E f) ∗ glPts E.c q E.gl ∗ kvPts E.c q' E.kv) -∗ Q ⟨v486 E, v491 E, v493 E⟩))
      ⊢ wp frame (wpE (defs₀ (F := F)) 𝒱₀ (E.c : Thread nD τ) none) Set.univ (k0_part32 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 (v454 E) (v460 E)) Q := by
  rw [k0_part32_eq_skeleton]; unfold k0_part32_skel
  simp only [Prog.lift, Prog.bind_op, Prog.bind_ret, Prog.pure_eq_ret]
  unfold acPts glPts kvPts
  simp only [v470, v474, v478, v486, v491, v493]
  iintro ⟨Hac, Hgl, Hkv, HQ⟩
  iapply (wp_load 𝒱₀ (E.c : Thread nD τ) none Set.univ (m := acM) (Finset.subset_univ _)) $$ Hac; iintro Hac
  iapply (wp_store 𝒱₀ (E.c : Thread nD τ) none Set.univ (m := acM) (r := (Rect.unit (s := S2x3x32x256) ![1, 1, 0, 64] S1x1x32x64.size inb_S2x3x32x256_S1x1x32x64_1_1_0_64)) (Mk := Finset.univ) (Finset.subset_univ _)) $$ Hac; iintro Hac
  iapply (wp_load 𝒱₀ (E.c : Thread nD τ) none Set.univ (m := acM) (Finset.subset_univ _)) $$ Hac; iintro Hac
  iapply (wp_store 𝒱₀ (E.c : Thread nD τ) none Set.univ (m := acM) (r := (Rect.unit (s := S2x3x32x256) ![1, 2, 0, 64] S1x1x32x64.size inb_S2x3x32x256_S1x1x32x64_1_2_0_64)) (Mk := Finset.univ) (Finset.subset_univ _)) $$ Hac; iintro Hac
  iapply (wp_load 𝒱₀ (E.c : Thread nD τ) none Set.univ (m := glM) (Finset.subset_univ _)) $$ Hgl; iintro Hgl
  iapply (wp_load 𝒱₀ (E.c : Thread nD τ) none Set.univ (m := kvM) (Finset.subset_univ _)) $$ Hkv; iintro Hkv
  iapply (wp_load 𝒱₀ (E.c : Thread nD τ) none Set.univ (m := kvM) (Finset.subset_univ _)) $$ Hkv; iintro Hkv
  rw [wp_ret]; imodintro
  iapply HQ; isplitl [Hac]; · iexact Hac
  isplitl [Hgl]; · iexact Hgl
  iexact Hkv

theorem spec33 (E : Env F) (f : CAc F) (q : PosShare TreeShare) (q' : PosShare TreeShare) {Q : _ → sProp 𝕄} :
    iprop(acPts E.c f ∗ glPts E.c q E.gl ∗ kvPts E.c q' E.kv ∗ ((acPts E.c (ac33 E f) ∗ glPts E.c q E.gl ∗ kvPts E.c q' E.kv) -∗ Q ⟨v518 E, v521 E, v523 E⟩))
      ⊢ wp frame (wpE (defs₀ (F := F)) 𝒱₀ (E.c : Thread nD τ) none) Set.univ (k0_part33 (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0 (v486 E) (v491 E) (v493 E)) Q := by
  rw [k0_part33_eq_skeleton]; unfold k0_part33_skel
  simp only [Prog.lift, Prog.bind_op, Prog.bind_ret, Prog.pure_eq_ret]
  unfold acPts glPts kvPts
  simp only [v507, v511, v515, v518, v521, v523]
  iintro ⟨Hac, Hgl, Hkv, HQ⟩
  iapply (wp_load 𝒱₀ (E.c : Thread nD τ) none Set.univ (m := acM) (Finset.subset_univ _)) $$ Hac; iintro Hac
  iapply (wp_store 𝒱₀ (E.c : Thread nD τ) none Set.univ (m := acM) (r := (Rect.unit (s := S2x3x32x256) ![1, 0, 0, 128] S1x1x32x64.size inb_S2x3x32x256_S1x1x32x64_1_0_0_128)) (Mk := Finset.univ) (Finset.subset_univ _)) $$ Hac; iintro Hac
  iapply (wp_load 𝒱₀ (E.c : Thread nD τ) none Set.univ (m := acM) (Finset.subset_univ _)) $$ Hac; iintro Hac
  iapply (wp_store 𝒱₀ (E.c : Thread nD τ) none Set.univ (m := acM) (r := (Rect.unit (s := S2x3x32x256) ![1, 1, 0, 128] S1x1x32x64.size inb_S2x3x32x256_S1x1x32x64_1_1_0_128)) (Mk := Finset.univ) (Finset.subset_univ _)) $$ Hac; iintro Hac
  iapply (wp_load 𝒱₀ (E.c : Thread nD τ) none Set.univ (m := acM) (Finset.subset_univ _)) $$ Hac; iintro Hac
  iapply (wp_store 𝒱₀ (E.c : Thread nD τ) none Set.univ (m := acM) (r := (Rect.unit (s := S2x3x32x256) ![1, 2, 0, 128] S1x1x32x64.size inb_S2x3x32x256_S1x1x32x64_1_2_0_128)) (Mk := Finset.univ) (Finset.subset_univ _)) $$ Hac; iintro Hac
  iapply (wp_load 𝒱₀ (E.c : Thread nD τ) none Set.univ (m := glM) (Finset.subset_univ _)) $$ Hgl; iintro Hgl
  iapply (wp_load 𝒱₀ (E.c : Thread nD τ) none Set.univ (m := kvM) (Finset.subset_univ _)) $$ Hkv; iintro Hkv
  iapply (wp_load 𝒱₀ (E.c : Thread nD τ) none Set.univ (m := kvM) (Finset.subset_univ _)) $$ Hkv; iintro Hkv
  rw [wp_ret]; imodintro
  iapply HQ; isplitl [Hac]; · iexact Hac
  isplitl [Hgl]; · iexact Hgl
  iexact Hkv

end Cert.KernelIdealProof
-- ==== Proof.KernelIdeal.Body.lean ====
/- The body of one device, from its parts. -/
module

public import proofs.«01_k».proof.Proof.KernelIdeal.Give
public import proofs.«01_k».proof.Proof.KernelIdeal.Entry
public import proofs.«01_k».proof.Proof.KernelIdeal.Parts2
public import proofs.«01_k».proof.Proof.KernelIdeal.Sends
public import proofs.«01_k».proof.Proof.KernelIdeal.Parts

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

set_option maxHeartbeats 4000000 in
/-- The body at one device, as a chain of its parts. -/
theorem body_chain (C : Conts F) (K : Dev nD × Fin 45 → ℕ) (E : Env F) (a0 : CAc F) (hkv : ∀ f, kvAll E f = C.kv E.c) (hkv2 : E.kv = C.kv E.c) (hgl : E.gl = C.gl) (hg : E.c = 0 → ∀ f, gl1 E f = C.gl)
    (hr0 : E.r0 = rcLand C E.c 0) (hr1 : E.r1 = rcLand C E.c 1) (hac0 : ∀ f, acAll E f = a0)
    (hac : C.ac E.c = (mst C E.c 4 (mst C E.c 3 (mst C E.c 2 (mst C E.c 1 (mst C E.c 0 a0)))))) (fk : CKv F) (fa : CAc F) (fc : CCx F) (fo : COu F) {Q : PUnit → sProp 𝕄} :
    iprop(RL C K ∗ OWs E.c 1 ∗ SigA E.c 1 ∗ SigX (F := F) E.c 66 ∗ crd (E.c, 44) 31 ∗ pos (E.c, 44) 0 ∗ crd (E.c, 43) 31 ∗ pos (E.c, 43) 0 ∗ tok (E.c, 0) E.c ∗ tok (sh E.c 1, 2) E.c ∗ tok (E.c, 1) E.c ∗ tok (sh E.c 31, 3) E.c ∗ crd (E.c, 2) Nkv ∗ crd (E.c, 3) Nkv ∗ pos (E.c, 0) 0 ∗ pos (E.c, 1) 0 ∗ pos (E.c, 2) 0 ∗ pos (E.c, 3) 0 ∗ x0Pts E ∗ x1Pts E ∗ x2Pts E ∗ x3Pts E ∗ x4Pts E ∗ ouPts E.c fo ∗ kvPts E.c fullShare fk ∗ acPts E.c fa ∗ cxPts E.c fc ∗ G0 (F := F) E.c ∗ W0 (F := F) E.c ∗ RT0 (F := F) E.c ∗ MgIn (F := F) 0 E.c ∗ MgIn (F := F) 1 E.c ∗ MgIn (F := F) 2 E.c ∗ MgIn (F := F) 3 E.c ∗ MgIn (F := F) 4 E.c
        ∗ ((OWs E.c 97 ∗ pos (E.c, 44) 1 ∗ pos (E.c, 43) 1 ∗ pos (E.c, 0) 1 ∗ pos (E.c, 1) 1 ∗ pos (E.c, 2) 1 ∗ pos (E.c, 3) 1 ∗ posG (F := F) E.c ∗ x0Pts E ∗ x1Pts E ∗ x2Pts E ∗ x3Pts E ∗ x4Pts E ∗ ouPts E.c (ou43 E (cxE E.c (mst C E.c 4 (mst C E.c 3 (mst C E.c 2 (mst C E.c 1 (mst C E.c 0 a0))))) (cxAll E fc)) fo) ∗ kvPts E.c q1 (C.kv E.c) ∗ kvPts E.c q2 (C.kv E.c) ∗ kvPts E.c q3 E.kv ∗ rcPts E.c 0 E.r0 ∗ rcPts E.c 1 E.r1 ∗ glPts E.c fullShare C.gl ∗ (∃ a, acPts (F := F) E.c a) ∗ cxPts E.c (cxE E.c (mst C E.c 4 (mst C E.c 3 (mst C E.c 2 (mst C E.c 1 (mst C E.c 0 a0))))) (cxAll E fc)) ∗ MgOut C 0 E.c ∗ MgOut C 1 E.c ∗ MgOut C 2 E.c ∗ MgOut C 3 E.c ∗ MgOut C 4 E.c) -∗ Q ⟨⟩))
      ⊢ wp frame (wpE (defs₀ (F := F)) 𝒱₀ (E.c : Thread nD τ) none) Set.univ (cc0_body (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0) Q := by
  have hT : TreeSt (F := F) 1 E.c (ac34 E (ac33 E (ac32 E (ac31 E (ac30 E (ac29 E (ac28 E (ac27 E (ac26 E fa))))))))) = TreeSt 1 E.c a0 := congrArg (TreeSt 1 E.c) (hac0 fa)
  have hC : cxPts E.c (cx41 E (cx40 E (cx39 E (cx38 E (cx37 E fc))))) = cxPts E.c (cxAll E fc) := rfl
  have hG : glPts E.c (gq E.c) E.gl = glPts E.c (gq E.c) C.gl := by rw [hgl]
  have hac34 : tz E.c = 0 → ac34 E (ac33 E (ac32 E (ac31 E (ac30 E (ac29 E (ac28 E (ac27 E (ac26 E fa)))))))) = C.ac E.c := fun h => by
    refine (hac0 fa).trans ?_
    rw [hac]; simp [mst, h]
  have hac1 : tz E.c = 1 → mst C E.c 1 (mst C E.c 0 (a0)) = C.ac E.c := fun h => by rw [hac]; simp [mst, h]
  have hac2 : tz E.c = 2 → mst C E.c 2 (mst C E.c 1 (mst C E.c 0 (a0))) = C.ac E.c := fun h => by rw [hac]; simp [mst, h]
  have hac3 : tz E.c = 3 → mst C E.c 3 (mst C E.c 2 (mst C E.c 1 (mst C E.c 0 (a0)))) = C.ac E.c := fun h => by rw [hac]; simp [mst, h]
  have hac4 : tz E.c = 4 → (mst C E.c 4 (mst C E.c 3 (mst C E.c 2 (mst C E.c 1 (mst C E.c 0 a0))))) = C.ac E.c := fun h => hac.symm
  rw [cc0_body_eq_skeleton]; unfold cc0_body_skel
  rw [k0_part49_eq_skeleton]; unfold k0_part49_skel
  simp only [Prog.bind_assoc]
  iintro ⟨⟨#HR, #HL⟩, HO, HSA, HSX, C44, P44, C43, P43, T0, T2, T1, T3, C2, C3, P0, P1, P2, P3, X0, X1, X2, X3, X4, HU, KV, AC, CX, HG0, HW0, HRT, M0, M1, M2, M3, M4, HQ⟩
  rw [wp_bind]
  iapply (spec15 C K E.c) $$ [-]
  isplitr; · iexact HR
  isplitl [HO]; · iexact HO
  isplitl [HSA]; · iexact HSA
  iintro ⟨HO, HSA⟩
  iintro %w15; try dsimp only
  rw [wp_bind]
  iapply (spec16 C K E.c _ _ _) $$ [-]
  isplitr; · iexact HR
  isplitl [HO]; · iexact HO
  isplitl [HSA]; · iexact HSA
  iintro ⟨HO, HSA⟩
  iintro %r16; rcases r16 with ⟨u16, w16⟩; try dsimp only
  rw [wp_bind]
  iapply (spec17 C K E.c _ _ _) $$ [-]
  isplitr; · iexact HR
  isplitl [HO]; · iexact HO
  isplitl [HSA]; · iexact HSA
  iintro ⟨HO, HSA⟩
  iintro %r17; rcases r17 with ⟨u17, w17⟩; try dsimp only
  rw [wp_bind]
  iapply (spec18 C K E.c _ _ _) $$ [-]
  isplitr; · iexact HR
  isplitl [HO]; · iexact HO
  isplitl [HSA]; · iexact HSA
  iintro ⟨HO, HSA⟩
  iintro %r18; rcases r18 with ⟨u18, w18⟩; try dsimp only
  rw [wp_bind]
  iapply (spec19 C K E.c _ _ _) $$ [-]
  isplitr; · iexact HR
  isplitl [HO]; · iexact HO
  isplitl [HSA]; · iexact HSA
  iintro ⟨HO, HSA⟩
  iintro %r19; rcases r19 with ⟨u19, w19⟩; try dsimp only
  rw [wp_bind]
  iapply (spec20 C K E _ _ _) $$ [-]
  isplitr; · iexact HR
  isplitr; · iexact HL
  isplitl [HO]; · iexact HO
  isplitl [HSA]; · iexact HSA
  isplitl [C44]; · iexact C44
  isplitl [P44]; · iexact P44
  isplitl [X0]; · iexact X0
  isplitl [X1]; · iexact X1
  isplitl [X2]; · iexact X2
  iintro ⟨HO, P44, HGV, X0, X1, X2⟩
  try dsimp only
  ihave Hg := (given_by (F := F) E.c) $$ HGV
  icases Hg with ⟨Hr1, Hr31, HGb⟩
  ihave Hgg := (gpre (F := F) E.c) $$ [HG0 HGb HRT]
  · isplitl [HG0]; · iexact HG0
    isplitl [HGb]; · iexact HGb
    iexact HRT
  icases Hgg with ⟨HGP, HRT⟩
  rw [wp_bind]
  iapply (spec21 E fk) $$ [-]
  isplitl [KV]; · iexact KV
  isplitl [X3]; · iexact X3
  isplitl [X2]; · iexact X2
  iintro ⟨KV, X3, X2⟩
  iintro %w21; try dsimp only
  rw [wp_bind]
  iapply (spec22 E (kv21 E fk) _) $$ [-]
  isplitl [KV]; · iexact KV
  isplitl [X3]; · iexact X3
  isplitl [X2]; · iexact X2
  iintro ⟨KV, X3, X2⟩
  try dsimp only
  rw [wp_bind]
  iapply (spec23 E (kv22 E (kv21 E fk))) $$ [-]
  isplitl [X3]; · iexact X3
  isplitl [KV]; · iexact KV
  isplitl [X2]; · iexact X2
  iintro ⟨X3, KV, X2⟩
  try dsimp only
  rw [wp_bind]
  iapply (spec24 C K E (kv23 E (kv22 E (kv21 E fk))) (hkv fk)) $$ [-]
  isplitr; · iexact HR
  isplitl [X2]; · iexact X2
  isplitl [X3]; · iexact X3
  isplitl [KV]; · iexact KV
  isplitl [Hr1]; · iexact Hr1
  isplitl [HO]; · iexact HO
  isplitl [T0]; · iexact T0
  isplitl [T2]; · iexact T2
  iintro ⟨X2, X3, K2, K3, C0, HO⟩
  iintro %w24; try dsimp only
  rw [wp_bind]
  iapply (spec25 C K E hkv2 hgl hg w24) $$ [-]
  isplitr; · iexact HR
  isplitr; · iexact HL
  isplitl [K2]; · iexact K2
  isplitl [K3]; · iexact K3
  isplitl [Hr31]; · iexact Hr31
  isplitl [HO]; · iexact HO
  isplitl [T1]; · iexact T1
  isplitl [T3]; · iexact T3
  isplitl [HGP]; · iexact HGP
  iintro ⟨K3, HGL, C1, HO, HFG⟩
  try dsimp only
  ihave HGW := (fgw (F := F) E.c) $$ [HFG HW0]
  · isplitl [HFG]; · iexact HFG
    iexact HW0
  rw [wp_bind]
  iapply (spec26 E fa (gq E.c) q3) $$ [-]
  isplitl [AC]; · iexact AC
  isplitl [HGL]; · iexact HGL
  isplitl [K3]; · iexact K3
  iintro ⟨AC, HGL, K3⟩
  try dsimp only
  rw [wp_bind]
  iapply (spec27 E (ac26 E fa) (gq E.c) q3) $$ [-]
  isplitl [AC]; · iexact AC
  isplitl [HGL]; · iexact HGL
  isplitl [K3]; · iexact K3
  iintro ⟨AC, HGL, K3⟩
  try dsimp only
  rw [wp_bind]
  iapply (spec28 E (ac27 E (ac26 E fa)) (gq E.c) q3) $$ [-]
  isplitl [K3]; · iexact K3
  isplitl [AC]; · iexact AC
  isplitl [HGL]; · iexact HGL
  iintro ⟨K3, AC, HGL⟩
  try dsimp only
  rw [wp_bind]
  iapply (spec29 E (ac28 E (ac27 E (ac26 E fa))) q3) $$ [-]
  isplitl [K3]; · iexact K3
  isplitl [AC]; · iexact AC
  iintro ⟨K3, AC⟩
  try dsimp only
  rw [wp_bind]
  iapply (spec30 E (ac29 E (ac28 E (ac27 E (ac26 E fa)))) (gq E.c) q3) $$ [-]
  isplitl [AC]; · iexact AC
  isplitl [HGL]; · iexact HGL
  isplitl [K3]; · iexact K3
  iintro ⟨AC, HGL, K3⟩
  try dsimp only
  rw [wp_bind]
  iapply (spec31 E (ac30 E (ac29 E (ac28 E (ac27 E (ac26 E fa))))) (gq E.c) q3) $$ [-]
  isplitl [AC]; · iexact AC
  isplitl [HGL]; · iexact HGL
  isplitl [K3]; · iexact K3
  iintro ⟨AC, HGL, K3⟩
  try dsimp only
  rw [wp_bind]
  iapply (spec32 E (ac31 E (ac30 E (ac29 E (ac28 E (ac27 E (ac26 E fa)))))) (gq E.c) q3) $$ [-]
  isplitl [AC]; · iexact AC
  isplitl [HGL]; · iexact HGL
  isplitl [K3]; · iexact K3
  iintro ⟨AC, HGL, K3⟩
  try dsimp only
  rw [wp_bind]
  iapply (spec33 E (ac32 E (ac31 E (ac30 E (ac29 E (ac28 E (ac27 E (ac26 E fa))))))) (gq E.c) q3) $$ [-]
  isplitl [AC]; · iexact AC
  isplitl [HGL]; · iexact HGL
  isplitl [K3]; · iexact K3
  iintro ⟨AC, HGL, K3⟩
  try dsimp only
  rw [wp_bind]
  iapply (spec34 C K E (ac33 E (ac32 E (ac31 E (ac30 E (ac29 E (ac28 E (ac27 E (ac26 E fa)))))))) hac34) $$ [-]
  isplitr
  · isplitr; · iexact HR
    iexact HL
  isplitl [AC]; · iexact AC
  isplitl [HO]; · iexact HO
  isplitl [HRT]; · iexact HRT
  iintro HT
  try dsimp only
  ihave HT := (BIBase.Entails.of_eq hT) $$ HT
  ihave HT2 := (tree_ows C E.c a0) $$ HT
  icases HT2 with ⟨%n, %hn, HO, HTk⟩
  rw [wp_bind]
  iapply (spec35 C K E hr0 hr1 (gq E.c) q3 n hn _) $$ [-]
  isplitr
  · isplitr; · iexact HR
    iexact HL
  isplitl [HO]; · iexact HO
  isplitl [C2]; · iexact C2
  isplitl [P2]; · iexact P2
  isplitl [C3]; · iexact C3
  isplitl [P3]; · iexact P3
  isplitl [K3]; · iexact K3
  isplitl [HGL]; · iexact HGL
  iintro ⟨HO, P2, P3, R0, R1, K3, HGL⟩
  try dsimp only
  ihave HT := HTk $$ HO
  rw [wp_bind]
  iapply (spec36 E (gq E.c)) $$ [-]
  isplitl [R1]; · iexact R1
  isplitl [HGL]; · iexact HGL
  iintro ⟨R1, HGL⟩
  try dsimp only
  rw [wp_bind]
  iapply (spec37 E fc) $$ [-]
  isplitl [CX]; · iexact CX
  iintro CX
  try dsimp only
  rw [wp_bind]
  iapply (spec38 E (cx37 E fc)) $$ [-]
  isplitl [CX]; · iexact CX
  iintro CX
  try dsimp only
  rw [wp_bind]
  iapply (spec39 E (cx38 E (cx37 E fc))) $$ [-]
  isplitl [CX]; · iexact CX
  iintro CX
  try dsimp only
  rw [wp_bind]
  iapply (spec40 E (cx39 E (cx38 E (cx37 E fc)))) $$ [-]
  isplitl [CX]; · iexact CX
  iintro CX
  try dsimp only
  rw [wp_bind]
  iapply (spec41 C K E (cx40 E (cx39 E (cx38 E (cx37 E fc)))) a0) $$ [-]
  isplitr
  · isplitr; · iexact HR
    iexact HL
  isplitl [CX]; · iexact CX
  isplitl [HT]; · iexact HT
  isplitl [M0]; · iexact M0
  iintro ⟨CX, HT, O0⟩
  try dsimp only
  ihave CX := (BIBase.Entails.of_eq hC) $$ CX
  rw [wp_bind]
  iapply (spec42 C K E.c (mst C E.c 0 (a0)) hac1 hac2 hac3) $$ [-]
  isplitr
  · isplitr; · iexact HR
    iexact HL
  isplitl [HT]; · iexact HT
  isplitl [M1]; · iexact M1
  isplitl [M2]; · iexact M2
  isplitl [M3]; · iexact M3
  isplitl [M4]; · iexact M4
  iintro ⟨HT, O1, O2, O3, O4⟩
  iintro %w42; try dsimp only
  rw [wp_bind]
  iapply (spec43 C K E (mst C E.c 4 (mst C E.c 3 (mst C E.c 2 (mst C E.c 1 (mst C E.c 0 a0))))) (cxAll E fc) fo hac4 w42) $$ [-]
  isplitr
  · isplitr; · iexact HR
    iexact HL
  isplitl [HT]; · iexact HT
  isplitl [CX]; · iexact CX
  isplitl [X4]; · iexact X4
  isplitl [HU]; · iexact HU
  isplitl [C0]; · iexact C0
  isplitl [P0]; · iexact P0
  iintro ⟨HFN, HO, CX, X4, HU, P0, K1⟩
  try dsimp only
  ihave HGL := (BIBase.Entails.of_eq hG) $$ HGL
  rw [wp_bind]
  iapply (spec44 C K E.c) $$ [-]
  isplitr
  · isplitr; · iexact HR
    iexact HL
  isplitl [HO]; · iexact HO
  isplitl [HSX]; · iexact HSX
  isplitl [C1]; · iexact C1
  isplitl [P1]; · iexact P1
  isplitl [HFN]; · iexact HFN
  isplitl [HGW]; · iexact HGW
  isplitl [HGL]; · iexact HGL
  iintro ⟨HO, HSX, P1, K2, AC, HGL, PG⟩
  iintro %r44; rcases r44 with ⟨u44, w44⟩; try dsimp only
  rw [wp_bind]
  iapply (spec45 C K E.c _ u44 w44) $$ [-]
  isplitr; · iexact HR
  isplitl [HO]; · iexact HO
  isplitl [HSX]; · iexact HSX
  iintro ⟨HO, HSX⟩
  iintro %r45; rcases r45 with ⟨u45, w45⟩; try dsimp only
  rw [wp_bind]
  iapply (spec46 C K E.c _ u45 w45) $$ [-]
  isplitr; · iexact HR
  isplitl [HO]; · iexact HO
  isplitl [HSX]; · iexact HSX
  iintro ⟨HO, HSX⟩
  iintro %r46; rcases r46 with ⟨u46, w46⟩; try dsimp only
  rw [wp_bind]
  iapply (spec47 C K E.c _ u46 w46) $$ [-]
  isplitr; · iexact HR
  isplitl [HO]; · iexact HO
  isplitl [HSX]; · iexact HSX
  iintro ⟨HO, HSX⟩
  iintro %r47; rcases r47 with ⟨u47, w47⟩; try dsimp only
  rw [wp_bind]
  iapply (spec48 C K E.c _ u47 w47) $$ [-]
  isplitr; · iexact HR
  isplitl [HO]; · iexact HO
  isplitl [HSX]; · iexact HSX
  iintro ⟨HO, HSX⟩
  iintro %r48; rcases r48 with ⟨u48, w48⟩; try dsimp only
  simp only [semSignalWord, semWaitWord, Prog.lift, Prog.bind_op, Prog.bind_ret, Prog.pure_eq_ret, wp_deviceId]
  iapply (sig_X C K E.c 93 (by omega) (by omega) _ (devN97 E.c _) exit_sem rfl) $$ [HO HSX]
  · isplitr; · iexact HR
    isplitl [HO]; · iexact HO
    iexact HSX
  iintro ⟨HO, HSX⟩
  iapply (sig_X C K E.c 94 (by omega) (by omega) _ (devN98 E.c _) exit_sem rfl) $$ [HO HSX]
  · isplitr; · iexact HR
    isplitl [HO]; · iexact HO
    iexact HSX
  iintro ⟨HO, HSX⟩
  iapply (sig_X C K E.c 95 (by omega) (by omega) _ (devN99 E.c _) exit_sem rfl) $$ [HO HSX]
  · isplitr; · iexact HR
    isplitl [HO]; · iexact HO
    iexact HSX
  iintro ⟨HO, HSX⟩
  iapply (sig_X C K E.c 96 (by omega) (by omega) _ (devN100 E.c _) exit_sem rfl) $$ [HO HSX]
  · isplitr; · iexact HR
    isplitl [HO]; · iexact HO
    iexact HSX
  iintro ⟨HO, HSX⟩
  iapply (wait_bar C K E.c 43 97 (wpE_semWait_eq 𝒱₀ (E.c : Thread nD τ) none Set.univ) exit_sem rfl rfl (fun i h1 h2 => absurd h2 (by omega))) $$ [C43 HO P43]
  · isplitr; · iexact HR
    isplitr; · iexact HL
    isplitl [C43]; · iexact C43
    isplitl [HO]; · iexact HO
    iexact P43
  iintro ⟨HO, P43, Hp⟩
  rw [wp_ret]; imodintro
  iapply HQ
  isplitl [HO]; · iexact HO
  isplitl [P44]; · iexact P44
  isplitl [P43]; · iexact P43
  isplitl [P0]; · iexact P0
  isplitl [P1]; · iexact P1
  isplitl [P2]; · iexact P2
  isplitl [P3]; · iexact P3
  isplitl [PG]; · iexact PG
  isplitl [X0]; · iexact X0
  isplitl [X1]; · iexact X1
  isplitl [X2]; · iexact X2
  isplitl [X3]; · iexact X3
  isplitl [X4]; · iexact X4
  isplitl [HU]; · iexact HU
  isplitl [K1]; · iexact K1
  isplitl [K2]; · iexact K2
  isplitl [K3]; · iexact K3
  isplitl [R0]; · iexact R0
  isplitl [R1]; · iexact R1
  isplitl [HGL]; · iexact HGL
  isplitl [AC]; · iexact AC
  isplitl [CX]; · iexact CX
  isplitl [O0]; · iexact O0
  isplitl [O1]; · iexact O1
  isplitl [O2]; · iexact O2
  isplitl [O3]; · iexact O3
  iexact O4

end Cert.KernelIdealProof
-- ==== Proof.KernelIdeal.Close.lean ====
/- Closing a device's semaphores and putting its buffers together. -/
module

public import proofs.«01_k».proof.Proof.KernelIdeal.Give

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

theorem bmono {I : Type} {s : Finset I} {Φ Ψ : I → sProp 𝕄} (h : ∀ i ∈ s, (Φ i ⊢ Ψ i)) : bigSep s Φ ⊢ bigSep s Ψ := bigSep_mono h
/-! ## The semaphores a device's run uses -/

/-- Those of device 0's global transfers, or the others' global receive and tree send. -/
def Gs (c : Dev nD) (Φ : Fin 45 → sProp 𝕄) : sProp 𝕄 := if c = 0 then (bigSep (Finset.Ico 34 65) fun i => Φ (gk i)) else iprop(Φ 36 ∗ Φ 37)
/-- Those of the tree's receives. -/
def Ms (c : Dev nD) (Φ : Fin 45 → sProp 𝕄) : sProp 𝕄 := bigSep (Finset.range 5) fun j => if j < tz c then Φ (rrk j) else iprop(emp)
def used (c : Dev nD) : Finset (Fin 45) := Finset.univ.filter fun k => ¬ payers c k = ∅

theorem used_0 : used 0 = {44, 43, 0, 1, 2, 3} ∪ ((Finset.Ico 34 65).image gk ∪ ((Finset.range 5).filter (· < tz 0)).image rrk) := by decide +kernel
theorem used_n : ∀ c : Dev nD, c ≠ 0 → used c = {44, 43, 0, 1, 2, 3} ∪ ({36, 37} ∪ ((Finset.range 5).filter (· < tz c)).image rrk) := by decide +kernel
theorem disj_0 : Disjoint ((Finset.Ico 34 65).image gk) (((Finset.range 5).filter (· < tz 0)).image rrk)
    ∧ Disjoint ({44, 43, 0, 1, 2, 3} : Finset (Fin 45)) ((Finset.Ico 34 65).image gk ∪ ((Finset.range 5).filter (· < tz 0)).image rrk) := by decide +kernel
theorem disj_n : ∀ c : Dev nD, Disjoint ({36, 37} : Finset (Fin 45)) (((Finset.range 5).filter (· < tz c)).image rrk)
    ∧ Disjoint ({44, 43, 0, 1, 2, 3} : Finset (Fin 45)) ({36, 37} ∪ ((Finset.range 5).filter (· < tz c)).image rrk) := by decide +kernel
theorem gk_inj : Set.InjOn gk (Finset.Ico 34 65 : Finset ℕ) := by
  intro i hi j hj h
  have hi' := Finset.mem_Ico.1 (Finset.mem_coe.1 hi); have hj' := Finset.mem_Ico.1 (Finset.mem_coe.1 hj)
  have h3 : (i - 29) % 45 = (j - 29) % 45 := congrArg Fin.val h
  omega
theorem rrk_inj (c : Dev nD) : Set.InjOn rrk ((Finset.range 5).filter (· < tz c) : Finset ℕ) := by
  intro i hi j hj h
  have hi' := Finset.mem_range.1 (Finset.mem_filter.1 (Finset.mem_coe.1 hi)).1; have hj' := Finset.mem_range.1 (Finset.mem_filter.1 (Finset.mem_coe.1 hj)).1
  have h3 : 38 + i % 5 = 38 + j % 5 := congrArg Fin.val h
  omega

theorem six (Φ : Fin 45 → sProp 𝕄) : bigSep {44, 43, 0, 1, 2, 3} Φ = iprop(Φ 44 ∗ Φ 43 ∗ Φ 0 ∗ Φ 1 ∗ Φ 2 ∗ Φ 3) :=
  bigSep_eq_bigSepL_of_eq [44, 43, 0, 1, 2, 3] (by decide) (by decide) Φ
theorem two (Φ : Fin 45 → sProp 𝕄) : bigSep {36, 37} Φ = iprop(Φ 36 ∗ Φ 37) := bigSep_eq_bigSepL_of_eq [36, 37] (by decide) (by decide) Φ
theorem five (Φ : ℕ → sProp 𝕄) : bigSep (Finset.range 5) Φ = iprop(Φ 0 ∗ Φ 1 ∗ Φ 2 ∗ Φ 3 ∗ Φ 4) :=
  bigSep_eq_bigSepL_of_eq [0, 1, 2, 3, 4] (by decide) (by decide) Φ

theorem used_eq (c : Dev nD) (Φ : Fin 45 → sProp 𝕄) :
    bigSep (used c) Φ = iprop((Φ 44 ∗ Φ 43 ∗ Φ 0 ∗ Φ 1 ∗ Φ 2 ∗ Φ 3) ∗ Gs c Φ ∗ Ms c Φ) := by
  have hM : bigSep (((Finset.range 5).filter (· < tz c)).image rrk) Φ = Ms c Φ := by
    rw [bigSep_image_of_injOn (rrk_inj c), bigSep_filter]; rfl
  by_cases h : c = 0
  · subst h
    have hG : bigSep ((Finset.Ico 34 65).image gk) Φ = Gs 0 Φ := by
      rw [bigSep_image_of_injOn gk_inj]; unfold Gs; rw [if_pos rfl]
    rw [used_0, bigSep_union disj_0.2, bigSep_union disj_0.1, six, hG, hM]; rfl
  · have hG : bigSep {36, 37} Φ = Gs c Φ := by rw [two]; unfold Gs; rw [if_neg h]
    rw [used_n c h, bigSep_union (disj_n c).2, bigSep_union (disj_n c).1, six, hG, hM]; rfl

/-- A device's positions: the used cells' and the rest. -/
theorem all_eq (c : Dev nD) (Φ : Fin 45 → sProp 𝕄) :
    bigSep Finset.univ Φ = iprop(bigSep (used c) Φ ∗ bigSep (Finset.univ.filter fun k => payers c k = ∅) Φ) := by
  rw [bigSep_filter_split Finset.univ (fun k => payers c k = ∅)]
  exact equiv_iff.mp ⟨BI.sep_comm, BI.sep_comm⟩

/-- Every cell of the device closes. -/
theorem close_all (c : Dev nD) :
    iprop(records C K ∗ bigSep (used c) (fun k => pos (F := F) (c, k) 1) ∗ bigSep (Finset.univ.filter fun k => payers c k = ∅) (fun k => pos (F := F) (c, k) 0))
      ⊢ (|={Set.univ}=> bigSep Finset.univ fun k => semVal (kcell (c, k)) 0 : sProp 𝕄) := by
  rw [all_eq c]
  iintro ⟨#HR, H1, H0⟩
  imod ((bigSep_with_persistent (R := records C K) (S := used c) (Φ := fun k => pos (F := F) (c, k) 1) (Ψ := fun k => iprop(|={Set.univ}=> semVal (kcell (c, k)) 0)) fun k _ => close_at C K c k 1 (Or.inr (le_refl _))).trans (bigSep_fupd _ _)) $$ [H1] with H1
  · isplitr; · iexact HR
    iexact H1
  imod ((bigSep_with_persistent (R := records C K) (S := Finset.univ.filter fun k => payers c k = ∅) (Φ := fun k => pos (F := F) (c, k) 0) (Ψ := fun k => iprop(|={Set.univ}=> semVal (kcell (c, k)) 0)) fun k hk => close_at C K c k 0 (Or.inl (Finset.mem_filter.1 hk).2)).trans (bigSep_fupd _ _)) $$ [H0] with H0
  · isplitr; · iexact HR
    iexact H0
  imodintro
  isplitl [H1]; · iexact H1
  iexact H0

/-! ## The buffers in slots -/

omit [FloatOps F] [Named F] in
theorem rc_cover : (Finset.range 2).biUnion rcSet = Finset.univ := by
  refine Finset.eq_univ_iff_forall.2 fun i => Finset.mem_biUnion.2 ⟨(i 0).val, Finset.mem_range.2 (i 0).isLt, Finset.mem_filter.2 ⟨Finset.mem_univ _, rfl⟩⟩
omit [FloatOps F] [Named F] in
theorem rd_cover : (Finset.range 5).biUnion rdSet = Finset.univ := by
  refine Finset.eq_univ_iff_forall.2 fun i => Finset.mem_biUnion.2 ⟨(i 0).val, Finset.mem_range.2 (i 0).isLt, Finset.mem_filter.2 ⟨Finset.mem_univ _, rfl⟩⟩
omit [FloatOps F] [Named F] in
theorem rc_disj : ∀ t ∈ Finset.range 2, ∀ t' ∈ Finset.range 2, t ≠ t' → Disjoint (rcSet t) (rcSet t') := fun t _ t' _ h =>
  Finset.disjoint_filter.2 fun i _ h1 h2 => h (h1.symm.trans h2)
omit [FloatOps F] [Named F] in
theorem rd_disj : ∀ t ∈ Finset.range 5, ∀ t' ∈ Finset.range 5, t ≠ t' → Disjoint (rdSet t) (rdSet t') := fun t _ t' _ h =>
  Finset.disjoint_filter.2 fun i _ h1 h2 => h (h1.symm.trans h2)

abbrev rcW (c : Dev nD) (f : CRc F) : sProp 𝕄 := ((c : Thread nD τ).loc cc0_scratch1) ↦{fullShare} f
abbrev rdW (c : Dev nD) (f : CRd F) : sProp 𝕄 := ((c : Thread nD τ).loc cc0_scratch4) ↦{fullShare} f
theorem rc_whole (c : Dev nD) (f : CRc F) : rcW c f = bigSep (Finset.range 2) fun k => rcPts c k f := by
  unfold rcPts
  exact (congrArg (fun S => (((c : Thread nD τ).loc cc0_scratch1) ↦[S]{fullShare} f : sProp 𝕄)) rc_cover.symm).trans (pointsTo_biUnion _ _ rc_disj)
theorem rd_whole (c : Dev nD) (f : CRd F) : rdW c f = bigSep (Finset.range 5) fun k => rdPts c k f := by
  unfold rdPts
  exact (congrArg (fun S => (((c : Thread nD τ).loc cc0_scratch4) ↦[S]{fullShare} f : sProp 𝕄)) rd_cover.symm).trans (pointsTo_biUnion _ _ rd_disj)
theorem range2 (Φ : ℕ → sProp 𝕄) : bigSep (Finset.range 2) Φ = iprop(Φ 0 ∗ Φ 1) := bigSep_eq_bigSepL_of_eq [0, 1] (by decide) (by decide) Φ
theorem rc_split (c : Dev nD) : iprop(∃ f, rcW (F := F) c f) ⊢ iprop((∃ f, rcPts (F := F) c 0 f) ∗ ∃ f, rcPts (F := F) c 1 f) := by
  iintro ⟨%f, H⟩
  ihave H := (BIBase.Entails.of_eq ((rc_whole c f).trans (range2 _))) $$ H
  icases H with ⟨H0, H1⟩
  isplitl [H0]; · iexists f; iexact H0
  iexists f; iexact H1
theorem rd_split (c : Dev nD) : iprop(∃ f, rdW (F := F) c f) ⊢ bigSep (Finset.range 5) fun k => iprop(∃ f, rdPts (F := F) c k f) := by
  iintro ⟨%f, H⟩
  ihave H := (BIBase.Entails.of_eq (rd_whole c f)) $$ H
  iapply (bmono (Φ := fun k => rdPts c k f) (Ψ := fun k => iprop(∃ f, rdPts (F := F) c k f)) fun k _ => (by iintro H; iexists f; iexact H)) $$ H
theorem rc_join (c : Dev nD) (f g : CRc F) : iprop(rcPts c 0 f ∗ rcPts c 1 g) ⊢ iprop(∃ f, rcW (F := F) c f) := by
  have h := pointsTo_biUnion_join (ℓ := ((c : Thread nD τ).loc cc0_scratch1)) (Ix := Unit) (Name := ℕ) (U := UU) (Lvl := ℕ) (nD := nD) (τ := τ) (q := fullShare) (Val := Elt F) (Finset.range 2) rcSet (fun k => if k = 0 then f else g) f rc_disj
  rw [rc_cover, range2] at h
  unfold rcPts
  refine BIBase.Entails.trans h ?_
  iintro ⟨%x, -, H⟩
  iexists x; iexact H
theorem rd_join (c : Dev nD) (f0 : CRd F) : (bigSep (Finset.range 5) fun k => iprop(∃ f, rdPts (F := F) c k f)) ⊢ iprop(∃ f, rdW (F := F) c f) := by
  have : Nonempty (CRd F) := ⟨f0⟩
  refine BIBase.Entails.trans (bigSep_exists_pi (Finset.range 5) (fun k (f : CRd F) => rdPts (F := F) c k f)) ?_
  iintro ⟨%fs, H⟩
  unfold rdPts
  ihave H2 := (pointsTo_biUnion_join (ℓ := ((c : Thread nD τ).loc cc0_scratch4)) (q := fullShare) (Finset.range 5) rdSet fs f0 rd_disj) $$ H
  rw [rd_cover]
  icases H2 with ⟨%x, -, H⟩
  iexists x; iexact H
theorem kv_join (c : Dev nD) (f : CKv F) : iprop(kvPts c q1 f ∗ kvPts c q2 f ∗ kvPts c q3 f) ⊢ kvPts (F := F) c fullShare f := by
  unfold kvPts
  exact BIBase.Entails.trans (sep_mono_right (pointsTo_share (PosShare.mem_left_op_right _)).2) (pointsTo_share (PosShare.mem_left_op_right _)).2

/-- Of the tree's slots, those a device gives and those it keeps. -/
def give5 (c : Dev nD) : sProp 𝕄 := bigSep (Finset.range 5) fun j => if j < tz c then iprop(∃ f, rdPts (F := F) c j f) else iprop(emp)
def keep5 (c : Dev nD) : sProp 𝕄 := bigSep (Finset.range 5) fun j => if j < tz c then iprop(emp) else iprop(∃ f, rdPts (F := F) c j f)
theorem split5 (c : Dev nD) : (bigSep (Finset.range 5) fun k => iprop(∃ f, rdPts (F := F) c k f)) ⊢ iprop(give5 (F := F) c ∗ keep5 (F := F) c) := by
  unfold give5 keep5
  rw [← bigSep_sep']
  refine bmono fun j _ => ?_
  by_cases h : j < tz c
  · rw [if_pos h, if_pos h]; iintro H; isplitl [H]; · iexact H
    iempintro
  · rw [if_neg h, if_neg h]; iintro H; isplitr; · iempintro
    iexact H
theorem mg_in (c : Dev nD) : iprop((bigSep (Finset.range 5) fun j => if j < tz c then crd (F := F) (c, rrk j) Nac else iprop(emp)) ∗ Ms c (fun k => pos (F := F) (c, k) 0))
    ⊢ iprop(MgIn (F := F) 0 c ∗ MgIn (F := F) 1 c ∗ MgIn (F := F) 2 c ∗ MgIn (F := F) 3 c ∗ MgIn (F := F) 4 c) := by
  unfold Ms
  rw [← bigSep_sep', ← five (fun j => MgIn (F := F) j c)]
  refine bmono fun j _ => ?_
  unfold MgIn
  by_cases h : j < tz c
  · rw [if_pos h, if_pos h, if_pos h]
  · rw [if_neg h, if_neg h, if_neg h]; iintro H; iempintro
theorem mg_out (c : Dev nD) : iprop((MgOut C 0 c ∗ MgOut C 1 c ∗ MgOut C 2 c ∗ MgOut C 3 c ∗ MgOut C 4 c) ∗ keep5 (F := F) c)
    ⊢ iprop(Ms c (fun k => pos (F := F) (c, k) 1) ∗ ∃ f, rdW (F := F) c f) := by
  have h : iprop((MgOut C 0 c ∗ MgOut C 1 c ∗ MgOut C 2 c ∗ MgOut C 3 c ∗ MgOut C 4 c) ∗ keep5 (F := F) c)
      ⊢ iprop(Ms c (fun k => pos (F := F) (c, k) 1) ∗ bigSep (Finset.range 5) fun k => iprop(∃ f, rdPts (F := F) c k f)) := by
    unfold Ms keep5
    rw [← five (fun j => MgOut C j c), ← bigSep_sep', ← bigSep_sep']
    refine bmono fun j _ => ?_
    unfold MgOut
    by_cases h : j < tz c
    · rw [if_pos h, if_pos h, if_pos h]; iintro ⟨⟨Hp, H⟩, -⟩; isplitl [Hp]; · iexact Hp
      iexists _; iexact H
    · rw [if_neg h, if_neg h, if_neg h]
  refine BIBase.Entails.trans h ?_
  iintro ⟨H, H2⟩
  isplitl [H]; · iexact H
  iapply (rd_join c C.rd0) $$ H2

end Cert.KernelIdealProof
-- ==== Proof.KernelIdeal.Tokens.lean ====
/- The launch's ghost state: tokens dealt to their payers, and the launch credit. -/
module

public import proofs.«01_k».proof.Proof.KernelIdeal.Close

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## Tokens -/

theorem ring31 (c : Dev nD) (n : ℕ) (Ψ : Dev nD → sProp 𝕄) : bigSep Finset.univ Ψ ⊢ bigSep (Finset.Ico (1 + n) (32 + n)) fun i => Ψ (sh c (i - n)) := by
  have h : Set.InjOn (fun i => sh c (i - n)) (Finset.Ico (1 + n) (32 + n) : Finset ℕ) := by
    intro i hi j hj h
    have hi' := Finset.mem_Ico.1 (Finset.mem_coe.1 hi); have hj' := Finset.mem_Ico.1 (Finset.mem_coe.1 hj)
    have h3 : (c.val + (i - n)) % 32 = (c.val + (j - n)) % 32 := congrArg Fin.val h
    omega
  refine BIBase.Entails.trans (bigSep_subset (Finset.subset_univ ((Finset.Ico (1 + n) (32 + n)).image fun i => sh c (i - n)))) ?_
  rw [bigSep_image_of_injOn h]
  first | done | exact .refl _ | exact .refl

theorem disj_p1 : Disjoint ((Finset.Ico 34 65).image gk) ((Finset.range 5).image rrk) := by decide +kernel
theorem disj_p2 : Disjoint ({36, 37} : Finset (Fin 45)) ((Finset.Ico 34 65).image gk ∪ (Finset.range 5).image rrk) := by decide +kernel
theorem disj_p3 : Disjoint ({44, 43, 0, 1, 2, 3} : Finset (Fin 45)) ({36, 37} ∪ ((Finset.Ico 34 65).image gk ∪ (Finset.range 5).image rrk)) := by decide +kernel
theorem rrk_inj5 : Set.InjOn rrk (Finset.range 5 : Finset ℕ) := by
  intro i hi j hj h
  have hi' := Finset.mem_range.1 (Finset.mem_coe.1 hi); have hj' := Finset.mem_range.1 (Finset.mem_coe.1 hj)
  have h3 : 38 + i % 5 = 38 + j % 5 := congrArg Fin.val h
  omega
theorem pieces (Φ : Fin 45 → sProp 𝕄) : bigSep Finset.univ Φ ⊢ iprop((Φ 44 ∗ Φ 43 ∗ Φ 0 ∗ Φ 1 ∗ Φ 2 ∗ Φ 3) ∗ (Φ 36 ∗ Φ 37) ∗ (bigSep (Finset.Ico 34 65) fun i => Φ (gk i)) ∗ bigSep (Finset.range 5) fun j => Φ (rrk j)) := by
  refine BIBase.Entails.trans (bigSep_subset (Finset.subset_univ ({44, 43, 0, 1, 2, 3} ∪ ({36, 37} ∪ ((Finset.Ico 34 65).image gk ∪ (Finset.range 5).image rrk))))) ?_
  rw [bigSep_union disj_p3, bigSep_union disj_p2, bigSep_union disj_p1, six, two, bigSep_image_of_injOn gk_inj, bigSep_image_of_injOn rrk_inj5]
  first | done | exact .refl _ | exact .refl

def GT0 (c : Dev nD) : sProp 𝕄 := if c = 0 then (bigSep (Finset.Ico 34 65) fun i => iprop(tok (F := F) (0, gk i) 0 ∗ tok (sh 0 (i - 33), 36) 0)) else iprop(emp)
/-- The tokens of the duties a device pays. -/
def payTok (c : Dev nD) : sProp 𝕄 :=
  iprop((bigSep (Finset.Ico 1 32) fun i => tok (F := F) (sh c i, 44) c) ∗ SigX (F := F) c 66 ∗ tok (c, 0) c ∗ tok (sh c 1, 2) c ∗ tok (c, 1) c ∗ tok (sh c 31, 3) c ∗ GT0 (F := F) c ∗ RT0 (F := F) c)

def allTok (p : Dev nD) (k : Fin 45) : sProp 𝕄 := bigSep Finset.univ fun d : Dev nD => tok (F := F) (d, k) p
theorem allTok_at (p : Dev nD) (k : Fin 45) (d : Dev nD) : allTok (F := F) p k ⊢ tok (d, k) p := bigSep_elim (Φ := fun d : Dev nD => tok (F := F) (d, k) p) (Finset.mem_univ d)

theorem ring_tok (c p : Dev nD) (n : ℕ) (k : Fin 45) : allTok (F := F) p k ⊢ bigSep (Finset.Ico (1 + n) (32 + n)) fun i => tok (F := F) (sh c (i - n), k) p := ring31 c n _

theorem pay_intro (c : Dev nD) : (bigSep Finset.univ fun k : Fin 45 => allTok (F := F) c k) ⊢ payTok (F := F) c := by
  refine BIBase.Entails.trans (pieces _) ?_
  unfold payTok SigX
  iintro ⟨⟨H44, H43, H0, H1, H2, H3⟩, ⟨H36, H37⟩, Hg, Hr⟩
  isplitl [H44]; · iapply (ring_tok c c 0 44) $$ H44
  isplitl [H43]; · iapply (ring_tok c c 65 43) $$ H43
  isplitl [H0]; · iapply (allTok_at c 0 c) $$ H0
  isplitl [H2]; · iapply (allTok_at c 2 (sh c 1)) $$ H2
  isplitl [H1]; · iapply (allTok_at c 1 c) $$ H1
  isplitl [H3]; · iapply (allTok_at c 3 (sh c 31)) $$ H3
  isplitl [Hg H36]
  · iapply (show iprop(allTok (F := F) c 36 ∗ bigSep (Finset.Ico 34 65) fun i => allTok (F := F) c (gk i)) ⊢ GT0 (F := F) c from by
      unfold GT0
      by_cases h : c = 0
      · subst h; rw [if_pos rfl, bigSep_sep']
        iintro ⟨H36, Hg⟩
        isplitl [Hg]
        · iapply (bmono (Φ := fun i => allTok (F := F) 0 (gk i)) (Ψ := fun i => tok (F := F) (0, gk i) 0) fun i _ => allTok_at 0 (gk i) 0) $$ Hg
        iapply (ring_tok 0 0 33 36) $$ H36
      · rw [if_neg h]; iintro H; iempintro)
    isplitl [H36] <;> iassumption
  iapply (show iprop(allTok (F := F) c 37 ∗ bigSep (Finset.range 5) fun j => allTok (F := F) c (rrk j)) ⊢ RT0 (F := F) c from by
      unfold RT0
      by_cases h : c = 0
      · rw [if_pos h]; iintro H; iempintro
      · rw [if_neg h]
        refine BIClass.sep_mono (allTok_at c 37 c) ?_
        exact BIBase.Entails.trans (bigSep_elim (Φ := fun j => allTok (F := F) c (rrk j)) (Finset.mem_range.2 (tz_lt c h))) (allTok_at c (rrk (tz c)) (parent c)))
  isplitl [H37] <;> iassumption

def toks (c : Dev nD) : sProp 𝕄 := bigSep Finset.univ fun k : Fin 45 => bigSep Finset.univ fun p : Dev nD => tok (F := F) (c, k) p
theorem toks_around : (bigSep Finset.univ fun c : Dev nD => toks (F := F) c) ⊢ bigSep Finset.univ fun c : Dev nD => payTok (F := F) c := by
  have h : (bigSep Finset.univ fun c : Dev nD => toks (F := F) c) = bigSep Finset.univ fun p : Dev nD => bigSep Finset.univ fun k : Fin 45 => allTok (F := F) p k := by
    unfold toks allTok
    refine (bigSep_congr fun c _ => swap Finset.univ Finset.univ (fun (k : Fin 45) (p : Dev nD) => tok (F := F) (c, k) p)).trans ?_
    refine (swap Finset.univ Finset.univ (fun (c : Dev nD) (p : Dev nD) => bigSep Finset.univ fun k : Fin 45 => tok (F := F) (c, k) p)).trans ?_
    exact bigSep_congr fun p _ => swap Finset.univ Finset.univ (fun (c : Dev nD) (k : Fin 45) => tok (F := F) (c, k) p)
  rw [h]
  exact bmono fun c _ => pay_intro c

/-! ## The launch credit -/

abbrev CT : Type := CellTallies nD τ sig Unit
theorem smul_tally (g : GSem nD τ sig) (n a : ℕ) : n • (tallyAt g () a : CT) = tallyAt g () (n * a) := by
  induction n with
  | zero => rw [zero_smul, Nat.zero_mul, tallyAt_zero]
  | succ n ih => rw [succ_nsmul, ih, tallyAt_add, Nat.succ_mul]

theorem sum_parts (f : ℕ → CT) : ∑ i ∈ Finset.Ico 1 97, f i = (∑ i ∈ Finset.Ico 1 32, f i) + (f 32 + (f 33 + ((∑ i ∈ Finset.Ico 34 65, f i) + (f 65 + ∑ i ∈ Finset.Ico 66 97, f i)))) := by
  rw [← Finset.sum_Ico_consecutive f (show 1 ≤ 32 by omega) (show 32 ≤ 97 by omega), Finset.sum_eq_sum_Ico_succ_bot (show 32 < 97 by omega) f,
    Finset.sum_eq_sum_Ico_succ_bot (show 33 < 97 by omega) f, ← Finset.sum_Ico_consecutive f (show 34 ≤ 65 by omega) (show 65 ≤ 97 by omega), Finset.sum_eq_sum_Ico_succ_bot (show 65 < 97 by omega) f]

theorem sum_sh (j : ℕ) (f : Dev nD → CT) : ∑ d, f (sh d j) = ∑ d, f d := by
  have hi : Function.Injective (fun d : Dev nD => sh d j) := fun a b h => by
    have h3 : (a.val + j) % 32 = (b.val + j) % 32 := congrArg Fin.val h
    have ha : a.val < 32 := a.isLt
    have hb : b.val < 32 := b.isLt
    exact Fin.ext (by omega)
  exact Fintype.sum_bijective (fun d => sh d j) (Finite.injective_iff_bijective.1 hi) _ _ fun _ => rfl

theorem sum_ring (n : ℕ) (k : Fin 45) : ∑ i ∈ Finset.Ico (1 + n) (32 + n), ∑ d : Dev nD, (tallyAt (kcell (sh d (i - n), k)) () 1 : CT) = ∑ d : Dev nD, tallyAt (kcell (d, k)) () 31 := by
  rw [Finset.sum_congr rfl fun i _ => sum_sh (i - n) fun d => (tallyAt (kcell (d, k)) () 1 : CT), Finset.sum_const, Nat.card_Ico, Finset.smul_sum,
    show 32 + n - (1 + n) = 31 by omega]
  exact Finset.sum_congr rfl fun d _ => smul_tally _ 31 1

/-- What a device's cells are paid in all. -/
def TT (c : Dev nD) : CT :=
  tallyAt (kcell (c, 44)) () 31 + (tallyAt (kcell (c, 2)) () Nkv + (tallyAt (kcell (c, 3)) () Nkv + ((if c = 0 then 0 else tallyAt (kcell (c, 36)) () Ngl)
    + ((∑ j ∈ Finset.range 5, if j < tz c then tallyAt (kcell (c, rrk j)) () Nac else 0) + tallyAt (kcell (c, 43)) () 31))))

theorem due_a (d : Dev nD) {i : ℕ} (h1 : 1 ≤ i) (h2 : i < 32) : due d i = tallyAt (kcell (sh d (i - 0), 44)) () 1 := by
  unfold due dst; rw [if_neg (by omega), if_pos h2]; rfl
theorem due_32 (d : Dev nD) : due d 32 = tallyAt (kcell (sh d 1, 2)) () Nkv := rfl
theorem due_33 (d : Dev nD) : due d 33 = tallyAt (kcell (sh d 31, 3)) () Nkv := rfl
theorem due_g (d : Dev nD) {i : ℕ} (h1 : 34 ≤ i) (h2 : i < 65) : due d i = if d = 0 then tallyAt (kcell (sh 0 (i - 33), 36)) () Ngl else 0 := by
  unfold due dst
  rw [if_neg (by omega), if_neg (by omega), if_neg (by omega), if_neg (by omega), if_pos h2]
  by_cases h : d = 0
  · subst h; rw [if_pos rfl, if_pos rfl]; rfl
  · rw [if_neg h, if_neg h]
theorem amt_rrk : ∀ j < 5, amt (rrk j) = Nac := by
  intro j hj
  unfold amt rrk
  rw [if_neg (by show ¬ 38 + j % 5 < 4; omega), if_neg (by show ¬ 38 + j % 5 < 37; omega), if_pos (by show 38 + j % 5 < 43; omega)]
theorem due_t (d : Dev nD) : due d 65 = if d = 0 then 0 else tallyAt (kcell (parent d, rrk (tz d))) () Nac := by
  unfold due dst
  rw [if_neg (by omega), if_neg (by omega), if_neg (by omega), if_neg (by omega), if_neg (by omega), if_pos rfl]
  by_cases h : d = 0
  · rw [if_pos h, if_pos h]
  · rw [if_neg h, if_neg h]; show tallyAt _ () (amt (rrk (tz d))) = _; rw [amt_rrk _ (tz_lt d h)]
theorem due_x (d : Dev nD) {i : ℕ} (h1 : 66 ≤ i) (h2 : i < 97) : due d i = tallyAt (kcell (sh d (i - 65), 43)) () 1 := by
  unfold due dst
  rw [if_neg (by omega), if_neg (by omega), if_neg (by omega), if_neg (by omega), if_neg (by omega), if_neg (by omega), if_pos h2]; rfl

theorem tree_pairs : ((Finset.univ ×ˢ Finset.range 5).filter fun x : Dev nD × ℕ => x.2 < tz x.1) = (Finset.univ.filter fun d : Dev nD => ¬ d = 0).image fun d => (parent d, tz d) := by decide +kernel
theorem tree_inj : ∀ a b : Dev nD, parent a = parent b → tz a = tz b → ¬ a = 0 → ¬ b = 0 → a = b := by decide +kernel

theorem sum_g : ∑ i ∈ Finset.Ico 34 65, ∑ d : Dev nD, due d i = ∑ d : Dev nD, if d = 0 then (0 : CT) else tallyAt (kcell (d, 36)) () Ngl := by
  have h1 : ∑ i ∈ Finset.Ico 34 65, ∑ d : Dev nD, due d i = ∑ i ∈ Finset.Ico 34 65, (tallyAt (kcell (sh 0 (i - 33), 36)) () Ngl : CT) := by
    refine Finset.sum_congr rfl fun i hi => ?_
    have hi' := Finset.mem_Ico.1 hi
    rw [Finset.sum_congr rfl fun d _ => due_g d hi'.1 hi'.2, Finset.sum_ite_eq', if_pos (Finset.mem_univ _)]
  rw [h1]
  refine (Finset.sum_image (f := fun d : Dev nD => (tallyAt (kcell (d, 36)) () Ngl : CT)) inj0).symm.trans ?_
  rw [← image0, ← Finset.add_sum_erase Finset.univ (fun d : Dev nD => if d = 0 then (0 : CT) else tallyAt (kcell (d, 36)) () Ngl) (Finset.mem_univ 0), if_pos rfl, zero_add]
  exact Finset.sum_congr rfl fun d hd => (if_neg (Finset.mem_erase.1 hd).1).symm

theorem sum_t : ∑ d : Dev nD, due d 65 = ∑ d : Dev nD, ∑ j ∈ Finset.range 5, if j < tz d then (tallyAt (kcell (d, rrk j)) () Nac : CT) else 0 := by
  rw [← Finset.sum_product' Finset.univ (Finset.range 5) fun (d : Dev nD) j => if j < tz d then (tallyAt (kcell (d, rrk j)) () Nac : CT) else 0]
  rw [← Finset.sum_filter (s := Finset.univ ×ˢ Finset.range 5) (fun x : Dev nD × ℕ => x.2 < tz x.1) (fun x => (tallyAt (kcell (x.1, rrk x.2)) () Nac : CT)), tree_pairs, Finset.sum_image, Finset.sum_filter]
  · refine Finset.sum_congr rfl fun d _ => ?_
    rw [due_t]
    by_cases h : d = 0
    · rw [if_pos h, if_neg (not_not.2 h)]
    · rw [if_neg h, if_pos h]
  · intro a ha b hb h
    exact tree_inj a b (congrArg Prod.fst h) (congrArg Prod.snd h) (Finset.mem_filter.1 (Finset.mem_coe.1 ha)).2 (Finset.mem_filter.1 (Finset.mem_coe.1 hb)).2

theorem sum_OS : ∑ d : Dev nD, OS d 1 = ∑ d : Dev nD, TT d := by
  unfold OS TT
  rw [Finset.sum_comm, sum_parts fun i => ∑ d : Dev nD, due d i]
  simp only [Finset.sum_add_distrib]
  have ha : ∑ i ∈ Finset.Ico 1 32, ∑ d : Dev nD, due d i = ∑ d : Dev nD, (tallyAt (kcell (d, 44)) () 31 : CT) :=
    (Finset.sum_congr rfl fun i hi => Finset.sum_congr rfl fun d _ => due_a d (Finset.mem_Ico.1 hi).1 (Finset.mem_Ico.1 hi).2).trans (sum_ring 0 44)
  have hx : ∑ i ∈ Finset.Ico 66 97, ∑ d : Dev nD, due d i = ∑ d : Dev nD, (tallyAt (kcell (d, 43)) () 31 : CT) :=
    (Finset.sum_congr rfl fun i hi => Finset.sum_congr rfl fun d _ => due_x d (Finset.mem_Ico.1 hi).1 (Finset.mem_Ico.1 hi).2).trans (sum_ring 65 43)
  have h32 : ∑ d : Dev nD, due d 32 = ∑ d : Dev nD, (tallyAt (kcell (d, 2)) () Nkv : CT) := sum_sh 1 fun d => (tallyAt (kcell (d, 2)) () Nkv : CT)
  have h33 : ∑ d : Dev nD, due d 33 = ∑ d : Dev nD, (tallyAt (kcell (d, 3)) () Nkv : CT) := sum_sh 31 fun d => (tallyAt (kcell (d, 3)) () Nkv : CT)
  rw [ha, hx, h32, h33, sum_g, sum_t]

theorem TT_on (d : Dev nD) (g : GSem nD τ sig) (h : TT d g ≠ 0) : g.1 = (d.tc : Thread nD τ) := by
  by_contra hg
  refine h ?_
  have z : ∀ (k : Fin 45) (n : ℕ), (tallyAt (kcell (d, k)) () n : CT) g = 0 := fun k n => tallyAt_ne_cell (fun e => hg (congrArg Prod.fst e)) () n
  have z2 : (if d = 0 then (0 : CT) else tallyAt (kcell (d, 36)) () Ngl) g = 0 := by
    split_ifs
    · rfl
    · exact z _ _
  have z3 : (∑ j ∈ Finset.range 5, if j < tz d then (tallyAt (kcell (d, rrk j)) () Nac : CT) else 0) g = 0 := by
    rw [Finset.sum_apply]
    refine Finset.sum_eq_zero fun j _ => ?_
    split_ifs
    · exact z _ _
    · rfl
  unfold TT
  simp only [Pi.add_apply, z, z2, z3, add_zero]

/-- The credit a device waits with. -/
def cr (c : Dev nD) : sProp 𝕄 :=
  iprop(crd (F := F) (c, 44) 31 ∗ crd (F := F) (c, 2) Nkv ∗ crd (F := F) (c, 3) Nkv ∗ (if c = 0 then iprop(emp) else crd (F := F) (c, 36) Ngl)
    ∗ (bigSep (Finset.range 5) fun j => if j < tz c then crd (F := F) (c, rrk j) Nac else iprop(emp)) ∗ crd (F := F) (c, 43) 31)

theorem creds (c : Dev nD) : (Pipeline.launchCred (fun d => OS d 1) c : sProp 𝕄) ⊢ cr (F := F) c := by
  rw [Pipeline.launchCred_of_sum (fun d => OS d 1) TT sum_OS TT_on c]
  unfold TT cr
  refine BIBase.Entails.trans (cred_add _ _).1 (sep_mono_right ?_)
  refine BIBase.Entails.trans (cred_add _ _).1 (sep_mono_right ?_)
  refine BIBase.Entails.trans (cred_add _ _).1 (sep_mono_right ?_)
  refine BIBase.Entails.trans (cred_add _ _).1 (BIClass.sep_mono ?_ ?_)
  · by_cases h : c = 0
    · rw [if_pos h, if_pos h]; iintro H; iempintro
    · rw [if_neg h, if_neg h]
  refine BIBase.Entails.trans (cred_add _ _).1 (sep_mono_left ?_)
  rw [Pipeline.cred_finsetSum]
  refine bmono fun j _ => ?_
  by_cases h : j < tz c
  · rw [if_pos h, if_pos h]
  · rw [if_neg h, if_neg h]; iintro H; iempintro

end Cert.KernelIdealProof
-- ==== Proof.KernelIdeal.Oblig.lean ====
/- The launch: the body obligation of the pipeline, the ghost state, and the run of the whole program. -/
module

public import proofs.«01_k».proof.Proof.KernelIdeal.Body
public import proofs.«01_k».proof.Proof.KernelIdeal.Tokens
public import proofs.«01_k».proof.Proof.Gen.KernelIdeal.Points

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## The kernel's semaphores -/

/-- The kernel's own semaphores: all of the protocol but the entry barrier. -/
abbrev osem : Fin 44 → SemLoc sig := fun k => csem k.castSucc

theorem ownSemFacts : Pipeline.OwnSemFacts cfg0.spec osem := by decide +kernel

theorem sems0_eq (c : Dev nD) : iprop(Pipeline.ownSems0 (Ix := Unit) (Name := ℕ) (U := UU) (Lvl := ℕ) (Val := Elt F) (τ := τ) osem c ∗ unscopedSems0 c)
    = (bigSep Finset.univ fun k : Fin 45 => semVal (kcell (c, k)) 0 : sProp 𝕄) := by
  have hu : (unscopedSems0 c : sProp 𝕄) = semVal (kcell (c, 44)) 0 := by
    unfold unscopedSems0; rw [bigSep_eq_bigSepL_of_eq [SemLoc.reg (0 : Fin 2)] (by decide) (by decide)]; rfl
  have he : (Finset.univ : Finset (Fin 45)).erase 44 = Finset.univ.map Fin.castSuccEmb := by decide
  rw [hu, bigSep_erase (Finset.mem_univ (44 : Fin 45)), he, bigSep_map]
  unfold Pipeline.ownSems0
  exact equiv_iff.mp ⟨BI.sep_comm, BI.sep_comm⟩

section
variable (m : (ℓ : Loc nD τ sig) → Buf (Elt F) ℓ) (ρ : Dev nD → PrngReg)

def s₀ : MemSt nD τ sig (Elt F) := ⟨m, fun _ => 0, ρ⟩
/-- The devices' staged inputs, and base contents for the buffers, read off the start memory. -/
def II : Ins F where
  x0 c := (win0_0.blk (0 : Fin 1)).view.read (Elt F) ((s₀ m ρ).mem ((c : Thread nD τ).loc main_arg0))
  x1 c := (win0_1.blk (0 : Fin 1)).view.read (Elt F) ((s₀ m ρ).mem ((c : Thread nD τ).loc main_arg1))
  x2 c := (win0_2.blk (0 : Fin 1)).view.read (Elt F) ((s₀ m ρ).mem ((c : Thread nD τ).loc main_arg2))
  x3 c := (win0_3.blk (0 : Fin 1)).view.read (Elt F) ((s₀ m ρ).mem ((c : Thread nD τ).loc main_arg3))
  x4 c := (win0_4.blk (0 : Fin 1)).view.read (Elt F) ((s₀ m ρ).mem ((c : Thread nD τ).loc main_arg4))
  b0 := (s₀ m ρ).mem (((0 : Dev nD) : Thread nD τ).loc cc0_scratch0)
  b1 := (s₀ m ρ).mem (((0 : Dev nD) : Thread nD τ).loc cc0_scratch1)
  b2 := (s₀ m ρ).mem (((0 : Dev nD) : Thread nD τ).loc cc0_scratch2)
  b3 := (s₀ m ρ).mem (((0 : Dev nD) : Thread nD τ).loc cc0_scratch3)
  b4 := (s₀ m ρ).mem (((0 : Dev nD) : Thread nD τ).loc cc0_scratch4)
  b5 := (s₀ m ρ).mem (((0 : Dev nD) : Thread nD τ).loc cc0_scratch5)
  b6 := (s₀ m ρ).mem (((0 : Dev nD) : Thread nD τ).loc cc0_stg5_0)
end

variable (I : Ins F)

def lin (c : Dev nD) : sProp 𝕄 := iprop((bigSep Finset.univ fun k : Fin 45 => pos (F := F) (c, k) 0) ∗ payTok (F := F) c)
/-- What the global step leaves with a device. -/
def Gd (c : Dev nD) : sProp 𝕄 := iprop(∃ K, records (CC I) K ∗ lin (F := F) c)
def start (c : Dev nD) : sProp 𝕄 := iprop(Gd I c ∗ cr (F := F) c ∗ levAts L lv)
abbrev scr (c : Dev nD) : sProp 𝕄 := Pipeline.scopedRest cfg0.spec c
def Φ₀ (c : Dev nD) : sProp 𝕄 := iprop(start I c ∗ scr (F := F) c)
def Φ₁ (c : Dev nD) : sProp 𝕄 := iprop((bigSep Finset.univ fun k : Fin 45 => semVal (kcell (c, k)) 0) ∗ scr (F := F) c)

theorem scr_eq (c : Dev nD) : scr (F := F) c = iprop((∃ f, kvPts (F := F) c fullShare f) ∗ (∃ f, rcW (F := F) c f) ∗ (∃ f, glPts (F := F) c fullShare f) ∗ (∃ f, acPts (F := F) c f) ∗ (∃ f, rdW (F := F) c f) ∗ ∃ f, cxPts (F := F) c f) := by
  show Pipeline.scopedRest spec0 c = _
  rw [scopedRest0_eq]; rfl

/-- The ghost pieces in the shape the body's chain takes them. -/
def preA (c : Dev nD) : sProp 𝕄 :=
  iprop(SigA (F := F) c 1 ∗ SigX (F := F) c 66 ∗ crd (c, 44) 31 ∗ pos (c, 44) 0 ∗ crd (c, 43) 31 ∗ pos (c, 43) 0 ∗ tok (c, 0) c ∗ tok (sh c 1, 2) c ∗ tok (c, 1) c ∗ tok (sh c 31, 3) c ∗ crd (c, 2) Nkv ∗ crd (c, 3) Nkv ∗ pos (c, 0) 0 ∗ pos (c, 1) 0 ∗ pos (c, 2) 0 ∗ pos (c, 3) 0)
def preB (c : Dev nD) : sProp 𝕄 :=
  iprop(G0 (F := F) c ∗ W0 (F := F) c ∗ RT0 (F := F) c ∗ MgIn (F := F) 0 c ∗ MgIn (F := F) 1 c ∗ MgIn (F := F) 2 c ∗ MgIn (F := F) 3 c ∗ MgIn (F := F) 4 c)
def spare (c : Dev nD) : sProp 𝕄 := iprop(keep5 (F := F) c ∗ bigSep (Finset.univ.filter fun k => payers c k = ∅) fun k => pos (F := F) (c, k) 0)

theorem gl_in (c : Dev nD) : iprop((∃ f, glPts (F := F) c fullShare f) ∗ GT0 (F := F) c ∗ Gs c (fun k => pos (F := F) (c, k) 0) ∗ (if c = 0 then iprop(emp) else crd (F := F) (c, 36) Ngl))
    ⊢ iprop((if c ≠ 0 then iprop(∃ f, glPts (F := F) c fullShare f) else iprop(emp)) ∗ G0 (F := F) c ∗ W0 (F := F) c) := by
  unfold GT0 Gs G0 W0
  by_cases h : c = 0
  · subst h
    rw [if_pos rfl, if_pos rfl, if_pos rfl, if_pos rfl, if_pos rfl, if_neg (not_not.2 rfl)]
    iintro ⟨Hg, Ht, Hp, -⟩
    isplitr; · iempintro
    isplitl [Hg Ht]
    · isplitl [Ht] <;> iassumption
    iexact Hp
  · rw [if_neg h, if_neg h, if_neg h, if_neg h, if_neg h, if_pos h]
    iintro ⟨Hg, -, ⟨Hp, Hq⟩, Hc⟩
    isplitl [Hg]; · iexact Hg
    isplitl [Hp Hc]
    · isplitl [Hc] <;> iassumption
    iexact Hq

theorem sigA_in (c : Dev nD) : iprop((bigSep (Finset.Ico 1 32) fun i => tok (F := F) (sh c i, 44) c) ∗ bigSep (Finset.Ico 1 32) fun i => giveTo (F := F) c (sh c i)) ⊢ SigA (F := F) c 1 := by
  unfold SigA; rw [bigSep_sep']

theorem pre_intro (c : Dev nD) :
    iprop(lin (F := F) c ∗ cr (F := F) c ∗ (∃ f, rcW (F := F) c f) ∗ (∃ f, rdW (F := F) c f) ∗ ∃ f, glPts (F := F) c fullShare f)
      ⊢ iprop(preA (F := F) c ∗ preB (F := F) c ∗ spare (F := F) c) := by
  unfold lin cr payTok preA preB spare
  rw [all_eq c, used_eq c]
  iintro ⟨⟨⟨⟨⟨P44, P43, P0, P1, P2, P3⟩, PG, PM⟩, PE⟩, TA, TX, T0, T2, T1, T3, TG, TR⟩, ⟨C44, C2, C3, C36, CM, C43⟩, Hrc, Hrd, Hgl⟩
  ihave Hrc := (rc_split (F := F) c) $$ Hrc
  icases Hrc with ⟨Hr0, Hr1⟩
  ihave Hrd := (rd_split (F := F) c) $$ Hrd
  ihave Hrd := (split5 (F := F) c) $$ Hrd
  icases Hrd with ⟨Hg5, Hk5⟩
  ihave Hgi := (gl_in (F := F) c) $$ [Hgl TG PG C36]
  · isplitl [Hgl]; · iexact Hgl
    isplitl [TG]; · iexact TG
    isplitl [PG]; · iexact PG
    iexact C36
  icases Hgi with ⟨Hgl, HG0, HW0⟩
  unfold give5
  ihave Hgv := (mkGive (F := F) c) $$ [Hr0 Hr1 Hgl Hg5]
  · isplitl [Hr0]; · iexact Hr0
    isplitl [Hr1]; · iexact Hr1
    isplitl [Hgl]; · iexact Hgl
    iexact Hg5
  ihave HSA := (sigA_in (F := F) c) $$ [TA Hgv]
  · isplitl [TA] <;> iassumption
  ihave HM := (mg_in (F := F) c) $$ [CM PM]
  · isplitl [CM] <;> iassumption
  icases HM with ⟨M0, M1, M2, M3, M4⟩
  isplitl [HSA TX C44 P44 C43 P43 T0 T2 T1 T3 C2 C3 P0 P1 P2 P3]
  · isplitl [HSA]; · iexact HSA
    isplitl [TX]; · iexact TX
    isplitl [C44]; · iexact C44
    isplitl [P44]; · iexact P44
    isplitl [C43]; · iexact C43
    isplitl [P43]; · iexact P43
    isplitl [T0]; · iexact T0
    isplitl [T2]; · iexact T2
    isplitl [T1]; · iexact T1
    isplitl [T3]; · iexact T3
    isplitl [C2]; · iexact C2
    isplitl [C3]; · iexact C3
    isplitl [P0]; · iexact P0
    isplitl [P1]; · iexact P1
    isplitl [P2]; · iexact P2
    iexact P3
  isplitl [HG0 HW0 TR M0 M1 M2 M3 M4]
  · isplitl [HG0]; · iexact HG0
    isplitl [HW0]; · iexact HW0
    isplitl [TR]; · iexact TR
    isplitl [M0]; · iexact M0
    isplitl [M1]; · iexact M1
    isplitl [M2]; · iexact M2
    isplitl [M3]; · iexact M3
    iexact M4
  isplitl [Hk5] <;> iassumption

/-- The ghost pieces and buffers the body's chain leaves, apart from the staged windows. -/
def postA (C : Conts F) (c : Dev nD) : sProp 𝕄 :=
  iprop((pos (F := F) (c, 44) 1 ∗ pos (c, 43) 1 ∗ pos (c, 0) 1 ∗ pos (c, 1) 1 ∗ pos (c, 2) 1 ∗ pos (c, 3) 1 ∗ posG (F := F) c)
    ∗ (kvPts c q1 (C.kv c) ∗ kvPts c q2 (C.kv c) ∗ kvPts c q3 (C.kv c)) ∗ (rcPts c 0 (rcLand C c 0) ∗ rcPts c 1 (rcLand C c 1)) ∗ glPts c fullShare C.gl ∗ (∃ a, acPts (F := F) c a) ∗ (∃ x, cxPts (F := F) c x)
    ∗ (MgOut C 0 c ∗ MgOut C 1 c ∗ MgOut C 2 c ∗ MgOut C 3 c ∗ MgOut C 4 c))

theorem posG_eq (c : Dev nD) : posG (F := F) c ⊢ Gs c (fun k => pos (F := F) (c, k) 1) := by
  unfold posG Gs
  by_cases h : c = 0
  · subst h; rw [if_pos rfl]; first | done | exact .refl _ | exact .refl
  · rw [if_neg h, if_neg h]

theorem used_intro (c : Dev nD) (Φ : Fin 45 → sProp 𝕄) : iprop((Φ 44 ∗ Φ 43 ∗ Φ 0 ∗ Φ 1 ∗ Φ 2 ∗ Φ 3) ∗ Gs c Φ ∗ Ms c Φ) ⊢ bigSep (used c) Φ := BIBase.Entails.of_eq (used_eq c Φ).symm

theorem post_elim (C : Conts F) (K : Dev nD × Fin 45 → ℕ) (c : Dev nD) :
    iprop(records C K ∗ postA C c ∗ spare (F := F) c) ⊢ (|={Set.univ}=> Φ₁ (F := F) c : sProp 𝕄) := by
  unfold postA spare Φ₁
  rw [scr_eq]
  iintro ⟨#HR, ⟨⟨P44, P43, P0, P1, P2, P3, PG⟩, HK, HRC, HGL, HA, HX, HM⟩, Hk5, PE⟩
  ihave HK := (kv_join (F := F) c (C.kv c)) $$ HK
  ihave HRC := (rc_join (F := F) c _ _) $$ HRC
  ihave HM := (mg_out (C := C) c) $$ [HM Hk5]
  · isplitl [HM] <;> iassumption
  icases HM with ⟨PM, HRD⟩
  ihave PG := (posG_eq (F := F) c) $$ PG
  ihave PU := (used_intro (F := F) c fun k => pos (F := F) (c, k) 1) $$ [P44 P43 P0 P1 P2 P3 PG PM]
  · isplitl [P44 P43 P0 P1 P2 P3]
    · isplitl [P44]; · iexact P44
      isplitl [P43]; · iexact P43
      isplitl [P0]; · iexact P0
      isplitl [P1]; · iexact P1
      isplitl [P2]; · iexact P2
      iexact P3
    isplitl [PG] <;> iassumption
  imod (close_all (C := C) (K := K) c) $$ [PU PE] with HZ
  · isplitr; · iexact HR
    isplitl [PU] <;> iassumption
  imodintro
  isplitl [HZ]; · iexact HZ
  isplitl [HK]; · iexists _; iexact HK
  isplitl [HRC]; · iexact HRC
  isplitl [HGL]; · iexists _; iexact HGL
  isplitl [HA]; · iexact HA
  isplitl [HRD]; · iexact HRD
  iexact HX

theorem out_eq (c : Dev nD) (fc : CCx F) (fo : COu F) :
    ou43 (EE I c) (cxE c (mst (CC I) c 4 (mst (CC I) c 3 (mst (CC I) c 2 (mst (CC I) c 1 (mst (CC I) c 0 (acc0 I c)))))) (cxAll (EE I c) fc)) fo = outOf I c := by
  rw [← ac_eq I c, EE_cx I c fc]
  exact ou43_indep _ _ _ _

theorem out_pts (c : Dev nD) (fc : CCx F) (fo : COu F) :
    ouPts (EE I c).c (ou43 (EE I c) (cxE (EE I c).c (mst (CC I) (EE I c).c 4 (mst (CC I) (EE I c).c 3 (mst (CC I) (EE I c).c 2 (mst (CC I) (EE I c).c 1 (mst (CC I) (EE I c).c 0 (acc0 I c)))))) (cxAll (EE I c) fc)) fo) = ouPts c (outOf I c) := congrArg (ouPts c) (out_eq I c fc fo)

/-- The body from a device's ghost state and buffers, to its closed semaphores. -/
theorem body_run (c : Dev nD) (fo : COu F) {Q : PUnit → sProp 𝕄} :
    iprop(Φ₀ I c ∗ OWs c 1 ∗ x0Pts (EE I c) ∗ x1Pts (EE I c) ∗ x2Pts (EE I c) ∗ x3Pts (EE I c) ∗ x4Pts (EE I c) ∗ ouPts c fo
        ∗ ((Φ₁ (F := F) c ∗ OWs c 97 ∗ x0Pts (EE I c) ∗ x1Pts (EE I c) ∗ x2Pts (EE I c) ∗ x3Pts (EE I c) ∗ x4Pts (EE I c) ∗ ouPts c (outOf I c)) -∗ Q ⟨⟩))
      ⊢ wp frame (wpE (defs₀ (F := F)) 𝒱₀ (c : Thread nD τ) none) Set.univ (cc0_body (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0) Q := by
  refine BIBase.Entails.trans ?_ (wp_fupd _ _ Set.univ _ _)
  unfold Φ₀ start Gd
  rw [scr_eq]
  iintro ⟨⟨⟨⟨%K, #HR, Hlin⟩, Hcr, #HL⟩, ⟨%fk, HK⟩, Hrc, Hgl, ⟨%fa, HA⟩, Hrd, ⟨%fc, HX⟩⟩, HO, X0, X1, X2, X3, X4, HU, HQ⟩
  ihave Hp := (pre_intro (F := F) c) $$ [Hlin Hcr Hrc Hrd Hgl]
  · isplitl [Hlin]; · iexact Hlin
    isplitl [Hcr]; · iexact Hcr
    isplitl [Hrc]; · iexact Hrc
    isplitl [Hrd]; · iexact Hrd
    iexact Hgl
  unfold preA preB
  icases Hp with ⟨⟨HSA, TX, C44, P44, C43, P43, T0, T2, T1, T3, C2, C3, P0, P1, P2, P3⟩, ⟨HG0, HW0, TR, M0, M1, M2, M3, M4⟩, Hsp⟩
  iapply (body_chain (CC I) K (EE I c) (acc0 I c) (EE_kv I c) rfl rfl (EE_gl I c) rfl rfl (EE_ac I c) (ac_eq I c) fk fa fc fo) $$ [-]
  isplitr
  · isplitr; · iexact HR
    iexact HL
  isplitl [HO]; · iexact HO
  isplitl [HSA]; · iexact HSA
  isplitl [TX]; · iexact TX
  isplitl [C44]; · iexact C44
  isplitl [P44]; · iexact P44
  isplitl [C43]; · iexact C43
  isplitl [P43]; · iexact P43
  isplitl [T0]; · iexact T0
  isplitl [T2]; · iexact T2
  isplitl [T1]; · iexact T1
  isplitl [T3]; · iexact T3
  isplitl [C2]; · iexact C2
  isplitl [C3]; · iexact C3
  isplitl [P0]; · iexact P0
  isplitl [P1]; · iexact P1
  isplitl [P2]; · iexact P2
  isplitl [P3]; · iexact P3
  isplitl [X0]; · iexact X0
  isplitl [X1]; · iexact X1
  isplitl [X2]; · iexact X2
  isplitl [X3]; · iexact X3
  isplitl [X4]; · iexact X4
  isplitl [HU]; · iexact HU
  isplitl [HK]; · iexact HK
  isplitl [HA]; · iexact HA
  isplitl [HX]; · iexact HX
  isplitl [HG0]; · iexact HG0
  isplitl [HW0]; · iexact HW0
  isplitl [TR]; · iexact TR
  isplitl [M0]; · iexact M0
  isplitl [M1]; · iexact M1
  isplitl [M2]; · iexact M2
  isplitl [M3]; · iexact M3
  isplitl [M4]; · iexact M4
  iintro ⟨HO, P44, P43, P0, P1, P2, P3, PG, X0, X1, X2, X3, X4, HU, K1, K2, K3, R0, R1, HGL, HA, HX, M0, M1, M2, M3, M4⟩
  imod (post_elim (CC I) K c) $$ [P44 P43 P0 P1 P2 P3 PG K1 K2 K3 R0 R1 HGL HA HX M0 M1 M2 M3 M4 Hsp] with HF
  · isplitr; · iexact HR
    isplitr [Hsp]
    · unfold postA
      isplitl [P44 P43 P0 P1 P2 P3 PG]
      · isplitl [P44]; · iexact P44
        isplitl [P43]; · iexact P43
        isplitl [P0]; · iexact P0
        isplitl [P1]; · iexact P1
        isplitl [P2]; · iexact P2
        isplitl [P3]; · iexact P3
        iexact PG
      isplitl [K1 K2 K3]
      · isplitl [K1]; · iexact K1
        isplitl [K2]; · iexact K2
        iexact K3
      isplitl [R0 R1]
      · isplitl [R0]; · iexact R0
        iexact R1
      isplitl [HGL]; · iexact HGL
      isplitl [HA]; · iexact HA
      isplitl [HX]; · iexists _; iexact HX
      isplitl [M0]; · iexact M0
      isplitl [M1]; · iexact M1
      isplitl [M2]; · iexact M2
      isplitl [M3]; · iexact M3
      iexact M4
    iexact Hsp
  imodintro
  ihave HU := (BIBase.Entails.of_eq (out_pts I c fc fo)) $$ HU
  iapply HQ
  isplitl [HF]; · iexact HF
  isplitl [HO]; · iexact HO
  isplitl [X0]; · iexact X0
  isplitl [X1]; · iexact X1
  isplitl [X2]; · iexact X2
  isplitl [X3]; · iexact X3
  isplitl [X4]; · iexact X4
  iexact HU

section Launch
variable (m : (ℓ : Loc nD τ sig) → Buf (Elt F) ℓ) (ρ : Dev nD → PrngReg)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (II m ρ).x0 c
    | ⟨1, _⟩ => (II m ρ).x1 c
    | ⟨2, _⟩ => (II m ρ).x2 c
    | ⟨3, _⟩ => (II m ρ).x3 c
    | ⟨4, _⟩ => (II m ρ).x4 c
    | ⟨5, _⟩ => outOf (II m ρ) c
  Φ t := match t with
    | ⟨0, _⟩ => Φ₀ (II m ρ) c
    | ⟨_ + 1, _⟩ => Φ₁ c
  q _ := fullShare
  owed t := match t with
    | ⟨0, _⟩ => OS c 1
    | ⟨_ + 1, _⟩ => 0

omit [FloatOps F] [Named F] in
theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ (II m ρ) c ∗ (dats m ρ 0 c).owesAt () t₀.castSucc
    ∗ (∃ d, stg c cc0_stg0_0 ((dats m ρ 0 c).before (0 : Fin 6) t₀ d)) ∗ (∃ d, stg c cc0_stg1_0 ((dats m ρ 0 c).before (1 : Fin 6) t₀ d))
    ∗ (∃ d, stg c cc0_stg2_0 ((dats m ρ 0 c).before (2 : Fin 6) t₀ d)) ∗ (∃ d, stg c cc0_stg3_0 ((dats m ρ 0 c).before (3 : Fin 6) t₀ d))
    ∗ (∃ d, stg c cc0_stg4_0 ((dats m ρ 0 c).before (4 : Fin 6) t₀ d)) ∗ (∃ d, stg c cc0_stg5_0 ((dats m ρ 0 c).before (5 : Fin 6) t₀ d)))
def bodyPost (c : Dev nD) : sProp 𝕄 :=
  iprop(Φ₁ (F := F) c ∗ (dats m ρ 0 c).owesAt () t₀.succ
    ∗ stg c cc0_stg0_0 ((II m ρ).x0 c) ∗ stg c cc0_stg1_0 ((II m ρ).x1 c) ∗ stg c cc0_stg2_0 ((II m ρ).x2 c) ∗ stg c cc0_stg3_0 ((II m ρ).x3 c) ∗ stg c cc0_stg4_0 ((II m ρ).x4 c) ∗ stg c cc0_stg5_0 (outOf (II m ρ) c))

theorem owes_in (c : Dev nD) : (dats m ρ 0 c).owesAt () t₀.castSucc ⊢ OWs (F := F) c 1 := by
  unfold Dat.owesAt Pipeline.owesWithin OWs
  rw [show (dats m ρ 0 c).owed t₀.castSucc = OS c 1 from rfl]
  iintro ⟨%W, %hW, HO⟩
  iexists W; iexact HO
theorem owes_out (c : Dev nD) : OWs (F := F) c 97 ⊢ (dats m ρ 0 c).owesAt () t₀.succ := by
  unfold Dat.owesAt Pipeline.owesWithin OWs
  rw [show (dats m ρ 0 c).owed t₀.succ = 0 from rfl, OS_end]
  iintro ⟨%W, HO⟩
  iexists W
  isplitr; · ipureintro; exact fun _ _ => Or.inl trivial
  iexact HO

theorem win_0 (c : Dev nD) : (∃ d, stg c cc0_stg0_0 ((dats m ρ 0 c).before (0 : Fin 6) t₀ d)) ⊢ x0Pts (EE (II m ρ) c) := by
  iintro ⟨%d, %g, %hg, H⟩
  have h : g = (II m ρ).x0 c := by rw [hg]; unfold Dat.before; rw [if_pos (fetch0_0 t₀)]; rfl
  subst h
  unfold x0Pts; iexact H
theorem win_1 (c : Dev nD) : (∃ d, stg c cc0_stg1_0 ((dats m ρ 0 c).before (1 : Fin 6) t₀ d)) ⊢ x1Pts (EE (II m ρ) c) := by
  iintro ⟨%d, %g, %hg, H⟩
  have h : g = (II m ρ).x1 c := by rw [hg]; unfold Dat.before; rw [if_pos (fetch0_1 t₀)]; rfl
  subst h
  unfold x1Pts; iexact H
theorem win_2 (c : Dev nD) : (∃ d, stg c cc0_stg2_0 ((dats m ρ 0 c).before (2 : Fin 6) t₀ d)) ⊢ x2Pts (EE (II m ρ) c) := by
  iintro ⟨%d, %g, %hg, H⟩
  have h : g = (II m ρ).x2 c := by rw [hg]; unfold Dat.before; rw [if_pos (fetch0_2 t₀)]; rfl
  subst h
  unfold x2Pts; iexact H
theorem win_3 (c : Dev nD) : (∃ d, stg c cc0_stg3_0 ((dats m ρ 0 c).before (3 : Fin 6) t₀ d)) ⊢ x3Pts (EE (II m ρ) c) := by
  iintro ⟨%d, %g, %hg, H⟩
  have h : g = (II m ρ).x3 c := by rw [hg]; unfold Dat.before; rw [if_pos (fetch0_3 t₀)]; rfl
  subst h
  unfold x3Pts; iexact H
theorem win_4 (c : Dev nD) : (∃ d, stg c cc0_stg4_0 ((dats m ρ 0 c).before (4 : Fin 6) t₀ d)) ⊢ x4Pts (EE (II m ρ) c) := by
  iintro ⟨%d, %g, %hg, H⟩
  have h : g = (II m ρ).x4 c := by rw [hg]; unfold Dat.before; rw [if_pos (fetch0_4 t₀)]; rfl
  subst h
  unfold x4Pts; iexact H

set_option maxRecDepth 8000 in
theorem sound_body (c : Dev nD) : bodyPre m ρ c ⊢ wp frame (wpE (defs₀ (F := F)) 𝒱₀ (c : Thread nD τ) none) Set.univ (cc0_body (.whole cc0_stg0_0) (isW _) (.whole cc0_stg1_0) (isW _) (.whole cc0_stg2_0) (isW _) (.whole cc0_stg3_0) (isW _) (.whole cc0_stg4_0) (isW _) (.whole cc0_stg5_0) (isW _) (.whole cc0_scratch0) (isW _) (.whole cc0_scratch1) (isW _) (.whole cc0_scratch2) (isW _) (.whole cc0_scratch3) (isW _) (.whole cc0_scratch4) (isW _) (.whole cc0_scratch5) (isW _) cc0_scratch6 cc0_scratch7 cc0_scratch8 cc0_scratch9 cc0_scratch10 cc0_scratch11 cc0_scoped0) (fun _ => bodyPost m ρ c) := by
  unfold bodyPre
  iintro ⟨HF, HO, H0, H1, H2, H3, H4, ⟨%d5, %g5, %hg5, HU⟩⟩
  ihave HO := (owes_in m ρ c) $$ HO
  ihave H0 := (win_0 m ρ c) $$ H0
  ihave H1 := (win_1 m ρ c) $$ H1
  ihave H2 := (win_2 m ρ c) $$ H2
  ihave H3 := (win_3 m ρ c) $$ H3
  ihave H4 := (win_4 m ρ c) $$ H4
  iapply (body_run (II m ρ) c g5) $$ [-]
  isplitl [HF]; · iexact HF
  isplitl [HO]; · iexact HO
  isplitl [H0]; · iexact H0
  isplitl [H1]; · iexact H1
  isplitl [H2]; · iexact H2
  isplitl [H3]; · iexact H3
  isplitl [H4]; · iexact H4
  isplitl [HU]; · unfold ouPts; iexact HU
  unfold bodyPost x0Pts x1Pts x2Pts x3Pts x4Pts ouPts
  iintro ⟨HF, HO, H0, H1, H2, H3, H4, HU⟩
  isplitl [HF]; · iexact HF
  isplitl [HO]; · iapply (owes_out m ρ c) $$ HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact HU

set_option maxRecDepth 8000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

end Launch

end Cert.KernelIdealProof
-- ==== Proof.KernelIdeal.Launch.lean ====
/- The run of the whole program. -/
module

public import proofs.«01_k».proof.Proof.KernelIdeal.Oblig
public import Idealize.ShloMosaic.Lib.Pipeline.CollectiveSegs

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

theorem kcell_injective : Function.Injective (kcell : Dev nD × Fin 45 → GSem nD τ sig) := by
  rintro ⟨c, k⟩ ⟨c', k'⟩ h
  have h1 : c = c' := congrArg (fun g : GSem nD τ sig => g.1.1) h
  have h2 : csem k = csem k' := congrArg Prod.snd h
  have h3 : some k = some k' := by rw [← cidx_csem k, ← cidx_csem k', h2]
  rw [h1, Option.some.inj h3]
def ringCells : Finset (GSem nD τ sig) := Finset.univ.map ⟨kcell, kcell_injective⟩
abbrev tokOf (x : Dev nD × Fin 45 × Dev nD) : GSem nD τ sig × ℕ × Dev nD := (kcell (x.1, x.2.1), 0, x.2.2)
theorem tokOf_injective : Function.Injective tokOf := by
  rintro ⟨c, k, p⟩ ⟨c', k', p'⟩ h
  have h1 := kcell_injective (congrArg Prod.fst h)
  have h2 : p = p' := congrArg (fun x => x.2.2) h
  have h3 : c = c' := congrArg Prod.fst h1
  have h4 : k = k' := congrArg Prod.snd h1
  rw [h2, h3, h4]
def ringToks : Finset (GSem nD τ sig × ℕ × Dev nD) := Finset.univ.map ⟨tokOf, tokOf_injective⟩

def u₀ : UU := (initOf (Pipeline.cells cfgs cellOf_inj) (Pipeline.launchToks cfgs cellOf_inj), initOf ringCells ringToks)

section
variable (C : Conts F)

/-- What the launch deals a device. -/
def G (c : Dev nD) : sProp 𝕄 :=
  iprop((bigSep Finset.univ fun k : Fin 45 => roundState ER (sched C) (kcell (c, k)) 0)
    ∗ (bigSep Finset.univ fun k : Fin 45 => iprop(pos (F := F) (c, k) 0 ∗ reached ER (kcell (c, k)) 0)) ∗ toks (F := F) c)

theorem fund_ring : BI.own (ER (initOf ringCells ringToks)) ⊢ (|==> bigSep Finset.univ (G C) : sProp 𝕄) := by
  have hX (Φ : GSem nD τ sig → sProp 𝕄) : bigSep ringCells Φ = bigSep Finset.univ fun c : Dev nD => bigSep Finset.univ fun k : Fin 45 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    refine bigSep_congr fun c _ => ?_
    rw [bigSep_univ_prod]; rfl
  iintro HX
  imod (Rounds.fund ER (sched C) ringCells ringToks) $$ HX with ⟨Hst, Hr, Hat, Htok⟩
  imodintro
  ihave Hst' := (Entails.of_eq (hX fun g => roundState ER (sched C) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G C c)
      ⊢ |={Set.univ}=> iprop((bigSep Finset.univ fun k => iprop(∃ κ : ℕ, cellInv ER (sched C) κ (kcell (c, k))))
          ∗ (bigSep Finset.univ fun k => iprop(pos (F := F) (c, k) 0 ∗ reached ER (kcell (c, k)) 0)) ∗ toks (F := F) c) := by
  unfold G
  iintro ⟨Hos, Hus, Hst, Hat, Htok⟩
  ihave Hv := (BIBase.Entails.of_eq (sems0_eq (F := F) c)) $$ [Hos Hus]
  · isplitl [Hos] <;> iassumption
  imod (show iprop((bigSep Finset.univ fun k : Fin 45 => semVal (kcell (c, k)) 0) ∗ bigSep Finset.univ fun k : Fin 45 => roundState ER (sched C) (kcell (c, k)) 0)
      ⊢ (|={Set.univ}=> bigSep Finset.univ fun k => iprop(∃ κ : ℕ, cellInv ER (sched C) κ (kcell (c, k))) : sProp 𝕄) from by
        rw [← bigSep_sep']
        exact (bigSep_mono fun k _ => (Rounds.body_intro ER (sched C) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def Gr (c : Dev nD) : sProp 𝕄 := iprop(∃ K, records C K ∗ lin (F := F) c)

theorem regroup :
    (bigSep Finset.univ fun c : Dev nD => iprop((bigSep Finset.univ fun k => iprop(∃ κ : ℕ, cellInv ER (sched C) κ (kcell (c, k))))
          ∗ (bigSep Finset.univ fun k => iprop(pos (F := F) (c, k) 0 ∗ reached ER (kcell (c, k)) 0)) ∗ toks (F := F) c) : sProp 𝕄)
      ⊢ bigSep Finset.univ (Gr C) := by
  rw [bigSep_sep', bigSep_sep', ← bigSep_univ_prod (fun ck : Dev nD × Fin 45 => iprop(∃ κ : ℕ, cellInv ER (sched C) κ (kcell ck))),
    bigSep_congr (s := Finset.univ) (fun (c : Dev nD) _ => bigSep_sep' Finset.univ (fun k : Fin 45 => pos (F := F) (c, k) 0) (fun k => reached ER (kcell (c, k)) 0)),
    bigSep_sep', ← bigSep_univ_prod (fun ck : Dev nD × Fin 45 => (reached ER (kcell ck) 0 : sProp 𝕄))]
  iintro ⟨HI, ⟨Hat, #HR⟩, Htok⟩
  ihave HK := (BI.bigSep_exists_pi Finset.univ (fun (ck : Dev nD × Fin 45) (κ : ℕ) => (cellInv ER (sched C) κ (kcell ck) : sProp 𝕄))) $$ HI
  icases HK with ⟨%K, #HI⟩
  ihave Htk := (toks_around (F := F)) $$ Htok
  iapply (bigSep_with_persistent (S := Finset.univ) (R := records C K) (Φ := fun c => lin (F := F) c) (Ψ := Gr C) fun c _ => (by
    unfold Gr; iintro ⟨#H, Hl⟩; iexists K; isplitr; · iexact H
    iexact Hl))
  isplitr
  · unfold records; isplitl; · iexact HI
    iexact HR
  · iapply (Entails.of_eq (bigSep_sep' Finset.univ (fun c : Dev nD => bigSep Finset.univ fun k : Fin 45 => pos (F := F) (c, k) 0) (payTok (F := F))).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G C c) : sProp 𝕄)
    ⊢ |={Set.univ}=> bigSep Finset.univ (Gr C) :=
  ((bigSep_mono fun c _ => core_alloc C c).trans (bigSep_fupd _ _)).trans (BI.fupd_mono (regroup C))
end

section
variable (m : (ℓ : Loc nD τ sig) → Buf (Elt F) ℓ) (ρ : Dev nD → PrngReg)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => OS d 1) c ∗ prngReg c (ρ c) ∗ Gr (CC (II m ρ)) c)
      ⊢ |={Set.univ}=> iprop(start (II m ρ) c ∗ emp) := by
  iintro ⟨-, Hlev, Hcr, -, HG⟩
  ihave Hc := (creds (F := F) c) $$ Hcr
  imodintro
  unfold start Gd Gr
  isplitl
  · isplitl [HG]; · iexact HG
    isplitl [Hc]; · iexact Hc
    iexact Hlev
  · iempintro

theorem phi0_intro (c : Dev nD) :
    iprop(start (II m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (II m ρ) c from rfl]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  rw [← sems0_eq]
  iintro ⟨⟨Ho, Hu⟩, Hr⟩
  isplitl [Hu]; · iexact Hu
  isplitl [Ho] <;> iassumption

theorem lvl_pos {c : Dev nD} {i : ℕ} {x} (h : dst c i = some x) : 0 < lvl x.2 := by
  rw [lvl_dst h]; split_ifs <;> omega

theorem waits (c : Dev nD) : (levAts L lv : sProp 𝕄) ⊢ Pipeline.cellsWaits cfgs (dats m ρ) () 0 c :=
  Pipeline.cellsWaits_intro cfgs (dats m ρ) () 0 c fun w s t => by
    have hl : lv ((c : Thread nD τ), .dma (((cfgs 0).win w).sem s)) () = 0 := by fin_cases w <;> fin_cases s <;> rfl
    rcases t with ⟨_ | n, ht⟩
    · exact mayWait c _ 1 0 hl fun i _ _ x hx => lvl_pos hx
    · show _ ⊢ MayWait (c : Thread nD τ) _ () 0
      rw [← OS_end c]
      exact mayWait c _ 97 0 hl fun i h1 h2 => absurd h1 (by omega)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every weakly fair execution of the 32 devices terminates, and every
    final state has each device's result array at the computed contents, the inputs unchanged and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => OS d 1) (howed₀ := fun _ => rfl) (howedN := fun _ => rfl)
    (L := L) (lv := lv) (hL := L_of_ne) (hwaits := waits m ρ)
    (G := G (CC (II m ρ))) (G' := Gr (CC (II m ρ))) (u₀ := u₀)
    (hu₀ := by
      unfold u₀
      iintro Hu
      ihave H := (ownU_pair _ _) $$ Hu
      icases H with ⟨HP, HX⟩
      imod (fund_ring (CC (II m ρ))) $$ HX with HG
      imodintro
      isplitl [HP] <;> iassumption)
    (hglob := glob (CC (II m ρ)))
    (hA := fun _ _ => rfl) (hpf := fun _ k => k.elim0)
    (X := start (II m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end

end Cert.KernelIdealProof
-- ==== Proof.KernelIdeal.Frames.lean ====
/- What the run leaves in the arguments and the result, for any float values, and the same for the program with the mask's constant as printed. -/
module

public import proofs.«01_k».proof.Proof.KernelIdeal.Launch
public import proofs.«01_k».proof.Proof.Gen.Kernel

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

section
variable {F : FTy → Type} [FloatOps F] [Named F] (m : (ℓ : Loc nD τ sig) → Buf (Elt F) ℓ) (ρ : Dev nD → PrngReg)

/-- An input window's array is at the end what it was at the start. -/
theorem finalA_in (c : Dev nD) (w : Fin cfg0.W) (h : (cfg0.win w).isOut = false) :
    finalA m ρ c w = m ((cfg0.win w).arr.view.loc (c : Thread nD τ)) :=
  (dats m ρ 0 c).arrAt_in w h _

/-- The whole run: arguments unchanged, result at the computed contents, counters at zero. -/
theorem run_all : θ_run defs (onTc (τ := τ) (main (F := F))) ⟨m, fun _ => 0, ρ⟩ (fun r => (∀ c : Dev nD,
      r.2.mem ((c.tc : Thread nD τ).loc main_v1) = finalA m ρ c (5 : Fin 6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨h.1 c (5 : Fin 6), (h.1 c (0 : Fin 6)).trans (finalA_in m ρ c 0 rfl), (h.1 c (1 : Fin 6)).trans (finalA_in m ρ c 1 rfl),
      (h.1 c (2 : Fin 6)).trans (finalA_in m ρ c 2 rfl), (h.1 c (3 : Fin 6)).trans (finalA_in m ρ c 3 rfl),
      (h.1 c (4 : Fin 6)).trans (finalA_in m ρ c 4 rfl)⟩, h.2⟩) (run_main m ρ)

/-- Its part about the arguments and the counters. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_all m ρ)
end

/-! ### The program with the mask's constant as printed -/

section
variable {F : FTy → Type} [FloatOps F]

/-- A named constant read as the constant printed: read so, the two programs are one. -/
abbrev plain : Named F where
  named _ _ {φ} bits := Scalar.ofBits φ bits

set_option maxRecDepth 20000 in
set_option maxHeartbeats 4000000 in
theorem plain_body (fk : Cert.Kernel.Facts) (fi : Cert.KernelIdeal.Facts) : @Cert.Kernel.cc0_body F _ fk = @Cert.KernelIdeal.cc0_body F _ plain fi := rfl

set_option maxRecDepth 20000 in
set_option maxHeartbeats 4000000 in
/-- The two body tables are one. -/
theorem plain_defs0 (fk : Cert.Kernel.Facts) (fi : Cert.KernelIdeal.Facts) : @Cert.Kernel.defs₀ F _ fk = @Cert.KernelIdeal.defs₀ F _ plain fi := by
  unfold Cert.Kernel.defs₀ Cert.KernelIdeal.defs₀
  refine congrArg (Defs.onTc (nD := Cert.Kernel.nD) (τ := Cert.Kernel.τ) (sig := Cert.Kernel.sig) (Val := Elt F) (Λ := Cert.Kernel.Λ₀)) (funext fun l => funext fun a => ?_)
  match l, a with
  | ⟨0, _⟩, (t, s) => rfl

/-- So are the two programs' tables. -/
theorem plain_defs (fk : Cert.Kernel.Facts) (fi : Cert.KernelIdeal.Facts) : @Cert.Kernel.defs F _ fk = @Cert.KernelIdeal.defs F _ plain fi := by
  unfold Cert.Kernel.defs Cert.KernelIdeal.defs
  rw [plain_defs0 fk fi]
  rfl

/-- The frame of the program as printed. -/
theorem plain_run (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  rw [plain_defs Cert.Kernel.Gen.facts Cert.KernelIdeal.Gen.facts]
  exact @frame_all F _ plain m ρ
end

end Cert.KernelIdealProof
-- ==== Proof.KernelIdeal.Alg.lean ====
/- The value claim: on finite inputs the kernel's results are the blocks of the reference's. -/
module

public import proofs.«01_k».proof.Proof.KernelIdeal.GloVal
public import proofs.«01_k».proof.Proof.KernelIdeal.PreAt
public import proofs.«01_k».proof.Proof.KernelIdeal.Frames
public import proofs.«01_k».proof.Defs

@[expose] public section

set_option maxRecDepth 16384

noncomputable section

namespace Cert.KernelIdealProof

open Cert.KernelIdeal Cert.KernelIdeal.Gen
open Idealize.ShloMosaic
open Idealize.ShloMosaic.TcCoe

open Cert.ReferenceIdeal (S2x4096x512 S2x4096x4x64)
open RefV (OUT)

section
variable (m : (ℓ : Loc nD τ sig) → Buf (Elt Ideal) ℓ) (ρ : Dev nD → PrngReg)
theorem in0 (c : Dev nD) : (II m ρ).x0 c = m ((c.tc : Thread nD τ).loc main_arg0) := by
  have hr := fun f => Memref.read_access_unit_zero (Elt Ideal) main_arg0 (show (fun a => (win0_0.index (0 : Fin 1)) a * main_arg0.ty.shape.size a) = fun _ => 0 from funext fun a => by fin_cases a <;> decide) (fun a => by fin_cases a <;> decide) f
  exact hr (m ((c.tc : Thread nD τ).loc main_arg0))
theorem in1 (c : Dev nD) : (II m ρ).x1 c = m ((c.tc : Thread nD τ).loc main_arg1) := by
  have hr := fun f => Memref.read_access_unit_zero (Elt Ideal) main_arg1 (show (fun a => (win0_1.index (0 : Fin 1)) a * main_arg1.ty.shape.size a) = fun _ => 0 from funext fun a => by fin_cases a <;> decide) (fun a => by fin_cases a <;> decide) f
  exact hr (m ((c.tc : Thread nD τ).loc main_arg1))
theorem in2 (c : Dev nD) : (II m ρ).x2 c = m ((c.tc : Thread nD τ).loc main_arg2) := by
  have hr := fun f => Memref.read_access_unit_zero (Elt Ideal) main_arg2 (show (fun a => (win0_2.index (0 : Fin 1)) a * main_arg2.ty.shape.size a) = fun _ => 0 from funext fun a => by fin_cases a <;> decide) (fun a => by fin_cases a <;> decide) f
  exact hr (m ((c.tc : Thread nD τ).loc main_arg2))
theorem in3 (c : Dev nD) : (II m ρ).x3 c = m ((c.tc : Thread nD τ).loc main_arg3) := by
  have hr := fun f => Memref.read_access_unit_zero (Elt Ideal) main_arg3 (show (fun a => (win0_3.index (0 : Fin 1)) a * main_arg3.ty.shape.size a) = fun _ => 0 from funext fun a => by fin_cases a <;> decide) (fun a => by fin_cases a <;> decide) f
  exact hr (m ((c.tc : Thread nD τ).loc main_arg3))
theorem in4 (c : Dev nD) : (II m ρ).x4 c = m ((c.tc : Thread nD τ).loc main_arg4) := by
  have hr := fun f => Memref.read_access_unit_zero (Elt Ideal) main_arg4 (show (fun a => (win0_4.index (0 : Fin 1)) a * main_arg4.ty.shape.size a) = fun _ => 0 from funext fun a => by fin_cases a <;> decide) (fun a => by fin_cases a <;> decide) f
  exact hr (m ((c.tc : Thread nD τ).loc main_arg4))
theorem out5 (c : Dev nD) : finalA m ρ c (5 : Fin 6) = outOf (II m ρ) c := by
  have h : (win0_5.blk (0 : Fin 1)).view.read (Elt Ideal) (finalA m ρ c (5 : Fin 6)) = outOf (II m ρ) c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  have hr := fun f => Memref.read_access_unit_zero (Elt Ideal) main_v1 (show (fun a => (win0_5.index (0 : Fin 1)) a * main_v1.ty.shape.size a) = fun _ => 0 from funext fun a => by fin_cases a <;> decide) (fun a => by fin_cases a <;> decide) f
  exact (hr _).symm.trans h
end

theorem idx3 {n : ℕ} (h : Layout.Tiles ⟨3, ![2, 128, n]⟩ ⟨3, ![2, 4096, n]⟩ 1 32) (c : Fin 32) (b : Fin 2) (r : Fin 128) (k : Fin n) : h.idx c (ix3 b r k) = ix3 b (gr c r) k := by
  funext a
  fin_cases a <;> apply Fin.ext
  · rfl
  · show c.val * 128 + r.val = 128 * c.val + r.val; omega
  · rfl
theorem idx4 (h : Layout.Tiles ⟨4, ![2, 128, 4, 64]⟩ ⟨4, ![2, 4096, 4, 64]⟩ 1 32) (c : Fin 32) (b : Fin 2) (r : Fin 128) (g : Fin 4) (d : Fin 64) : h.idx c (ix4 b r g d) = ix4 b (gr c r) g d := by
  funext a
  fin_cases a <;> apply Fin.ext
  · rfl
  · show c.val * 128 + r.val = 128 * c.val + r.val; omega
  · rfl
  · rfl
/-- A row of the whole array is some device's. -/
theorem gr_ex (i : Fin 4096) : ∃ c r, gr c r = i := ⟨⟨i / 128, by show (i : ℕ) / 128 < 32; omega⟩, ⟨i % 128, by omega⟩, Fin.ext (by show 128 * ((i : ℕ) / 128) + (i : ℕ) % 128 = i; omega)⟩

abbrev rl (r : Ref Cert.ReferenceIdeal.sig .tc) := ((0 : Dev Cert.ReferenceIdeal.nD).tc : Thread Cert.ReferenceIdeal.nD Cert.ReferenceIdeal.τ).loc r

theorem algebraic [hP : Cert.Pre_finite_KernelIdeal.Facts] : Cert.algebraic_KernelIdeal_ReferenceIdeal_pre_finite_KernelIdeal := by
  intro m ρ m' ρ' hpre hagree
  have hp := fun c => fin_x _ _ _ _ _ (congrFun (hpre c) ix0)
  have w : Whole (II m ρ) (m' (rl Cert.ReferenceIdeal.main_arg0)) (m' (rl Cert.ReferenceIdeal.main_arg1)) (m' (rl Cert.ReferenceIdeal.main_arg2)) (m' (rl Cert.ReferenceIdeal.main_arg3)) (m' (rl Cert.ReferenceIdeal.main_arg4)) := by
    refine ⟨?_, ?_, ?_, ?_, ?_, ?_, ?_, ?_⟩
    · intro c b r k
      rw [in0, (hagree c).1]
      exact congrArg (m' (rl Cert.ReferenceIdeal.main_arg0)) (idx3 _ c b r k)
    · intro c k n
      rw [in1, (hagree c).2.1]
    · intro c b r h d
      rw [in2, (hagree c).2.2.1]
      exact congrArg (m' (rl Cert.ReferenceIdeal.main_arg2)) (idx4 _ c b r h d)
    · intro c b r h d
      rw [in3, (hagree c).2.2.2.1]
      exact congrArg (m' (rl Cert.ReferenceIdeal.main_arg3)) (idx4 _ c b r h d)
    · intro c k n
      rw [in4, (hagree c).2.2.2.2]
    · intro i
      idx_vars i
      obtain ⟨c, r, rfl⟩ := gr_ex i1
      have h := (hp c).1 (ix3 i0 r i2)
      rw [(hagree c).1] at h
      exact (congrArg IsR (congrArg (m' (rl Cert.ReferenceIdeal.main_arg0)) (idx3 _ c i0 r i2))).mp h
    · intro i
      have h := (hp 0).2.1 i
      rw [(hagree 0).2.1] at h
      exact h
    · intro i
      idx_vars i
      obtain ⟨c, r, rfl⟩ := gr_ex i1
      have h := (hp c).2.2 (ix4 i0 r i2 i3)
      rw [(hagree c).2.2.1] at h
      exact (congrArg IsR (congrArg (m' (rl Cert.ReferenceIdeal.main_arg2)) (idx4 _ c i0 r i2 i3))).mp h
  refine ⟨Cert.ReferenceIdeal.Value.res_main_v45 m' 0, ?_, ?_⟩
  · refine (θ_run defs _ _).mono (fun r h c => ⟨(h.1 c).1.trans ?_, (h.1 c).2⟩) (run_all m ρ)
    rw [out5, RefV.res_eq]
    funext j
    idx_vars j
    refine (out_at w c j0 j1 j2).trans ?_
    refine (RefV.ref_at _ _ _ _ _ w.hX w.hW w.hK j0 (gr c j1) j2).symm.trans ?_
    exact (congrArg (RefV.rout _ _ _) (idx3 _ c j0 j1 j2)).symm
  · exact (θ_run Cert.ReferenceIdeal.defs _ _).mono (fun _ h => h 0) (Cert.ReferenceIdeal.Value.run (F := Ideal) m' ρ')

end Cert.KernelIdealProof
-- ==== Proof.lean ====
module
public import proofs.«01_k».proof.Defs
public import proofs.«01_k».proof.Proof.KernelIdeal.Alg
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import Idealize.ShloMosaic.Adequacy
public import Idealize.ShloMosaic.Init
@[expose] public section
noncomputable section
namespace Cert.Proof
open Idealize.ShloMosaic Idealize.SL.Sem

/-- Every claim of the certificate. -/
theorem claim : Cert.Claim :=
  ⟨Cert.Kernel.Gen.facts, Cert.KernelIdeal.Gen.facts, Cert.ReferenceIdeal.Gen.facts, Cert.Pre_finite_KernelIdeal.Gen.facts, Cert.Pre_finite_ReferenceIdeal.Gen.facts,
    fun m ρ _ => Cert.KernelIdealProof.plain_run (F := Bits) m ρ,
    fun m ρ _ => Cert.KernelIdealProof.frame_all (F := Ideal) m ρ,
    fun m ρ _ => Cert.KernelIdealProof.frame_all (F := Ideal) m ρ,
    fun m ρ _ => (θ_run Cert.ReferenceIdeal.defs _ _).mono (fun r h => ⟨fun c => (h c).2, sem_eq_zero_of_no_sems (by decide) r.2⟩)
      (Cert.ReferenceIdeal.Value.run (F := Ideal) m ρ),
    fun m ρ _ => (θ_run Cert.ReferenceIdeal.defs _ _).mono (fun r h => ⟨fun c => (h c).2, sem_eq_zero_of_no_sems (by decide) r.2⟩)
      (Cert.ReferenceIdeal.Value.run (F := Ideal) m ρ),
    IdealRules.named_const.statement Cert.KernelIdeal.κ "mask" .f32 0xCE6E6B28#32 ⊥ rfl,
    Cert.KernelIdealProof.algebraic⟩

end Cert.Proof
end
